-- ==== Defs.lean ====
def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRIdeal (m : (ℓ : Loc Cert.DownDxRIdeal.nD Cert.DownDxRIdeal.τ Cert.DownDxRIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxRIdeal (m : (ℓ : Loc Cert.OutDxRIdeal.nD Cert.OutDxRIdeal.τ Cert.OutDxRIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxRIdeal (m : (ℓ : Loc Cert.UpDxRIdeal.nD Cert.UpDxRIdeal.τ Cert.UpDxRIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxRIdeal (m : (ℓ : Loc Cert.InDxRIdeal.nD Cert.InDxRIdeal.τ Cert.InDxRIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRIdeal (m : (ℓ : Loc Cert.DownDwRIdeal.nD Cert.DownDwRIdeal.τ Cert.DownDwRIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRIdeal (m : (ℓ : Loc Cert.UpDwRIdeal.nD Cert.UpDwRIdeal.τ Cert.UpDwRIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRIdeal (m : (ℓ : Loc Cert.OutDwRIdeal.nD Cert.OutDwRIdeal.τ Cert.OutDwRIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwRIdeal (m : (ℓ : Loc Cert.InDwRIdeal.nD Cert.InDwRIdeal.τ Cert.InDwRIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRIdeal (m : (ℓ : Loc Cert.OutProjRIdeal.nD Cert.OutProjRIdeal.τ Cert.OutProjRIdeal.sig) → Buf (Elt Ideal) ℓ) : Prop :=
  True

def Pre_DownProj (m : (ℓ : Loc Cert.DownProj.nD Cert.DownProj.τ Cert.DownProj.sig) → Buf (Elt Bits) ℓ) : Prop :=
  True

def Pre_DownProjIdeal (m : (ℓ : Loc Cert.DownProjIdeal.nD Cert.DownProjIdeal.τ Cert.DownProjIdeal.sig) → Buf (Elt Ideal) ℓ) : Prop :=
  True

def Pre_DownProjRIdeal (m : (ℓ : Loc Cert.DownProjRIdeal.nD Cert.DownProjRIdeal.τ Cert.DownProjRIdeal.sig) → Buf (Elt Ideal) ℓ) : Prop :=
  True

def Pre_DownLoss (m : (ℓ : Loc Cert.DownLoss.nD Cert.DownLoss.τ Cert.DownLoss.sig) → Buf (Elt Bits) ℓ) : Prop :=
  True

def Pre_DownLossIdeal (m : (ℓ : Loc Cert.DownLossIdeal.nD Cert.DownLossIdeal.τ Cert.DownLossIdeal.sig) → Buf (Elt Ideal) ℓ) : Prop :=
  True

def Pre_DownLossRIdeal (m : (ℓ : Loc Cert.DownLossRIdeal.nD Cert.DownLossRIdeal.τ Cert.DownLossRIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRIdeal (m : (ℓ : Loc Cert.GateRIdeal.nD Cert.GateRIdeal.τ Cert.GateRIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRIdeal (m : (ℓ : Loc Cert.InProjRIdeal.nD Cert.InProjRIdeal.τ Cert.InProjRIdeal.sig) → Buf (Elt Ideal) ℓ) : Prop :=
  True

def Pre_UpProj (m : (ℓ : Loc Cert.UpProj.nD Cert.UpProj.τ Cert.UpProj.sig) → Buf (Elt Bits) ℓ) : Prop :=
  True

def Pre_UpProjIdeal (m : (ℓ : Loc Cert.UpProjIdeal.nD Cert.UpProjIdeal.τ Cert.UpProjIdeal.sig) → Buf (Elt Ideal) ℓ) : Prop :=
  True

def Pre_UpProjRIdeal (m : (ℓ : Loc Cert.UpProjRIdeal.nD Cert.UpProjRIdeal.τ Cert.UpProjRIdeal.sig) → Buf (Elt Ideal) ℓ) : Prop :=
  True

def Pre_ConvBwd (m : (ℓ : Loc Cert.ConvBwd.nD Cert.ConvBwd.τ Cert.ConvBwd.sig) → Buf (Elt Bits) ℓ) : Prop :=
  True

def Pre_ConvBwdIdeal (m : (ℓ : Loc Cert.ConvBwdIdeal.nD Cert.ConvBwdIdeal.τ Cert.ConvBwdIdeal.sig) → Buf (Elt Ideal) ℓ) : Prop :=
  True

def Pre_ConvBwdIdeal_finite [hPre_finite : Cert.Pre_finite.Facts] (m : (ℓ : Loc Cert.ConvBwdIdeal.nD Cert.ConvBwdIdeal.τ Cert.ConvBwdIdeal.sig) → Buf (Elt Ideal) ℓ) : Prop :=
  ∀ c : Dev Cert.ConvBwdIdeal.nD,
    (Cert.Pre_finite.fn (F := Ideal) (m ((c.tc : Thread Cert.ConvBwdIdeal.nD Cert.ConvBwdIdeal.τ).loc Cert.ConvBwdIdeal.main_arg0)) (m ((c.tc : Thread Cert.ConvBwdIdeal.nD Cert.ConvBwdIdeal.τ).loc Cert.ConvBwdIdeal.main_arg1)) (m ((c.tc : Thread Cert.ConvBwdIdeal.nD Cert.ConvBwdIdeal.τ).loc Cert.ConvBwdIdeal.main_arg2)) (m ((c.tc : Thread Cert.ConvBwdIdeal.nD Cert.ConvBwdIdeal.τ).loc Cert.ConvBwdIdeal.main_arg3))) = (fun _ => 1#1)

def Pre_ConvBwdRIdeal (m : (ℓ : Loc Cert.ConvBwdRIdeal.nD Cert.ConvBwdRIdeal.τ Cert.ConvBwdRIdeal.sig) → Buf (Elt Ideal) ℓ) : Prop :=
  True

def Pre_ConvBwdRIdeal_finite [hPre_finite : Cert.Pre_finite.Facts] (m : (ℓ : Loc Cert.ConvBwdRIdeal.nD Cert.ConvBwdRIdeal.τ Cert.ConvBwdRIdeal.sig) → Buf (Elt Ideal) ℓ) : Prop :=
  ∀ c : Dev Cert.ConvBwdRIdeal.nD,
    (Cert.Pre_finite.fn (F := Ideal) (m ((c.tc : Thread Cert.ConvBwdRIdeal.nD Cert.ConvBwdRIdeal.τ).loc Cert.ConvBwdRIdeal.main_arg0)) (m ((c.tc : Thread Cert.ConvBwdRIdeal.nD Cert.ConvBwdRIdeal.τ).loc Cert.ConvBwdRIdeal.main_arg1)) (m ((c.tc : Thread Cert.ConvBwdRIdeal.nD Cert.ConvBwdRIdeal.τ).loc Cert.ConvBwdRIdeal.main_arg2)) (m ((c.tc : Thread Cert.ConvBwdRIdeal.nD Cert.ConvBwdRIdeal.τ).loc Cert.ConvBwdRIdeal.main_arg3))) = (fun _ => 1#1)

def Pre_AdamwIn (m : (ℓ : Loc Cert.AdamwIn.nD Cert.AdamwIn.τ Cert.AdamwIn.sig) → Buf (Elt Bits) ℓ) : Prop :=
  True

def Pre_AdamwInIdeal (m : (ℓ : Loc Cert.AdamwInIdeal.nD Cert.AdamwInIdeal.τ Cert.AdamwInIdeal.sig) → Buf (Elt Ideal) ℓ) : Prop :=
  True

def Pre_AdamwInRIdeal (m : (ℓ : Loc Cert.AdamwInRIdeal.nD Cert.AdamwInRIdeal.τ Cert.AdamwInRIdeal.sig) → Buf (Elt Ideal) ℓ) : Prop :=
  True

def Pre_AdamwUp (m : (ℓ : Loc Cert.AdamwUp.nD Cert.AdamwUp.τ Cert.AdamwUp.sig) → Buf (Elt Bits) ℓ) : Prop :=
  True

def Pre_AdamwUpIdeal (m : (ℓ : Loc Cert.AdamwUpIdeal.nD Cert.AdamwUpIdeal.τ Cert.AdamwUpIdeal.sig) → Buf (Elt Ideal) ℓ) : Prop :=
  True

def Pre_AdamwUpRIdeal (m : (ℓ : Loc Cert.AdamwUpRIdeal.nD Cert.AdamwUpRIdeal.τ Cert.AdamwUpRIdeal.sig) → Buf (Elt Ideal) ℓ) : Prop :=
  True

def Pre_AdamwOut (m : (ℓ : Loc Cert.AdamwOut.nD Cert.AdamwOut.τ Cert.AdamwOut.sig) → Buf (Elt Bits) ℓ) : Prop :=
  True

def Pre_AdamwOutIdeal (m : (ℓ : Loc Cert.AdamwOutIdeal.nD Cert.AdamwOutIdeal.τ Cert.AdamwOutIdeal.sig) → Buf (Elt Ideal) ℓ) : Prop :=
  True

def Pre_AdamwOutRIdeal (m : (ℓ : Loc Cert.AdamwOutRIdeal.nD Cert.AdamwOutRIdeal.τ Cert.AdamwOutRIdeal.sig) → Buf (Elt Ideal) ℓ) : Prop :=
  True

def Pre_AdamwDown (m : (ℓ : Loc Cert.AdamwDown.nD Cert.AdamwDown.τ Cert.AdamwDown.sig) → Buf (Elt Bits) ℓ) : Prop :=
  True

def Pre_AdamwDownIdeal (m : (ℓ : Loc Cert.AdamwDownIdeal.nD Cert.AdamwDownIdeal.τ Cert.AdamwDownIdeal.sig) → Buf (Elt Ideal) ℓ) : Prop :=
  True

def Pre_AdamwDownRIdeal (m : (ℓ : Loc Cert.AdamwDownRIdeal.nD Cert.AdamwDownRIdeal.τ Cert.AdamwDownRIdeal.sig) → Buf (Elt Ideal) ℓ) : Prop :=
  True

def Pre_AdamwSmall (m : (ℓ : Loc Cert.AdamwSmall.nD Cert.AdamwSmall.τ Cert.AdamwSmall.sig) → Buf (Elt Bits) ℓ) : Prop :=
  True

def Pre_AdamwSmallIdeal (m : (ℓ : Loc Cert.AdamwSmallIdeal.nD Cert.AdamwSmallIdeal.τ Cert.AdamwSmallIdeal.sig) → Buf (Elt Ideal) ℓ) : Prop :=
  True

def Pre_AdamwSmallRIdeal (m : (ℓ : Loc Cert.AdamwSmallRIdeal.nD Cert.AdamwSmallRIdeal.τ Cert.AdamwSmallRIdeal.sig) → Buf (Elt Ideal) ℓ) : Prop :=
  True

def Pre_AdamwRepl (m : (ℓ : Loc Cert.AdamwRepl.nD Cert.AdamwRepl.τ Cert.AdamwRepl.sig) → Buf (Elt Bits) ℓ) : Prop :=
  True

def Pre_AdamwReplIdeal (m : (ℓ : Loc Cert.AdamwReplIdeal.nD Cert.AdamwReplIdeal.τ Cert.AdamwReplIdeal.sig) → Buf (Elt Ideal) ℓ) : Prop :=
  True

def Pre_AdamwReplRIdeal (m : (ℓ : Loc Cert.AdamwReplRIdeal.nD Cert.AdamwReplRIdeal.τ Cert.AdamwReplRIdeal.sig) → Buf (Elt Ideal) ℓ) : Prop :=
  True

def Pre_StepSmall (m : (ℓ : Loc Cert.StepSmall.nD Cert.StepSmall.τ Cert.StepSmall.sig) → Buf (Elt Bits) ℓ) : Prop :=
  True

def Pre_StepSmallIdeal (m : (ℓ : Loc Cert.StepSmallIdeal.nD Cert.StepSmallIdeal.τ Cert.StepSmallIdeal.sig) → Buf (Elt Ideal) ℓ) : Prop :=
  True

def Pre_StepSmallRIdeal (m : (ℓ : Loc Cert.StepSmallRIdeal.nD Cert.StepSmallRIdeal.τ Cert.StepSmallRIdeal.sig) → Buf (Elt Ideal) ℓ) : Prop :=
  True

def Pre_StepRepl (m : (ℓ : Loc Cert.StepRepl.nD Cert.StepRepl.τ Cert.StepRepl.sig) → Buf (Elt Bits) ℓ) : Prop :=
  True

def Pre_StepReplIdeal (m : (ℓ : Loc Cert.StepReplIdeal.nD Cert.StepReplIdeal.τ Cert.StepReplIdeal.sig) → Buf (Elt Ideal) ℓ) : Prop :=
  True

def Pre_StepReplRIdeal (m : (ℓ : Loc Cert.StepReplRIdeal.nD Cert.StepReplRIdeal.τ Cert.StepReplRIdeal.sig) → Buf (Elt Ideal) ℓ) : Prop :=
  True

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1)
      ∧ r.2.mem ((c.tc : Thread Cert.DownDx.nD Cert.DownDx.τ).loc Cert.DownDx.main_arg2) = m ((c.tc : Thread Cert.DownDx.nD Cert.DownDx.τ).loc Cert.DownDx.main_arg2)
      ∧ r.2.mem ((c.tc : Thread Cert.DownDx.nD Cert.DownDx.τ).loc Cert.DownDx.main_arg3) = m ((c.tc : Thread Cert.DownDx.nD Cert.DownDx.τ).loc Cert.DownDx.main_arg3))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
      ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2)
      ∧ r.2.mem ((c.tc : Thread Cert.DownDxIdeal.nD Cert.DownDxIdeal.τ).loc Cert.DownDxIdeal.main_arg3) = m ((c.tc : Thread Cert.DownDxIdeal.nD Cert.DownDxIdeal.τ).loc Cert.DownDxIdeal.main_arg3))
      ∧ r.2.sem = fun _ => 0)

def quiescent_DownDxRIdeal [hDownDxRIdeal : Cert.DownDxRIdeal.Facts] : Prop :=
  ∀ (m : (ℓ : Loc Cert.DownDxRIdeal.nD Cert.DownDxRIdeal.τ Cert.DownDxRIdeal.sig) → Buf (Elt Ideal) ℓ) (g : Dev Cert.DownDxRIdeal.nD → PrngReg), Pre_DownDxRIdeal m →
    θ_run (Cert.DownDxRIdeal.defs (F := Ideal)) (onTc (τ := Cert.DownDxRIdeal.τ) (Cert.DownDxRIdeal.main (F := Ideal))) ⟨m, fun _ => 0, g⟩ (fun r => (∀ c : Dev Cert.DownDxRIdeal.nD,
      r.2.mem ((c.tc : Thread Cert.DownDxRIdeal.nD Cert.DownDxRIdeal.τ).loc Cert.DownDxRIdeal.main_arg0) = m ((c.tc : Thread Cert.DownDxRIdeal.nD Cert.DownDxRIdeal.τ).loc Cert.DownDxRIdeal.main_arg0)
      ∧ r.2.mem ((c.tc : Thread Cert.DownDxRIdeal.nD Cert.DownDxRIdeal.τ).loc Cert.DownDxRIdeal.main_arg1) = m ((c.tc : Thread Cert.DownDxRIdeal.nD Cert.DownDxRIdeal.τ).loc Cert.DownDxRIdeal.main_arg1)
      ∧ r.2.mem ((c.tc : Thread Cert.DownDxRIdeal.nD Cert.DownDxRIdeal.τ).loc Cert.DownDxRIdeal.main_arg2) = m ((c.tc : Thread Cert.DownDxRIdeal.nD Cert.DownDxRIdeal.τ).loc Cert.DownDxRIdeal.main_arg2)
      ∧ r.2.mem ((c.tc : Thread Cert.DownDxRIdeal.nD Cert.DownDxRIdeal.τ).loc Cert.DownDxRIdeal.main_arg3) = m ((c.tc : Thread Cert.DownDxRIdeal.nD Cert.DownDxRIdeal.τ).loc Cert.DownDxRIdeal.main_arg3))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1)
      ∧ r.2.mem ((c.tc : Thread Cert.OutDx.nD Cert.OutDx.τ).loc Cert.OutDx.main_arg2) = m ((c.tc : Thread Cert.OutDx.nD Cert.OutDx.τ).loc Cert.OutDx.main_arg2)
      ∧ r.2.mem ((c.tc : Thread Cert.OutDx.nD Cert.OutDx.τ).loc Cert.OutDx.main_arg3) = m ((c.tc : Thread Cert.OutDx.nD Cert.OutDx.τ).loc Cert.OutDx.main_arg3))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1)
      ∧ r.2.mem ((c.tc : Thread Cert.OutDxIdeal.nD Cert.OutDxIdeal.τ).loc Cert.OutDxIdeal.main_arg2) = m ((c.tc : Thread Cert.OutDxIdeal.nD Cert.OutDxIdeal.τ).loc Cert.OutDxIdeal.main_arg2)
      ∧ r.2.mem ((c.tc : Thread Cert.OutDxIdeal.nD Cert.OutDxIdeal.τ).loc Cert.OutDxIdeal.main_arg3) = m ((c.tc : Thread Cert.OutDxIdeal.nD Cert.OutDxIdeal.τ).loc Cert.OutDxIdeal.main_arg3))
      ∧ r.2.sem = fun _ => 0)

def quiescent_OutDxRIdeal [hOutDxRIdeal : Cert.OutDxRIdeal.Facts] : Prop :=
  ∀ (m : (ℓ : Loc Cert.OutDxRIdeal.nD Cert.OutDxRIdeal.τ Cert.OutDxRIdeal.sig) → Buf (Elt Ideal) ℓ) (g : Dev Cert.OutDxRIdeal.nD → PrngReg), Pre_OutDxRIdeal m →
    θ_run (Cert.OutDxRIdeal.defs (F := Ideal)) (onTc (τ := Cert.OutDxRIdeal.τ) (Cert.OutDxRIdeal.main (F := Ideal))) ⟨m, fun _ => 0, g⟩ (fun r => (∀ c : Dev Cert.OutDxRIdeal.nD,
      r.2.mem ((c.tc : Thread Cert.OutDxRIdeal.nD Cert.OutDxRIdeal.τ).loc Cert.OutDxRIdeal.main_arg0) = m ((c.tc : Thread Cert.OutDxRIdeal.nD Cert.OutDxRIdeal.τ).loc Cert.OutDxRIdeal.main_arg0)
      ∧ r.2.mem ((c.tc : Thread Cert.OutDxRIdeal.nD Cert.OutDxRIdeal.τ).loc Cert.OutDxRIdeal.main_arg1) = m ((c.tc : Thread Cert.OutDxRIdeal.nD Cert.OutDxRIdeal.τ).loc Cert.OutDxRIdeal.main_arg1)
      ∧ r.2.mem ((c.tc : Thread Cert.OutDxRIdeal.nD Cert.OutDxRIdeal.τ).loc Cert.OutDxRIdeal.main_arg2) = m ((c.tc : Thread Cert.OutDxRIdeal.nD Cert.OutDxRIdeal.τ).loc Cert.OutDxRIdeal.main_arg2)
      ∧ r.2.mem ((c.tc : Thread Cert.OutDxRIdeal.nD Cert.OutDxRIdeal.τ).loc Cert.OutDxRIdeal.main_arg3) = m ((c.tc : Thread Cert.OutDxRIdeal.nD Cert.OutDxRIdeal.τ).loc Cert.OutDxRIdeal.main_arg3))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1)
      ∧ r.2.mem ((c.tc : Thread Cert.UpDx.nD Cert.UpDx.τ).loc Cert.UpDx.main_arg2) = m ((c.tc : Thread Cert.UpDx.nD Cert.UpDx.τ).loc Cert.UpDx.main_arg2)
      ∧ r.2.mem ((c.tc : Thread Cert.UpDx.nD Cert.UpDx.τ).loc Cert.UpDx.main_arg3) = m ((c.tc : Thread Cert.UpDx.nD Cert.UpDx.τ).loc Cert.UpDx.main_arg3)
      ∧ r.2.mem ((c.tc : Thread Cert.UpDx.nD Cert.UpDx.τ).loc Cert.UpDx.main_arg4) = m ((c.tc : Thread Cert.UpDx.nD Cert.UpDx.τ).loc Cert.UpDx.main_arg4))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
      ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2)
      ∧ r.2.mem ((c.tc : Thread Cert.UpDxIdeal.nD Cert.UpDxIdeal.τ).loc Cert.UpDxIdeal.main_arg3) = m ((c.tc : Thread Cert.UpDxIdeal.nD Cert.UpDxIdeal.τ).loc Cert.UpDxIdeal.main_arg3)
      ∧ r.2.mem ((c.tc : Thread Cert.UpDxIdeal.nD Cert.UpDxIdeal.τ).loc Cert.UpDxIdeal.main_arg4) = m ((c.tc : Thread Cert.UpDxIdeal.nD Cert.UpDxIdeal.τ).loc Cert.UpDxIdeal.main_arg4))
      ∧ r.2.sem = fun _ => 0)

def quiescent_UpDxRIdeal [hUpDxRIdeal : Cert.UpDxRIdeal.Facts] : Prop :=
  ∀ (m : (ℓ : Loc Cert.UpDxRIdeal.nD Cert.UpDxRIdeal.τ Cert.UpDxRIdeal.sig) → Buf (Elt Ideal) ℓ) (g : Dev Cert.UpDxRIdeal.nD → PrngReg), Pre_UpDxRIdeal m →
    θ_run (Cert.UpDxRIdeal.defs (F := Ideal)) (onTc (τ := Cert.UpDxRIdeal.τ) (Cert.UpDxRIdeal.main (F := Ideal))) ⟨m, fun _ => 0, g⟩ (fun r => (∀ c : Dev Cert.UpDxRIdeal.nD,
      r.2.mem ((c.tc : Thread Cert.UpDxRIdeal.nD Cert.UpDxRIdeal.τ).loc Cert.UpDxRIdeal.main_arg0) = m ((c.tc : Thread Cert.UpDxRIdeal.nD Cert.UpDxRIdeal.τ).loc Cert.UpDxRIdeal.main_arg0)
      ∧ r.2.mem ((c.tc : Thread Cert.UpDxRIdeal.nD Cert.UpDxRIdeal.τ).loc Cert.UpDxRIdeal.main_arg1) = m ((c.tc : Thread Cert.UpDxRIdeal.nD Cert.UpDxRIdeal.τ).loc Cert.UpDxRIdeal.main_arg1)
      ∧ r.2.mem ((c.tc : Thread Cert.UpDxRIdeal.nD Cert.UpDxRIdeal.τ).loc Cert.UpDxRIdeal.main_arg2) = m ((c.tc : Thread Cert.UpDxRIdeal.nD Cert.UpDxRIdeal.τ).loc Cert.UpDxRIdeal.main_arg2)
      ∧ r.2.mem ((c.tc : Thread Cert.UpDxRIdeal.nD Cert.UpDxRIdeal.τ).loc Cert.UpDxRIdeal.main_arg3) = m ((c.tc : Thread Cert.UpDxRIdeal.nD Cert.UpDxRIdeal.τ).loc Cert.UpDxRIdeal.main_arg3)
      ∧ r.2.mem ((c.tc : Thread Cert.UpDxRIdeal.nD Cert.UpDxRIdeal.τ).loc Cert.UpDxRIdeal.main_arg4) = m ((c.tc : Thread Cert.UpDxRIdeal.nD Cert.UpDxRIdeal.τ).loc Cert.UpDxRIdeal.main_arg4))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1)
      ∧ r.2.mem ((c.tc : Thread Cert.InDx.nD Cert.InDx.τ).loc Cert.InDx.main_arg2) = m ((c.tc : Thread Cert.InDx.nD Cert.InDx.τ).loc Cert.InDx.main_arg2)
      ∧ r.2.mem ((c.tc : Thread Cert.InDx.nD Cert.InDx.τ).loc Cert.InDx.main_arg3) = m ((c.tc : Thread Cert.InDx.nD Cert.InDx.τ).loc Cert.InDx.main_arg3)
      ∧ r.2.mem ((c.tc : Thread Cert.InDx.nD Cert.InDx.τ).loc Cert.InDx.main_arg4) = m ((c.tc : Thread Cert.InDx.nD Cert.InDx.τ).loc Cert.InDx.main_arg4))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
      ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
      ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
      ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4))
      ∧ r.2.sem = fun _ => 0)

def quiescent_InDxRIdeal [hInDxRIdeal : Cert.InDxRIdeal.Facts] : Prop :=
  ∀ (m : (ℓ : Loc Cert.InDxRIdeal.nD Cert.InDxRIdeal.τ Cert.InDxRIdeal.sig) → Buf (Elt Ideal) ℓ) (g : Dev Cert.InDxRIdeal.nD → PrngReg), Pre_InDxRIdeal m →
    θ_run (Cert.InDxRIdeal.defs (F := Ideal)) (onTc (τ := Cert.InDxRIdeal.τ) (Cert.InDxRIdeal.main (F := Ideal))) ⟨m, fun _ => 0, g⟩ (fun r => (∀ c : Dev Cert.InDxRIdeal.nD,
      r.2.mem ((c.tc : Thread Cert.InDxRIdeal.nD Cert.InDxRIdeal.τ).loc Cert.InDxRIdeal.main_arg0) = m ((c.tc : Thread Cert.InDxRIdeal.nD Cert.InDxRIdeal.τ).loc Cert.InDxRIdeal.main_arg0)
      ∧ r.2.mem ((c.tc : Thread Cert.InDxRIdeal.nD Cert.InDxRIdeal.τ).loc Cert.InDxRIdeal.main_arg1) = m ((c.tc : Thread Cert.InDxRIdeal.nD Cert.InDxRIdeal.τ).loc Cert.InDxRIdeal.main_arg1)
      ∧ r.2.mem ((c.tc : Thread Cert.InDxRIdeal.nD Cert.InDxRIdeal.τ).loc Cert.InDxRIdeal.main_arg2) = m ((c.tc : Thread Cert.InDxRIdeal.nD Cert.InDxRIdeal.τ).loc Cert.InDxRIdeal.main_arg2)
      ∧ r.2.mem ((c.tc : Thread Cert.InDxRIdeal.nD Cert.InDxRIdeal.τ).loc Cert.InDxRIdeal.main_arg3) = m ((c.tc : Thread Cert.InDxRIdeal.nD Cert.InDxRIdeal.τ).loc Cert.InDxRIdeal.main_arg3)
      ∧ r.2.mem ((c.tc : Thread Cert.InDxRIdeal.nD Cert.InDxRIdeal.τ).loc Cert.InDxRIdeal.main_arg4) = m ((c.tc : Thread Cert.InDxRIdeal.nD Cert.InDxRIdeal.τ).loc Cert.InDxRIdeal.main_arg4))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRIdeal [hDownDwRIdeal : Cert.DownDwRIdeal.Facts] : Prop :=
  ∀ (m : (ℓ : Loc Cert.DownDwRIdeal.nD Cert.DownDwRIdeal.τ Cert.DownDwRIdeal.sig) → Buf (Elt Ideal) ℓ) (g : Dev Cert.DownDwRIdeal.nD → PrngReg), Pre_DownDwRIdeal m →
    θ_run (Cert.DownDwRIdeal.defs (F := Ideal)) (onTc (τ := Cert.DownDwRIdeal.τ) (Cert.DownDwRIdeal.main (F := Ideal))) ⟨m, fun _ => 0, g⟩ (fun r => (∀ c : Dev Cert.DownDwRIdeal.nD,
      r.2.mem ((c.tc : Thread Cert.DownDwRIdeal.nD Cert.DownDwRIdeal.τ).loc Cert.DownDwRIdeal.main_arg0) = m ((c.tc : Thread Cert.DownDwRIdeal.nD Cert.DownDwRIdeal.τ).loc Cert.DownDwRIdeal.main_arg0)
      ∧ r.2.mem ((c.tc : Thread Cert.DownDwRIdeal.nD Cert.DownDwRIdeal.τ).loc Cert.DownDwRIdeal.main_arg1) = m ((c.tc : Thread Cert.DownDwRIdeal.nD Cert.DownDwRIdeal.τ).loc Cert.DownDwRIdeal.main_arg1))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwRIdeal [hUpDwRIdeal : Cert.UpDwRIdeal.Facts] : Prop :=
  ∀ (m : (ℓ : Loc Cert.UpDwRIdeal.nD Cert.UpDwRIdeal.τ Cert.UpDwRIdeal.sig) → Buf (Elt Ideal) ℓ) (g : Dev Cert.UpDwRIdeal.nD → PrngReg), Pre_UpDwRIdeal m →
    θ_run (Cert.UpDwRIdeal.defs (F := Ideal)) (onTc (τ := Cert.UpDwRIdeal.τ) (Cert.UpDwRIdeal.main (F := Ideal))) ⟨m, fun _ => 0, g⟩ (fun r => (∀ c : Dev Cert.UpDwRIdeal.nD,
      r.2.mem ((c.tc : Thread Cert.UpDwRIdeal.nD Cert.UpDwRIdeal.τ).loc Cert.UpDwRIdeal.main_arg0) = m ((c.tc : Thread Cert.UpDwRIdeal.nD Cert.UpDwRIdeal.τ).loc Cert.UpDwRIdeal.main_arg0)
      ∧ r.2.mem ((c.tc : Thread Cert.UpDwRIdeal.nD Cert.UpDwRIdeal.τ).loc Cert.UpDwRIdeal.main_arg1) = m ((c.tc : Thread Cert.UpDwRIdeal.nD Cert.UpDwRIdeal.τ).loc Cert.UpDwRIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRIdeal [hOutDwRIdeal : Cert.OutDwRIdeal.Facts] : Prop :=
  ∀ (m : (ℓ : Loc Cert.OutDwRIdeal.nD Cert.OutDwRIdeal.τ Cert.OutDwRIdeal.sig) → Buf (Elt Ideal) ℓ) (g : Dev Cert.OutDwRIdeal.nD → PrngReg), Pre_OutDwRIdeal m →
    θ_run (Cert.OutDwRIdeal.defs (F := Ideal)) (onTc (τ := Cert.OutDwRIdeal.τ) (Cert.OutDwRIdeal.main (F := Ideal))) ⟨m, fun _ => 0, g⟩ (fun r => (∀ c : Dev Cert.OutDwRIdeal.nD,
      r.2.mem ((c.tc : Thread Cert.OutDwRIdeal.nD Cert.OutDwRIdeal.τ).loc Cert.OutDwRIdeal.main_arg0) = m ((c.tc : Thread Cert.OutDwRIdeal.nD Cert.OutDwRIdeal.τ).loc Cert.OutDwRIdeal.main_arg0)
      ∧ r.2.mem ((c.tc : Thread Cert.OutDwRIdeal.nD Cert.OutDwRIdeal.τ).loc Cert.OutDwRIdeal.main_arg1) = m ((c.tc : Thread Cert.OutDwRIdeal.nD Cert.OutDwRIdeal.τ).loc Cert.OutDwRIdeal.main_arg1))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ r.2.sem = fun _ => 0)

def quiescent_InDwRIdeal [hInDwRIdeal : Cert.InDwRIdeal.Facts] : Prop :=
  ∀ (m : (ℓ : Loc Cert.InDwRIdeal.nD Cert.InDwRIdeal.τ Cert.InDwRIdeal.sig) → Buf (Elt Ideal) ℓ) (g : Dev Cert.InDwRIdeal.nD → PrngReg), Pre_InDwRIdeal m →
    θ_run (Cert.InDwRIdeal.defs (F := Ideal)) (onTc (τ := Cert.InDwRIdeal.τ) (Cert.InDwRIdeal.main (F := Ideal))) ⟨m, fun _ => 0, g⟩ (fun r => (∀ c : Dev Cert.InDwRIdeal.nD,
      r.2.mem ((c.tc : Thread Cert.InDwRIdeal.nD Cert.InDwRIdeal.τ).loc Cert.InDwRIdeal.main_arg0) = m ((c.tc : Thread Cert.InDwRIdeal.nD Cert.InDwRIdeal.τ).loc Cert.InDwRIdeal.main_arg0)
      ∧ r.2.mem ((c.tc : Thread Cert.InDwRIdeal.nD Cert.InDwRIdeal.τ).loc Cert.InDwRIdeal.main_arg1) = m ((c.tc : Thread Cert.InDwRIdeal.nD Cert.InDwRIdeal.τ).loc Cert.InDwRIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjRIdeal [hOutProjRIdeal : Cert.OutProjRIdeal.Facts] : Prop :=
  ∀ (m : (ℓ : Loc Cert.OutProjRIdeal.nD Cert.OutProjRIdeal.τ Cert.OutProjRIdeal.sig) → Buf (Elt Ideal) ℓ) (g : Dev Cert.OutProjRIdeal.nD → PrngReg), Pre_OutProjRIdeal m →
    θ_run (Cert.OutProjRIdeal.defs (F := Ideal)) (onTc (τ := Cert.OutProjRIdeal.τ) (Cert.OutProjRIdeal.main (F := Ideal))) ⟨m, fun _ => 0, g⟩ (fun r => (∀ c : Dev Cert.OutProjRIdeal.nD,
      r.2.mem ((c.tc : Thread Cert.OutProjRIdeal.nD Cert.OutProjRIdeal.τ).loc Cert.OutProjRIdeal.main_arg0) = m ((c.tc : Thread Cert.OutProjRIdeal.nD Cert.OutProjRIdeal.τ).loc Cert.OutProjRIdeal.main_arg0)
      ∧ r.2.mem ((c.tc : Thread Cert.OutProjRIdeal.nD Cert.OutProjRIdeal.τ).loc Cert.OutProjRIdeal.main_arg1) = m ((c.tc : Thread Cert.OutProjRIdeal.nD Cert.OutProjRIdeal.τ).loc Cert.OutProjRIdeal.main_arg1)
      ∧ r.2.mem ((c.tc : Thread Cert.OutProjRIdeal.nD Cert.OutProjRIdeal.τ).loc Cert.OutProjRIdeal.main_arg2) = m ((c.tc : Thread Cert.OutProjRIdeal.nD Cert.OutProjRIdeal.τ).loc Cert.OutProjRIdeal.main_arg2)
      ∧ r.2.mem ((c.tc : Thread Cert.OutProjRIdeal.nD Cert.OutProjRIdeal.τ).loc Cert.OutProjRIdeal.main_arg3) = m ((c.tc : Thread Cert.OutProjRIdeal.nD Cert.OutProjRIdeal.τ).loc Cert.OutProjRIdeal.main_arg3))
      ∧ r.2.sem = fun _ => 0)

def quiescent_DownProj [hDownProj : Cert.DownProj.Facts] : Prop :=
  ∀ (m : (ℓ : Loc Cert.DownProj.nD Cert.DownProj.τ Cert.DownProj.sig) → Buf (Elt Bits) ℓ) (g : Dev Cert.DownProj.nD → PrngReg), Pre_DownProj m →
    θ_run (Cert.DownProj.defs (F := Bits)) (onTc (τ := Cert.DownProj.τ) (Cert.DownProj.main (F := Bits))) ⟨m, fun _ => 0, g⟩ (fun r => (∀ c : Dev Cert.DownProj.nD,
      r.2.mem ((c.tc : Thread Cert.DownProj.nD Cert.DownProj.τ).loc Cert.DownProj.main_arg0) = m ((c.tc : Thread Cert.DownProj.nD Cert.DownProj.τ).loc Cert.DownProj.main_arg0)
      ∧ r.2.mem ((c.tc : Thread Cert.DownProj.nD Cert.DownProj.τ).loc Cert.DownProj.main_arg1) = m ((c.tc : Thread Cert.DownProj.nD Cert.DownProj.τ).loc Cert.DownProj.main_arg1)
      ∧ r.2.mem ((c.tc : Thread Cert.DownProj.nD Cert.DownProj.τ).loc Cert.DownProj.main_arg2) = m ((c.tc : Thread Cert.DownProj.nD Cert.DownProj.τ).loc Cert.DownProj.main_arg2)
      ∧ r.2.mem ((c.tc : Thread Cert.DownProj.nD Cert.DownProj.τ).loc Cert.DownProj.main_arg3) = m ((c.tc : Thread Cert.DownProj.nD Cert.DownProj.τ).loc Cert.DownProj.main_arg3))
      ∧ r.2.sem = fun _ => 0)

def quiescent_DownProjIdeal [hDownProjIdeal : Cert.DownProjIdeal.Facts] : Prop :=
  ∀ (m : (ℓ : Loc Cert.DownProjIdeal.nD Cert.DownProjIdeal.τ Cert.DownProjIdeal.sig) → Buf (Elt Ideal) ℓ) (g : Dev Cert.DownProjIdeal.nD → PrngReg), Pre_DownProjIdeal m →
    θ_run (Cert.DownProjIdeal.defs (F := Ideal)) (onTc (τ := Cert.DownProjIdeal.τ) (Cert.DownProjIdeal.main (F := Ideal))) ⟨m, fun _ => 0, g⟩ (fun r => (∀ c : Dev Cert.DownProjIdeal.nD,
      r.2.mem ((c.tc : Thread Cert.DownProjIdeal.nD Cert.DownProjIdeal.τ).loc Cert.DownProjIdeal.main_arg0) = m ((c.tc : Thread Cert.DownProjIdeal.nD Cert.DownProjIdeal.τ).loc Cert.DownProjIdeal.main_arg0)
      ∧ r.2.mem ((c.tc : Thread Cert.DownProjIdeal.nD Cert.DownProjIdeal.τ).loc Cert.DownProjIdeal.main_arg1) = m ((c.tc : Thread Cert.DownProjIdeal.nD Cert.DownProjIdeal.τ).loc Cert.DownProjIdeal.main_arg1)
      ∧ r.2.mem ((c.tc : Thread Cert.DownProjIdeal.nD Cert.DownProjIdeal.τ).loc Cert.DownProjIdeal.main_arg2) = m ((c.tc : Thread Cert.DownProjIdeal.nD Cert.DownProjIdeal.τ).loc Cert.DownProjIdeal.main_arg2)
      ∧ r.2.mem ((c.tc : Thread Cert.DownProjIdeal.nD Cert.DownProjIdeal.τ).loc Cert.DownProjIdeal.main_arg3) = m ((c.tc : Thread Cert.DownProjIdeal.nD Cert.DownProjIdeal.τ).loc Cert.DownProjIdeal.main_arg3))
      ∧ r.2.sem = fun _ => 0)

def quiescent_DownProjRIdeal [hDownProjRIdeal : Cert.DownProjRIdeal.Facts] : Prop :=
  ∀ (m : (ℓ : Loc Cert.DownProjRIdeal.nD Cert.DownProjRIdeal.τ Cert.DownProjRIdeal.sig) → Buf (Elt Ideal) ℓ) (g : Dev Cert.DownProjRIdeal.nD → PrngReg), Pre_DownProjRIdeal m →
    θ_run (Cert.DownProjRIdeal.defs (F := Ideal)) (onTc (τ := Cert.DownProjRIdeal.τ) (Cert.DownProjRIdeal.main (F := Ideal))) ⟨m, fun _ => 0, g⟩ (fun r => (∀ c : Dev Cert.DownProjRIdeal.nD,
      r.2.mem ((c.tc : Thread Cert.DownProjRIdeal.nD Cert.DownProjRIdeal.τ).loc Cert.DownProjRIdeal.main_arg0) = m ((c.tc : Thread Cert.DownProjRIdeal.nD Cert.DownProjRIdeal.τ).loc Cert.DownProjRIdeal.main_arg0)
      ∧ r.2.mem ((c.tc : Thread Cert.DownProjRIdeal.nD Cert.DownProjRIdeal.τ).loc Cert.DownProjRIdeal.main_arg1) = m ((c.tc : Thread Cert.DownProjRIdeal.nD Cert.DownProjRIdeal.τ).loc Cert.DownProjRIdeal.main_arg1)
      ∧ r.2.mem ((c.tc : Thread Cert.DownProjRIdeal.nD Cert.DownProjRIdeal.τ).loc Cert.DownProjRIdeal.main_arg2) = m ((c.tc : Thread Cert.DownProjRIdeal.nD Cert.DownProjRIdeal.τ).loc Cert.DownProjRIdeal.main_arg2)
      ∧ r.2.mem ((c.tc : Thread Cert.DownProjRIdeal.nD Cert.DownProjRIdeal.τ).loc Cert.DownProjRIdeal.main_arg3) = m ((c.tc : Thread Cert.DownProjRIdeal.nD Cert.DownProjRIdeal.τ).loc Cert.DownProjRIdeal.main_arg3))
      ∧ r.2.sem = fun _ => 0)

def quiescent_DownLoss [hDownLoss : Cert.DownLoss.Facts] : Prop :=
  ∀ (m : (ℓ : Loc Cert.DownLoss.nD Cert.DownLoss.τ Cert.DownLoss.sig) → Buf (Elt Bits) ℓ) (g : Dev Cert.DownLoss.nD → PrngReg), Pre_DownLoss m →
    θ_run (Cert.DownLoss.defs (F := Bits)) (onTc (τ := Cert.DownLoss.τ) (Cert.DownLoss.main (F := Bits))) ⟨m, fun _ => 0, g⟩ (fun r => (∀ c : Dev Cert.DownLoss.nD,
      r.2.mem ((c.tc : Thread Cert.DownLoss.nD Cert.DownLoss.τ).loc Cert.DownLoss.main_arg0) = m ((c.tc : Thread Cert.DownLoss.nD Cert.DownLoss.τ).loc Cert.DownLoss.main_arg0)
      ∧ r.2.mem ((c.tc : Thread Cert.DownLoss.nD Cert.DownLoss.τ).loc Cert.DownLoss.main_arg1) = m ((c.tc : Thread Cert.DownLoss.nD Cert.DownLoss.τ).loc Cert.DownLoss.main_arg1)
      ∧ r.2.mem ((c.tc : Thread Cert.DownLoss.nD Cert.DownLoss.τ).loc Cert.DownLoss.main_arg2) = m ((c.tc : Thread Cert.DownLoss.nD Cert.DownLoss.τ).loc Cert.DownLoss.main_arg2)
      ∧ r.2.mem ((c.tc : Thread Cert.DownLoss.nD Cert.DownLoss.τ).loc Cert.DownLoss.main_arg3) = m ((c.tc : Thread Cert.DownLoss.nD Cert.DownLoss.τ).loc Cert.DownLoss.main_arg3)
      ∧ r.2.mem ((c.tc : Thread Cert.DownLoss.nD Cert.DownLoss.τ).loc Cert.DownLoss.main_arg4) = m ((c.tc : Thread Cert.DownLoss.nD Cert.DownLoss.τ).loc Cert.DownLoss.main_arg4))
      ∧ r.2.sem = fun _ => 0)

def quiescent_DownLossIdeal [hDownLossIdeal : Cert.DownLossIdeal.Facts] : Prop :=
  ∀ (m : (ℓ : Loc Cert.DownLossIdeal.nD Cert.DownLossIdeal.τ Cert.DownLossIdeal.sig) → Buf (Elt Ideal) ℓ) (g : Dev Cert.DownLossIdeal.nD → PrngReg), Pre_DownLossIdeal m →
    θ_run (Cert.DownLossIdeal.defs (F := Ideal)) (onTc (τ := Cert.DownLossIdeal.τ) (Cert.DownLossIdeal.main (F := Ideal))) ⟨m, fun _ => 0, g⟩ (fun r => (∀ c : Dev Cert.DownLossIdeal.nD,
      r.2.mem ((c.tc : Thread Cert.DownLossIdeal.nD Cert.DownLossIdeal.τ).loc Cert.DownLossIdeal.main_arg0) = m ((c.tc : Thread Cert.DownLossIdeal.nD Cert.DownLossIdeal.τ).loc Cert.DownLossIdeal.main_arg0)
      ∧ r.2.mem ((c.tc : Thread Cert.DownLossIdeal.nD Cert.DownLossIdeal.τ).loc Cert.DownLossIdeal.main_arg1) = m ((c.tc : Thread Cert.DownLossIdeal.nD Cert.DownLossIdeal.τ).loc Cert.DownLossIdeal.main_arg1)
      ∧ r.2.mem ((c.tc : Thread Cert.DownLossIdeal.nD Cert.DownLossIdeal.τ).loc Cert.DownLossIdeal.main_arg2) = m ((c.tc : Thread Cert.DownLossIdeal.nD Cert.DownLossIdeal.τ).loc Cert.DownLossIdeal.main_arg2)
      ∧ r.2.mem ((c.tc : Thread Cert.DownLossIdeal.nD Cert.DownLossIdeal.τ).loc Cert.DownLossIdeal.main_arg3) = m ((c.tc : Thread Cert.DownLossIdeal.nD Cert.DownLossIdeal.τ).loc Cert.DownLossIdeal.main_arg3)
      ∧ r.2.mem ((c.tc : Thread Cert.DownLossIdeal.nD Cert.DownLossIdeal.τ).loc Cert.DownLossIdeal.main_arg4) = m ((c.tc : Thread Cert.DownLossIdeal.nD Cert.DownLossIdeal.τ).loc Cert.DownLossIdeal.main_arg4))
      ∧ r.2.sem = fun _ => 0)

def quiescent_DownLossRIdeal [hDownLossRIdeal : Cert.DownLossRIdeal.Facts] : Prop :=
  ∀ (m : (ℓ : Loc Cert.DownLossRIdeal.nD Cert.DownLossRIdeal.τ Cert.DownLossRIdeal.sig) → Buf (Elt Ideal) ℓ) (g : Dev Cert.DownLossRIdeal.nD → PrngReg), Pre_DownLossRIdeal m →
    θ_run (Cert.DownLossRIdeal.defs (F := Ideal)) (onTc (τ := Cert.DownLossRIdeal.τ) (Cert.DownLossRIdeal.main (F := Ideal))) ⟨m, fun _ => 0, g⟩ (fun r => (∀ c : Dev Cert.DownLossRIdeal.nD,
      r.2.mem ((c.tc : Thread Cert.DownLossRIdeal.nD Cert.DownLossRIdeal.τ).loc Cert.DownLossRIdeal.main_arg0) = m ((c.tc : Thread Cert.DownLossRIdeal.nD Cert.DownLossRIdeal.τ).loc Cert.DownLossRIdeal.main_arg0)
      ∧ r.2.mem ((c.tc : Thread Cert.DownLossRIdeal.nD Cert.DownLossRIdeal.τ).loc Cert.DownLossRIdeal.main_arg1) = m ((c.tc : Thread Cert.DownLossRIdeal.nD Cert.DownLossRIdeal.τ).loc Cert.DownLossRIdeal.main_arg1)
      ∧ r.2.mem ((c.tc : Thread Cert.DownLossRIdeal.nD Cert.DownLossRIdeal.τ).loc Cert.DownLossRIdeal.main_arg2) = m ((c.tc : Thread Cert.DownLossRIdeal.nD Cert.DownLossRIdeal.τ).loc Cert.DownLossRIdeal.main_arg2)
      ∧ r.2.mem ((c.tc : Thread Cert.DownLossRIdeal.nD Cert.DownLossRIdeal.τ).loc Cert.DownLossRIdeal.main_arg3) = m ((c.tc : Thread Cert.DownLossRIdeal.nD Cert.DownLossRIdeal.τ).loc Cert.DownLossRIdeal.main_arg3)
      ∧ r.2.mem ((c.tc : Thread Cert.DownLossRIdeal.nD Cert.DownLossRIdeal.τ).loc Cert.DownLossRIdeal.main_arg4) = m ((c.tc : Thread Cert.DownLossRIdeal.nD Cert.DownLossRIdeal.τ).loc Cert.DownLossRIdeal.main_arg4))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ r.2.sem = fun _ => 0)

def quiescent_GateRIdeal [hGateRIdeal : Cert.GateRIdeal.Facts] : Prop :=
  ∀ (m : (ℓ : Loc Cert.GateRIdeal.nD Cert.GateRIdeal.τ Cert.GateRIdeal.sig) → Buf (Elt Ideal) ℓ) (g : Dev Cert.GateRIdeal.nD → PrngReg), Pre_GateRIdeal m →
    θ_run (Cert.GateRIdeal.defs (F := Ideal)) (onTc (τ := Cert.GateRIdeal.τ) (Cert.GateRIdeal.main (F := Ideal))) ⟨m, fun _ => 0, g⟩ (fun r => (∀ c : Dev Cert.GateRIdeal.nD,
      r.2.mem ((c.tc : Thread Cert.GateRIdeal.nD Cert.GateRIdeal.τ).loc Cert.GateRIdeal.main_arg0) = m ((c.tc : Thread Cert.GateRIdeal.nD Cert.GateRIdeal.τ).loc Cert.GateRIdeal.main_arg0)
      ∧ r.2.mem ((c.tc : Thread Cert.GateRIdeal.nD Cert.GateRIdeal.τ).loc Cert.GateRIdeal.main_arg1) = m ((c.tc : Thread Cert.GateRIdeal.nD Cert.GateRIdeal.τ).loc Cert.GateRIdeal.main_arg1)
      ∧ r.2.mem ((c.tc : Thread Cert.GateRIdeal.nD Cert.GateRIdeal.τ).loc Cert.GateRIdeal.main_arg2) = m ((c.tc : Thread Cert.GateRIdeal.nD Cert.GateRIdeal.τ).loc Cert.GateRIdeal.main_arg2))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRIdeal [hInProjRIdeal : Cert.InProjRIdeal.Facts] : Prop :=
  ∀ (m : (ℓ : Loc Cert.InProjRIdeal.nD Cert.InProjRIdeal.τ Cert.InProjRIdeal.sig) → Buf (Elt Ideal) ℓ) (g : Dev Cert.InProjRIdeal.nD → PrngReg), Pre_InProjRIdeal m →
    θ_run (Cert.InProjRIdeal.defs (F := Ideal)) (onTc (τ := Cert.InProjRIdeal.τ) (Cert.InProjRIdeal.main (F := Ideal))) ⟨m, fun _ => 0, g⟩ (fun r => (∀ c : Dev Cert.InProjRIdeal.nD,
      r.2.mem ((c.tc : Thread Cert.InProjRIdeal.nD Cert.InProjRIdeal.τ).loc Cert.InProjRIdeal.main_arg0) = m ((c.tc : Thread Cert.InProjRIdeal.nD Cert.InProjRIdeal.τ).loc Cert.InProjRIdeal.main_arg0)
      ∧ r.2.mem ((c.tc : Thread Cert.InProjRIdeal.nD Cert.InProjRIdeal.τ).loc Cert.InProjRIdeal.main_arg1) = m ((c.tc : Thread Cert.InProjRIdeal.nD Cert.InProjRIdeal.τ).loc Cert.InProjRIdeal.main_arg1)
      ∧ r.2.mem ((c.tc : Thread Cert.InProjRIdeal.nD Cert.InProjRIdeal.τ).loc Cert.InProjRIdeal.main_arg2) = m ((c.tc : Thread Cert.InProjRIdeal.nD Cert.InProjRIdeal.τ).loc Cert.InProjRIdeal.main_arg2))
      ∧ r.2.sem = fun _ => 0)

def quiescent_UpProj [hUpProj : Cert.UpProj.Facts] : Prop :=
  ∀ (m : (ℓ : Loc Cert.UpProj.nD Cert.UpProj.τ Cert.UpProj.sig) → Buf (Elt Bits) ℓ) (g : Dev Cert.UpProj.nD → PrngReg), Pre_UpProj m →
    θ_run (Cert.UpProj.defs (F := Bits)) (onTc (τ := Cert.UpProj.τ) (Cert.UpProj.main (F := Bits))) ⟨m, fun _ => 0, g⟩ (fun r => (∀ c : Dev Cert.UpProj.nD,
      r.2.mem ((c.tc : Thread Cert.UpProj.nD Cert.UpProj.τ).loc Cert.UpProj.main_arg0) = m ((c.tc : Thread Cert.UpProj.nD Cert.UpProj.τ).loc Cert.UpProj.main_arg0)
      ∧ r.2.mem ((c.tc : Thread Cert.UpProj.nD Cert.UpProj.τ).loc Cert.UpProj.main_arg1) = m ((c.tc : Thread Cert.UpProj.nD Cert.UpProj.τ).loc Cert.UpProj.main_arg1)
      ∧ r.2.mem ((c.tc : Thread Cert.UpProj.nD Cert.UpProj.τ).loc Cert.UpProj.main_arg2) = m ((c.tc : Thread Cert.UpProj.nD Cert.UpProj.τ).loc Cert.UpProj.main_arg2))
      ∧ r.2.sem = fun _ => 0)

def quiescent_UpProjIdeal [hUpProjIdeal : Cert.UpProjIdeal.Facts] : Prop :=
  ∀ (m : (ℓ : Loc Cert.UpProjIdeal.nD Cert.UpProjIdeal.τ Cert.UpProjIdeal.sig) → Buf (Elt Ideal) ℓ) (g : Dev Cert.UpProjIdeal.nD → PrngReg), Pre_UpProjIdeal m →
    θ_run (Cert.UpProjIdeal.defs (F := Ideal)) (onTc (τ := Cert.UpProjIdeal.τ) (Cert.UpProjIdeal.main (F := Ideal))) ⟨m, fun _ => 0, g⟩ (fun r => (∀ c : Dev Cert.UpProjIdeal.nD,
      r.2.mem ((c.tc : Thread Cert.UpProjIdeal.nD Cert.UpProjIdeal.τ).loc Cert.UpProjIdeal.main_arg0) = m ((c.tc : Thread Cert.UpProjIdeal.nD Cert.UpProjIdeal.τ).loc Cert.UpProjIdeal.main_arg0)
      ∧ r.2.mem ((c.tc : Thread Cert.UpProjIdeal.nD Cert.UpProjIdeal.τ).loc Cert.UpProjIdeal.main_arg1) = m ((c.tc : Thread Cert.UpProjIdeal.nD Cert.UpProjIdeal.τ).loc Cert.UpProjIdeal.main_arg1)
      ∧ r.2.mem ((c.tc : Thread Cert.UpProjIdeal.nD Cert.UpProjIdeal.τ).loc Cert.UpProjIdeal.main_arg2) = m ((c.tc : Thread Cert.UpProjIdeal.nD Cert.UpProjIdeal.τ).loc Cert.UpProjIdeal.main_arg2))
      ∧ r.2.sem = fun _ => 0)

def quiescent_UpProjRIdeal [hUpProjRIdeal : Cert.UpProjRIdeal.Facts] : Prop :=
  ∀ (m : (ℓ : Loc Cert.UpProjRIdeal.nD Cert.UpProjRIdeal.τ Cert.UpProjRIdeal.sig) → Buf (Elt Ideal) ℓ) (g : Dev Cert.UpProjRIdeal.nD → PrngReg), Pre_UpProjRIdeal m →
    θ_run (Cert.UpProjRIdeal.defs (F := Ideal)) (onTc (τ := Cert.UpProjRIdeal.τ) (Cert.UpProjRIdeal.main (F := Ideal))) ⟨m, fun _ => 0, g⟩ (fun r => (∀ c : Dev Cert.UpProjRIdeal.nD,
      r.2.mem ((c.tc : Thread Cert.UpProjRIdeal.nD Cert.UpProjRIdeal.τ).loc Cert.UpProjRIdeal.main_arg0) = m ((c.tc : Thread Cert.UpProjRIdeal.nD Cert.UpProjRIdeal.τ).loc Cert.UpProjRIdeal.main_arg0)
      ∧ r.2.mem ((c.tc : Thread Cert.UpProjRIdeal.nD Cert.UpProjRIdeal.τ).loc Cert.UpProjRIdeal.main_arg1) = m ((c.tc : Thread Cert.UpProjRIdeal.nD Cert.UpProjRIdeal.τ).loc Cert.UpProjRIdeal.main_arg1)
      ∧ r.2.mem ((c.tc : Thread Cert.UpProjRIdeal.nD Cert.UpProjRIdeal.τ).loc Cert.UpProjRIdeal.main_arg2) = m ((c.tc : Thread Cert.UpProjRIdeal.nD Cert.UpProjRIdeal.τ).loc Cert.UpProjRIdeal.main_arg2))
      ∧ r.2.sem = fun _ => 0)

def quiescent_ConvBwd [hConvBwd : Cert.ConvBwd.Facts] : Prop :=
  ∀ (m : (ℓ : Loc Cert.ConvBwd.nD Cert.ConvBwd.τ Cert.ConvBwd.sig) → Buf (Elt Bits) ℓ) (g : Dev Cert.ConvBwd.nD → PrngReg), Pre_ConvBwd m →
    θ_run (Cert.ConvBwd.defs (F := Bits)) (onTc (τ := Cert.ConvBwd.τ) (Cert.ConvBwd.main (F := Bits))) ⟨m, fun _ => 0, g⟩ (fun r => (∀ c : Dev Cert.ConvBwd.nD,
      r.2.mem ((c.tc : Thread Cert.ConvBwd.nD Cert.ConvBwd.τ).loc Cert.ConvBwd.main_arg0) = m ((c.tc : Thread Cert.ConvBwd.nD Cert.ConvBwd.τ).loc Cert.ConvBwd.main_arg0)
      ∧ r.2.mem ((c.tc : Thread Cert.ConvBwd.nD Cert.ConvBwd.τ).loc Cert.ConvBwd.main_arg1) = m ((c.tc : Thread Cert.ConvBwd.nD Cert.ConvBwd.τ).loc Cert.ConvBwd.main_arg1)
      ∧ r.2.mem ((c.tc : Thread Cert.ConvBwd.nD Cert.ConvBwd.τ).loc Cert.ConvBwd.main_arg2) = m ((c.tc : Thread Cert.ConvBwd.nD Cert.ConvBwd.τ).loc Cert.ConvBwd.main_arg2)
      ∧ r.2.mem ((c.tc : Thread Cert.ConvBwd.nD Cert.ConvBwd.τ).loc Cert.ConvBwd.main_arg3) = m ((c.tc : Thread Cert.ConvBwd.nD Cert.ConvBwd.τ).loc Cert.ConvBwd.main_arg3))
      ∧ r.2.sem = fun _ => 0)

def quiescent_ConvBwdIdeal [hConvBwdIdeal : Cert.ConvBwdIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
      ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3))
      ∧ r.2.sem = fun _ => 0)

def quiescent_ConvBwdIdeal_pre_finite [hConvBwdIdeal : Cert.ConvBwdIdeal.Facts] [hPre_finite : Cert.Pre_finite.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal_finite m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
      ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3))
      ∧ r.2.sem = fun _ => 0)

def quiescent_ConvBwdRIdeal [hConvBwdRIdeal : Cert.ConvBwdRIdeal.Facts] : Prop :=
  ∀ (m : (ℓ : Loc Cert.ConvBwdRIdeal.nD Cert.ConvBwdRIdeal.τ Cert.ConvBwdRIdeal.sig) → Buf (Elt Ideal) ℓ) (g : Dev Cert.ConvBwdRIdeal.nD → PrngReg), Pre_ConvBwdRIdeal m →
    θ_run (Cert.ConvBwdRIdeal.defs (F := Ideal)) (onTc (τ := Cert.ConvBwdRIdeal.τ) (Cert.ConvBwdRIdeal.main (F := Ideal))) ⟨m, fun _ => 0, g⟩ (fun r => (∀ c : Dev Cert.ConvBwdRIdeal.nD,
      r.2.mem ((c.tc : Thread Cert.ConvBwdRIdeal.nD Cert.ConvBwdRIdeal.τ).loc Cert.ConvBwdRIdeal.main_arg0) = m ((c.tc : Thread Cert.ConvBwdRIdeal.nD Cert.ConvBwdRIdeal.τ).loc Cert.ConvBwdRIdeal.main_arg0)
      ∧ r.2.mem ((c.tc : Thread Cert.ConvBwdRIdeal.nD Cert.ConvBwdRIdeal.τ).loc Cert.ConvBwdRIdeal.main_arg1) = m ((c.tc : Thread Cert.ConvBwdRIdeal.nD Cert.ConvBwdRIdeal.τ).loc Cert.ConvBwdRIdeal.main_arg1)
      ∧ r.2.mem ((c.tc : Thread Cert.ConvBwdRIdeal.nD Cert.ConvBwdRIdeal.τ).loc Cert.ConvBwdRIdeal.main_arg2) = m ((c.tc : Thread Cert.ConvBwdRIdeal.nD Cert.ConvBwdRIdeal.τ).loc Cert.ConvBwdRIdeal.main_arg2)
      ∧ r.2.mem ((c.tc : Thread Cert.ConvBwdRIdeal.nD Cert.ConvBwdRIdeal.τ).loc Cert.ConvBwdRIdeal.main_arg3) = m ((c.tc : Thread Cert.ConvBwdRIdeal.nD Cert.ConvBwdRIdeal.τ).loc Cert.ConvBwdRIdeal.main_arg3))
      ∧ r.2.sem = fun _ => 0)

def quiescent_ConvBwdRIdeal_pre_finite [hConvBwdRIdeal : Cert.ConvBwdRIdeal.Facts] [hPre_finite : Cert.Pre_finite.Facts] : Prop :=
  ∀ (m : (ℓ : Loc Cert.ConvBwdRIdeal.nD Cert.ConvBwdRIdeal.τ Cert.ConvBwdRIdeal.sig) → Buf (Elt Ideal) ℓ) (g : Dev Cert.ConvBwdRIdeal.nD → PrngReg), Pre_ConvBwdRIdeal_finite m →
    θ_run (Cert.ConvBwdRIdeal.defs (F := Ideal)) (onTc (τ := Cert.ConvBwdRIdeal.τ) (Cert.ConvBwdRIdeal.main (F := Ideal))) ⟨m, fun _ => 0, g⟩ (fun r => (∀ c : Dev Cert.ConvBwdRIdeal.nD,
      r.2.mem ((c.tc : Thread Cert.ConvBwdRIdeal.nD Cert.ConvBwdRIdeal.τ).loc Cert.ConvBwdRIdeal.main_arg0) = m ((c.tc : Thread Cert.ConvBwdRIdeal.nD Cert.ConvBwdRIdeal.τ).loc Cert.ConvBwdRIdeal.main_arg0)
      ∧ r.2.mem ((c.tc : Thread Cert.ConvBwdRIdeal.nD Cert.ConvBwdRIdeal.τ).loc Cert.ConvBwdRIdeal.main_arg1) = m ((c.tc : Thread Cert.ConvBwdRIdeal.nD Cert.ConvBwdRIdeal.τ).loc Cert.ConvBwdRIdeal.main_arg1)
      ∧ r.2.mem ((c.tc : Thread Cert.ConvBwdRIdeal.nD Cert.ConvBwdRIdeal.τ).loc Cert.ConvBwdRIdeal.main_arg2) = m ((c.tc : Thread Cert.ConvBwdRIdeal.nD Cert.ConvBwdRIdeal.τ).loc Cert.ConvBwdRIdeal.main_arg2)
      ∧ r.2.mem ((c.tc : Thread Cert.ConvBwdRIdeal.nD Cert.ConvBwdRIdeal.τ).loc Cert.ConvBwdRIdeal.main_arg3) = m ((c.tc : Thread Cert.ConvBwdRIdeal.nD Cert.ConvBwdRIdeal.τ).loc Cert.ConvBwdRIdeal.main_arg3))
      ∧ r.2.sem = fun _ => 0)

def quiescent_AdamwIn [hAdamwIn : Cert.AdamwIn.Facts] : Prop :=
  ∀ (m : (ℓ : Loc Cert.AdamwIn.nD Cert.AdamwIn.τ Cert.AdamwIn.sig) → Buf (Elt Bits) ℓ) (g : Dev Cert.AdamwIn.nD → PrngReg), Pre_AdamwIn m →
    θ_run (Cert.AdamwIn.defs (F := Bits)) (onTc (τ := Cert.AdamwIn.τ) (Cert.AdamwIn.main (F := Bits))) ⟨m, fun _ => 0, g⟩ (fun r => (∀ c : Dev Cert.AdamwIn.nD,
      r.2.mem ((c.tc : Thread Cert.AdamwIn.nD Cert.AdamwIn.τ).loc Cert.AdamwIn.main_arg0) = m ((c.tc : Thread Cert.AdamwIn.nD Cert.AdamwIn.τ).loc Cert.AdamwIn.main_arg0)
      ∧ r.2.mem ((c.tc : Thread Cert.AdamwIn.nD Cert.AdamwIn.τ).loc Cert.AdamwIn.main_arg1) = m ((c.tc : Thread Cert.AdamwIn.nD Cert.AdamwIn.τ).loc Cert.AdamwIn.main_arg1)
      ∧ r.2.mem ((c.tc : Thread Cert.AdamwIn.nD Cert.AdamwIn.τ).loc Cert.AdamwIn.main_arg2) = m ((c.tc : Thread Cert.AdamwIn.nD Cert.AdamwIn.τ).loc Cert.AdamwIn.main_arg2)
      ∧ r.2.mem ((c.tc : Thread Cert.AdamwIn.nD Cert.AdamwIn.τ).loc Cert.AdamwIn.main_arg3) = m ((c.tc : Thread Cert.AdamwIn.nD Cert.AdamwIn.τ).loc Cert.AdamwIn.main_arg3))
      ∧ r.2.sem = fun _ => 0)

def quiescent_AdamwInIdeal [hAdamwInIdeal : Cert.AdamwInIdeal.Facts] : Prop :=
  ∀ (m : (ℓ : Loc Cert.AdamwInIdeal.nD Cert.AdamwInIdeal.τ Cert.AdamwInIdeal.sig) → Buf (Elt Ideal) ℓ) (g : Dev Cert.AdamwInIdeal.nD → PrngReg), Pre_AdamwInIdeal m →
    θ_run (Cert.AdamwInIdeal.defs (F := Ideal)) (onTc (τ := Cert.AdamwInIdeal.τ) (Cert.AdamwInIdeal.main (F := Ideal))) ⟨m, fun _ => 0, g⟩ (fun r => (∀ c : Dev Cert.AdamwInIdeal.nD,
      r.2.mem ((c.tc : Thread Cert.AdamwInIdeal.nD Cert.AdamwInIdeal.τ).loc Cert.AdamwInIdeal.main_arg0) = m ((c.tc : Thread Cert.AdamwInIdeal.nD Cert.AdamwInIdeal.τ).loc Cert.AdamwInIdeal.main_arg0)
      ∧ r.2.mem ((c.tc : Thread Cert.AdamwInIdeal.nD Cert.AdamwInIdeal.τ).loc Cert.AdamwInIdeal.main_arg1) = m ((c.tc : Thread Cert.AdamwInIdeal.nD Cert.AdamwInIdeal.τ).loc Cert.AdamwInIdeal.main_arg1)
      ∧ r.2.mem ((c.tc : Thread Cert.AdamwInIdeal.nD Cert.AdamwInIdeal.τ).loc Cert.AdamwInIdeal.main_arg2) = m ((c.tc : Thread Cert.AdamwInIdeal.nD Cert.AdamwInIdeal.τ).loc Cert.AdamwInIdeal.main_arg2)
      ∧ r.2.mem ((c.tc : Thread Cert.AdamwInIdeal.nD Cert.AdamwInIdeal.τ).loc Cert.AdamwInIdeal.main_arg3) = m ((c.tc : Thread Cert.AdamwInIdeal.nD Cert.AdamwInIdeal.τ).loc Cert.AdamwInIdeal.main_arg3))
      ∧ r.2.sem = fun _ => 0)

def quiescent_AdamwInRIdeal [hAdamwInRIdeal : Cert.AdamwInRIdeal.Facts] : Prop :=
  ∀ (m : (ℓ : Loc Cert.AdamwInRIdeal.nD Cert.AdamwInRIdeal.τ Cert.AdamwInRIdeal.sig) → Buf (Elt Ideal) ℓ) (g : Dev Cert.AdamwInRIdeal.nD → PrngReg), Pre_AdamwInRIdeal m →
    θ_run (Cert.AdamwInRIdeal.defs (F := Ideal)) (onTc (τ := Cert.AdamwInRIdeal.τ) (Cert.AdamwInRIdeal.main (F := Ideal))) ⟨m, fun _ => 0, g⟩ (fun r => (∀ c : Dev Cert.AdamwInRIdeal.nD,
      r.2.mem ((c.tc : Thread Cert.AdamwInRIdeal.nD Cert.AdamwInRIdeal.τ).loc Cert.AdamwInRIdeal.main_arg0) = m ((c.tc : Thread Cert.AdamwInRIdeal.nD Cert.AdamwInRIdeal.τ).loc Cert.AdamwInRIdeal.main_arg0)
      ∧ r.2.mem ((c.tc : Thread Cert.AdamwInRIdeal.nD Cert.AdamwInRIdeal.τ).loc Cert.AdamwInRIdeal.main_arg1) = m ((c.tc : Thread Cert.AdamwInRIdeal.nD Cert.AdamwInRIdeal.τ).loc Cert.AdamwInRIdeal.main_arg1)
      ∧ r.2.mem ((c.tc : Thread Cert.AdamwInRIdeal.nD Cert.AdamwInRIdeal.τ).loc Cert.AdamwInRIdeal.main_arg2) = m ((c.tc : Thread Cert.AdamwInRIdeal.nD Cert.AdamwInRIdeal.τ).loc Cert.AdamwInRIdeal.main_arg2)
      ∧ r.2.mem ((c.tc : Thread Cert.AdamwInRIdeal.nD Cert.AdamwInRIdeal.τ).loc Cert.AdamwInRIdeal.main_arg3) = m ((c.tc : Thread Cert.AdamwInRIdeal.nD Cert.AdamwInRIdeal.τ).loc Cert.AdamwInRIdeal.main_arg3))
      ∧ r.2.sem = fun _ => 0)

def quiescent_AdamwUp [hAdamwUp : Cert.AdamwUp.Facts] : Prop :=
  ∀ (m : (ℓ : Loc Cert.AdamwUp.nD Cert.AdamwUp.τ Cert.AdamwUp.sig) → Buf (Elt Bits) ℓ) (g : Dev Cert.AdamwUp.nD → PrngReg), Pre_AdamwUp m →
    θ_run (Cert.AdamwUp.defs (F := Bits)) (onTc (τ := Cert.AdamwUp.τ) (Cert.AdamwUp.main (F := Bits))) ⟨m, fun _ => 0, g⟩ (fun r => (∀ c : Dev Cert.AdamwUp.nD,
      r.2.mem ((c.tc : Thread Cert.AdamwUp.nD Cert.AdamwUp.τ).loc Cert.AdamwUp.main_arg0) = m ((c.tc : Thread Cert.AdamwUp.nD Cert.AdamwUp.τ).loc Cert.AdamwUp.main_arg0)
      ∧ r.2.mem ((c.tc : Thread Cert.AdamwUp.nD Cert.AdamwUp.τ).loc Cert.AdamwUp.main_arg1) = m ((c.tc : Thread Cert.AdamwUp.nD Cert.AdamwUp.τ).loc Cert.AdamwUp.main_arg1)
      ∧ r.2.mem ((c.tc : Thread Cert.AdamwUp.nD Cert.AdamwUp.τ).loc Cert.AdamwUp.main_arg2) = m ((c.tc : Thread Cert.AdamwUp.nD Cert.AdamwUp.τ).loc Cert.AdamwUp.main_arg2)
      ∧ r.2.mem ((c.tc : Thread Cert.AdamwUp.nD Cert.AdamwUp.τ).loc Cert.AdamwUp.main_arg3) = m ((c.tc : Thread Cert.AdamwUp.nD Cert.AdamwUp.τ).loc Cert.AdamwUp.main_arg3))
      ∧ r.2.sem = fun _ => 0)

def quiescent_AdamwUpIdeal [hAdamwUpIdeal : Cert.AdamwUpIdeal.Facts] : Prop :=
  ∀ (m : (ℓ : Loc Cert.AdamwUpIdeal.nD Cert.AdamwUpIdeal.τ Cert.AdamwUpIdeal.sig) → Buf (Elt Ideal) ℓ) (g : Dev Cert.AdamwUpIdeal.nD → PrngReg), Pre_AdamwUpIdeal m →
    θ_run (Cert.AdamwUpIdeal.defs (F := Ideal)) (onTc (τ := Cert.AdamwUpIdeal.τ) (Cert.AdamwUpIdeal.main (F := Ideal))) ⟨m, fun _ => 0, g⟩ (fun r => (∀ c : Dev Cert.AdamwUpIdeal.nD,
      r.2.mem ((c.tc : Thread Cert.AdamwUpIdeal.nD Cert.AdamwUpIdeal.τ).loc Cert.AdamwUpIdeal.main_arg0) = m ((c.tc : Thread Cert.AdamwUpIdeal.nD Cert.AdamwUpIdeal.τ).loc Cert.AdamwUpIdeal.main_arg0)
      ∧ r.2.mem ((c.tc : Thread Cert.AdamwUpIdeal.nD Cert.AdamwUpIdeal.τ).loc Cert.AdamwUpIdeal.main_arg1) = m ((c.tc : Thread Cert.AdamwUpIdeal.nD Cert.AdamwUpIdeal.τ).loc Cert.AdamwUpIdeal.main_arg1)
      ∧ r.2.mem ((c.tc : Thread Cert.AdamwUpIdeal.nD Cert.AdamwUpIdeal.τ).loc Cert.AdamwUpIdeal.main_arg2) = m ((c.tc : Thread Cert.AdamwUpIdeal.nD Cert.AdamwUpIdeal.τ).loc Cert.AdamwUpIdeal.main_arg2)
      ∧ r.2.mem ((c.tc : Thread Cert.AdamwUpIdeal.nD Cert.AdamwUpIdeal.τ).loc Cert.AdamwUpIdeal.main_arg3) = m ((c.tc : Thread Cert.AdamwUpIdeal.nD Cert.AdamwUpIdeal.τ).loc Cert.AdamwUpIdeal.main_arg3))
      ∧ r.2.sem = fun _ => 0)

def quiescent_AdamwUpRIdeal [hAdamwUpRIdeal : Cert.AdamwUpRIdeal.Facts] : Prop :=
  ∀ (m : (ℓ : Loc Cert.AdamwUpRIdeal.nD Cert.AdamwUpRIdeal.τ Cert.AdamwUpRIdeal.sig) → Buf (Elt Ideal) ℓ) (g : Dev Cert.AdamwUpRIdeal.nD → PrngReg), Pre_AdamwUpRIdeal m →
    θ_run (Cert.AdamwUpRIdeal.defs (F := Ideal)) (onTc (τ := Cert.AdamwUpRIdeal.τ) (Cert.AdamwUpRIdeal.main (F := Ideal))) ⟨m, fun _ => 0, g⟩ (fun r => (∀ c : Dev Cert.AdamwUpRIdeal.nD,
      r.2.mem ((c.tc : Thread Cert.AdamwUpRIdeal.nD Cert.AdamwUpRIdeal.τ).loc Cert.AdamwUpRIdeal.main_arg0) = m ((c.tc : Thread Cert.AdamwUpRIdeal.nD Cert.AdamwUpRIdeal.τ).loc Cert.AdamwUpRIdeal.main_arg0)
      ∧ r.2.mem ((c.tc : Thread Cert.AdamwUpRIdeal.nD Cert.AdamwUpRIdeal.τ).loc Cert.AdamwUpRIdeal.main_arg1) = m ((c.tc : Thread Cert.AdamwUpRIdeal.nD Cert.AdamwUpRIdeal.τ).loc Cert.AdamwUpRIdeal.main_arg1)
      ∧ r.2.mem ((c.tc : Thread Cert.AdamwUpRIdeal.nD Cert.AdamwUpRIdeal.τ).loc Cert.AdamwUpRIdeal.main_arg2) = m ((c.tc : Thread Cert.AdamwUpRIdeal.nD Cert.AdamwUpRIdeal.τ).loc Cert.AdamwUpRIdeal.main_arg2)
      ∧ r.2.mem ((c.tc : Thread Cert.AdamwUpRIdeal.nD Cert.AdamwUpRIdeal.τ).loc Cert.AdamwUpRIdeal.main_arg3) = m ((c.tc : Thread Cert.AdamwUpRIdeal.nD Cert.AdamwUpRIdeal.τ).loc Cert.AdamwUpRIdeal.main_arg3))
      ∧ r.2.sem = fun _ => 0)

def quiescent_AdamwOut [hAdamwOut : Cert.AdamwOut.Facts] : Prop :=
  ∀ (m : (ℓ : Loc Cert.AdamwOut.nD Cert.AdamwOut.τ Cert.AdamwOut.sig) → Buf (Elt Bits) ℓ) (g : Dev Cert.AdamwOut.nD → PrngReg), Pre_AdamwOut m →
    θ_run (Cert.AdamwOut.defs (F := Bits)) (onTc (τ := Cert.AdamwOut.τ) (Cert.AdamwOut.main (F := Bits))) ⟨m, fun _ => 0, g⟩ (fun r => (∀ c : Dev Cert.AdamwOut.nD,
      r.2.mem ((c.tc : Thread Cert.AdamwOut.nD Cert.AdamwOut.τ).loc Cert.AdamwOut.main_arg0) = m ((c.tc : Thread Cert.AdamwOut.nD Cert.AdamwOut.τ).loc Cert.AdamwOut.main_arg0)
      ∧ r.2.mem ((c.tc : Thread Cert.AdamwOut.nD Cert.AdamwOut.τ).loc Cert.AdamwOut.main_arg1) = m ((c.tc : Thread Cert.AdamwOut.nD Cert.AdamwOut.τ).loc Cert.AdamwOut.main_arg1)
      ∧ r.2.mem ((c.tc : Thread Cert.AdamwOut.nD Cert.AdamwOut.τ).loc Cert.AdamwOut.main_arg2) = m ((c.tc : Thread Cert.AdamwOut.nD Cert.AdamwOut.τ).loc Cert.AdamwOut.main_arg2)
      ∧ r.2.mem ((c.tc : Thread Cert.AdamwOut.nD Cert.AdamwOut.τ).loc Cert.AdamwOut.main_arg3) = m ((c.tc : Thread Cert.AdamwOut.nD Cert.AdamwOut.τ).loc Cert.AdamwOut.main_arg3))
      ∧ r.2.sem = fun _ => 0)

def quiescent_AdamwOutIdeal [hAdamwOutIdeal : Cert.AdamwOutIdeal.Facts] : Prop :=
  ∀ (m : (ℓ : Loc Cert.AdamwOutIdeal.nD Cert.AdamwOutIdeal.τ Cert.AdamwOutIdeal.sig) → Buf (Elt Ideal) ℓ) (g : Dev Cert.AdamwOutIdeal.nD → PrngReg), Pre_AdamwOutIdeal m →
    θ_run (Cert.AdamwOutIdeal.defs (F := Ideal)) (onTc (τ := Cert.AdamwOutIdeal.τ) (Cert.AdamwOutIdeal.main (F := Ideal))) ⟨m, fun _ => 0, g⟩ (fun r => (∀ c : Dev Cert.AdamwOutIdeal.nD,
      r.2.mem ((c.tc : Thread Cert.AdamwOutIdeal.nD Cert.AdamwOutIdeal.τ).loc Cert.AdamwOutIdeal.main_arg0) = m ((c.tc : Thread Cert.AdamwOutIdeal.nD Cert.AdamwOutIdeal.τ).loc Cert.AdamwOutIdeal.main_arg0)
      ∧ r.2.mem ((c.tc : Thread Cert.AdamwOutIdeal.nD Cert.AdamwOutIdeal.τ).loc Cert.AdamwOutIdeal.main_arg1) = m ((c.tc : Thread Cert.AdamwOutIdeal.nD Cert.AdamwOutIdeal.τ).loc Cert.AdamwOutIdeal.main_arg1)
      ∧ r.2.mem ((c.tc : Thread Cert.AdamwOutIdeal.nD Cert.AdamwOutIdeal.τ).loc Cert.AdamwOutIdeal.main_arg2) = m ((c.tc : Thread Cert.AdamwOutIdeal.nD Cert.AdamwOutIdeal.τ).loc Cert.AdamwOutIdeal.main_arg2)
      ∧ r.2.mem ((c.tc : Thread Cert.AdamwOutIdeal.nD Cert.AdamwOutIdeal.τ).loc Cert.AdamwOutIdeal.main_arg3) = m ((c.tc : Thread Cert.AdamwOutIdeal.nD Cert.AdamwOutIdeal.τ).loc Cert.AdamwOutIdeal.main_arg3))
      ∧ r.2.sem = fun _ => 0)

def quiescent_AdamwOutRIdeal [hAdamwOutRIdeal : Cert.AdamwOutRIdeal.Facts] : Prop :=
  ∀ (m : (ℓ : Loc Cert.AdamwOutRIdeal.nD Cert.AdamwOutRIdeal.τ Cert.AdamwOutRIdeal.sig) → Buf (Elt Ideal) ℓ) (g : Dev Cert.AdamwOutRIdeal.nD → PrngReg), Pre_AdamwOutRIdeal m →
    θ_run (Cert.AdamwOutRIdeal.defs (F := Ideal)) (onTc (τ := Cert.AdamwOutRIdeal.τ) (Cert.AdamwOutRIdeal.main (F := Ideal))) ⟨m, fun _ => 0, g⟩ (fun r => (∀ c : Dev Cert.AdamwOutRIdeal.nD,
      r.2.mem ((c.tc : Thread Cert.AdamwOutRIdeal.nD Cert.AdamwOutRIdeal.τ).loc Cert.AdamwOutRIdeal.main_arg0) = m ((c.tc : Thread Cert.AdamwOutRIdeal.nD Cert.AdamwOutRIdeal.τ).loc Cert.AdamwOutRIdeal.main_arg0)
      ∧ r.2.mem ((c.tc : Thread Cert.AdamwOutRIdeal.nD Cert.AdamwOutRIdeal.τ).loc Cert.AdamwOutRIdeal.main_arg1) = m ((c.tc : Thread Cert.AdamwOutRIdeal.nD Cert.AdamwOutRIdeal.τ).loc Cert.AdamwOutRIdeal.main_arg1)
      ∧ r.2.mem ((c.tc : Thread Cert.AdamwOutRIdeal.nD Cert.AdamwOutRIdeal.τ).loc Cert.AdamwOutRIdeal.main_arg2) = m ((c.tc : Thread Cert.AdamwOutRIdeal.nD Cert.AdamwOutRIdeal.τ).loc Cert.AdamwOutRIdeal.main_arg2)
      ∧ r.2.mem ((c.tc : Thread Cert.AdamwOutRIdeal.nD Cert.AdamwOutRIdeal.τ).loc Cert.AdamwOutRIdeal.main_arg3) = m ((c.tc : Thread Cert.AdamwOutRIdeal.nD Cert.AdamwOutRIdeal.τ).loc Cert.AdamwOutRIdeal.main_arg3))
      ∧ r.2.sem = fun _ => 0)

def quiescent_AdamwDown [hAdamwDown : Cert.AdamwDown.Facts] : Prop :=
  ∀ (m : (ℓ : Loc Cert.AdamwDown.nD Cert.AdamwDown.τ Cert.AdamwDown.sig) → Buf (Elt Bits) ℓ) (g : Dev Cert.AdamwDown.nD → PrngReg), Pre_AdamwDown m →
    θ_run (Cert.AdamwDown.defs (F := Bits)) (onTc (τ := Cert.AdamwDown.τ) (Cert.AdamwDown.main (F := Bits))) ⟨m, fun _ => 0, g⟩ (fun r => (∀ c : Dev Cert.AdamwDown.nD,
      r.2.mem ((c.tc : Thread Cert.AdamwDown.nD Cert.AdamwDown.τ).loc Cert.AdamwDown.main_arg0) = m ((c.tc : Thread Cert.AdamwDown.nD Cert.AdamwDown.τ).loc Cert.AdamwDown.main_arg0)
      ∧ r.2.mem ((c.tc : Thread Cert.AdamwDown.nD Cert.AdamwDown.τ).loc Cert.AdamwDown.main_arg1) = m ((c.tc : Thread Cert.AdamwDown.nD Cert.AdamwDown.τ).loc Cert.AdamwDown.main_arg1)
      ∧ r.2.mem ((c.tc : Thread Cert.AdamwDown.nD Cert.AdamwDown.τ).loc Cert.AdamwDown.main_arg2) = m ((c.tc : Thread Cert.AdamwDown.nD Cert.AdamwDown.τ).loc Cert.AdamwDown.main_arg2)
      ∧ r.2.mem ((c.tc : Thread Cert.AdamwDown.nD Cert.AdamwDown.τ).loc Cert.AdamwDown.main_arg3) = m ((c.tc : Thread Cert.AdamwDown.nD Cert.AdamwDown.τ).loc Cert.AdamwDown.main_arg3))
      ∧ r.2.sem = fun _ => 0)

def quiescent_AdamwDownIdeal [hAdamwDownIdeal : Cert.AdamwDownIdeal.Facts] : Prop :=
  ∀ (m : (ℓ : Loc Cert.AdamwDownIdeal.nD Cert.AdamwDownIdeal.τ Cert.AdamwDownIdeal.sig) → Buf (Elt Ideal) ℓ) (g : Dev Cert.AdamwDownIdeal.nD → PrngReg), Pre_AdamwDownIdeal m →
    θ_run (Cert.AdamwDownIdeal.defs (F := Ideal)) (onTc (τ := Cert.AdamwDownIdeal.τ) (Cert.AdamwDownIdeal.main (F := Ideal))) ⟨m, fun _ => 0, g⟩ (fun r => (∀ c : Dev Cert.AdamwDownIdeal.nD,
      r.2.mem ((c.tc : Thread Cert.AdamwDownIdeal.nD Cert.AdamwDownIdeal.τ).loc Cert.AdamwDownIdeal.main_arg0) = m ((c.tc : Thread Cert.AdamwDownIdeal.nD Cert.AdamwDownIdeal.τ).loc Cert.AdamwDownIdeal.main_arg0)
      ∧ r.2.mem ((c.tc : Thread Cert.AdamwDownIdeal.nD Cert.AdamwDownIdeal.τ).loc Cert.AdamwDownIdeal.main_arg1) = m ((c.tc : Thread Cert.AdamwDownIdeal.nD Cert.AdamwDownIdeal.τ).loc Cert.AdamwDownIdeal.main_arg1)
      ∧ r.2.mem ((c.tc : Thread Cert.AdamwDownIdeal.nD Cert.AdamwDownIdeal.τ).loc Cert.AdamwDownIdeal.main_arg2) = m ((c.tc : Thread Cert.AdamwDownIdeal.nD Cert.AdamwDownIdeal.τ).loc Cert.AdamwDownIdeal.main_arg2)
      ∧ r.2.mem ((c.tc : Thread Cert.AdamwDownIdeal.nD Cert.AdamwDownIdeal.τ).loc Cert.AdamwDownIdeal.main_arg3) = m ((c.tc : Thread Cert.AdamwDownIdeal.nD Cert.AdamwDownIdeal.τ).loc Cert.AdamwDownIdeal.main_arg3))
      ∧ r.2.sem = fun _ => 0)

def quiescent_AdamwDownRIdeal [hAdamwDownRIdeal : Cert.AdamwDownRIdeal.Facts] : Prop :=
  ∀ (m : (ℓ : Loc Cert.AdamwDownRIdeal.nD Cert.AdamwDownRIdeal.τ Cert.AdamwDownRIdeal.sig) → Buf (Elt Ideal) ℓ) (g : Dev Cert.AdamwDownRIdeal.nD → PrngReg), Pre_AdamwDownRIdeal m →
    θ_run (Cert.AdamwDownRIdeal.defs (F := Ideal)) (onTc (τ := Cert.AdamwDownRIdeal.τ) (Cert.AdamwDownRIdeal.main (F := Ideal))) ⟨m, fun _ => 0, g⟩ (fun r => (∀ c : Dev Cert.AdamwDownRIdeal.nD,
      r.2.mem ((c.tc : Thread Cert.AdamwDownRIdeal.nD Cert.AdamwDownRIdeal.τ).loc Cert.AdamwDownRIdeal.main_arg0) = m ((c.tc : Thread Cert.AdamwDownRIdeal.nD Cert.AdamwDownRIdeal.τ).loc Cert.AdamwDownRIdeal.main_arg0)
      ∧ r.2.mem ((c.tc : Thread Cert.AdamwDownRIdeal.nD Cert.AdamwDownRIdeal.τ).loc Cert.AdamwDownRIdeal.main_arg1) = m ((c.tc : Thread Cert.AdamwDownRIdeal.nD Cert.AdamwDownRIdeal.τ).loc Cert.AdamwDownRIdeal.main_arg1)
      ∧ r.2.mem ((c.tc : Thread Cert.AdamwDownRIdeal.nD Cert.AdamwDownRIdeal.τ).loc Cert.AdamwDownRIdeal.main_arg2) = m ((c.tc : Thread Cert.AdamwDownRIdeal.nD Cert.AdamwDownRIdeal.τ).loc Cert.AdamwDownRIdeal.main_arg2)
      ∧ r.2.mem ((c.tc : Thread Cert.AdamwDownRIdeal.nD Cert.AdamwDownRIdeal.τ).loc Cert.AdamwDownRIdeal.main_arg3) = m ((c.tc : Thread Cert.AdamwDownRIdeal.nD Cert.AdamwDownRIdeal.τ).loc Cert.AdamwDownRIdeal.main_arg3))
      ∧ r.2.sem = fun _ => 0)

def quiescent_AdamwSmall [hAdamwSmall : Cert.AdamwSmall.Facts] : Prop :=
  ∀ (m : (ℓ : Loc Cert.AdamwSmall.nD Cert.AdamwSmall.τ Cert.AdamwSmall.sig) → Buf (Elt Bits) ℓ) (g : Dev Cert.AdamwSmall.nD → PrngReg), Pre_AdamwSmall m →
    θ_run (Cert.AdamwSmall.defs (F := Bits)) (onTc (τ := Cert.AdamwSmall.τ) (Cert.AdamwSmall.main (F := Bits))) ⟨m, fun _ => 0, g⟩ (fun r => (∀ c : Dev Cert.AdamwSmall.nD,
      r.2.mem ((c.tc : Thread Cert.AdamwSmall.nD Cert.AdamwSmall.τ).loc Cert.AdamwSmall.main_arg0) = m ((c.tc : Thread Cert.AdamwSmall.nD Cert.AdamwSmall.τ).loc Cert.AdamwSmall.main_arg0)
      ∧ r.2.mem ((c.tc : Thread Cert.AdamwSmall.nD Cert.AdamwSmall.τ).loc Cert.AdamwSmall.main_arg1) = m ((c.tc : Thread Cert.AdamwSmall.nD Cert.AdamwSmall.τ).loc Cert.AdamwSmall.main_arg1)
      ∧ r.2.mem ((c.tc : Thread Cert.AdamwSmall.nD Cert.AdamwSmall.τ).loc Cert.AdamwSmall.main_arg2) = m ((c.tc : Thread Cert.AdamwSmall.nD Cert.AdamwSmall.τ).loc Cert.AdamwSmall.main_arg2)
      ∧ r.2.mem ((c.tc : Thread Cert.AdamwSmall.nD Cert.AdamwSmall.τ).loc Cert.AdamwSmall.main_arg3) = m ((c.tc : Thread Cert.AdamwSmall.nD Cert.AdamwSmall.τ).loc Cert.AdamwSmall.main_arg3))
      ∧ r.2.sem = fun _ => 0)

def quiescent_AdamwSmallIdeal [hAdamwSmallIdeal : Cert.AdamwSmallIdeal.Facts] : Prop :=
  ∀ (m : (ℓ : Loc Cert.AdamwSmallIdeal.nD Cert.AdamwSmallIdeal.τ Cert.AdamwSmallIdeal.sig) → Buf (Elt Ideal) ℓ) (g : Dev Cert.AdamwSmallIdeal.nD → PrngReg), Pre_AdamwSmallIdeal m →
    θ_run (Cert.AdamwSmallIdeal.defs (F := Ideal)) (onTc (τ := Cert.AdamwSmallIdeal.τ) (Cert.AdamwSmallIdeal.main (F := Ideal))) ⟨m, fun _ => 0, g⟩ (fun r => (∀ c : Dev Cert.AdamwSmallIdeal.nD,
      r.2.mem ((c.tc : Thread Cert.AdamwSmallIdeal.nD Cert.AdamwSmallIdeal.τ).loc Cert.AdamwSmallIdeal.main_arg0) = m ((c.tc : Thread Cert.AdamwSmallIdeal.nD Cert.AdamwSmallIdeal.τ).loc Cert.AdamwSmallIdeal.main_arg0)
      ∧ r.2.mem ((c.tc : Thread Cert.AdamwSmallIdeal.nD Cert.AdamwSmallIdeal.τ).loc Cert.AdamwSmallIdeal.main_arg1) = m ((c.tc : Thread Cert.AdamwSmallIdeal.nD Cert.AdamwSmallIdeal.τ).loc Cert.AdamwSmallIdeal.main_arg1)
      ∧ r.2.mem ((c.tc : Thread Cert.AdamwSmallIdeal.nD Cert.AdamwSmallIdeal.τ).loc Cert.AdamwSmallIdeal.main_arg2) = m ((c.tc : Thread Cert.AdamwSmallIdeal.nD Cert.AdamwSmallIdeal.τ).loc Cert.AdamwSmallIdeal.main_arg2)
      ∧ r.2.mem ((c.tc : Thread Cert.AdamwSmallIdeal.nD Cert.AdamwSmallIdeal.τ).loc Cert.AdamwSmallIdeal.main_arg3) = m ((c.tc : Thread Cert.AdamwSmallIdeal.nD Cert.AdamwSmallIdeal.τ).loc Cert.AdamwSmallIdeal.main_arg3))
      ∧ r.2.sem = fun _ => 0)

def quiescent_AdamwSmallRIdeal [hAdamwSmallRIdeal : Cert.AdamwSmallRIdeal.Facts] : Prop :=
  ∀ (m : (ℓ : Loc Cert.AdamwSmallRIdeal.nD Cert.AdamwSmallRIdeal.τ Cert.AdamwSmallRIdeal.sig) → Buf (Elt Ideal) ℓ) (g : Dev Cert.AdamwSmallRIdeal.nD → PrngReg), Pre_AdamwSmallRIdeal m →
    θ_run (Cert.AdamwSmallRIdeal.defs (F := Ideal)) (onTc (τ := Cert.AdamwSmallRIdeal.τ) (Cert.AdamwSmallRIdeal.main (F := Ideal))) ⟨m, fun _ => 0, g⟩ (fun r => (∀ c : Dev Cert.AdamwSmallRIdeal.nD,
      r.2.mem ((c.tc : Thread Cert.AdamwSmallRIdeal.nD Cert.AdamwSmallRIdeal.τ).loc Cert.AdamwSmallRIdeal.main_arg0) = m ((c.tc : Thread Cert.AdamwSmallRIdeal.nD Cert.AdamwSmallRIdeal.τ).loc Cert.AdamwSmallRIdeal.main_arg0)
      ∧ r.2.mem ((c.tc : Thread Cert.AdamwSmallRIdeal.nD Cert.AdamwSmallRIdeal.τ).loc Cert.AdamwSmallRIdeal.main_arg1) = m ((c.tc : Thread Cert.AdamwSmallRIdeal.nD Cert.AdamwSmallRIdeal.τ).loc Cert.AdamwSmallRIdeal.main_arg1)
      ∧ r.2.mem ((c.tc : Thread Cert.AdamwSmallRIdeal.nD Cert.AdamwSmallRIdeal.τ).loc Cert.AdamwSmallRIdeal.main_arg2) = m ((c.tc : Thread Cert.AdamwSmallRIdeal.nD Cert.AdamwSmallRIdeal.τ).loc Cert.AdamwSmallRIdeal.main_arg2)
      ∧ r.2.mem ((c.tc : Thread Cert.AdamwSmallRIdeal.nD Cert.AdamwSmallRIdeal.τ).loc Cert.AdamwSmallRIdeal.main_arg3) = m ((c.tc : Thread Cert.AdamwSmallRIdeal.nD Cert.AdamwSmallRIdeal.τ).loc Cert.AdamwSmallRIdeal.main_arg3))
      ∧ r.2.sem = fun _ => 0)

def quiescent_AdamwRepl [hAdamwRepl : Cert.AdamwRepl.Facts] : Prop :=
  ∀ (m : (ℓ : Loc Cert.AdamwRepl.nD Cert.AdamwRepl.τ Cert.AdamwRepl.sig) → Buf (Elt Bits) ℓ) (g : Dev Cert.AdamwRepl.nD → PrngReg), Pre_AdamwRepl m →
    θ_run (Cert.AdamwRepl.defs (F := Bits)) (onTc (τ := Cert.AdamwRepl.τ) (Cert.AdamwRepl.main (F := Bits))) ⟨m, fun _ => 0, g⟩ (fun r => (∀ c : Dev Cert.AdamwRepl.nD,
      r.2.mem ((c.tc : Thread Cert.AdamwRepl.nD Cert.AdamwRepl.τ).loc Cert.AdamwRepl.main_arg0) = m ((c.tc : Thread Cert.AdamwRepl.nD Cert.AdamwRepl.τ).loc Cert.AdamwRepl.main_arg0)
      ∧ r.2.mem ((c.tc : Thread Cert.AdamwRepl.nD Cert.AdamwRepl.τ).loc Cert.AdamwRepl.main_arg1) = m ((c.tc : Thread Cert.AdamwRepl.nD Cert.AdamwRepl.τ).loc Cert.AdamwRepl.main_arg1)
      ∧ r.2.mem ((c.tc : Thread Cert.AdamwRepl.nD Cert.AdamwRepl.τ).loc Cert.AdamwRepl.main_arg2) = m ((c.tc : Thread Cert.AdamwRepl.nD Cert.AdamwRepl.τ).loc Cert.AdamwRepl.main_arg2)
      ∧ r.2.mem ((c.tc : Thread Cert.AdamwRepl.nD Cert.AdamwRepl.τ).loc Cert.AdamwRepl.main_arg3) = m ((c.tc : Thread Cert.AdamwRepl.nD Cert.AdamwRepl.τ).loc Cert.AdamwRepl.main_arg3))
      ∧ r.2.sem = fun _ => 0)

def quiescent_AdamwReplIdeal [hAdamwReplIdeal : Cert.AdamwReplIdeal.Facts] : Prop :=
  ∀ (m : (ℓ : Loc Cert.AdamwReplIdeal.nD Cert.AdamwReplIdeal.τ Cert.AdamwReplIdeal.sig) → Buf (Elt Ideal) ℓ) (g : Dev Cert.AdamwReplIdeal.nD → PrngReg), Pre_AdamwReplIdeal m →
    θ_run (Cert.AdamwReplIdeal.defs (F := Ideal)) (onTc (τ := Cert.AdamwReplIdeal.τ) (Cert.AdamwReplIdeal.main (F := Ideal))) ⟨m, fun _ => 0, g⟩ (fun r => (∀ c : Dev Cert.AdamwReplIdeal.nD,
      r.2.mem ((c.tc : Thread Cert.AdamwReplIdeal.nD Cert.AdamwReplIdeal.τ).loc Cert.AdamwReplIdeal.main_arg0) = m ((c.tc : Thread Cert.AdamwReplIdeal.nD Cert.AdamwReplIdeal.τ).loc Cert.AdamwReplIdeal.main_arg0)
      ∧ r.2.mem ((c.tc : Thread Cert.AdamwReplIdeal.nD Cert.AdamwReplIdeal.τ).loc Cert.AdamwReplIdeal.main_arg1) = m ((c.tc : Thread Cert.AdamwReplIdeal.nD Cert.AdamwReplIdeal.τ).loc Cert.AdamwReplIdeal.main_arg1)
      ∧ r.2.mem ((c.tc : Thread Cert.AdamwReplIdeal.nD Cert.AdamwReplIdeal.τ).loc Cert.AdamwReplIdeal.main_arg2) = m ((c.tc : Thread Cert.AdamwReplIdeal.nD Cert.AdamwReplIdeal.τ).loc Cert.AdamwReplIdeal.main_arg2)
      ∧ r.2.mem ((c.tc : Thread Cert.AdamwReplIdeal.nD Cert.AdamwReplIdeal.τ).loc Cert.AdamwReplIdeal.main_arg3) = m ((c.tc : Thread Cert.AdamwReplIdeal.nD Cert.AdamwReplIdeal.τ).loc Cert.AdamwReplIdeal.main_arg3))
      ∧ r.2.sem = fun _ => 0)

def quiescent_AdamwReplRIdeal [hAdamwReplRIdeal : Cert.AdamwReplRIdeal.Facts] : Prop :=
  ∀ (m : (ℓ : Loc Cert.AdamwReplRIdeal.nD Cert.AdamwReplRIdeal.τ Cert.AdamwReplRIdeal.sig) → Buf (Elt Ideal) ℓ) (g : Dev Cert.AdamwReplRIdeal.nD → PrngReg), Pre_AdamwReplRIdeal m →
    θ_run (Cert.AdamwReplRIdeal.defs (F := Ideal)) (onTc (τ := Cert.AdamwReplRIdeal.τ) (Cert.AdamwReplRIdeal.main (F := Ideal))) ⟨m, fun _ => 0, g⟩ (fun r => (∀ c : Dev Cert.AdamwReplRIdeal.nD,
      r.2.mem ((c.tc : Thread Cert.AdamwReplRIdeal.nD Cert.AdamwReplRIdeal.τ).loc Cert.AdamwReplRIdeal.main_arg0) = m ((c.tc : Thread Cert.AdamwReplRIdeal.nD Cert.AdamwReplRIdeal.τ).loc Cert.AdamwReplRIdeal.main_arg0)
      ∧ r.2.mem ((c.tc : Thread Cert.AdamwReplRIdeal.nD Cert.AdamwReplRIdeal.τ).loc Cert.AdamwReplRIdeal.main_arg1) = m ((c.tc : Thread Cert.AdamwReplRIdeal.nD Cert.AdamwReplRIdeal.τ).loc Cert.AdamwReplRIdeal.main_arg1)
      ∧ r.2.mem ((c.tc : Thread Cert.AdamwReplRIdeal.nD Cert.AdamwReplRIdeal.τ).loc Cert.AdamwReplRIdeal.main_arg2) = m ((c.tc : Thread Cert.AdamwReplRIdeal.nD Cert.AdamwReplRIdeal.τ).loc Cert.AdamwReplRIdeal.main_arg2)
      ∧ r.2.mem ((c.tc : Thread Cert.AdamwReplRIdeal.nD Cert.AdamwReplRIdeal.τ).loc Cert.AdamwReplRIdeal.main_arg3) = m ((c.tc : Thread Cert.AdamwReplRIdeal.nD Cert.AdamwReplRIdeal.τ).loc Cert.AdamwReplRIdeal.main_arg3))
      ∧ r.2.sem = fun _ => 0)

def quiescent_StepSmall [hStepSmall : Cert.StepSmall.Facts] : Prop :=
  ∀ (m : (ℓ : Loc Cert.StepSmall.nD Cert.StepSmall.τ Cert.StepSmall.sig) → Buf (Elt Bits) ℓ) (g : Dev Cert.StepSmall.nD → PrngReg), Pre_StepSmall m →
    θ_run (Cert.StepSmall.defs (F := Bits)) (onTc (τ := Cert.StepSmall.τ) (Cert.StepSmall.main (F := Bits))) ⟨m, fun _ => 0, g⟩ (fun r => (∀ c : Dev Cert.StepSmall.nD,
      r.2.mem ((c.tc : Thread Cert.StepSmall.nD Cert.StepSmall.τ).loc Cert.StepSmall.main_arg0) = m ((c.tc : Thread Cert.StepSmall.nD Cert.StepSmall.τ).loc Cert.StepSmall.main_arg0)
      ∧ r.2.mem ((c.tc : Thread Cert.StepSmall.nD Cert.StepSmall.τ).loc Cert.StepSmall.main_arg1) = m ((c.tc : Thread Cert.StepSmall.nD Cert.StepSmall.τ).loc Cert.StepSmall.main_arg1)
      ∧ r.2.mem ((c.tc : Thread Cert.StepSmall.nD Cert.StepSmall.τ).loc Cert.StepSmall.main_arg2) = m ((c.tc : Thread Cert.StepSmall.nD Cert.StepSmall.τ).loc Cert.StepSmall.main_arg2)
      ∧ r.2.mem ((c.tc : Thread Cert.StepSmall.nD Cert.StepSmall.τ).loc Cert.StepSmall.main_arg3) = m ((c.tc : Thread Cert.StepSmall.nD Cert.StepSmall.τ).loc Cert.StepSmall.main_arg3)
      ∧ r.2.mem ((c.tc : Thread Cert.StepSmall.nD Cert.StepSmall.τ).loc Cert.StepSmall.main_arg4) = m ((c.tc : Thread Cert.StepSmall.nD Cert.StepSmall.τ).loc Cert.StepSmall.main_arg4)
      ∧ r.2.mem ((c.tc : Thread Cert.StepSmall.nD Cert.StepSmall.τ).loc Cert.StepSmall.main_arg5) = m ((c.tc : Thread Cert.StepSmall.nD Cert.StepSmall.τ).loc Cert.StepSmall.main_arg5)
      ∧ r.2.mem ((c.tc : Thread Cert.StepSmall.nD Cert.StepSmall.τ).loc Cert.StepSmall.main_arg6) = m ((c.tc : Thread Cert.StepSmall.nD Cert.StepSmall.τ).loc Cert.StepSmall.main_arg6)
      ∧ r.2.mem ((c.tc : Thread Cert.StepSmall.nD Cert.StepSmall.τ).loc Cert.StepSmall.main_arg7) = m ((c.tc : Thread Cert.StepSmall.nD Cert.StepSmall.τ).loc Cert.StepSmall.main_arg7)
      ∧ r.2.mem ((c.tc : Thread Cert.StepSmall.nD Cert.StepSmall.τ).loc Cert.StepSmall.main_arg8) = m ((c.tc : Thread Cert.StepSmall.nD Cert.StepSmall.τ).loc Cert.StepSmall.main_arg8)
      ∧ r.2.mem ((c.tc : Thread Cert.StepSmall.nD Cert.StepSmall.τ).loc Cert.StepSmall.main_arg9) = m ((c.tc : Thread Cert.StepSmall.nD Cert.StepSmall.τ).loc Cert.StepSmall.main_arg9)
      ∧ r.2.mem ((c.tc : Thread Cert.StepSmall.nD Cert.StepSmall.τ).loc Cert.StepSmall.main_arg10) = m ((c.tc : Thread Cert.StepSmall.nD Cert.StepSmall.τ).loc Cert.StepSmall.main_arg10)
      ∧ r.2.mem ((c.tc : Thread Cert.StepSmall.nD Cert.StepSmall.τ).loc Cert.StepSmall.main_arg11) = m ((c.tc : Thread Cert.StepSmall.nD Cert.StepSmall.τ).loc Cert.StepSmall.main_arg11))
      ∧ r.2.sem = fun _ => 0)

def quiescent_StepSmallIdeal [hStepSmallIdeal : Cert.StepSmallIdeal.Facts] : Prop :=
  ∀ (m : (ℓ : Loc Cert.StepSmallIdeal.nD Cert.StepSmallIdeal.τ Cert.StepSmallIdeal.sig) → Buf (Elt Ideal) ℓ) (g : Dev Cert.StepSmallIdeal.nD → PrngReg), Pre_StepSmallIdeal m →
    θ_run (Cert.StepSmallIdeal.defs (F := Ideal)) (onTc (τ := Cert.StepSmallIdeal.τ) (Cert.StepSmallIdeal.main (F := Ideal))) ⟨m, fun _ => 0, g⟩ (fun r => (∀ c : Dev Cert.StepSmallIdeal.nD,
      r.2.mem ((c.tc : Thread Cert.StepSmallIdeal.nD Cert.StepSmallIdeal.τ).loc Cert.StepSmallIdeal.main_arg0) = m ((c.tc : Thread Cert.StepSmallIdeal.nD Cert.StepSmallIdeal.τ).loc Cert.StepSmallIdeal.main_arg0)
      ∧ r.2.mem ((c.tc : Thread Cert.StepSmallIdeal.nD Cert.StepSmallIdeal.τ).loc Cert.StepSmallIdeal.main_arg1) = m ((c.tc : Thread Cert.StepSmallIdeal.nD Cert.StepSmallIdeal.τ).loc Cert.StepSmallIdeal.main_arg1)
      ∧ r.2.mem ((c.tc : Thread Cert.StepSmallIdeal.nD Cert.StepSmallIdeal.τ).loc Cert.StepSmallIdeal.main_arg2) = m ((c.tc : Thread Cert.StepSmallIdeal.nD Cert.StepSmallIdeal.τ).loc Cert.StepSmallIdeal.main_arg2)
      ∧ r.2.mem ((c.tc : Thread Cert.StepSmallIdeal.nD Cert.StepSmallIdeal.τ).loc Cert.StepSmallIdeal.main_arg3) = m ((c.tc : Thread Cert.StepSmallIdeal.nD Cert.StepSmallIdeal.τ).loc Cert.StepSmallIdeal.main_arg3)
      ∧ r.2.mem ((c.tc : Thread Cert.StepSmallIdeal.nD Cert.StepSmallIdeal.τ).loc Cert.StepSmallIdeal.main_arg4) = m ((c.tc : Thread Cert.StepSmallIdeal.nD Cert.StepSmallIdeal.τ).loc Cert.StepSmallIdeal.main_arg4)
      ∧ r.2.mem ((c.tc : Thread Cert.StepSmallIdeal.nD Cert.StepSmallIdeal.τ).loc Cert.StepSmallIdeal.main_arg5) = m ((c.tc : Thread Cert.StepSmallIdeal.nD Cert.StepSmallIdeal.τ).loc Cert.StepSmallIdeal.main_arg5)
      ∧ r.2.mem ((c.tc : Thread Cert.StepSmallIdeal.nD Cert.StepSmallIdeal.τ).loc Cert.StepSmallIdeal.main_arg6) = m ((c.tc : Thread Cert.StepSmallIdeal.nD Cert.StepSmallIdeal.τ).loc Cert.StepSmallIdeal.main_arg6)
      ∧ r.2.mem ((c.tc : Thread Cert.StepSmallIdeal.nD Cert.StepSmallIdeal.τ).loc Cert.StepSmallIdeal.main_arg7) = m ((c.tc : Thread Cert.StepSmallIdeal.nD Cert.StepSmallIdeal.τ).loc Cert.StepSmallIdeal.main_arg7)
      ∧ r.2.mem ((c.tc : Thread Cert.StepSmallIdeal.nD Cert.StepSmallIdeal.τ).loc Cert.StepSmallIdeal.main_arg8) = m ((c.tc : Thread Cert.StepSmallIdeal.nD Cert.StepSmallIdeal.τ).loc Cert.StepSmallIdeal.main_arg8)
      ∧ r.2.mem ((c.tc : Thread Cert.StepSmallIdeal.nD Cert.StepSmallIdeal.τ).loc Cert.StepSmallIdeal.main_arg9) = m ((c.tc : Thread Cert.StepSmallIdeal.nD Cert.StepSmallIdeal.τ).loc Cert.StepSmallIdeal.main_arg9)
      ∧ r.2.mem ((c.tc : Thread Cert.StepSmallIdeal.nD Cert.StepSmallIdeal.τ).loc Cert.StepSmallIdeal.main_arg10) = m ((c.tc : Thread Cert.StepSmallIdeal.nD Cert.StepSmallIdeal.τ).loc Cert.StepSmallIdeal.main_arg10)
      ∧ r.2.mem ((c.tc : Thread Cert.StepSmallIdeal.nD Cert.StepSmallIdeal.τ).loc Cert.StepSmallIdeal.main_arg11) = m ((c.tc : Thread Cert.StepSmallIdeal.nD Cert.StepSmallIdeal.τ).loc Cert.StepSmallIdeal.main_arg11))
      ∧ r.2.sem = fun _ => 0)

def quiescent_StepSmallRIdeal [hStepSmallRIdeal : Cert.StepSmallRIdeal.Facts] : Prop :=
  ∀ (m : (ℓ : Loc Cert.StepSmallRIdeal.nD Cert.StepSmallRIdeal.τ Cert.StepSmallRIdeal.sig) → Buf (Elt Ideal) ℓ) (g : Dev Cert.StepSmallRIdeal.nD → PrngReg), Pre_StepSmallRIdeal m →
    θ_run (Cert.StepSmallRIdeal.defs (F := Ideal)) (onTc (τ := Cert.StepSmallRIdeal.τ) (Cert.StepSmallRIdeal.main (F := Ideal))) ⟨m, fun _ => 0, g⟩ (fun r => (∀ c : Dev Cert.StepSmallRIdeal.nD,
      r.2.mem ((c.tc : Thread Cert.StepSmallRIdeal.nD Cert.StepSmallRIdeal.τ).loc Cert.StepSmallRIdeal.main_arg0) = m ((c.tc : Thread Cert.StepSmallRIdeal.nD Cert.StepSmallRIdeal.τ).loc Cert.StepSmallRIdeal.main_arg0)
      ∧ r.2.mem ((c.tc : Thread Cert.StepSmallRIdeal.nD Cert.StepSmallRIdeal.τ).loc Cert.StepSmallRIdeal.main_arg1) = m ((c.tc : Thread Cert.StepSmallRIdeal.nD Cert.StepSmallRIdeal.τ).loc Cert.StepSmallRIdeal.main_arg1)
      ∧ r.2.mem ((c.tc : Thread Cert.StepSmallRIdeal.nD Cert.StepSmallRIdeal.τ).loc Cert.StepSmallRIdeal.main_arg2) = m ((c.tc : Thread Cert.StepSmallRIdeal.nD Cert.StepSmallRIdeal.τ).loc Cert.StepSmallRIdeal.main_arg2)
      ∧ r.2.mem ((c.tc : Thread Cert.StepSmallRIdeal.nD Cert.StepSmallRIdeal.τ).loc Cert.StepSmallRIdeal.main_arg3) = m ((c.tc : Thread Cert.StepSmallRIdeal.nD Cert.StepSmallRIdeal.τ).loc Cert.StepSmallRIdeal.main_arg3)
      ∧ r.2.mem ((c.tc : Thread Cert.StepSmallRIdeal.nD Cert.StepSmallRIdeal.τ).loc Cert.StepSmallRIdeal.main_arg4) = m ((c.tc : Thread Cert.StepSmallRIdeal.nD Cert.StepSmallRIdeal.τ).loc Cert.StepSmallRIdeal.main_arg4)
      ∧ r.2.mem ((c.tc : Thread Cert.StepSmallRIdeal.nD Cert.StepSmallRIdeal.τ).loc Cert.StepSmallRIdeal.main_arg5) = m ((c.tc : Thread Cert.StepSmallRIdeal.nD Cert.StepSmallRIdeal.τ).loc Cert.StepSmallRIdeal.main_arg5)
      ∧ r.2.mem ((c.tc : Thread Cert.StepSmallRIdeal.nD Cert.StepSmallRIdeal.τ).loc Cert.StepSmallRIdeal.main_arg6) = m ((c.tc : Thread Cert.StepSmallRIdeal.nD Cert.StepSmallRIdeal.τ).loc Cert.StepSmallRIdeal.main_arg6)
      ∧ r.2.mem ((c.tc : Thread Cert.StepSmallRIdeal.nD Cert.StepSmallRIdeal.τ).loc Cert.StepSmallRIdeal.main_arg7) = m ((c.tc : Thread Cert.StepSmallRIdeal.nD Cert.StepSmallRIdeal.τ).loc Cert.StepSmallRIdeal.main_arg7)
      ∧ r.2.mem ((c.tc : Thread Cert.StepSmallRIdeal.nD Cert.StepSmallRIdeal.τ).loc Cert.StepSmallRIdeal.main_arg8) = m ((c.tc : Thread Cert.StepSmallRIdeal.nD Cert.StepSmallRIdeal.τ).loc Cert.StepSmallRIdeal.main_arg8)
      ∧ r.2.mem ((c.tc : Thread Cert.StepSmallRIdeal.nD Cert.StepSmallRIdeal.τ).loc Cert.StepSmallRIdeal.main_arg9) = m ((c.tc : Thread Cert.StepSmallRIdeal.nD Cert.StepSmallRIdeal.τ).loc Cert.StepSmallRIdeal.main_arg9)
      ∧ r.2.mem ((c.tc : Thread Cert.StepSmallRIdeal.nD Cert.StepSmallRIdeal.τ).loc Cert.StepSmallRIdeal.main_arg10) = m ((c.tc : Thread Cert.StepSmallRIdeal.nD Cert.StepSmallRIdeal.τ).loc Cert.StepSmallRIdeal.main_arg10)
      ∧ r.2.mem ((c.tc : Thread Cert.StepSmallRIdeal.nD Cert.StepSmallRIdeal.τ).loc Cert.StepSmallRIdeal.main_arg11) = m ((c.tc : Thread Cert.StepSmallRIdeal.nD Cert.StepSmallRIdeal.τ).loc Cert.StepSmallRIdeal.main_arg11))
      ∧ r.2.sem = fun _ => 0)

def quiescent_StepRepl [hStepRepl : Cert.StepRepl.Facts] : Prop :=
  ∀ (m : (ℓ : Loc Cert.StepRepl.nD Cert.StepRepl.τ Cert.StepRepl.sig) → Buf (Elt Bits) ℓ) (g : Dev Cert.StepRepl.nD → PrngReg), Pre_StepRepl m →
    θ_run (Cert.StepRepl.defs (F := Bits)) (onTc (τ := Cert.StepRepl.τ) (Cert.StepRepl.main (F := Bits))) ⟨m, fun _ => 0, g⟩ (fun r => (∀ c : Dev Cert.StepRepl.nD,
      r.2.mem ((c.tc : Thread Cert.StepRepl.nD Cert.StepRepl.τ).loc Cert.StepRepl.main_arg0) = m ((c.tc : Thread Cert.StepRepl.nD Cert.StepRepl.τ).loc Cert.StepRepl.main_arg0)
      ∧ r.2.mem ((c.tc : Thread Cert.StepRepl.nD Cert.StepRepl.τ).loc Cert.StepRepl.main_arg1) = m ((c.tc : Thread Cert.StepRepl.nD Cert.StepRepl.τ).loc Cert.StepRepl.main_arg1)
      ∧ r.2.mem ((c.tc : Thread Cert.StepRepl.nD Cert.StepRepl.τ).loc Cert.StepRepl.main_arg2) = m ((c.tc : Thread Cert.StepRepl.nD Cert.StepRepl.τ).loc Cert.StepRepl.main_arg2)
      ∧ r.2.mem ((c.tc : Thread Cert.StepRepl.nD Cert.StepRepl.τ).loc Cert.StepRepl.main_arg3) = m ((c.tc : Thread Cert.StepRepl.nD Cert.StepRepl.τ).loc Cert.StepRepl.main_arg3)
      ∧ r.2.mem ((c.tc : Thread Cert.StepRepl.nD Cert.StepRepl.τ).loc Cert.StepRepl.main_arg4) = m ((c.tc : Thread Cert.StepRepl.nD Cert.StepRepl.τ).loc Cert.StepRepl.main_arg4)
      ∧ r.2.mem ((c.tc : Thread Cert.StepRepl.nD Cert.StepRepl.τ).loc Cert.StepRepl.main_arg5) = m ((c.tc : Thread Cert.StepRepl.nD Cert.StepRepl.τ).loc Cert.StepRepl.main_arg5)
      ∧ r.2.mem ((c.tc : Thread Cert.StepRepl.nD Cert.StepRepl.τ).loc Cert.StepRepl.main_arg6) = m ((c.tc : Thread Cert.StepRepl.nD Cert.StepRepl.τ).loc Cert.StepRepl.main_arg6)
      ∧ r.2.mem ((c.tc : Thread Cert.StepRepl.nD Cert.StepRepl.τ).loc Cert.StepRepl.main_arg7) = m ((c.tc : Thread Cert.StepRepl.nD Cert.StepRepl.τ).loc Cert.StepRepl.main_arg7)
      ∧ r.2.mem ((c.tc : Thread Cert.StepRepl.nD Cert.StepRepl.τ).loc Cert.StepRepl.main_arg8) = m ((c.tc : Thread Cert.StepRepl.nD Cert.StepRepl.τ).loc Cert.StepRepl.main_arg8)
      ∧ r.2.mem ((c.tc : Thread Cert.StepRepl.nD Cert.StepRepl.τ).loc Cert.StepRepl.main_arg9) = m ((c.tc : Thread Cert.StepRepl.nD Cert.StepRepl.τ).loc Cert.StepRepl.main_arg9)
      ∧ r.2.mem ((c.tc : Thread Cert.StepRepl.nD Cert.StepRepl.τ).loc Cert.StepRepl.main_arg10) = m ((c.tc : Thread Cert.StepRepl.nD Cert.StepRepl.τ).loc Cert.StepRepl.main_arg10)
      ∧ r.2.mem ((c.tc : Thread Cert.StepRepl.nD Cert.StepRepl.τ).loc Cert.StepRepl.main_arg11) = m ((c.tc : Thread Cert.StepRepl.nD Cert.StepRepl.τ).loc Cert.StepRepl.main_arg11)
      ∧ r.2.mem ((c.tc : Thread Cert.StepRepl.nD Cert.StepRepl.τ).loc Cert.StepRepl.main_arg12) = m ((c.tc : Thread Cert.StepRepl.nD Cert.StepRepl.τ).loc Cert.StepRepl.main_arg12)
      ∧ r.2.mem ((c.tc : Thread Cert.StepRepl.nD Cert.StepRepl.τ).loc Cert.StepRepl.main_arg13) = m ((c.tc : Thread Cert.StepRepl.nD Cert.StepRepl.τ).loc Cert.StepRepl.main_arg13)
      ∧ r.2.mem ((c.tc : Thread Cert.StepRepl.nD Cert.StepRepl.τ).loc Cert.StepRepl.main_arg14) = m ((c.tc : Thread Cert.StepRepl.nD Cert.StepRepl.τ).loc Cert.StepRepl.main_arg14)
      ∧ r.2.mem ((c.tc : Thread Cert.StepRepl.nD Cert.StepRepl.τ).loc Cert.StepRepl.main_arg15) = m ((c.tc : Thread Cert.StepRepl.nD Cert.StepRepl.τ).loc Cert.StepRepl.main_arg15)
      ∧ r.2.mem ((c.tc : Thread Cert.StepRepl.nD Cert.StepRepl.τ).loc Cert.StepRepl.main_arg16) = m ((c.tc : Thread Cert.StepRepl.nD Cert.StepRepl.τ).loc Cert.StepRepl.main_arg16)
      ∧ r.2.mem ((c.tc : Thread Cert.StepRepl.nD Cert.StepRepl.τ).loc Cert.StepRepl.main_arg17) = m ((c.tc : Thread Cert.StepRepl.nD Cert.StepRepl.τ).loc Cert.StepRepl.main_arg17)
      ∧ r.2.mem ((c.tc : Thread Cert.StepRepl.nD Cert.StepRepl.τ).loc Cert.StepRepl.main_arg18) = m ((c.tc : Thread Cert.StepRepl.nD Cert.StepRepl.τ).loc Cert.StepRepl.main_arg18)
      ∧ r.2.mem ((c.tc : Thread Cert.StepRepl.nD Cert.StepRepl.τ).loc Cert.StepRepl.main_arg19) = m ((c.tc : Thread Cert.StepRepl.nD Cert.StepRepl.τ).loc Cert.StepRepl.main_arg19)
      ∧ r.2.mem ((c.tc : Thread Cert.StepRepl.nD Cert.StepRepl.τ).loc Cert.StepRepl.main_arg20) = m ((c.tc : Thread Cert.StepRepl.nD Cert.StepRepl.τ).loc Cert.StepRepl.main_arg20)
      ∧ r.2.mem ((c.tc : Thread Cert.StepRepl.nD Cert.StepRepl.τ).loc Cert.StepRepl.main_arg21) = m ((c.tc : Thread Cert.StepRepl.nD Cert.StepRepl.τ).loc Cert.StepRepl.main_arg21)
      ∧ r.2.mem ((c.tc : Thread Cert.StepRepl.nD Cert.StepRepl.τ).loc Cert.StepRepl.main_arg22) = m ((c.tc : Thread Cert.StepRepl.nD Cert.StepRepl.τ).loc Cert.StepRepl.main_arg22)
      ∧ r.2.mem ((c.tc : Thread Cert.StepRepl.nD Cert.StepRepl.τ).loc Cert.StepRepl.main_arg23) = m ((c.tc : Thread Cert.StepRepl.nD Cert.StepRepl.τ).loc Cert.StepRepl.main_arg23)
      ∧ r.2.mem ((c.tc : Thread Cert.StepRepl.nD Cert.StepRepl.τ).loc Cert.StepRepl.main_arg24) = m ((c.tc : Thread Cert.StepRepl.nD Cert.StepRepl.τ).loc Cert.StepRepl.main_arg24)
      ∧ r.2.mem ((c.tc : Thread Cert.StepRepl.nD Cert.StepRepl.τ).loc Cert.StepRepl.main_arg25) = m ((c.tc : Thread Cert.StepRepl.nD Cert.StepRepl.τ).loc Cert.StepRepl.main_arg25)
      ∧ r.2.mem ((c.tc : Thread Cert.StepRepl.nD Cert.StepRepl.τ).loc Cert.StepRepl.main_arg26) = m ((c.tc : Thread Cert.StepRepl.nD Cert.StepRepl.τ).loc Cert.StepRepl.main_arg26)
      ∧ r.2.mem ((c.tc : Thread Cert.StepRepl.nD Cert.StepRepl.τ).loc Cert.StepRepl.main_arg27) = m ((c.tc : Thread Cert.StepRepl.nD Cert.StepRepl.τ).loc Cert.StepRepl.main_arg27)
      ∧ r.2.mem ((c.tc : Thread Cert.StepRepl.nD Cert.StepRepl.τ).loc Cert.StepRepl.main_arg28) = m ((c.tc : Thread Cert.StepRepl.nD Cert.StepRepl.τ).loc Cert.StepRepl.main_arg28)
      ∧ r.2.mem ((c.tc : Thread Cert.StepRepl.nD Cert.StepRepl.τ).loc Cert.StepRepl.main_arg29) = m ((c.tc : Thread Cert.StepRepl.nD Cert.StepRepl.τ).loc Cert.StepRepl.main_arg29)
      ∧ r.2.mem ((c.tc : Thread Cert.StepRepl.nD Cert.StepRepl.τ).loc Cert.StepRepl.main_arg30) = m ((c.tc : Thread Cert.StepRepl.nD Cert.StepRepl.τ).loc Cert.StepRepl.main_arg30)
      ∧ r.2.mem ((c.tc : Thread Cert.StepRepl.nD Cert.StepRepl.τ).loc Cert.StepRepl.main_arg31) = m ((c.tc : Thread Cert.StepRepl.nD Cert.StepRepl.τ).loc Cert.StepRepl.main_arg31))
      ∧ r.2.sem = fun _ => 0)

def quiescent_StepReplIdeal [hStepReplIdeal : Cert.StepReplIdeal.Facts] : Prop :=
  ∀ (m : (ℓ : Loc Cert.StepReplIdeal.nD Cert.StepReplIdeal.τ Cert.StepReplIdeal.sig) → Buf (Elt Ideal) ℓ) (g : Dev Cert.StepReplIdeal.nD → PrngReg), Pre_StepReplIdeal m →
    θ_run (Cert.StepReplIdeal.defs (F := Ideal)) (onTc (τ := Cert.StepReplIdeal.τ) (Cert.StepReplIdeal.main (F := Ideal))) ⟨m, fun _ => 0, g⟩ (fun r => (∀ c : Dev Cert.StepReplIdeal.nD,
      r.2.mem ((c.tc : Thread Cert.StepReplIdeal.nD Cert.StepReplIdeal.τ).loc Cert.StepReplIdeal.main_arg0) = m ((c.tc : Thread Cert.StepReplIdeal.nD Cert.StepReplIdeal.τ).loc Cert.StepReplIdeal.main_arg0)
      ∧ r.2.mem ((c.tc : Thread Cert.StepReplIdeal.nD Cert.StepReplIdeal.τ).loc Cert.StepReplIdeal.main_arg1) = m ((c.tc : Thread Cert.StepReplIdeal.nD Cert.StepReplIdeal.τ).loc Cert.StepReplIdeal.main_arg1)
      ∧ r.2.mem ((c.tc : Thread Cert.StepReplIdeal.nD Cert.StepReplIdeal.τ).loc Cert.StepReplIdeal.main_arg2) = m ((c.tc : Thread Cert.StepReplIdeal.nD Cert.StepReplIdeal.τ).loc Cert.StepReplIdeal.main_arg2)
      ∧ r.2.mem ((c.tc : Thread Cert.StepReplIdeal.nD Cert.StepReplIdeal.τ).loc Cert.StepReplIdeal.main_arg3) = m ((c.tc : Thread Cert.StepReplIdeal.nD Cert.StepReplIdeal.τ).loc Cert.StepReplIdeal.main_arg3)
      ∧ r.2.mem ((c.tc : Thread Cert.StepReplIdeal.nD Cert.StepReplIdeal.τ).loc Cert.StepReplIdeal.main_arg4) = m ((c.tc : Thread Cert.StepReplIdeal.nD Cert.StepReplIdeal.τ).loc Cert.StepReplIdeal.main_arg4)
      ∧ r.2.mem ((c.tc : Thread Cert.StepReplIdeal.nD Cert.StepReplIdeal.τ).loc Cert.StepReplIdeal.main_arg5) = m ((c.tc : Thread Cert.StepReplIdeal.nD Cert.StepReplIdeal.τ).loc Cert.StepReplIdeal.main_arg5)
      ∧ r.2.mem ((c.tc : Thread Cert.StepReplIdeal.nD Cert.StepReplIdeal.τ).loc Cert.StepReplIdeal.main_arg6) = m ((c.tc : Thread Cert.StepReplIdeal.nD Cert.StepReplIdeal.τ).loc Cert.StepReplIdeal.main_arg6)
      ∧ r.2.mem ((c.tc : Thread Cert.StepReplIdeal.nD Cert.StepReplIdeal.τ).loc Cert.StepReplIdeal.main_arg7) = m ((c.tc : Thread Cert.StepReplIdeal.nD Cert.StepReplIdeal.τ).loc Cert.StepReplIdeal.main_arg7)
      ∧ r.2.mem ((c.tc : Thread Cert.StepReplIdeal.nD Cert.StepReplIdeal.τ).loc Cert.StepReplIdeal.main_arg8) = m ((c.tc : Thread Cert.StepReplIdeal.nD Cert.StepReplIdeal.τ).loc Cert.StepReplIdeal.main_arg8)
      ∧ r.2.mem ((c.tc : Thread Cert.StepReplIdeal.nD Cert.StepReplIdeal.τ).loc Cert.StepReplIdeal.main_arg9) = m ((c.tc : Thread Cert.StepReplIdeal.nD Cert.StepReplIdeal.τ).loc Cert.StepReplIdeal.main_arg9)
      ∧ r.2.mem ((c.tc : Thread Cert.StepReplIdeal.nD Cert.StepReplIdeal.τ).loc Cert.StepReplIdeal.main_arg10) = m ((c.tc : Thread Cert.StepReplIdeal.nD Cert.StepReplIdeal.τ).loc Cert.StepReplIdeal.main_arg10)
      ∧ r.2.mem ((c.tc : Thread Cert.StepReplIdeal.nD Cert.StepReplIdeal.τ).loc Cert.StepReplIdeal.main_arg11) = m ((c.tc : Thread Cert.StepReplIdeal.nD Cert.StepReplIdeal.τ).loc Cert.StepReplIdeal.main_arg11)
      ∧ r.2.mem ((c.tc : Thread Cert.StepReplIdeal.nD Cert.StepReplIdeal.τ).loc Cert.StepReplIdeal.main_arg12) = m ((c.tc : Thread Cert.StepReplIdeal.nD Cert.StepReplIdeal.τ).loc Cert.StepReplIdeal.main_arg12)
      ∧ r.2.mem ((c.tc : Thread Cert.StepReplIdeal.nD Cert.StepReplIdeal.τ).loc Cert.StepReplIdeal.main_arg13) = m ((c.tc : Thread Cert.StepReplIdeal.nD Cert.StepReplIdeal.τ).loc Cert.StepReplIdeal.main_arg13)
      ∧ r.2.mem ((c.tc : Thread Cert.StepReplIdeal.nD Cert.StepReplIdeal.τ).loc Cert.StepReplIdeal.main_arg14) = m ((c.tc : Thread Cert.StepReplIdeal.nD Cert.StepReplIdeal.τ).loc Cert.StepReplIdeal.main_arg14)
      ∧ r.2.mem ((c.tc : Thread Cert.StepReplIdeal.nD Cert.StepReplIdeal.τ).loc Cert.StepReplIdeal.main_arg15) = m ((c.tc : Thread Cert.StepReplIdeal.nD Cert.StepReplIdeal.τ).loc Cert.StepReplIdeal.main_arg15)
      ∧ r.2.mem ((c.tc : Thread Cert.StepReplIdeal.nD Cert.StepReplIdeal.τ).loc Cert.StepReplIdeal.main_arg16) = m ((c.tc : Thread Cert.StepReplIdeal.nD Cert.StepReplIdeal.τ).loc Cert.StepReplIdeal.main_arg16)
      ∧ r.2.mem ((c.tc : Thread Cert.StepReplIdeal.nD Cert.StepReplIdeal.τ).loc Cert.StepReplIdeal.main_arg17) = m ((c.tc : Thread Cert.StepReplIdeal.nD Cert.StepReplIdeal.τ).loc Cert.StepReplIdeal.main_arg17)
      ∧ r.2.mem ((c.tc : Thread Cert.StepReplIdeal.nD Cert.StepReplIdeal.τ).loc Cert.StepReplIdeal.main_arg18) = m ((c.tc : Thread Cert.StepReplIdeal.nD Cert.StepReplIdeal.τ).loc Cert.StepReplIdeal.main_arg18)
      ∧ r.2.mem ((c.tc : Thread Cert.StepReplIdeal.nD Cert.StepReplIdeal.τ).loc Cert.StepReplIdeal.main_arg19) = m ((c.tc : Thread Cert.StepReplIdeal.nD Cert.StepReplIdeal.τ).loc Cert.StepReplIdeal.main_arg19)
      ∧ r.2.mem ((c.tc : Thread Cert.StepReplIdeal.nD Cert.StepReplIdeal.τ).loc Cert.StepReplIdeal.main_arg20) = m ((c.tc : Thread Cert.StepReplIdeal.nD Cert.StepReplIdeal.τ).loc Cert.StepReplIdeal.main_arg20)
      ∧ r.2.mem ((c.tc : Thread Cert.StepReplIdeal.nD Cert.StepReplIdeal.τ).loc Cert.StepReplIdeal.main_arg21) = m ((c.tc : Thread Cert.StepReplIdeal.nD Cert.StepReplIdeal.τ).loc Cert.StepReplIdeal.main_arg21)
      ∧ r.2.mem ((c.tc : Thread Cert.StepReplIdeal.nD Cert.StepReplIdeal.τ).loc Cert.StepReplIdeal.main_arg22) = m ((c.tc : Thread Cert.StepReplIdeal.nD Cert.StepReplIdeal.τ).loc Cert.StepReplIdeal.main_arg22)
      ∧ r.2.mem ((c.tc : Thread Cert.StepReplIdeal.nD Cert.StepReplIdeal.τ).loc Cert.StepReplIdeal.main_arg23) = m ((c.tc : Thread Cert.StepReplIdeal.nD Cert.StepReplIdeal.τ).loc Cert.StepReplIdeal.main_arg23)
      ∧ r.2.mem ((c.tc : Thread Cert.StepReplIdeal.nD Cert.StepReplIdeal.τ).loc Cert.StepReplIdeal.main_arg24) = m ((c.tc : Thread Cert.StepReplIdeal.nD Cert.StepReplIdeal.τ).loc Cert.StepReplIdeal.main_arg24)
      ∧ r.2.mem ((c.tc : Thread Cert.StepReplIdeal.nD Cert.StepReplIdeal.τ).loc Cert.StepReplIdeal.main_arg25) = m ((c.tc : Thread Cert.StepReplIdeal.nD Cert.StepReplIdeal.τ).loc Cert.StepReplIdeal.main_arg25)
      ∧ r.2.mem ((c.tc : Thread Cert.StepReplIdeal.nD Cert.StepReplIdeal.τ).loc Cert.StepReplIdeal.main_arg26) = m ((c.tc : Thread Cert.StepReplIdeal.nD Cert.StepReplIdeal.τ).loc Cert.StepReplIdeal.main_arg26)
      ∧ r.2.mem ((c.tc : Thread Cert.StepReplIdeal.nD Cert.StepReplIdeal.τ).loc Cert.StepReplIdeal.main_arg27) = m ((c.tc : Thread Cert.StepReplIdeal.nD Cert.StepReplIdeal.τ).loc Cert.StepReplIdeal.main_arg27)
      ∧ r.2.mem ((c.tc : Thread Cert.StepReplIdeal.nD Cert.StepReplIdeal.τ).loc Cert.StepReplIdeal.main_arg28) = m ((c.tc : Thread Cert.StepReplIdeal.nD Cert.StepReplIdeal.τ).loc Cert.StepReplIdeal.main_arg28)
      ∧ r.2.mem ((c.tc : Thread Cert.StepReplIdeal.nD Cert.StepReplIdeal.τ).loc Cert.StepReplIdeal.main_arg29) = m ((c.tc : Thread Cert.StepReplIdeal.nD Cert.StepReplIdeal.τ).loc Cert.StepReplIdeal.main_arg29)
      ∧ r.2.mem ((c.tc : Thread Cert.StepReplIdeal.nD Cert.StepReplIdeal.τ).loc Cert.StepReplIdeal.main_arg30) = m ((c.tc : Thread Cert.StepReplIdeal.nD Cert.StepReplIdeal.τ).loc Cert.StepReplIdeal.main_arg30)
      ∧ r.2.mem ((c.tc : Thread Cert.StepReplIdeal.nD Cert.StepReplIdeal.τ).loc Cert.StepReplIdeal.main_arg31) = m ((c.tc : Thread Cert.StepReplIdeal.nD Cert.StepReplIdeal.τ).loc Cert.StepReplIdeal.main_arg31))
      ∧ r.2.sem = fun _ => 0)

def quiescent_StepReplRIdeal [hStepReplRIdeal : Cert.StepReplRIdeal.Facts] : Prop :=
  ∀ (m : (ℓ : Loc Cert.StepReplRIdeal.nD Cert.StepReplRIdeal.τ Cert.StepReplRIdeal.sig) → Buf (Elt Ideal) ℓ) (g : Dev Cert.StepReplRIdeal.nD → PrngReg), Pre_StepReplRIdeal m →
    θ_run (Cert.StepReplRIdeal.defs (F := Ideal)) (onTc (τ := Cert.StepReplRIdeal.τ) (Cert.StepReplRIdeal.main (F := Ideal))) ⟨m, fun _ => 0, g⟩ (fun r => (∀ c : Dev Cert.StepReplRIdeal.nD,
      r.2.mem ((c.tc : Thread Cert.StepReplRIdeal.nD Cert.StepReplRIdeal.τ).loc Cert.StepReplRIdeal.main_arg0) = m ((c.tc : Thread Cert.StepReplRIdeal.nD Cert.StepReplRIdeal.τ).loc Cert.StepReplRIdeal.main_arg0)
      ∧ r.2.mem ((c.tc : Thread Cert.StepReplRIdeal.nD Cert.StepReplRIdeal.τ).loc Cert.StepReplRIdeal.main_arg1) = m ((c.tc : Thread Cert.StepReplRIdeal.nD Cert.StepReplRIdeal.τ).loc Cert.StepReplRIdeal.main_arg1)
      ∧ r.2.mem ((c.tc : Thread Cert.StepReplRIdeal.nD Cert.StepReplRIdeal.τ).loc Cert.StepReplRIdeal.main_arg2) = m ((c.tc : Thread Cert.StepReplRIdeal.nD Cert.StepReplRIdeal.τ).loc Cert.StepReplRIdeal.main_arg2)
      ∧ r.2.mem ((c.tc : Thread Cert.StepReplRIdeal.nD Cert.StepReplRIdeal.τ).loc Cert.StepReplRIdeal.main_arg3) = m ((c.tc : Thread Cert.StepReplRIdeal.nD Cert.StepReplRIdeal.τ).loc Cert.StepReplRIdeal.main_arg3)
      ∧ r.2.mem ((c.tc : Thread Cert.StepReplRIdeal.nD Cert.StepReplRIdeal.τ).loc Cert.StepReplRIdeal.main_arg4) = m ((c.tc : Thread Cert.StepReplRIdeal.nD Cert.StepReplRIdeal.τ).loc Cert.StepReplRIdeal.main_arg4)
      ∧ r.2.mem ((c.tc : Thread Cert.StepReplRIdeal.nD Cert.StepReplRIdeal.τ).loc Cert.StepReplRIdeal.main_arg5) = m ((c.tc : Thread Cert.StepReplRIdeal.nD Cert.StepReplRIdeal.τ).loc Cert.StepReplRIdeal.main_arg5)
      ∧ r.2.mem ((c.tc : Thread Cert.StepReplRIdeal.nD Cert.StepReplRIdeal.τ).loc Cert.StepReplRIdeal.main_arg6) = m ((c.tc : Thread Cert.StepReplRIdeal.nD Cert.StepReplRIdeal.τ).loc Cert.StepReplRIdeal.main_arg6)
      ∧ r.2.mem ((c.tc : Thread Cert.StepReplRIdeal.nD Cert.StepReplRIdeal.τ).loc Cert.StepReplRIdeal.main_arg7) = m ((c.tc : Thread Cert.StepReplRIdeal.nD Cert.StepReplRIdeal.τ).loc Cert.StepReplRIdeal.main_arg7)
      ∧ r.2.mem ((c.tc : Thread Cert.StepReplRIdeal.nD Cert.StepReplRIdeal.τ).loc Cert.StepReplRIdeal.main_arg8) = m ((c.tc : Thread Cert.StepReplRIdeal.nD Cert.StepReplRIdeal.τ).loc Cert.StepReplRIdeal.main_arg8)
      ∧ r.2.mem ((c.tc : Thread Cert.StepReplRIdeal.nD Cert.StepReplRIdeal.τ).loc Cert.StepReplRIdeal.main_arg9) = m ((c.tc : Thread Cert.StepReplRIdeal.nD Cert.StepReplRIdeal.τ).loc Cert.StepReplRIdeal.main_arg9)
      ∧ r.2.mem ((c.tc : Thread Cert.StepReplRIdeal.nD Cert.StepReplRIdeal.τ).loc Cert.StepReplRIdeal.main_arg10) = m ((c.tc : Thread Cert.StepReplRIdeal.nD Cert.StepReplRIdeal.τ).loc Cert.StepReplRIdeal.main_arg10)
      ∧ r.2.mem ((c.tc : Thread Cert.StepReplRIdeal.nD Cert.StepReplRIdeal.τ).loc Cert.StepReplRIdeal.main_arg11) = m ((c.tc : Thread Cert.StepReplRIdeal.nD Cert.StepReplRIdeal.τ).loc Cert.StepReplRIdeal.main_arg11)
      ∧ r.2.mem ((c.tc : Thread Cert.StepReplRIdeal.nD Cert.StepReplRIdeal.τ).loc Cert.StepReplRIdeal.main_arg12) = m ((c.tc : Thread Cert.StepReplRIdeal.nD Cert.StepReplRIdeal.τ).loc Cert.StepReplRIdeal.main_arg12)
      ∧ r.2.mem ((c.tc : Thread Cert.StepReplRIdeal.nD Cert.StepReplRIdeal.τ).loc Cert.StepReplRIdeal.main_arg13) = m ((c.tc : Thread Cert.StepReplRIdeal.nD Cert.StepReplRIdeal.τ).loc Cert.StepReplRIdeal.main_arg13)
      ∧ r.2.mem ((c.tc : Thread Cert.StepReplRIdeal.nD Cert.StepReplRIdeal.τ).loc Cert.StepReplRIdeal.main_arg14) = m ((c.tc : Thread Cert.StepReplRIdeal.nD Cert.StepReplRIdeal.τ).loc Cert.StepReplRIdeal.main_arg14)
      ∧ r.2.mem ((c.tc : Thread Cert.StepReplRIdeal.nD Cert.StepReplRIdeal.τ).loc Cert.StepReplRIdeal.main_arg15) = m ((c.tc : Thread Cert.StepReplRIdeal.nD Cert.StepReplRIdeal.τ).loc Cert.StepReplRIdeal.main_arg15)
      ∧ r.2.mem ((c.tc : Thread Cert.StepReplRIdeal.nD Cert.StepReplRIdeal.τ).loc Cert.StepReplRIdeal.main_arg16) = m ((c.tc : Thread Cert.StepReplRIdeal.nD Cert.StepReplRIdeal.τ).loc Cert.StepReplRIdeal.main_arg16)
      ∧ r.2.mem ((c.tc : Thread Cert.StepReplRIdeal.nD Cert.StepReplRIdeal.τ).loc Cert.StepReplRIdeal.main_arg17) = m ((c.tc : Thread Cert.StepReplRIdeal.nD Cert.StepReplRIdeal.τ).loc Cert.StepReplRIdeal.main_arg17)
      ∧ r.2.mem ((c.tc : Thread Cert.StepReplRIdeal.nD Cert.StepReplRIdeal.τ).loc Cert.StepReplRIdeal.main_arg18) = m ((c.tc : Thread Cert.StepReplRIdeal.nD Cert.StepReplRIdeal.τ).loc Cert.StepReplRIdeal.main_arg18)
      ∧ r.2.mem ((c.tc : Thread Cert.StepReplRIdeal.nD Cert.StepReplRIdeal.τ).loc Cert.StepReplRIdeal.main_arg19) = m ((c.tc : Thread Cert.StepReplRIdeal.nD Cert.StepReplRIdeal.τ).loc Cert.StepReplRIdeal.main_arg19)
      ∧ r.2.mem ((c.tc : Thread Cert.StepReplRIdeal.nD Cert.StepReplRIdeal.τ).loc Cert.StepReplRIdeal.main_arg20) = m ((c.tc : Thread Cert.StepReplRIdeal.nD Cert.StepReplRIdeal.τ).loc Cert.StepReplRIdeal.main_arg20)
      ∧ r.2.mem ((c.tc : Thread Cert.StepReplRIdeal.nD Cert.StepReplRIdeal.τ).loc Cert.StepReplRIdeal.main_arg21) = m ((c.tc : Thread Cert.StepReplRIdeal.nD Cert.StepReplRIdeal.τ).loc Cert.StepReplRIdeal.main_arg21)
      ∧ r.2.mem ((c.tc : Thread Cert.StepReplRIdeal.nD Cert.StepReplRIdeal.τ).loc Cert.StepReplRIdeal.main_arg22) = m ((c.tc : Thread Cert.StepReplRIdeal.nD Cert.StepReplRIdeal.τ).loc Cert.StepReplRIdeal.main_arg22)
      ∧ r.2.mem ((c.tc : Thread Cert.StepReplRIdeal.nD Cert.StepReplRIdeal.τ).loc Cert.StepReplRIdeal.main_arg23) = m ((c.tc : Thread Cert.StepReplRIdeal.nD Cert.StepReplRIdeal.τ).loc Cert.StepReplRIdeal.main_arg23)
      ∧ r.2.mem ((c.tc : Thread Cert.StepReplRIdeal.nD Cert.StepReplRIdeal.τ).loc Cert.StepReplRIdeal.main_arg24) = m ((c.tc : Thread Cert.StepReplRIdeal.nD Cert.StepReplRIdeal.τ).loc Cert.StepReplRIdeal.main_arg24)
      ∧ r.2.mem ((c.tc : Thread Cert.StepReplRIdeal.nD Cert.StepReplRIdeal.τ).loc Cert.StepReplRIdeal.main_arg25) = m ((c.tc : Thread Cert.StepReplRIdeal.nD Cert.StepReplRIdeal.τ).loc Cert.StepReplRIdeal.main_arg25)
      ∧ r.2.mem ((c.tc : Thread Cert.StepReplRIdeal.nD Cert.StepReplRIdeal.τ).loc Cert.StepReplRIdeal.main_arg26) = m ((c.tc : Thread Cert.StepReplRIdeal.nD Cert.StepReplRIdeal.τ).loc Cert.StepReplRIdeal.main_arg26)
      ∧ r.2.mem ((c.tc : Thread Cert.StepReplRIdeal.nD Cert.StepReplRIdeal.τ).loc Cert.StepReplRIdeal.main_arg27) = m ((c.tc : Thread Cert.StepReplRIdeal.nD Cert.StepReplRIdeal.τ).loc Cert.StepReplRIdeal.main_arg27)
      ∧ r.2.mem ((c.tc : Thread Cert.StepReplRIdeal.nD Cert.StepReplRIdeal.τ).loc Cert.StepReplRIdeal.main_arg28) = m ((c.tc : Thread Cert.StepReplRIdeal.nD Cert.StepReplRIdeal.τ).loc Cert.StepReplRIdeal.main_arg28)
      ∧ r.2.mem ((c.tc : Thread Cert.StepReplRIdeal.nD Cert.StepReplRIdeal.τ).loc Cert.StepReplRIdeal.main_arg29) = m ((c.tc : Thread Cert.StepReplRIdeal.nD Cert.StepReplRIdeal.τ).loc Cert.StepReplRIdeal.main_arg29)
      ∧ r.2.mem ((c.tc : Thread Cert.StepReplRIdeal.nD Cert.StepReplRIdeal.τ).loc Cert.StepReplRIdeal.main_arg30) = m ((c.tc : Thread Cert.StepReplRIdeal.nD Cert.StepReplRIdeal.τ).loc Cert.StepReplRIdeal.main_arg30)
      ∧ r.2.mem ((c.tc : Thread Cert.StepReplRIdeal.nD Cert.StepReplRIdeal.τ).loc Cert.StepReplRIdeal.main_arg31) = m ((c.tc : Thread Cert.StepReplRIdeal.nD Cert.StepReplRIdeal.τ).loc Cert.StepReplRIdeal.main_arg31))
      ∧ r.2.sem = fun _ => 0)

def preserves_DownDx_DownDxIdeal : Prop :=
  True

def algebraic_DownDxIdeal_DownDxRIdeal [hDownDxIdeal : Cert.DownDxIdeal.Facts] [hDownDxRIdeal : Cert.DownDxRIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRIdeal.nD Cert.DownDxRIdeal.τ Cert.DownDxRIdeal.sig) → Buf (Elt Ideal) ℓ) (g' : Dev Cert.DownDxRIdeal.nD → PrngReg), Pre_DownDxIdeal m →
    (∀ c : Dev Cert.DownDxIdeal.nD,
      m' ((c.tc : Thread Cert.DownDxRIdeal.nD Cert.DownDxRIdeal.τ).loc Cert.DownDxRIdeal.main_arg0) = m ((c.tc : Thread Cert.DownDxIdeal.nD Cert.DownDxIdeal.τ).loc Cert.DownDxIdeal.main_arg0)
      ∧ m' ((c.tc : Thread Cert.DownDxRIdeal.nD Cert.DownDxRIdeal.τ).loc Cert.DownDxRIdeal.main_arg1) = m ((c.tc : Thread Cert.DownDxIdeal.nD Cert.DownDxIdeal.τ).loc Cert.DownDxIdeal.main_arg1)
      ∧ m' ((c.tc : Thread Cert.DownDxRIdeal.nD Cert.DownDxRIdeal.τ).loc Cert.DownDxRIdeal.main_arg2) = m ((c.tc : Thread Cert.DownDxIdeal.nD Cert.DownDxIdeal.τ).loc Cert.DownDxIdeal.main_arg2)
      ∧ m' ((c.tc : Thread Cert.DownDxRIdeal.nD Cert.DownDxRIdeal.τ).loc Cert.DownDxRIdeal.main_arg3) = m ((c.tc : Thread Cert.DownDxIdeal.nD Cert.DownDxIdeal.τ).loc Cert.DownDxIdeal.main_arg3)) →
    ∃ (v0 : (c : Dev Cert.DownDxIdeal.nD) → Buf (Elt Ideal) ((c.tc : Thread Cert.DownDxIdeal.nD Cert.DownDxIdeal.τ).loc Cert.DownDxIdeal.main_v0_0)) (v1 : (c : Dev Cert.DownDxIdeal.nD) → Buf (Elt Ideal) ((c.tc : Thread Cert.DownDxIdeal.nD Cert.DownDxIdeal.τ).loc Cert.DownDxIdeal.main_v0_1)) (v2 : (c : Dev Cert.DownDxIdeal.nD) → Buf (Elt Ideal) ((c.tc : Thread Cert.DownDxIdeal.nD Cert.DownDxIdeal.τ).loc Cert.DownDxIdeal.main_v0_2)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v0_0) = v0 c
          ∧ r.2.mem ((c.tc : Thread Cert.DownDxIdeal.nD Cert.DownDxIdeal.τ).loc Cert.DownDxIdeal.main_v0_1) = v1 c
          ∧ r.2.mem ((c.tc : Thread Cert.DownDxIdeal.nD Cert.DownDxIdeal.τ).loc Cert.DownDxIdeal.main_v0_2) = v2 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
          ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2)
          ∧ r.2.mem ((c.tc : Thread Cert.DownDxIdeal.nD Cert.DownDxIdeal.τ).loc Cert.DownDxIdeal.main_arg3) = m ((c.tc : Thread Cert.DownDxIdeal.nD Cert.DownDxIdeal.τ).loc Cert.DownDxIdeal.main_arg3))
      ∧ θ_run (Cert.DownDxRIdeal.defs (F := Ideal)) (onTc (τ := Cert.DownDxRIdeal.τ) (Cert.DownDxRIdeal.main (F := Ideal))) ⟨m', fun _ => 0, g'⟩ (fun r => ∀ c : Dev Cert.DownDxRIdeal.nD,
          r.2.mem ((c.tc : Thread Cert.DownDxRIdeal.nD Cert.DownDxRIdeal.τ).loc Cert.DownDxRIdeal.main_v42) = v0 c
          ∧ r.2.mem ((c.tc : Thread Cert.DownDxRIdeal.nD Cert.DownDxRIdeal.τ).loc Cert.DownDxRIdeal.main_v43) = v1 c
          ∧ r.2.mem ((c.tc : Thread Cert.DownDxRIdeal.nD Cert.DownDxRIdeal.τ).loc Cert.DownDxRIdeal.main_v45) = v2 c
          ∧ r.2.mem ((c.tc : Thread Cert.DownDxRIdeal.nD Cert.DownDxRIdeal.τ).loc Cert.DownDxRIdeal.main_arg0) = m' ((c.tc : Thread Cert.DownDxRIdeal.nD Cert.DownDxRIdeal.τ).loc Cert.DownDxRIdeal.main_arg0)
          ∧ r.2.mem ((c.tc : Thread Cert.DownDxRIdeal.nD Cert.DownDxRIdeal.τ).loc Cert.DownDxRIdeal.main_arg1) = m' ((c.tc : Thread Cert.DownDxRIdeal.nD Cert.DownDxRIdeal.τ).loc Cert.DownDxRIdeal.main_arg1)
          ∧ r.2.mem ((c.tc : Thread Cert.DownDxRIdeal.nD Cert.DownDxRIdeal.τ).loc Cert.DownDxRIdeal.main_arg2) = m' ((c.tc : Thread Cert.DownDxRIdeal.nD Cert.DownDxRIdeal.τ).loc Cert.DownDxRIdeal.main_arg2)
          ∧ r.2.mem ((c.tc : Thread Cert.DownDxRIdeal.nD Cert.DownDxRIdeal.τ).loc Cert.DownDxRIdeal.main_arg3) = m' ((c.tc : Thread Cert.DownDxRIdeal.nD Cert.DownDxRIdeal.τ).loc Cert.DownDxRIdeal.main_arg3))

def preserves_OutDx_OutDxIdeal : Prop :=
  True

def algebraic_OutDxIdeal_OutDxRIdeal [hOutDxIdeal : Cert.OutDxIdeal.Facts] [hOutDxRIdeal : Cert.OutDxRIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxRIdeal.nD Cert.OutDxRIdeal.τ Cert.OutDxRIdeal.sig) → Buf (Elt Ideal) ℓ) (g' : Dev Cert.OutDxRIdeal.nD → PrngReg), Pre_OutDxIdeal m →
    (∀ c : Dev Cert.OutDxIdeal.nD,
      m' ((c.tc : Thread Cert.OutDxRIdeal.nD Cert.OutDxRIdeal.τ).loc Cert.OutDxRIdeal.main_arg0) = m ((c.tc : Thread Cert.OutDxIdeal.nD Cert.OutDxIdeal.τ).loc Cert.OutDxIdeal.main_arg0)
      ∧ m' ((c.tc : Thread Cert.OutDxRIdeal.nD Cert.OutDxRIdeal.τ).loc Cert.OutDxRIdeal.main_arg1) = m ((c.tc : Thread Cert.OutDxIdeal.nD Cert.OutDxIdeal.τ).loc Cert.OutDxIdeal.main_arg1)
      ∧ m' ((c.tc : Thread Cert.OutDxRIdeal.nD Cert.OutDxRIdeal.τ).loc Cert.OutDxRIdeal.main_arg2) = m ((c.tc : Thread Cert.OutDxIdeal.nD Cert.OutDxIdeal.τ).loc Cert.OutDxIdeal.main_arg2)
      ∧ m' ((c.tc : Thread Cert.OutDxRIdeal.nD Cert.OutDxRIdeal.τ).loc Cert.OutDxRIdeal.main_arg3) = m ((c.tc : Thread Cert.OutDxIdeal.nD Cert.OutDxIdeal.τ).loc Cert.OutDxIdeal.main_arg3)) →
    ∃ (v0 : (c : Dev Cert.OutDxIdeal.nD) → Buf (Elt Ideal) ((c.tc : Thread Cert.OutDxIdeal.nD Cert.OutDxIdeal.τ).loc Cert.OutDxIdeal.main_v0_0)) (v1 : (c : Dev Cert.OutDxIdeal.nD) → Buf (Elt Ideal) ((c.tc : Thread Cert.OutDxIdeal.nD Cert.OutDxIdeal.τ).loc Cert.OutDxIdeal.main_v0_1)) (v2 : (c : Dev Cert.OutDxIdeal.nD) → Buf (Elt Ideal) ((c.tc : Thread Cert.OutDxIdeal.nD Cert.OutDxIdeal.τ).loc Cert.OutDxIdeal.main_v0_2)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v0_0) = v0 c
          ∧ r.2.mem ((c.tc : Thread Cert.OutDxIdeal.nD Cert.OutDxIdeal.τ).loc Cert.OutDxIdeal.main_v0_1) = v1 c
          ∧ r.2.mem ((c.tc : Thread Cert.OutDxIdeal.nD Cert.OutDxIdeal.τ).loc Cert.OutDxIdeal.main_v0_2) = v2 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1)
          ∧ r.2.mem ((c.tc : Thread Cert.OutDxIdeal.nD Cert.OutDxIdeal.τ).loc Cert.OutDxIdeal.main_arg2) = m ((c.tc : Thread Cert.OutDxIdeal.nD Cert.OutDxIdeal.τ).loc Cert.OutDxIdeal.main_arg2)
          ∧ r.2.mem ((c.tc : Thread Cert.OutDxIdeal.nD Cert.OutDxIdeal.τ).loc Cert.OutDxIdeal.main_arg3) = m ((c.tc : Thread Cert.OutDxIdeal.nD Cert.OutDxIdeal.τ).loc Cert.OutDxIdeal.main_arg3))
      ∧ θ_run (Cert.OutDxRIdeal.defs (F := Ideal)) (onTc (τ := Cert.OutDxRIdeal.τ) (Cert.OutDxRIdeal.main (F := Ideal))) ⟨m', fun _ => 0, g'⟩ (fun r => ∀ c : Dev Cert.OutDxRIdeal.nD,
          r.2.mem ((c.tc : Thread Cert.OutDxRIdeal.nD Cert.OutDxRIdeal.τ).loc Cert.OutDxRIdeal.main_v40) = v0 c
          ∧ r.2.mem ((c.tc : Thread Cert.OutDxRIdeal.nD Cert.OutDxRIdeal.τ).loc Cert.OutDxRIdeal.main_v41) = v1 c
          ∧ r.2.mem ((c.tc : Thread Cert.OutDxRIdeal.nD Cert.OutDxRIdeal.τ).loc Cert.OutDxRIdeal.main_v43) = v2 c
          ∧ r.2.mem ((c.tc : Thread Cert.OutDxRIdeal.nD Cert.OutDxRIdeal.τ).loc Cert.OutDxRIdeal.main_arg0) = m' ((c.tc : Thread Cert.OutDxRIdeal.nD Cert.OutDxRIdeal.τ).loc Cert.OutDxRIdeal.main_arg0)
          ∧ r.2.mem ((c.tc : Thread Cert.OutDxRIdeal.nD Cert.OutDxRIdeal.τ).loc Cert.OutDxRIdeal.main_arg1) = m' ((c.tc : Thread Cert.OutDxRIdeal.nD Cert.OutDxRIdeal.τ).loc Cert.OutDxRIdeal.main_arg1)
          ∧ r.2.mem ((c.tc : Thread Cert.OutDxRIdeal.nD Cert.OutDxRIdeal.τ).loc Cert.OutDxRIdeal.main_arg2) = m' ((c.tc : Thread Cert.OutDxRIdeal.nD Cert.OutDxRIdeal.τ).loc Cert.OutDxRIdeal.main_arg2)
          ∧ r.2.mem ((c.tc : Thread Cert.OutDxRIdeal.nD Cert.OutDxRIdeal.τ).loc Cert.OutDxRIdeal.main_arg3) = m' ((c.tc : Thread Cert.OutDxRIdeal.nD Cert.OutDxRIdeal.τ).loc Cert.OutDxRIdeal.main_arg3))

def preserves_UpDx_UpDxIdeal : Prop :=
  True

def algebraic_UpDxIdeal_UpDxRIdeal [hUpDxIdeal : Cert.UpDxIdeal.Facts] [hUpDxRIdeal : Cert.UpDxRIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRIdeal.nD Cert.UpDxRIdeal.τ Cert.UpDxRIdeal.sig) → Buf (Elt Ideal) ℓ) (g' : Dev Cert.UpDxRIdeal.nD → PrngReg), Pre_UpDxIdeal m →
    (∀ c : Dev Cert.UpDxIdeal.nD,
      m' ((c.tc : Thread Cert.UpDxRIdeal.nD Cert.UpDxRIdeal.τ).loc Cert.UpDxRIdeal.main_arg0) = m ((c.tc : Thread Cert.UpDxIdeal.nD Cert.UpDxIdeal.τ).loc Cert.UpDxIdeal.main_arg0)
      ∧ m' ((c.tc : Thread Cert.UpDxRIdeal.nD Cert.UpDxRIdeal.τ).loc Cert.UpDxRIdeal.main_arg1) = m ((c.tc : Thread Cert.UpDxIdeal.nD Cert.UpDxIdeal.τ).loc Cert.UpDxIdeal.main_arg1)
      ∧ m' ((c.tc : Thread Cert.UpDxRIdeal.nD Cert.UpDxRIdeal.τ).loc Cert.UpDxRIdeal.main_arg2) = m ((c.tc : Thread Cert.UpDxIdeal.nD Cert.UpDxIdeal.τ).loc Cert.UpDxIdeal.main_arg2)
      ∧ m' ((c.tc : Thread Cert.UpDxRIdeal.nD Cert.UpDxRIdeal.τ).loc Cert.UpDxRIdeal.main_arg3) = m ((c.tc : Thread Cert.UpDxIdeal.nD Cert.UpDxIdeal.τ).loc Cert.UpDxIdeal.main_arg3)
      ∧ m' ((c.tc : Thread Cert.UpDxRIdeal.nD Cert.UpDxRIdeal.τ).loc Cert.UpDxRIdeal.main_arg4) = m ((c.tc : Thread Cert.UpDxIdeal.nD Cert.UpDxIdeal.τ).loc Cert.UpDxIdeal.main_arg4)) →
    ∃ (v0 : (c : Dev Cert.UpDxIdeal.nD) → Buf (Elt Ideal) ((c.tc : Thread Cert.UpDxIdeal.nD Cert.UpDxIdeal.τ).loc Cert.UpDxIdeal.main_v0_0)) (v1 : (c : Dev Cert.UpDxIdeal.nD) → Buf (Elt Ideal) ((c.tc : Thread Cert.UpDxIdeal.nD Cert.UpDxIdeal.τ).loc Cert.UpDxIdeal.main_v0_1)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v0_0) = v0 c
          ∧ r.2.mem ((c.tc : Thread Cert.UpDxIdeal.nD Cert.UpDxIdeal.τ).loc Cert.UpDxIdeal.main_v0_1) = v1 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
          ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2)
          ∧ r.2.mem ((c.tc : Thread Cert.UpDxIdeal.nD Cert.UpDxIdeal.τ).loc Cert.UpDxIdeal.main_arg3) = m ((c.tc : Thread Cert.UpDxIdeal.nD Cert.UpDxIdeal.τ).loc Cert.UpDxIdeal.main_arg3)
          ∧ r.2.mem ((c.tc : Thread Cert.UpDxIdeal.nD Cert.UpDxIdeal.τ).loc Cert.UpDxIdeal.main_arg4) = m ((c.tc : Thread Cert.UpDxIdeal.nD Cert.UpDxIdeal.τ).loc Cert.UpDxIdeal.main_arg4))
      ∧ θ_run (Cert.UpDxRIdeal.defs (F := Ideal)) (onTc (τ := Cert.UpDxRIdeal.τ) (Cert.UpDxRIdeal.main (F := Ideal))) ⟨m', fun _ => 0, g'⟩ (fun r => ∀ c : Dev Cert.UpDxRIdeal.nD,
          r.2.mem ((c.tc : Thread Cert.UpDxRIdeal.nD Cert.UpDxRIdeal.τ).loc Cert.UpDxRIdeal.main_v38) = v0 c
          ∧ r.2.mem ((c.tc : Thread Cert.UpDxRIdeal.nD Cert.UpDxRIdeal.τ).loc Cert.UpDxRIdeal.main_v40) = v1 c
          ∧ r.2.mem ((c.tc : Thread Cert.UpDxRIdeal.nD Cert.UpDxRIdeal.τ).loc Cert.UpDxRIdeal.main_arg0) = m' ((c.tc : Thread Cert.UpDxRIdeal.nD Cert.UpDxRIdeal.τ).loc Cert.UpDxRIdeal.main_arg0)
          ∧ r.2.mem ((c.tc : Thread Cert.UpDxRIdeal.nD Cert.UpDxRIdeal.τ).loc Cert.UpDxRIdeal.main_arg1) = m' ((c.tc : Thread Cert.UpDxRIdeal.nD Cert.UpDxRIdeal.τ).loc Cert.UpDxRIdeal.main_arg1)
          ∧ r.2.mem ((c.tc : Thread Cert.UpDxRIdeal.nD Cert.UpDxRIdeal.τ).loc Cert.UpDxRIdeal.main_arg2) = m' ((c.tc : Thread Cert.UpDxRIdeal.nD Cert.UpDxRIdeal.τ).loc Cert.UpDxRIdeal.main_arg2)
          ∧ r.2.mem ((c.tc : Thread Cert.UpDxRIdeal.nD Cert.UpDxRIdeal.τ).loc Cert.UpDxRIdeal.main_arg3) = m' ((c.tc : Thread Cert.UpDxRIdeal.nD Cert.UpDxRIdeal.τ).loc Cert.UpDxRIdeal.main_arg3)
          ∧ r.2.mem ((c.tc : Thread Cert.UpDxRIdeal.nD Cert.UpDxRIdeal.τ).loc Cert.UpDxRIdeal.main_arg4) = m' ((c.tc : Thread Cert.UpDxRIdeal.nD Cert.UpDxRIdeal.τ).loc Cert.UpDxRIdeal.main_arg4))

def preserves_InDx_InDxIdeal : Prop :=
  True

def algebraic_InDxIdeal_InDxRIdeal [hInDxIdeal : Cert.InDxIdeal.Facts] [hInDxRIdeal : Cert.InDxRIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxRIdeal.nD Cert.InDxRIdeal.τ Cert.InDxRIdeal.sig) → Buf (Elt Ideal) ℓ) (g' : Dev Cert.InDxRIdeal.nD → PrngReg), Pre_InDxIdeal m →
    (∀ c : Dev Cert.InDxIdeal.nD,
      m' ((c.tc : Thread Cert.InDxRIdeal.nD Cert.InDxRIdeal.τ).loc Cert.InDxRIdeal.main_arg0) = m ((c.tc : Thread Cert.InDxIdeal.nD Cert.InDxIdeal.τ).loc Cert.InDxIdeal.main_arg0)
      ∧ m' ((c.tc : Thread Cert.InDxRIdeal.nD Cert.InDxRIdeal.τ).loc Cert.InDxRIdeal.main_arg1) = m ((c.tc : Thread Cert.InDxIdeal.nD Cert.InDxIdeal.τ).loc Cert.InDxIdeal.main_arg1)
      ∧ m' ((c.tc : Thread Cert.InDxRIdeal.nD Cert.InDxRIdeal.τ).loc Cert.InDxRIdeal.main_arg2) = m ((c.tc : Thread Cert.InDxIdeal.nD Cert.InDxIdeal.τ).loc Cert.InDxIdeal.main_arg2)
      ∧ m' ((c.tc : Thread Cert.InDxRIdeal.nD Cert.InDxRIdeal.τ).loc Cert.InDxRIdeal.main_arg3) = m ((c.tc : Thread Cert.InDxIdeal.nD Cert.InDxIdeal.τ).loc Cert.InDxIdeal.main_arg3)
      ∧ m' ((c.tc : Thread Cert.InDxRIdeal.nD Cert.InDxRIdeal.τ).loc Cert.InDxRIdeal.main_arg4) = m ((c.tc : Thread Cert.InDxIdeal.nD Cert.InDxIdeal.τ).loc Cert.InDxIdeal.main_arg4)) →
    ∃ (v0 : (c : Dev Cert.InDxIdeal.nD) → Buf (Elt Ideal) ((c.tc : Thread Cert.InDxIdeal.nD Cert.InDxIdeal.τ).loc Cert.InDxIdeal.main_v0_0)) (v1 : (c : Dev Cert.InDxIdeal.nD) → Buf (Elt Ideal) ((c.tc : Thread Cert.InDxIdeal.nD Cert.InDxIdeal.τ).loc Cert.InDxIdeal.main_v0_1)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v0_0) = v0 c
          ∧ r.2.mem ((c.tc : Thread Cert.InDxIdeal.nD Cert.InDxIdeal.τ).loc Cert.InDxIdeal.main_v0_1) = v1 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
          ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
          ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
          ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4))
      ∧ θ_run (Cert.InDxRIdeal.defs (F := Ideal)) (onTc (τ := Cert.InDxRIdeal.τ) (Cert.InDxRIdeal.main (F := Ideal))) ⟨m', fun _ => 0, g'⟩ (fun r => ∀ c : Dev Cert.InDxRIdeal.nD,
          r.2.mem ((c.tc : Thread Cert.InDxRIdeal.nD Cert.InDxRIdeal.τ).loc Cert.InDxRIdeal.main_v38) = v0 c
          ∧ r.2.mem ((c.tc : Thread Cert.InDxRIdeal.nD Cert.InDxRIdeal.τ).loc Cert.InDxRIdeal.main_v40) = v1 c
          ∧ r.2.mem ((c.tc : Thread Cert.InDxRIdeal.nD Cert.InDxRIdeal.τ).loc Cert.InDxRIdeal.main_arg0) = m' ((c.tc : Thread Cert.InDxRIdeal.nD Cert.InDxRIdeal.τ).loc Cert.InDxRIdeal.main_arg0)
          ∧ r.2.mem ((c.tc : Thread Cert.InDxRIdeal.nD Cert.InDxRIdeal.τ).loc Cert.InDxRIdeal.main_arg1) = m' ((c.tc : Thread Cert.InDxRIdeal.nD Cert.InDxRIdeal.τ).loc Cert.InDxRIdeal.main_arg1)
          ∧ r.2.mem ((c.tc : Thread Cert.InDxRIdeal.nD Cert.InDxRIdeal.τ).loc Cert.InDxRIdeal.main_arg2) = m' ((c.tc : Thread Cert.InDxRIdeal.nD Cert.InDxRIdeal.τ).loc Cert.InDxRIdeal.main_arg2)
          ∧ r.2.mem ((c.tc : Thread Cert.InDxRIdeal.nD Cert.InDxRIdeal.τ).loc Cert.InDxRIdeal.main_arg3) = m' ((c.tc : Thread Cert.InDxRIdeal.nD Cert.InDxRIdeal.τ).loc Cert.InDxRIdeal.main_arg3)
          ∧ r.2.mem ((c.tc : Thread Cert.InDxRIdeal.nD Cert.InDxRIdeal.τ).loc Cert.InDxRIdeal.main_arg4) = m' ((c.tc : Thread Cert.InDxRIdeal.nD Cert.InDxRIdeal.τ).loc Cert.InDxRIdeal.main_arg4))

def preserves_DownDw_DownDwIdeal : Prop :=
  True

def algebraic_DownDwIdeal_DownDwRIdeal [hDownDwIdeal : Cert.DownDwIdeal.Facts] [hDownDwRIdeal : Cert.DownDwRIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRIdeal.nD Cert.DownDwRIdeal.τ Cert.DownDwRIdeal.sig) → Buf (Elt Ideal) ℓ) (g' : Dev Cert.DownDwRIdeal.nD → PrngReg), Pre_DownDwIdeal m →
    (∀ c : Dev Cert.DownDwIdeal.nD,
      m' ((c.tc : Thread Cert.DownDwRIdeal.nD Cert.DownDwRIdeal.τ).loc Cert.DownDwRIdeal.main_arg0) = m ((c.tc : Thread Cert.DownDwIdeal.nD Cert.DownDwIdeal.τ).loc Cert.DownDwIdeal.main_arg0)
      ∧ m' ((c.tc : Thread Cert.DownDwRIdeal.nD Cert.DownDwRIdeal.τ).loc Cert.DownDwRIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRIdeal.defs (F := Ideal)) (onTc (τ := Cert.DownDwRIdeal.τ) (Cert.DownDwRIdeal.main (F := Ideal))) ⟨m', fun _ => 0, g'⟩ (fun r => ∀ c : Dev Cert.DownDwRIdeal.nD,
          r.2.mem ((c.tc : Thread Cert.DownDwRIdeal.nD Cert.DownDwRIdeal.τ).loc Cert.DownDwRIdeal.main_v7) = v0 c
          ∧ r.2.mem ((c.tc : Thread Cert.DownDwRIdeal.nD Cert.DownDwRIdeal.τ).loc Cert.DownDwRIdeal.main_arg0) = m' ((c.tc : Thread Cert.DownDwRIdeal.nD Cert.DownDwRIdeal.τ).loc Cert.DownDwRIdeal.main_arg0)
          ∧ r.2.mem ((c.tc : Thread Cert.DownDwRIdeal.nD Cert.DownDwRIdeal.τ).loc Cert.DownDwRIdeal.main_arg1) = m' ((c.tc : Thread Cert.DownDwRIdeal.nD Cert.DownDwRIdeal.τ).loc Cert.DownDwRIdeal.main_arg1))

def preserves_UpDw_UpDwIdeal : Prop :=
  True

def algebraic_UpDwIdeal_UpDwRIdeal [hUpDwIdeal : Cert.UpDwIdeal.Facts] [hUpDwRIdeal : Cert.UpDwRIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRIdeal.nD Cert.UpDwRIdeal.τ Cert.UpDwRIdeal.sig) → Buf (Elt Ideal) ℓ) (g' : Dev Cert.UpDwRIdeal.nD → PrngReg), Pre_UpDwIdeal m →
    (∀ c : Dev Cert.UpDwIdeal.nD,
      m' ((c.tc : Thread Cert.UpDwRIdeal.nD Cert.UpDwRIdeal.τ).loc Cert.UpDwRIdeal.main_arg0) = m ((c.tc : Thread Cert.UpDwIdeal.nD Cert.UpDwIdeal.τ).loc Cert.UpDwIdeal.main_arg0)
      ∧ m' ((c.tc : Thread Cert.UpDwRIdeal.nD Cert.UpDwRIdeal.τ).loc Cert.UpDwRIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v0)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwRIdeal.defs (F := Ideal)) (onTc (τ := Cert.UpDwRIdeal.τ) (Cert.UpDwRIdeal.main (F := Ideal))) ⟨m', fun _ => 0, g'⟩ (fun r => ∀ c : Dev Cert.UpDwRIdeal.nD,
          r.2.mem ((c.tc : Thread Cert.UpDwRIdeal.nD Cert.UpDwRIdeal.τ).loc Cert.UpDwRIdeal.main_v7) = v0 c
          ∧ r.2.mem ((c.tc : Thread Cert.UpDwRIdeal.nD Cert.UpDwRIdeal.τ).loc Cert.UpDwRIdeal.main_arg0) = m' ((c.tc : Thread Cert.UpDwRIdeal.nD Cert.UpDwRIdeal.τ).loc Cert.UpDwRIdeal.main_arg0)
          ∧ r.2.mem ((c.tc : Thread Cert.UpDwRIdeal.nD Cert.UpDwRIdeal.τ).loc Cert.UpDwRIdeal.main_arg1) = m' ((c.tc : Thread Cert.UpDwRIdeal.nD Cert.UpDwRIdeal.τ).loc Cert.UpDwRIdeal.main_arg1))

def preserves_OutDw_OutDwIdeal : Prop :=
  True

def algebraic_OutDwIdeal_OutDwRIdeal [hOutDwIdeal : Cert.OutDwIdeal.Facts] [hOutDwRIdeal : Cert.OutDwRIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRIdeal.nD Cert.OutDwRIdeal.τ Cert.OutDwRIdeal.sig) → Buf (Elt Ideal) ℓ) (g' : Dev Cert.OutDwRIdeal.nD → PrngReg), Pre_OutDwIdeal m →
    (∀ c : Dev Cert.OutDwIdeal.nD,
      m' ((c.tc : Thread Cert.OutDwRIdeal.nD Cert.OutDwRIdeal.τ).loc Cert.OutDwRIdeal.main_arg0) = m ((c.tc : Thread Cert.OutDwIdeal.nD Cert.OutDwIdeal.τ).loc Cert.OutDwIdeal.main_arg0)
      ∧ m' ((c.tc : Thread Cert.OutDwRIdeal.nD Cert.OutDwRIdeal.τ).loc Cert.OutDwRIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRIdeal.defs (F := Ideal)) (onTc (τ := Cert.OutDwRIdeal.τ) (Cert.OutDwRIdeal.main (F := Ideal))) ⟨m', fun _ => 0, g'⟩ (fun r => ∀ c : Dev Cert.OutDwRIdeal.nD,
          r.2.mem ((c.tc : Thread Cert.OutDwRIdeal.nD Cert.OutDwRIdeal.τ).loc Cert.OutDwRIdeal.main_v7) = v0 c
          ∧ r.2.mem ((c.tc : Thread Cert.OutDwRIdeal.nD Cert.OutDwRIdeal.τ).loc Cert.OutDwRIdeal.main_arg0) = m' ((c.tc : Thread Cert.OutDwRIdeal.nD Cert.OutDwRIdeal.τ).loc Cert.OutDwRIdeal.main_arg0)
          ∧ r.2.mem ((c.tc : Thread Cert.OutDwRIdeal.nD Cert.OutDwRIdeal.τ).loc Cert.OutDwRIdeal.main_arg1) = m' ((c.tc : Thread Cert.OutDwRIdeal.nD Cert.OutDwRIdeal.τ).loc Cert.OutDwRIdeal.main_arg1))

def preserves_InDw_InDwIdeal : Prop :=
  True

def algebraic_InDwIdeal_InDwRIdeal [hInDwIdeal : Cert.InDwIdeal.Facts] [hInDwRIdeal : Cert.InDwRIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwRIdeal.nD Cert.InDwRIdeal.τ Cert.InDwRIdeal.sig) → Buf (Elt Ideal) ℓ) (g' : Dev Cert.InDwRIdeal.nD → PrngReg), Pre_InDwIdeal m →
    (∀ c : Dev Cert.InDwIdeal.nD,
      m' ((c.tc : Thread Cert.InDwRIdeal.nD Cert.InDwRIdeal.τ).loc Cert.InDwRIdeal.main_arg0) = m ((c.tc : Thread Cert.InDwIdeal.nD Cert.InDwIdeal.τ).loc Cert.InDwIdeal.main_arg0)
      ∧ m' ((c.tc : Thread Cert.InDwRIdeal.nD Cert.InDwRIdeal.τ).loc Cert.InDwRIdeal.main_arg1) = m ((c.tc : Thread Cert.InDwIdeal.nD Cert.InDwIdeal.τ).loc Cert.InDwIdeal.main_arg1)) →
    ∃ (v0 : (c : Dev Cert.InDwIdeal.nD) → Buf (Elt Ideal) ((c.tc : Thread Cert.InDwIdeal.nD Cert.InDwIdeal.τ).loc Cert.InDwIdeal.main_v0)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v0) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ θ_run (Cert.InDwRIdeal.defs (F := Ideal)) (onTc (τ := Cert.InDwRIdeal.τ) (Cert.InDwRIdeal.main (F := Ideal))) ⟨m', fun _ => 0, g'⟩ (fun r => ∀ c : Dev Cert.InDwRIdeal.nD,
          r.2.mem ((c.tc : Thread Cert.InDwRIdeal.nD Cert.InDwRIdeal.τ).loc Cert.InDwRIdeal.main_v7) = v0 c
          ∧ r.2.mem ((c.tc : Thread Cert.InDwRIdeal.nD Cert.InDwRIdeal.τ).loc Cert.InDwRIdeal.main_arg0) = m' ((c.tc : Thread Cert.InDwRIdeal.nD Cert.InDwRIdeal.τ).loc Cert.InDwRIdeal.main_arg0)
          ∧ r.2.mem ((c.tc : Thread Cert.InDwRIdeal.nD Cert.InDwRIdeal.τ).loc Cert.InDwRIdeal.main_arg1) = m' ((c.tc : Thread Cert.InDwRIdeal.nD Cert.InDwRIdeal.τ).loc Cert.InDwRIdeal.main_arg1))

def preserves_OutProj_OutProjIdeal : Prop :=
  True

def algebraic_OutProjIdeal_OutProjRIdeal [hOutProjIdeal : Cert.OutProjIdeal.Facts] [hOutProjRIdeal : Cert.OutProjRIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRIdeal.nD Cert.OutProjRIdeal.τ Cert.OutProjRIdeal.sig) → Buf (Elt Ideal) ℓ) (g' : Dev Cert.OutProjRIdeal.nD → PrngReg), Pre_OutProjIdeal m →
    (∀ c : Dev Cert.OutProjIdeal.nD,
      m' ((c.tc : Thread Cert.OutProjRIdeal.nD Cert.OutProjRIdeal.τ).loc Cert.OutProjRIdeal.main_arg0) = m ((c.tc : Thread Cert.OutProjIdeal.nD Cert.OutProjIdeal.τ).loc Cert.OutProjIdeal.main_arg0)
      ∧ m' ((c.tc : Thread Cert.OutProjRIdeal.nD Cert.OutProjRIdeal.τ).loc Cert.OutProjRIdeal.main_arg1) = m ((c.tc : Thread Cert.OutProjIdeal.nD Cert.OutProjIdeal.τ).loc Cert.OutProjIdeal.main_arg1)
      ∧ m' ((c.tc : Thread Cert.OutProjRIdeal.nD Cert.OutProjRIdeal.τ).loc Cert.OutProjRIdeal.main_arg2) = m ((c.tc : Thread Cert.OutProjIdeal.nD Cert.OutProjIdeal.τ).loc Cert.OutProjIdeal.main_arg2)
      ∧ m' ((c.tc : Thread Cert.OutProjRIdeal.nD Cert.OutProjRIdeal.τ).loc Cert.OutProjRIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v0_0)) (v1 : (c : Dev Cert.OutProjIdeal.nD) → Buf (Elt Ideal) ((c.tc : Thread Cert.OutProjIdeal.nD Cert.OutProjIdeal.τ).loc Cert.OutProjIdeal.main_v0_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0_0) = v0 c
          ∧ r.2.mem ((c.tc : Thread Cert.OutProjIdeal.nD Cert.OutProjIdeal.τ).loc Cert.OutProjIdeal.main_v0_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjRIdeal.defs (F := Ideal)) (onTc (τ := Cert.OutProjRIdeal.τ) (Cert.OutProjRIdeal.main (F := Ideal))) ⟨m', fun _ => 0, g'⟩ (fun r => ∀ c : Dev Cert.OutProjRIdeal.nD,
          r.2.mem ((c.tc : Thread Cert.OutProjRIdeal.nD Cert.OutProjRIdeal.τ).loc Cert.OutProjRIdeal.main_v2) = v0 c
          ∧ r.2.mem ((c.tc : Thread Cert.OutProjRIdeal.nD Cert.OutProjRIdeal.τ).loc Cert.OutProjRIdeal.main_v19) = v1 c
          ∧ r.2.mem ((c.tc : Thread Cert.OutProjRIdeal.nD Cert.OutProjRIdeal.τ).loc Cert.OutProjRIdeal.main_arg0) = m' ((c.tc : Thread Cert.OutProjRIdeal.nD Cert.OutProjRIdeal.τ).loc Cert.OutProjRIdeal.main_arg0)
          ∧ r.2.mem ((c.tc : Thread Cert.OutProjRIdeal.nD Cert.OutProjRIdeal.τ).loc Cert.OutProjRIdeal.main_arg1) = m' ((c.tc : Thread Cert.OutProjRIdeal.nD Cert.OutProjRIdeal.τ).loc Cert.OutProjRIdeal.main_arg1)
          ∧ r.2.mem ((c.tc : Thread Cert.OutProjRIdeal.nD Cert.OutProjRIdeal.τ).loc Cert.OutProjRIdeal.main_arg2) = m' ((c.tc : Thread Cert.OutProjRIdeal.nD Cert.OutProjRIdeal.τ).loc Cert.OutProjRIdeal.main_arg2)
          ∧ r.2.mem ((c.tc : Thread Cert.OutProjRIdeal.nD Cert.OutProjRIdeal.τ).loc Cert.OutProjRIdeal.main_arg3) = m' ((c.tc : Thread Cert.OutProjRIdeal.nD Cert.OutProjRIdeal.τ).loc Cert.OutProjRIdeal.main_arg3))

def preserves_DownProj_DownProjIdeal : Prop :=
  True

def algebraic_DownProjIdeal_DownProjRIdeal [hDownProjIdeal : Cert.DownProjIdeal.Facts] [hDownProjRIdeal : Cert.DownProjRIdeal.Facts] : Prop :=
  ∀ (m : (ℓ : Loc Cert.DownProjIdeal.nD Cert.DownProjIdeal.τ Cert.DownProjIdeal.sig) → Buf (Elt Ideal) ℓ) (g : Dev Cert.DownProjIdeal.nD → PrngReg)
    (m' : (ℓ : Loc Cert.DownProjRIdeal.nD Cert.DownProjRIdeal.τ Cert.DownProjRIdeal.sig) → Buf (Elt Ideal) ℓ) (g' : Dev Cert.DownProjRIdeal.nD → PrngReg), Pre_DownProjIdeal m →
    (∀ c : Dev Cert.DownProjIdeal.nD,
      m' ((c.tc : Thread Cert.DownProjRIdeal.nD Cert.DownProjRIdeal.τ).loc Cert.DownProjRIdeal.main_arg0) = m ((c.tc : Thread Cert.DownProjIdeal.nD Cert.DownProjIdeal.τ).loc Cert.DownProjIdeal.main_arg0)
      ∧ m' ((c.tc : Thread Cert.DownProjRIdeal.nD Cert.DownProjRIdeal.τ).loc Cert.DownProjRIdeal.main_arg1) = m ((c.tc : Thread Cert.DownProjIdeal.nD Cert.DownProjIdeal.τ).loc Cert.DownProjIdeal.main_arg1)
      ∧ m' ((c.tc : Thread Cert.DownProjRIdeal.nD Cert.DownProjRIdeal.τ).loc Cert.DownProjRIdeal.main_arg2) = m ((c.tc : Thread Cert.DownProjIdeal.nD Cert.DownProjIdeal.τ).loc Cert.DownProjIdeal.main_arg2)
      ∧ m' ((c.tc : Thread Cert.DownProjRIdeal.nD Cert.DownProjRIdeal.τ).loc Cert.DownProjRIdeal.main_arg3) = m ((c.tc : Thread Cert.DownProjIdeal.nD Cert.DownProjIdeal.τ).loc Cert.DownProjIdeal.main_arg3)) →
    ∃ (v0 : (c : Dev Cert.DownProjIdeal.nD) → Buf (Elt Ideal) ((c.tc : Thread Cert.DownProjIdeal.nD Cert.DownProjIdeal.τ).loc Cert.DownProjIdeal.main_v0_0)) (v1 : (c : Dev Cert.DownProjIdeal.nD) → Buf (Elt Ideal) ((c.tc : Thread Cert.DownProjIdeal.nD Cert.DownProjIdeal.τ).loc Cert.DownProjIdeal.main_v0_1)),
      θ_run (Cert.DownProjIdeal.defs (F := Ideal)) (onTc (τ := Cert.DownProjIdeal.τ) (Cert.DownProjIdeal.main (F := Ideal))) ⟨m, fun _ => 0, g⟩ (fun r => ∀ c : Dev Cert.DownProjIdeal.nD,
          r.2.mem ((c.tc : Thread Cert.DownProjIdeal.nD Cert.DownProjIdeal.τ).loc Cert.DownProjIdeal.main_v0_0) = v0 c
          ∧ r.2.mem ((c.tc : Thread Cert.DownProjIdeal.nD Cert.DownProjIdeal.τ).loc Cert.DownProjIdeal.main_v0_1) = v1 c
          ∧ r.2.mem ((c.tc : Thread Cert.DownProjIdeal.nD Cert.DownProjIdeal.τ).loc Cert.DownProjIdeal.main_arg0) = m ((c.tc : Thread Cert.DownProjIdeal.nD Cert.DownProjIdeal.τ).loc Cert.DownProjIdeal.main_arg0)
          ∧ r.2.mem ((c.tc : Thread Cert.DownProjIdeal.nD Cert.DownProjIdeal.τ).loc Cert.DownProjIdeal.main_arg1) = m ((c.tc : Thread Cert.DownProjIdeal.nD Cert.DownProjIdeal.τ).loc Cert.DownProjIdeal.main_arg1)
          ∧ r.2.mem ((c.tc : Thread Cert.DownProjIdeal.nD Cert.DownProjIdeal.τ).loc Cert.DownProjIdeal.main_arg2) = m ((c.tc : Thread Cert.DownProjIdeal.nD Cert.DownProjIdeal.τ).loc Cert.DownProjIdeal.main_arg2)
          ∧ r.2.mem ((c.tc : Thread Cert.DownProjIdeal.nD Cert.DownProjIdeal.τ).loc Cert.DownProjIdeal.main_arg3) = m ((c.tc : Thread Cert.DownProjIdeal.nD Cert.DownProjIdeal.τ).loc Cert.DownProjIdeal.main_arg3))
      ∧ θ_run (Cert.DownProjRIdeal.defs (F := Ideal)) (onTc (τ := Cert.DownProjRIdeal.τ) (Cert.DownProjRIdeal.main (F := Ideal))) ⟨m', fun _ => 0, g'⟩ (fun r => ∀ c : Dev Cert.DownProjRIdeal.nD,
          r.2.mem ((c.tc : Thread Cert.DownProjRIdeal.nD Cert.DownProjRIdeal.τ).loc Cert.DownProjRIdeal.main_v2) = v0 c
          ∧ r.2.mem ((c.tc : Thread Cert.DownProjRIdeal.nD Cert.DownProjRIdeal.τ).loc Cert.DownProjRIdeal.main_v19) = v1 c
          ∧ r.2.mem ((c.tc : Thread Cert.DownProjRIdeal.nD Cert.DownProjRIdeal.τ).loc Cert.DownProjRIdeal.main_arg0) = m' ((c.tc : Thread Cert.DownProjRIdeal.nD Cert.DownProjRIdeal.τ).loc Cert.DownProjRIdeal.main_arg0)
          ∧ r.2.mem ((c.tc : Thread Cert.DownProjRIdeal.nD Cert.DownProjRIdeal.τ).loc Cert.DownProjRIdeal.main_arg1) = m' ((c.tc : Thread Cert.DownProjRIdeal.nD Cert.DownProjRIdeal.τ).loc Cert.DownProjRIdeal.main_arg1)
          ∧ r.2.mem ((c.tc : Thread Cert.DownProjRIdeal.nD Cert.DownProjRIdeal.τ).loc Cert.DownProjRIdeal.main_arg2) = m' ((c.tc : Thread Cert.DownProjRIdeal.nD Cert.DownProjRIdeal.τ).loc Cert.DownProjRIdeal.main_arg2)
          ∧ r.2.mem ((c.tc : Thread Cert.DownProjRIdeal.nD Cert.DownProjRIdeal.τ).loc Cert.DownProjRIdeal.main_arg3) = m' ((c.tc : Thread Cert.DownProjRIdeal.nD Cert.DownProjRIdeal.τ).loc Cert.DownProjRIdeal.main_arg3))

def preserves_DownLoss_DownLossIdeal : Prop :=
  True

def algebraic_DownLossIdeal_DownLossRIdeal [hDownLossIdeal : Cert.DownLossIdeal.Facts] [hDownLossRIdeal : Cert.DownLossRIdeal.Facts] : Prop :=
  ∀ (m : (ℓ : Loc Cert.DownLossIdeal.nD Cert.DownLossIdeal.τ Cert.DownLossIdeal.sig) → Buf (Elt Ideal) ℓ) (g : Dev Cert.DownLossIdeal.nD → PrngReg)
    (m' : (ℓ : Loc Cert.DownLossRIdeal.nD Cert.DownLossRIdeal.τ Cert.DownLossRIdeal.sig) → Buf (Elt Ideal) ℓ) (g' : Dev Cert.DownLossRIdeal.nD → PrngReg), Pre_DownLossIdeal m →
    (∀ c : Dev Cert.DownLossIdeal.nD,
      m' ((c.tc : Thread Cert.DownLossRIdeal.nD Cert.DownLossRIdeal.τ).loc Cert.DownLossRIdeal.main_arg0) = m ((c.tc : Thread Cert.DownLossIdeal.nD Cert.DownLossIdeal.τ).loc Cert.DownLossIdeal.main_arg0)
      ∧ m' ((c.tc : Thread Cert.DownLossRIdeal.nD Cert.DownLossRIdeal.τ).loc Cert.DownLossRIdeal.main_arg1) = m ((c.tc : Thread Cert.DownLossIdeal.nD Cert.DownLossIdeal.τ).loc Cert.DownLossIdeal.main_arg1)
      ∧ m' ((c.tc : Thread Cert.DownLossRIdeal.nD Cert.DownLossRIdeal.τ).loc Cert.DownLossRIdeal.main_arg2) = m ((c.tc : Thread Cert.DownLossIdeal.nD Cert.DownLossIdeal.τ).loc Cert.DownLossIdeal.main_arg2)
      ∧ m' ((c.tc : Thread Cert.DownLossRIdeal.nD Cert.DownLossRIdeal.τ).loc Cert.DownLossRIdeal.main_arg3) = m ((c.tc : Thread Cert.DownLossIdeal.nD Cert.DownLossIdeal.τ).loc Cert.DownLossIdeal.main_arg3)
      ∧ m' ((c.tc : Thread Cert.DownLossRIdeal.nD Cert.DownLossRIdeal.τ).loc Cert.DownLossRIdeal.main_arg4) = m ((c.tc : Thread Cert.DownLossIdeal.nD Cert.DownLossIdeal.τ).loc Cert.DownLossIdeal.main_arg4)) →
    ∃ (v0 : (c : Dev Cert.DownLossIdeal.nD) → Buf (Elt Ideal) ((c.tc : Thread Cert.DownLossIdeal.nD Cert.DownLossIdeal.τ).loc Cert.DownLossIdeal.main_v2_0)) (v1 : (c : Dev Cert.DownLossIdeal.nD) → Buf (Elt Ideal) ((c.tc : Thread Cert.DownLossIdeal.nD Cert.DownLossIdeal.τ).loc Cert.DownLossIdeal.main_v2_1)) (v2 : (c : Dev Cert.DownLossIdeal.nD) → Buf (Elt Ideal) ((c.tc : Thread Cert.DownLossIdeal.nD Cert.DownLossIdeal.τ).loc Cert.DownLossIdeal.main_v2_2)),
      θ_run (Cert.DownLossIdeal.defs (F := Ideal)) (onTc (τ := Cert.DownLossIdeal.τ) (Cert.DownLossIdeal.main (F := Ideal))) ⟨m, fun _ => 0, g⟩ (fun r => ∀ c : Dev Cert.DownLossIdeal.nD,
          r.2.mem ((c.tc : Thread Cert.DownLossIdeal.nD Cert.DownLossIdeal.τ).loc Cert.DownLossIdeal.main_v2_0) = v0 c
          ∧ r.2.mem ((c.tc : Thread Cert.DownLossIdeal.nD Cert.DownLossIdeal.τ).loc Cert.DownLossIdeal.main_v2_1) = v1 c
          ∧ r.2.mem ((c.tc : Thread Cert.DownLossIdeal.nD Cert.DownLossIdeal.τ).loc Cert.DownLossIdeal.main_v2_2) = v2 c
          ∧ r.2.mem ((c.tc : Thread Cert.DownLossIdeal.nD Cert.DownLossIdeal.τ).loc Cert.DownLossIdeal.main_arg0) = m ((c.tc : Thread Cert.DownLossIdeal.nD Cert.DownLossIdeal.τ).loc Cert.DownLossIdeal.main_arg0)
          ∧ r.2.mem ((c.tc : Thread Cert.DownLossIdeal.nD Cert.DownLossIdeal.τ).loc Cert.DownLossIdeal.main_arg1) = m ((c.tc : Thread Cert.DownLossIdeal.nD Cert.DownLossIdeal.τ).loc Cert.DownLossIdeal.main_arg1)
          ∧ r.2.mem ((c.tc : Thread Cert.DownLossIdeal.nD Cert.DownLossIdeal.τ).loc Cert.DownLossIdeal.main_arg2) = m ((c.tc : Thread Cert.DownLossIdeal.nD Cert.DownLossIdeal.τ).loc Cert.DownLossIdeal.main_arg2)
          ∧ r.2.mem ((c.tc : Thread Cert.DownLossIdeal.nD Cert.DownLossIdeal.τ).loc Cert.DownLossIdeal.main_arg3) = m ((c.tc : Thread Cert.DownLossIdeal.nD Cert.DownLossIdeal.τ).loc Cert.DownLossIdeal.main_arg3)
          ∧ r.2.mem ((c.tc : Thread Cert.DownLossIdeal.nD Cert.DownLossIdeal.τ).loc Cert.DownLossIdeal.main_arg4) = m ((c.tc : Thread Cert.DownLossIdeal.nD Cert.DownLossIdeal.τ).loc Cert.DownLossIdeal.main_arg4))
      ∧ θ_run (Cert.DownLossRIdeal.defs (F := Ideal)) (onTc (τ := Cert.DownLossRIdeal.τ) (Cert.DownLossRIdeal.main (F := Ideal))) ⟨m', fun _ => 0, g'⟩ (fun r => ∀ c : Dev Cert.DownLossRIdeal.nD,
          r.2.mem ((c.tc : Thread Cert.DownLossRIdeal.nD Cert.DownLossRIdeal.τ).loc Cert.DownLossRIdeal.main_v2) = v0 c
          ∧ r.2.mem ((c.tc : Thread Cert.DownLossRIdeal.nD Cert.DownLossRIdeal.τ).loc Cert.DownLossRIdeal.main_v36) = v1 c
          ∧ r.2.mem ((c.tc : Thread Cert.DownLossRIdeal.nD Cert.DownLossRIdeal.τ).loc Cert.DownLossRIdeal.main_v37) = v2 c
          ∧ r.2.mem ((c.tc : Thread Cert.DownLossRIdeal.nD Cert.DownLossRIdeal.τ).loc Cert.DownLossRIdeal.main_arg0) = m' ((c.tc : Thread Cert.DownLossRIdeal.nD Cert.DownLossRIdeal.τ).loc Cert.DownLossRIdeal.main_arg0)
          ∧ r.2.mem ((c.tc : Thread Cert.DownLossRIdeal.nD Cert.DownLossRIdeal.τ).loc Cert.DownLossRIdeal.main_arg1) = m' ((c.tc : Thread Cert.DownLossRIdeal.nD Cert.DownLossRIdeal.τ).loc Cert.DownLossRIdeal.main_arg1)
          ∧ r.2.mem ((c.tc : Thread Cert.DownLossRIdeal.nD Cert.DownLossRIdeal.τ).loc Cert.DownLossRIdeal.main_arg2) = m' ((c.tc : Thread Cert.DownLossRIdeal.nD Cert.DownLossRIdeal.τ).loc Cert.DownLossRIdeal.main_arg2)
          ∧ r.2.mem ((c.tc : Thread Cert.DownLossRIdeal.nD Cert.DownLossRIdeal.τ).loc Cert.DownLossRIdeal.main_arg3) = m' ((c.tc : Thread Cert.DownLossRIdeal.nD Cert.DownLossRIdeal.τ).loc Cert.DownLossRIdeal.main_arg3)
          ∧ r.2.mem ((c.tc : Thread Cert.DownLossRIdeal.nD Cert.DownLossRIdeal.τ).loc Cert.DownLossRIdeal.main_arg4) = m' ((c.tc : Thread Cert.DownLossRIdeal.nD Cert.DownLossRIdeal.τ).loc Cert.DownLossRIdeal.main_arg4))

def preserves_Gate_GateIdeal : Prop :=
  IdealRules.named_const.Statement Cert.GateIdeal.κ "ck" .f32 0x3D122279#32 ((80338380498831 / 2251799813685248 : ℝ) : EReal)

def algebraic_GateIdeal_GateRIdeal [hGateIdeal : Cert.GateIdeal.Facts] [hGateRIdeal : Cert.GateRIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRIdeal.nD Cert.GateRIdeal.τ Cert.GateRIdeal.sig) → Buf (Elt Ideal) ℓ) (g' : Dev Cert.GateRIdeal.nD → PrngReg), Pre_GateIdeal m →
    (∀ c : Dev Cert.GateIdeal.nD,
      m' ((c.tc : Thread Cert.GateRIdeal.nD Cert.GateRIdeal.τ).loc Cert.GateRIdeal.main_arg0) = m ((c.tc : Thread Cert.GateIdeal.nD Cert.GateIdeal.τ).loc Cert.GateIdeal.main_arg0)
      ∧ m' ((c.tc : Thread Cert.GateRIdeal.nD Cert.GateRIdeal.τ).loc Cert.GateRIdeal.main_arg1) = m ((c.tc : Thread Cert.GateIdeal.nD Cert.GateIdeal.τ).loc Cert.GateIdeal.main_arg1)
      ∧ m' ((c.tc : Thread Cert.GateRIdeal.nD Cert.GateRIdeal.τ).loc Cert.GateRIdeal.main_arg2) = m ((c.tc : Thread Cert.GateIdeal.nD Cert.GateIdeal.τ).loc Cert.GateIdeal.main_arg2)) →
    ∃ (v0 : (c : Dev Cert.GateIdeal.nD) → Buf (Elt Ideal) ((c.tc : Thread Cert.GateIdeal.nD Cert.GateIdeal.τ).loc Cert.GateIdeal.main_v3_0)) (v1 : (c : Dev Cert.GateIdeal.nD) → Buf (Elt Ideal) ((c.tc : Thread Cert.GateIdeal.nD Cert.GateIdeal.τ).loc Cert.GateIdeal.main_v3_1)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v3_0) = v0 c
          ∧ r.2.mem ((c.tc : Thread Cert.GateIdeal.nD Cert.GateIdeal.τ).loc Cert.GateIdeal.main_v3_1) = v1 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ θ_run (Cert.GateRIdeal.defs (F := Ideal)) (onTc (τ := Cert.GateRIdeal.τ) (Cert.GateRIdeal.main (F := Ideal))) ⟨m', fun _ => 0, g'⟩ (fun r => ∀ c : Dev Cert.GateRIdeal.nD,
          r.2.mem ((c.tc : Thread Cert.GateRIdeal.nD Cert.GateRIdeal.τ).loc Cert.GateRIdeal.main_v28) = v0 c
          ∧ r.2.mem ((c.tc : Thread Cert.GateRIdeal.nD Cert.GateRIdeal.τ).loc Cert.GateRIdeal.main_v77) = v1 c
          ∧ r.2.mem ((c.tc : Thread Cert.GateRIdeal.nD Cert.GateRIdeal.τ).loc Cert.GateRIdeal.main_arg0) = m' ((c.tc : Thread Cert.GateRIdeal.nD Cert.GateRIdeal.τ).loc Cert.GateRIdeal.main_arg0)
          ∧ r.2.mem ((c.tc : Thread Cert.GateRIdeal.nD Cert.GateRIdeal.τ).loc Cert.GateRIdeal.main_arg1) = m' ((c.tc : Thread Cert.GateRIdeal.nD Cert.GateRIdeal.τ).loc Cert.GateRIdeal.main_arg1)
          ∧ r.2.mem ((c.tc : Thread Cert.GateRIdeal.nD Cert.GateRIdeal.τ).loc Cert.GateRIdeal.main_arg2) = m' ((c.tc : Thread Cert.GateRIdeal.nD Cert.GateRIdeal.τ).loc Cert.GateRIdeal.main_arg2))

def preserves_InProj_InProjIdeal : Prop :=
  True

def algebraic_InProjIdeal_InProjRIdeal [hInProjIdeal : Cert.InProjIdeal.Facts] [hInProjRIdeal : Cert.InProjRIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRIdeal.nD Cert.InProjRIdeal.τ Cert.InProjRIdeal.sig) → Buf (Elt Ideal) ℓ) (g' : Dev Cert.InProjRIdeal.nD → PrngReg), Pre_InProjIdeal m →
    (∀ c : Dev Cert.InProjIdeal.nD,
      m' ((c.tc : Thread Cert.InProjRIdeal.nD Cert.InProjRIdeal.τ).loc Cert.InProjRIdeal.main_arg0) = m ((c.tc : Thread Cert.InProjIdeal.nD Cert.InProjIdeal.τ).loc Cert.InProjIdeal.main_arg0)
      ∧ m' ((c.tc : Thread Cert.InProjRIdeal.nD Cert.InProjRIdeal.τ).loc Cert.InProjRIdeal.main_arg1) = m ((c.tc : Thread Cert.InProjIdeal.nD Cert.InProjIdeal.τ).loc Cert.InProjIdeal.main_arg1)
      ∧ m' ((c.tc : Thread Cert.InProjRIdeal.nD Cert.InProjRIdeal.τ).loc Cert.InProjRIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v0_0)) (v1 : (c : Dev Cert.InProjIdeal.nD) → Buf (Elt Ideal) ((c.tc : Thread Cert.InProjIdeal.nD Cert.InProjIdeal.τ).loc Cert.InProjIdeal.main_v0_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0_0) = v0 c
          ∧ r.2.mem ((c.tc : Thread Cert.InProjIdeal.nD Cert.InProjIdeal.τ).loc Cert.InProjIdeal.main_v0_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRIdeal.defs (F := Ideal)) (onTc (τ := Cert.InProjRIdeal.τ) (Cert.InProjRIdeal.main (F := Ideal))) ⟨m', fun _ => 0, g'⟩ (fun r => ∀ c : Dev Cert.InProjRIdeal.nD,
          r.2.mem ((c.tc : Thread Cert.InProjRIdeal.nD Cert.InProjRIdeal.τ).loc Cert.InProjRIdeal.main_v12) = v0 c
          ∧ r.2.mem ((c.tc : Thread Cert.InProjRIdeal.nD Cert.InProjRIdeal.τ).loc Cert.InProjRIdeal.main_v16) = v1 c
          ∧ r.2.mem ((c.tc : Thread Cert.InProjRIdeal.nD Cert.InProjRIdeal.τ).loc Cert.InProjRIdeal.main_arg0) = m' ((c.tc : Thread Cert.InProjRIdeal.nD Cert.InProjRIdeal.τ).loc Cert.InProjRIdeal.main_arg0)
          ∧ r.2.mem ((c.tc : Thread Cert.InProjRIdeal.nD Cert.InProjRIdeal.τ).loc Cert.InProjRIdeal.main_arg1) = m' ((c.tc : Thread Cert.InProjRIdeal.nD Cert.InProjRIdeal.τ).loc Cert.InProjRIdeal.main_arg1)
          ∧ r.2.mem ((c.tc : Thread Cert.InProjRIdeal.nD Cert.InProjRIdeal.τ).loc Cert.InProjRIdeal.main_arg2) = m' ((c.tc : Thread Cert.InProjRIdeal.nD Cert.InProjRIdeal.τ).loc Cert.InProjRIdeal.main_arg2))

def preserves_UpProj_UpProjIdeal : Prop :=
  True

def algebraic_UpProjIdeal_UpProjRIdeal [hUpProjIdeal : Cert.UpProjIdeal.Facts] [hUpProjRIdeal : Cert.UpProjRIdeal.Facts] : Prop :=
  ∀ (m : (ℓ : Loc Cert.UpProjIdeal.nD Cert.UpProjIdeal.τ Cert.UpProjIdeal.sig) → Buf (Elt Ideal) ℓ) (g : Dev Cert.UpProjIdeal.nD → PrngReg)
    (m' : (ℓ : Loc Cert.UpProjRIdeal.nD Cert.UpProjRIdeal.τ Cert.UpProjRIdeal.sig) → Buf (Elt Ideal) ℓ) (g' : Dev Cert.UpProjRIdeal.nD → PrngReg), Pre_UpProjIdeal m →
    (∀ c : Dev Cert.UpProjIdeal.nD,
      m' ((c.tc : Thread Cert.UpProjRIdeal.nD Cert.UpProjRIdeal.τ).loc Cert.UpProjRIdeal.main_arg0) = m ((c.tc : Thread Cert.UpProjIdeal.nD Cert.UpProjIdeal.τ).loc Cert.UpProjIdeal.main_arg0)
      ∧ m' ((c.tc : Thread Cert.UpProjRIdeal.nD Cert.UpProjRIdeal.τ).loc Cert.UpProjRIdeal.main_arg1) = m ((c.tc : Thread Cert.UpProjIdeal.nD Cert.UpProjIdeal.τ).loc Cert.UpProjIdeal.main_arg1)
      ∧ m' ((c.tc : Thread Cert.UpProjRIdeal.nD Cert.UpProjRIdeal.τ).loc Cert.UpProjRIdeal.main_arg2) = m ((c.tc : Thread Cert.UpProjIdeal.nD Cert.UpProjIdeal.τ).loc Cert.UpProjIdeal.main_arg2)) →
    ∃ (v0 : (c : Dev Cert.UpProjIdeal.nD) → Buf (Elt Ideal) ((c.tc : Thread Cert.UpProjIdeal.nD Cert.UpProjIdeal.τ).loc Cert.UpProjIdeal.main_v0_0)) (v1 : (c : Dev Cert.UpProjIdeal.nD) → Buf (Elt Ideal) ((c.tc : Thread Cert.UpProjIdeal.nD Cert.UpProjIdeal.τ).loc Cert.UpProjIdeal.main_v0_1)),
      θ_run (Cert.UpProjIdeal.defs (F := Ideal)) (onTc (τ := Cert.UpProjIdeal.τ) (Cert.UpProjIdeal.main (F := Ideal))) ⟨m, fun _ => 0, g⟩ (fun r => ∀ c : Dev Cert.UpProjIdeal.nD,
          r.2.mem ((c.tc : Thread Cert.UpProjIdeal.nD Cert.UpProjIdeal.τ).loc Cert.UpProjIdeal.main_v0_0) = v0 c
          ∧ r.2.mem ((c.tc : Thread Cert.UpProjIdeal.nD Cert.UpProjIdeal.τ).loc Cert.UpProjIdeal.main_v0_1) = v1 c
          ∧ r.2.mem ((c.tc : Thread Cert.UpProjIdeal.nD Cert.UpProjIdeal.τ).loc Cert.UpProjIdeal.main_arg0) = m ((c.tc : Thread Cert.UpProjIdeal.nD Cert.UpProjIdeal.τ).loc Cert.UpProjIdeal.main_arg0)
          ∧ r.2.mem ((c.tc : Thread Cert.UpProjIdeal.nD Cert.UpProjIdeal.τ).loc Cert.UpProjIdeal.main_arg1) = m ((c.tc : Thread Cert.UpProjIdeal.nD Cert.UpProjIdeal.τ).loc Cert.UpProjIdeal.main_arg1)
          ∧ r.2.mem ((c.tc : Thread Cert.UpProjIdeal.nD Cert.UpProjIdeal.τ).loc Cert.UpProjIdeal.main_arg2) = m ((c.tc : Thread Cert.UpProjIdeal.nD Cert.UpProjIdeal.τ).loc Cert.UpProjIdeal.main_arg2))
      ∧ θ_run (Cert.UpProjRIdeal.defs (F := Ideal)) (onTc (τ := Cert.UpProjRIdeal.τ) (Cert.UpProjRIdeal.main (F := Ideal))) ⟨m', fun _ => 0, g'⟩ (fun r => ∀ c : Dev Cert.UpProjRIdeal.nD,
          r.2.mem ((c.tc : Thread Cert.UpProjRIdeal.nD Cert.UpProjRIdeal.τ).loc Cert.UpProjRIdeal.main_v12) = v0 c
          ∧ r.2.mem ((c.tc : Thread Cert.UpProjRIdeal.nD Cert.UpProjRIdeal.τ).loc Cert.UpProjRIdeal.main_v16) = v1 c
          ∧ r.2.mem ((c.tc : Thread Cert.UpProjRIdeal.nD Cert.UpProjRIdeal.τ).loc Cert.UpProjRIdeal.main_arg0) = m' ((c.tc : Thread Cert.UpProjRIdeal.nD Cert.UpProjRIdeal.τ).loc Cert.UpProjRIdeal.main_arg0)
          ∧ r.2.mem ((c.tc : Thread Cert.UpProjRIdeal.nD Cert.UpProjRIdeal.τ).loc Cert.UpProjRIdeal.main_arg1) = m' ((c.tc : Thread Cert.UpProjRIdeal.nD Cert.UpProjRIdeal.τ).loc Cert.UpProjRIdeal.main_arg1)
          ∧ r.2.mem ((c.tc : Thread Cert.UpProjRIdeal.nD Cert.UpProjRIdeal.τ).loc Cert.UpProjRIdeal.main_arg2) = m' ((c.tc : Thread Cert.UpProjRIdeal.nD Cert.UpProjRIdeal.τ).loc Cert.UpProjRIdeal.main_arg2))

def preserves_ConvBwd_ConvBwdIdeal : Prop :=
  IdealRules.named_const.Statement Cert.ConvBwdIdeal.κ "ck" .f32 0x3D122279#32 ((80338380498831 / 2251799813685248 : ℝ) : EReal)
  ∧ IdealRules.named_const.Statement Cert.ConvBwdIdeal.κ "ck6" .f32 0x3E5B33B6#32 ((241015141496493 / 1125899906842624 : ℝ) : EReal)

def algebraic_ConvBwdIdeal_ConvBwdRIdeal_pre_finite [hConvBwdIdeal : Cert.ConvBwdIdeal.Facts] [hConvBwdRIdeal : Cert.ConvBwdRIdeal.Facts] [hPre_finite : Cert.Pre_finite.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg)
    (m' : (ℓ : Loc Cert.ConvBwdRIdeal.nD Cert.ConvBwdRIdeal.τ Cert.ConvBwdRIdeal.sig) → Buf (Elt Ideal) ℓ) (g' : Dev Cert.ConvBwdRIdeal.nD → PrngReg), Pre_ConvBwdIdeal_finite m →
    (∀ c : Dev Cert.ConvBwdIdeal.nD,
      m' ((c.tc : Thread Cert.ConvBwdRIdeal.nD Cert.ConvBwdRIdeal.τ).loc Cert.ConvBwdRIdeal.main_arg0) = m ((c.tc : Thread Cert.ConvBwdIdeal.nD Cert.ConvBwdIdeal.τ).loc Cert.ConvBwdIdeal.main_arg0)
      ∧ m' ((c.tc : Thread Cert.ConvBwdRIdeal.nD Cert.ConvBwdRIdeal.τ).loc Cert.ConvBwdRIdeal.main_arg1) = m ((c.tc : Thread Cert.ConvBwdIdeal.nD Cert.ConvBwdIdeal.τ).loc Cert.ConvBwdIdeal.main_arg1)
      ∧ m' ((c.tc : Thread Cert.ConvBwdRIdeal.nD Cert.ConvBwdRIdeal.τ).loc Cert.ConvBwdRIdeal.main_arg2) = m ((c.tc : Thread Cert.ConvBwdIdeal.nD Cert.ConvBwdIdeal.τ).loc Cert.ConvBwdIdeal.main_arg2)
      ∧ m' ((c.tc : Thread Cert.ConvBwdRIdeal.nD Cert.ConvBwdRIdeal.τ).loc Cert.ConvBwdRIdeal.main_arg3) = m ((c.tc : Thread Cert.ConvBwdIdeal.nD Cert.ConvBwdIdeal.τ).loc Cert.ConvBwdIdeal.main_arg3)) →
    ∃ (v0 : (c : Dev Cert.ConvBwdIdeal.nD) → Buf (Elt Ideal) ((c.tc : Thread Cert.ConvBwdIdeal.nD Cert.ConvBwdIdeal.τ).loc Cert.ConvBwdIdeal.main_v32_0)) (v1 : (c : Dev Cert.ConvBwdIdeal.nD) → Buf (Elt Ideal) ((c.tc : Thread Cert.ConvBwdIdeal.nD Cert.ConvBwdIdeal.τ).loc Cert.ConvBwdIdeal.main_v32_1)),
      θ_run (Cert.ConvBwdIdeal.defs (F := Ideal)) (onTc (τ := Cert.ConvBwdIdeal.τ) (Cert.ConvBwdIdeal.main (F := Ideal))) ⟨m, fun _ => 0, g⟩ (fun r => ∀ c : Dev Cert.ConvBwdIdeal.nD,
          r.2.mem ((c.tc : Thread Cert.ConvBwdIdeal.nD Cert.ConvBwdIdeal.τ).loc Cert.ConvBwdIdeal.main_v32_0) = v0 c
          ∧ r.2.mem ((c.tc : Thread Cert.ConvBwdIdeal.nD Cert.ConvBwdIdeal.τ).loc Cert.ConvBwdIdeal.main_v32_1) = v1 c
          ∧ r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
          ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
          ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
          ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3))
      ∧ θ_run (Cert.ConvBwdRIdeal.defs (F := Ideal)) (onTc (τ := Cert.ConvBwdRIdeal.τ) (Cert.ConvBwdRIdeal.main (F := Ideal))) ⟨m', fun _ => 0, g'⟩ (fun r => ∀ c : Dev Cert.ConvBwdRIdeal.nD,
          r.2.mem ((c.tc : Thread Cert.ConvBwdRIdeal.nD Cert.ConvBwdRIdeal.τ).loc Cert.ConvBwdRIdeal.main_v116) = v0 c
          ∧ r.2.mem ((c.tc : Thread Cert.ConvBwdRIdeal.nD Cert.ConvBwdRIdeal.τ).loc Cert.ConvBwdRIdeal.main_v119) = v1 c
          ∧ r.2.mem ((c.tc : Thread Cert.ConvBwdRIdeal.nD Cert.ConvBwdRIdeal.τ).loc Cert.ConvBwdRIdeal.main_arg0) = m' ((c.tc : Thread Cert.ConvBwdRIdeal.nD Cert.ConvBwdRIdeal.τ).loc Cert.ConvBwdRIdeal.main_arg0)
          ∧ r.2.mem ((c.tc : Thread Cert.ConvBwdRIdeal.nD Cert.ConvBwdRIdeal.τ).loc Cert.ConvBwdRIdeal.main_arg1) = m' ((c.tc : Thread Cert.ConvBwdRIdeal.nD Cert.ConvBwdRIdeal.τ).loc Cert.ConvBwdRIdeal.main_arg1)
          ∧ r.2.mem ((c.tc : Thread Cert.ConvBwdRIdeal.nD Cert.ConvBwdRIdeal.τ).loc Cert.ConvBwdRIdeal.main_arg2) = m' ((c.tc : Thread Cert.ConvBwdRIdeal.nD Cert.ConvBwdRIdeal.τ).loc Cert.ConvBwdRIdeal.main_arg2)
          ∧ r.2.mem ((c.tc : Thread Cert.ConvBwdRIdeal.nD Cert.ConvBwdRIdeal.τ).loc Cert.ConvBwdRIdeal.main_arg3) = m' ((c.tc : Thread Cert.ConvBwdRIdeal.nD Cert.ConvBwdRIdeal.τ).loc Cert.ConvBwdRIdeal.main_arg3))

def preserves_AdamwIn_AdamwInIdeal : Prop :=
  True

def algebraic_AdamwInIdeal_AdamwInRIdeal [hAdamwInIdeal : Cert.AdamwInIdeal.Facts] [hAdamwInRIdeal : Cert.AdamwInRIdeal.Facts] : Prop :=
  ∀ (m : (ℓ : Loc Cert.AdamwInIdeal.nD Cert.AdamwInIdeal.τ Cert.AdamwInIdeal.sig) → Buf (Elt Ideal) ℓ) (g : Dev Cert.AdamwInIdeal.nD → PrngReg)
    (m' : (ℓ : Loc Cert.AdamwInRIdeal.nD Cert.AdamwInRIdeal.τ Cert.AdamwInRIdeal.sig) → Buf (Elt Ideal) ℓ) (g' : Dev Cert.AdamwInRIdeal.nD → PrngReg), Pre_AdamwInIdeal m →
    (∀ c : Dev Cert.AdamwInIdeal.nD,
      m' ((c.tc : Thread Cert.AdamwInRIdeal.nD Cert.AdamwInRIdeal.τ).loc Cert.AdamwInRIdeal.main_arg0) = m ((c.tc : Thread Cert.AdamwInIdeal.nD Cert.AdamwInIdeal.τ).loc Cert.AdamwInIdeal.main_arg0)
      ∧ m' ((c.tc : Thread Cert.AdamwInRIdeal.nD Cert.AdamwInRIdeal.τ).loc Cert.AdamwInRIdeal.main_arg1) = m ((c.tc : Thread Cert.AdamwInIdeal.nD Cert.AdamwInIdeal.τ).loc Cert.AdamwInIdeal.main_arg1)
      ∧ m' ((c.tc : Thread Cert.AdamwInRIdeal.nD Cert.AdamwInRIdeal.τ).loc Cert.AdamwInRIdeal.main_arg2) = m ((c.tc : Thread Cert.AdamwInIdeal.nD Cert.AdamwInIdeal.τ).loc Cert.AdamwInIdeal.main_arg2)
      ∧ m' ((c.tc : Thread Cert.AdamwInRIdeal.nD Cert.AdamwInRIdeal.τ).loc Cert.AdamwInRIdeal.main_arg3) = m ((c.tc : Thread Cert.AdamwInIdeal.nD Cert.AdamwInIdeal.τ).loc Cert.AdamwInIdeal.main_arg3)) →
    ∃ (v0 : (c : Dev Cert.AdamwInIdeal.nD) → Buf (Elt Ideal) ((c.tc : Thread Cert.AdamwInIdeal.nD Cert.AdamwInIdeal.τ).loc Cert.AdamwInIdeal.main_v6_0)) (v1 : (c : Dev Cert.AdamwInIdeal.nD) → Buf (Elt Ideal) ((c.tc : Thread Cert.AdamwInIdeal.nD Cert.AdamwInIdeal.τ).loc Cert.AdamwInIdeal.main_v6_1)) (v2 : (c : Dev Cert.AdamwInIdeal.nD) → Buf (Elt Ideal) ((c.tc : Thread Cert.AdamwInIdeal.nD Cert.AdamwInIdeal.τ).loc Cert.AdamwInIdeal.main_v6_2)) (v3 : (c : Dev Cert.AdamwInIdeal.nD) → Buf (Elt Ideal) ((c.tc : Thread Cert.AdamwInIdeal.nD Cert.AdamwInIdeal.τ).loc Cert.AdamwInIdeal.main_v6_3)),
      θ_run (Cert.AdamwInIdeal.defs (F := Ideal)) (onTc (τ := Cert.AdamwInIdeal.τ) (Cert.AdamwInIdeal.main (F := Ideal))) ⟨m, fun _ => 0, g⟩ (fun r => ∀ c : Dev Cert.AdamwInIdeal.nD,
          r.2.mem ((c.tc : Thread Cert.AdamwInIdeal.nD Cert.AdamwInIdeal.τ).loc Cert.AdamwInIdeal.main_v6_0) = v0 c
          ∧ r.2.mem ((c.tc : Thread Cert.AdamwInIdeal.nD Cert.AdamwInIdeal.τ).loc Cert.AdamwInIdeal.main_v6_1) = v1 c
          ∧ r.2.mem ((c.tc : Thread Cert.AdamwInIdeal.nD Cert.AdamwInIdeal.τ).loc Cert.AdamwInIdeal.main_v6_2) = v2 c
          ∧ r.2.mem ((c.tc : Thread Cert.AdamwInIdeal.nD Cert.AdamwInIdeal.τ).loc Cert.AdamwInIdeal.main_v6_3) = v3 c
          ∧ r.2.mem ((c.tc : Thread Cert.AdamwInIdeal.nD Cert.AdamwInIdeal.τ).loc Cert.AdamwInIdeal.main_arg0) = m ((c.tc : Thread Cert.AdamwInIdeal.nD Cert.AdamwInIdeal.τ).loc Cert.AdamwInIdeal.main_arg0)
          ∧ r.2.mem ((c.tc : Thread Cert.AdamwInIdeal.nD Cert.AdamwInIdeal.τ).loc Cert.AdamwInIdeal.main_arg1) = m ((c.tc : Thread Cert.AdamwInIdeal.nD Cert.AdamwInIdeal.τ).loc Cert.AdamwInIdeal.main_arg1)
          ∧ r.2.mem ((c.tc : Thread Cert.AdamwInIdeal.nD Cert.AdamwInIdeal.τ).loc Cert.AdamwInIdeal.main_arg2) = m ((c.tc : Thread Cert.AdamwInIdeal.nD Cert.AdamwInIdeal.τ).loc Cert.AdamwInIdeal.main_arg2)
          ∧ r.2.mem ((c.tc : Thread Cert.AdamwInIdeal.nD Cert.AdamwInIdeal.τ).loc Cert.AdamwInIdeal.main_arg3) = m ((c.tc : Thread Cert.AdamwInIdeal.nD Cert.AdamwInIdeal.τ).loc Cert.AdamwInIdeal.main_arg3))
      ∧ θ_run (Cert.AdamwInRIdeal.defs (F := Ideal)) (onTc (τ := Cert.AdamwInRIdeal.τ) (Cert.AdamwInRIdeal.main (F := Ideal))) ⟨m', fun _ => 0, g'⟩ (fun r => ∀ c : Dev Cert.AdamwInRIdeal.nD,
          r.2.mem ((c.tc : Thread Cert.AdamwInRIdeal.nD Cert.AdamwInRIdeal.τ).loc Cert.AdamwInRIdeal.main_v5) = v0 c
          ∧ r.2.mem ((c.tc : Thread Cert.AdamwInRIdeal.nD Cert.AdamwInRIdeal.τ).loc Cert.AdamwInRIdeal.main_v29) = v1 c
          ∧ r.2.mem ((c.tc : Thread Cert.AdamwInRIdeal.nD Cert.AdamwInRIdeal.τ).loc Cert.AdamwInRIdeal.main_v10) = v2 c
          ∧ r.2.mem ((c.tc : Thread Cert.AdamwInRIdeal.nD Cert.AdamwInRIdeal.τ).loc Cert.AdamwInRIdeal.main_v16) = v3 c
          ∧ r.2.mem ((c.tc : Thread Cert.AdamwInRIdeal.nD Cert.AdamwInRIdeal.τ).loc Cert.AdamwInRIdeal.main_arg0) = m' ((c.tc : Thread Cert.AdamwInRIdeal.nD Cert.AdamwInRIdeal.τ).loc Cert.AdamwInRIdeal.main_arg0)
          ∧ r.2.mem ((c.tc : Thread Cert.AdamwInRIdeal.nD Cert.AdamwInRIdeal.τ).loc Cert.AdamwInRIdeal.main_arg1) = m' ((c.tc : Thread Cert.AdamwInRIdeal.nD Cert.AdamwInRIdeal.τ).loc Cert.AdamwInRIdeal.main_arg1)
          ∧ r.2.mem ((c.tc : Thread Cert.AdamwInRIdeal.nD Cert.AdamwInRIdeal.τ).loc Cert.AdamwInRIdeal.main_arg2) = m' ((c.tc : Thread Cert.AdamwInRIdeal.nD Cert.AdamwInRIdeal.τ).loc Cert.AdamwInRIdeal.main_arg2)
          ∧ r.2.mem ((c.tc : Thread Cert.AdamwInRIdeal.nD Cert.AdamwInRIdeal.τ).loc Cert.AdamwInRIdeal.main_arg3) = m' ((c.tc : Thread Cert.AdamwInRIdeal.nD Cert.AdamwInRIdeal.τ).loc Cert.AdamwInRIdeal.main_arg3))

def preserves_AdamwUp_AdamwUpIdeal : Prop :=
  True

def algebraic_AdamwUpIdeal_AdamwUpRIdeal [hAdamwUpIdeal : Cert.AdamwUpIdeal.Facts] [hAdamwUpRIdeal : Cert.AdamwUpRIdeal.Facts] : Prop :=
  ∀ (m : (ℓ : Loc Cert.AdamwUpIdeal.nD Cert.AdamwUpIdeal.τ Cert.AdamwUpIdeal.sig) → Buf (Elt Ideal) ℓ) (g : Dev Cert.AdamwUpIdeal.nD → PrngReg)
    (m' : (ℓ : Loc Cert.AdamwUpRIdeal.nD Cert.AdamwUpRIdeal.τ Cert.AdamwUpRIdeal.sig) → Buf (Elt Ideal) ℓ) (g' : Dev Cert.AdamwUpRIdeal.nD → PrngReg), Pre_AdamwUpIdeal m →
    (∀ c : Dev Cert.AdamwUpIdeal.nD,
      m' ((c.tc : Thread Cert.AdamwUpRIdeal.nD Cert.AdamwUpRIdeal.τ).loc Cert.AdamwUpRIdeal.main_arg0) = m ((c.tc : Thread Cert.AdamwUpIdeal.nD Cert.AdamwUpIdeal.τ).loc Cert.AdamwUpIdeal.main_arg0)
      ∧ m' ((c.tc : Thread Cert.AdamwUpRIdeal.nD Cert.AdamwUpRIdeal.τ).loc Cert.AdamwUpRIdeal.main_arg1) = m ((c.tc : Thread Cert.AdamwUpIdeal.nD Cert.AdamwUpIdeal.τ).loc Cert.AdamwUpIdeal.main_arg1)
      ∧ m' ((c.tc : Thread Cert.AdamwUpRIdeal.nD Cert.AdamwUpRIdeal.τ).loc Cert.AdamwUpRIdeal.main_arg2) = m ((c.tc : Thread Cert.AdamwUpIdeal.nD Cert.AdamwUpIdeal.τ).loc Cert.AdamwUpIdeal.main_arg2)
      ∧ m' ((c.tc : Thread Cert.AdamwUpRIdeal.nD Cert.AdamwUpRIdeal.τ).loc Cert.AdamwUpRIdeal.main_arg3) = m ((c.tc : Thread Cert.AdamwUpIdeal.nD Cert.AdamwUpIdeal.τ).loc Cert.AdamwUpIdeal.main_arg3)) →
    ∃ (v0 : (c : Dev Cert.AdamwUpIdeal.nD) → Buf (Elt Ideal) ((c.tc : Thread Cert.AdamwUpIdeal.nD Cert.AdamwUpIdeal.τ).loc Cert.AdamwUpIdeal.main_v6_0)) (v1 : (c : Dev Cert.AdamwUpIdeal.nD) → Buf (Elt Ideal) ((c.tc : Thread Cert.AdamwUpIdeal.nD Cert.AdamwUpIdeal.τ).loc Cert.AdamwUpIdeal.main_v6_1)) (v2 : (c : Dev Cert.AdamwUpIdeal.nD) → Buf (Elt Ideal) ((c.tc : Thread Cert.AdamwUpIdeal.nD Cert.AdamwUpIdeal.τ).loc Cert.AdamwUpIdeal.main_v6_2)) (v3 : (c : Dev Cert.AdamwUpIdeal.nD) → Buf (Elt Ideal) ((c.tc : Thread Cert.AdamwUpIdeal.nD Cert.AdamwUpIdeal.τ).loc Cert.AdamwUpIdeal.main_v6_3)),
      θ_run (Cert.AdamwUpIdeal.defs (F := Ideal)) (onTc (τ := Cert.AdamwUpIdeal.τ) (Cert.AdamwUpIdeal.main (F := Ideal))) ⟨m, fun _ => 0, g⟩ (fun r => ∀ c : Dev Cert.AdamwUpIdeal.nD,
          r.2.mem ((c.tc : Thread Cert.AdamwUpIdeal.nD Cert.AdamwUpIdeal.τ).loc Cert.AdamwUpIdeal.main_v6_0) = v0 c
          ∧ r.2.mem ((c.tc : Thread Cert.AdamwUpIdeal.nD Cert.AdamwUpIdeal.τ).loc Cert.AdamwUpIdeal.main_v6_1) = v1 c
          ∧ r.2.mem ((c.tc : Thread Cert.AdamwUpIdeal.nD Cert.AdamwUpIdeal.τ).loc Cert.AdamwUpIdeal.main_v6_2) = v2 c
          ∧ r.2.mem ((c.tc : Thread Cert.AdamwUpIdeal.nD Cert.AdamwUpIdeal.τ).loc Cert.AdamwUpIdeal.main_v6_3) = v3 c
          ∧ r.2.mem ((c.tc : Thread Cert.AdamwUpIdeal.nD Cert.AdamwUpIdeal.τ).loc Cert.AdamwUpIdeal.main_arg0) = m ((c.tc : Thread Cert.AdamwUpIdeal.nD Cert.AdamwUpIdeal.τ).loc Cert.AdamwUpIdeal.main_arg0)
          ∧ r.2.mem ((c.tc : Thread Cert.AdamwUpIdeal.nD Cert.AdamwUpIdeal.τ).loc Cert.AdamwUpIdeal.main_arg1) = m ((c.tc : Thread Cert.AdamwUpIdeal.nD Cert.AdamwUpIdeal.τ).loc Cert.AdamwUpIdeal.main_arg1)
          ∧ r.2.mem ((c.tc : Thread Cert.AdamwUpIdeal.nD Cert.AdamwUpIdeal.τ).loc Cert.AdamwUpIdeal.main_arg2) = m ((c.tc : Thread Cert.AdamwUpIdeal.nD Cert.AdamwUpIdeal.τ).loc Cert.AdamwUpIdeal.main_arg2)
          ∧ r.2.mem ((c.tc : Thread Cert.AdamwUpIdeal.nD Cert.AdamwUpIdeal.τ).loc Cert.AdamwUpIdeal.main_arg3) = m ((c.tc : Thread Cert.AdamwUpIdeal.nD Cert.AdamwUpIdeal.τ).loc Cert.AdamwUpIdeal.main_arg3))
      ∧ θ_run (Cert.AdamwUpRIdeal.defs (F := Ideal)) (onTc (τ := Cert.AdamwUpRIdeal.τ) (Cert.AdamwUpRIdeal.main (F := Ideal))) ⟨m', fun _ => 0, g'⟩ (fun r => ∀ c : Dev Cert.AdamwUpRIdeal.nD,
          r.2.mem ((c.tc : Thread Cert.AdamwUpRIdeal.nD Cert.AdamwUpRIdeal.τ).loc Cert.AdamwUpRIdeal.main_v5) = v0 c
          ∧ r.2.mem ((c.tc : Thread Cert.AdamwUpRIdeal.nD Cert.AdamwUpRIdeal.τ).loc Cert.AdamwUpRIdeal.main_v29) = v1 c
          ∧ r.2.mem ((c.tc : Thread Cert.AdamwUpRIdeal.nD Cert.AdamwUpRIdeal.τ).loc Cert.AdamwUpRIdeal.main_v10) = v2 c
          ∧ r.2.mem ((c.tc : Thread Cert.AdamwUpRIdeal.nD Cert.AdamwUpRIdeal.τ).loc Cert.AdamwUpRIdeal.main_v16) = v3 c
          ∧ r.2.mem ((c.tc : Thread Cert.AdamwUpRIdeal.nD Cert.AdamwUpRIdeal.τ).loc Cert.AdamwUpRIdeal.main_arg0) = m' ((c.tc : Thread Cert.AdamwUpRIdeal.nD Cert.AdamwUpRIdeal.τ).loc Cert.AdamwUpRIdeal.main_arg0)
          ∧ r.2.mem ((c.tc : Thread Cert.AdamwUpRIdeal.nD Cert.AdamwUpRIdeal.τ).loc Cert.AdamwUpRIdeal.main_arg1) = m' ((c.tc : Thread Cert.AdamwUpRIdeal.nD Cert.AdamwUpRIdeal.τ).loc Cert.AdamwUpRIdeal.main_arg1)
          ∧ r.2.mem ((c.tc : Thread Cert.AdamwUpRIdeal.nD Cert.AdamwUpRIdeal.τ).loc Cert.AdamwUpRIdeal.main_arg2) = m' ((c.tc : Thread Cert.AdamwUpRIdeal.nD Cert.AdamwUpRIdeal.τ).loc Cert.AdamwUpRIdeal.main_arg2)
          ∧ r.2.mem ((c.tc : Thread Cert.AdamwUpRIdeal.nD Cert.AdamwUpRIdeal.τ).loc Cert.AdamwUpRIdeal.main_arg3) = m' ((c.tc : Thread Cert.AdamwUpRIdeal.nD Cert.AdamwUpRIdeal.τ).loc Cert.AdamwUpRIdeal.main_arg3))

def preserves_AdamwOut_AdamwOutIdeal : Prop :=
  True

def algebraic_AdamwOutIdeal_AdamwOutRIdeal [hAdamwOutIdeal : Cert.AdamwOutIdeal.Facts] [hAdamwOutRIdeal : Cert.AdamwOutRIdeal.Facts] : Prop :=
  ∀ (m : (ℓ : Loc Cert.AdamwOutIdeal.nD Cert.AdamwOutIdeal.τ Cert.AdamwOutIdeal.sig) → Buf (Elt Ideal) ℓ) (g : Dev Cert.AdamwOutIdeal.nD → PrngReg)
    (m' : (ℓ : Loc Cert.AdamwOutRIdeal.nD Cert.AdamwOutRIdeal.τ Cert.AdamwOutRIdeal.sig) → Buf (Elt Ideal) ℓ) (g' : Dev Cert.AdamwOutRIdeal.nD → PrngReg), Pre_AdamwOutIdeal m →
    (∀ c : Dev Cert.AdamwOutIdeal.nD,
      m' ((c.tc : Thread Cert.AdamwOutRIdeal.nD Cert.AdamwOutRIdeal.τ).loc Cert.AdamwOutRIdeal.main_arg0) = m ((c.tc : Thread Cert.AdamwOutIdeal.nD Cert.AdamwOutIdeal.τ).loc Cert.AdamwOutIdeal.main_arg0)
      ∧ m' ((c.tc : Thread Cert.AdamwOutRIdeal.nD Cert.AdamwOutRIdeal.τ).loc Cert.AdamwOutRIdeal.main_arg1) = m ((c.tc : Thread Cert.AdamwOutIdeal.nD Cert.AdamwOutIdeal.τ).loc Cert.AdamwOutIdeal.main_arg1)
      ∧ m' ((c.tc : Thread Cert.AdamwOutRIdeal.nD Cert.AdamwOutRIdeal.τ).loc Cert.AdamwOutRIdeal.main_arg2) = m ((c.tc : Thread Cert.AdamwOutIdeal.nD Cert.AdamwOutIdeal.τ).loc Cert.AdamwOutIdeal.main_arg2)
      ∧ m' ((c.tc : Thread Cert.AdamwOutRIdeal.nD Cert.AdamwOutRIdeal.τ).loc Cert.AdamwOutRIdeal.main_arg3) = m ((c.tc : Thread Cert.AdamwOutIdeal.nD Cert.AdamwOutIdeal.τ).loc Cert.AdamwOutIdeal.main_arg3)) →
    ∃ (v0 : (c : Dev Cert.AdamwOutIdeal.nD) → Buf (Elt Ideal) ((c.tc : Thread Cert.AdamwOutIdeal.nD Cert.AdamwOutIdeal.τ).loc Cert.AdamwOutIdeal.main_v0_0)) (v1 : (c : Dev Cert.AdamwOutIdeal.nD) → Buf (Elt Ideal) ((c.tc : Thread Cert.AdamwOutIdeal.nD Cert.AdamwOutIdeal.τ).loc Cert.AdamwOutIdeal.main_v0_1)) (v2 : (c : Dev Cert.AdamwOutIdeal.nD) → Buf (Elt Ideal) ((c.tc : Thread Cert.AdamwOutIdeal.nD Cert.AdamwOutIdeal.τ).loc Cert.AdamwOutIdeal.main_v0_2)) (v3 : (c : Dev Cert.AdamwOutIdeal.nD) → Buf (Elt Ideal) ((c.tc : Thread Cert.AdamwOutIdeal.nD Cert.AdamwOutIdeal.τ).loc Cert.AdamwOutIdeal.main_v0_3)),
      θ_run (Cert.AdamwOutIdeal.defs (F := Ideal)) (onTc (τ := Cert.AdamwOutIdeal.τ) (Cert.AdamwOutIdeal.main (F := Ideal))) ⟨m, fun _ => 0, g⟩ (fun r => ∀ c : Dev Cert.AdamwOutIdeal.nD,
          r.2.mem ((c.tc : Thread Cert.AdamwOutIdeal.nD Cert.AdamwOutIdeal.τ).loc Cert.AdamwOutIdeal.main_v0_0) = v0 c
          ∧ r.2.mem ((c.tc : Thread Cert.AdamwOutIdeal.nD Cert.AdamwOutIdeal.τ).loc Cert.AdamwOutIdeal.main_v0_1) = v1 c
          ∧ r.2.mem ((c.tc : Thread Cert.AdamwOutIdeal.nD Cert.AdamwOutIdeal.τ).loc Cert.AdamwOutIdeal.main_v0_2) = v2 c
          ∧ r.2.mem ((c.tc : Thread Cert.AdamwOutIdeal.nD Cert.AdamwOutIdeal.τ).loc Cert.AdamwOutIdeal.main_v0_3) = v3 c
          ∧ r.2.mem ((c.tc : Thread Cert.AdamwOutIdeal.nD Cert.AdamwOutIdeal.τ).loc Cert.AdamwOutIdeal.main_arg0) = m ((c.tc : Thread Cert.AdamwOutIdeal.nD Cert.AdamwOutIdeal.τ).loc Cert.AdamwOutIdeal.main_arg0)
          ∧ r.2.mem ((c.tc : Thread Cert.AdamwOutIdeal.nD Cert.AdamwOutIdeal.τ).loc Cert.AdamwOutIdeal.main_arg1) = m ((c.tc : Thread Cert.AdamwOutIdeal.nD Cert.AdamwOutIdeal.τ).loc Cert.AdamwOutIdeal.main_arg1)
          ∧ r.2.mem ((c.tc : Thread Cert.AdamwOutIdeal.nD Cert.AdamwOutIdeal.τ).loc Cert.AdamwOutIdeal.main_arg2) = m ((c.tc : Thread Cert.AdamwOutIdeal.nD Cert.AdamwOutIdeal.τ).loc Cert.AdamwOutIdeal.main_arg2)
          ∧ r.2.mem ((c.tc : Thread Cert.AdamwOutIdeal.nD Cert.AdamwOutIdeal.τ).loc Cert.AdamwOutIdeal.main_arg3) = m ((c.tc : Thread Cert.AdamwOutIdeal.nD Cert.AdamwOutIdeal.τ).loc Cert.AdamwOutIdeal.main_arg3))
      ∧ θ_run (Cert.AdamwOutRIdeal.defs (F := Ideal)) (onTc (τ := Cert.AdamwOutRIdeal.τ) (Cert.AdamwOutRIdeal.main (F := Ideal))) ⟨m', fun _ => 0, g'⟩ (fun r => ∀ c : Dev Cert.AdamwOutRIdeal.nD,
          r.2.mem ((c.tc : Thread Cert.AdamwOutRIdeal.nD Cert.AdamwOutRIdeal.τ).loc Cert.AdamwOutRIdeal.main_v1) = v0 c
          ∧ r.2.mem ((c.tc : Thread Cert.AdamwOutRIdeal.nD Cert.AdamwOutRIdeal.τ).loc Cert.AdamwOutRIdeal.main_v25) = v1 c
          ∧ r.2.mem ((c.tc : Thread Cert.AdamwOutRIdeal.nD Cert.AdamwOutRIdeal.τ).loc Cert.AdamwOutRIdeal.main_v6) = v2 c
          ∧ r.2.mem ((c.tc : Thread Cert.AdamwOutRIdeal.nD Cert.AdamwOutRIdeal.τ).loc Cert.AdamwOutRIdeal.main_v12) = v3 c
          ∧ r.2.mem ((c.tc : Thread Cert.AdamwOutRIdeal.nD Cert.AdamwOutRIdeal.τ).loc Cert.AdamwOutRIdeal.main_arg0) = m' ((c.tc : Thread Cert.AdamwOutRIdeal.nD Cert.AdamwOutRIdeal.τ).loc Cert.AdamwOutRIdeal.main_arg0)
          ∧ r.2.mem ((c.tc : Thread Cert.AdamwOutRIdeal.nD Cert.AdamwOutRIdeal.τ).loc Cert.AdamwOutRIdeal.main_arg1) = m' ((c.tc : Thread Cert.AdamwOutRIdeal.nD Cert.AdamwOutRIdeal.τ).loc Cert.AdamwOutRIdeal.main_arg1)
          ∧ r.2.mem ((c.tc : Thread Cert.AdamwOutRIdeal.nD Cert.AdamwOutRIdeal.τ).loc Cert.AdamwOutRIdeal.main_arg2) = m' ((c.tc : Thread Cert.AdamwOutRIdeal.nD Cert.AdamwOutRIdeal.τ).loc Cert.AdamwOutRIdeal.main_arg2)
          ∧ r.2.mem ((c.tc : Thread Cert.AdamwOutRIdeal.nD Cert.AdamwOutRIdeal.τ).loc Cert.AdamwOutRIdeal.main_arg3) = m' ((c.tc : Thread Cert.AdamwOutRIdeal.nD Cert.AdamwOutRIdeal.τ).loc Cert.AdamwOutRIdeal.main_arg3))

def preserves_AdamwDown_AdamwDownIdeal : Prop :=
  True

def algebraic_AdamwDownIdeal_AdamwDownRIdeal [hAdamwDownIdeal : Cert.AdamwDownIdeal.Facts] [hAdamwDownRIdeal : Cert.AdamwDownRIdeal.Facts] : Prop :=
  ∀ (m : (ℓ : Loc Cert.AdamwDownIdeal.nD Cert.AdamwDownIdeal.τ Cert.AdamwDownIdeal.sig) → Buf (Elt Ideal) ℓ) (g : Dev Cert.AdamwDownIdeal.nD → PrngReg)
    (m' : (ℓ : Loc Cert.AdamwDownRIdeal.nD Cert.AdamwDownRIdeal.τ Cert.AdamwDownRIdeal.sig) → Buf (Elt Ideal) ℓ) (g' : Dev Cert.AdamwDownRIdeal.nD → PrngReg), Pre_AdamwDownIdeal m →
    (∀ c : Dev Cert.AdamwDownIdeal.nD,
      m' ((c.tc : Thread Cert.AdamwDownRIdeal.nD Cert.AdamwDownRIdeal.τ).loc Cert.AdamwDownRIdeal.main_arg0) = m ((c.tc : Thread Cert.AdamwDownIdeal.nD Cert.AdamwDownIdeal.τ).loc Cert.AdamwDownIdeal.main_arg0)
      ∧ m' ((c.tc : Thread Cert.AdamwDownRIdeal.nD Cert.AdamwDownRIdeal.τ).loc Cert.AdamwDownRIdeal.main_arg1) = m ((c.tc : Thread Cert.AdamwDownIdeal.nD Cert.AdamwDownIdeal.τ).loc Cert.AdamwDownIdeal.main_arg1)
      ∧ m' ((c.tc : Thread Cert.AdamwDownRIdeal.nD Cert.AdamwDownRIdeal.τ).loc Cert.AdamwDownRIdeal.main_arg2) = m ((c.tc : Thread Cert.AdamwDownIdeal.nD Cert.AdamwDownIdeal.τ).loc Cert.AdamwDownIdeal.main_arg2)
      ∧ m' ((c.tc : Thread Cert.AdamwDownRIdeal.nD Cert.AdamwDownRIdeal.τ).loc Cert.AdamwDownRIdeal.main_arg3) = m ((c.tc : Thread Cert.AdamwDownIdeal.nD Cert.AdamwDownIdeal.τ).loc Cert.AdamwDownIdeal.main_arg3)) →
    ∃ (v0 : (c : Dev Cert.AdamwDownIdeal.nD) → Buf (Elt Ideal) ((c.tc : Thread Cert.AdamwDownIdeal.nD Cert.AdamwDownIdeal.τ).loc Cert.AdamwDownIdeal.main_v0_0)) (v1 : (c : Dev Cert.AdamwDownIdeal.nD) → Buf (Elt Ideal) ((c.tc : Thread Cert.AdamwDownIdeal.nD Cert.AdamwDownIdeal.τ).loc Cert.AdamwDownIdeal.main_v0_1)) (v2 : (c : Dev Cert.AdamwDownIdeal.nD) → Buf (Elt Ideal) ((c.tc : Thread Cert.AdamwDownIdeal.nD Cert.AdamwDownIdeal.τ).loc Cert.AdamwDownIdeal.main_v0_2)) (v3 : (c : Dev Cert.AdamwDownIdeal.nD) → Buf (Elt Ideal) ((c.tc : Thread Cert.AdamwDownIdeal.nD Cert.AdamwDownIdeal.τ).loc Cert.AdamwDownIdeal.main_v0_3)),
      θ_run (Cert.AdamwDownIdeal.defs (F := Ideal)) (onTc (τ := Cert.AdamwDownIdeal.τ) (Cert.AdamwDownIdeal.main (F := Ideal))) ⟨m, fun _ => 0, g⟩ (fun r => ∀ c : Dev Cert.AdamwDownIdeal.nD,
          r.2.mem ((c.tc : Thread Cert.AdamwDownIdeal.nD Cert.AdamwDownIdeal.τ).loc Cert.AdamwDownIdeal.main_v0_0) = v0 c
          ∧ r.2.mem ((c.tc : Thread Cert.AdamwDownIdeal.nD Cert.AdamwDownIdeal.τ).loc Cert.AdamwDownIdeal.main_v0_1) = v1 c
          ∧ r.2.mem ((c.tc : Thread Cert.AdamwDownIdeal.nD Cert.AdamwDownIdeal.τ).loc Cert.AdamwDownIdeal.main_v0_2) = v2 c
          ∧ r.2.mem ((c.tc : Thread Cert.AdamwDownIdeal.nD Cert.AdamwDownIdeal.τ).loc Cert.AdamwDownIdeal.main_v0_3) = v3 c
          ∧ r.2.mem ((c.tc : Thread Cert.AdamwDownIdeal.nD Cert.AdamwDownIdeal.τ).loc Cert.AdamwDownIdeal.main_arg0) = m ((c.tc : Thread Cert.AdamwDownIdeal.nD Cert.AdamwDownIdeal.τ).loc Cert.AdamwDownIdeal.main_arg0)
          ∧ r.2.mem ((c.tc : Thread Cert.AdamwDownIdeal.nD Cert.AdamwDownIdeal.τ).loc Cert.AdamwDownIdeal.main_arg1) = m ((c.tc : Thread Cert.AdamwDownIdeal.nD Cert.AdamwDownIdeal.τ).loc Cert.AdamwDownIdeal.main_arg1)
          ∧ r.2.mem ((c.tc : Thread Cert.AdamwDownIdeal.nD Cert.AdamwDownIdeal.τ).loc Cert.AdamwDownIdeal.main_arg2) = m ((c.tc : Thread Cert.AdamwDownIdeal.nD Cert.AdamwDownIdeal.τ).loc Cert.AdamwDownIdeal.main_arg2)
          ∧ r.2.mem ((c.tc : Thread Cert.AdamwDownIdeal.nD Cert.AdamwDownIdeal.τ).loc Cert.AdamwDownIdeal.main_arg3) = m ((c.tc : Thread Cert.AdamwDownIdeal.nD Cert.AdamwDownIdeal.τ).loc Cert.AdamwDownIdeal.main_arg3))
      ∧ θ_run (Cert.AdamwDownRIdeal.defs (F := Ideal)) (onTc (τ := Cert.AdamwDownRIdeal.τ) (Cert.AdamwDownRIdeal.main (F := Ideal))) ⟨m', fun _ => 0, g'⟩ (fun r => ∀ c : Dev Cert.AdamwDownRIdeal.nD,
          r.2.mem ((c.tc : Thread Cert.AdamwDownRIdeal.nD Cert.AdamwDownRIdeal.τ).loc Cert.AdamwDownRIdeal.main_v1) = v0 c
          ∧ r.2.mem ((c.tc : Thread Cert.AdamwDownRIdeal.nD Cert.AdamwDownRIdeal.τ).loc Cert.AdamwDownRIdeal.main_v25) = v1 c
          ∧ r.2.mem ((c.tc : Thread Cert.AdamwDownRIdeal.nD Cert.AdamwDownRIdeal.τ).loc Cert.AdamwDownRIdeal.main_v6) = v2 c
          ∧ r.2.mem ((c.tc : Thread Cert.AdamwDownRIdeal.nD Cert.AdamwDownRIdeal.τ).loc Cert.AdamwDownRIdeal.main_v12) = v3 c
          ∧ r.2.mem ((c.tc : Thread Cert.AdamwDownRIdeal.nD Cert.AdamwDownRIdeal.τ).loc Cert.AdamwDownRIdeal.main_arg0) = m' ((c.tc : Thread Cert.AdamwDownRIdeal.nD Cert.AdamwDownRIdeal.τ).loc Cert.AdamwDownRIdeal.main_arg0)
          ∧ r.2.mem ((c.tc : Thread Cert.AdamwDownRIdeal.nD Cert.AdamwDownRIdeal.τ).loc Cert.AdamwDownRIdeal.main_arg1) = m' ((c.tc : Thread Cert.AdamwDownRIdeal.nD Cert.AdamwDownRIdeal.τ).loc Cert.AdamwDownRIdeal.main_arg1)
          ∧ r.2.mem ((c.tc : Thread Cert.AdamwDownRIdeal.nD Cert.AdamwDownRIdeal.τ).loc Cert.AdamwDownRIdeal.main_arg2) = m' ((c.tc : Thread Cert.AdamwDownRIdeal.nD Cert.AdamwDownRIdeal.τ).loc Cert.AdamwDownRIdeal.main_arg2)
          ∧ r.2.mem ((c.tc : Thread Cert.AdamwDownRIdeal.nD Cert.AdamwDownRIdeal.τ).loc Cert.AdamwDownRIdeal.main_arg3) = m' ((c.tc : Thread Cert.AdamwDownRIdeal.nD Cert.AdamwDownRIdeal.τ).loc Cert.AdamwDownRIdeal.main_arg3))

def preserves_AdamwSmall_AdamwSmallIdeal : Prop :=
  True

def algebraic_AdamwSmallIdeal_AdamwSmallRIdeal [hAdamwSmallIdeal : Cert.AdamwSmallIdeal.Facts] [hAdamwSmallRIdeal : Cert.AdamwSmallRIdeal.Facts] : Prop :=
  ∀ (m : (ℓ : Loc Cert.AdamwSmallIdeal.nD Cert.AdamwSmallIdeal.τ Cert.AdamwSmallIdeal.sig) → Buf (Elt Ideal) ℓ) (g : Dev Cert.AdamwSmallIdeal.nD → PrngReg)
    (m' : (ℓ : Loc Cert.AdamwSmallRIdeal.nD Cert.AdamwSmallRIdeal.τ Cert.AdamwSmallRIdeal.sig) → Buf (Elt Ideal) ℓ) (g' : Dev Cert.AdamwSmallRIdeal.nD → PrngReg), Pre_AdamwSmallIdeal m →
    (∀ c : Dev Cert.AdamwSmallIdeal.nD,
      m' ((c.tc : Thread Cert.AdamwSmallRIdeal.nD Cert.AdamwSmallRIdeal.τ).loc Cert.AdamwSmallRIdeal.main_arg0) = m ((c.tc : Thread Cert.AdamwSmallIdeal.nD Cert.AdamwSmallIdeal.τ).loc Cert.AdamwSmallIdeal.main_arg0)
      ∧ m' ((c.tc : Thread Cert.AdamwSmallRIdeal.nD Cert.AdamwSmallRIdeal.τ).loc Cert.AdamwSmallRIdeal.main_arg1) = m ((c.tc : Thread Cert.AdamwSmallIdeal.nD Cert.AdamwSmallIdeal.τ).loc Cert.AdamwSmallIdeal.main_arg1)
      ∧ m' ((c.tc : Thread Cert.AdamwSmallRIdeal.nD Cert.AdamwSmallRIdeal.τ).loc Cert.AdamwSmallRIdeal.main_arg2) = m ((c.tc : Thread Cert.AdamwSmallIdeal.nD Cert.AdamwSmallIdeal.τ).loc Cert.AdamwSmallIdeal.main_arg2)
      ∧ m' ((c.tc : Thread Cert.AdamwSmallRIdeal.nD Cert.AdamwSmallRIdeal.τ).loc Cert.AdamwSmallRIdeal.main_arg3) = m ((c.tc : Thread Cert.AdamwSmallIdeal.nD Cert.AdamwSmallIdeal.τ).loc Cert.AdamwSmallIdeal.main_arg3)) →
    ∃ (v0 : (c : Dev Cert.AdamwSmallIdeal.nD) → Buf (Elt Ideal) ((c.tc : Thread Cert.AdamwSmallIdeal.nD Cert.AdamwSmallIdeal.τ).loc Cert.AdamwSmallIdeal.main_v0_0)) (v1 : (c : Dev Cert.AdamwSmallIdeal.nD) → Buf (Elt Ideal) ((c.tc : Thread Cert.AdamwSmallIdeal.nD Cert.AdamwSmallIdeal.τ).loc Cert.AdamwSmallIdeal.main_v0_1)) (v2 : (c : Dev Cert.AdamwSmallIdeal.nD) → Buf (Elt Ideal) ((c.tc : Thread Cert.AdamwSmallIdeal.nD Cert.AdamwSmallIdeal.τ).loc Cert.AdamwSmallIdeal.main_v0_2)) (v3 : (c : Dev Cert.AdamwSmallIdeal.nD) → Buf (Elt Ideal) ((c.tc : Thread Cert.AdamwSmallIdeal.nD Cert.AdamwSmallIdeal.τ).loc Cert.AdamwSmallIdeal.main_v0_3)),
      θ_run (Cert.AdamwSmallIdeal.defs (F := Ideal)) (onTc (τ := Cert.AdamwSmallIdeal.τ) (Cert.AdamwSmallIdeal.main (F := Ideal))) ⟨m, fun _ => 0, g⟩ (fun r => ∀ c : Dev Cert.AdamwSmallIdeal.nD,
          r.2.mem ((c.tc : Thread Cert.AdamwSmallIdeal.nD Cert.AdamwSmallIdeal.τ).loc Cert.AdamwSmallIdeal.main_v0_0) = v0 c
          ∧ r.2.mem ((c.tc : Thread Cert.AdamwSmallIdeal.nD Cert.AdamwSmallIdeal.τ).loc Cert.AdamwSmallIdeal.main_v0_1) = v1 c
          ∧ r.2.mem ((c.tc : Thread Cert.AdamwSmallIdeal.nD Cert.AdamwSmallIdeal.τ).loc Cert.AdamwSmallIdeal.main_v0_2) = v2 c
          ∧ r.2.mem ((c.tc : Thread Cert.AdamwSmallIdeal.nD Cert.AdamwSmallIdeal.τ).loc Cert.AdamwSmallIdeal.main_v0_3) = v3 c
          ∧ r.2.mem ((c.tc : Thread Cert.AdamwSmallIdeal.nD Cert.AdamwSmallIdeal.τ).loc Cert.AdamwSmallIdeal.main_arg0) = m ((c.tc : Thread Cert.AdamwSmallIdeal.nD Cert.AdamwSmallIdeal.τ).loc Cert.AdamwSmallIdeal.main_arg0)
          ∧ r.2.mem ((c.tc : Thread Cert.AdamwSmallIdeal.nD Cert.AdamwSmallIdeal.τ).loc Cert.AdamwSmallIdeal.main_arg1) = m ((c.tc : Thread Cert.AdamwSmallIdeal.nD Cert.AdamwSmallIdeal.τ).loc Cert.AdamwSmallIdeal.main_arg1)
          ∧ r.2.mem ((c.tc : Thread Cert.AdamwSmallIdeal.nD Cert.AdamwSmallIdeal.τ).loc Cert.AdamwSmallIdeal.main_arg2) = m ((c.tc : Thread Cert.AdamwSmallIdeal.nD Cert.AdamwSmallIdeal.τ).loc Cert.AdamwSmallIdeal.main_arg2)
          ∧ r.2.mem ((c.tc : Thread Cert.AdamwSmallIdeal.nD Cert.AdamwSmallIdeal.τ).loc Cert.AdamwSmallIdeal.main_arg3) = m ((c.tc : Thread Cert.AdamwSmallIdeal.nD Cert.AdamwSmallIdeal.τ).loc Cert.AdamwSmallIdeal.main_arg3))
      ∧ θ_run (Cert.AdamwSmallRIdeal.defs (F := Ideal)) (onTc (τ := Cert.AdamwSmallRIdeal.τ) (Cert.AdamwSmallRIdeal.main (F := Ideal))) ⟨m', fun _ => 0, g'⟩ (fun r => ∀ c : Dev Cert.AdamwSmallRIdeal.nD,
          r.2.mem ((c.tc : Thread Cert.AdamwSmallRIdeal.nD Cert.AdamwSmallRIdeal.τ).loc Cert.AdamwSmallRIdeal.main_v0) = v0 c
          ∧ r.2.mem ((c.tc : Thread Cert.AdamwSmallRIdeal.nD Cert.AdamwSmallRIdeal.τ).loc Cert.AdamwSmallRIdeal.main_v24) = v1 c
          ∧ r.2.mem ((c.tc : Thread Cert.AdamwSmallRIdeal.nD Cert.AdamwSmallRIdeal.τ).loc Cert.AdamwSmallRIdeal.main_v5) = v2 c
          ∧ r.2.mem ((c.tc : Thread Cert.AdamwSmallRIdeal.nD Cert.AdamwSmallRIdeal.τ).loc Cert.AdamwSmallRIdeal.main_v11) = v3 c
          ∧ r.2.mem ((c.tc : Thread Cert.AdamwSmallRIdeal.nD Cert.AdamwSmallRIdeal.τ).loc Cert.AdamwSmallRIdeal.main_arg0) = m' ((c.tc : Thread Cert.AdamwSmallRIdeal.nD Cert.AdamwSmallRIdeal.τ).loc Cert.AdamwSmallRIdeal.main_arg0)
          ∧ r.2.mem ((c.tc : Thread Cert.AdamwSmallRIdeal.nD Cert.AdamwSmallRIdeal.τ).loc Cert.AdamwSmallRIdeal.main_arg1) = m' ((c.tc : Thread Cert.AdamwSmallRIdeal.nD Cert.AdamwSmallRIdeal.τ).loc Cert.AdamwSmallRIdeal.main_arg1)
          ∧ r.2.mem ((c.tc : Thread Cert.AdamwSmallRIdeal.nD Cert.AdamwSmallRIdeal.τ).loc Cert.AdamwSmallRIdeal.main_arg2) = m' ((c.tc : Thread Cert.AdamwSmallRIdeal.nD Cert.AdamwSmallRIdeal.τ).loc Cert.AdamwSmallRIdeal.main_arg2)
          ∧ r.2.mem ((c.tc : Thread Cert.AdamwSmallRIdeal.nD Cert.AdamwSmallRIdeal.τ).loc Cert.AdamwSmallRIdeal.main_arg3) = m' ((c.tc : Thread Cert.AdamwSmallRIdeal.nD Cert.AdamwSmallRIdeal.τ).loc Cert.AdamwSmallRIdeal.main_arg3))

def preserves_AdamwRepl_AdamwReplIdeal : Prop :=
  True

def algebraic_AdamwReplIdeal_AdamwReplRIdeal [hAdamwReplIdeal : Cert.AdamwReplIdeal.Facts] [hAdamwReplRIdeal : Cert.AdamwReplRIdeal.Facts] : Prop :=
  ∀ (m : (ℓ : Loc Cert.AdamwReplIdeal.nD Cert.AdamwReplIdeal.τ Cert.AdamwReplIdeal.sig) → Buf (Elt Ideal) ℓ) (g : Dev Cert.AdamwReplIdeal.nD → PrngReg)
    (m' : (ℓ : Loc Cert.AdamwReplRIdeal.nD Cert.AdamwReplRIdeal.τ Cert.AdamwReplRIdeal.sig) → Buf (Elt Ideal) ℓ) (g' : Dev Cert.AdamwReplRIdeal.nD → PrngReg), Pre_AdamwReplIdeal m →
    (∀ c : Dev Cert.AdamwReplIdeal.nD,
      m' ((c.tc : Thread Cert.AdamwReplRIdeal.nD Cert.AdamwReplRIdeal.τ).loc Cert.AdamwReplRIdeal.main_arg0) = m ((c.tc : Thread Cert.AdamwReplIdeal.nD Cert.AdamwReplIdeal.τ).loc Cert.AdamwReplIdeal.main_arg0)
      ∧ m' ((c.tc : Thread Cert.AdamwReplRIdeal.nD Cert.AdamwReplRIdeal.τ).loc Cert.AdamwReplRIdeal.main_arg1) = m ((c.tc : Thread Cert.AdamwReplIdeal.nD Cert.AdamwReplIdeal.τ).loc Cert.AdamwReplIdeal.main_arg1)
      ∧ m' ((c.tc : Thread Cert.AdamwReplRIdeal.nD Cert.AdamwReplRIdeal.τ).loc Cert.AdamwReplRIdeal.main_arg2) = m ((c.tc : Thread Cert.AdamwReplIdeal.nD Cert.AdamwReplIdeal.τ).loc Cert.AdamwReplIdeal.main_arg2)
      ∧ m' ((c.tc : Thread Cert.AdamwReplRIdeal.nD Cert.AdamwReplRIdeal.τ).loc Cert.AdamwReplRIdeal.main_arg3) = m ((c.tc : Thread Cert.AdamwReplIdeal.nD Cert.AdamwReplIdeal.τ).loc Cert.AdamwReplIdeal.main_arg3)) →
    ∃ (v0 : (c : Dev Cert.AdamwReplIdeal.nD) → Buf (Elt Ideal) ((c.tc : Thread Cert.AdamwReplIdeal.nD Cert.AdamwReplIdeal.τ).loc Cert.AdamwReplIdeal.main_v0_0)) (v1 : (c : Dev Cert.AdamwReplIdeal.nD) → Buf (Elt Ideal) ((c.tc : Thread Cert.AdamwReplIdeal.nD Cert.AdamwReplIdeal.τ).loc Cert.AdamwReplIdeal.main_v0_1)) (v2 : (c : Dev Cert.AdamwReplIdeal.nD) → Buf (Elt Ideal) ((c.tc : Thread Cert.AdamwReplIdeal.nD Cert.AdamwReplIdeal.τ).loc Cert.AdamwReplIdeal.main_v0_2)) (v3 : (c : Dev Cert.AdamwReplIdeal.nD) → Buf (Elt Ideal) ((c.tc : Thread Cert.AdamwReplIdeal.nD Cert.AdamwReplIdeal.τ).loc Cert.AdamwReplIdeal.main_v0_3)),
      θ_run (Cert.AdamwReplIdeal.defs (F := Ideal)) (onTc (τ := Cert.AdamwReplIdeal.τ) (Cert.AdamwReplIdeal.main (F := Ideal))) ⟨m, fun _ => 0, g⟩ (fun r => ∀ c : Dev Cert.AdamwReplIdeal.nD,
          r.2.mem ((c.tc : Thread Cert.AdamwReplIdeal.nD Cert.AdamwReplIdeal.τ).loc Cert.AdamwReplIdeal.main_v0_0) = v0 c
          ∧ r.2.mem ((c.tc : Thread Cert.AdamwReplIdeal.nD Cert.AdamwReplIdeal.τ).loc Cert.AdamwReplIdeal.main_v0_1) = v1 c
          ∧ r.2.mem ((c.tc : Thread Cert.AdamwReplIdeal.nD Cert.AdamwReplIdeal.τ).loc Cert.AdamwReplIdeal.main_v0_2) = v2 c
          ∧ r.2.mem ((c.tc : Thread Cert.AdamwReplIdeal.nD Cert.AdamwReplIdeal.τ).loc Cert.AdamwReplIdeal.main_v0_3) = v3 c
          ∧ r.2.mem ((c.tc : Thread Cert.AdamwReplIdeal.nD Cert.AdamwReplIdeal.τ).loc Cert.AdamwReplIdeal.main_arg0) = m ((c.tc : Thread Cert.AdamwReplIdeal.nD Cert.AdamwReplIdeal.τ).loc Cert.AdamwReplIdeal.main_arg0)
          ∧ r.2.mem ((c.tc : Thread Cert.AdamwReplIdeal.nD Cert.AdamwReplIdeal.τ).loc Cert.AdamwReplIdeal.main_arg1) = m ((c.tc : Thread Cert.AdamwReplIdeal.nD Cert.AdamwReplIdeal.τ).loc Cert.AdamwReplIdeal.main_arg1)
          ∧ r.2.mem ((c.tc : Thread Cert.AdamwReplIdeal.nD Cert.AdamwReplIdeal.τ).loc Cert.AdamwReplIdeal.main_arg2) = m ((c.tc : Thread Cert.AdamwReplIdeal.nD Cert.AdamwReplIdeal.τ).loc Cert.AdamwReplIdeal.main_arg2)
          ∧ r.2.mem ((c.tc : Thread Cert.AdamwReplIdeal.nD Cert.AdamwReplIdeal.τ).loc Cert.AdamwReplIdeal.main_arg3) = m ((c.tc : Thread Cert.AdamwReplIdeal.nD Cert.AdamwReplIdeal.τ).loc Cert.AdamwReplIdeal.main_arg3))
      ∧ θ_run (Cert.AdamwReplRIdeal.defs (F := Ideal)) (onTc (τ := Cert.AdamwReplRIdeal.τ) (Cert.AdamwReplRIdeal.main (F := Ideal))) ⟨m', fun _ => 0, g'⟩ (fun r => ∀ c : Dev Cert.AdamwReplRIdeal.nD,
          r.2.mem ((c.tc : Thread Cert.AdamwReplRIdeal.nD Cert.AdamwReplRIdeal.τ).loc Cert.AdamwReplRIdeal.main_v0) = v0 c
          ∧ r.2.mem ((c.tc : Thread Cert.AdamwReplRIdeal.nD Cert.AdamwReplRIdeal.τ).loc Cert.AdamwReplRIdeal.main_v24) = v1 c
          ∧ r.2.mem ((c.tc : Thread Cert.AdamwReplRIdeal.nD Cert.AdamwReplRIdeal.τ).loc Cert.AdamwReplRIdeal.main_v5) = v2 c
          ∧ r.2.mem ((c.tc : Thread Cert.AdamwReplRIdeal.nD Cert.AdamwReplRIdeal.τ).loc Cert.AdamwReplRIdeal.main_v11) = v3 c
          ∧ r.2.mem ((c.tc : Thread Cert.AdamwReplRIdeal.nD Cert.AdamwReplRIdeal.τ).loc Cert.AdamwReplRIdeal.main_arg0) = m' ((c.tc : Thread Cert.AdamwReplRIdeal.nD Cert.AdamwReplRIdeal.τ).loc Cert.AdamwReplRIdeal.main_arg0)
          ∧ r.2.mem ((c.tc : Thread Cert.AdamwReplRIdeal.nD Cert.AdamwReplRIdeal.τ).loc Cert.AdamwReplRIdeal.main_arg1) = m' ((c.tc : Thread Cert.AdamwReplRIdeal.nD Cert.AdamwReplRIdeal.τ).loc Cert.AdamwReplRIdeal.main_arg1)
          ∧ r.2.mem ((c.tc : Thread Cert.AdamwReplRIdeal.nD Cert.AdamwReplRIdeal.τ).loc Cert.AdamwReplRIdeal.main_arg2) = m' ((c.tc : Thread Cert.AdamwReplRIdeal.nD Cert.AdamwReplRIdeal.τ).loc Cert.AdamwReplRIdeal.main_arg2)
          ∧ r.2.mem ((c.tc : Thread Cert.AdamwReplRIdeal.nD Cert.AdamwReplRIdeal.τ).loc Cert.AdamwReplRIdeal.main_arg3) = m' ((c.tc : Thread Cert.AdamwReplRIdeal.nD Cert.AdamwReplRIdeal.τ).loc Cert.AdamwReplRIdeal.main_arg3))

def preserves_StepSmall_StepSmallIdeal : Prop :=
  True

def algebraic_StepSmallIdeal_StepSmallRIdeal [hStepSmallIdeal : Cert.StepSmallIdeal.Facts] [hStepSmallRIdeal : Cert.StepSmallRIdeal.Facts] : Prop :=
  ∀ (m : (ℓ : Loc Cert.StepSmallIdeal.nD Cert.StepSmallIdeal.τ Cert.StepSmallIdeal.sig) → Buf (Elt Ideal) ℓ) (g : Dev Cert.StepSmallIdeal.nD → PrngReg)
    (m' : (ℓ : Loc Cert.StepSmallRIdeal.nD Cert.StepSmallRIdeal.τ Cert.StepSmallRIdeal.sig) → Buf (Elt Ideal) ℓ) (g' : Dev Cert.StepSmallRIdeal.nD → PrngReg), Pre_StepSmallIdeal m →
    (∀ c : Dev Cert.StepSmallIdeal.nD,
      m' ((c.tc : Thread Cert.StepSmallRIdeal.nD Cert.StepSmallRIdeal.τ).loc Cert.StepSmallRIdeal.main_arg0) = m ((c.tc : Thread Cert.StepSmallIdeal.nD Cert.StepSmallIdeal.τ).loc Cert.StepSmallIdeal.main_arg0)
      ∧ m' ((c.tc : Thread Cert.StepSmallRIdeal.nD Cert.StepSmallRIdeal.τ).loc Cert.StepSmallRIdeal.main_arg1) = m ((c.tc : Thread Cert.StepSmallIdeal.nD Cert.StepSmallIdeal.τ).loc Cert.StepSmallIdeal.main_arg1)
      ∧ m' ((c.tc : Thread Cert.StepSmallRIdeal.nD Cert.StepSmallRIdeal.τ).loc Cert.StepSmallRIdeal.main_arg2) = m ((c.tc : Thread Cert.StepSmallIdeal.nD Cert.StepSmallIdeal.τ).loc Cert.StepSmallIdeal.main_arg2)
      ∧ m' ((c.tc : Thread Cert.StepSmallRIdeal.nD Cert.StepSmallRIdeal.τ).loc Cert.StepSmallRIdeal.main_arg3) = m ((c.tc : Thread Cert.StepSmallIdeal.nD Cert.StepSmallIdeal.τ).loc Cert.StepSmallIdeal.main_arg3)
      ∧ m' ((c.tc : Thread Cert.StepSmallRIdeal.nD Cert.StepSmallRIdeal.τ).loc Cert.StepSmallRIdeal.main_arg4) = m ((c.tc : Thread Cert.StepSmallIdeal.nD Cert.StepSmallIdeal.τ).loc Cert.StepSmallIdeal.main_arg4)
      ∧ m' ((c.tc : Thread Cert.StepSmallRIdeal.nD Cert.StepSmallRIdeal.τ).loc Cert.StepSmallRIdeal.main_arg5) = m ((c.tc : Thread Cert.StepSmallIdeal.nD Cert.StepSmallIdeal.τ).loc Cert.StepSmallIdeal.main_arg5)
      ∧ m' ((c.tc : Thread Cert.StepSmallRIdeal.nD Cert.StepSmallRIdeal.τ).loc Cert.StepSmallRIdeal.main_arg6) = m ((c.tc : Thread Cert.StepSmallIdeal.nD Cert.StepSmallIdeal.τ).loc Cert.StepSmallIdeal.main_arg6)
      ∧ m' ((c.tc : Thread Cert.StepSmallRIdeal.nD Cert.StepSmallRIdeal.τ).loc Cert.StepSmallRIdeal.main_arg7) = m ((c.tc : Thread Cert.StepSmallIdeal.nD Cert.StepSmallIdeal.τ).loc Cert.StepSmallIdeal.main_arg7)
      ∧ m' ((c.tc : Thread Cert.StepSmallRIdeal.nD Cert.StepSmallRIdeal.τ).loc Cert.StepSmallRIdeal.main_arg8) = m ((c.tc : Thread Cert.StepSmallIdeal.nD Cert.StepSmallIdeal.τ).loc Cert.StepSmallIdeal.main_arg8)
      ∧ m' ((c.tc : Thread Cert.StepSmallRIdeal.nD Cert.StepSmallRIdeal.τ).loc Cert.StepSmallRIdeal.main_arg9) = m ((c.tc : Thread Cert.StepSmallIdeal.nD Cert.StepSmallIdeal.τ).loc Cert.StepSmallIdeal.main_arg9)
      ∧ m' ((c.tc : Thread Cert.StepSmallRIdeal.nD Cert.StepSmallRIdeal.τ).loc Cert.StepSmallRIdeal.main_arg10) = m ((c.tc : Thread Cert.StepSmallIdeal.nD Cert.StepSmallIdeal.τ).loc Cert.StepSmallIdeal.main_arg10)
      ∧ m' ((c.tc : Thread Cert.StepSmallRIdeal.nD Cert.StepSmallRIdeal.τ).loc Cert.StepSmallRIdeal.main_arg11) = m ((c.tc : Thread Cert.StepSmallIdeal.nD Cert.StepSmallIdeal.τ).loc Cert.StepSmallIdeal.main_arg11)) →
    ∃ (v0 : (c : Dev Cert.StepSmallIdeal.nD) → Buf (Elt Ideal) ((c.tc : Thread Cert.StepSmallIdeal.nD Cert.StepSmallIdeal.τ).loc Cert.StepSmallIdeal.main_v24_0)) (v1 : (c : Dev Cert.StepSmallIdeal.nD) → Buf (Elt Ideal) ((c.tc : Thread Cert.StepSmallIdeal.nD Cert.StepSmallIdeal.τ).loc Cert.StepSmallIdeal.main_v24_1)) (v2 : (c : Dev Cert.StepSmallIdeal.nD) → Buf (Elt Ideal) ((c.tc : Thread Cert.StepSmallIdeal.nD Cert.StepSmallIdeal.τ).loc Cert.StepSmallIdeal.main_v24_2)) (v3 : (c : Dev Cert.StepSmallIdeal.nD) → Buf (Elt Ideal) ((c.tc : Thread Cert.StepSmallIdeal.nD Cert.StepSmallIdeal.τ).loc Cert.StepSmallIdeal.main_v24_3)),
      θ_run (Cert.StepSmallIdeal.defs (F := Ideal)) (onTc (τ := Cert.StepSmallIdeal.τ) (Cert.StepSmallIdeal.main (F := Ideal))) ⟨m, fun _ => 0, g⟩ (fun r => ∀ c : Dev Cert.StepSmallIdeal.nD,
          r.2.mem ((c.tc : Thread Cert.StepSmallIdeal.nD Cert.StepSmallIdeal.τ).loc Cert.StepSmallIdeal.main_v24_0) = v0 c
          ∧ r.2.mem ((c.tc : Thread Cert.StepSmallIdeal.nD Cert.StepSmallIdeal.τ).loc Cert.StepSmallIdeal.main_v24_1) = v1 c
          ∧ r.2.mem ((c.tc : Thread Cert.StepSmallIdeal.nD Cert.StepSmallIdeal.τ).loc Cert.StepSmallIdeal.main_v24_2) = v2 c
          ∧ r.2.mem ((c.tc : Thread Cert.StepSmallIdeal.nD Cert.StepSmallIdeal.τ).loc Cert.StepSmallIdeal.main_v24_3) = v3 c
          ∧ r.2.mem ((c.tc : Thread Cert.StepSmallIdeal.nD Cert.StepSmallIdeal.τ).loc Cert.StepSmallIdeal.main_arg0) = m ((c.tc : Thread Cert.StepSmallIdeal.nD Cert.StepSmallIdeal.τ).loc Cert.StepSmallIdeal.main_arg0)
          ∧ r.2.mem ((c.tc : Thread Cert.StepSmallIdeal.nD Cert.StepSmallIdeal.τ).loc Cert.StepSmallIdeal.main_arg1) = m ((c.tc : Thread Cert.StepSmallIdeal.nD Cert.StepSmallIdeal.τ).loc Cert.StepSmallIdeal.main_arg1)
          ∧ r.2.mem ((c.tc : Thread Cert.StepSmallIdeal.nD Cert.StepSmallIdeal.τ).loc Cert.StepSmallIdeal.main_arg2) = m ((c.tc : Thread Cert.StepSmallIdeal.nD Cert.StepSmallIdeal.τ).loc Cert.StepSmallIdeal.main_arg2)
          ∧ r.2.mem ((c.tc : Thread Cert.StepSmallIdeal.nD Cert.StepSmallIdeal.τ).loc Cert.StepSmallIdeal.main_arg3) = m ((c.tc : Thread Cert.StepSmallIdeal.nD Cert.StepSmallIdeal.τ).loc Cert.StepSmallIdeal.main_arg3)
          ∧ r.2.mem ((c.tc : Thread Cert.StepSmallIdeal.nD Cert.StepSmallIdeal.τ).loc Cert.StepSmallIdeal.main_arg4) = m ((c.tc : Thread Cert.StepSmallIdeal.nD Cert.StepSmallIdeal.τ).loc Cert.StepSmallIdeal.main_arg4)
          ∧ r.2.mem ((c.tc : Thread Cert.StepSmallIdeal.nD Cert.StepSmallIdeal.τ).loc Cert.StepSmallIdeal.main_arg5) = m ((c.tc : Thread Cert.StepSmallIdeal.nD Cert.StepSmallIdeal.τ).loc Cert.StepSmallIdeal.main_arg5)
          ∧ r.2.mem ((c.tc : Thread Cert.StepSmallIdeal.nD Cert.StepSmallIdeal.τ).loc Cert.StepSmallIdeal.main_arg6) = m ((c.tc : Thread Cert.StepSmallIdeal.nD Cert.StepSmallIdeal.τ).loc Cert.StepSmallIdeal.main_arg6)
          ∧ r.2.mem ((c.tc : Thread Cert.StepSmallIdeal.nD Cert.StepSmallIdeal.τ).loc Cert.StepSmallIdeal.main_arg7) = m ((c.tc : Thread Cert.StepSmallIdeal.nD Cert.StepSmallIdeal.τ).loc Cert.StepSmallIdeal.main_arg7)
          ∧ r.2.mem ((c.tc : Thread Cert.StepSmallIdeal.nD Cert.StepSmallIdeal.τ).loc Cert.StepSmallIdeal.main_arg8) = m ((c.tc : Thread Cert.StepSmallIdeal.nD Cert.StepSmallIdeal.τ).loc Cert.StepSmallIdeal.main_arg8)
          ∧ r.2.mem ((c.tc : Thread Cert.StepSmallIdeal.nD Cert.StepSmallIdeal.τ).loc Cert.StepSmallIdeal.main_arg9) = m ((c.tc : Thread Cert.StepSmallIdeal.nD Cert.StepSmallIdeal.τ).loc Cert.StepSmallIdeal.main_arg9)
          ∧ r.2.mem ((c.tc : Thread Cert.StepSmallIdeal.nD Cert.StepSmallIdeal.τ).loc Cert.StepSmallIdeal.main_arg10) = m ((c.tc : Thread Cert.StepSmallIdeal.nD Cert.StepSmallIdeal.τ).loc Cert.StepSmallIdeal.main_arg10)
          ∧ r.2.mem ((c.tc : Thread Cert.StepSmallIdeal.nD Cert.StepSmallIdeal.τ).loc Cert.StepSmallIdeal.main_arg11) = m ((c.tc : Thread Cert.StepSmallIdeal.nD Cert.StepSmallIdeal.τ).loc Cert.StepSmallIdeal.main_arg11))
      ∧ θ_run (Cert.StepSmallRIdeal.defs (F := Ideal)) (onTc (τ := Cert.StepSmallRIdeal.τ) (Cert.StepSmallRIdeal.main (F := Ideal))) ⟨m', fun _ => 0, g'⟩ (fun r => ∀ c : Dev Cert.StepSmallRIdeal.nD,
          r.2.mem ((c.tc : Thread Cert.StepSmallRIdeal.nD Cert.StepSmallRIdeal.τ).loc Cert.StepSmallRIdeal.main_v80) = v0 c
          ∧ r.2.mem ((c.tc : Thread Cert.StepSmallRIdeal.nD Cert.StepSmallRIdeal.τ).loc Cert.StepSmallRIdeal.main_v86) = v1 c
          ∧ r.2.mem ((c.tc : Thread Cert.StepSmallRIdeal.nD Cert.StepSmallRIdeal.τ).loc Cert.StepSmallRIdeal.main_v92) = v2 c
          ∧ r.2.mem ((c.tc : Thread Cert.StepSmallRIdeal.nD Cert.StepSmallRIdeal.τ).loc Cert.StepSmallRIdeal.main_v98) = v3 c
          ∧ r.2.mem ((c.tc : Thread Cert.StepSmallRIdeal.nD Cert.StepSmallRIdeal.τ).loc Cert.StepSmallRIdeal.main_arg0) = m' ((c.tc : Thread Cert.StepSmallRIdeal.nD Cert.StepSmallRIdeal.τ).loc Cert.StepSmallRIdeal.main_arg0)
          ∧ r.2.mem ((c.tc : Thread Cert.StepSmallRIdeal.nD Cert.StepSmallRIdeal.τ).loc Cert.StepSmallRIdeal.main_arg1) = m' ((c.tc : Thread Cert.StepSmallRIdeal.nD Cert.StepSmallRIdeal.τ).loc Cert.StepSmallRIdeal.main_arg1)
          ∧ r.2.mem ((c.tc : Thread Cert.StepSmallRIdeal.nD Cert.StepSmallRIdeal.τ).loc Cert.StepSmallRIdeal.main_arg2) = m' ((c.tc : Thread Cert.StepSmallRIdeal.nD Cert.StepSmallRIdeal.τ).loc Cert.StepSmallRIdeal.main_arg2)
          ∧ r.2.mem ((c.tc : Thread Cert.StepSmallRIdeal.nD Cert.StepSmallRIdeal.τ).loc Cert.StepSmallRIdeal.main_arg3) = m' ((c.tc : Thread Cert.StepSmallRIdeal.nD Cert.StepSmallRIdeal.τ).loc Cert.StepSmallRIdeal.main_arg3)
          ∧ r.2.mem ((c.tc : Thread Cert.StepSmallRIdeal.nD Cert.StepSmallRIdeal.τ).loc Cert.StepSmallRIdeal.main_arg4) = m' ((c.tc : Thread Cert.StepSmallRIdeal.nD Cert.StepSmallRIdeal.τ).loc Cert.StepSmallRIdeal.main_arg4)
          ∧ r.2.mem ((c.tc : Thread Cert.StepSmallRIdeal.nD Cert.StepSmallRIdeal.τ).loc Cert.StepSmallRIdeal.main_arg5) = m' ((c.tc : Thread Cert.StepSmallRIdeal.nD Cert.StepSmallRIdeal.τ).loc Cert.StepSmallRIdeal.main_arg5)
          ∧ r.2.mem ((c.tc : Thread Cert.StepSmallRIdeal.nD Cert.StepSmallRIdeal.τ).loc Cert.StepSmallRIdeal.main_arg6) = m' ((c.tc : Thread Cert.StepSmallRIdeal.nD Cert.StepSmallRIdeal.τ).loc Cert.StepSmallRIdeal.main_arg6)
          ∧ r.2.mem ((c.tc : Thread Cert.StepSmallRIdeal.nD Cert.StepSmallRIdeal.τ).loc Cert.StepSmallRIdeal.main_arg7) = m' ((c.tc : Thread Cert.StepSmallRIdeal.nD Cert.StepSmallRIdeal.τ).loc Cert.StepSmallRIdeal.main_arg7)
          ∧ r.2.mem ((c.tc : Thread Cert.StepSmallRIdeal.nD Cert.StepSmallRIdeal.τ).loc Cert.StepSmallRIdeal.main_arg8) = m' ((c.tc : Thread Cert.StepSmallRIdeal.nD Cert.StepSmallRIdeal.τ).loc Cert.StepSmallRIdeal.main_arg8)
          ∧ r.2.mem ((c.tc : Thread Cert.StepSmallRIdeal.nD Cert.StepSmallRIdeal.τ).loc Cert.StepSmallRIdeal.main_arg9) = m' ((c.tc : Thread Cert.StepSmallRIdeal.nD Cert.StepSmallRIdeal.τ).loc Cert.StepSmallRIdeal.main_arg9)
          ∧ r.2.mem ((c.tc : Thread Cert.StepSmallRIdeal.nD Cert.StepSmallRIdeal.τ).loc Cert.StepSmallRIdeal.main_arg10) = m' ((c.tc : Thread Cert.StepSmallRIdeal.nD Cert.StepSmallRIdeal.τ).loc Cert.StepSmallRIdeal.main_arg10)
          ∧ r.2.mem ((c.tc : Thread Cert.StepSmallRIdeal.nD Cert.StepSmallRIdeal.τ).loc Cert.StepSmallRIdeal.main_arg11) = m' ((c.tc : Thread Cert.StepSmallRIdeal.nD Cert.StepSmallRIdeal.τ).loc Cert.StepSmallRIdeal.main_arg11))

def preserves_StepRepl_StepReplIdeal : Prop :=
  True

def algebraic_StepReplIdeal_StepReplRIdeal [hStepReplIdeal : Cert.StepReplIdeal.Facts] [hStepReplRIdeal : Cert.StepReplRIdeal.Facts] : Prop :=
  ∀ (m : (ℓ : Loc Cert.StepReplIdeal.nD Cert.StepReplIdeal.τ Cert.StepReplIdeal.sig) → Buf (Elt Ideal) ℓ) (g : Dev Cert.StepReplIdeal.nD → PrngReg)
    (m' : (ℓ : Loc Cert.StepReplRIdeal.nD Cert.StepReplRIdeal.τ Cert.StepReplRIdeal.sig) → Buf (Elt Ideal) ℓ) (g' : Dev Cert.StepReplRIdeal.nD → PrngReg), Pre_StepReplIdeal m →
    (∀ c : Dev Cert.StepReplIdeal.nD,
      m' ((c.tc : Thread Cert.StepReplRIdeal.nD Cert.StepReplRIdeal.τ).loc Cert.StepReplRIdeal.main_arg0) = m ((c.tc : Thread Cert.StepReplIdeal.nD Cert.StepReplIdeal.τ).loc Cert.StepReplIdeal.main_arg0)
      ∧ m' ((c.tc : Thread Cert.StepReplRIdeal.nD Cert.StepReplRIdeal.τ).loc Cert.StepReplRIdeal.main_arg1) = m ((c.tc : Thread Cert.StepReplIdeal.nD Cert.StepReplIdeal.τ).loc Cert.StepReplIdeal.main_arg1)
      ∧ m' ((c.tc : Thread Cert.StepReplRIdeal.nD Cert.StepReplRIdeal.τ).loc Cert.StepReplRIdeal.main_arg2) = m ((c.tc : Thread Cert.StepReplIdeal.nD Cert.StepReplIdeal.τ).loc Cert.StepReplIdeal.main_arg2)
      ∧ m' ((c.tc : Thread Cert.StepReplRIdeal.nD Cert.StepReplRIdeal.τ).loc Cert.StepReplRIdeal.main_arg3) = m ((c.tc : Thread Cert.StepReplIdeal.nD Cert.StepReplIdeal.τ).loc Cert.StepReplIdeal.main_arg3)
      ∧ m' ((c.tc : Thread Cert.StepReplRIdeal.nD Cert.StepReplRIdeal.τ).loc Cert.StepReplRIdeal.main_arg4) = m ((c.tc : Thread Cert.StepReplIdeal.nD Cert.StepReplIdeal.τ).loc Cert.StepReplIdeal.main_arg4)
      ∧ m' ((c.tc : Thread Cert.StepReplRIdeal.nD Cert.StepReplRIdeal.τ).loc Cert.StepReplRIdeal.main_arg5) = m ((c.tc : Thread Cert.StepReplIdeal.nD Cert.StepReplIdeal.τ).loc Cert.StepReplIdeal.main_arg5)
      ∧ m' ((c.tc : Thread Cert.StepReplRIdeal.nD Cert.StepReplRIdeal.τ).loc Cert.StepReplRIdeal.main_arg6) = m ((c.tc : Thread Cert.StepReplIdeal.nD Cert.StepReplIdeal.τ).loc Cert.StepReplIdeal.main_arg6)
      ∧ m' ((c.tc : Thread Cert.StepReplRIdeal.nD Cert.StepReplRIdeal.τ).loc Cert.StepReplRIdeal.main_arg7) = m ((c.tc : Thread Cert.StepReplIdeal.nD Cert.StepReplIdeal.τ).loc Cert.StepReplIdeal.main_arg7)
      ∧ m' ((c.tc : Thread Cert.StepReplRIdeal.nD Cert.StepReplRIdeal.τ).loc Cert.StepReplRIdeal.main_arg8) = m ((c.tc : Thread Cert.StepReplIdeal.nD Cert.StepReplIdeal.τ).loc Cert.StepReplIdeal.main_arg8)
      ∧ m' ((c.tc : Thread Cert.StepReplRIdeal.nD Cert.StepReplRIdeal.τ).loc Cert.StepReplRIdeal.main_arg9) = m ((c.tc : Thread Cert.StepReplIdeal.nD Cert.StepReplIdeal.τ).loc Cert.StepReplIdeal.main_arg9)
      ∧ m' ((c.tc : Thread Cert.StepReplRIdeal.nD Cert.StepReplRIdeal.τ).loc Cert.StepReplRIdeal.main_arg10) = m ((c.tc : Thread Cert.StepReplIdeal.nD Cert.StepReplIdeal.τ).loc Cert.StepReplIdeal.main_arg10)
      ∧ m' ((c.tc : Thread Cert.StepReplRIdeal.nD Cert.StepReplRIdeal.τ).loc Cert.StepReplRIdeal.main_arg11) = m ((c.tc : Thread Cert.StepReplIdeal.nD Cert.StepReplIdeal.τ).loc Cert.StepReplIdeal.main_arg11)
      ∧ m' ((c.tc : Thread Cert.StepReplRIdeal.nD Cert.StepReplRIdeal.τ).loc Cert.StepReplRIdeal.main_arg12) = m ((c.tc : Thread Cert.StepReplIdeal.nD Cert.StepReplIdeal.τ).loc Cert.StepReplIdeal.main_arg12)
      ∧ m' ((c.tc : Thread Cert.StepReplRIdeal.nD Cert.StepReplRIdeal.τ).loc Cert.StepReplRIdeal.main_arg13) = m ((c.tc : Thread Cert.StepReplIdeal.nD Cert.StepReplIdeal.τ).loc Cert.StepReplIdeal.main_arg13)
      ∧ m' ((c.tc : Thread Cert.StepReplRIdeal.nD Cert.StepReplRIdeal.τ).loc Cert.StepReplRIdeal.main_arg14) = m ((c.tc : Thread Cert.StepReplIdeal.nD Cert.StepReplIdeal.τ).loc Cert.StepReplIdeal.main_arg14)
      ∧ m' ((c.tc : Thread Cert.StepReplRIdeal.nD Cert.StepReplRIdeal.τ).loc Cert.StepReplRIdeal.main_arg15) = m ((c.tc : Thread Cert.StepReplIdeal.nD Cert.StepReplIdeal.τ).loc Cert.StepReplIdeal.main_arg15)
      ∧ m' ((c.tc : Thread Cert.StepReplRIdeal.nD Cert.StepReplRIdeal.τ).loc Cert.StepReplRIdeal.main_arg16) = m ((c.tc : Thread Cert.StepReplIdeal.nD Cert.StepReplIdeal.τ).loc Cert.StepReplIdeal.main_arg16)
      ∧ m' ((c.tc : Thread Cert.StepReplRIdeal.nD Cert.StepReplRIdeal.τ).loc Cert.StepReplRIdeal.main_arg17) = m ((c.tc : Thread Cert.StepReplIdeal.nD Cert.StepReplIdeal.τ).loc Cert.StepReplIdeal.main_arg17)
      ∧ m' ((c.tc : Thread Cert.StepReplRIdeal.nD Cert.StepReplRIdeal.τ).loc Cert.StepReplRIdeal.main_arg18) = m ((c.tc : Thread Cert.StepReplIdeal.nD Cert.StepReplIdeal.τ).loc Cert.StepReplIdeal.main_arg18)
      ∧ m' ((c.tc : Thread Cert.StepReplRIdeal.nD Cert.StepReplRIdeal.τ).loc Cert.StepReplRIdeal.main_arg19) = m ((c.tc : Thread Cert.StepReplIdeal.nD Cert.StepReplIdeal.τ).loc Cert.StepReplIdeal.main_arg19)
      ∧ m' ((c.tc : Thread Cert.StepReplRIdeal.nD Cert.StepReplRIdeal.τ).loc Cert.StepReplRIdeal.main_arg20) = m ((c.tc : Thread Cert.StepReplIdeal.nD Cert.StepReplIdeal.τ).loc Cert.StepReplIdeal.main_arg20)
      ∧ m' ((c.tc : Thread Cert.StepReplRIdeal.nD Cert.StepReplRIdeal.τ).loc Cert.StepReplRIdeal.main_arg21) = m ((c.tc : Thread Cert.StepReplIdeal.nD Cert.StepReplIdeal.τ).loc Cert.StepReplIdeal.main_arg21)
      ∧ m' ((c.tc : Thread Cert.StepReplRIdeal.nD Cert.StepReplRIdeal.τ).loc Cert.StepReplRIdeal.main_arg22) = m ((c.tc : Thread Cert.StepReplIdeal.nD Cert.StepReplIdeal.τ).loc Cert.StepReplIdeal.main_arg22)
      ∧ m' ((c.tc : Thread Cert.StepReplRIdeal.nD Cert.StepReplRIdeal.τ).loc Cert.StepReplRIdeal.main_arg23) = m ((c.tc : Thread Cert.StepReplIdeal.nD Cert.StepReplIdeal.τ).loc Cert.StepReplIdeal.main_arg23)
      ∧ m' ((c.tc : Thread Cert.StepReplRIdeal.nD Cert.StepReplRIdeal.τ).loc Cert.StepReplRIdeal.main_arg24) = m ((c.tc : Thread Cert.StepReplIdeal.nD Cert.StepReplIdeal.τ).loc Cert.StepReplIdeal.main_arg24)
      ∧ m' ((c.tc : Thread Cert.StepReplRIdeal.nD Cert.StepReplRIdeal.τ).loc Cert.StepReplRIdeal.main_arg25) = m ((c.tc : Thread Cert.StepReplIdeal.nD Cert.StepReplIdeal.τ).loc Cert.StepReplIdeal.main_arg25)
      ∧ m' ((c.tc : Thread Cert.StepReplRIdeal.nD Cert.StepReplRIdeal.τ).loc Cert.StepReplRIdeal.main_arg26) = m ((c.tc : Thread Cert.StepReplIdeal.nD Cert.StepReplIdeal.τ).loc Cert.StepReplIdeal.main_arg26)
      ∧ m' ((c.tc : Thread Cert.StepReplRIdeal.nD Cert.StepReplRIdeal.τ).loc Cert.StepReplRIdeal.main_arg27) = m ((c.tc : Thread Cert.StepReplIdeal.nD Cert.StepReplIdeal.τ).loc Cert.StepReplIdeal.main_arg27)
      ∧ m' ((c.tc : Thread Cert.StepReplRIdeal.nD Cert.StepReplRIdeal.τ).loc Cert.StepReplRIdeal.main_arg28) = m ((c.tc : Thread Cert.StepReplIdeal.nD Cert.StepReplIdeal.τ).loc Cert.StepReplIdeal.main_arg28)
      ∧ m' ((c.tc : Thread Cert.StepReplRIdeal.nD Cert.StepReplRIdeal.τ).loc Cert.StepReplRIdeal.main_arg29) = m ((c.tc : Thread Cert.StepReplIdeal.nD Cert.StepReplIdeal.τ).loc Cert.StepReplIdeal.main_arg29)
      ∧ m' ((c.tc : Thread Cert.StepReplRIdeal.nD Cert.StepReplRIdeal.τ).loc Cert.StepReplRIdeal.main_arg30) = m ((c.tc : Thread Cert.StepReplIdeal.nD Cert.StepReplIdeal.τ).loc Cert.StepReplIdeal.main_arg30)
      ∧ m' ((c.tc : Thread Cert.StepReplRIdeal.nD Cert.StepReplRIdeal.τ).loc Cert.StepReplRIdeal.main_arg31) = m ((c.tc : Thread Cert.StepReplIdeal.nD Cert.StepReplIdeal.τ).loc Cert.StepReplIdeal.main_arg31)) →
    ∃ (v0 : (c : Dev Cert.StepReplIdeal.nD) → Buf (Elt Ideal) ((c.tc : Thread Cert.StepReplIdeal.nD Cert.StepReplIdeal.τ).loc Cert.StepReplIdeal.main_v44_0)) (v1 : (c : Dev Cert.StepReplIdeal.nD) → Buf (Elt Ideal) ((c.tc : Thread Cert.StepReplIdeal.nD Cert.StepReplIdeal.τ).loc Cert.StepReplIdeal.main_v44_1)) (v2 : (c : Dev Cert.StepReplIdeal.nD) → Buf (Elt Ideal) ((c.tc : Thread Cert.StepReplIdeal.nD Cert.StepReplIdeal.τ).loc Cert.StepReplIdeal.main_v44_2)) (v3 : (c : Dev Cert.StepReplIdeal.nD) → Buf (Elt Ideal) ((c.tc : Thread Cert.StepReplIdeal.nD Cert.StepReplIdeal.τ).loc Cert.StepReplIdeal.main_v44_3)),
      θ_run (Cert.StepReplIdeal.defs (F := Ideal)) (onTc (τ := Cert.StepReplIdeal.τ) (Cert.StepReplIdeal.main (F := Ideal))) ⟨m, fun _ => 0, g⟩ (fun r => ∀ c : Dev Cert.StepReplIdeal.nD,
          r.2.mem ((c.tc : Thread Cert.StepReplIdeal.nD Cert.StepReplIdeal.τ).loc Cert.StepReplIdeal.main_v44_0) = v0 c
          ∧ r.2.mem ((c.tc : Thread Cert.StepReplIdeal.nD Cert.StepReplIdeal.τ).loc Cert.StepReplIdeal.main_v44_1) = v1 c
          ∧ r.2.mem ((c.tc : Thread Cert.StepReplIdeal.nD Cert.StepReplIdeal.τ).loc Cert.StepReplIdeal.main_v44_2) = v2 c
          ∧ r.2.mem ((c.tc : Thread Cert.StepReplIdeal.nD Cert.StepReplIdeal.τ).loc Cert.StepReplIdeal.main_v44_3) = v3 c
          ∧ r.2.mem ((c.tc : Thread Cert.StepReplIdeal.nD Cert.StepReplIdeal.τ).loc Cert.StepReplIdeal.main_arg0) = m ((c.tc : Thread Cert.StepReplIdeal.nD Cert.StepReplIdeal.τ).loc Cert.StepReplIdeal.main_arg0)
          ∧ r.2.mem ((c.tc : Thread Cert.StepReplIdeal.nD Cert.StepReplIdeal.τ).loc Cert.StepReplIdeal.main_arg1) = m ((c.tc : Thread Cert.StepReplIdeal.nD Cert.StepReplIdeal.τ).loc Cert.StepReplIdeal.main_arg1)
          ∧ r.2.mem ((c.tc : Thread Cert.StepReplIdeal.nD Cert.StepReplIdeal.τ).loc Cert.StepReplIdeal.main_arg2) = m ((c.tc : Thread Cert.StepReplIdeal.nD Cert.StepReplIdeal.τ).loc Cert.StepReplIdeal.main_arg2)
          ∧ r.2.mem ((c.tc : Thread Cert.StepReplIdeal.nD Cert.StepReplIdeal.τ).loc Cert.StepReplIdeal.main_arg3) = m ((c.tc : Thread Cert.StepReplIdeal.nD Cert.StepReplIdeal.τ).loc Cert.StepReplIdeal.main_arg3)
          ∧ r.2.mem ((c.tc : Thread Cert.StepReplIdeal.nD Cert.StepReplIdeal.τ).loc Cert.StepReplIdeal.main_arg4) = m ((c.tc : Thread Cert.StepReplIdeal.nD Cert.StepReplIdeal.τ).loc Cert.StepReplIdeal.main_arg4)
          ∧ r.2.mem ((c.tc : Thread Cert.StepReplIdeal.nD Cert.StepReplIdeal.τ).loc Cert.StepReplIdeal.main_arg5) = m ((c.tc : Thread Cert.StepReplIdeal.nD Cert.StepReplIdeal.τ).loc Cert.StepReplIdeal.main_arg5)
          ∧ r.2.mem ((c.tc : Thread Cert.StepReplIdeal.nD Cert.StepReplIdeal.τ).loc Cert.StepReplIdeal.main_arg6) = m ((c.tc : Thread Cert.StepReplIdeal.nD Cert.StepReplIdeal.τ).loc Cert.StepReplIdeal.main_arg6)
          ∧ r.2.mem ((c.tc : Thread Cert.StepReplIdeal.nD Cert.StepReplIdeal.τ).loc Cert.StepReplIdeal.main_arg7) = m ((c.tc : Thread Cert.StepReplIdeal.nD Cert.StepReplIdeal.τ).loc Cert.StepReplIdeal.main_arg7)
          ∧ r.2.mem ((c.tc : Thread Cert.StepReplIdeal.nD Cert.StepReplIdeal.τ).loc Cert.StepReplIdeal.main_arg8) = m ((c.tc : Thread Cert.StepReplIdeal.nD Cert.StepReplIdeal.τ).loc Cert.StepReplIdeal.main_arg8)
          ∧ r.2.mem ((c.tc : Thread Cert.StepReplIdeal.nD Cert.StepReplIdeal.τ).loc Cert.StepReplIdeal.main_arg9) = m ((c.tc : Thread Cert.StepReplIdeal.nD Cert.StepReplIdeal.τ).loc Cert.StepReplIdeal.main_arg9)
          ∧ r.2.mem ((c.tc : Thread Cert.StepReplIdeal.nD Cert.StepReplIdeal.τ).loc Cert.StepReplIdeal.main_arg10) = m ((c.tc : Thread Cert.StepReplIdeal.nD Cert.StepReplIdeal.τ).loc Cert.StepReplIdeal.main_arg10)
          ∧ r.2.mem ((c.tc : Thread Cert.StepReplIdeal.nD Cert.StepReplIdeal.τ).loc Cert.StepReplIdeal.main_arg11) = m ((c.tc : Thread Cert.StepReplIdeal.nD Cert.StepReplIdeal.τ).loc Cert.StepReplIdeal.main_arg11)
          ∧ r.2.mem ((c.tc : Thread Cert.StepReplIdeal.nD Cert.StepReplIdeal.τ).loc Cert.StepReplIdeal.main_arg12) = m ((c.tc : Thread Cert.StepReplIdeal.nD Cert.StepReplIdeal.τ).loc Cert.StepReplIdeal.main_arg12)
          ∧ r.2.mem ((c.tc : Thread Cert.StepReplIdeal.nD Cert.StepReplIdeal.τ).loc Cert.StepReplIdeal.main_arg13) = m ((c.tc : Thread Cert.StepReplIdeal.nD Cert.StepReplIdeal.τ).loc Cert.StepReplIdeal.main_arg13)
          ∧ r.2.mem ((c.tc : Thread Cert.StepReplIdeal.nD Cert.StepReplIdeal.τ).loc Cert.StepReplIdeal.main_arg14) = m ((c.tc : Thread Cert.StepReplIdeal.nD Cert.StepReplIdeal.τ).loc Cert.StepReplIdeal.main_arg14)
          ∧ r.2.mem ((c.tc : Thread Cert.StepReplIdeal.nD Cert.StepReplIdeal.τ).loc Cert.StepReplIdeal.main_arg15) = m ((c.tc : Thread Cert.StepReplIdeal.nD Cert.StepReplIdeal.τ).loc Cert.StepReplIdeal.main_arg15)
          ∧ r.2.mem ((c.tc : Thread Cert.StepReplIdeal.nD Cert.StepReplIdeal.τ).loc Cert.StepReplIdeal.main_arg16) = m ((c.tc : Thread Cert.StepReplIdeal.nD Cert.StepReplIdeal.τ).loc Cert.StepReplIdeal.main_arg16)
          ∧ r.2.mem ((c.tc : Thread Cert.StepReplIdeal.nD Cert.StepReplIdeal.τ).loc Cert.StepReplIdeal.main_arg17) = m ((c.tc : Thread Cert.StepReplIdeal.nD Cert.StepReplIdeal.τ).loc Cert.StepReplIdeal.main_arg17)
          ∧ r.2.mem ((c.tc : Thread Cert.StepReplIdeal.nD Cert.StepReplIdeal.τ).loc Cert.StepReplIdeal.main_arg18) = m ((c.tc : Thread Cert.StepReplIdeal.nD Cert.StepReplIdeal.τ).loc Cert.StepReplIdeal.main_arg18)
          ∧ r.2.mem ((c.tc : Thread Cert.StepReplIdeal.nD Cert.StepReplIdeal.τ).loc Cert.StepReplIdeal.main_arg19) = m ((c.tc : Thread Cert.StepReplIdeal.nD Cert.StepReplIdeal.τ).loc Cert.StepReplIdeal.main_arg19)
          ∧ r.2.mem ((c.tc : Thread Cert.StepReplIdeal.nD Cert.StepReplIdeal.τ).loc Cert.StepReplIdeal.main_arg20) = m ((c.tc : Thread Cert.StepReplIdeal.nD Cert.StepReplIdeal.τ).loc Cert.StepReplIdeal.main_arg20)
          ∧ r.2.mem ((c.tc : Thread Cert.StepReplIdeal.nD Cert.StepReplIdeal.τ).loc Cert.StepReplIdeal.main_arg21) = m ((c.tc : Thread Cert.StepReplIdeal.nD Cert.StepReplIdeal.τ).loc Cert.StepReplIdeal.main_arg21)
          ∧ r.2.mem ((c.tc : Thread Cert.StepReplIdeal.nD Cert.StepReplIdeal.τ).loc Cert.StepReplIdeal.main_arg22) = m ((c.tc : Thread Cert.StepReplIdeal.nD Cert.StepReplIdeal.τ).loc Cert.StepReplIdeal.main_arg22)
          ∧ r.2.mem ((c.tc : Thread Cert.StepReplIdeal.nD Cert.StepReplIdeal.τ).loc Cert.StepReplIdeal.main_arg23) = m ((c.tc : Thread Cert.StepReplIdeal.nD Cert.StepReplIdeal.τ).loc Cert.StepReplIdeal.main_arg23)
          ∧ r.2.mem ((c.tc : Thread Cert.StepReplIdeal.nD Cert.StepReplIdeal.τ).loc Cert.StepReplIdeal.main_arg24) = m ((c.tc : Thread Cert.StepReplIdeal.nD Cert.StepReplIdeal.τ).loc Cert.StepReplIdeal.main_arg24)
          ∧ r.2.mem ((c.tc : Thread Cert.StepReplIdeal.nD Cert.StepReplIdeal.τ).loc Cert.StepReplIdeal.main_arg25) = m ((c.tc : Thread Cert.StepReplIdeal.nD Cert.StepReplIdeal.τ).loc Cert.StepReplIdeal.main_arg25)
          ∧ r.2.mem ((c.tc : Thread Cert.StepReplIdeal.nD Cert.StepReplIdeal.τ).loc Cert.StepReplIdeal.main_arg26) = m ((c.tc : Thread Cert.StepReplIdeal.nD Cert.StepReplIdeal.τ).loc Cert.StepReplIdeal.main_arg26)
          ∧ r.2.mem ((c.tc : Thread Cert.StepReplIdeal.nD Cert.StepReplIdeal.τ).loc Cert.StepReplIdeal.main_arg27) = m ((c.tc : Thread Cert.StepReplIdeal.nD Cert.StepReplIdeal.τ).loc Cert.StepReplIdeal.main_arg27)
          ∧ r.2.mem ((c.tc : Thread Cert.StepReplIdeal.nD Cert.StepReplIdeal.τ).loc Cert.StepReplIdeal.main_arg28) = m ((c.tc : Thread Cert.StepReplIdeal.nD Cert.StepReplIdeal.τ).loc Cert.StepReplIdeal.main_arg28)
          ∧ r.2.mem ((c.tc : Thread Cert.StepReplIdeal.nD Cert.StepReplIdeal.τ).loc Cert.StepReplIdeal.main_arg29) = m ((c.tc : Thread Cert.StepReplIdeal.nD Cert.StepReplIdeal.τ).loc Cert.StepReplIdeal.main_arg29)
          ∧ r.2.mem ((c.tc : Thread Cert.StepReplIdeal.nD Cert.StepReplIdeal.τ).loc Cert.StepReplIdeal.main_arg30) = m ((c.tc : Thread Cert.StepReplIdeal.nD Cert.StepReplIdeal.τ).loc Cert.StepReplIdeal.main_arg30)
          ∧ r.2.mem ((c.tc : Thread Cert.StepReplIdeal.nD Cert.StepReplIdeal.τ).loc Cert.StepReplIdeal.main_arg31) = m ((c.tc : Thread Cert.StepReplIdeal.nD Cert.StepReplIdeal.τ).loc Cert.StepReplIdeal.main_arg31))
      ∧ θ_run (Cert.StepReplRIdeal.defs (F := Ideal)) (onTc (τ := Cert.StepReplRIdeal.τ) (Cert.StepReplRIdeal.main (F := Ideal))) ⟨m', fun _ => 0, g'⟩ (fun r => ∀ c : Dev Cert.StepReplRIdeal.nD,
          r.2.mem ((c.tc : Thread Cert.StepReplRIdeal.nD Cert.StepReplRIdeal.τ).loc Cert.StepReplRIdeal.main_v210) = v0 c
          ∧ r.2.mem ((c.tc : Thread Cert.StepReplRIdeal.nD Cert.StepReplRIdeal.τ).loc Cert.StepReplRIdeal.main_v221) = v1 c
          ∧ r.2.mem ((c.tc : Thread Cert.StepReplRIdeal.nD Cert.StepReplRIdeal.τ).loc Cert.StepReplRIdeal.main_v232) = v2 c
          ∧ r.2.mem ((c.tc : Thread Cert.StepReplRIdeal.nD Cert.StepReplRIdeal.τ).loc Cert.StepReplRIdeal.main_v243) = v3 c
          ∧ r.2.mem ((c.tc : Thread Cert.StepReplRIdeal.nD Cert.StepReplRIdeal.τ).loc Cert.StepReplRIdeal.main_arg0) = m' ((c.tc : Thread Cert.StepReplRIdeal.nD Cert.StepReplRIdeal.τ).loc Cert.StepReplRIdeal.main_arg0)
          ∧ r.2.mem ((c.tc : Thread Cert.StepReplRIdeal.nD Cert.StepReplRIdeal.τ).loc Cert.StepReplRIdeal.main_arg1) = m' ((c.tc : Thread Cert.StepReplRIdeal.nD Cert.StepReplRIdeal.τ).loc Cert.StepReplRIdeal.main_arg1)
          ∧ r.2.mem ((c.tc : Thread Cert.StepReplRIdeal.nD Cert.StepReplRIdeal.τ).loc Cert.StepReplRIdeal.main_arg2) = m' ((c.tc : Thread Cert.StepReplRIdeal.nD Cert.StepReplRIdeal.τ).loc Cert.StepReplRIdeal.main_arg2)
          ∧ r.2.mem ((c.tc : Thread Cert.StepReplRIdeal.nD Cert.StepReplRIdeal.τ).loc Cert.StepReplRIdeal.main_arg3) = m' ((c.tc : Thread Cert.StepReplRIdeal.nD Cert.StepReplRIdeal.τ).loc Cert.StepReplRIdeal.main_arg3)
          ∧ r.2.mem ((c.tc : Thread Cert.StepReplRIdeal.nD Cert.StepReplRIdeal.τ).loc Cert.StepReplRIdeal.main_arg4) = m' ((c.tc : Thread Cert.StepReplRIdeal.nD Cert.StepReplRIdeal.τ).loc Cert.StepReplRIdeal.main_arg4)
          ∧ r.2.mem ((c.tc : Thread Cert.StepReplRIdeal.nD Cert.StepReplRIdeal.τ).loc Cert.StepReplRIdeal.main_arg5) = m' ((c.tc : Thread Cert.StepReplRIdeal.nD Cert.StepReplRIdeal.τ).loc Cert.StepReplRIdeal.main_arg5)
          ∧ r.2.mem ((c.tc : Thread Cert.StepReplRIdeal.nD Cert.StepReplRIdeal.τ).loc Cert.StepReplRIdeal.main_arg6) = m' ((c.tc : Thread Cert.StepReplRIdeal.nD Cert.StepReplRIdeal.τ).loc Cert.StepReplRIdeal.main_arg6)
          ∧ r.2.mem ((c.tc : Thread Cert.StepReplRIdeal.nD Cert.StepReplRIdeal.τ).loc Cert.StepReplRIdeal.main_arg7) = m' ((c.tc : Thread Cert.StepReplRIdeal.nD Cert.StepReplRIdeal.τ).loc Cert.StepReplRIdeal.main_arg7)
          ∧ r.2.mem ((c.tc : Thread Cert.StepReplRIdeal.nD Cert.StepReplRIdeal.τ).loc Cert.StepReplRIdeal.main_arg8) = m' ((c.tc : Thread Cert.StepReplRIdeal.nD Cert.StepReplRIdeal.τ).loc Cert.StepReplRIdeal.main_arg8)
          ∧ r.2.mem ((c.tc : Thread Cert.StepReplRIdeal.nD Cert.StepReplRIdeal.τ).loc Cert.StepReplRIdeal.main_arg9) = m' ((c.tc : Thread Cert.StepReplRIdeal.nD Cert.StepReplRIdeal.τ).loc Cert.StepReplRIdeal.main_arg9)
          ∧ r.2.mem ((c.tc : Thread Cert.StepReplRIdeal.nD Cert.StepReplRIdeal.τ).loc Cert.StepReplRIdeal.main_arg10) = m' ((c.tc : Thread Cert.StepReplRIdeal.nD Cert.StepReplRIdeal.τ).loc Cert.StepReplRIdeal.main_arg10)
          ∧ r.2.mem ((c.tc : Thread Cert.StepReplRIdeal.nD Cert.StepReplRIdeal.τ).loc Cert.StepReplRIdeal.main_arg11) = m' ((c.tc : Thread Cert.StepReplRIdeal.nD Cert.StepReplRIdeal.τ).loc Cert.StepReplRIdeal.main_arg11)
          ∧ r.2.mem ((c.tc : Thread Cert.StepReplRIdeal.nD Cert.StepReplRIdeal.τ).loc Cert.StepReplRIdeal.main_arg12) = m' ((c.tc : Thread Cert.StepReplRIdeal.nD Cert.StepReplRIdeal.τ).loc Cert.StepReplRIdeal.main_arg12)
          ∧ r.2.mem ((c.tc : Thread Cert.StepReplRIdeal.nD Cert.StepReplRIdeal.τ).loc Cert.StepReplRIdeal.main_arg13) = m' ((c.tc : Thread Cert.StepReplRIdeal.nD Cert.StepReplRIdeal.τ).loc Cert.StepReplRIdeal.main_arg13)
          ∧ r.2.mem ((c.tc : Thread Cert.StepReplRIdeal.nD Cert.StepReplRIdeal.τ).loc Cert.StepReplRIdeal.main_arg14) = m' ((c.tc : Thread Cert.StepReplRIdeal.nD Cert.StepReplRIdeal.τ).loc Cert.StepReplRIdeal.main_arg14)
          ∧ r.2.mem ((c.tc : Thread Cert.StepReplRIdeal.nD Cert.StepReplRIdeal.τ).loc Cert.StepReplRIdeal.main_arg15) = m' ((c.tc : Thread Cert.StepReplRIdeal.nD Cert.StepReplRIdeal.τ).loc Cert.StepReplRIdeal.main_arg15)
          ∧ r.2.mem ((c.tc : Thread Cert.StepReplRIdeal.nD Cert.StepReplRIdeal.τ).loc Cert.StepReplRIdeal.main_arg16) = m' ((c.tc : Thread Cert.StepReplRIdeal.nD Cert.StepReplRIdeal.τ).loc Cert.StepReplRIdeal.main_arg16)
          ∧ r.2.mem ((c.tc : Thread Cert.StepReplRIdeal.nD Cert.StepReplRIdeal.τ).loc Cert.StepReplRIdeal.main_arg17) = m' ((c.tc : Thread Cert.StepReplRIdeal.nD Cert.StepReplRIdeal.τ).loc Cert.StepReplRIdeal.main_arg17)
          ∧ r.2.mem ((c.tc : Thread Cert.StepReplRIdeal.nD Cert.StepReplRIdeal.τ).loc Cert.StepReplRIdeal.main_arg18) = m' ((c.tc : Thread Cert.StepReplRIdeal.nD Cert.StepReplRIdeal.τ).loc Cert.StepReplRIdeal.main_arg18)
          ∧ r.2.mem ((c.tc : Thread Cert.StepReplRIdeal.nD Cert.StepReplRIdeal.τ).loc Cert.StepReplRIdeal.main_arg19) = m' ((c.tc : Thread Cert.StepReplRIdeal.nD Cert.StepReplRIdeal.τ).loc Cert.StepReplRIdeal.main_arg19)
          ∧ r.2.mem ((c.tc : Thread Cert.StepReplRIdeal.nD Cert.StepReplRIdeal.τ).loc Cert.StepReplRIdeal.main_arg20) = m' ((c.tc : Thread Cert.StepReplRIdeal.nD Cert.StepReplRIdeal.τ).loc Cert.StepReplRIdeal.main_arg20)
          ∧ r.2.mem ((c.tc : Thread Cert.StepReplRIdeal.nD Cert.StepReplRIdeal.τ).loc Cert.StepReplRIdeal.main_arg21) = m' ((c.tc : Thread Cert.StepReplRIdeal.nD Cert.StepReplRIdeal.τ).loc Cert.StepReplRIdeal.main_arg21)
          ∧ r.2.mem ((c.tc : Thread Cert.StepReplRIdeal.nD Cert.StepReplRIdeal.τ).loc Cert.StepReplRIdeal.main_arg22) = m' ((c.tc : Thread Cert.StepReplRIdeal.nD Cert.StepReplRIdeal.τ).loc Cert.StepReplRIdeal.main_arg22)
          ∧ r.2.mem ((c.tc : Thread Cert.StepReplRIdeal.nD Cert.StepReplRIdeal.τ).loc Cert.StepReplRIdeal.main_arg23) = m' ((c.tc : Thread Cert.StepReplRIdeal.nD Cert.StepReplRIdeal.τ).loc Cert.StepReplRIdeal.main_arg23)
          ∧ r.2.mem ((c.tc : Thread Cert.StepReplRIdeal.nD Cert.StepReplRIdeal.τ).loc Cert.StepReplRIdeal.main_arg24) = m' ((c.tc : Thread Cert.StepReplRIdeal.nD Cert.StepReplRIdeal.τ).loc Cert.StepReplRIdeal.main_arg24)
          ∧ r.2.mem ((c.tc : Thread Cert.StepReplRIdeal.nD Cert.StepReplRIdeal.τ).loc Cert.StepReplRIdeal.main_arg25) = m' ((c.tc : Thread Cert.StepReplRIdeal.nD Cert.StepReplRIdeal.τ).loc Cert.StepReplRIdeal.main_arg25)
          ∧ r.2.mem ((c.tc : Thread Cert.StepReplRIdeal.nD Cert.StepReplRIdeal.τ).loc Cert.StepReplRIdeal.main_arg26) = m' ((c.tc : Thread Cert.StepReplRIdeal.nD Cert.StepReplRIdeal.τ).loc Cert.StepReplRIdeal.main_arg26)
          ∧ r.2.mem ((c.tc : Thread Cert.StepReplRIdeal.nD Cert.StepReplRIdeal.τ).loc Cert.StepReplRIdeal.main_arg27) = m' ((c.tc : Thread Cert.StepReplRIdeal.nD Cert.StepReplRIdeal.τ).loc Cert.StepReplRIdeal.main_arg27)
          ∧ r.2.mem ((c.tc : Thread Cert.StepReplRIdeal.nD Cert.StepReplRIdeal.τ).loc Cert.StepReplRIdeal.main_arg28) = m' ((c.tc : Thread Cert.StepReplRIdeal.nD Cert.StepReplRIdeal.τ).loc Cert.StepReplRIdeal.main_arg28)
          ∧ r.2.mem ((c.tc : Thread Cert.StepReplRIdeal.nD Cert.StepReplRIdeal.τ).loc Cert.StepReplRIdeal.main_arg29) = m' ((c.tc : Thread Cert.StepReplRIdeal.nD Cert.StepReplRIdeal.τ).loc Cert.StepReplRIdeal.main_arg29)
          ∧ r.2.mem ((c.tc : Thread Cert.StepReplRIdeal.nD Cert.StepReplRIdeal.τ).loc Cert.StepReplRIdeal.main_arg30) = m' ((c.tc : Thread Cert.StepReplRIdeal.nD Cert.StepReplRIdeal.τ).loc Cert.StepReplRIdeal.main_arg30)
          ∧ r.2.mem ((c.tc : Thread Cert.StepReplRIdeal.nD Cert.StepReplRIdeal.τ).loc Cert.StepReplRIdeal.main_arg31) = m' ((c.tc : Thread Cert.StepReplRIdeal.nD Cert.StepReplRIdeal.τ).loc Cert.StepReplRIdeal.main_arg31))

def Claim : Prop :=
  ∃ (hDownDx : Cert.DownDx.Facts) (hDownDxIdeal : Cert.DownDxIdeal.Facts) (hDownDxRIdeal : Cert.DownDxRIdeal.Facts) (hOutDx : Cert.OutDx.Facts) (hOutDxIdeal : Cert.OutDxIdeal.Facts) (hOutDxRIdeal : Cert.OutDxRIdeal.Facts) (hUpDx : Cert.UpDx.Facts) (hUpDxIdeal : Cert.UpDxIdeal.Facts) (hUpDxRIdeal : Cert.UpDxRIdeal.Facts) (hInDx : Cert.InDx.Facts) (hInDxIdeal : Cert.InDxIdeal.Facts) (hInDxRIdeal : Cert.InDxRIdeal.Facts) (hDownDw : Cert.DownDw.Facts) (hDownDwIdeal : Cert.DownDwIdeal.Facts) (hDownDwRIdeal : Cert.DownDwRIdeal.Facts) (hUpDw : Cert.UpDw.Facts) (hUpDwIdeal : Cert.UpDwIdeal.Facts) (hUpDwRIdeal : Cert.UpDwRIdeal.Facts) (hOutDw : Cert.OutDw.Facts) (hOutDwIdeal : Cert.OutDwIdeal.Facts) (hOutDwRIdeal : Cert.OutDwRIdeal.Facts) (hInDw : Cert.InDw.Facts) (hInDwIdeal : Cert.InDwIdeal.Facts) (hInDwRIdeal : Cert.InDwRIdeal.Facts) (hOutProj : Cert.OutProj.Facts) (hOutProjIdeal : Cert.OutProjIdeal.Facts) (hOutProjRIdeal : Cert.OutProjRIdeal.Facts) (hDownProj : Cert.DownProj.Facts) (hDownProjIdeal : Cert.DownProjIdeal.Facts) (hDownProjRIdeal : Cert.DownProjRIdeal.Facts) (hDownLoss : Cert.DownLoss.Facts) (hDownLossIdeal : Cert.DownLossIdeal.Facts) (hDownLossRIdeal : Cert.DownLossRIdeal.Facts) (hGate : Cert.Gate.Facts) (hGateIdeal : Cert.GateIdeal.Facts) (hGateRIdeal : Cert.GateRIdeal.Facts) (hInProj : Cert.InProj.Facts) (hInProjIdeal : Cert.InProjIdeal.Facts) (hInProjRIdeal : Cert.InProjRIdeal.Facts) (hUpProj : Cert.UpProj.Facts) (hUpProjIdeal : Cert.UpProjIdeal.Facts) (hUpProjRIdeal : Cert.UpProjRIdeal.Facts) (hConvBwd : Cert.ConvBwd.Facts) (hConvBwdIdeal : Cert.ConvBwdIdeal.Facts) (hConvBwdRIdeal : Cert.ConvBwdRIdeal.Facts) (hAdamwIn : Cert.AdamwIn.Facts) (hAdamwInIdeal : Cert.AdamwInIdeal.Facts) (hAdamwInRIdeal : Cert.AdamwInRIdeal.Facts) (hAdamwUp : Cert.AdamwUp.Facts) (hAdamwUpIdeal : Cert.AdamwUpIdeal.Facts) (hAdamwUpRIdeal : Cert.AdamwUpRIdeal.Facts) (hAdamwOut : Cert.AdamwOut.Facts) (hAdamwOutIdeal : Cert.AdamwOutIdeal.Facts) (hAdamwOutRIdeal : Cert.AdamwOutRIdeal.Facts) (hAdamwDown : Cert.AdamwDown.Facts) (hAdamwDownIdeal : Cert.AdamwDownIdeal.Facts) (hAdamwDownRIdeal : Cert.AdamwDownRIdeal.Facts) (hAdamwSmall : Cert.AdamwSmall.Facts) (hAdamwSmallIdeal : Cert.AdamwSmallIdeal.Facts) (hAdamwSmallRIdeal : Cert.AdamwSmallRIdeal.Facts) (hAdamwRepl : Cert.AdamwRepl.Facts) (hAdamwReplIdeal : Cert.AdamwReplIdeal.Facts) (hAdamwReplRIdeal : Cert.AdamwReplRIdeal.Facts) (hStepSmall : Cert.StepSmall.Facts) (hStepSmallIdeal : Cert.StepSmallIdeal.Facts) (hStepSmallRIdeal : Cert.StepSmallRIdeal.Facts) (hStepRepl : Cert.StepRepl.Facts) (hStepReplIdeal : Cert.StepReplIdeal.Facts) (hStepReplRIdeal : Cert.StepReplRIdeal.Facts) (hPre_finite : Cert.Pre_finite.Facts),
    quiescent_DownDx (hDownDx := hDownDx)
    ∧ quiescent_DownDxIdeal (hDownDxIdeal := hDownDxIdeal)
    ∧ quiescent_DownDxRIdeal (hDownDxRIdeal := hDownDxRIdeal)
    ∧ quiescent_OutDx (hOutDx := hOutDx)
    ∧ quiescent_OutDxIdeal (hOutDxIdeal := hOutDxIdeal)
    ∧ quiescent_OutDxRIdeal (hOutDxRIdeal := hOutDxRIdeal)
    ∧ quiescent_UpDx (hUpDx := hUpDx)
    ∧ quiescent_UpDxIdeal (hUpDxIdeal := hUpDxIdeal)
    ∧ quiescent_UpDxRIdeal (hUpDxRIdeal := hUpDxRIdeal)
    ∧ quiescent_InDx (hInDx := hInDx)
    ∧ quiescent_InDxIdeal (hInDxIdeal := hInDxIdeal)
    ∧ quiescent_InDxRIdeal (hInDxRIdeal := hInDxRIdeal)
    ∧ quiescent_DownDw (hDownDw := hDownDw)
    ∧ quiescent_DownDwIdeal (hDownDwIdeal := hDownDwIdeal)
    ∧ quiescent_DownDwRIdeal (hDownDwRIdeal := hDownDwRIdeal)
    ∧ quiescent_UpDw (hUpDw := hUpDw)
    ∧ quiescent_UpDwIdeal (hUpDwIdeal := hUpDwIdeal)
    ∧ quiescent_UpDwRIdeal (hUpDwRIdeal := hUpDwRIdeal)
    ∧ quiescent_OutDw (hOutDw := hOutDw)
    ∧ quiescent_OutDwIdeal (hOutDwIdeal := hOutDwIdeal)
    ∧ quiescent_OutDwRIdeal (hOutDwRIdeal := hOutDwRIdeal)
    ∧ quiescent_InDw (hInDw := hInDw)
    ∧ quiescent_InDwIdeal (hInDwIdeal := hInDwIdeal)
    ∧ quiescent_InDwRIdeal (hInDwRIdeal := hInDwRIdeal)
    ∧ quiescent_OutProj (hOutProj := hOutProj)
    ∧ quiescent_OutProjIdeal (hOutProjIdeal := hOutProjIdeal)
    ∧ quiescent_OutProjRIdeal (hOutProjRIdeal := hOutProjRIdeal)
    ∧ quiescent_DownProj (hDownProj := hDownProj)
    ∧ quiescent_DownProjIdeal (hDownProjIdeal := hDownProjIdeal)
    ∧ quiescent_DownProjRIdeal (hDownProjRIdeal := hDownProjRIdeal)
    ∧ quiescent_DownLoss (hDownLoss := hDownLoss)
    ∧ quiescent_DownLossIdeal (hDownLossIdeal := hDownLossIdeal)
    ∧ quiescent_DownLossRIdeal (hDownLossRIdeal := hDownLossRIdeal)
    ∧ quiescent_Gate (hGate := hGate)
    ∧ quiescent_GateIdeal (hGateIdeal := hGateIdeal)
    ∧ quiescent_GateRIdeal (hGateRIdeal := hGateRIdeal)
    ∧ quiescent_InProj (hInProj := hInProj)
    ∧ quiescent_InProjIdeal (hInProjIdeal := hInProjIdeal)
    ∧ quiescent_InProjRIdeal (hInProjRIdeal := hInProjRIdeal)
    ∧ quiescent_UpProj (hUpProj := hUpProj)
    ∧ quiescent_UpProjIdeal (hUpProjIdeal := hUpProjIdeal)
    ∧ quiescent_UpProjRIdeal (hUpProjRIdeal := hUpProjRIdeal)
    ∧ quiescent_ConvBwd (hConvBwd := hConvBwd)
    ∧ quiescent_ConvBwdIdeal (hConvBwdIdeal := hConvBwdIdeal)
    ∧ quiescent_ConvBwdIdeal_pre_finite (hConvBwdIdeal := hConvBwdIdeal) (hPre_finite := hPre_finite)
    ∧ quiescent_ConvBwdRIdeal (hConvBwdRIdeal := hConvBwdRIdeal)
    ∧ quiescent_ConvBwdRIdeal_pre_finite (hConvBwdRIdeal := hConvBwdRIdeal) (hPre_finite := hPre_finite)
    ∧ quiescent_AdamwIn (hAdamwIn := hAdamwIn)
    ∧ quiescent_AdamwInIdeal (hAdamwInIdeal := hAdamwInIdeal)
    ∧ quiescent_AdamwInRIdeal (hAdamwInRIdeal := hAdamwInRIdeal)
    ∧ quiescent_AdamwUp (hAdamwUp := hAdamwUp)
    ∧ quiescent_AdamwUpIdeal (hAdamwUpIdeal := hAdamwUpIdeal)
    ∧ quiescent_AdamwUpRIdeal (hAdamwUpRIdeal := hAdamwUpRIdeal)
    ∧ quiescent_AdamwOut (hAdamwOut := hAdamwOut)
    ∧ quiescent_AdamwOutIdeal (hAdamwOutIdeal := hAdamwOutIdeal)
    ∧ quiescent_AdamwOutRIdeal (hAdamwOutRIdeal := hAdamwOutRIdeal)
    ∧ quiescent_AdamwDown (hAdamwDown := hAdamwDown)
    ∧ quiescent_AdamwDownIdeal (hAdamwDownIdeal := hAdamwDownIdeal)
    ∧ quiescent_AdamwDownRIdeal (hAdamwDownRIdeal := hAdamwDownRIdeal)
    ∧ quiescent_AdamwSmall (hAdamwSmall := hAdamwSmall)
    ∧ quiescent_AdamwSmallIdeal (hAdamwSmallIdeal := hAdamwSmallIdeal)
    ∧ quiescent_AdamwSmallRIdeal (hAdamwSmallRIdeal := hAdamwSmallRIdeal)
    ∧ quiescent_AdamwRepl (hAdamwRepl := hAdamwRepl)
    ∧ quiescent_AdamwReplIdeal (hAdamwReplIdeal := hAdamwReplIdeal)
    ∧ quiescent_AdamwReplRIdeal (hAdamwReplRIdeal := hAdamwReplRIdeal)
    ∧ quiescent_StepSmall (hStepSmall := hStepSmall)
    ∧ quiescent_StepSmallIdeal (hStepSmallIdeal := hStepSmallIdeal)
    ∧ quiescent_StepSmallRIdeal (hStepSmallRIdeal := hStepSmallRIdeal)
    ∧ quiescent_StepRepl (hStepRepl := hStepRepl)
    ∧ quiescent_StepReplIdeal (hStepReplIdeal := hStepReplIdeal)
    ∧ quiescent_StepReplRIdeal (hStepReplRIdeal := hStepReplRIdeal)
    ∧ preserves_DownDx_DownDxIdeal
    ∧ algebraic_DownDxIdeal_DownDxRIdeal (hDownDxIdeal := hDownDxIdeal) (hDownDxRIdeal := hDownDxRIdeal)
    ∧ preserves_OutDx_OutDxIdeal
    ∧ algebraic_OutDxIdeal_OutDxRIdeal (hOutDxIdeal := hOutDxIdeal) (hOutDxRIdeal := hOutDxRIdeal)
    ∧ preserves_UpDx_UpDxIdeal
    ∧ algebraic_UpDxIdeal_UpDxRIdeal (hUpDxIdeal := hUpDxIdeal) (hUpDxRIdeal := hUpDxRIdeal)
    ∧ preserves_InDx_InDxIdeal
    ∧ algebraic_InDxIdeal_InDxRIdeal (hInDxIdeal := hInDxIdeal) (hInDxRIdeal := hInDxRIdeal)
    ∧ preserves_DownDw_DownDwIdeal
    ∧ algebraic_DownDwIdeal_DownDwRIdeal (hDownDwIdeal := hDownDwIdeal) (hDownDwRIdeal := hDownDwRIdeal)
    ∧ preserves_UpDw_UpDwIdeal
    ∧ algebraic_UpDwIdeal_UpDwRIdeal (hUpDwIdeal := hUpDwIdeal) (hUpDwRIdeal := hUpDwRIdeal)
    ∧ preserves_OutDw_OutDwIdeal
    ∧ algebraic_OutDwIdeal_OutDwRIdeal (hOutDwIdeal := hOutDwIdeal) (hOutDwRIdeal := hOutDwRIdeal)
    ∧ preserves_InDw_InDwIdeal
    ∧ algebraic_InDwIdeal_InDwRIdeal (hInDwIdeal := hInDwIdeal) (hInDwRIdeal := hInDwRIdeal)
    ∧ preserves_OutProj_OutProjIdeal
    ∧ algebraic_OutProjIdeal_OutProjRIdeal (hOutProjIdeal := hOutProjIdeal) (hOutProjRIdeal := hOutProjRIdeal)
    ∧ preserves_DownProj_DownProjIdeal
    ∧ algebraic_DownProjIdeal_DownProjRIdeal (hDownProjIdeal := hDownProjIdeal) (hDownProjRIdeal := hDownProjRIdeal)
    ∧ preserves_DownLoss_DownLossIdeal
    ∧ algebraic_DownLossIdeal_DownLossRIdeal (hDownLossIdeal := hDownLossIdeal) (hDownLossRIdeal := hDownLossRIdeal)
    ∧ preserves_Gate_GateIdeal
    ∧ algebraic_GateIdeal_GateRIdeal (hGateIdeal := hGateIdeal) (hGateRIdeal := hGateRIdeal)
    ∧ preserves_InProj_InProjIdeal
    ∧ algebraic_InProjIdeal_InProjRIdeal (hInProjIdeal := hInProjIdeal) (hInProjRIdeal := hInProjRIdeal)
    ∧ preserves_UpProj_UpProjIdeal
    ∧ algebraic_UpProjIdeal_UpProjRIdeal (hUpProjIdeal := hUpProjIdeal) (hUpProjRIdeal := hUpProjRIdeal)
    ∧ preserves_ConvBwd_ConvBwdIdeal
    ∧ algebraic_ConvBwdIdeal_ConvBwdRIdeal_pre_finite (hConvBwdIdeal := hConvBwdIdeal) (hConvBwdRIdeal := hConvBwdRIdeal) (hPre_finite := hPre_finite)
    ∧ preserves_AdamwIn_AdamwInIdeal
    ∧ algebraic_AdamwInIdeal_AdamwInRIdeal (hAdamwInIdeal := hAdamwInIdeal) (hAdamwInRIdeal := hAdamwInRIdeal)
    ∧ preserves_AdamwUp_AdamwUpIdeal
    ∧ algebraic_AdamwUpIdeal_AdamwUpRIdeal (hAdamwUpIdeal := hAdamwUpIdeal) (hAdamwUpRIdeal := hAdamwUpRIdeal)
    ∧ preserves_AdamwOut_AdamwOutIdeal
    ∧ algebraic_AdamwOutIdeal_AdamwOutRIdeal (hAdamwOutIdeal := hAdamwOutIdeal) (hAdamwOutRIdeal := hAdamwOutRIdeal)
    ∧ preserves_AdamwDown_AdamwDownIdeal
    ∧ algebraic_AdamwDownIdeal_AdamwDownRIdeal (hAdamwDownIdeal := hAdamwDownIdeal) (hAdamwDownRIdeal := hAdamwDownRIdeal)
    ∧ preserves_AdamwSmall_AdamwSmallIdeal
    ∧ algebraic_AdamwSmallIdeal_AdamwSmallRIdeal (hAdamwSmallIdeal := hAdamwSmallIdeal) (hAdamwSmallRIdeal := hAdamwSmallRIdeal)
    ∧ preserves_AdamwRepl_AdamwReplIdeal
    ∧ algebraic_AdamwReplIdeal_AdamwReplRIdeal (hAdamwReplIdeal := hAdamwReplIdeal) (hAdamwReplRIdeal := hAdamwReplRIdeal)
    ∧ preserves_StepSmall_StepSmallIdeal
    ∧ algebraic_StepSmallIdeal_StepSmallRIdeal (hStepSmallIdeal := hStepSmallIdeal) (hStepSmallRIdeal := hStepSmallRIdeal)
    ∧ preserves_StepRepl_StepReplIdeal
    ∧ algebraic_StepReplIdeal_StepReplRIdeal (hStepReplIdeal := hStepReplIdeal) (hStepReplRIdeal := hStepReplRIdeal)
-- ==== Pre_finite.lean ====
abbrev S8256x2816 : Shape := ⟨2, ![8256, 2816]⟩
abbrev S8256x5632 : Shape := ⟨2, ![8256, 5632]⟩
abbrev S3x5632 : Shape := ⟨2, ![3, 5632]⟩
abbrev S5632 : Shape := ⟨1, ![5632]⟩
abbrev S_ : Shape := ⟨0, ![]⟩

class Facts : Prop where
  bitsLt_bf16_f32 : FTy.bits .bf16 < FTy.bits .f32
  bcast_S_S8256x2816 : S_.BroadcastsInDim S8256x2816 (![] : Fin 0 → Fin S8256x2816.rank)
  reducesTo_S8256x2816_S_d0_1 : S8256x2816.ReducesTo [0, 1] S_
  h_S_ : 0 < S_.numel
  bcast_S_S8256x5632 : S_.BroadcastsInDim S8256x5632 (![] : Fin 0 → Fin S8256x5632.rank)
  reducesTo_S8256x5632_S_d0_1 : S8256x5632.ReducesTo [0, 1] S_
  bcast_S_S3x5632 : S_.BroadcastsInDim S3x5632 (![] : Fin 0 → Fin S3x5632.rank)
  reducesTo_S3x5632_S_d0_1 : S3x5632.ReducesTo [0, 1] S_
  bcast_S_S5632 : S_.BroadcastsInDim S5632 (![] : Fin 0 → Fin S5632.rank)
  reducesTo_S5632_S_d0 : S5632.ReducesTo [0] S_

variable [Facts]

def fn_part1 {F : FTy → Type} [FloatOps F] (main_v15 : IVec S_ 1) (main_v16 : FVec F S5632 .f32) (main_cst_4 : FVec F S_ .f32) : IVec S_ 1 :=
  let main_v17 : FVec F S5632 .f32 := broadcastInDim S5632 ![] bcast_S_S5632 main_cst_4
  let main_v18 : IVec S5632 1 := cmpf .olt main_v16 main_v17
  let main_c_5 : IVec S_ 1 := constantI S_ 1 1#1
  let main_v19 : IVec S_ 1 := (fun x v => Host.reduce IntOp.andi x v reducesTo_S5632_S_d0 h_S_) main_v18 main_c_5
  let main_v20 : IVec S_ 1 := andi main_v15 main_v19
  main_v20

def fn {F : FTy → Type} [FloatOps F] (main_arg0 : FVec F S8256x2816 .bf16) (main_arg1 : FVec F S8256x5632 .bf16) (main_arg2 : FVec F S3x5632 .f32) (main_arg3 : FVec F S5632 .f32) : IVec S_ 1 :=
  let main_v0 : FVec F S8256x2816 .f32 := (extf .f32 · bitsLt_bf16_f32) main_arg0
  let main_v1 : FVec F S8256x2816 .f32 := Host.absf main_v0
  let main_cst : FVec F S_ .f32 := constant S_ .f32 0x7F800000#32
  let main_v2 : FVec F S8256x2816 .f32 := broadcastInDim S8256x2816 ![] bcast_S_S8256x2816 main_cst
  let main_v3 : IVec S8256x2816 1 := cmpf .olt main_v1 main_v2
  let main_c : IVec S_ 1 := constantI S_ 1 1#1
  let main_v4 : IVec S_ 1 := (fun x v => Host.reduce IntOp.andi x v reducesTo_S8256x2816_S_d0_1 h_S_) main_v3 main_c
  let main_v5 : FVec F S8256x5632 .f32 := (extf .f32 · bitsLt_bf16_f32) main_arg1
  let main_v6 : FVec F S8256x5632 .f32 := Host.absf main_v5
  let main_cst_0 : FVec F S_ .f32 := constant S_ .f32 0x7F800000#32
  let main_v7 : FVec F S8256x5632 .f32 := broadcastInDim S8256x5632 ![] bcast_S_S8256x5632 main_cst_0
  let main_v8 : IVec S8256x5632 1 := cmpf .olt main_v6 main_v7
  let main_c_1 : IVec S_ 1 := constantI S_ 1 1#1
  let main_v9 : IVec S_ 1 := (fun x v => Host.reduce IntOp.andi x v reducesTo_S8256x5632_S_d0_1 h_S_) main_v8 main_c_1
  let main_v10 : IVec S_ 1 := andi main_v4 main_v9
  let main_v11 : FVec F S3x5632 .f32 := Host.absf main_arg2
  let main_cst_2 : FVec F S_ .f32 := constant S_ .f32 0x7F800000#32
  let main_v12 : FVec F S3x5632 .f32 := broadcastInDim S3x5632 ![] bcast_S_S3x5632 main_cst_2
  let main_v13 : IVec S3x5632 1 := cmpf .olt main_v11 main_v12
  let main_c_3 : IVec S_ 1 := constantI S_ 1 1#1
  let main_v14 : IVec S_ 1 := (fun x v => Host.reduce IntOp.andi x v reducesTo_S3x5632_S_d0_1 h_S_) main_v13 main_c_3
  let main_v15 : IVec S_ 1 := andi main_v10 main_v14
  let main_v16 : FVec F S5632 .f32 := Host.absf main_arg3
  let main_cst_4 : FVec F S_ .f32 := constant S_ .f32 0x7F800000#32
  fn_part1 (F := F) main_v15 main_v16 main_cst_4
-- ==== DownDx.lean ====
abbrev S8256x1024 : Shape := ⟨2, ![8256, 1024]⟩
abbrev S1x1024 : Shape := ⟨2, ![1, 1024]⟩
abbrev S2816x1024 : Shape := ⟨2, ![2816, 1024]⟩
abbrev S8256x2816 : Shape := ⟨2, ![8256, 2816]⟩
abbrev S8x1024 : Shape := ⟨2, ![8, 1024]⟩
abbrev S688x1024 : Shape := ⟨2, ![688, 1024]⟩
abbrev S688x2816 : Shape := ⟨2, ![688, 2816]⟩
abbrev S688x1 : Shape := ⟨2, ![688, 1]⟩
abbrev S688 : Shape := ⟨1, ![688]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S8256x1024, .f32⟩
  | .hbm, ⟨1, _⟩ => ⟨S8256x1024, .f32⟩
  | .hbm, ⟨2, _⟩ => ⟨S1x1024, .f32⟩
  | .hbm, ⟨3, _⟩ => ⟨S2816x1024, .bf16⟩
  | .hbm, ⟨4, _⟩ => ⟨S8256x2816, .bf16⟩
  | .hbm, ⟨5, _⟩ => ⟨S8256x1024, .bf16⟩
  | .hbm, ⟨6, _⟩ => ⟨S8x1024, .f32⟩
  | .local _ .vmem, ⟨0, _⟩ => ⟨S688x1024, .f32⟩
  | .local _ .vmem, ⟨1, _⟩ => ⟨S688x1024, .f32⟩
  | .local _ .vmem, ⟨2, _⟩ => ⟨S688x1024, .f32⟩
  | .local _ .vmem, ⟨3, _⟩ => ⟨S688x1024, .f32⟩
  | .local _ .vmem, ⟨4, _⟩ => ⟨S1x1024, .f32⟩
  | .local _ .vmem, ⟨5, _⟩ => ⟨S2816x1024, .bf16⟩
  | .local _ .vmem, ⟨6, _⟩ => ⟨S688x2816, .bf16⟩
  | .local _ .vmem, ⟨7, _⟩ => ⟨S688x2816, .bf16⟩
  | .local _ .vmem, ⟨8, _⟩ => ⟨S688x1024, .bf16⟩
  | .local _ .vmem, ⟨9, _⟩ => ⟨S688x1024, .bf16⟩
  | .local _ .vmem, ⟨10, _⟩ => ⟨S8x1024, .f32⟩
  | _, _ => ⟨S8256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S688x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S688x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S688x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S688x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== DownDxRIdeal.lean ====
abbrev S8256x1024 : Shape := ⟨2, ![8256, 1024]⟩
abbrev S1x1024 : Shape := ⟨2, ![1, 1024]⟩
abbrev S2816x1024 : Shape := ⟨2, ![2816, 1024]⟩
abbrev S_ : Shape := ⟨0, ![]⟩
abbrev S8256x2816 : Shape := ⟨2, ![8256, 2816]⟩
abbrev S8256 : Shape := ⟨1, ![8256]⟩
abbrev S8256x1 : Shape := ⟨2, ![8256, 1]⟩
abbrev S8208x1024 : Shape := ⟨2, ![8208, 1024]⟩
abbrev S1024 : Shape := ⟨1, ![1024]⟩
abbrev S7x1024 : Shape := ⟨2, ![7, 1024]⟩
abbrev S8x1024 : Shape := ⟨2, ![8, 1024]⟩

abbrev nBuf : Space → Nat
  | .hbm => 61
  | .vmem => 0
  | .smem => 0
  | _ => 0

abbrev bufTy : (tb : Table) → Fin (tcTables nBuf tb) → BufTy
  | .hbm, ⟨0, _⟩ => ⟨S8256x1024, .f32⟩
  | .hbm, ⟨1, _⟩ => ⟨S8256x1024, .f32⟩
  | .hbm, ⟨2, _⟩ => ⟨S1x1024, .f32⟩
  | .hbm, ⟨3, _⟩ => ⟨S2816x1024, .bf16⟩
  | .hbm, ⟨4, _⟩ => ⟨S_, .bf16⟩
  | .hbm, ⟨5, _⟩ => ⟨S8256x2816, .bf16⟩
  | .hbm, ⟨6, _⟩ => ⟨S8256x1024, .f32⟩
  | .hbm, ⟨7, _⟩ => ⟨S_, .f32⟩
  | .hbm, ⟨8, _⟩ => ⟨S8256, .f32⟩
  | .hbm, ⟨9, _⟩ => ⟨S8256x1, .f32⟩
  | .hbm, ⟨10, _⟩ => ⟨S_, .f32⟩
  | .hbm, ⟨11, _⟩ => ⟨S8256x1, .f32⟩
  | .hbm, ⟨12, _⟩ => ⟨S8256x1, .f32⟩
  | .hbm, ⟨13, _⟩ => ⟨S_, .f32⟩
  | .hbm, ⟨14, _⟩ => ⟨S8256x1, .f32⟩
  | .hbm, ⟨15, _⟩ => ⟨S8256x1, .f32⟩
  | .hbm, ⟨16, _⟩ => ⟨S8256x1, .f32⟩
  | .hbm, ⟨17, _⟩ => ⟨S8256x1, .f32⟩
  | .hbm, ⟨18, _⟩ => ⟨S_, .f32⟩
  | .hbm, ⟨19, _⟩ => ⟨S8256x1, .f32⟩
  | .hbm, ⟨20, _⟩ => ⟨S8256x1, .f32⟩
  | .hbm, ⟨21, _⟩ => ⟨S8256x1024, .f32⟩
  | .hbm, ⟨22, _⟩ => ⟨S8256x1024, .f32⟩
  | .hbm, ⟨23, _⟩ => ⟨S8256x1024, .f32⟩
  | .hbm, ⟨24, _⟩ => ⟨S8256x1024, .f32⟩
  | .hbm, ⟨25, _⟩ => ⟨S8208x1024, .f32⟩
  | .hbm, ⟨26, _⟩ => ⟨S8208x1024, .f32⟩
  | .hbm, ⟨27, _⟩ => ⟨S_, .f32⟩
  | .hbm, ⟨28, _⟩ => ⟨S8256x1024, .f32⟩
  | .hbm, ⟨29, _⟩ => ⟨S8256x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S8256x1024, .f32⟩
  | .hbm, ⟨34, _⟩ => ⟨S8256x1024, .f32⟩
  | .hbm, ⟨35, _⟩ => ⟨S8256x1024, .f32⟩
  | .hbm, ⟨36, _⟩ => ⟨S_, .f32⟩
  | .hbm, ⟨37, _⟩ => ⟨S8256, .f32⟩
  | .hbm, ⟨38, _⟩ => ⟨S8256x1, .f32⟩
  | .hbm, ⟨39, _⟩ => ⟨S8256x1024, .f32⟩
  | .hbm, ⟨40, _⟩ => ⟨S8256x1024, .f32⟩
  | .hbm, ⟨41, _⟩ => ⟨S8256x1, .f32⟩
  | .hbm, ⟨42, _⟩ => ⟨S_, .f32⟩
  | .hbm, ⟨43, _⟩ => ⟨S8256x1, .f32⟩
  | .hbm, ⟨44, _⟩ => ⟨S8256x1, .f32⟩
  | .hbm, ⟨45, _⟩ => ⟨S_, .f32⟩
  | .hbm, ⟨46, _⟩ => ⟨S8256, .f32⟩
  | .hbm, ⟨47, _⟩ => ⟨S8256x1024, .f32⟩
  | .hbm, ⟨48, _⟩ => ⟨S8256x1024, .f32⟩
  | .hbm, ⟨49, _⟩ => ⟨S8256x1024, .f32⟩
  | .hbm, ⟨50, _⟩ => ⟨S8256x1024, .f32⟩
  | .hbm, ⟨51, _⟩ => ⟨S8256x1024, .f32⟩
  | .hbm, ⟨52, _⟩ => ⟨S8256x2816, .f32⟩
  | .hbm, ⟨53, _⟩ => ⟨S2816x1024, .f32⟩
  | .hbm, ⟨54, _⟩ => ⟨S8256x1024, .f32⟩
  | .hbm, ⟨55, _⟩ => ⟨S8256x2816, .f32⟩
  | .hbm, ⟨56, _⟩ => ⟨S8256x2816, .bf16⟩
  | .hbm, ⟨57, _⟩ => ⟨S8256x1024, .bf16⟩
  | .hbm, ⟨58, _⟩ => ⟨S_, .f32⟩
  | .hbm, ⟨59, _⟩ => ⟨S7x1024, .f32⟩
  | .hbm, ⟨60, _⟩ => ⟨S8x1024, .f32⟩
  | _, _ => ⟨S8256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_cst_8 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_9 : Ref sig .tc := ⟨.hbm, 58, rfl⟩
abbrev main_v44 : Ref sig .tc := ⟨.hbm, 59, rfl⟩
abbrev main_v45 : Ref sig .tc := ⟨.hbm, 60, rfl⟩

abbrev nD : Nat := 1
abbrev τ : Topo := Topo.v7x

variable {F : FTy → Type} [FloatOps F]
-- ==== OutDx.lean ====
abbrev S8256x1024 : Shape := ⟨2, ![8256, 1024]⟩
abbrev S1x1024 : Shape := ⟨2, ![1, 1024]⟩
abbrev S1024x1024 : Shape := ⟨2, ![1024, 1024]⟩
abbrev S8x1024 : Shape := ⟨2, ![8, 1024]⟩
abbrev S688x1024 : Shape := ⟨2, ![688, 1024]⟩
abbrev S688x1 : Shape := ⟨2, ![688, 1]⟩
abbrev S688 : Shape := ⟨1, ![688]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S8256x1024, .f32⟩
  | .hbm, ⟨1, _⟩ => ⟨S8256x1024, .f32⟩
  | .hbm, ⟨2, _⟩ => ⟨S1x1024, .f32⟩
  | .hbm, ⟨3, _⟩ => ⟨S1024x1024, .bf16⟩
  | .hbm, ⟨4, _⟩ => ⟨S8256x1024, .f32⟩
  | .hbm, ⟨5, _⟩ => ⟨S8256x1024, .bf16⟩
  | .hbm, ⟨6, _⟩ => ⟨S8x1024, .f32⟩
  | .local _ .vmem, ⟨0, _⟩ => ⟨S688x1024, .f32⟩
  | .local _ .vmem, ⟨1, _⟩ => ⟨S688x1024, .f32⟩
  | .local _ .vmem, ⟨2, _⟩ => ⟨S688x1024, .f32⟩
  | .local _ .vmem, ⟨3, _⟩ => ⟨S688x1024, .f32⟩
  | .local _ .vmem, ⟨4, _⟩ => ⟨S1x1024, .f32⟩
  | .local _ .vmem, ⟨5, _⟩ => ⟨S1024x1024, .bf16⟩
  | .local _ .vmem, ⟨6, _⟩ => ⟨S688x1024, .f32⟩
  | .local _ .vmem, ⟨7, _⟩ => ⟨S688x1024, .f32⟩
  | .local _ .vmem, ⟨8, _⟩ => ⟨S688x1024, .bf16⟩
  | .local _ .vmem, ⟨9, _⟩ => ⟨S688x1024, .bf16⟩
  | .local _ .vmem, ⟨10, _⟩ => ⟨S8x1024, .f32⟩
  | _, _ => ⟨S8256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S688x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S688x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S688x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S688x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== OutDxRIdeal.lean ====
abbrev S8256x1024 : Shape := ⟨2, ![8256, 1024]⟩
abbrev S1x1024 : Shape := ⟨2, ![1, 1024]⟩
abbrev S1024x1024 : Shape := ⟨2, ![1024, 1024]⟩
abbrev S_ : Shape := ⟨0, ![]⟩
abbrev S8256 : Shape := ⟨1, ![8256]⟩
abbrev S8256x1 : Shape := ⟨2, ![8256, 1]⟩
abbrev S8208x1024 : Shape := ⟨2, ![8208, 1024]⟩
abbrev S1024 : Shape := ⟨1, ![1024]⟩
abbrev S7x1024 : Shape := ⟨2, ![7, 1024]⟩
abbrev S8x1024 : Shape := ⟨2, ![8, 1024]⟩

abbrev nBuf : Space → Nat
  | .hbm => 59
  | .vmem => 0
  | .smem => 0
  | _ => 0

abbrev bufTy : (tb : Table) → Fin (tcTables nBuf tb) → BufTy
  | .hbm, ⟨0, _⟩ => ⟨S8256x1024, .f32⟩
  | .hbm, ⟨1, _⟩ => ⟨S8256x1024, .f32⟩
  | .hbm, ⟨2, _⟩ => ⟨S1x1024, .f32⟩
  | .hbm, ⟨3, _⟩ => ⟨S1024x1024, .bf16⟩
  | .hbm, ⟨4, _⟩ => ⟨S_, .f32⟩
  | .hbm, ⟨5, _⟩ => ⟨S8256x1024, .f32⟩
  | .hbm, ⟨6, _⟩ => ⟨S8256x1024, .f32⟩
  | .hbm, ⟨7, _⟩ => ⟨S_, .f32⟩
  | .hbm, ⟨8, _⟩ => ⟨S8256, .f32⟩
  | .hbm, ⟨9, _⟩ => ⟨S8256x1, .f32⟩
  | .hbm, ⟨10, _⟩ => ⟨S_, .f32⟩
  | .hbm, ⟨11, _⟩ => ⟨S8256x1, .f32⟩
  | .hbm, ⟨12, _⟩ => ⟨S8256x1, .f32⟩
  | .hbm, ⟨13, _⟩ => ⟨S_, .f32⟩
  | .hbm, ⟨14, _⟩ => ⟨S8256x1, .f32⟩
  | .hbm, ⟨15, _⟩ => ⟨S8256x1, .f32⟩
  | .hbm, ⟨16, _⟩ => ⟨S8256x1, .f32⟩
  | .hbm, ⟨17, _⟩ => ⟨S8256x1, .f32⟩
  | .hbm, ⟨18, _⟩ => ⟨S_, .f32⟩
  | .hbm, ⟨19, _⟩ => ⟨S8256x1, .f32⟩
  | .hbm, ⟨20, _⟩ => ⟨S8256x1, .f32⟩
  | .hbm, ⟨21, _⟩ => ⟨S8256x1024, .f32⟩
  | .hbm, ⟨22, _⟩ => ⟨S8256x1024, .f32⟩
  | .hbm, ⟨23, _⟩ => ⟨S8256x1024, .f32⟩
  | .hbm, ⟨24, _⟩ => ⟨S8256x1024, .f32⟩
  | .hbm, ⟨25, _⟩ => ⟨S8208x1024, .f32⟩
  | .hbm, ⟨26, _⟩ => ⟨S8208x1024, .f32⟩
  | .hbm, ⟨27, _⟩ => ⟨S_, .f32⟩
  | .hbm, ⟨28, _⟩ => ⟨S8256x1024, .f32⟩
  | .hbm, ⟨29, _⟩ => ⟨S8256x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S8256x1024, .f32⟩
  | .hbm, ⟨34, _⟩ => ⟨S8256x1024, .f32⟩
  | .hbm, ⟨35, _⟩ => ⟨S8256x1024, .f32⟩
  | .hbm, ⟨36, _⟩ => ⟨S_, .f32⟩
  | .hbm, ⟨37, _⟩ => ⟨S8256, .f32⟩
  | .hbm, ⟨38, _⟩ => ⟨S8256x1, .f32⟩
  | .hbm, ⟨39, _⟩ => ⟨S8256x1024, .f32⟩
  | .hbm, ⟨40, _⟩ => ⟨S8256x1024, .f32⟩
  | .hbm, ⟨41, _⟩ => ⟨S8256x1, .f32⟩
  | .hbm, ⟨42, _⟩ => ⟨S_, .f32⟩
  | .hbm, ⟨43, _⟩ => ⟨S8256x1, .f32⟩
  | .hbm, ⟨44, _⟩ => ⟨S8256x1, .f32⟩
  | .hbm, ⟨45, _⟩ => ⟨S_, .f32⟩
  | .hbm, ⟨46, _⟩ => ⟨S8256, .f32⟩
  | .hbm, ⟨47, _⟩ => ⟨S8256x1024, .f32⟩
  | .hbm, ⟨48, _⟩ => ⟨S8256x1024, .f32⟩
  | .hbm, ⟨49, _⟩ => ⟨S8256x1024, .f32⟩
  | .hbm, ⟨50, _⟩ => ⟨S8256x1024, .f32⟩
  | .hbm, ⟨51, _⟩ => ⟨S8256x1024, .f32⟩
  | .hbm, ⟨52, _⟩ => ⟨S1024x1024, .f32⟩
  | .hbm, ⟨53, _⟩ => ⟨S8256x1024, .f32⟩
  | .hbm, ⟨54, _⟩ => ⟨S8256x1024, .f32⟩
  | .hbm, ⟨55, _⟩ => ⟨S8256x1024, .bf16⟩
  | .hbm, ⟨56, _⟩ => ⟨S_, .f32⟩
  | .hbm, ⟨57, _⟩ => ⟨S7x1024, .f32⟩
  | .hbm, ⟨58, _⟩ => ⟨S8x1024, .f32⟩
  | _, _ => ⟨S8256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_cst_8 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_9 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]
-- ==== UpDx.lean ====
abbrev S8256x5632 : Shape := ⟨2, ![8256, 5632]⟩
abbrev S1024x5632 : Shape := ⟨2, ![1024, 5632]⟩
abbrev S8256x1024 : Shape := ⟨2, ![8256, 1024]⟩
abbrev S1x1024 : Shape := ⟨2, ![1, 1024]⟩
abbrev S8x1024 : Shape := ⟨2, ![8, 1024]⟩
abbrev S688x2816 : Shape := ⟨2, ![688, 2816]⟩
abbrev S1024x2816 : Shape := ⟨2, ![1024, 2816]⟩
abbrev S688x1024 : Shape := ⟨2, ![688, 1024]⟩
abbrev S688 : Shape := ⟨1, ![688]⟩
abbrev S688x1 : Shape := ⟨2, ![688, 1]⟩
abbrev S1024 : Shape := ⟨1, ![1024]⟩

abbrev nBuf : Space → Nat
  | .hbm => 7
  | .vmem => 13
  | .smem => 0
  | _ => 0

abbrev bufTy : (tb : Table) → Fin (tcTables nBuf tb) → BufTy
  | .hbm, ⟨0, _⟩ => ⟨S8256x5632, .bf16⟩
  | .hbm, ⟨1, _⟩ => ⟨S1024x5632, .bf16⟩
  | .hbm, ⟨2, _⟩ => ⟨S8256x1024, .f32⟩
  | .hbm, ⟨3, _⟩ => ⟨S1x1024, .f32⟩
  | .hbm, ⟨4, _⟩ => ⟨S8256x1024, .f32⟩
  | .hbm, ⟨5, _⟩ => ⟨S8256x1024, .f32⟩
  | .hbm, ⟨6, _⟩ => ⟨S8x1024, .f32⟩
  | .local _ .vmem, ⟨0, _⟩ => ⟨S688x2816, .bf16⟩
  | .local _ .vmem, ⟨1, _⟩ => ⟨S688x2816, .bf16⟩
  | .local _ .vmem, ⟨2, _⟩ => ⟨S1024x2816, .bf16⟩
  | .local _ .vmem, ⟨3, _⟩ => ⟨S1024x2816, .bf16⟩
  | .local _ .vmem, ⟨4, _⟩ => ⟨S688x1024, .f32⟩
  | .local _ .vmem, ⟨5, _⟩ => ⟨S688x1024, .f32⟩
  | .local _ .vmem, ⟨6, _⟩ => ⟨S1x1024, .f32⟩
  | .local _ .vmem, ⟨7, _⟩ => ⟨S688x1024, .f32⟩
  | .local _ .vmem, ⟨8, _⟩ => ⟨S688x1024, .f32⟩
  | .local _ .vmem, ⟨9, _⟩ => ⟨S688x1024, .f32⟩
  | .local _ .vmem, ⟨10, _⟩ => ⟨S688x1024, .f32⟩
  | .local _ .vmem, ⟨11, _⟩ => ⟨S8x1024, .f32⟩
  | .local _ .vmem, ⟨12, _⟩ => ⟨S688x1024, .f32⟩
  | _, _ => ⟨S8256x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![12, 2], ![false, false]⟩

def k0_cond4 (i : grid0.Coords) : BitVec 1 :=
  let arg1 : BitVec 32 := BitVec.ofNat 32 (i 1).val
  let c1_i32_9 : BitVec 32 := 1#32
  let v16 : BitVec 1 := Scalar.cmpi .eq arg1 c1_i32_9
  let v17 : BitVec 32 := Scalar.extui v16
  let c0_i32_10 : BitVec 32 := 0#32
  let v18 : BitVec 1 := Scalar.cmpi .ne v17 c0_i32_10
  v18

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S688x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S688x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S688x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S688x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== UpDxRIdeal.lean ====
abbrev S8256x5632 : Shape := ⟨2, ![8256, 5632]⟩
abbrev S1024x5632 : Shape := ⟨2, ![1024, 5632]⟩
abbrev S8256x1024 : Shape := ⟨2, ![8256, 1024]⟩
abbrev S1x1024 : Shape := ⟨2, ![1, 1024]⟩
abbrev S_ : Shape := ⟨0, ![]⟩
abbrev S8256 : Shape := ⟨1, ![8256]⟩
abbrev S8256x1 : Shape := ⟨2, ![8256, 1]⟩
abbrev S1024 : Shape := ⟨1, ![1024]⟩
abbrev S7x1024 : Shape := ⟨2, ![7, 1024]⟩
abbrev S8x1024 : Shape := ⟨2, ![8, 1024]⟩

abbrev nBuf : Space → Nat
  | .hbm => 55
  | .vmem => 0
  | .smem => 0
  | _ => 0

abbrev bufTy : (tb : Table) → Fin (tcTables nBuf tb) → BufTy
  | .hbm, ⟨0, _⟩ => ⟨S8256x5632, .bf16⟩
  | .hbm, ⟨1, _⟩ => ⟨S1024x5632, .bf16⟩
  | .hbm, ⟨2, _⟩ => ⟨S8256x1024, .f32⟩
  | .hbm, ⟨3, _⟩ => ⟨S1x1024, .f32⟩
  | .hbm, ⟨4, _⟩ => ⟨S8256x1024, .f32⟩
  | .hbm, ⟨5, _⟩ => ⟨S8256x1024, .f32⟩
  | .hbm, ⟨6, _⟩ => ⟨S_, .f32⟩
  | .hbm, ⟨7, _⟩ => ⟨S8256, .f32⟩
  | .hbm, ⟨8, _⟩ => ⟨S8256x1, .f32⟩
  | .hbm, ⟨9, _⟩ => ⟨S_, .f32⟩
  | .hbm, ⟨10, _⟩ => ⟨S8256x1, .f32⟩
  | .hbm, ⟨11, _⟩ => ⟨S8256x1, .f32⟩
  | .hbm, ⟨12, _⟩ => ⟨S_, .f32⟩
  | .hbm, ⟨13, _⟩ => ⟨S8256x1, .f32⟩
  | .hbm, ⟨14, _⟩ => ⟨S8256x1, .f32⟩
  | .hbm, ⟨15, _⟩ => ⟨S8256x1, .f32⟩
  | .hbm, ⟨16, _⟩ => ⟨S8256x1, .f32⟩
  | .hbm, ⟨17, _⟩ => ⟨S_, .f32⟩
  | .hbm, ⟨18, _⟩ => ⟨S8256x1, .f32⟩
  | .hbm, ⟨19, _⟩ => ⟨S8256x1, .f32⟩
  | .hbm, ⟨20, _⟩ => ⟨S8256x1024, .f32⟩
  | .hbm, ⟨21, _⟩ => ⟨S8256x1024, .f32⟩
  | .hbm, ⟨22, _⟩ => ⟨S8256x1024, .f32⟩
  | .hbm, ⟨23, _⟩ => ⟨S8256x1024, .f32⟩
  | .hbm, ⟨24, _⟩ => ⟨S1024x5632, .f32⟩
  | .hbm, ⟨25, _⟩ => ⟨S8256x5632, .f32⟩
  | .hbm, ⟨26, _⟩ => ⟨S8256x5632, .f32⟩
  | .hbm, ⟨27, _⟩ => ⟨S8256x1024, .f32⟩
  | .hbm, ⟨28, _⟩ => ⟨S8256x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S8256x1024, .f32⟩
  | .hbm, ⟨33, _⟩ => ⟨S8256x1024, .f32⟩
  | .hbm, ⟨34, _⟩ => ⟨S8256x1024, .f32⟩
  | .hbm, ⟨35, _⟩ => ⟨S_, .f32⟩
  | .hbm, ⟨36, _⟩ => ⟨S8256, .f32⟩
  | .hbm, ⟨37, _⟩ => ⟨S8256x1, .f32⟩
  | .hbm, ⟨38, _⟩ => ⟨S8256x1024, .f32⟩
  | .hbm, ⟨39, _⟩ => ⟨S8256x1024, .f32⟩
  | .hbm, ⟨40, _⟩ => ⟨S8256x1024, .f32⟩
  | .hbm, ⟨41, _⟩ => ⟨S8256x1, .f32⟩
  | .hbm, ⟨42, _⟩ => ⟨S_, .f32⟩
  | .hbm, ⟨43, _⟩ => ⟨S8256x1, .f32⟩
  | .hbm, ⟨44, _⟩ => ⟨S8256x1, .f32⟩
  | .hbm, ⟨45, _⟩ => ⟨S_, .f32⟩
  | .hbm, ⟨46, _⟩ => ⟨S8256, .f32⟩
  | .hbm, ⟨47, _⟩ => ⟨S8256x1024, .f32⟩
  | .hbm, ⟨48, _⟩ => ⟨S8256x1024, .f32⟩
  | .hbm, ⟨49, _⟩ => ⟨S8256x1024, .f32⟩
  | .hbm, ⟨50, _⟩ => ⟨S8256x1024, .f32⟩
  | .hbm, ⟨51, _⟩ => ⟨S8256x1024, .f32⟩
  | .hbm, ⟨52, _⟩ => ⟨S_, .f32⟩
  | .hbm, ⟨53, _⟩ => ⟨S7x1024, .f32⟩
  | .hbm, ⟨54, _⟩ => ⟨S8x1024, .f32⟩
  | _, _ => ⟨S8256x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_7 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== InDx.lean ====
abbrev S8256x3840 : Shape := ⟨2, ![8256, 3840]⟩
abbrev S1024x3840 : Shape := ⟨2, ![1024, 3840]⟩
abbrev S8256x1024 : Shape := ⟨2, ![8256, 1024]⟩
abbrev S1x1024 : Shape := ⟨2, ![1, 1024]⟩
abbrev S8x1024 : Shape := ⟨2, ![8, 1024]⟩
abbrev S688x3840 : Shape := ⟨2, ![688, 3840]⟩
abbrev S688x1024 : Shape := ⟨2, ![688, 1024]⟩
abbrev S688 : Shape := ⟨1, ![688]⟩
abbrev S688x1 : Shape := ⟨2, ![688, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S8256x3840, .bf16⟩
  | .hbm, ⟨1, _⟩ => ⟨S1024x3840, .bf16⟩
  | .hbm, ⟨2, _⟩ => ⟨S8256x1024, .f32⟩
  | .hbm, ⟨3, _⟩ => ⟨S1x1024, .f32⟩
  | .hbm, ⟨4, _⟩ => ⟨S8256x1024, .f32⟩
  | .hbm, ⟨5, _⟩ => ⟨S8256x1024, .f32⟩
  | .hbm, ⟨6, _⟩ => ⟨S8x1024, .f32⟩
  | .local _ .vmem, ⟨0, _⟩ => ⟨S688x3840, .bf16⟩
  | .local _ .vmem, ⟨1, _⟩ => ⟨S688x3840, .bf16⟩
  | .local _ .vmem, ⟨2, _⟩ => ⟨S1024x3840, .bf16⟩
  | .local _ .vmem, ⟨3, _⟩ => ⟨S688x1024, .f32⟩
  | .local _ .vmem, ⟨4, _⟩ => ⟨S688x1024, .f32⟩
  | .local _ .vmem, ⟨5, _⟩ => ⟨S1x1024, .f32⟩
  | .local _ .vmem, ⟨6, _⟩ => ⟨S688x1024, .f32⟩
  | .local _ .vmem, ⟨7, _⟩ => ⟨S688x1024, .f32⟩
  | .local _ .vmem, ⟨8, _⟩ => ⟨S688x1024, .f32⟩
  | .local _ .vmem, ⟨9, _⟩ => ⟨S688x1024, .f32⟩
  | .local _ .vmem, ⟨10, _⟩ => ⟨S8x1024, .f32⟩
  | _, _ => ⟨S8256x3840, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨2, ![12, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S688x3840 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x3840 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S688x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S688x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S688x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== InDxRIdeal.lean ====
abbrev S8256x3840 : Shape := ⟨2, ![8256, 3840]⟩
abbrev S1024x3840 : Shape := ⟨2, ![1024, 3840]⟩
abbrev S8256x1024 : Shape := ⟨2, ![8256, 1024]⟩
abbrev S1x1024 : Shape := ⟨2, ![1, 1024]⟩
abbrev S_ : Shape := ⟨0, ![]⟩
abbrev S8256 : Shape := ⟨1, ![8256]⟩
abbrev S8256x1 : Shape := ⟨2, ![8256, 1]⟩
abbrev S1024 : Shape := ⟨1, ![1024]⟩
abbrev S7x1024 : Shape := ⟨2, ![7, 1024]⟩
abbrev S8x1024 : Shape := ⟨2, ![8, 1024]⟩

abbrev nBuf : Space → Nat
  | .hbm => 55
  | .vmem => 0
  | .smem => 0
  | _ => 0

abbrev bufTy : (tb : Table) → Fin (tcTables nBuf tb) → BufTy
  | .hbm, ⟨0, _⟩ => ⟨S8256x3840, .bf16⟩
  | .hbm, ⟨1, _⟩ => ⟨S1024x3840, .bf16⟩
  | .hbm, ⟨2, _⟩ => ⟨S8256x1024, .f32⟩
  | .hbm, ⟨3, _⟩ => ⟨S1x1024, .f32⟩
  | .hbm, ⟨4, _⟩ => ⟨S8256x1024, .f32⟩
  | .hbm, ⟨5, _⟩ => ⟨S8256x1024, .f32⟩
  | .hbm, ⟨6, _⟩ => ⟨S_, .f32⟩
  | .hbm, ⟨7, _⟩ => ⟨S8256, .f32⟩
  | .hbm, ⟨8, _⟩ => ⟨S8256x1, .f32⟩
  | .hbm, ⟨9, _⟩ => ⟨S_, .f32⟩
  | .hbm, ⟨10, _⟩ => ⟨S8256x1, .f32⟩
  | .hbm, ⟨11, _⟩ => ⟨S8256x1, .f32⟩
  | .hbm, ⟨12, _⟩ => ⟨S_, .f32⟩
  | .hbm, ⟨13, _⟩ => ⟨S8256x1, .f32⟩
  | .hbm, ⟨14, _⟩ => ⟨S8256x1, .f32⟩
  | .hbm, ⟨15, _⟩ => ⟨S8256x1, .f32⟩
  | .hbm, ⟨16, _⟩ => ⟨S8256x1, .f32⟩
  | .hbm, ⟨17, _⟩ => ⟨S_, .f32⟩
  | .hbm, ⟨18, _⟩ => ⟨S8256x1, .f32⟩
  | .hbm, ⟨19, _⟩ => ⟨S8256x1, .f32⟩
  | .hbm, ⟨20, _⟩ => ⟨S8256x1024, .f32⟩
  | .hbm, ⟨21, _⟩ => ⟨S8256x1024, .f32⟩
  | .hbm, ⟨22, _⟩ => ⟨S8256x1024, .f32⟩
  | .hbm, ⟨23, _⟩ => ⟨S8256x1024, .f32⟩
  | .hbm, ⟨24, _⟩ => ⟨S1024x3840, .f32⟩
  | .hbm, ⟨25, _⟩ => ⟨S8256x3840, .f32⟩
  | .hbm, ⟨26, _⟩ => ⟨S8256x3840, .f32⟩
  | .hbm, ⟨27, _⟩ => ⟨S8256x1024, .f32⟩
  | .hbm, ⟨28, _⟩ => ⟨S8256x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S8256x1024, .f32⟩
  | .hbm, ⟨33, _⟩ => ⟨S8256x1024, .f32⟩
  | .hbm, ⟨34, _⟩ => ⟨S8256x1024, .f32⟩
  | .hbm, ⟨35, _⟩ => ⟨S_, .f32⟩
  | .hbm, ⟨36, _⟩ => ⟨S8256, .f32⟩
  | .hbm, ⟨37, _⟩ => ⟨S8256x1, .f32⟩
  | .hbm, ⟨38, _⟩ => ⟨S8256x1024, .f32⟩
  | .hbm, ⟨39, _⟩ => ⟨S8256x1024, .f32⟩
  | .hbm, ⟨40, _⟩ => ⟨S8256x1024, .f32⟩
  | .hbm, ⟨41, _⟩ => ⟨S8256x1, .f32⟩
  | .hbm, ⟨42, _⟩ => ⟨S_, .f32⟩
  | .hbm, ⟨43, _⟩ => ⟨S8256x1, .f32⟩
  | .hbm, ⟨44, _⟩ => ⟨S8256x1, .f32⟩
  | .hbm, ⟨45, _⟩ => ⟨S_, .f32⟩
  | .hbm, ⟨46, _⟩ => ⟨S8256, .f32⟩
  | .hbm, ⟨47, _⟩ => ⟨S8256x1024, .f32⟩
  | .hbm, ⟨48, _⟩ => ⟨S8256x1024, .f32⟩
  | .hbm, ⟨49, _⟩ => ⟨S8256x1024, .f32⟩
  | .hbm, ⟨50, _⟩ => ⟨S8256x1024, .f32⟩
  | .hbm, ⟨51, _⟩ => ⟨S8256x1024, .f32⟩
  | .hbm, ⟨52, _⟩ => ⟨S_, .f32⟩
  | .hbm, ⟨53, _⟩ => ⟨S7x1024, .f32⟩
  | .hbm, ⟨54, _⟩ => ⟨S8x1024, .f32⟩
  | _, _ => ⟨S8256x3840, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_7 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== DownDw.lean ====
abbrev S8256x2816 : Shape := ⟨2, ![8256, 2816]⟩
abbrev S8256x1024 : Shape := ⟨2, ![8256, 1024]⟩
abbrev S2816x1024 : Shape := ⟨2, ![2816, 1024]⟩
abbrev S2752x1408 : Shape := ⟨2, ![2752, 1408]⟩
abbrev S2752x1024 : Shape := ⟨2, ![2752, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8256x2816, .bf16⟩
  | .hbm, ⟨1, _⟩ => ⟨S8256x1024, .bf16⟩
  | .hbm, ⟨2, _⟩ => ⟨S2816x1024, .bf16⟩
  | .local _ .vmem, ⟨0, _⟩ => ⟨S2752x1408, .bf16⟩
  | .local _ .vmem, ⟨1, _⟩ => ⟨S2752x1408, .bf16⟩
  | .local _ .vmem, ⟨2, _⟩ => ⟨S2752x1024, .bf16⟩
  | .local _ .vmem, ⟨3, _⟩ => ⟨S2752x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8256x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2752x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2752x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRIdeal.lean ====
abbrev S8256x2816 : Shape := ⟨2, ![8256, 2816]⟩
abbrev S8256x1024 : Shape := ⟨2, ![8256, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 11
  | .vmem => 0
  | .smem => 0
  | _ => 0

abbrev bufTy : (tb : Table) → Fin (tcTables nBuf tb) → BufTy
  | .hbm, ⟨0, _⟩ => ⟨S8256x2816, .bf16⟩
  | .hbm, ⟨1, _⟩ => ⟨S8256x1024, .bf16⟩
  | .hbm, ⟨2, _⟩ => ⟨S_, .bf16⟩
  | .hbm, ⟨3, _⟩ => ⟨S2816x1024, .bf16⟩
  | .hbm, ⟨4, _⟩ => ⟨S8256x2816, .f32⟩
  | .hbm, ⟨5, _⟩ => ⟨S2816x1024, .f32⟩
  | .hbm, ⟨6, _⟩ => ⟨S8256x1024, .f32⟩
  | .hbm, ⟨7, _⟩ => ⟨S8256x1024, .f32⟩
  | .hbm, ⟨8, _⟩ => ⟨S1024x2816, .f32⟩
  | .hbm, ⟨9, _⟩ => ⟨S2816x1024, .f32⟩
  | .hbm, ⟨10, _⟩ => ⟨S2816x1024, .bf16⟩
  | _, _ => ⟨S8256x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== UpDw.lean ====
abbrev S8256x1024 : Shape := ⟨2, ![8256, 1024]⟩
abbrev S8256x5632 : Shape := ⟨2, ![8256, 5632]⟩
abbrev S1024x5632 : Shape := ⟨2, ![1024, 5632]⟩
abbrev S2752x1024 : Shape := ⟨2, ![2752, 1024]⟩
abbrev S2752x1408 : Shape := ⟨2, ![2752, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8256x1024, .bf16⟩
  | .hbm, ⟨1, _⟩ => ⟨S8256x5632, .bf16⟩
  | .hbm, ⟨2, _⟩ => ⟨S1024x5632, .bf16⟩
  | .local _ .vmem, ⟨0, _⟩ => ⟨S2752x1024, .bf16⟩
  | .local _ .vmem, ⟨1, _⟩ => ⟨S2752x1024, .bf16⟩
  | .local _ .vmem, ⟨2, _⟩ => ⟨S2752x1408, .bf16⟩
  | .local _ .vmem, ⟨3, _⟩ => ⟨S2752x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2752x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2752x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwRIdeal.lean ====
abbrev S8256x1024 : Shape := ⟨2, ![8256, 1024]⟩
abbrev S8256x5632 : Shape := ⟨2, ![8256, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8256x1024, .bf16⟩
  | .hbm, ⟨1, _⟩ => ⟨S8256x5632, .bf16⟩
  | .hbm, ⟨2, _⟩ => ⟨S_, .bf16⟩
  | .hbm, ⟨3, _⟩ => ⟨S1024x5632, .bf16⟩
  | .hbm, ⟨4, _⟩ => ⟨S8256x1024, .f32⟩
  | .hbm, ⟨5, _⟩ => ⟨S1024x5632, .f32⟩
  | .hbm, ⟨6, _⟩ => ⟨S8256x5632, .f32⟩
  | .hbm, ⟨7, _⟩ => ⟨S8256x5632, .f32⟩
  | .hbm, ⟨8, _⟩ => ⟨S5632x1024, .f32⟩
  | .hbm, ⟨9, _⟩ => ⟨S1024x5632, .f32⟩
  | .hbm, ⟨10, _⟩ => ⟨S1024x5632, .bf16⟩
  | _, _ => ⟨S8256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== OutDw.lean ====
abbrev S8256x1024 : Shape := ⟨2, ![8256, 1024]⟩
abbrev S1024x1024 : Shape := ⟨2, ![1024, 1024]⟩
abbrev S2752x1024 : Shape := ⟨2, ![2752, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8256x1024, .bf16⟩
  | .hbm, ⟨1, _⟩ => ⟨S8256x1024, .bf16⟩
  | .hbm, ⟨2, _⟩ => ⟨S1024x1024, .bf16⟩
  | .local _ .vmem, ⟨0, _⟩ => ⟨S2752x1024, .bf16⟩
  | .local _ .vmem, ⟨1, _⟩ => ⟨S2752x1024, .bf16⟩
  | .local _ .vmem, ⟨2, _⟩ => ⟨S2752x1024, .bf16⟩
  | .local _ .vmem, ⟨3, _⟩ => ⟨S2752x1024, .bf16⟩
  | .local _ .vmem, ⟨4, _⟩ => ⟨S1024x1024, .bf16⟩
  | .local _ .vmem, ⟨5, _⟩ => ⟨S1024x1024, .f32⟩
  | _, _ => ⟨S8256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2752x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2752x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutDwRIdeal.lean ====
abbrev S8256x1024 : Shape := ⟨2, ![8256, 1024]⟩
abbrev S_ : Shape := ⟨0, ![]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8256x1024, .bf16⟩
  | .hbm, ⟨1, _⟩ => ⟨S8256x1024, .bf16⟩
  | .hbm, ⟨2, _⟩ => ⟨S_, .bf16⟩
  | .hbm, ⟨3, _⟩ => ⟨S1024x1024, .bf16⟩
  | .hbm, ⟨4, _⟩ => ⟨S8256x1024, .f32⟩
  | .hbm, ⟨5, _⟩ => ⟨S1024x1024, .f32⟩
  | .hbm, ⟨6, _⟩ => ⟨S8256x1024, .f32⟩
  | .hbm, ⟨7, _⟩ => ⟨S8256x1024, .f32⟩
  | .hbm, ⟨8, _⟩ => ⟨S1024x1024, .f32⟩
  | .hbm, ⟨9, _⟩ => ⟨S1024x1024, .f32⟩
  | .hbm, ⟨10, _⟩ => ⟨S1024x1024, .bf16⟩
  | _, _ => ⟨S8256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== InDw.lean ====
abbrev S8256x1024 : Shape := ⟨2, ![8256, 1024]⟩
abbrev S8256x3840 : Shape := ⟨2, ![8256, 3840]⟩
abbrev S1024x3840 : Shape := ⟨2, ![1024, 3840]⟩
abbrev S2752x1024 : Shape := ⟨2, ![2752, 1024]⟩
abbrev S2752x1280 : Shape := ⟨2, ![2752, 1280]⟩
abbrev S1024x1280 : Shape := ⟨2, ![1024, 1280]⟩

abbrev nBuf : Space → Nat
  | .hbm => 3
  | .vmem => 7
  | .smem => 0
  | _ => 0

abbrev bufTy : (tb : Table) → Fin (tcTables nBuf tb) → BufTy
  | .hbm, ⟨0, _⟩ => ⟨S8256x1024, .bf16⟩
  | .hbm, ⟨1, _⟩ => ⟨S8256x3840, .bf16⟩
  | .hbm, ⟨2, _⟩ => ⟨S1024x3840, .bf16⟩
  | .local _ .vmem, ⟨0, _⟩ => ⟨S2752x1024, .bf16⟩
  | .local _ .vmem, ⟨1, _⟩ => ⟨S2752x1024, .bf16⟩
  | .local _ .vmem, ⟨2, _⟩ => ⟨S2752x1280, .bf16⟩
  | .local _ .vmem, ⟨3, _⟩ => ⟨S2752x1280, .bf16⟩
  | .local _ .vmem, ⟨4, _⟩ => ⟨S1024x1280, .bf16⟩
  | .local _ .vmem, ⟨5, _⟩ => ⟨S1024x1280, .bf16⟩
  | .local _ .vmem, ⟨6, _⟩ => ⟨S1024x1280, .f32⟩
  | _, _ => ⟨S8256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2752x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2752x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwRIdeal.lean ====
abbrev S8256x1024 : Shape := ⟨2, ![8256, 1024]⟩
abbrev S8256x3840 : Shape := ⟨2, ![8256, 3840]⟩
abbrev S_ : Shape := ⟨0, ![]⟩
abbrev S1024x3840 : Shape := ⟨2, ![1024, 3840]⟩
abbrev S3840x1024 : Shape := ⟨2, ![3840, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8256x1024, .bf16⟩
  | .hbm, ⟨1, _⟩ => ⟨S8256x3840, .bf16⟩
  | .hbm, ⟨2, _⟩ => ⟨S_, .bf16⟩
  | .hbm, ⟨3, _⟩ => ⟨S1024x3840, .bf16⟩
  | .hbm, ⟨4, _⟩ => ⟨S8256x1024, .f32⟩
  | .hbm, ⟨5, _⟩ => ⟨S1024x3840, .f32⟩
  | .hbm, ⟨6, _⟩ => ⟨S8256x3840, .f32⟩
  | .hbm, ⟨7, _⟩ => ⟨S8256x3840, .f32⟩
  | .hbm, ⟨8, _⟩ => ⟨S3840x1024, .f32⟩
  | .hbm, ⟨9, _⟩ => ⟨S1024x3840, .f32⟩
  | .hbm, ⟨10, _⟩ => ⟨S1024x3840, .bf16⟩
  | _, _ => ⟨S8256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== OutProj.lean ====
abbrev S8256x1024 : Shape := ⟨2, ![8256, 1024]⟩
abbrev S1024x1024 : Shape := ⟨2, ![1024, 1024]⟩
abbrev S1x1024 : Shape := ⟨2, ![1, 1024]⟩
abbrev S688x1024 : Shape := ⟨2, ![688, 1024]⟩
abbrev S688 : Shape := ⟨1, ![688]⟩
abbrev S688x1 : Shape := ⟨2, ![688, 1]⟩

abbrev nBuf : Space → Nat
  | .hbm => 6
  | .vmem => 10
  | .smem => 0
  | _ => 0

abbrev bufTy : (tb : Table) → Fin (tcTables nBuf tb) → BufTy
  | .hbm, ⟨0, _⟩ => ⟨S8256x1024, .bf16⟩
  | .hbm, ⟨1, _⟩ => ⟨S1024x1024, .bf16⟩
  | .hbm, ⟨2, _⟩ => ⟨S8256x1024, .f32⟩
  | .hbm, ⟨3, _⟩ => ⟨S1x1024, .f32⟩
  | .hbm, ⟨4, _⟩ => ⟨S8256x1024, .f32⟩
  | .hbm, ⟨5, _⟩ => ⟨S8256x1024, .f32⟩
  | .local _ .vmem, ⟨0, _⟩ => ⟨S688x1024, .bf16⟩
  | .local _ .vmem, ⟨1, _⟩ => ⟨S688x1024, .bf16⟩
  | .local _ .vmem, ⟨2, _⟩ => ⟨S1024x1024, .bf16⟩
  | .local _ .vmem, ⟨3, _⟩ => ⟨S688x1024, .f32⟩
  | .local _ .vmem, ⟨4, _⟩ => ⟨S688x1024, .f32⟩
  | .local _ .vmem, ⟨5, _⟩ => ⟨S1x1024, .f32⟩
  | .local _ .vmem, ⟨6, _⟩ => ⟨S688x1024, .f32⟩
  | .local _ .vmem, ⟨7, _⟩ => ⟨S688x1024, .f32⟩
  | .local _ .vmem, ⟨8, _⟩ => ⟨S688x1024, .f32⟩
  | .local _ .vmem, ⟨9, _⟩ => ⟨S688x1024, .f32⟩
  | _, _ => ⟨S8256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S688x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S688x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S688x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S688x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutProjRIdeal.lean ====
abbrev S8256x1024 : Shape := ⟨2, ![8256, 1024]⟩
abbrev S1024x1024 : Shape := ⟨2, ![1024, 1024]⟩
abbrev S1x1024 : Shape := ⟨2, ![1, 1024]⟩
abbrev S48x1024 : Shape := ⟨2, ![48, 1024]⟩
abbrev S8208x1024 : Shape := ⟨2, ![8208, 1024]⟩
abbrev S_ : Shape := ⟨0, ![]⟩
abbrev S8208 : Shape := ⟨1, ![8208]⟩
abbrev S8208x1 : Shape := ⟨2, ![8208, 1]⟩

abbrev nBuf : Space → Nat
  | .hbm => 27
  | .vmem => 0
  | .smem => 0
  | _ => 0

abbrev bufTy : (tb : Table) → Fin (tcTables nBuf tb) → BufTy
  | .hbm, ⟨0, _⟩ => ⟨S8256x1024, .bf16⟩
  | .hbm, ⟨1, _⟩ => ⟨S1024x1024, .bf16⟩
  | .hbm, ⟨2, _⟩ => ⟨S8256x1024, .f32⟩
  | .hbm, ⟨3, _⟩ => ⟨S1x1024, .f32⟩
  | .hbm, ⟨4, _⟩ => ⟨S8256x1024, .f32⟩
  | .hbm, ⟨5, _⟩ => ⟨S1024x1024, .f32⟩
  | .hbm, ⟨6, _⟩ => ⟨S8256x1024, .f32⟩
  | .hbm, ⟨7, _⟩ => ⟨S48x1024, .f32⟩
  | .hbm, ⟨8, _⟩ => ⟨S8208x1024, .f32⟩
  | .hbm, ⟨9, _⟩ => ⟨S8208x1024, .f32⟩
  | .hbm, ⟨10, _⟩ => ⟨S8208x1024, .f32⟩
  | .hbm, ⟨11, _⟩ => ⟨S_, .f32⟩
  | .hbm, ⟨12, _⟩ => ⟨S8208, .f32⟩
  | .hbm, ⟨13, _⟩ => ⟨S8208x1, .f32⟩
  | .hbm, ⟨14, _⟩ => ⟨S_, .f32⟩
  | .hbm, ⟨15, _⟩ => ⟨S8208x1, .f32⟩
  | .hbm, ⟨16, _⟩ => ⟨S8208x1, .f32⟩
  | .hbm, ⟨17, _⟩ => ⟨S_, .f32⟩
  | .hbm, ⟨18, _⟩ => ⟨S8208x1, .f32⟩
  | .hbm, ⟨19, _⟩ => ⟨S8208x1, .f32⟩
  | .hbm, ⟨20, _⟩ => ⟨S8208x1, .f32⟩
  | .hbm, ⟨21, _⟩ => ⟨S8208x1024, .f32⟩
  | .hbm, ⟨22, _⟩ => ⟨S8208x1024, .f32⟩
  | .hbm, ⟨23, _⟩ => ⟨S8208x1024, .f32⟩
  | .hbm, ⟨24, _⟩ => ⟨S8208x1024, .f32⟩
  | .hbm, ⟨25, _⟩ => ⟨S8208x1024, .f32⟩
  | .hbm, ⟨26, _⟩ => ⟨S8256x1024, .f32⟩
  | _, _ => ⟨S8256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== DownProj.lean ====
abbrev S8256x2816 : Shape := ⟨2, ![8256, 2816]⟩
abbrev S2816x1024 : Shape := ⟨2, ![2816, 1024]⟩
abbrev S8256x1024 : Shape := ⟨2, ![8256, 1024]⟩
abbrev S1x1024 : Shape := ⟨2, ![1, 1024]⟩
abbrev S688x2816 : Shape := ⟨2, ![688, 2816]⟩
abbrev S688x1024 : Shape := ⟨2, ![688, 1024]⟩
abbrev S688 : Shape := ⟨1, ![688]⟩
abbrev S688x1 : Shape := ⟨2, ![688, 1]⟩

abbrev nBuf : Space → Nat
  | .hbm => 6
  | .vmem => 10
  | .smem => 0
  | _ => 0

abbrev bufTy : (tb : Table) → Fin (tcTables nBuf tb) → BufTy
  | .hbm, ⟨0, _⟩ => ⟨S8256x2816, .bf16⟩
  | .hbm, ⟨1, _⟩ => ⟨S2816x1024, .bf16⟩
  | .hbm, ⟨2, _⟩ => ⟨S8256x1024, .f32⟩
  | .hbm, ⟨3, _⟩ => ⟨S1x1024, .f32⟩
  | .hbm, ⟨4, _⟩ => ⟨S8256x1024, .f32⟩
  | .hbm, ⟨5, _⟩ => ⟨S8256x1024, .f32⟩
  | .local _ .vmem, ⟨0, _⟩ => ⟨S688x2816, .bf16⟩
  | .local _ .vmem, ⟨1, _⟩ => ⟨S688x2816, .bf16⟩
  | .local _ .vmem, ⟨2, _⟩ => ⟨S2816x1024, .bf16⟩
  | .local _ .vmem, ⟨3, _⟩ => ⟨S688x1024, .f32⟩
  | .local _ .vmem, ⟨4, _⟩ => ⟨S688x1024, .f32⟩
  | .local _ .vmem, ⟨5, _⟩ => ⟨S1x1024, .f32⟩
  | .local _ .vmem, ⟨6, _⟩ => ⟨S688x1024, .f32⟩
  | .local _ .vmem, ⟨7, _⟩ => ⟨S688x1024, .f32⟩
  | .local _ .vmem, ⟨8, _⟩ => ⟨S688x1024, .f32⟩
  | .local _ .vmem, ⟨9, _⟩ => ⟨S688x1024, .f32⟩
  | _, _ => ⟨S8256x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S688x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S688x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S688x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S688x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== DownProjRIdeal.lean ====
abbrev S8256x2816 : Shape := ⟨2, ![8256, 2816]⟩
abbrev S2816x1024 : Shape := ⟨2, ![2816, 1024]⟩
abbrev S8256x1024 : Shape := ⟨2, ![8256, 1024]⟩
abbrev S1x1024 : Shape := ⟨2, ![1, 1024]⟩
abbrev S48x1024 : Shape := ⟨2, ![48, 1024]⟩
abbrev S8208x1024 : Shape := ⟨2, ![8208, 1024]⟩
abbrev S_ : Shape := ⟨0, ![]⟩
abbrev S8208 : Shape := ⟨1, ![8208]⟩
abbrev S8208x1 : Shape := ⟨2, ![8208, 1]⟩

abbrev nBuf : Space → Nat
  | .hbm => 27
  | .vmem => 0
  | .smem => 0
  | _ => 0

abbrev bufTy : (tb : Table) → Fin (tcTables nBuf tb) → BufTy
  | .hbm, ⟨0, _⟩ => ⟨S8256x2816, .bf16⟩
  | .hbm, ⟨1, _⟩ => ⟨S2816x1024, .bf16⟩
  | .hbm, ⟨2, _⟩ => ⟨S8256x1024, .f32⟩
  | .hbm, ⟨3, _⟩ => ⟨S1x1024, .f32⟩
  | .hbm, ⟨4, _⟩ => ⟨S8256x2816, .f32⟩
  | .hbm, ⟨5, _⟩ => ⟨S2816x1024, .f32⟩
  | .hbm, ⟨6, _⟩ => ⟨S8256x1024, .f32⟩
  | .hbm, ⟨7, _⟩ => ⟨S48x1024, .f32⟩
  | .hbm, ⟨8, _⟩ => ⟨S8208x1024, .f32⟩
  | .hbm, ⟨9, _⟩ => ⟨S8208x1024, .f32⟩
  | .hbm, ⟨10, _⟩ => ⟨S8208x1024, .f32⟩
  | .hbm, ⟨11, _⟩ => ⟨S_, .f32⟩
  | .hbm, ⟨12, _⟩ => ⟨S8208, .f32⟩
  | .hbm, ⟨13, _⟩ => ⟨S8208x1, .f32⟩
  | .hbm, ⟨14, _⟩ => ⟨S_, .f32⟩
  | .hbm, ⟨15, _⟩ => ⟨S8208x1, .f32⟩
  | .hbm, ⟨16, _⟩ => ⟨S8208x1, .f32⟩
  | .hbm, ⟨17, _⟩ => ⟨S_, .f32⟩
  | .hbm, ⟨18, _⟩ => ⟨S8208x1, .f32⟩
  | .hbm, ⟨19, _⟩ => ⟨S8208x1, .f32⟩
  | .hbm, ⟨20, _⟩ => ⟨S8208x1, .f32⟩
  | .hbm, ⟨21, _⟩ => ⟨S8208x1024, .f32⟩
  | .hbm, ⟨22, _⟩ => ⟨S8208x1024, .f32⟩
  | .hbm, ⟨23, _⟩ => ⟨S8208x1024, .f32⟩
  | .hbm, ⟨24, _⟩ => ⟨S8208x1024, .f32⟩
  | .hbm, ⟨25, _⟩ => ⟨S8208x1024, .f32⟩
  | .hbm, ⟨26, _⟩ => ⟨S8256x1024, .f32⟩
  | _, _ => ⟨S8256x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== DownLoss.lean ====
abbrev S8256x2816 : Shape := ⟨2, ![8256, 2816]⟩
abbrev S2816x1024 : Shape := ⟨2, ![2816, 1024]⟩
abbrev S8256x1024 : Shape := ⟨2, ![8256, 1024]⟩
abbrev S1x1024 : Shape := ⟨2, ![1, 1024]⟩
abbrev S8192x1024 : Shape := ⟨2, ![8192, 1024]⟩
abbrev S_ : Shape := ⟨0, ![]⟩
abbrev S64x1024 : Shape := ⟨2, ![64, 1024]⟩
abbrev S8x128 : Shape := ⟨2, ![8, 128]⟩
abbrev S688x2816 : Shape := ⟨2, ![688, 2816]⟩
abbrev S688x1024 : Shape := ⟨2, ![688, 1024]⟩
abbrev S688 : Shape := ⟨1, ![688]⟩
abbrev S688x1 : Shape := ⟨2, ![688, 1]⟩
abbrev S1x688x1024 : Shape := ⟨3, ![1, 688, 1024]⟩
abbrev S1 : Shape := ⟨1, ![1]⟩
abbrev S1x1x1 : Shape := ⟨3, ![1, 1, 1]⟩

abbrev nBuf : Space → Nat
  | .hbm => 11
  | .vmem => 13
  | .smem => 0
  | _ => 0

abbrev bufTy : (tb : Table) → Fin (tcTables nBuf tb) → BufTy
  | .hbm, ⟨0, _⟩ => ⟨S8256x2816, .bf16⟩
  | .hbm, ⟨1, _⟩ => ⟨S2816x1024, .bf16⟩
  | .hbm, ⟨2, _⟩ => ⟨S8256x1024, .f32⟩
  | .hbm, ⟨3, _⟩ => ⟨S1x1024, .f32⟩
  | .hbm, ⟨4, _⟩ => ⟨S8192x1024, .f32⟩
  | .hbm, ⟨5, _⟩ => ⟨S_, .f32⟩
  | .hbm, ⟨6, _⟩ => ⟨S64x1024, .f32⟩
  | .hbm, ⟨7, _⟩ => ⟨S8256x1024, .f32⟩
  | .hbm, ⟨8, _⟩ => ⟨S8256x1024, .f32⟩
  | .hbm, ⟨9, _⟩ => ⟨S8256x1024, .f32⟩
  | .hbm, ⟨10, _⟩ => ⟨S8x128, .f32⟩
  | .local _ .vmem, ⟨0, _⟩ => ⟨S688x2816, .bf16⟩
  | .local _ .vmem, ⟨1, _⟩ => ⟨S688x2816, .bf16⟩
  | .local _ .vmem, ⟨2, _⟩ => ⟨S2816x1024, .bf16⟩
  | .local _ .vmem, ⟨3, _⟩ => ⟨S688x1024, .f32⟩
  | .local _ .vmem, ⟨4, _⟩ => ⟨S688x1024, .f32⟩
  | .local _ .vmem, ⟨5, _⟩ => ⟨S1x1024, .f32⟩
  | .local _ .vmem, ⟨6, _⟩ => ⟨S688x1024, .f32⟩
  | .local _ .vmem, ⟨7, _⟩ => ⟨S688x1024, .f32⟩
  | .local _ .vmem, ⟨8, _⟩ => ⟨S688x1024, .f32⟩
  | .local _ .vmem, ⟨9, _⟩ => ⟨S688x1024, .f32⟩
  | .local _ .vmem, ⟨10, _⟩ => ⟨S688x1024, .f32⟩
  | .local _ .vmem, ⟨11, _⟩ => ⟨S688x1024, .f32⟩
  | .local _ .vmem, ⟨12, _⟩ => ⟨S8x128, .f32⟩
  | _, _ => ⟨S8256x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S688x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S688x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S688x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S688x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S688x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== DownLossRIdeal.lean ====
abbrev S8256x2816 : Shape := ⟨2, ![8256, 2816]⟩
abbrev S2816x1024 : Shape := ⟨2, ![2816, 1024]⟩
abbrev S8256x1024 : Shape := ⟨2, ![8256, 1024]⟩
abbrev S1x1024 : Shape := ⟨2, ![1, 1024]⟩
abbrev S8192x1024 : Shape := ⟨2, ![8192, 1024]⟩
abbrev S48x1024 : Shape := ⟨2, ![48, 1024]⟩
abbrev S8208x1024 : Shape := ⟨2, ![8208, 1024]⟩
abbrev S_ : Shape := ⟨0, ![]⟩
abbrev S8208 : Shape := ⟨1, ![8208]⟩
abbrev S8208x1 : Shape := ⟨2, ![8208, 1]⟩
abbrev S8192 : Shape := ⟨1, ![8192]⟩
abbrev S8x128 : Shape := ⟨2, ![8, 128]⟩

abbrev nBuf : Space → Nat
  | .hbm => 55
  | .vmem => 0
  | .smem => 0
  | _ => 0

abbrev bufTy : (tb : Table) → Fin (tcTables nBuf tb) → BufTy
  | .hbm, ⟨0, _⟩ => ⟨S8256x2816, .bf16⟩
  | .hbm, ⟨1, _⟩ => ⟨S2816x1024, .bf16⟩
  | .hbm, ⟨2, _⟩ => ⟨S8256x1024, .f32⟩
  | .hbm, ⟨3, _⟩ => ⟨S1x1024, .f32⟩
  | .hbm, ⟨4, _⟩ => ⟨S8192x1024, .f32⟩
  | .hbm, ⟨5, _⟩ => ⟨S8256x2816, .f32⟩
  | .hbm, ⟨6, _⟩ => ⟨S2816x1024, .f32⟩
  | .hbm, ⟨7, _⟩ => ⟨S8256x1024, .f32⟩
  | .hbm, ⟨8, _⟩ => ⟨S48x1024, .f32⟩
  | .hbm, ⟨9, _⟩ => ⟨S8208x1024, .f32⟩
  | .hbm, ⟨10, _⟩ => ⟨S8208x1024, .f32⟩
  | .hbm, ⟨11, _⟩ => ⟨S8208x1024, .f32⟩
  | .hbm, ⟨12, _⟩ => ⟨S_, .f32⟩
  | .hbm, ⟨13, _⟩ => ⟨S8208, .f32⟩
  | .hbm, ⟨14, _⟩ => ⟨S8208x1, .f32⟩
  | .hbm, ⟨15, _⟩ => ⟨S_, .f32⟩
  | .hbm, ⟨16, _⟩ => ⟨S8208x1, .f32⟩
  | .hbm, ⟨17, _⟩ => ⟨S8208x1, .f32⟩
  | .hbm, ⟨18, _⟩ => ⟨S_, .f32⟩
  | .hbm, ⟨19, _⟩ => ⟨S8208x1, .f32⟩
  | .hbm, ⟨20, _⟩ => ⟨S8208x1, .f32⟩
  | .hbm, ⟨21, _⟩ => ⟨S8208x1, .f32⟩
  | .hbm, ⟨22, _⟩ => ⟨S8208x1024, .f32⟩
  | .hbm, ⟨23, _⟩ => ⟨S8208x1024, .f32⟩
  | .hbm, ⟨24, _⟩ => ⟨S8208x1024, .f32⟩
  | .hbm, ⟨25, _⟩ => ⟨S8208x1024, .f32⟩
  | .hbm, ⟨26, _⟩ => ⟨S8208x1024, .f32⟩
  | .hbm, ⟨27, _⟩ => ⟨S8256x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192, .f32⟩
  | .hbm, ⟨36, _⟩ => ⟨S_, .f32⟩
  | .hbm, ⟨37, _⟩ => ⟨S8192, .f32⟩
  | .hbm, ⟨38, _⟩ => ⟨S8192, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S8192, .f32⟩
  | .hbm, ⟨47, _⟩ => ⟨S_, .f32⟩
  | .hbm, ⟨48, _⟩ => ⟨S8192, .f32⟩
  | .hbm, ⟨49, _⟩ => ⟨S8192, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S8256x1024, .f32⟩
  | .hbm, ⟨54, _⟩ => ⟨S8x128, .f32⟩
  | _, _ => ⟨S8256x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_cst_7 : Ref sig .tc := ⟨.hbm, 43, rfl⟩
abbrev main_cst_8 : Ref sig .tc := ⟨.hbm, 44, rfl⟩
abbrev main_v30 : Ref sig .tc := ⟨.hbm, 45, rfl⟩
abbrev main_v31 : Ref sig .tc := ⟨.hbm, 46, rfl⟩
abbrev main_cst_9 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_10 : Ref sig .tc := ⟨.hbm, 52, rfl⟩
abbrev main_v36 : Ref sig .tc := ⟨.hbm, 53, rfl⟩
abbrev main_v37 : Ref sig .tc := ⟨.hbm, 54, rfl⟩

abbrev nD : Nat := 1
abbrev τ : Topo := Topo.v7x

variable {F : FTy → Type} [FloatOps F]
-- ==== Gate.lean ====
abbrev S8256x5632 : Shape := ⟨2, ![8256, 5632]⟩
abbrev S3x5632 : Shape := ⟨2, ![3, 5632]⟩
abbrev S5632 : Shape := ⟨1, ![5632]⟩
abbrev S1x5632 : Shape := ⟨2, ![1, 5632]⟩
abbrev S_ : Shape := ⟨0, ![]⟩
abbrev S4x5632 : Shape := ⟨2, ![4, 5632]⟩
abbrev S8x5632 : Shape := ⟨2, ![8, 5632]⟩
abbrev S8256x2816 : Shape := ⟨2, ![8256, 2816]⟩
abbrev S688x512 : Shape := ⟨2, ![688, 512]⟩
abbrev S8x512 : Shape := ⟨2, ![8, 512]⟩
abbrev S688x256 : Shape := ⟨2, ![688, 256]⟩
abbrev S8x1 : Shape := ⟨2, ![8, 1]⟩
abbrev S680x512 : Shape := ⟨2, ![680, 512]⟩
abbrev S1x512 : Shape := ⟨2, ![1, 512]⟩

abbrev nBuf : Space → Nat
  | .hbm => 9
  | .vmem => 9
  | .smem => 0
  | _ => 0

abbrev bufTy : (tb : Table) → Fin (tcTables nBuf tb) → BufTy
  | .hbm, ⟨0, _⟩ => ⟨S8256x5632, .bf16⟩
  | .hbm, ⟨1, _⟩ => ⟨S3x5632, .f32⟩
  | .hbm, ⟨2, _⟩ => ⟨S5632, .f32⟩
  | .hbm, ⟨3, _⟩ => ⟨S1x5632, .f32⟩
  | .hbm, ⟨4, _⟩ => ⟨S_, .f32⟩
  | .hbm, ⟨5, _⟩ => ⟨S4x5632, .f32⟩
  | .hbm, ⟨6, _⟩ => ⟨S8x5632, .f32⟩
  | .hbm, ⟨7, _⟩ => ⟨S8256x5632, .bf16⟩
  | .hbm, ⟨8, _⟩ => ⟨S8256x2816, .bf16⟩
  | .local _ .vmem, ⟨0, _⟩ => ⟨S688x512, .bf16⟩
  | .local _ .vmem, ⟨1, _⟩ => ⟨S688x512, .bf16⟩
  | .local _ .vmem, ⟨2, _⟩ => ⟨S8x512, .f32⟩
  | .local _ .vmem, ⟨3, _⟩ => ⟨S8x512, .f32⟩
  | .local _ .vmem, ⟨4, _⟩ => ⟨S688x512, .bf16⟩
  | .local _ .vmem, ⟨5, _⟩ => ⟨S688x512, .bf16⟩
  | .local _ .vmem, ⟨6, _⟩ => ⟨S688x256, .bf16⟩
  | .local _ .vmem, ⟨7, _⟩ => ⟨S688x256, .bf16⟩
  | .local _ .vmem, ⟨8, _⟩ => ⟨S8x512, .f32⟩
  | _, _ => ⟨S8256x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![11, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S688x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S688x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S688x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GateIdeal.lean ====
variable {F : FTy → Type} [FloatOps F] [Named F]
def κ : String → Option EReal := fun
  | "ck" => some ((80338380498831 / 2251799813685248 : ℝ) : EReal)
  | _ => none
-- ==== GateRIdeal.lean ====
abbrev S8256x5632 : Shape := ⟨2, ![8256, 5632]⟩
abbrev S3x5632 : Shape := ⟨2, ![3, 5632]⟩
abbrev S5632 : Shape := ⟨1, ![5632]⟩
abbrev S_ : Shape := ⟨0, ![]⟩
abbrev S2x5632 : Shape := ⟨2, ![2, 5632]⟩
abbrev S8258x5632 : Shape := ⟨2, ![8258, 5632]⟩
abbrev S1x5632 : Shape := ⟨2, ![1, 5632]⟩
abbrev S8256x11x2x256 : Shape := ⟨4, ![8256, 11, 2, 256]⟩
abbrev S8256x11x1x256 : Shape := ⟨4, ![8256, 11, 1, 256]⟩
abbrev S8256x11x256 : Shape := ⟨3, ![8256, 11, 256]⟩
abbrev S8256x2816 : Shape := ⟨2, ![8256, 2816]⟩

abbrev nBuf : Space → Nat
  | .hbm => 89
  | .vmem => 0
  | .smem => 0
  | _ => 0

abbrev bufTy : (tb : Table) → Fin (tcTables nBuf tb) → BufTy
  | .hbm, ⟨0, _⟩ => ⟨S8256x5632, .bf16⟩
  | .hbm, ⟨1, _⟩ => ⟨S3x5632, .f32⟩
  | .hbm, ⟨2, _⟩ => ⟨S5632, .f32⟩
  | .hbm, ⟨3, _⟩ => ⟨S_, .f32⟩
  | .hbm, ⟨4, _⟩ => ⟨S2x5632, .f32⟩
  | .hbm, ⟨5, _⟩ => ⟨S8256x5632, .f32⟩
  | .hbm, ⟨6, _⟩ => ⟨S8258x5632, .f32⟩
  | .hbm, ⟨7, _⟩ => ⟨S8256x5632, .f32⟩
  | .hbm, ⟨8, _⟩ => ⟨S1x5632, .f32⟩
  | .hbm, ⟨9, _⟩ => ⟨S5632, .f32⟩
  | .hbm, ⟨10, _⟩ => ⟨S1x5632, .f32⟩
  | .hbm, ⟨11, _⟩ => ⟨S8256x5632, .f32⟩
  | .hbm, ⟨12, _⟩ => ⟨S8256x5632, .f32⟩
  | .hbm, ⟨13, _⟩ => ⟨S_, .f32⟩
  | .hbm, ⟨14, _⟩ => ⟨S8256x5632, .f32⟩
  | .hbm, ⟨15, _⟩ => ⟨S8256x5632, .f32⟩
  | .hbm, ⟨16, _⟩ => ⟨S8256x5632, .f32⟩
  | .hbm, ⟨17, _⟩ => ⟨S1x5632, .f32⟩
  | .hbm, ⟨18, _⟩ => ⟨S5632, .f32⟩
  | .hbm, ⟨19, _⟩ => ⟨S1x5632, .f32⟩
  | .hbm, ⟨20, _⟩ => ⟨S8256x5632, .f32⟩
  | .hbm, ⟨21, _⟩ => ⟨S8256x5632, .f32⟩
  | .hbm, ⟨22, _⟩ => ⟨S8256x5632, .f32⟩
  | .hbm, ⟨23, _⟩ => ⟨S8256x5632, .f32⟩
  | .hbm, ⟨24, _⟩ => ⟨S1x5632, .f32⟩
  | .hbm, ⟨25, _⟩ => ⟨S5632, .f32⟩
  | .hbm, ⟨26, _⟩ => ⟨S1x5632, .f32⟩
  | .hbm, ⟨27, _⟩ => ⟨S8256x5632, .f32⟩
  | .hbm, ⟨28, _⟩ => ⟨S8256x5632, .f32⟩
  | .hbm, ⟨29, _⟩ => ⟨S8256x5632, .f32⟩
  | .hbm, ⟨30, _⟩ => ⟨S1x5632, .f32⟩
  | .hbm, ⟨31, _⟩ => ⟨S8256x5632, .f32⟩
  | .hbm, ⟨32, _⟩ => ⟨S8256x5632, .f32⟩
  | .hbm, ⟨33, _⟩ => ⟨S8256x5632, .bf16⟩
  | .hbm, ⟨34, _⟩ => ⟨S_, .f32⟩
  | .hbm, ⟨35, _⟩ => ⟨S2x5632, .f32⟩
  | .hbm, ⟨36, _⟩ => ⟨S8256x5632, .f32⟩
  | .hbm, ⟨37, _⟩ => ⟨S8258x5632, .f32⟩
  | .hbm, ⟨38, _⟩ => ⟨S8256x5632, .f32⟩
  | .hbm, ⟨39, _⟩ => ⟨S1x5632, .f32⟩
  | .hbm, ⟨40, _⟩ => ⟨S5632, .f32⟩
  | .hbm, ⟨41, _⟩ => ⟨S1x5632, .f32⟩
  | .hbm, ⟨42, _⟩ => ⟨S8256x5632, .f32⟩
  | .hbm, ⟨43, _⟩ => ⟨S8256x5632, .f32⟩
  | .hbm, ⟨44, _⟩ => ⟨S_, .f32⟩
  | .hbm, ⟨45, _⟩ => ⟨S8256x5632, .f32⟩
  | .hbm, ⟨46, _⟩ => ⟨S8256x5632, .f32⟩
  | .hbm, ⟨47, _⟩ => ⟨S8256x5632, .f32⟩
  | .hbm, ⟨48, _⟩ => ⟨S1x5632, .f32⟩
  | .hbm, ⟨49, _⟩ => ⟨S5632, .f32⟩
  | .hbm, ⟨50, _⟩ => ⟨S1x5632, .f32⟩
  | .hbm, ⟨51, _⟩ => ⟨S8256x5632, .f32⟩
  | .hbm, ⟨52, _⟩ => ⟨S8256x5632, .f32⟩
  | .hbm, ⟨53, _⟩ => ⟨S8256x5632, .f32⟩
  | .hbm, ⟨54, _⟩ => ⟨S8256x5632, .f32⟩
  | .hbm, ⟨55, _⟩ => ⟨S1x5632, .f32⟩
  | .hbm, ⟨56, _⟩ => ⟨S5632, .f32⟩
  | .hbm, ⟨57, _⟩ => ⟨S1x5632, .f32⟩
  | .hbm, ⟨58, _⟩ => ⟨S8256x5632, .f32⟩
  | .hbm, ⟨59, _⟩ => ⟨S8256x5632, .f32⟩
  | .hbm, ⟨60, _⟩ => ⟨S8256x5632, .f32⟩
  | .hbm, ⟨61, _⟩ => ⟨S1x5632, .f32⟩
  | .hbm, ⟨62, _⟩ => ⟨S8256x5632, .f32⟩
  | .hbm, ⟨63, _⟩ => ⟨S8256x5632, .f32⟩
  | .hbm, ⟨64, _⟩ => ⟨S8256x11x2x256, .f32⟩
  | .hbm, ⟨65, _⟩ => ⟨S8256x11x1x256, .f32⟩
  | .hbm, ⟨66, _⟩ => ⟨S8256x11x256, .f32⟩
  | .hbm, ⟨67, _⟩ => ⟨S8256x11x1x256, .f32⟩
  | .hbm, ⟨68, _⟩ => ⟨S8256x11x256, .f32⟩
  | .hbm, ⟨69, _⟩ => ⟨S8256x11x256, .f32⟩
  | .hbm, ⟨70, _⟩ => ⟨S8256x11x256, .f32⟩
  | .hbm, ⟨71, _⟩ => ⟨S_, .f32⟩
  | .hbm, ⟨72, _⟩ => ⟨S8256x11x256, .f32⟩
  | .hbm, ⟨73, _⟩ => ⟨S8256x11x256, .f32⟩
  | .hbm, ⟨74, _⟩ => ⟨S8256x11x256, .f32⟩
  | .hbm, ⟨75, _⟩ => ⟨S_, .f32⟩
  | .hbm, ⟨76, _⟩ => ⟨S8256x11x256, .f32⟩
  | .hbm, ⟨77, _⟩ => ⟨S8256x11x256, .f32⟩
  | .hbm, ⟨78, _⟩ => ⟨S8256x11x256, .f32⟩
  | .hbm, ⟨79, _⟩ => ⟨S_, .f32⟩
  | .hbm, ⟨80, _⟩ => ⟨S8256x11x256, .f32⟩
  | .hbm, ⟨81, _⟩ => ⟨S8256x11x256, .f32⟩
  | .hbm, ⟨82, _⟩ => ⟨S_, .f32⟩
  | .hbm, ⟨83, _⟩ => ⟨S8256x11x256, .f32⟩
  | .hbm, ⟨84, _⟩ => ⟨S8256x11x256, .f32⟩
  | .hbm, ⟨85, _⟩ => ⟨S8256x11x256, .f32⟩
  | .hbm, ⟨86, _⟩ => ⟨S8256x11x256, .f32⟩
  | .hbm, ⟨87, _⟩ => ⟨S8256x2816, .f32⟩
  | .hbm, ⟨88, _⟩ => ⟨S8256x2816, .bf16⟩
  | _, _ => ⟨S8256x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_cst_1 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_cst_2 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_cst_3 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_cst_4 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_cst_5 : Ref sig .tc := ⟨.hbm, 79, rfl⟩
abbrev main_v70 : Ref sig .tc := ⟨.hbm, 80, rfl⟩
abbrev main_v71 : Ref sig .tc := ⟨.hbm, 81, rfl⟩
abbrev main_cst_6 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩

abbrev nD : Nat := 1
abbrev τ : Topo := Topo.v7x

variable {F : FTy → Type} [FloatOps F]
-- ==== InProj.lean ====
abbrev S8256x1024 : Shape := ⟨2, ![8256, 1024]⟩
abbrev S1x1024 : Shape := ⟨2, ![1, 1024]⟩
abbrev S1024x3840 : Shape := ⟨2, ![1024, 3840]⟩
abbrev S8256x3840 : Shape := ⟨2, ![8256, 3840]⟩
abbrev S1376x1024 : Shape := ⟨2, ![1376, 1024]⟩
abbrev S1024x1920 : Shape := ⟨2, ![1024, 1920]⟩
abbrev S1376x1920 : Shape := ⟨2, ![1376, 1920]⟩
abbrev S1376 : Shape := ⟨1, ![1376]⟩
abbrev S1376x1 : Shape := ⟨2, ![1376, 1]⟩

abbrev nBuf : Space → Nat
  | .hbm => 5
  | .vmem => 10
  | .smem => 0
  | _ => 0

abbrev bufTy : (tb : Table) → Fin (tcTables nBuf tb) → BufTy
  | .hbm, ⟨0, _⟩ => ⟨S8256x1024, .f32⟩
  | .hbm, ⟨1, _⟩ => ⟨S1x1024, .f32⟩
  | .hbm, ⟨2, _⟩ => ⟨S1024x3840, .bf16⟩
  | .hbm, ⟨3, _⟩ => ⟨S8256x1024, .bf16⟩
  | .hbm, ⟨4, _⟩ => ⟨S8256x3840, .bf16⟩
  | .local _ .vmem, ⟨0, _⟩ => ⟨S1376x1024, .f32⟩
  | .local _ .vmem, ⟨1, _⟩ => ⟨S1376x1024, .f32⟩
  | .local _ .vmem, ⟨2, _⟩ => ⟨S1x1024, .f32⟩
  | .local _ .vmem, ⟨3, _⟩ => ⟨S1024x1920, .bf16⟩
  | .local _ .vmem, ⟨4, _⟩ => ⟨S1024x1920, .bf16⟩
  | .local _ .vmem, ⟨5, _⟩ => ⟨S1376x1024, .bf16⟩
  | .local _ .vmem, ⟨6, _⟩ => ⟨S1376x1024, .bf16⟩
  | .local _ .vmem, ⟨7, _⟩ => ⟨S1376x1920, .bf16⟩
  | .local _ .vmem, ⟨8, _⟩ => ⟨S1376x1920, .bf16⟩
  | .local _ .vmem, ⟨9, _⟩ => ⟨S1376x1024, .bf16⟩
  | _, _ => ⟨S8256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![6, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1376x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1920 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1376x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1376x1920 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== InProjRIdeal.lean ====
abbrev S8256x1024 : Shape := ⟨2, ![8256, 1024]⟩
abbrev S1x1024 : Shape := ⟨2, ![1, 1024]⟩
abbrev S1024x3840 : Shape := ⟨2, ![1024, 3840]⟩
abbrev S_ : Shape := ⟨0, ![]⟩
abbrev S8256 : Shape := ⟨1, ![8256]⟩
abbrev S8256x1 : Shape := ⟨2, ![8256, 1]⟩
abbrev S8256x3840 : Shape := ⟨2, ![8256, 3840]⟩

abbrev nBuf : Space → Nat
  | .hbm => 23
  | .vmem => 0
  | .smem => 0
  | _ => 0

abbrev bufTy : (tb : Table) → Fin (tcTables nBuf tb) → BufTy
  | .hbm, ⟨0, _⟩ => ⟨S8256x1024, .f32⟩
  | .hbm, ⟨1, _⟩ => ⟨S1x1024, .f32⟩
  | .hbm, ⟨2, _⟩ => ⟨S1024x3840, .bf16⟩
  | .hbm, ⟨3, _⟩ => ⟨S8256x1024, .f32⟩
  | .hbm, ⟨4, _⟩ => ⟨S_, .f32⟩
  | .hbm, ⟨5, _⟩ => ⟨S8256, .f32⟩
  | .hbm, ⟨6, _⟩ => ⟨S8256x1, .f32⟩
  | .hbm, ⟨7, _⟩ => ⟨S_, .f32⟩
  | .hbm, ⟨8, _⟩ => ⟨S8256x1, .f32⟩
  | .hbm, ⟨9, _⟩ => ⟨S8256x1, .f32⟩
  | .hbm, ⟨10, _⟩ => ⟨S_, .f32⟩
  | .hbm, ⟨11, _⟩ => ⟨S8256x1, .f32⟩
  | .hbm, ⟨12, _⟩ => ⟨S8256x1, .f32⟩
  | .hbm, ⟨13, _⟩ => ⟨S8256x1, .f32⟩
  | .hbm, ⟨14, _⟩ => ⟨S8256x1024, .f32⟩
  | .hbm, ⟨15, _⟩ => ⟨S8256x1024, .f32⟩
  | .hbm, ⟨16, _⟩ => ⟨S8256x1024, .f32⟩
  | .hbm, ⟨17, _⟩ => ⟨S8256x1024, .f32⟩
  | .hbm, ⟨18, _⟩ => ⟨S8256x1024, .bf16⟩
  | .hbm, ⟨19, _⟩ => ⟨S8256x1024, .f32⟩
  | .hbm, ⟨20, _⟩ => ⟨S1024x3840, .f32⟩
  | .hbm, ⟨21, _⟩ => ⟨S8256x3840, .f32⟩
  | .hbm, ⟨22, _⟩ => ⟨S8256x3840, .bf16⟩
  | _, _ => ⟨S8256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== UpProj.lean ====
abbrev S8256x1024 : Shape := ⟨2, ![8256, 1024]⟩
abbrev S1x1024 : Shape := ⟨2, ![1, 1024]⟩
abbrev S1024x5632 : Shape := ⟨2, ![1024, 5632]⟩
abbrev S8256x5632 : Shape := ⟨2, ![8256, 5632]⟩
abbrev S1376x1024 : Shape := ⟨2, ![1376, 1024]⟩
abbrev S1024x2816 : Shape := ⟨2, ![1024, 2816]⟩
abbrev S1376x2816 : Shape := ⟨2, ![1376, 2816]⟩
abbrev S1376 : Shape := ⟨1, ![1376]⟩
abbrev S1376x1 : Shape := ⟨2, ![1376, 1]⟩

abbrev nBuf : Space → Nat
  | .hbm => 5
  | .vmem => 10
  | .smem => 0
  | _ => 0

abbrev bufTy : (tb : Table) → Fin (tcTables nBuf tb) → BufTy
  | .hbm, ⟨0, _⟩ => ⟨S8256x1024, .f32⟩
  | .hbm, ⟨1, _⟩ => ⟨S1x1024, .f32⟩
  | .hbm, ⟨2, _⟩ => ⟨S1024x5632, .bf16⟩
  | .hbm, ⟨3, _⟩ => ⟨S8256x1024, .bf16⟩
  | .hbm, ⟨4, _⟩ => ⟨S8256x5632, .bf16⟩
  | .local _ .vmem, ⟨0, _⟩ => ⟨S1376x1024, .f32⟩
  | .local _ .vmem, ⟨1, _⟩ => ⟨S1376x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S1376x1024, .bf16⟩
  | .local _ .vmem, ⟨6, _⟩ => ⟨S1376x1024, .bf16⟩
  | .local _ .vmem, ⟨7, _⟩ => ⟨S1376x2816, .bf16⟩
  | .local _ .vmem, ⟨8, _⟩ => ⟨S1376x2816, .bf16⟩
  | .local _ .vmem, ⟨9, _⟩ => ⟨S1376x1024, .bf16⟩
  | _, _ => ⟨S8256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![6, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1376x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1376x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1376x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== UpProjRIdeal.lean ====
abbrev S8256x1024 : Shape := ⟨2, ![8256, 1024]⟩
abbrev S1x1024 : Shape := ⟨2, ![1, 1024]⟩
abbrev S1024x5632 : Shape := ⟨2, ![1024, 5632]⟩
abbrev S_ : Shape := ⟨0, ![]⟩
abbrev S8256 : Shape := ⟨1, ![8256]⟩
abbrev S8256x1 : Shape := ⟨2, ![8256, 1]⟩
abbrev S8256x5632 : Shape := ⟨2, ![8256, 5632]⟩

abbrev nBuf : Space → Nat
  | .hbm => 23
  | .vmem => 0
  | .smem => 0
  | _ => 0

abbrev bufTy : (tb : Table) → Fin (tcTables nBuf tb) → BufTy
  | .hbm, ⟨0, _⟩ => ⟨S8256x1024, .f32⟩
  | .hbm, ⟨1, _⟩ => ⟨S1x1024, .f32⟩
  | .hbm, ⟨2, _⟩ => ⟨S1024x5632, .bf16⟩
  | .hbm, ⟨3, _⟩ => ⟨S8256x1024, .f32⟩
  | .hbm, ⟨4, _⟩ => ⟨S_, .f32⟩
  | .hbm, ⟨5, _⟩ => ⟨S8256, .f32⟩
  | .hbm, ⟨6, _⟩ => ⟨S8256x1, .f32⟩
  | .hbm, ⟨7, _⟩ => ⟨S_, .f32⟩
  | .hbm, ⟨8, _⟩ => ⟨S8256x1, .f32⟩
  | .hbm, ⟨9, _⟩ => ⟨S8256x1, .f32⟩
  | .hbm, ⟨10, _⟩ => ⟨S_, .f32⟩
  | .hbm, ⟨11, _⟩ => ⟨S8256x1, .f32⟩
  | .hbm, ⟨12, _⟩ => ⟨S8256x1, .f32⟩
  | .hbm, ⟨13, _⟩ => ⟨S8256x1, .f32⟩
  | .hbm, ⟨14, _⟩ => ⟨S8256x1024, .f32⟩
  | .hbm, ⟨15, _⟩ => ⟨S8256x1024, .f32⟩
  | .hbm, ⟨16, _⟩ => ⟨S8256x1024, .f32⟩
  | .hbm, ⟨17, _⟩ => ⟨S8256x1024, .f32⟩
  | .hbm, ⟨18, _⟩ => ⟨S8256x1024, .bf16⟩
  | .hbm, ⟨19, _⟩ => ⟨S8256x1024, .f32⟩
  | .hbm, ⟨20, _⟩ => ⟨S1024x5632, .f32⟩
  | .hbm, ⟨21, _⟩ => ⟨S8256x5632, .f32⟩
  | .hbm, ⟨22, _⟩ => ⟨S8256x5632, .bf16⟩
  | _, _ => ⟨S8256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== ConvBwd.lean ====
abbrev S8256x2816 : Shape := ⟨2, ![8256, 2816]⟩
abbrev S8256x5632 : Shape := ⟨2, ![8256, 5632]⟩
abbrev S3x5632 : Shape := ⟨2, ![3, 5632]⟩
abbrev S5632 : Shape := ⟨1, ![5632]⟩
abbrev S1x5632 : Shape := ⟨2, ![1, 5632]⟩
abbrev S_ : Shape := ⟨0, ![]⟩
abbrev S4x5632 : Shape := ⟨2, ![4, 5632]⟩
abbrev S8x5632 : Shape := ⟨2, ![8, 5632]⟩
abbrev S2x5632 : Shape := ⟨2, ![2, 5632]⟩
abbrev S8258x5632 : Shape := ⟨2, ![8258, 5632]⟩
abbrev S688x256 : Shape := ⟨2, ![688, 256]⟩
abbrev S688x512 : Shape := ⟨2, ![688, 512]⟩
abbrev S8x512 : Shape := ⟨2, ![8, 512]⟩
abbrev S1x512 : Shape := ⟨2, ![1, 512]⟩
abbrev S8x1 : Shape := ⟨2, ![8, 1]⟩
abbrev S16x512 : Shape := ⟨2, ![16, 512]⟩
abbrev S16x256 : Shape := ⟨2, ![16, 256]⟩
abbrev S8x256 : Shape := ⟨2, ![8, 256]⟩
abbrev S512 : Shape := ⟨1, ![512]⟩

abbrev nBuf : Space → Nat
  | .hbm => 41
  | .vmem => 13
  | .smem => 0
  | _ => 0

abbrev bufTy : (tb : Table) → Fin (tcTables nBuf tb) → BufTy
  | .hbm, ⟨0, _⟩ => ⟨S8256x2816, .bf16⟩
  | .hbm, ⟨1, _⟩ => ⟨S8256x5632, .bf16⟩
  | .hbm, ⟨2, _⟩ => ⟨S3x5632, .f32⟩
  | .hbm, ⟨3, _⟩ => ⟨S5632, .f32⟩
  | .hbm, ⟨4, _⟩ => ⟨S1x5632, .f32⟩
  | .hbm, ⟨5, _⟩ => ⟨S_, .f32⟩
  | .hbm, ⟨6, _⟩ => ⟨S4x5632, .f32⟩
  | .hbm, ⟨7, _⟩ => ⟨S8x5632, .f32⟩
  | .hbm, ⟨8, _⟩ => ⟨S_, .f32⟩
  | .hbm, ⟨9, _⟩ => ⟨S2x5632, .f32⟩
  | .hbm, ⟨10, _⟩ => ⟨S8256x5632, .f32⟩
  | .hbm, ⟨11, _⟩ => ⟨S8258x5632, .f32⟩
  | .hbm, ⟨12, _⟩ => ⟨S8256x5632, .f32⟩
  | .hbm, ⟨13, _⟩ => ⟨S1x5632, .f32⟩
  | .hbm, ⟨14, _⟩ => ⟨S5632, .f32⟩
  | .hbm, ⟨15, _⟩ => ⟨S1x5632, .f32⟩
  | .hbm, ⟨16, _⟩ => ⟨S8256x5632, .f32⟩
  | .hbm, ⟨17, _⟩ => ⟨S8256x5632, .f32⟩
  | .hbm, ⟨18, _⟩ => ⟨S_, .f32⟩
  | .hbm, ⟨19, _⟩ => ⟨S8256x5632, .f32⟩
  | .hbm, ⟨20, _⟩ => ⟨S8256x5632, .f32⟩
  | .hbm, ⟨21, _⟩ => ⟨S8256x5632, .f32⟩
  | .hbm, ⟨22, _⟩ => ⟨S1x5632, .f32⟩
  | .hbm, ⟨23, _⟩ => ⟨S5632, .f32⟩
  | .hbm, ⟨24, _⟩ => ⟨S1x5632, .f32⟩
  | .hbm, ⟨25, _⟩ => ⟨S8256x5632, .f32⟩
  | .hbm, ⟨26, _⟩ => ⟨S8256x5632, .f32⟩
  | .hbm, ⟨27, _⟩ => ⟨S8256x5632, .f32⟩
  | .hbm, ⟨28, _⟩ => ⟨S8256x5632, .f32⟩
  | .hbm, ⟨29, _⟩ => ⟨S1x5632, .f32⟩
  | .hbm, ⟨30, _⟩ => ⟨S5632, .f32⟩
  | .hbm, ⟨31, _⟩ => ⟨S1x5632, .f32⟩
  | .hbm, ⟨32, _⟩ => ⟨S8256x5632, .f32⟩
  | .hbm, ⟨33, _⟩ => ⟨S8256x5632, .f32⟩
  | .hbm, ⟨34, _⟩ => ⟨S8256x5632, .f32⟩
  | .hbm, ⟨35, _⟩ => ⟨S1x5632, .f32⟩
  | .hbm, ⟨36, _⟩ => ⟨S8256x5632, .f32⟩
  | .hbm, ⟨37, _⟩ => ⟨S8256x5632, .f32⟩
  | .hbm, ⟨38, _⟩ => ⟨S8256x5632, .bf16⟩
  | .hbm, ⟨39, _⟩ => ⟨S8256x5632, .bf16⟩
  | .hbm, ⟨40, _⟩ => ⟨S8x5632, .f32⟩
  | .local _ .vmem, ⟨0, _⟩ => ⟨S688x256, .bf16⟩
  | .local _ .vmem, ⟨1, _⟩ => ⟨S688x256, .bf16⟩
  | .local _ .vmem, ⟨2, _⟩ => ⟨S688x512, .bf16⟩
  | .local _ .vmem, ⟨3, _⟩ => ⟨S688x512, .bf16⟩
  | .local _ .vmem, ⟨4, _⟩ => ⟨S688x512, .bf16⟩
  | .local _ .vmem, ⟨5, _⟩ => ⟨S688x512, .bf16⟩
  | .local _ .vmem, ⟨6, _⟩ => ⟨S8x512, .f32⟩
  | .local _ .vmem, ⟨7, _⟩ => ⟨S8x512, .f32⟩
  | .local _ .vmem, ⟨8, _⟩ => ⟨S688x512, .bf16⟩
  | .local _ .vmem, ⟨9, _⟩ => ⟨S688x512, .bf16⟩
  | .local _ .vmem, ⟨10, _⟩ => ⟨S8x512, .f32⟩
  | .local _ .vmem, ⟨11, _⟩ => ⟨S8x512, .f32⟩
  | .local _ .vmem, ⟨12, _⟩ => ⟨S8x512, .f32⟩
  | _, _ => ⟨S8256x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32_0 : Ref sig .tc := ⟨.hbm, 39, rfl⟩
abbrev main_v32_1 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![11, 12], ![false, false]⟩

@[reducible] def k0_t1_loop : Scf.Loop 32 :=
  let c0_i32_6 : BitVec 32 := 0#32
  let c43_i32 : BitVec 32 := 43#32
  let v14 : BitVec 32 := Scalar.addi c0_i32_6 c43_i32
  let c1_i32 : BitVec 32 := 1#32
  ⟨c0_i32_6, v14, c1_i32⟩
def k0_mult1 (k0_t1 : Fin k0_t1_loop.trips) : BitVec 32 :=
  let c42_i32 : BitVec 32 := 42#32
  let c0_i32_6 : BitVec 32 := 0#32
  let c1_i32 : BitVec 32 := 1#32
  let arg9 : BitVec 32 := Scf.iv c0_i32_6 c1_i32 k0_t1
  let v44 : BitVec 32 := Scalar.subi c42_i32 arg9
  let c16_i32 : BitVec 32 := 16#32
  let v45 : BitVec 32 := Scalar.muli v44 c16_i32
  v45
def k0_off1 (k0_t1 : Fin k0_t1_loop.trips) : Fin 2 → Nat :=
  let c42_i32 : BitVec 32 := 42#32
  let c0_i32_6 : BitVec 32 := 0#32
  let c1_i32 : BitVec 32 := 1#32
  let arg9 : BitVec 32 := Scf.iv c0_i32_6 c1_i32 k0_t1
  let v44 : BitVec 32 := Scalar.subi c42_i32 arg9
  let c16_i32 : BitVec 32 := 16#32
  let v45 : BitVec 32 := Scalar.muli v44 c16_i32
  let v46 : BitVec 32 := v45
  let v47 : Index := Scalar.indexCast v46
  let c0_30 : Index := 0#32
  ![v47.toNat, 0]
def k0_off2 (k0_t1 : Fin k0_t1_loop.trips) : Fin 2 → Nat :=
  let c42_i32 : BitVec 32 := 42#32
  let c0_i32_6 : BitVec 32 := 0#32
  let c1_i32 : BitVec 32 := 1#32
  let arg9 : BitVec 32 := Scf.iv c0_i32_6 c1_i32 k0_t1
  let v44 : BitVec 32 := Scalar.subi c42_i32 arg9
  let c16_i32 : BitVec 32 := 16#32
  let v45 : BitVec 32 := Scalar.muli v44 c16_i32
  let v46 : BitVec 32 := v45
  let v51 : Index := Scalar.indexCast v46
  let c0_31 : Index := 0#32
  ![v51.toNat, 0]
def cc0_transform_0 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.subi c11_i32 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.subi c11_i32 arg1
  let c0_i32 : BitVec 32 := 0#32
  ![v0.toNat, arg0.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.subi c11_i32 arg1
  let c0_i32 : BitVec 32 := 0#32
  ![v0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.subi c11_i32 arg1
  let c0_i32 : BitVec 32 := 0#32
  ![v0.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S688x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S688x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S688x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S688x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ConvBwdIdeal.lean ====
variable {F : FTy → Type} [FloatOps F] [Named F]
def κ : String → Option EReal := fun
  | "ck" => some ((80338380498831 / 2251799813685248 : ℝ) : EReal)
  | "ck6" => some ((241015141496493 / 1125899906842624 : ℝ) : EReal)
  | _ => none
-- ==== ConvBwdRIdeal.lean ====
abbrev S8256x2816 : Shape := ⟨2, ![8256, 2816]⟩
abbrev S8256x5632 : Shape := ⟨2, ![8256, 5632]⟩
abbrev S3x5632 : Shape := ⟨2, ![3, 5632]⟩
abbrev S5632 : Shape := ⟨1, ![5632]⟩
abbrev S_ : Shape := ⟨0, ![]⟩
abbrev S2x5632 : Shape := ⟨2, ![2, 5632]⟩
abbrev S8258x5632 : Shape := ⟨2, ![8258, 5632]⟩
abbrev S1x5632 : Shape := ⟨2, ![1, 5632]⟩
abbrev S8256x11x2x256 : Shape := ⟨4, ![8256, 11, 2, 256]⟩
abbrev S8256x11x1x256 : Shape := ⟨4, ![8256, 11, 1, 256]⟩
abbrev S8256x11x256 : Shape := ⟨3, ![8256, 11, 256]⟩
abbrev S4x5632 : Shape := ⟨2, ![4, 5632]⟩
abbrev S8x5632 : Shape := ⟨2, ![8, 5632]⟩

abbrev nBuf : Space → Nat
  | .hbm => 154
  | .vmem => 0
  | .smem => 0
  | _ => 0

abbrev hbmTy0_0 (i : Nat) : BufTy := match i % 128 with
  | 0 => ⟨S8256x2816, .bf16⟩
  | 1 => ⟨S8256x5632, .bf16⟩
  | 2 => ⟨S3x5632, .f32⟩
  | 3 => ⟨S5632, .f32⟩
  | 4 => ⟨S_, .f32⟩
  | 5 => ⟨S2x5632, .f32⟩
  | 6 => ⟨S8256x5632, .f32⟩
  | 7 => ⟨S8258x5632, .f32⟩
  | 8 => ⟨S_, .f32⟩
  | 9 => ⟨S2x5632, .f32⟩
  | 10 => ⟨S8256x5632, .f32⟩
  | 11 => ⟨S1x5632, .f32⟩
  | 12 => ⟨S5632, .f32⟩
  | 13 => ⟨S1x5632, .f32⟩
  | 14 => ⟨S8256x5632, .f32⟩
  | 15 => ⟨S8256x5632, .f32⟩
  | 16 => ⟨S_, .f32⟩
  | 17 => ⟨S8256x5632, .f32⟩
  | 18 => ⟨S8256x5632, .f32⟩
  | 19 => ⟨S8256x5632, .f32⟩
  | 20 => ⟨S1x5632, .f32⟩
  | 21 => ⟨S5632, .f32⟩
  | 22 => ⟨S1x5632, .f32⟩
  | 23 => ⟨S8256x5632, .f32⟩
  | 24 => ⟨S8256x5632, .f32⟩
  | 25 => ⟨S8256x5632, .f32⟩
  | 26 => ⟨S8256x5632, .f32⟩
  | 27 => ⟨S1x5632, .f32⟩
  | 28 => ⟨S5632, .f32⟩
  | 29 => ⟨S1x5632, .f32⟩
  | 30 => ⟨S8256x5632, .f32⟩
  | 31 => ⟨S8256x5632, .f32⟩
  | 32 => ⟨S8256x5632, .f32⟩
  | 33 => ⟨S1x5632, .f32⟩
  | 34 => ⟨S8256x5632, .f32⟩
  | 35 => ⟨S8256x5632, .f32⟩
  | 36 => ⟨S8256x11x2x256, .f32⟩
  | 37 => ⟨S8256x11x1x256, .f32⟩
  | 38 => ⟨S8256x11x256, .f32⟩
  | 39 => ⟨S8256x11x1x256, .f32⟩
  | 40 => ⟨S8256x11x256, .f32⟩
  | 41 => ⟨S8256x11x256, .f32⟩
  | 42 => ⟨S8256x11x256, .f32⟩
  | 43 => ⟨S8256x11x256, .f32⟩
  | 44 => ⟨S_, .f32⟩
  | 45 => ⟨S8256x11x256, .f32⟩
  | 46 => ⟨S8256x11x256, .f32⟩
  | 47 => ⟨S_, .f32⟩
  | 48 => ⟨S8256x11x256, .f32⟩
  | 49 => ⟨S8256x11x256, .f32⟩
  | 50 => ⟨S8256x11x256, .f32⟩
  | 51 => ⟨S_, .f32⟩
  | 52 => ⟨S8256x11x256, .f32⟩
  | 53 => ⟨S8256x11x256, .f32⟩
  | 54 => ⟨S8256x11x256, .f32⟩
  | 55 => ⟨S_, .f32⟩
  | 56 => ⟨S8256x11x256, .f32⟩
  | 57 => ⟨S8256x11x256, .f32⟩
  | 58 => ⟨S_, .f32⟩
  | 59 => ⟨S8256x11x256, .f32⟩
  | 60 => ⟨S8256x11x256, .f32⟩
  | 61 => ⟨S8256x11x256, .f32⟩
  | 62 => ⟨S_, .f32⟩
  | 63 => ⟨S8256x11x256, .f32⟩
  | 64 => ⟨S8256x11x256, .f32⟩
  | 65 => ⟨S_, .f32⟩
  | 66 => ⟨S8256x11x256, .f32⟩
  | 67 => ⟨S8256x11x256, .f32⟩
  | 68 => ⟨S8256x11x256, .f32⟩
  | 69 => ⟨S8256x11x256, .f32⟩
  | 70 => ⟨S8256x2816, .f32⟩
  | 71 => ⟨S8256x2816, .bf16⟩
  | 72 => ⟨S8256x2816, .f32⟩
  | 73 => ⟨S8256x11x256, .f32⟩
  | 74 => ⟨S8256x11x256, .f32⟩
  | 75 => ⟨S8256x11x256, .f32⟩
  | 76 => ⟨S8256x11x256, .f32⟩
  | 77 => ⟨S8256x11x256, .f32⟩
  | 78 => ⟨S_, .f32⟩
  | 79 => ⟨S8256x11x256, .f32⟩
  | 80 => ⟨S8256x11x256, .f32⟩
  | 81 => ⟨S8256x11x256, .f32⟩
  | 82 => ⟨S_, .f32⟩
  | 83 => ⟨S8256x11x256, .f32⟩
  | 84 => ⟨S8256x11x256, .f32⟩
  | 85 => ⟨S8256x11x256, .f32⟩
  | 86 => ⟨S_, .f32⟩
  | 87 => ⟨S8256x11x256, .f32⟩
  | 88 => ⟨S8256x11x256, .f32⟩
  | 89 => ⟨S8256x11x256, .f32⟩
  | 90 => ⟨S8256x11x256, .f32⟩
  | 91 => ⟨S8256x11x1x256, .f32⟩
  | 92 => ⟨S_, .f32⟩
  | 93 => ⟨S8256x11x2x256, .f32⟩
  | 94 => ⟨S8256x11x1x256, .f32⟩
  | 95 => ⟨S_, .f32⟩
  | 96 => ⟨S8256x11x2x256, .f32⟩
  | 97 => ⟨S8256x11x2x256, .f32⟩
  | 98 => ⟨S8256x5632, .f32⟩
  | 99 => ⟨S_, .f32⟩
  | 100 => ⟨S5632, .f32⟩
  | 101 => ⟨S1x5632, .f32⟩
  | 102 => ⟨S_, .f32⟩
  | 103 => ⟨S5632, .f32⟩
  | 104 => ⟨S8256x5632, .f32⟩
  | 105 => ⟨S_, .f32⟩
  | 106 => ⟨S5632, .f32⟩
  | 107 => ⟨S1x5632, .f32⟩
  | 108 => ⟨S8256x5632, .f32⟩
  | 109 => ⟨S8256x5632, .f32⟩
  | 110 => ⟨S_, .f32⟩
  | 111 => ⟨S5632, .f32⟩
  | 112 => ⟨S1x5632, .f32⟩
  | 113 => ⟨S_, .f32⟩
  | 114 => ⟨S3x5632, .f32⟩
  | 115 => ⟨S_, .f32⟩
  | 116 => ⟨S8258x5632, .f32⟩
  | 117 => ⟨S8256x5632, .f32⟩
  | 118 => ⟨S_, .f32⟩
  | 119 => ⟨S5632, .f32⟩
  | 120 => ⟨S1x5632, .f32⟩
  | 121 => ⟨S8256x5632, .f32⟩
  | 122 => ⟨S8256x5632, .f32⟩
  | 123 => ⟨S_, .f32⟩
  | 124 => ⟨S5632, .f32⟩
  | 125 => ⟨S1x5632, .f32⟩
  | 126 => ⟨S_, .f32⟩
  | 127 => ⟨S3x5632, .f32⟩
  | _ => ⟨S8256x2816, .bf16⟩

abbrev hbmTy0_1 (i : Nat) : BufTy := match i % 128 with
  | 0 => ⟨S3x5632, .f32⟩
  | 1 => ⟨S_, .f32⟩
  | 2 => ⟨S8258x5632, .f32⟩
  | 3 => ⟨S8258x5632, .f32⟩
  | 4 => ⟨S8256x5632, .f32⟩
  | 5 => ⟨S_, .f32⟩
  | 6 => ⟨S5632, .f32⟩
  | 7 => ⟨S1x5632, .f32⟩
  | 8 => ⟨S8256x5632, .f32⟩
  | 9 => ⟨S8256x5632, .f32⟩
  | 10 => ⟨S_, .f32⟩
  | 11 => ⟨S5632, .f32⟩
  | 12 => ⟨S1x5632, .f32⟩
  | 13 => ⟨S_, .f32⟩
  | 14 => ⟨S3x5632, .f32⟩
  | 15 => ⟨S3x5632, .f32⟩
  | 16 => ⟨S_, .f32⟩
  | 17 => ⟨S8258x5632, .f32⟩
  | 18 => ⟨S8258x5632, .f32⟩
  | 19 => ⟨S2x5632, .f32⟩
  | 20 => ⟨S8256x5632, .f32⟩
  | 21 => ⟨S8256x5632, .bf16⟩
  | 22 => ⟨S1x5632, .f32⟩
  | 23 => ⟨S_, .f32⟩
  | 24 => ⟨S4x5632, .f32⟩
  | 25 => ⟨S8x5632, .f32⟩
  | _ => ⟨S8256x2816, .bf16⟩

abbrev hbmTy (i : Nat) : BufTy := match i / 128 with
  | 0 => hbmTy0_0 i
  | 1 => hbmTy0_1 i
  | _ => ⟨S8256x2816, .bf16⟩

abbrev bufTy : (tb : Table) → Fin (tcTables nBuf tb) → BufTy
  | .hbm, ⟨i, _⟩ => hbmTy i
  | _, _ => ⟨S8256x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_cst_2 : Ref sig .tc := ⟨.hbm, 44, rfl⟩
abbrev main_v37 : Ref sig .tc := ⟨.hbm, 45, rfl⟩
abbrev main_v38 : Ref sig .tc := ⟨.hbm, 46, rfl⟩
abbrev main_cst_3 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_cst_4 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst_5 : Ref sig .tc := ⟨.hbm, 55, rfl⟩
abbrev main_v45 : Ref sig .tc := ⟨.hbm, 56, rfl⟩
abbrev main_v46 : Ref sig .tc := ⟨.hbm, 57, rfl⟩
abbrev main_cst_6 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_7 : Ref sig .tc := ⟨.hbm, 62, rfl⟩
abbrev main_v50 : Ref sig .tc := ⟨.hbm, 63, rfl⟩
abbrev main_v51 : Ref sig .tc := ⟨.hbm, 64, rfl⟩
abbrev main_cst_8 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_cst_9 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_cst_10 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_cst_11 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_cst_12 : Ref sig .tc := ⟨.hbm, 92, rfl⟩
abbrev main_v75 : Ref sig .tc := ⟨.hbm, 93, rfl⟩
abbrev main_v76 : Ref sig .tc := ⟨.hbm, 94, rfl⟩
abbrev main_cst_13 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_cst_14 : Ref sig .tc := ⟨.hbm, 99, rfl⟩
abbrev main_v80 : Ref sig .tc := ⟨.hbm, 100, rfl⟩
abbrev main_v81 : Ref sig .tc := ⟨.hbm, 101, rfl⟩
abbrev main_cst_15 : Ref sig .tc := ⟨.hbm, 102, rfl⟩
abbrev main_v82 : Ref sig .tc := ⟨.hbm, 103, rfl⟩
abbrev main_v83 : Ref sig .tc := ⟨.hbm, 104, rfl⟩
abbrev main_cst_16 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_cst_17 : Ref sig .tc := ⟨.hbm, 110, rfl⟩
abbrev main_v88 : Ref sig .tc := ⟨.hbm, 111, rfl⟩
abbrev main_v89 : Ref sig .tc := ⟨.hbm, 112, rfl⟩
abbrev main_cst_18 : Ref sig .tc := ⟨.hbm, 113, rfl⟩
abbrev main_v90 : Ref sig .tc := ⟨.hbm, 114, rfl⟩
abbrev main_cst_19 : Ref sig .tc := ⟨.hbm, 115, rfl⟩
abbrev main_v91 : Ref sig .tc := ⟨.hbm, 116, rfl⟩
abbrev main_v92 : Ref sig .tc := ⟨.hbm, 117, rfl⟩
abbrev main_cst_20 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_cst_21 : Ref sig .tc := ⟨.hbm, 123, rfl⟩
abbrev main_v97 : Ref sig .tc := ⟨.hbm, 124, rfl⟩
abbrev main_v98 : Ref sig .tc := ⟨.hbm, 125, rfl⟩
abbrev main_cst_22 : Ref sig .tc := ⟨.hbm, 126, rfl⟩
abbrev main_v99 : Ref sig .tc := ⟨.hbm, 127, rfl⟩
abbrev main_v100 : Ref sig .tc := ⟨.hbm, 128, rfl⟩
abbrev main_cst_23 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_cst_24 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_cst_25 : Ref sig .tc := ⟨.hbm, 138, rfl⟩
abbrev main_v108 : Ref sig .tc := ⟨.hbm, 139, rfl⟩
abbrev main_v109 : Ref sig .tc := ⟨.hbm, 140, rfl⟩
abbrev main_cst_26 : Ref sig .tc := ⟨.hbm, 141, rfl⟩
abbrev main_v110 : Ref sig .tc := ⟨.hbm, 142, rfl⟩
abbrev main_v111 : Ref sig .tc := ⟨.hbm, 143, rfl⟩
abbrev main_cst_27 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_cst_28 : Ref sig .tc := ⟨.hbm, 151, rfl⟩
abbrev main_v118 : Ref sig .tc := ⟨.hbm, 152, rfl⟩
abbrev main_v119 : Ref sig .tc := ⟨.hbm, 153, rfl⟩

abbrev nD : Nat := 1
abbrev τ : Topo := Topo.v7x

variable {F : FTy → Type} [FloatOps F]
-- ==== AdamwIn.lean ====
abbrev S8x1024x512 : Shape := ⟨3, ![8, 1024, 512]⟩
abbrev S1024x450 : Shape := ⟨2, ![1024, 450]⟩
abbrev S_ : Shape := ⟨0, ![]⟩
abbrev S1024x62 : Shape := ⟨2, ![1024, 62]⟩
abbrev S1024x512 : Shape := ⟨2, ![1024, 512]⟩
abbrev S8x256x512 : Shape := ⟨3, ![8, 256, 512]⟩
abbrev S256x512 : Shape := ⟨2, ![256, 512]⟩
abbrev S1x256x512 : Shape := ⟨3, ![1, 256, 512]⟩

abbrev nBuf : Space → Nat
  | .hbm => 17
  | .vmem => 16
  | .smem => 0
  | _ => 0

abbrev bufTy : (tb : Table) → Fin (tcTables nBuf tb) → BufTy
  | .hbm, ⟨0, _⟩ => ⟨S8x1024x512, .bf16⟩
  | .hbm, ⟨1, _⟩ => ⟨S1024x450, .f32⟩
  | .hbm, ⟨2, _⟩ => ⟨S1024x450, .f32⟩
  | .hbm, ⟨3, _⟩ => ⟨S1024x450, .f32⟩
  | .hbm, ⟨4, _⟩ => ⟨S_, .f32⟩
  | .hbm, ⟨5, _⟩ => ⟨S1024x62, .f32⟩
  | .hbm, ⟨6, _⟩ => ⟨S1024x512, .f32⟩
  | .hbm, ⟨7, _⟩ => ⟨S_, .f32⟩
  | .hbm, ⟨8, _⟩ => ⟨S1024x62, .f32⟩
  | .hbm, ⟨9, _⟩ => ⟨S1024x512, .f32⟩
  | .hbm, ⟨10, _⟩ => ⟨S_, .f32⟩
  | .hbm, ⟨11, _⟩ => ⟨S1024x62, .f32⟩
  | .hbm, ⟨12, _⟩ => ⟨S1024x512, .f32⟩
  | .hbm, ⟨13, _⟩ => ⟨S1024x512, .f32⟩
  | .hbm, ⟨14, _⟩ => ⟨S1024x512, .f32⟩
  | .hbm, ⟨15, _⟩ => ⟨S1024x512, .f32⟩
  | .hbm, ⟨16, _⟩ => ⟨S1024x512, .f32⟩
  | .local _ .vmem, ⟨0, _⟩ => ⟨S8x256x512, .bf16⟩
  | .local _ .vmem, ⟨1, _⟩ => ⟨S8x256x512, .bf16⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | _, _ => ⟨S8x1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v6_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamwInRIdeal.lean ====
abbrev S8x1024x512 : Shape := ⟨3, ![8, 1024, 512]⟩
abbrev S1024x450 : Shape := ⟨2, ![1024, 450]⟩
abbrev S_ : Shape := ⟨0, ![]⟩
abbrev S1024x62 : Shape := ⟨2, ![1024, 62]⟩
abbrev S1024x512 : Shape := ⟨2, ![1024, 512]⟩

abbrev nBuf : Space → Nat
  | .hbm => 45
  | .vmem => 0
  | .smem => 0
  | _ => 0

abbrev bufTy : (tb : Table) → Fin (tcTables nBuf tb) → BufTy
  | .hbm, ⟨0, _⟩ => ⟨S8x1024x512, .bf16⟩
  | .hbm, ⟨1, _⟩ => ⟨S1024x450, .f32⟩
  | .hbm, ⟨2, _⟩ => ⟨S1024x450, .f32⟩
  | .hbm, ⟨3, _⟩ => ⟨S1024x450, .f32⟩
  | .hbm, ⟨4, _⟩ => ⟨S_, .f32⟩
  | .hbm, ⟨5, _⟩ => ⟨S1024x62, .f32⟩
  | .hbm, ⟨6, _⟩ => ⟨S1024x512, .f32⟩
  | .hbm, ⟨7, _⟩ => ⟨S1024x512, .f32⟩
  | .hbm, ⟨8, _⟩ => ⟨S1024x512, .f32⟩
  | .hbm, ⟨9, _⟩ => ⟨S8x1024x512, .f32⟩
  | .hbm, ⟨10, _⟩ => ⟨S_, .f32⟩
  | .hbm, ⟨11, _⟩ => ⟨S1024x512, .f32⟩
  | .hbm, ⟨12, _⟩ => ⟨S_, .f32⟩
  | .hbm, ⟨13, _⟩ => ⟨S1024x512, .f32⟩
  | .hbm, ⟨14, _⟩ => ⟨S1024x512, .f32⟩
  | .hbm, ⟨15, _⟩ => ⟨S_, .f32⟩
  | .hbm, ⟨16, _⟩ => ⟨S1024x512, .f32⟩
  | .hbm, ⟨17, _⟩ => ⟨S1024x512, .f32⟩
  | .hbm, ⟨18, _⟩ => ⟨S1024x512, .f32⟩
  | .hbm, ⟨19, _⟩ => ⟨S_, .f32⟩
  | .hbm, ⟨20, _⟩ => ⟨S1024x512, .f32⟩
  | .hbm, ⟨21, _⟩ => ⟨S1024x512, .f32⟩
  | .hbm, ⟨22, _⟩ => ⟨S1024x512, .f32⟩
  | .hbm, ⟨23, _⟩ => ⟨S_, .f32⟩
  | .hbm, ⟨24, _⟩ => ⟨S1024x512, .f32⟩
  | .hbm, ⟨25, _⟩ => ⟨S1024x512, .f32⟩
  | .hbm, ⟨26, _⟩ => ⟨S1024x512, .f32⟩
  | .hbm, ⟨27, _⟩ => ⟨S_, .f32⟩
  | .hbm, ⟨28, _⟩ => ⟨S1024x512, .f32⟩
  | .hbm, ⟨29, _⟩ => ⟨S1024x512, .f32⟩
  | .hbm, ⟨30, _⟩ => ⟨S_, .f32⟩
  | .hbm, ⟨31, _⟩ => ⟨S1024x512, .f32⟩
  | .hbm, ⟨32, _⟩ => ⟨S1024x512, .f32⟩
  | .hbm, ⟨33, _⟩ => ⟨S1024x512, .f32⟩
  | .hbm, ⟨34, _⟩ => ⟨S_, .f32⟩
  | .hbm, ⟨35, _⟩ => ⟨S1024x512, .f32⟩
  | .hbm, ⟨36, _⟩ => ⟨S1024x512, .f32⟩
  | .hbm, ⟨37, _⟩ => ⟨S1024x512, .f32⟩
  | .hbm, ⟨38, _⟩ => ⟨S_, .f32⟩
  | .hbm, ⟨39, _⟩ => ⟨S1024x512, .f32⟩
  | .hbm, ⟨40, _⟩ => ⟨S1024x512, .f32⟩
  | .hbm, ⟨41, _⟩ => ⟨S1024x512, .f32⟩
  | .hbm, ⟨42, _⟩ => ⟨S_, .f32⟩
  | .hbm, ⟨43, _⟩ => ⟨S1024x512, .f32⟩
  | .hbm, ⟨44, _⟩ => ⟨S1024x512, .f32⟩
  | _, _ => ⟨S8x1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_9 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]
-- ==== AdamwUp.lean ====
abbrev S8x1024x768 : Shape := ⟨3, ![8, 1024, 768]⟩
abbrev S1024x704 : Shape := ⟨2, ![1024, 704]⟩
abbrev S_ : Shape := ⟨0, ![]⟩
abbrev S1024x64 : Shape := ⟨2, ![1024, 64]⟩
abbrev S1024x768 : Shape := ⟨2, ![1024, 768]⟩
abbrev S8x256x768 : Shape := ⟨3, ![8, 256, 768]⟩
abbrev S256x768 : Shape := ⟨2, ![256, 768]⟩
abbrev S1x256x768 : Shape := ⟨3, ![1, 256, 768]⟩

abbrev nBuf : Space → Nat
  | .hbm => 17
  | .vmem => 16
  | .smem => 0
  | _ => 0

abbrev bufTy : (tb : Table) → Fin (tcTables nBuf tb) → BufTy
  | .hbm, ⟨0, _⟩ => ⟨S8x1024x768, .bf16⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S_, .f32⟩
  | .hbm, ⟨5, _⟩ => ⟨S1024x64, .f32⟩
  | .hbm, ⟨6, _⟩ => ⟨S1024x768, .f32⟩
  | .hbm, ⟨7, _⟩ => ⟨S_, .f32⟩
  | .hbm, ⟨8, _⟩ => ⟨S1024x64, .f32⟩
  | .hbm, ⟨9, _⟩ => ⟨S1024x768, .f32⟩
  | .hbm, ⟨10, _⟩ => ⟨S_, .f32⟩
  | .hbm, ⟨11, _⟩ => ⟨S1024x64, .f32⟩
  | .hbm, ⟨12, _⟩ => ⟨S1024x768, .f32⟩
  | .hbm, ⟨13, _⟩ => ⟨S1024x768, .f32⟩
  | .hbm, ⟨14, _⟩ => ⟨S1024x768, .f32⟩
  | .hbm, ⟨15, _⟩ => ⟨S1024x768, .f32⟩
  | .hbm, ⟨16, _⟩ => ⟨S1024x768, .f32⟩
  | .local _ .vmem, ⟨0, _⟩ => ⟨S8x256x768, .bf16⟩
  | .local _ .vmem, ⟨1, _⟩ => ⟨S8x256x768, .bf16⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | _, _ => ⟨S8x1024x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v6_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamwUpRIdeal.lean ====
abbrev S8x1024x768 : Shape := ⟨3, ![8, 1024, 768]⟩
abbrev S1024x704 : Shape := ⟨2, ![1024, 704]⟩
abbrev S_ : Shape := ⟨0, ![]⟩
abbrev S1024x64 : Shape := ⟨2, ![1024, 64]⟩
abbrev S1024x768 : Shape := ⟨2, ![1024, 768]⟩

abbrev nBuf : Space → Nat
  | .hbm => 45
  | .vmem => 0
  | .smem => 0
  | _ => 0

abbrev bufTy : (tb : Table) → Fin (tcTables nBuf tb) → BufTy
  | .hbm, ⟨0, _⟩ => ⟨S8x1024x768, .bf16⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S_, .f32⟩
  | .hbm, ⟨5, _⟩ => ⟨S1024x64, .f32⟩
  | .hbm, ⟨6, _⟩ => ⟨S1024x768, .f32⟩
  | .hbm, ⟨7, _⟩ => ⟨S1024x768, .f32⟩
  | .hbm, ⟨8, _⟩ => ⟨S1024x768, .f32⟩
  | .hbm, ⟨9, _⟩ => ⟨S8x1024x768, .f32⟩
  | .hbm, ⟨10, _⟩ => ⟨S_, .f32⟩
  | .hbm, ⟨11, _⟩ => ⟨S1024x768, .f32⟩
  | .hbm, ⟨12, _⟩ => ⟨S_, .f32⟩
  | .hbm, ⟨13, _⟩ => ⟨S1024x768, .f32⟩
  | .hbm, ⟨14, _⟩ => ⟨S1024x768, .f32⟩
  | .hbm, ⟨15, _⟩ => ⟨S_, .f32⟩
  | .hbm, ⟨16, _⟩ => ⟨S1024x768, .f32⟩
  | .hbm, ⟨17, _⟩ => ⟨S1024x768, .f32⟩
  | .hbm, ⟨18, _⟩ => ⟨S1024x768, .f32⟩
  | .hbm, ⟨19, _⟩ => ⟨S_, .f32⟩
  | .hbm, ⟨20, _⟩ => ⟨S1024x768, .f32⟩
  | .hbm, ⟨21, _⟩ => ⟨S1024x768, .f32⟩
  | .hbm, ⟨22, _⟩ => ⟨S1024x768, .f32⟩
  | .hbm, ⟨23, _⟩ => ⟨S_, .f32⟩
  | .hbm, ⟨24, _⟩ => ⟨S1024x768, .f32⟩
  | .hbm, ⟨25, _⟩ => ⟨S1024x768, .f32⟩
  | .hbm, ⟨26, _⟩ => ⟨S1024x768, .f32⟩
  | .hbm, ⟨27, _⟩ => ⟨S_, .f32⟩
  | .hbm, ⟨28, _⟩ => ⟨S1024x768, .f32⟩
  | .hbm, ⟨29, _⟩ => ⟨S1024x768, .f32⟩
  | .hbm, ⟨30, _⟩ => ⟨S_, .f32⟩
  | .hbm, ⟨31, _⟩ => ⟨S1024x768, .f32⟩
  | .hbm, ⟨32, _⟩ => ⟨S1024x768, .f32⟩
  | .hbm, ⟨33, _⟩ => ⟨S1024x768, .f32⟩
  | .hbm, ⟨34, _⟩ => ⟨S_, .f32⟩
  | .hbm, ⟨35, _⟩ => ⟨S1024x768, .f32⟩
  | .hbm, ⟨36, _⟩ => ⟨S1024x768, .f32⟩
  | .hbm, ⟨37, _⟩ => ⟨S1024x768, .f32⟩
  | .hbm, ⟨38, _⟩ => ⟨S_, .f32⟩
  | .hbm, ⟨39, _⟩ => ⟨S1024x768, .f32⟩
  | .hbm, ⟨40, _⟩ => ⟨S1024x768, .f32⟩
  | .hbm, ⟨41, _⟩ => ⟨S1024x768, .f32⟩
  | .hbm, ⟨42, _⟩ => ⟨S_, .f32⟩
  | .hbm, ⟨43, _⟩ => ⟨S1024x768, .f32⟩
  | .hbm, ⟨44, _⟩ => ⟨S1024x768, .f32⟩
  | _, _ => ⟨S8x1024x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_9 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]
-- ==== AdamwOut.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S8x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamwOutRIdeal.lean ====
abbrev S8x128x1024 : Shape := ⟨3, ![8, 128, 1024]⟩
abbrev S128x1024 : Shape := ⟨2, ![128, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamwDown.lean ====
abbrev S8x352x1024 : Shape := ⟨3, ![8, 352, 1024]⟩
abbrev S352x1024 : Shape := ⟨2, ![352, 1024]⟩
abbrev S8x176x1024 : Shape := ⟨3, ![8, 176, 1024]⟩
abbrev S176x1024 : Shape := ⟨2, ![176, 1024]⟩
abbrev S1x176x1024 : Shape := ⟨3, ![1, 176, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamwDownRIdeal.lean ====
abbrev S8x352x1024 : Shape := ⟨3, ![8, 352, 1024]⟩
abbrev S352x1024 : Shape := ⟨2, ![352, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S8x352x1024, .f32⟩
  | .hbm, ⟨5, _⟩ => ⟨S_, .f32⟩
  | .hbm, ⟨6, _⟩ => ⟨S352x1024, .f32⟩
  | .hbm, ⟨7, _⟩ => ⟨S_, .f32⟩
  | .hbm, ⟨8, _⟩ => ⟨S352x1024, .f32⟩
  | .hbm, ⟨9, _⟩ => ⟨S352x1024, .f32⟩
  | .hbm, ⟨10, _⟩ => ⟨S_, .f32⟩
  | .hbm, ⟨11, _⟩ => ⟨S352x1024, .f32⟩
  | .hbm, ⟨12, _⟩ => ⟨S352x1024, .f32⟩
  | .hbm, ⟨13, _⟩ => ⟨S352x1024, .f32⟩
  | .hbm, ⟨14, _⟩ => ⟨S_, .f32⟩
  | .hbm, ⟨15, _⟩ => ⟨S352x1024, .f32⟩
  | .hbm, ⟨16, _⟩ => ⟨S352x1024, .f32⟩
  | .hbm, ⟨17, _⟩ => ⟨S352x1024, .f32⟩
  | .hbm, ⟨18, _⟩ => ⟨S_, .f32⟩
  | .hbm, ⟨19, _⟩ => ⟨S352x1024, .f32⟩
  | .hbm, ⟨20, _⟩ => ⟨S352x1024, .f32⟩
  | .hbm, ⟨21, _⟩ => ⟨S352x1024, .f32⟩
  | .hbm, ⟨22, _⟩ => ⟨S_, .f32⟩
  | .hbm, ⟨23, _⟩ => ⟨S352x1024, .f32⟩
  | .hbm, ⟨24, _⟩ => ⟨S352x1024, .f32⟩
  | .hbm, ⟨25, _⟩ => ⟨S_, .f32⟩
  | .hbm, ⟨26, _⟩ => ⟨S352x1024, .f32⟩
  | .hbm, ⟨27, _⟩ => ⟨S352x1024, .f32⟩
  | .hbm, ⟨28, _⟩ => ⟨S352x1024, .f32⟩
  | .hbm, ⟨29, _⟩ => ⟨S_, .f32⟩
  | .hbm, ⟨30, _⟩ => ⟨S352x1024, .f32⟩
  | .hbm, ⟨31, _⟩ => ⟨S352x1024, .f32⟩
  | .hbm, ⟨32, _⟩ => ⟨S352x1024, .f32⟩
  | .hbm, ⟨33, _⟩ => ⟨S_, .f32⟩
  | .hbm, ⟨34, _⟩ => ⟨S352x1024, .f32⟩
  | .hbm, ⟨35, _⟩ => ⟨S352x1024, .f32⟩
  | .hbm, ⟨36, _⟩ => ⟨S352x1024, .f32⟩
  | .hbm, ⟨37, _⟩ => ⟨S_, .f32⟩
  | .hbm, ⟨38, _⟩ => ⟨S352x1024, .f32⟩
  | .hbm, ⟨39, _⟩ => ⟨S352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamwSmall.lean ====
abbrev S8x8x1024 : Shape := ⟨3, ![8, 8, 1024]⟩
abbrev S8x1024 : Shape := ⟨2, ![8, 1024]⟩
abbrev S1x8x1024 : Shape := ⟨3, ![1, 8, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x8x1024, .f32⟩
  | .hbm, ⟨1, _⟩ => ⟨S8x1024, .f32⟩
  | .hbm, ⟨2, _⟩ => ⟨S8x1024, .f32⟩
  | .hbm, ⟨3, _⟩ => ⟨S8x1024, .f32⟩
  | .hbm, ⟨4, _⟩ => ⟨S8x1024, .f32⟩
  | .hbm, ⟨5, _⟩ => ⟨S8x1024, .f32⟩
  | .hbm, ⟨6, _⟩ => ⟨S8x1024, .f32⟩
  | .hbm, ⟨7, _⟩ => ⟨S8x1024, .f32⟩
  | .local _ .vmem, ⟨0, _⟩ => ⟨S8x8x1024, .f32⟩
  | .local _ .vmem, ⟨1, _⟩ => ⟨S8x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | _, _ => ⟨S8x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamwSmallRIdeal.lean ====
abbrev S8x8x1024 : Shape := ⟨3, ![8, 8, 1024]⟩
abbrev S8x1024 : Shape := ⟨2, ![8, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x8x1024, .f32⟩
  | .hbm, ⟨1, _⟩ => ⟨S8x1024, .f32⟩
  | .hbm, ⟨2, _⟩ => ⟨S8x1024, .f32⟩
  | .hbm, ⟨3, _⟩ => ⟨S8x1024, .f32⟩
  | .hbm, ⟨4, _⟩ => ⟨S_, .f32⟩
  | .hbm, ⟨5, _⟩ => ⟨S8x1024, .f32⟩
  | .hbm, ⟨6, _⟩ => ⟨S_, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S_, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S_, .f32⟩
  | .hbm, ⟨18, _⟩ => ⟨S8x1024, .f32⟩
  | .hbm, ⟨19, _⟩ => ⟨S8x1024, .f32⟩
  | .hbm, ⟨20, _⟩ => ⟨S8x1024, .f32⟩
  | .hbm, ⟨21, _⟩ => ⟨S_, .f32⟩
  | .hbm, ⟨22, _⟩ => ⟨S8x1024, .f32⟩
  | .hbm, ⟨23, _⟩ => ⟨S8x1024, .f32⟩
  | .hbm, ⟨24, _⟩ => ⟨S_, .f32⟩
  | .hbm, ⟨25, _⟩ => ⟨S8x1024, .f32⟩
  | .hbm, ⟨26, _⟩ => ⟨S8x1024, .f32⟩
  | .hbm, ⟨27, _⟩ => ⟨S8x1024, .f32⟩
  | .hbm, ⟨28, _⟩ => ⟨S_, .f32⟩
  | .hbm, ⟨29, _⟩ => ⟨S8x1024, .f32⟩
  | .hbm, ⟨30, _⟩ => ⟨S8x1024, .f32⟩
  | .hbm, ⟨31, _⟩ => ⟨S8x1024, .f32⟩
  | .hbm, ⟨32, _⟩ => ⟨S_, .f32⟩
  | .hbm, ⟨33, _⟩ => ⟨S8x1024, .f32⟩
  | .hbm, ⟨34, _⟩ => ⟨S8x1024, .f32⟩
  | .hbm, ⟨35, _⟩ => ⟨S8x1024, .f32⟩
  | .hbm, ⟨36, _⟩ => ⟨S_, .f32⟩
  | .hbm, ⟨37, _⟩ => ⟨S8x1024, .f32⟩
  | .hbm, ⟨38, _⟩ => ⟨S8x1024, .f32⟩
  | _, _ => ⟨S8x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamwRepl.lean ====
abbrev S8x24x1024 : Shape := ⟨3, ![8, 24, 1024]⟩
abbrev S24x1024 : Shape := ⟨2, ![24, 1024]⟩
abbrev S1x24x1024 : Shape := ⟨3, ![1, 24, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x24x1024, .f32⟩
  | .hbm, ⟨1, _⟩ => ⟨S24x1024, .f32⟩
  | .hbm, ⟨2, _⟩ => ⟨S24x1024, .f32⟩
  | .hbm, ⟨3, _⟩ => ⟨S24x1024, .f32⟩
  | .hbm, ⟨4, _⟩ => ⟨S24x1024, .f32⟩
  | .hbm, ⟨5, _⟩ => ⟨S24x1024, .f32⟩
  | .hbm, ⟨6, _⟩ => ⟨S24x1024, .f32⟩
  | .hbm, ⟨7, _⟩ => ⟨S24x1024, .f32⟩
  | .local _ .vmem, ⟨0, _⟩ => ⟨S8x24x1024, .f32⟩
  | .local _ .vmem, ⟨1, _⟩ => ⟨S24x1024, .f32⟩
  | .local _ .vmem, ⟨2, _⟩ => ⟨S24x1024, .f32⟩
  | .local _ .vmem, ⟨3, _⟩ => ⟨S24x1024, .f32⟩
  | .local _ .vmem, ⟨4, _⟩ => ⟨S24x1024, .f32⟩
  | .local _ .vmem, ⟨5, _⟩ => ⟨S24x1024, .f32⟩
  | .local _ .vmem, ⟨6, _⟩ => ⟨S24x1024, .f32⟩
  | .local _ .vmem, ⟨7, _⟩ => ⟨S24x1024, .f32⟩
  | _, _ => ⟨S8x24x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x24x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S24x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S24x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S24x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S24x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S24x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S24x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S24x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamwReplRIdeal.lean ====
abbrev S8x24x1024 : Shape := ⟨3, ![8, 24, 1024]⟩
abbrev S24x1024 : Shape := ⟨2, ![24, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x24x1024, .f32⟩
  | .hbm, ⟨1, _⟩ => ⟨S24x1024, .f32⟩
  | .hbm, ⟨2, _⟩ => ⟨S24x1024, .f32⟩
  | .hbm, ⟨3, _⟩ => ⟨S24x1024, .f32⟩
  | .hbm, ⟨4, _⟩ => ⟨S_, .f32⟩
  | .hbm, ⟨5, _⟩ => ⟨S24x1024, .f32⟩
  | .hbm, ⟨6, _⟩ => ⟨S_, .f32⟩
  | .hbm, ⟨7, _⟩ => ⟨S24x1024, .f32⟩
  | .hbm, ⟨8, _⟩ => ⟨S24x1024, .f32⟩
  | .hbm, ⟨9, _⟩ => ⟨S_, .f32⟩
  | .hbm, ⟨10, _⟩ => ⟨S24x1024, .f32⟩
  | .hbm, ⟨11, _⟩ => ⟨S24x1024, .f32⟩
  | .hbm, ⟨12, _⟩ => ⟨S24x1024, .f32⟩
  | .hbm, ⟨13, _⟩ => ⟨S_, .f32⟩
  | .hbm, ⟨14, _⟩ => ⟨S24x1024, .f32⟩
  | .hbm, ⟨15, _⟩ => ⟨S24x1024, .f32⟩
  | .hbm, ⟨16, _⟩ => ⟨S24x1024, .f32⟩
  | .hbm, ⟨17, _⟩ => ⟨S_, .f32⟩
  | .hbm, ⟨18, _⟩ => ⟨S24x1024, .f32⟩
  | .hbm, ⟨19, _⟩ => ⟨S24x1024, .f32⟩
  | .hbm, ⟨20, _⟩ => ⟨S24x1024, .f32⟩
  | .hbm, ⟨21, _⟩ => ⟨S_, .f32⟩
  | .hbm, ⟨22, _⟩ => ⟨S24x1024, .f32⟩
  | .hbm, ⟨23, _⟩ => ⟨S24x1024, .f32⟩
  | .hbm, ⟨24, _⟩ => ⟨S_, .f32⟩
  | .hbm, ⟨25, _⟩ => ⟨S24x1024, .f32⟩
  | .hbm, ⟨26, _⟩ => ⟨S24x1024, .f32⟩
  | .hbm, ⟨27, _⟩ => ⟨S24x1024, .f32⟩
  | .hbm, ⟨28, _⟩ => ⟨S_, .f32⟩
  | .hbm, ⟨29, _⟩ => ⟨S24x1024, .f32⟩
  | .hbm, ⟨30, _⟩ => ⟨S24x1024, .f32⟩
  | .hbm, ⟨31, _⟩ => ⟨S24x1024, .f32⟩
  | .hbm, ⟨32, _⟩ => ⟨S_, .f32⟩
  | .hbm, ⟨33, _⟩ => ⟨S24x1024, .f32⟩
  | .hbm, ⟨34, _⟩ => ⟨S24x1024, .f32⟩
  | .hbm, ⟨35, _⟩ => ⟨S24x1024, .f32⟩
  | .hbm, ⟨36, _⟩ => ⟨S_, .f32⟩
  | .hbm, ⟨37, _⟩ => ⟨S24x1024, .f32⟩
  | .hbm, ⟨38, _⟩ => ⟨S24x1024, .f32⟩
  | _, _ => ⟨S8x24x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== StepSmall.lean ====
abbrev S8x16x128 : Shape := ⟨3, ![8, 16, 128]⟩
abbrev S8x2x16x32 : Shape := ⟨4, ![8, 2, 16, 32]⟩
abbrev S8x2x3x704 : Shape := ⟨4, ![8, 2, 3, 704]⟩
abbrev S16x128 : Shape := ⟨2, ![16, 128]⟩
abbrev S2x16x32 : Shape := ⟨3, ![2, 16, 32]⟩
abbrev S2x3x704 : Shape := ⟨3, ![2, 3, 704]⟩
abbrev S2048 : Shape := ⟨1, ![2048]⟩
abbrev S1024 : Shape := ⟨1, ![1024]⟩
abbrev S4224 : Shape := ⟨1, ![4224]⟩
abbrev S_ : Shape := ⟨0, ![]⟩
abbrev S896 : Shape := ⟨1, ![896]⟩
abbrev S8192 : Shape := ⟨1, ![8192]⟩
abbrev S8x1024 : Shape := ⟨2, ![8, 1024]⟩
abbrev S8x2048 : Shape := ⟨2, ![8, 2048]⟩
abbrev S8x4224 : Shape := ⟨2, ![8, 4224]⟩
abbrev S8x896 : Shape := ⟨2, ![8, 896]⟩
abbrev S8x8192 : Shape := ⟨2, ![8, 8192]⟩
abbrev S8x8x1024 : Shape := ⟨3, ![8, 8, 1024]⟩
abbrev S1x8x1024 : Shape := ⟨3, ![1, 8, 1024]⟩

abbrev nBuf : Space → Nat
  | .hbm => 44
  | .vmem => 8
  | .smem => 0
  | _ => 0

abbrev bufTy : (tb : Table) → Fin (tcTables nBuf tb) → BufTy
  | .hbm, ⟨0, _⟩ => ⟨S8x16x128, .f32⟩
  | .hbm, ⟨1, _⟩ => ⟨S8x2x16x32, .f32⟩
  | .hbm, ⟨2, _⟩ => ⟨S8x2x3x704, .f32⟩
  | .hbm, ⟨3, _⟩ => ⟨S16x128, .f32⟩
  | .hbm, ⟨4, _⟩ => ⟨S2x16x32, .f32⟩
  | .hbm, ⟨5, _⟩ => ⟨S2x3x704, .f32⟩
  | .hbm, ⟨6, _⟩ => ⟨S16x128, .f32⟩
  | .hbm, ⟨7, _⟩ => ⟨S2x16x32, .f32⟩
  | .hbm, ⟨8, _⟩ => ⟨S2x3x704, .f32⟩
  | .hbm, ⟨9, _⟩ => ⟨S16x128, .f32⟩
  | .hbm, ⟨10, _⟩ => ⟨S2x16x32, .f32⟩
  | .hbm, ⟨11, _⟩ => ⟨S2x3x704, .f32⟩
  | .hbm, ⟨12, _⟩ => ⟨S2048, .f32⟩
  | .hbm, ⟨13, _⟩ => ⟨S1024, .f32⟩
  | .hbm, ⟨14, _⟩ => ⟨S4224, .f32⟩
  | .hbm, ⟨15, _⟩ => ⟨S_, .f32⟩
  | .hbm, ⟨16, _⟩ => ⟨S896, .f32⟩
  | .hbm, ⟨17, _⟩ => ⟨S8192, .f32⟩
  | .hbm, ⟨18, _⟩ => ⟨S8x1024, .f32⟩
  | .hbm, ⟨19, _⟩ => ⟨S2048, .f32⟩
  | .hbm, ⟨20, _⟩ => ⟨S1024, .f32⟩
  | .hbm, ⟨21, _⟩ => ⟨S4224, .f32⟩
  | .hbm, ⟨22, _⟩ => ⟨S_, .f32⟩
  | .hbm, ⟨23, _⟩ => ⟨S896, .f32⟩
  | .hbm, ⟨24, _⟩ => ⟨S8192, .f32⟩
  | .hbm, ⟨25, _⟩ => ⟨S8x1024, .f32⟩
  | .hbm, ⟨26, _⟩ => ⟨S2048, .f32⟩
  | .hbm, ⟨27, _⟩ => ⟨S1024, .f32⟩
  | .hbm, ⟨28, _⟩ => ⟨S4224, .f32⟩
  | .hbm, ⟨29, _⟩ => ⟨S_, .f32⟩
  | .hbm, ⟨30, _⟩ => ⟨S896, .f32⟩
  | .hbm, ⟨31, _⟩ => ⟨S8192, .f32⟩
  | .hbm, ⟨32, _⟩ => ⟨S8x1024, .f32⟩
  | .hbm, ⟨33, _⟩ => ⟨S8x2048, .f32⟩
  | .hbm, ⟨34, _⟩ => ⟨S8x1024, .f32⟩
  | .hbm, ⟨35, _⟩ => ⟨S8x4224, .f32⟩
  | .hbm, ⟨36, _⟩ => ⟨S_, .f32⟩
  | .hbm, ⟨37, _⟩ => ⟨S8x896, .f32⟩
  | .hbm, ⟨38, _⟩ => ⟨S8x8192, .f32⟩
  | .hbm, ⟨39, _⟩ => ⟨S8x8x1024, .f32⟩
  | .hbm, ⟨40, _⟩ => ⟨S8x1024, .f32⟩
  | .hbm, ⟨41, _⟩ => ⟨S8x1024, .f32⟩
  | .hbm, ⟨42, _⟩ => ⟨S8x1024, .f32⟩
  | .hbm, ⟨43, _⟩ => ⟨S8x1024, .f32⟩
  | .local _ .vmem, ⟨0, _⟩ => ⟨S8x8x1024, .f32⟩
  | .local _ .vmem, ⟨1, _⟩ => ⟨S8x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | _, _ => ⟨S8x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_1 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_2 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24_0 : Ref sig .tc := ⟨.hbm, 40, rfl⟩
abbrev main_v24_1 : Ref sig .tc := ⟨.hbm, 41, rfl⟩
abbrev main_v24_2 : Ref sig .tc := ⟨.hbm, 42, rfl⟩
abbrev main_v24_3 : Ref sig .tc := ⟨.hbm, 43, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== StepSmallRIdeal.lean ====
abbrev S8x16x128 : Shape := ⟨3, ![8, 16, 128]⟩
abbrev S8x2x16x32 : Shape := ⟨4, ![8, 2, 16, 32]⟩
abbrev S8x2x3x704 : Shape := ⟨4, ![8, 2, 3, 704]⟩
abbrev S16x128 : Shape := ⟨2, ![16, 128]⟩
abbrev S2x16x32 : Shape := ⟨3, ![2, 16, 32]⟩
abbrev S2x3x704 : Shape := ⟨3, ![2, 3, 704]⟩
abbrev S_ : Shape := ⟨0, ![]⟩
abbrev S2048 : Shape := ⟨1, ![2048]⟩
abbrev S1024 : Shape := ⟨1, ![1024]⟩
abbrev S4224 : Shape := ⟨1, ![4224]⟩
abbrev S896 : Shape := ⟨1, ![896]⟩
abbrev S8192 : Shape := ⟨1, ![8192]⟩
abbrev S8x1024 : Shape := ⟨2, ![8, 1024]⟩

abbrev nBuf : Space → Nat
  | .hbm => 145
  | .vmem => 0
  | .smem => 0
  | _ => 0

abbrev hbmTy0_0 (i : Nat) : BufTy := match i % 128 with
  | 0 => ⟨S8x16x128, .f32⟩
  | 1 => ⟨S8x2x16x32, .f32⟩
  | 2 => ⟨S8x2x3x704, .f32⟩
  | 3 => ⟨S16x128, .f32⟩
  | 4 => ⟨S2x16x32, .f32⟩
  | 5 => ⟨S2x3x704, .f32⟩
  | 6 => ⟨S16x128, .f32⟩
  | 7 => ⟨S2x16x32, .f32⟩
  | 8 => ⟨S2x3x704, .f32⟩
  | 9 => ⟨S16x128, .f32⟩
  | 10 => ⟨S2x16x32, .f32⟩
  | 11 => ⟨S2x3x704, .f32⟩
  | 12 => ⟨S_, .f32⟩
  | 13 => ⟨S16x128, .f32⟩
  | 14 => ⟨S_, .f32⟩
  | 15 => ⟨S16x128, .f32⟩
  | 16 => ⟨S16x128, .f32⟩
  | 17 => ⟨S_, .f32⟩
  | 18 => ⟨S16x128, .f32⟩
  | 19 => ⟨S16x128, .f32⟩
  | 20 => ⟨S16x128, .f32⟩
  | 21 => ⟨S_, .f32⟩
  | 22 => ⟨S16x128, .f32⟩
  | 23 => ⟨S16x128, .f32⟩
  | 24 => ⟨S16x128, .f32⟩
  | 25 => ⟨S_, .f32⟩
  | 26 => ⟨S16x128, .f32⟩
  | 27 => ⟨S16x128, .f32⟩
  | 28 => ⟨S16x128, .f32⟩
  | 29 => ⟨S_, .f32⟩
  | 30 => ⟨S16x128, .f32⟩
  | 31 => ⟨S16x128, .f32⟩
  | 32 => ⟨S_, .f32⟩
  | 33 => ⟨S16x128, .f32⟩
  | 34 => ⟨S16x128, .f32⟩
  | 35 => ⟨S16x128, .f32⟩
  | 36 => ⟨S_, .f32⟩
  | 37 => ⟨S16x128, .f32⟩
  | 38 => ⟨S16x128, .f32⟩
  | 39 => ⟨S16x128, .f32⟩
  | 40 => ⟨S_, .f32⟩
  | 41 => ⟨S16x128, .f32⟩
  | 42 => ⟨S16x128, .f32⟩
  | 43 => ⟨S16x128, .f32⟩
  | 44 => ⟨S_, .f32⟩
  | 45 => ⟨S16x128, .f32⟩
  | 46 => ⟨S16x128, .f32⟩
  | 47 => ⟨S_, .f32⟩
  | 48 => ⟨S2x16x32, .f32⟩
  | 49 => ⟨S_, .f32⟩
  | 50 => ⟨S2x16x32, .f32⟩
  | 51 => ⟨S2x16x32, .f32⟩
  | 52 => ⟨S_, .f32⟩
  | 53 => ⟨S2x16x32, .f32⟩
  | 54 => ⟨S2x16x32, .f32⟩
  | 55 => ⟨S2x16x32, .f32⟩
  | 56 => ⟨S_, .f32⟩
  | 57 => ⟨S2x16x32, .f32⟩
  | 58 => ⟨S2x16x32, .f32⟩
  | 59 => ⟨S2x16x32, .f32⟩
  | 60 => ⟨S_, .f32⟩
  | 61 => ⟨S2x16x32, .f32⟩
  | 62 => ⟨S2x16x32, .f32⟩
  | 63 => ⟨S2x16x32, .f32⟩
  | 64 => ⟨S_, .f32⟩
  | 65 => ⟨S2x16x32, .f32⟩
  | 66 => ⟨S2x16x32, .f32⟩
  | 67 => ⟨S_, .f32⟩
  | 68 => ⟨S2x16x32, .f32⟩
  | 69 => ⟨S2x16x32, .f32⟩
  | 70 => ⟨S2x16x32, .f32⟩
  | 71 => ⟨S_, .f32⟩
  | 72 => ⟨S2x16x32, .f32⟩
  | 73 => ⟨S2x16x32, .f32⟩
  | 74 => ⟨S2x16x32, .f32⟩
  | 75 => ⟨S_, .f32⟩
  | 76 => ⟨S2x16x32, .f32⟩
  | 77 => ⟨S2x16x32, .f32⟩
  | 78 => ⟨S2x16x32, .f32⟩
  | 79 => ⟨S_, .f32⟩
  | 80 => ⟨S2x16x32, .f32⟩
  | 81 => ⟨S2x16x32, .f32⟩
  | 82 => ⟨S_, .f32⟩
  | 83 => ⟨S2x3x704, .f32⟩
  | 84 => ⟨S_, .f32⟩
  | 85 => ⟨S2x3x704, .f32⟩
  | 86 => ⟨S2x3x704, .f32⟩
  | 87 => ⟨S_, .f32⟩
  | 88 => ⟨S2x3x704, .f32⟩
  | 89 => ⟨S2x3x704, .f32⟩
  | 90 => ⟨S2x3x704, .f32⟩
  | 91 => ⟨S_, .f32⟩
  | 92 => ⟨S2x3x704, .f32⟩
  | 93 => ⟨S2x3x704, .f32⟩
  | 94 => ⟨S2x3x704, .f32⟩
  | 95 => ⟨S_, .f32⟩
  | 96 => ⟨S2x3x704, .f32⟩
  | 97 => ⟨S2x3x704, .f32⟩
  | 98 => ⟨S2x3x704, .f32⟩
  | 99 => ⟨S_, .f32⟩
  | 100 => ⟨S2x3x704, .f32⟩
  | 101 => ⟨S2x3x704, .f32⟩
  | 102 => ⟨S_, .f32⟩
  | 103 => ⟨S2x3x704, .f32⟩
  | 104 => ⟨S2x3x704, .f32⟩
  | 105 => ⟨S2x3x704, .f32⟩
  | 106 => ⟨S_, .f32⟩
  | 107 => ⟨S2x3x704, .f32⟩
  | 108 => ⟨S2x3x704, .f32⟩
  | 109 => ⟨S2x3x704, .f32⟩
  | 110 => ⟨S_, .f32⟩
  | 111 => ⟨S2x3x704, .f32⟩
  | 112 => ⟨S2x3x704, .f32⟩
  | 113 => ⟨S2x3x704, .f32⟩
  | 114 => ⟨S_, .f32⟩
  | 115 => ⟨S2x3x704, .f32⟩
  | 116 => ⟨S2x3x704, .f32⟩
  | 117 => ⟨S2048, .f32⟩
  | 118 => ⟨S1024, .f32⟩
  | 119 => ⟨S4224, .f32⟩
  | 120 => ⟨S_, .f32⟩
  | 121 => ⟨S896, .f32⟩
  | 122 => ⟨S8192, .f32⟩
  | 123 => ⟨S8x1024, .f32⟩
  | 124 => ⟨S2048, .f32⟩
  | 125 => ⟨S1024, .f32⟩
  | 126 => ⟨S4224, .f32⟩
  | 127 => ⟨S_, .f32⟩
  | _ => ⟨S8x16x128, .f32⟩

abbrev hbmTy0_1 (i : Nat) : BufTy := match i % 128 with
  | 0 => ⟨S896, .f32⟩
  | 1 => ⟨S8192, .f32⟩
  | 2 => ⟨S8x1024, .f32⟩
  | 3 => ⟨S2048, .f32⟩
  | 4 => ⟨S1024, .f32⟩
  | 5 => ⟨S4224, .f32⟩
  | 6 => ⟨S_, .f32⟩
  | 7 => ⟨S896, .f32⟩
  | 8 => ⟨S8192, .f32⟩
  | 9 => ⟨S8x1024, .f32⟩
  | 10 => ⟨S2048, .f32⟩
  | 11 => ⟨S1024, .f32⟩
  | 12 => ⟨S4224, .f32⟩
  | 13 => ⟨S_, .f32⟩
  | 14 => ⟨S896, .f32⟩
  | 15 => ⟨S8192, .f32⟩
  | 16 => ⟨S8x1024, .f32⟩
  | _ => ⟨S8x16x128, .f32⟩

abbrev hbmTy (i : Nat) : BufTy := match i / 128 with
  | 0 => hbmTy0_0 i
  | 1 => hbmTy0_1 i
  | _ => ⟨S8x16x128, .f32⟩

abbrev bufTy : (tb : Table) → Fin (tcTables nBuf tb) → BufTy
  | .hbm, ⟨i, _⟩ => hbmTy i
  | _, _ => ⟨S8x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_cst_1 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst_3 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_4 : Ref sig .tc := ⟨.hbm, 29, rfl⟩
abbrev main_v12 : Ref sig .tc := ⟨.hbm, 30, rfl⟩
abbrev main_v13 : Ref sig .tc := ⟨.hbm, 31, rfl⟩
abbrev main_cst_5 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst_6 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_7 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_8 : Ref sig .tc := ⟨.hbm, 44, rfl⟩
abbrev main_v23 : Ref sig .tc := ⟨.hbm, 45, rfl⟩
abbrev main_v24 : Ref sig .tc := ⟨.hbm, 46, rfl⟩
abbrev main_cst_9 : Ref sig .tc := ⟨.hbm, 47, rfl⟩
abbrev main_v25 : Ref sig .tc := ⟨.hbm, 48, rfl⟩
abbrev main_cst_10 : Ref sig .tc := ⟨.hbm, 49, rfl⟩
abbrev main_v26 : Ref sig .tc := ⟨.hbm, 50, rfl⟩
abbrev main_v27 : Ref sig .tc := ⟨.hbm, 51, rfl⟩
abbrev main_cst_11 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_12 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_13 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_14 : Ref sig .tc := ⟨.hbm, 64, rfl⟩
abbrev main_v37 : Ref sig .tc := ⟨.hbm, 65, rfl⟩
abbrev main_v38 : Ref sig .tc := ⟨.hbm, 66, rfl⟩
abbrev main_cst_15 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_16 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_cst_17 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_cst_18 : Ref sig .tc := ⟨.hbm, 79, rfl⟩
abbrev main_v48 : Ref sig .tc := ⟨.hbm, 80, rfl⟩
abbrev main_v49 : Ref sig .tc := ⟨.hbm, 81, rfl⟩
abbrev main_cst_19 : Ref sig .tc := ⟨.hbm, 82, rfl⟩
abbrev main_v50 : Ref sig .tc := ⟨.hbm, 83, rfl⟩
abbrev main_cst_20 : Ref sig .tc := ⟨.hbm, 84, rfl⟩
abbrev main_v51 : Ref sig .tc := ⟨.hbm, 85, rfl⟩
abbrev main_v52 : Ref sig .tc := ⟨.hbm, 86, rfl⟩
abbrev main_cst_21 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_cst_22 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_cst_23 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_cst_24 : Ref sig .tc := ⟨.hbm, 99, rfl⟩
abbrev main_v62 : Ref sig .tc := ⟨.hbm, 100, rfl⟩
abbrev main_v63 : Ref sig .tc := ⟨.hbm, 101, rfl⟩
abbrev main_cst_25 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_cst_26 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_cst_27 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_cst_28 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_cst_29 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_cst_30 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_cst_31 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_cst_32 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩

abbrev nD : Nat := 1
abbrev τ : Topo := Topo.v7x

variable {F : FTy → Type} [FloatOps F]
-- ==== StepRepl.lean ====
abbrev S8x2x1024 : Shape := ⟨3, ![8, 2, 1024]⟩
abbrev S8x2x256 : Shape := ⟨3, ![8, 2, 256]⟩
abbrev S8x2x512 : Shape := ⟨3, ![8, 2, 512]⟩
abbrev S8x2x5632 : Shape := ⟨3, ![8, 2, 5632]⟩
abbrev S2x1024 : Shape := ⟨2, ![2, 1024]⟩
abbrev S2x256 : Shape := ⟨2, ![2, 256]⟩
abbrev S2x512 : Shape := ⟨2, ![2, 512]⟩
abbrev S2x5632 : Shape := ⟨2, ![2, 5632]⟩
abbrev S2048 : Shape := ⟨1, ![2048]⟩
abbrev S512 : Shape := ⟨1, ![512]⟩
abbrev S1024 : Shape := ⟨1, ![1024]⟩
abbrev S11264 : Shape := ⟨1, ![11264]⟩
abbrev S_ : Shape := ⟨0, ![]⟩
abbrev S2560 : Shape := ⟨1, ![2560]⟩
abbrev S24576 : Shape := ⟨1, ![24576]⟩
abbrev S24x1024 : Shape := ⟨2, ![24, 1024]⟩
abbrev S8x2048 : Shape := ⟨2, ![8, 2048]⟩
abbrev S8x512 : Shape := ⟨2, ![8, 512]⟩
abbrev S8x1024 : Shape := ⟨2, ![8, 1024]⟩
abbrev S8x11264 : Shape := ⟨2, ![8, 11264]⟩
abbrev S8x2560 : Shape := ⟨2, ![8, 2560]⟩
abbrev S8x24576 : Shape := ⟨2, ![8, 24576]⟩
abbrev S8x24x1024 : Shape := ⟨3, ![8, 24, 1024]⟩
abbrev S1x24x1024 : Shape := ⟨3, ![1, 24, 1024]⟩

abbrev nBuf : Space → Nat
  | .hbm => 84
  | .vmem => 8
  | .smem => 0
  | _ => 0

abbrev bufTy : (tb : Table) → Fin (tcTables nBuf tb) → BufTy
  | .hbm, ⟨0, _⟩ => ⟨S8x2x1024, .f32⟩
  | .hbm, ⟨1, _⟩ => ⟨S8x2x256, .f32⟩
  | .hbm, ⟨2, _⟩ => ⟨S8x2x512, .f32⟩
  | .hbm, ⟨3, _⟩ => ⟨S8x2x512, .f32⟩
  | .hbm, ⟨4, _⟩ => ⟨S8x2x1024, .f32⟩
  | .hbm, ⟨5, _⟩ => ⟨S8x2x1024, .f32⟩
  | .hbm, ⟨6, _⟩ => ⟨S8x2x5632, .f32⟩
  | .hbm, ⟨7, _⟩ => ⟨S8x2x1024, .f32⟩
  | .hbm, ⟨8, _⟩ => ⟨S2x1024, .f32⟩
  | .hbm, ⟨9, _⟩ => ⟨S2x256, .f32⟩
  | .hbm, ⟨10, _⟩ => ⟨S2x512, .f32⟩
  | .hbm, ⟨11, _⟩ => ⟨S2x512, .f32⟩
  | .hbm, ⟨12, _⟩ => ⟨S2x1024, .f32⟩
  | .hbm, ⟨13, _⟩ => ⟨S2x1024, .f32⟩
  | .hbm, ⟨14, _⟩ => ⟨S2x5632, .f32⟩
  | .hbm, ⟨15, _⟩ => ⟨S2x1024, .f32⟩
  | .hbm, ⟨16, _⟩ => ⟨S2x1024, .f32⟩
  | .hbm, ⟨17, _⟩ => ⟨S2x256, .f32⟩
  | .hbm, ⟨18, _⟩ => ⟨S2x512, .f32⟩
  | .hbm, ⟨19, _⟩ => ⟨S2x512, .f32⟩
  | .hbm, ⟨20, _⟩ => ⟨S2x1024, .f32⟩
  | .hbm, ⟨21, _⟩ => ⟨S2x1024, .f32⟩
  | .hbm, ⟨22, _⟩ => ⟨S2x5632, .f32⟩
  | .hbm, ⟨23, _⟩ => ⟨S2x1024, .f32⟩
  | .hbm, ⟨24, _⟩ => ⟨S2x1024, .f32⟩
  | .hbm, ⟨25, _⟩ => ⟨S2x256, .f32⟩
  | .hbm, ⟨26, _⟩ => ⟨S2x512, .f32⟩
  | .hbm, ⟨27, _⟩ => ⟨S2x512, .f32⟩
  | .hbm, ⟨28, _⟩ => ⟨S2x1024, .f32⟩
  | .hbm, ⟨29, _⟩ => ⟨S2x1024, .f32⟩
  | .hbm, ⟨30, _⟩ => ⟨S2x5632, .f32⟩
  | .hbm, ⟨31, _⟩ => ⟨S2x1024, .f32⟩
  | .hbm, ⟨32, _⟩ => ⟨S2048, .f32⟩
  | .hbm, ⟨33, _⟩ => ⟨S512, .f32⟩
  | .hbm, ⟨34, _⟩ => ⟨S1024, .f32⟩
  | .hbm, ⟨35, _⟩ => ⟨S1024, .f32⟩
  | .hbm, ⟨36, _⟩ => ⟨S2048, .f32⟩
  | .hbm, ⟨37, _⟩ => ⟨S2048, .f32⟩
  | .hbm, ⟨38, _⟩ => ⟨S11264, .f32⟩
  | .hbm, ⟨39, _⟩ => ⟨S2048, .f32⟩
  | .hbm, ⟨40, _⟩ => ⟨S_, .f32⟩
  | .hbm, ⟨41, _⟩ => ⟨S2560, .f32⟩
  | .hbm, ⟨42, _⟩ => ⟨S24576, .f32⟩
  | .hbm, ⟨43, _⟩ => ⟨S24x1024, .f32⟩
  | .hbm, ⟨44, _⟩ => ⟨S2048, .f32⟩
  | .hbm, ⟨45, _⟩ => ⟨S512, .f32⟩
  | .hbm, ⟨46, _⟩ => ⟨S1024, .f32⟩
  | .hbm, ⟨47, _⟩ => ⟨S1024, .f32⟩
  | .hbm, ⟨48, _⟩ => ⟨S2048, .f32⟩
  | .hbm, ⟨49, _⟩ => ⟨S2048, .f32⟩
  | .hbm, ⟨50, _⟩ => ⟨S11264, .f32⟩
  | .hbm, ⟨51, _⟩ => ⟨S2048, .f32⟩
  | .hbm, ⟨52, _⟩ => ⟨S_, .f32⟩
  | .hbm, ⟨53, _⟩ => ⟨S2560, .f32⟩
  | .hbm, ⟨54, _⟩ => ⟨S24576, .f32⟩
  | .hbm, ⟨55, _⟩ => ⟨S24x1024, .f32⟩
  | .hbm, ⟨56, _⟩ => ⟨S2048, .f32⟩
  | .hbm, ⟨57, _⟩ => ⟨S512, .f32⟩
  | .hbm, ⟨58, _⟩ => ⟨S1024, .f32⟩
  | .hbm, ⟨59, _⟩ => ⟨S1024, .f32⟩
  | .hbm, ⟨60, _⟩ => ⟨S2048, .f32⟩
  | .hbm, ⟨61, _⟩ => ⟨S2048, .f32⟩
  | .hbm, ⟨62, _⟩ => ⟨S11264, .f32⟩
  | .hbm, ⟨63, _⟩ => ⟨S2048, .f32⟩
  | .hbm, ⟨64, _⟩ => ⟨S_, .f32⟩
  | .hbm, ⟨65, _⟩ => ⟨S2560, .f32⟩
  | .hbm, ⟨66, _⟩ => ⟨S24576, .f32⟩
  | .hbm, ⟨67, _⟩ => ⟨S24x1024, .f32⟩
  | .hbm, ⟨68, _⟩ => ⟨S8x2048, .f32⟩
  | .hbm, ⟨69, _⟩ => ⟨S8x512, .f32⟩
  | .hbm, ⟨70, _⟩ => ⟨S8x1024, .f32⟩
  | .hbm, ⟨71, _⟩ => ⟨S8x1024, .f32⟩
  | .hbm, ⟨72, _⟩ => ⟨S8x2048, .f32⟩
  | .hbm, ⟨73, _⟩ => ⟨S8x2048, .f32⟩
  | .hbm, ⟨74, _⟩ => ⟨S8x11264, .f32⟩
  | .hbm, ⟨75, _⟩ => ⟨S8x2048, .f32⟩
  | .hbm, ⟨76, _⟩ => ⟨S_, .f32⟩
  | .hbm, ⟨77, _⟩ => ⟨S8x2560, .f32⟩
  | .hbm, ⟨78, _⟩ => ⟨S8x24576, .f32⟩
  | .hbm, ⟨79, _⟩ => ⟨S8x24x1024, .f32⟩
  | .hbm, ⟨80, _⟩ => ⟨S24x1024, .f32⟩
  | .hbm, ⟨81, _⟩ => ⟨S24x1024, .f32⟩
  | .hbm, ⟨82, _⟩ => ⟨S24x1024, .f32⟩
  | .hbm, ⟨83, _⟩ => ⟨S24x1024, .f32⟩
  | .local _ .vmem, ⟨0, _⟩ => ⟨S8x24x1024, .f32⟩
  | .local _ .vmem, ⟨1, _⟩ => ⟨S24x1024, .f32⟩
  | .local _ .vmem, ⟨2, _⟩ => ⟨S24x1024, .f32⟩
  | .local _ .vmem, ⟨3, _⟩ => ⟨S24x1024, .f32⟩
  | .local _ .vmem, ⟨4, _⟩ => ⟨S24x1024, .f32⟩
  | .local _ .vmem, ⟨5, _⟩ => ⟨S24x1024, .f32⟩
  | .local _ .vmem, ⟨6, _⟩ => ⟨S24x1024, .f32⟩
  | .local _ .vmem, ⟨7, _⟩ => ⟨S24x1024, .f32⟩
  | _, _ => ⟨S8x2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_v0 : Ref sig .tc := ⟨.hbm, 32, rfl⟩
abbrev main_v1 : Ref sig .tc := ⟨.hbm, 33, rfl⟩
abbrev main_v2 : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_cst : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_cst_0 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_cst_1 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_cst_2 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44_0 : Ref sig .tc := ⟨.hbm, 80, rfl⟩
abbrev main_v44_1 : Ref sig .tc := ⟨.hbm, 81, rfl⟩
abbrev main_v44_2 : Ref sig .tc := ⟨.hbm, 82, rfl⟩
abbrev main_v44_3 : Ref sig .tc := ⟨.hbm, 83, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x24x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S24x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S24x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S24x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S24x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S24x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S24x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S24x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== StepReplRIdeal.lean ====
abbrev S8x2x1024 : Shape := ⟨3, ![8, 2, 1024]⟩
abbrev S8x2x256 : Shape := ⟨3, ![8, 2, 256]⟩
abbrev S8x2x512 : Shape := ⟨3, ![8, 2, 512]⟩
abbrev S8x2x5632 : Shape := ⟨3, ![8, 2, 5632]⟩
abbrev S2x1024 : Shape := ⟨2, ![2, 1024]⟩
abbrev S2x256 : Shape := ⟨2, ![2, 256]⟩
abbrev S2x512 : Shape := ⟨2, ![2, 512]⟩
abbrev S2x5632 : Shape := ⟨2, ![2, 5632]⟩
abbrev S_ : Shape := ⟨0, ![]⟩
abbrev S2048 : Shape := ⟨1, ![2048]⟩
abbrev S512 : Shape := ⟨1, ![512]⟩
abbrev S1024 : Shape := ⟨1, ![1024]⟩
abbrev S11264 : Shape := ⟨1, ![11264]⟩
abbrev S2560 : Shape := ⟨1, ![2560]⟩
abbrev S24576 : Shape := ⟨1, ![24576]⟩
abbrev S24x1024 : Shape := ⟨2, ![24, 1024]⟩

abbrev nBuf : Space → Nat
  | .hbm => 360
  | .vmem => 0
  | .smem => 0
  | _ => 0

abbrev hbmTy0_0 (i : Nat) : BufTy := match i % 128 with
  | 0 => ⟨S8x2x1024, .f32⟩
  | 1 => ⟨S8x2x256, .f32⟩
  | 2 => ⟨S8x2x512, .f32⟩
  | 3 => ⟨S8x2x512, .f32⟩
  | 4 => ⟨S8x2x1024, .f32⟩
  | 5 => ⟨S8x2x1024, .f32⟩
  | 6 => ⟨S8x2x5632, .f32⟩
  | 7 => ⟨S8x2x1024, .f32⟩
  | 8 => ⟨S2x1024, .f32⟩
  | 9 => ⟨S2x256, .f32⟩
  | 10 => ⟨S2x512, .f32⟩
  | 11 => ⟨S2x512, .f32⟩
  | 12 => ⟨S2x1024, .f32⟩
  | 13 => ⟨S2x1024, .f32⟩
  | 14 => ⟨S2x5632, .f32⟩
  | 15 => ⟨S2x1024, .f32⟩
  | 16 => ⟨S2x1024, .f32⟩
  | 17 => ⟨S2x256, .f32⟩
  | 18 => ⟨S2x512, .f32⟩
  | 19 => ⟨S2x512, .f32⟩
  | 20 => ⟨S2x1024, .f32⟩
  | 21 => ⟨S2x1024, .f32⟩
  | 22 => ⟨S2x5632, .f32⟩
  | 23 => ⟨S2x1024, .f32⟩
  | 24 => ⟨S2x1024, .f32⟩
  | 25 => ⟨S2x256, .f32⟩
  | 26 => ⟨S2x512, .f32⟩
  | 27 => ⟨S2x512, .f32⟩
  | 28 => ⟨S2x1024, .f32⟩
  | 29 => ⟨S2x1024, .f32⟩
  | 30 => ⟨S2x5632, .f32⟩
  | 31 => ⟨S2x1024, .f32⟩
  | 32 => ⟨S_, .f32⟩
  | 33 => ⟨S2x1024, .f32⟩
  | 34 => ⟨S_, .f32⟩
  | 35 => ⟨S2x1024, .f32⟩
  | 36 => ⟨S2x1024, .f32⟩
  | 37 => ⟨S_, .f32⟩
  | 38 => ⟨S2x1024, .f32⟩
  | 39 => ⟨S2x1024, .f32⟩
  | 40 => ⟨S2x1024, .f32⟩
  | 41 => ⟨S_, .f32⟩
  | 42 => ⟨S2x1024, .f32⟩
  | 43 => ⟨S2x1024, .f32⟩
  | 44 => ⟨S2x1024, .f32⟩
  | 45 => ⟨S_, .f32⟩
  | 46 => ⟨S2x1024, .f32⟩
  | 47 => ⟨S2x1024, .f32⟩
  | 48 => ⟨S2x1024, .f32⟩
  | 49 => ⟨S_, .f32⟩
  | 50 => ⟨S2x1024, .f32⟩
  | 51 => ⟨S2x1024, .f32⟩
  | 52 => ⟨S_, .f32⟩
  | 53 => ⟨S2x1024, .f32⟩
  | 54 => ⟨S2x1024, .f32⟩
  | 55 => ⟨S2x1024, .f32⟩
  | 56 => ⟨S_, .f32⟩
  | 57 => ⟨S2x1024, .f32⟩
  | 58 => ⟨S2x1024, .f32⟩
  | 59 => ⟨S2x1024, .f32⟩
  | 60 => ⟨S_, .f32⟩
  | 61 => ⟨S2x1024, .f32⟩
  | 62 => ⟨S2x1024, .f32⟩
  | 63 => ⟨S2x1024, .f32⟩
  | 64 => ⟨S_, .f32⟩
  | 65 => ⟨S2x1024, .f32⟩
  | 66 => ⟨S2x1024, .f32⟩
  | 67 => ⟨S_, .f32⟩
  | 68 => ⟨S2x256, .f32⟩
  | 69 => ⟨S_, .f32⟩
  | 70 => ⟨S2x256, .f32⟩
  | 71 => ⟨S2x256, .f32⟩
  | 72 => ⟨S_, .f32⟩
  | 73 => ⟨S2x256, .f32⟩
  | 74 => ⟨S2x256, .f32⟩
  | 75 => ⟨S2x256, .f32⟩
  | 76 => ⟨S_, .f32⟩
  | 77 => ⟨S2x256, .f32⟩
  | 78 => ⟨S2x256, .f32⟩
  | 79 => ⟨S2x256, .f32⟩
  | 80 => ⟨S_, .f32⟩
  | 81 => ⟨S2x256, .f32⟩
  | 82 => ⟨S2x256, .f32⟩
  | 83 => ⟨S2x256, .f32⟩
  | 84 => ⟨S_, .f32⟩
  | 85 => ⟨S2x256, .f32⟩
  | 86 => ⟨S2x256, .f32⟩
  | 87 => ⟨S_, .f32⟩
  | 88 => ⟨S2x256, .f32⟩
  | 89 => ⟨S2x256, .f32⟩
  | 90 => ⟨S2x256, .f32⟩
  | 91 => ⟨S_, .f32⟩
  | 92 => ⟨S2x256, .f32⟩
  | 93 => ⟨S2x256, .f32⟩
  | 94 => ⟨S2x256, .f32⟩
  | 95 => ⟨S_, .f32⟩
  | 96 => ⟨S2x256, .f32⟩
  | 97 => ⟨S2x256, .f32⟩
  | 98 => ⟨S2x256, .f32⟩
  | 99 => ⟨S_, .f32⟩
  | 100 => ⟨S2x256, .f32⟩
  | 101 => ⟨S2x256, .f32⟩
  | 102 => ⟨S_, .f32⟩
  | 103 => ⟨S2x512, .f32⟩
  | 104 => ⟨S_, .f32⟩
  | 105 => ⟨S2x512, .f32⟩
  | 106 => ⟨S2x512, .f32⟩
  | 107 => ⟨S_, .f32⟩
  | 108 => ⟨S2x512, .f32⟩
  | 109 => ⟨S2x512, .f32⟩
  | 110 => ⟨S2x512, .f32⟩
  | 111 => ⟨S_, .f32⟩
  | 112 => ⟨S2x512, .f32⟩
  | 113 => ⟨S2x512, .f32⟩
  | 114 => ⟨S2x512, .f32⟩
  | 115 => ⟨S_, .f32⟩
  | 116 => ⟨S2x512, .f32⟩
  | 117 => ⟨S2x512, .f32⟩
  | 118 => ⟨S2x512, .f32⟩
  | 119 => ⟨S_, .f32⟩
  | 120 => ⟨S2x512, .f32⟩
  | 121 => ⟨S2x512, .f32⟩
  | 122 => ⟨S_, .f32⟩
  | 123 => ⟨S2x512, .f32⟩
  | 124 => ⟨S2x512, .f32⟩
  | 125 => ⟨S2x512, .f32⟩
  | 126 => ⟨S_, .f32⟩
  | 127 => ⟨S2x512, .f32⟩
  | _ => ⟨S8x2x1024, .f32⟩

abbrev hbmTy0_1 (i : Nat) : BufTy := match i % 128 with
  | 0 => ⟨S2x512, .f32⟩
  | 1 => ⟨S2x512, .f32⟩
  | 2 => ⟨S_, .f32⟩
  | 3 => ⟨S2x512, .f32⟩
  | 4 => ⟨S2x512, .f32⟩
  | 5 => ⟨S2x512, .f32⟩
  | 6 => ⟨S_, .f32⟩
  | 7 => ⟨S2x512, .f32⟩
  | 8 => ⟨S2x512, .f32⟩
  | 9 => ⟨S_, .f32⟩
  | 10 => ⟨S2x512, .f32⟩
  | 11 => ⟨S_, .f32⟩
  | 12 => ⟨S2x512, .f32⟩
  | 13 => ⟨S2x512, .f32⟩
  | 14 => ⟨S_, .f32⟩
  | 15 => ⟨S2x512, .f32⟩
  | 16 => ⟨S2x512, .f32⟩
  | 17 => ⟨S2x512, .f32⟩
  | 18 => ⟨S_, .f32⟩
  | 19 => ⟨S2x512, .f32⟩
  | 20 => ⟨S2x512, .f32⟩
  | 21 => ⟨S2x512, .f32⟩
  | 22 => ⟨S_, .f32⟩
  | 23 => ⟨S2x512, .f32⟩
  | 24 => ⟨S2x512, .f32⟩
  | 25 => ⟨S2x512, .f32⟩
  | 26 => ⟨S_, .f32⟩
  | 27 => ⟨S2x512, .f32⟩
  | 28 => ⟨S2x512, .f32⟩
  | 29 => ⟨S_, .f32⟩
  | 30 => ⟨S2x512, .f32⟩
  | 31 => ⟨S2x512, .f32⟩
  | 32 => ⟨S2x512, .f32⟩
  | 33 => ⟨S_, .f32⟩
  | 34 => ⟨S2x512, .f32⟩
  | 35 => ⟨S2x512, .f32⟩
  | 36 => ⟨S2x512, .f32⟩
  | 37 => ⟨S_, .f32⟩
  | 38 => ⟨S2x512, .f32⟩
  | 39 => ⟨S2x512, .f32⟩
  | 40 => ⟨S2x512, .f32⟩
  | 41 => ⟨S_, .f32⟩
  | 42 => ⟨S2x512, .f32⟩
  | 43 => ⟨S2x512, .f32⟩
  | 44 => ⟨S_, .f32⟩
  | 45 => ⟨S2x1024, .f32⟩
  | 46 => ⟨S_, .f32⟩
  | 47 => ⟨S2x1024, .f32⟩
  | 48 => ⟨S2x1024, .f32⟩
  | 49 => ⟨S_, .f32⟩
  | 50 => ⟨S2x1024, .f32⟩
  | 51 => ⟨S2x1024, .f32⟩
  | 52 => ⟨S2x1024, .f32⟩
  | 53 => ⟨S_, .f32⟩
  | 54 => ⟨S2x1024, .f32⟩
  | 55 => ⟨S2x1024, .f32⟩
  | 56 => ⟨S2x1024, .f32⟩
  | 57 => ⟨S_, .f32⟩
  | 58 => ⟨S2x1024, .f32⟩
  | 59 => ⟨S2x1024, .f32⟩
  | 60 => ⟨S2x1024, .f32⟩
  | 61 => ⟨S_, .f32⟩
  | 62 => ⟨S2x1024, .f32⟩
  | 63 => ⟨S2x1024, .f32⟩
  | 64 => ⟨S_, .f32⟩
  | 65 => ⟨S2x1024, .f32⟩
  | 66 => ⟨S2x1024, .f32⟩
  | 67 => ⟨S2x1024, .f32⟩
  | 68 => ⟨S_, .f32⟩
  | 69 => ⟨S2x1024, .f32⟩
  | 70 => ⟨S2x1024, .f32⟩
  | 71 => ⟨S2x1024, .f32⟩
  | 72 => ⟨S_, .f32⟩
  | 73 => ⟨S2x1024, .f32⟩
  | 74 => ⟨S2x1024, .f32⟩
  | 75 => ⟨S2x1024, .f32⟩
  | 76 => ⟨S_, .f32⟩
  | 77 => ⟨S2x1024, .f32⟩
  | 78 => ⟨S2x1024, .f32⟩
  | 79 => ⟨S_, .f32⟩
  | 80 => ⟨S2x1024, .f32⟩
  | 81 => ⟨S_, .f32⟩
  | 82 => ⟨S2x1024, .f32⟩
  | 83 => ⟨S2x1024, .f32⟩
  | 84 => ⟨S_, .f32⟩
  | 85 => ⟨S2x1024, .f32⟩
  | 86 => ⟨S2x1024, .f32⟩
  | 87 => ⟨S2x1024, .f32⟩
  | 88 => ⟨S_, .f32⟩
  | 89 => ⟨S2x1024, .f32⟩
  | 90 => ⟨S2x1024, .f32⟩
  | 91 => ⟨S2x1024, .f32⟩
  | 92 => ⟨S_, .f32⟩
  | 93 => ⟨S2x1024, .f32⟩
  | 94 => ⟨S2x1024, .f32⟩
  | 95 => ⟨S2x1024, .f32⟩
  | 96 => ⟨S_, .f32⟩
  | 97 => ⟨S2x1024, .f32⟩
  | 98 => ⟨S2x1024, .f32⟩
  | 99 => ⟨S_, .f32⟩
  | 100 => ⟨S2x1024, .f32⟩
  | 101 => ⟨S2x1024, .f32⟩
  | 102 => ⟨S2x1024, .f32⟩
  | 103 => ⟨S_, .f32⟩
  | 104 => ⟨S2x1024, .f32⟩
  | 105 => ⟨S2x1024, .f32⟩
  | 106 => ⟨S2x1024, .f32⟩
  | 107 => ⟨S_, .f32⟩
  | 108 => ⟨S2x1024, .f32⟩
  | 109 => ⟨S2x1024, .f32⟩
  | 110 => ⟨S2x1024, .f32⟩
  | 111 => ⟨S_, .f32⟩
  | 112 => ⟨S2x1024, .f32⟩
  | 113 => ⟨S2x1024, .f32⟩
  | 114 => ⟨S_, .f32⟩
  | 115 => ⟨S2x5632, .f32⟩
  | 116 => ⟨S_, .f32⟩
  | 117 => ⟨S2x5632, .f32⟩
  | 118 => ⟨S2x5632, .f32⟩
  | 119 => ⟨S_, .f32⟩
  | 120 => ⟨S2x5632, .f32⟩
  | 121 => ⟨S2x5632, .f32⟩
  | 122 => ⟨S2x5632, .f32⟩
  | 123 => ⟨S_, .f32⟩
  | 124 => ⟨S2x5632, .f32⟩
  | 125 => ⟨S2x5632, .f32⟩
  | 126 => ⟨S2x5632, .f32⟩
  | 127 => ⟨S_, .f32⟩
  | _ => ⟨S8x2x1024, .f32⟩

abbrev hbmTy0_2 (i : Nat) : BufTy := match i % 128 with
  | 0 => ⟨S2x5632, .f32⟩
  | 1 => ⟨S2x5632, .f32⟩
  | 2 => ⟨S2x5632, .f32⟩
  | 3 => ⟨S_, .f32⟩
  | 4 => ⟨S2x5632, .f32⟩
  | 5 => ⟨S2x5632, .f32⟩
  | 6 => ⟨S_, .f32⟩
  | 7 => ⟨S2x5632, .f32⟩
  | 8 => ⟨S2x5632, .f32⟩
  | 9 => ⟨S2x5632, .f32⟩
  | 10 => ⟨S_, .f32⟩
  | 11 => ⟨S2x5632, .f32⟩
  | 12 => ⟨S2x5632, .f32⟩
  | 13 => ⟨S2x5632, .f32⟩
  | 14 => ⟨S_, .f32⟩
  | 15 => ⟨S2x5632, .f32⟩
  | 16 => ⟨S2x5632, .f32⟩
  | 17 => ⟨S2x5632, .f32⟩
  | 18 => ⟨S_, .f32⟩
  | 19 => ⟨S2x5632, .f32⟩
  | 20 => ⟨S2x5632, .f32⟩
  | 21 => ⟨S_, .f32⟩
  | 22 => ⟨S2x1024, .f32⟩
  | 23 => ⟨S_, .f32⟩
  | 24 => ⟨S2x1024, .f32⟩
  | 25 => ⟨S2x1024, .f32⟩
  | 26 => ⟨S_, .f32⟩
  | 27 => ⟨S2x1024, .f32⟩
  | 28 => ⟨S2x1024, .f32⟩
  | 29 => ⟨S2x1024, .f32⟩
  | 30 => ⟨S_, .f32⟩
  | 31 => ⟨S2x1024, .f32⟩
  | 32 => ⟨S2x1024, .f32⟩
  | 33 => ⟨S2x1024, .f32⟩
  | 34 => ⟨S_, .f32⟩
  | 35 => ⟨S2x1024, .f32⟩
  | 36 => ⟨S2x1024, .f32⟩
  | 37 => ⟨S2x1024, .f32⟩
  | 38 => ⟨S_, .f32⟩
  | 39 => ⟨S2x1024, .f32⟩
  | 40 => ⟨S2x1024, .f32⟩
  | 41 => ⟨S_, .f32⟩
  | 42 => ⟨S2x1024, .f32⟩
  | 43 => ⟨S2x1024, .f32⟩
  | 44 => ⟨S2x1024, .f32⟩
  | 45 => ⟨S_, .f32⟩
  | 46 => ⟨S2x1024, .f32⟩
  | 47 => ⟨S2x1024, .f32⟩
  | 48 => ⟨S2x1024, .f32⟩
  | 49 => ⟨S_, .f32⟩
  | 50 => ⟨S2x1024, .f32⟩
  | 51 => ⟨S2x1024, .f32⟩
  | 52 => ⟨S2x1024, .f32⟩
  | 53 => ⟨S_, .f32⟩
  | 54 => ⟨S2x1024, .f32⟩
  | 55 => ⟨S2x1024, .f32⟩
  | 56 => ⟨S2048, .f32⟩
  | 57 => ⟨S512, .f32⟩
  | 58 => ⟨S1024, .f32⟩
  | 59 => ⟨S1024, .f32⟩
  | 60 => ⟨S2048, .f32⟩
  | 61 => ⟨S2048, .f32⟩
  | 62 => ⟨S11264, .f32⟩
  | 63 => ⟨S2048, .f32⟩
  | 64 => ⟨S_, .f32⟩
  | 65 => ⟨S2560, .f32⟩
  | 66 => ⟨S24576, .f32⟩
  | 67 => ⟨S24x1024, .f32⟩
  | 68 => ⟨S2048, .f32⟩
  | 69 => ⟨S512, .f32⟩
  | 70 => ⟨S1024, .f32⟩
  | 71 => ⟨S1024, .f32⟩
  | 72 => ⟨S2048, .f32⟩
  | 73 => ⟨S2048, .f32⟩
  | 74 => ⟨S11264, .f32⟩
  | 75 => ⟨S2048, .f32⟩
  | 76 => ⟨S_, .f32⟩
  | 77 => ⟨S2560, .f32⟩
  | 78 => ⟨S24576, .f32⟩
  | 79 => ⟨S24x1024, .f32⟩
  | 80 => ⟨S2048, .f32⟩
  | 81 => ⟨S512, .f32⟩
  | 82 => ⟨S1024, .f32⟩
  | 83 => ⟨S1024, .f32⟩
  | 84 => ⟨S2048, .f32⟩
  | 85 => ⟨S2048, .f32⟩
  | 86 => ⟨S11264, .f32⟩
  | 87 => ⟨S2048, .f32⟩
  | 88 => ⟨S_, .f32⟩
  | 89 => ⟨S2560, .f32⟩
  | 90 => ⟨S24576, .f32⟩
  | 91 => ⟨S24x1024, .f32⟩
  | 92 => ⟨S2048, .f32⟩
  | 93 => ⟨S512, .f32⟩
  | 94 => ⟨S1024, .f32⟩
  | 95 => ⟨S1024, .f32⟩
  | 96 => ⟨S2048, .f32⟩
  | 97 => ⟨S2048, .f32⟩
  | 98 => ⟨S11264, .f32⟩
  | 99 => ⟨S2048, .f32⟩
  | 100 => ⟨S_, .f32⟩
  | 101 => ⟨S2560, .f32⟩
  | 102 => ⟨S24576, .f32⟩
  | 103 => ⟨S24x1024, .f32⟩
  | _ => ⟨S8x2x1024, .f32⟩

abbrev hbmTy (i : Nat) : BufTy := match i / 128 with
  | 0 => hbmTy0_0 i
  | 1 => hbmTy0_1 i
  | 2 => hbmTy0_2 i
  | _ => ⟨S8x2x1024, .f32⟩

abbrev bufTy : (tb : Table) → Fin (tcTables nBuf tb) → BufTy
  | .hbm, ⟨i, _⟩ => hbmTy i
  | _, _ => ⟨S8x2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_cst : Ref sig .tc := ⟨.hbm, 32, rfl⟩
abbrev main_v0 : Ref sig .tc := ⟨.hbm, 33, rfl⟩
abbrev main_cst_0 : Ref sig .tc := ⟨.hbm, 34, rfl⟩
abbrev main_v1 : Ref sig .tc := ⟨.hbm, 35, rfl⟩
abbrev main_v2 : Ref sig .tc := ⟨.hbm, 36, rfl⟩
abbrev main_cst_1 : Ref sig .tc := ⟨.hbm, 37, rfl⟩
abbrev main_v3 : Ref sig .tc := ⟨.hbm, 38, rfl⟩
abbrev main_v4 : Ref sig .tc := ⟨.hbm, 39, rfl⟩
abbrev main_v5 : Ref sig .tc := ⟨.hbm, 40, rfl⟩
abbrev main_cst_2 : Ref sig .tc := ⟨.hbm, 41, rfl⟩
abbrev main_v6 : Ref sig .tc := ⟨.hbm, 42, rfl⟩
abbrev main_v7 : Ref sig .tc := ⟨.hbm, 43, rfl⟩
abbrev main_v8 : Ref sig .tc := ⟨.hbm, 44, rfl⟩
abbrev main_cst_3 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_cst_4 : Ref sig .tc := ⟨.hbm, 49, rfl⟩
abbrev main_v12 : Ref sig .tc := ⟨.hbm, 50, rfl⟩
abbrev main_v13 : Ref sig .tc := ⟨.hbm, 51, rfl⟩
abbrev main_cst_5 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_cst_6 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_cst_7 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_cst_8 : Ref sig .tc := ⟨.hbm, 64, rfl⟩
abbrev main_v23 : Ref sig .tc := ⟨.hbm, 65, rfl⟩
abbrev main_v24 : Ref sig .tc := ⟨.hbm, 66, rfl⟩
abbrev main_cst_9 : Ref sig .tc := ⟨.hbm, 67, rfl⟩
abbrev main_v25 : Ref sig .tc := ⟨.hbm, 68, rfl⟩
abbrev main_cst_10 : Ref sig .tc := ⟨.hbm, 69, rfl⟩
abbrev main_v26 : Ref sig .tc := ⟨.hbm, 70, rfl⟩
abbrev main_v27 : Ref sig .tc := ⟨.hbm, 71, rfl⟩
abbrev main_cst_11 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_cst_12 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_cst_13 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_cst_14 : Ref sig .tc := ⟨.hbm, 84, rfl⟩
abbrev main_v37 : Ref sig .tc := ⟨.hbm, 85, rfl⟩
abbrev main_v38 : Ref sig .tc := ⟨.hbm, 86, rfl⟩
abbrev main_cst_15 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_cst_16 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_cst_17 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_cst_18 : Ref sig .tc := ⟨.hbm, 99, rfl⟩
abbrev main_v48 : Ref sig .tc := ⟨.hbm, 100, rfl⟩
abbrev main_v49 : Ref sig .tc := ⟨.hbm, 101, rfl⟩
abbrev main_cst_19 : Ref sig .tc := ⟨.hbm, 102, rfl⟩
abbrev main_v50 : Ref sig .tc := ⟨.hbm, 103, rfl⟩
abbrev main_cst_20 : Ref sig .tc := ⟨.hbm, 104, rfl⟩
abbrev main_v51 : Ref sig .tc := ⟨.hbm, 105, rfl⟩
abbrev main_v52 : Ref sig .tc := ⟨.hbm, 106, rfl⟩
abbrev main_cst_21 : Ref sig .tc := ⟨.hbm, 107, rfl⟩
abbrev main_v53 : Ref sig .tc := ⟨.hbm, 108, rfl⟩
abbrev main_v54 : Ref sig .tc := ⟨.hbm, 109, rfl⟩
abbrev main_v55 : Ref sig .tc := ⟨.hbm, 110, rfl⟩
abbrev main_cst_22 : Ref sig .tc := ⟨.hbm, 111, rfl⟩
abbrev main_v56 : Ref sig .tc := ⟨.hbm, 112, rfl⟩
abbrev main_v57 : Ref sig .tc := ⟨.hbm, 113, rfl⟩
abbrev main_v58 : Ref sig .tc := ⟨.hbm, 114, rfl⟩
abbrev main_cst_23 : Ref sig .tc := ⟨.hbm, 115, rfl⟩
abbrev main_v59 : Ref sig .tc := ⟨.hbm, 116, rfl⟩
abbrev main_v60 : Ref sig .tc := ⟨.hbm, 117, rfl⟩
abbrev main_v61 : Ref sig .tc := ⟨.hbm, 118, rfl⟩
abbrev main_cst_24 : Ref sig .tc := ⟨.hbm, 119, rfl⟩
abbrev main_v62 : Ref sig .tc := ⟨.hbm, 120, rfl⟩
abbrev main_v63 : Ref sig .tc := ⟨.hbm, 121, rfl⟩
abbrev main_cst_25 : Ref sig .tc := ⟨.hbm, 122, rfl⟩
abbrev main_v64 : Ref sig .tc := ⟨.hbm, 123, rfl⟩
abbrev main_v65 : Ref sig .tc := ⟨.hbm, 124, rfl⟩
abbrev main_v66 : Ref sig .tc := ⟨.hbm, 125, rfl⟩
abbrev main_cst_26 : Ref sig .tc := ⟨.hbm, 126, rfl⟩
abbrev main_v67 : Ref sig .tc := ⟨.hbm, 127, rfl⟩
abbrev main_v68 : Ref sig .tc := ⟨.hbm, 128, rfl⟩
abbrev main_v69 : Ref sig .tc := ⟨.hbm, 129, rfl⟩
abbrev main_cst_27 : Ref sig .tc := ⟨.hbm, 130, rfl⟩
abbrev main_v70 : Ref sig .tc := ⟨.hbm, 131, rfl⟩
abbrev main_v71 : Ref sig .tc := ⟨.hbm, 132, rfl⟩
abbrev main_v72 : Ref sig .tc := ⟨.hbm, 133, rfl⟩
abbrev main_cst_28 : Ref sig .tc := ⟨.hbm, 134, rfl⟩
abbrev main_v73 : Ref sig .tc := ⟨.hbm, 135, rfl⟩
abbrev main_v74 : Ref sig .tc := ⟨.hbm, 136, rfl⟩
abbrev main_cst_29 : Ref sig .tc := ⟨.hbm, 137, rfl⟩
abbrev main_v75 : Ref sig .tc := ⟨.hbm, 138, rfl⟩
abbrev main_cst_30 : Ref sig .tc := ⟨.hbm, 139, rfl⟩
abbrev main_v76 : Ref sig .tc := ⟨.hbm, 140, rfl⟩
abbrev main_v77 : Ref sig .tc := ⟨.hbm, 141, rfl⟩
abbrev main_cst_31 : Ref sig .tc := ⟨.hbm, 142, rfl⟩
abbrev main_v78 : Ref sig .tc := ⟨.hbm, 143, rfl⟩
abbrev main_v79 : Ref sig .tc := ⟨.hbm, 144, rfl⟩
abbrev main_v80 : Ref sig .tc := ⟨.hbm, 145, rfl⟩
abbrev main_cst_32 : Ref sig .tc := ⟨.hbm, 146, rfl⟩
abbrev main_v81 : Ref sig .tc := ⟨.hbm, 147, rfl⟩
abbrev main_v82 : Ref sig .tc := ⟨.hbm, 148, rfl⟩
abbrev main_v83 : Ref sig .tc := ⟨.hbm, 149, rfl⟩
abbrev main_cst_33 : Ref sig .tc := ⟨.hbm, 150, rfl⟩
abbrev main_v84 : Ref sig .tc := ⟨.hbm, 151, rfl⟩
abbrev main_v85 : Ref sig .tc := ⟨.hbm, 152, rfl⟩
abbrev main_v86 : Ref sig .tc := ⟨.hbm, 153, rfl⟩
abbrev main_cst_34 : Ref sig .tc := ⟨.hbm, 154, rfl⟩
abbrev main_v87 : Ref sig .tc := ⟨.hbm, 155, rfl⟩
abbrev main_v88 : Ref sig .tc := ⟨.hbm, 156, rfl⟩
abbrev main_cst_35 : Ref sig .tc := ⟨.hbm, 157, rfl⟩
abbrev main_v89 : Ref sig .tc := ⟨.hbm, 158, rfl⟩
abbrev main_v90 : Ref sig .tc := ⟨.hbm, 159, rfl⟩
abbrev main_v91 : Ref sig .tc := ⟨.hbm, 160, rfl⟩
abbrev main_cst_36 : Ref sig .tc := ⟨.hbm, 161, rfl⟩
abbrev main_v92 : Ref sig .tc := ⟨.hbm, 162, rfl⟩
abbrev main_v93 : Ref sig .tc := ⟨.hbm, 163, rfl⟩
abbrev main_v94 : Ref sig .tc := ⟨.hbm, 164, rfl⟩
abbrev main_cst_37 : Ref sig .tc := ⟨.hbm, 165, rfl⟩
abbrev main_v95 : Ref sig .tc := ⟨.hbm, 166, rfl⟩
abbrev main_v96 : Ref sig .tc := ⟨.hbm, 167, rfl⟩
abbrev main_v97 : Ref sig .tc := ⟨.hbm, 168, rfl⟩
abbrev main_cst_38 : Ref sig .tc := ⟨.hbm, 169, rfl⟩
abbrev main_v98 : Ref sig .tc := ⟨.hbm, 170, rfl⟩
abbrev main_v99 : Ref sig .tc := ⟨.hbm, 171, rfl⟩
abbrev main_cst_39 : Ref sig .tc := ⟨.hbm, 172, rfl⟩
abbrev main_v100 : Ref sig .tc := ⟨.hbm, 173, rfl⟩
abbrev main_cst_40 : Ref sig .tc := ⟨.hbm, 174, rfl⟩
abbrev main_v101 : Ref sig .tc := ⟨.hbm, 175, rfl⟩
abbrev main_v102 : Ref sig .tc := ⟨.hbm, 176, rfl⟩
abbrev main_cst_41 : Ref sig .tc := ⟨.hbm, 177, rfl⟩
abbrev main_v103 : Ref sig .tc := ⟨.hbm, 178, rfl⟩
abbrev main_v104 : Ref sig .tc := ⟨.hbm, 179, rfl⟩
abbrev main_v105 : Ref sig .tc := ⟨.hbm, 180, rfl⟩
abbrev main_cst_42 : Ref sig .tc := ⟨.hbm, 181, rfl⟩
abbrev main_v106 : Ref sig .tc := ⟨.hbm, 182, rfl⟩
abbrev main_v107 : Ref sig .tc := ⟨.hbm, 183, rfl⟩
abbrev main_v108 : Ref sig .tc := ⟨.hbm, 184, rfl⟩
abbrev main_cst_43 : Ref sig .tc := ⟨.hbm, 185, rfl⟩
abbrev main_v109 : Ref sig .tc := ⟨.hbm, 186, rfl⟩
abbrev main_v110 : Ref sig .tc := ⟨.hbm, 187, rfl⟩
abbrev main_v111 : Ref sig .tc := ⟨.hbm, 188, rfl⟩
abbrev main_cst_44 : Ref sig .tc := ⟨.hbm, 189, rfl⟩
abbrev main_v112 : Ref sig .tc := ⟨.hbm, 190, rfl⟩
abbrev main_v113 : Ref sig .tc := ⟨.hbm, 191, rfl⟩
abbrev main_cst_45 : Ref sig .tc := ⟨.hbm, 192, rfl⟩
abbrev main_v114 : Ref sig .tc := ⟨.hbm, 193, rfl⟩
abbrev main_v115 : Ref sig .tc := ⟨.hbm, 194, rfl⟩
abbrev main_v116 : Ref sig .tc := ⟨.hbm, 195, rfl⟩
abbrev main_cst_46 : Ref sig .tc := ⟨.hbm, 196, rfl⟩
abbrev main_v117 : Ref sig .tc := ⟨.hbm, 197, rfl⟩
abbrev main_v118 : Ref sig .tc := ⟨.hbm, 198, rfl⟩
abbrev main_v119 : Ref sig .tc := ⟨.hbm, 199, rfl⟩
abbrev main_cst_47 : Ref sig .tc := ⟨.hbm, 200, rfl⟩
abbrev main_v120 : Ref sig .tc := ⟨.hbm, 201, rfl⟩
abbrev main_v121 : Ref sig .tc := ⟨.hbm, 202, rfl⟩
abbrev main_v122 : Ref sig .tc := ⟨.hbm, 203, rfl⟩
abbrev main_cst_48 : Ref sig .tc := ⟨.hbm, 204, rfl⟩
abbrev main_v123 : Ref sig .tc := ⟨.hbm, 205, rfl⟩
abbrev main_v124 : Ref sig .tc := ⟨.hbm, 206, rfl⟩
abbrev main_cst_49 : Ref sig .tc := ⟨.hbm, 207, rfl⟩
abbrev main_v125 : Ref sig .tc := ⟨.hbm, 208, rfl⟩
abbrev main_cst_50 : Ref sig .tc := ⟨.hbm, 209, rfl⟩
abbrev main_v126 : Ref sig .tc := ⟨.hbm, 210, rfl⟩
abbrev main_v127 : Ref sig .tc := ⟨.hbm, 211, rfl⟩
abbrev main_cst_51 : Ref sig .tc := ⟨.hbm, 212, rfl⟩
abbrev main_v128 : Ref sig .tc := ⟨.hbm, 213, rfl⟩
abbrev main_v129 : Ref sig .tc := ⟨.hbm, 214, rfl⟩
abbrev main_v130 : Ref sig .tc := ⟨.hbm, 215, rfl⟩
abbrev main_cst_52 : Ref sig .tc := ⟨.hbm, 216, rfl⟩
abbrev main_v131 : Ref sig .tc := ⟨.hbm, 217, rfl⟩
abbrev main_v132 : Ref sig .tc := ⟨.hbm, 218, rfl⟩
abbrev main_v133 : Ref sig .tc := ⟨.hbm, 219, rfl⟩
abbrev main_cst_53 : Ref sig .tc := ⟨.hbm, 220, rfl⟩
abbrev main_v134 : Ref sig .tc := ⟨.hbm, 221, rfl⟩
abbrev main_v135 : Ref sig .tc := ⟨.hbm, 222, rfl⟩
abbrev main_v136 : Ref sig .tc := ⟨.hbm, 223, rfl⟩
abbrev main_cst_54 : Ref sig .tc := ⟨.hbm, 224, rfl⟩
abbrev main_v137 : Ref sig .tc := ⟨.hbm, 225, rfl⟩
abbrev main_v138 : Ref sig .tc := ⟨.hbm, 226, rfl⟩
abbrev main_cst_55 : Ref sig .tc := ⟨.hbm, 227, rfl⟩
abbrev main_v139 : Ref sig .tc := ⟨.hbm, 228, rfl⟩
abbrev main_v140 : Ref sig .tc := ⟨.hbm, 229, rfl⟩
abbrev main_v141 : Ref sig .tc := ⟨.hbm, 230, rfl⟩
abbrev main_cst_56 : Ref sig .tc := ⟨.hbm, 231, rfl⟩
abbrev main_v142 : Ref sig .tc := ⟨.hbm, 232, rfl⟩
abbrev main_v143 : Ref sig .tc := ⟨.hbm, 233, rfl⟩
abbrev main_v144 : Ref sig .tc := ⟨.hbm, 234, rfl⟩
abbrev main_cst_57 : Ref sig .tc := ⟨.hbm, 235, rfl⟩
abbrev main_v145 : Ref sig .tc := ⟨.hbm, 236, rfl⟩
abbrev main_v146 : Ref sig .tc := ⟨.hbm, 237, rfl⟩
abbrev main_v147 : Ref sig .tc := ⟨.hbm, 238, rfl⟩
abbrev main_cst_58 : Ref sig .tc := ⟨.hbm, 239, rfl⟩
abbrev main_v148 : Ref sig .tc := ⟨.hbm, 240, rfl⟩
abbrev main_v149 : Ref sig .tc := ⟨.hbm, 241, rfl⟩
abbrev main_cst_59 : Ref sig .tc := ⟨.hbm, 242, rfl⟩
abbrev main_v150 : Ref sig .tc := ⟨.hbm, 243, rfl⟩
abbrev main_cst_60 : Ref sig .tc := ⟨.hbm, 244, rfl⟩
abbrev main_v151 : Ref sig .tc := ⟨.hbm, 245, rfl⟩
abbrev main_v152 : Ref sig .tc := ⟨.hbm, 246, rfl⟩
abbrev main_cst_61 : Ref sig .tc := ⟨.hbm, 247, rfl⟩
abbrev main_v153 : Ref sig .tc := ⟨.hbm, 248, rfl⟩
abbrev main_v154 : Ref sig .tc := ⟨.hbm, 249, rfl⟩
abbrev main_v155 : Ref sig .tc := ⟨.hbm, 250, rfl⟩
abbrev main_cst_62 : Ref sig .tc := ⟨.hbm, 251, rfl⟩
abbrev main_v156 : Ref sig .tc := ⟨.hbm, 252, rfl⟩
abbrev main_v157 : Ref sig .tc := ⟨.hbm, 253, rfl⟩
abbrev main_v158 : Ref sig .tc := ⟨.hbm, 254, rfl⟩
abbrev main_cst_63 : Ref sig .tc := ⟨.hbm, 255, rfl⟩
abbrev main_v159 : Ref sig .tc := ⟨.hbm, 256, rfl⟩
abbrev main_v160 : Ref sig .tc := ⟨.hbm, 257, rfl⟩
abbrev main_v161 : Ref sig .tc := ⟨.hbm, 258, rfl⟩
abbrev main_cst_64 : Ref sig .tc := ⟨.hbm, 259, rfl⟩
abbrev main_v162 : Ref sig .tc := ⟨.hbm, 260, rfl⟩
abbrev main_v163 : Ref sig .tc := ⟨.hbm, 261, rfl⟩
abbrev main_cst_65 : Ref sig .tc := ⟨.hbm, 262, rfl⟩
abbrev main_v164 : Ref sig .tc := ⟨.hbm, 263, rfl⟩
abbrev main_v165 : Ref sig .tc := ⟨.hbm, 264, rfl⟩
abbrev main_v166 : Ref sig .tc := ⟨.hbm, 265, rfl⟩
abbrev main_cst_66 : Ref sig .tc := ⟨.hbm, 266, rfl⟩
abbrev main_v167 : Ref sig .tc := ⟨.hbm, 267, rfl⟩
abbrev main_v168 : Ref sig .tc := ⟨.hbm, 268, rfl⟩
abbrev main_v169 : Ref sig .tc := ⟨.hbm, 269, rfl⟩
abbrev main_cst_67 : Ref sig .tc := ⟨.hbm, 270, rfl⟩
abbrev main_v170 : Ref sig .tc := ⟨.hbm, 271, rfl⟩
abbrev main_v171 : Ref sig .tc := ⟨.hbm, 272, rfl⟩
abbrev main_v172 : Ref sig .tc := ⟨.hbm, 273, rfl⟩
abbrev main_cst_68 : Ref sig .tc := ⟨.hbm, 274, rfl⟩
abbrev main_v173 : Ref sig .tc := ⟨.hbm, 275, rfl⟩
abbrev main_v174 : Ref sig .tc := ⟨.hbm, 276, rfl⟩
abbrev main_cst_69 : Ref sig .tc := ⟨.hbm, 277, rfl⟩
abbrev main_v175 : Ref sig .tc := ⟨.hbm, 278, rfl⟩
abbrev main_cst_70 : Ref sig .tc := ⟨.hbm, 279, rfl⟩
abbrev main_v176 : Ref sig .tc := ⟨.hbm, 280, rfl⟩
abbrev main_v177 : Ref sig .tc := ⟨.hbm, 281, rfl⟩
abbrev main_cst_71 : Ref sig .tc := ⟨.hbm, 282, rfl⟩
abbrev main_v178 : Ref sig .tc := ⟨.hbm, 283, rfl⟩
abbrev main_v179 : Ref sig .tc := ⟨.hbm, 284, rfl⟩
abbrev main_v180 : Ref sig .tc := ⟨.hbm, 285, rfl⟩
abbrev main_cst_72 : Ref sig .tc := ⟨.hbm, 286, rfl⟩
abbrev main_v181 : Ref sig .tc := ⟨.hbm, 287, rfl⟩
abbrev main_v182 : Ref sig .tc := ⟨.hbm, 288, rfl⟩
abbrev main_v183 : Ref sig .tc := ⟨.hbm, 289, rfl⟩
abbrev main_cst_73 : Ref sig .tc := ⟨.hbm, 290, rfl⟩
abbrev main_v184 : Ref sig .tc := ⟨.hbm, 291, rfl⟩
abbrev main_v185 : Ref sig .tc := ⟨.hbm, 292, rfl⟩
abbrev main_v186 : Ref sig .tc := ⟨.hbm, 293, rfl⟩
abbrev main_cst_74 : Ref sig .tc := ⟨.hbm, 294, rfl⟩
abbrev main_v187 : Ref sig .tc := ⟨.hbm, 295, rfl⟩
abbrev main_v188 : Ref sig .tc := ⟨.hbm, 296, rfl⟩
abbrev main_cst_75 : Ref sig .tc := ⟨.hbm, 297, rfl⟩
abbrev main_v189 : Ref sig .tc := ⟨.hbm, 298, rfl⟩
abbrev main_v190 : Ref sig .tc := ⟨.hbm, 299, rfl⟩
abbrev main_v191 : Ref sig .tc := ⟨.hbm, 300, rfl⟩
abbrev main_cst_76 : Ref sig .tc := ⟨.hbm, 301, rfl⟩
abbrev main_v192 : Ref sig .tc := ⟨.hbm, 302, rfl⟩
abbrev main_v193 : Ref sig .tc := ⟨.hbm, 303, rfl⟩
abbrev main_v194 : Ref sig .tc := ⟨.hbm, 304, rfl⟩
abbrev main_cst_77 : Ref sig .tc := ⟨.hbm, 305, rfl⟩
abbrev main_v195 : Ref sig .tc := ⟨.hbm, 306, rfl⟩
abbrev main_v196 : Ref sig .tc := ⟨.hbm, 307, rfl⟩
abbrev main_v197 : Ref sig .tc := ⟨.hbm, 308, rfl⟩
abbrev main_cst_78 : Ref sig .tc := ⟨.hbm, 309, rfl⟩
abbrev main_v198 : Ref sig .tc := ⟨.hbm, 310, rfl⟩
abbrev main_v199 : Ref sig .tc := ⟨.hbm, 311, rfl⟩
abbrev main_v200 : Ref sig .tc := ⟨.hbm, 312, rfl⟩
abbrev main_v201 : Ref sig .tc := ⟨.hbm, 313, rfl⟩
abbrev main_v202 : Ref sig .tc := ⟨.hbm, 314, rfl⟩
abbrev main_v203 : Ref sig .tc := ⟨.hbm, 315, rfl⟩
abbrev main_v204 : Ref sig .tc := ⟨.hbm, 316, rfl⟩
abbrev main_v205 : Ref sig .tc := ⟨.hbm, 317, rfl⟩
abbrev main_v206 : Ref sig .tc := ⟨.hbm, 318, rfl⟩
abbrev main_v207 : Ref sig .tc := ⟨.hbm, 319, rfl⟩
abbrev main_cst_79 : Ref sig .tc := ⟨.hbm, 320, rfl⟩
abbrev main_v208 : Ref sig .tc := ⟨.hbm, 321, rfl⟩
abbrev main_v209 : Ref sig .tc := ⟨.hbm, 322, rfl⟩
abbrev main_v210 : Ref sig .tc := ⟨.hbm, 323, rfl⟩
abbrev main_v211 : Ref sig .tc := ⟨.hbm, 324, rfl⟩
abbrev main_v212 : Ref sig .tc := ⟨.hbm, 325, rfl⟩
abbrev main_v213 : Ref sig .tc := ⟨.hbm, 326, rfl⟩
abbrev main_v214 : Ref sig .tc := ⟨.hbm, 327, rfl⟩
abbrev main_v215 : Ref sig .tc := ⟨.hbm, 328, rfl⟩
abbrev main_v216 : Ref sig .tc := ⟨.hbm, 329, rfl⟩
abbrev main_v217 : Ref sig .tc := ⟨.hbm, 330, rfl⟩
abbrev main_v218 : Ref sig .tc := ⟨.hbm, 331, rfl⟩
abbrev main_cst_80 : Ref sig .tc := ⟨.hbm, 332, rfl⟩
abbrev main_v219 : Ref sig .tc := ⟨.hbm, 333, rfl⟩
abbrev main_v220 : Ref sig .tc := ⟨.hbm, 334, rfl⟩
abbrev main_v221 : Ref sig .tc := ⟨.hbm, 335, rfl⟩
abbrev main_v222 : Ref sig .tc := ⟨.hbm, 336, rfl⟩
abbrev main_v223 : Ref sig .tc := ⟨.hbm, 337, rfl⟩
abbrev main_v224 : Ref sig .tc := ⟨.hbm, 338, rfl⟩
abbrev main_v225 : Ref sig .tc := ⟨.hbm, 339, rfl⟩
abbrev main_v226 : Ref sig .tc := ⟨.hbm, 340, rfl⟩
abbrev main_v227 : Ref sig .tc := ⟨.hbm, 341, rfl⟩
abbrev main_v228 : Ref sig .tc := ⟨.hbm, 342, rfl⟩
abbrev main_v229 : Ref sig .tc := ⟨.hbm, 343, rfl⟩
abbrev main_cst_81 : Ref sig .tc := ⟨.hbm, 344, rfl⟩
abbrev main_v230 : Ref sig .tc := ⟨.hbm, 345, rfl⟩
abbrev main_v231 : Ref sig .tc := ⟨.hbm, 346, rfl⟩
abbrev main_v232 : Ref sig .tc := ⟨.hbm, 347, rfl⟩
abbrev main_v233 : Ref sig .tc := ⟨.hbm, 348, rfl⟩
abbrev main_v234 : Ref sig .tc := ⟨.hbm, 349, rfl⟩
abbrev main_v235 : Ref sig .tc := ⟨.hbm, 350, rfl⟩
abbrev main_v236 : Ref sig .tc := ⟨.hbm, 351, rfl⟩
abbrev main_v237 : Ref sig .tc := ⟨.hbm, 352, rfl⟩
abbrev main_v238 : Ref sig .tc := ⟨.hbm, 353, rfl⟩
abbrev main_v239 : Ref sig .tc := ⟨.hbm, 354, rfl⟩
abbrev main_v240 : Ref sig .tc := ⟨.hbm, 355, rfl⟩
abbrev main_cst_82 : Ref sig .tc := ⟨.hbm, 356, rfl⟩
abbrev main_v241 : Ref sig .tc := ⟨.hbm, 357, rfl⟩
abbrev main_v242 : Ref sig .tc := ⟨.hbm, 358, rfl⟩
abbrev main_v243 : Ref sig .tc := ⟨.hbm, 359, rfl⟩

abbrev nD : Nat := 1
abbrev τ : Topo := Topo.v7x

variable {F : FTy → Type} [FloatOps F]
-- ==== Proof.Norm.lean ====
module

public import Idealize.ShloMosaic.Lib.Pointwise
public import Idealize.ShloMosaic.Lib.IdealHost
public import Idealize.ShloMosaic.Lib.WordCmp

/-! The gradient of a row normalisation over the extended reals: the form a fused kernel computes
    and the form differentiation of the written formula gives are equal, at every argument. -/

@[expose] public section

set_option maxRecDepth 16384

noncomputable section
open Idealize.ShloMosaic Idealize.ShloMosaic.TcCoe Idealize.SL.Sem
namespace Cert.Norm

/-- The row's mean square plus the smoothing constant. -/
def msq (x : Fin 1024 → EReal) : EReal :=
  Ideal.div (∑ k, x k * x k) (Ideal.ofBits FTy.f32 1149239296#32) + Ideal.ofBits FTy.f32 897988541#32

/-- The reciprocal root of the row. -/
def rstd (x : Fin 1024 → EReal) : EReal := Ideal.rsqrt (msq x)

/-- The kernel's gradient of the row. -/
def dxK (x e : Fin 1024 → EReal) (l : Fin 1024) : EReal :=
  rstd x * e l - x l * (rstd x * rstd x * rstd x * Ideal.div (∑ k, e k * x k) (Ideal.ofBits FTy.f32 1149239296#32))

/-- What differentiating the formula contributes through the mean square. -/
def dms (x e : Fin 1024 → EReal) : EReal :=
  Ideal.div ((∑ k, x k * e k) * (Ideal.ofBits FTy.f32 3204448256#32 * Ideal.div (rstd x) (msq x)))
    (Ideal.ofBits FTy.f32 1149239296#32)

/-- The differentiated formula's gradient of the row. -/
def dxR (x e : Fin 1024 → EReal) (l : Fin 1024) : EReal :=
  e l * rstd x + x l * dms x e + dms x e * x l

/-- The upstream gradient times the gain, zero in the first 48 rows of the array. -/
def err (row : ℕ) (d w : Fin 1024 → EReal) (k : Fin 1024) : EReal := if 48 ≤ row then d k * w k else 0

/-- A row's part of the gain's gradient, in the kernel's order. -/
def gainK (row : ℕ) (d x : Fin 1024 → EReal) (l : Fin 1024) : EReal := if 48 ≤ row then d l * x l * rstd x else 0

/-- A residual element plus the normalised row times the gain, the sum left out in the first 48 rows. -/
def resid (row : ℕ) (h : EReal) (x : Fin 1024 → EReal) (w : EReal) (l : Fin 1024) : EReal :=
  h + if 48 ≤ row then x l * rstd x * w else 0

theorem width_eq : Ideal.ofBits FTy.f32 1149239296#32 = ((1024 : ℝ) : EReal) := by
  simp [Ideal.ofBits, Ideal.ieee]; norm_num; rw [← EReal.coe_mul]; norm_num

theorem half_eq : Ideal.ofBits FTy.f32 3204448256#32 = ((-(1 / 2) : ℝ) : EReal) := by
  simp [Ideal.ofBits, Ideal.ieee]; norm_num [← EReal.coe_neg]; rw [← EReal.coe_mul]; norm_num

theorem eps_pos : ∃ a : ℝ, 0 < a ∧ Ideal.ofBits FTy.f32 897988541#32 = (a : EReal) := by
  refine ⟨_, ?_, by simp [Ideal.ofBits, Ideal.ieee]; rfl⟩
  positivity

theorem sq_nonneg (a : EReal) : 0 ≤ a * a := by
  induction a with
  | bot => simp
  | top => simp
  | coe a => rw [← EReal.coe_mul]; exact EReal.coe_nonneg.2 (mul_self_nonneg a)

/-- The mean square plus the constant is `⊤` or a positive real. -/
theorem msq_cases (x : Fin 1024 → EReal) : msq x = ⊤ ∨ ∃ v : ℝ, 0 < v ∧ msq x = (v : EReal) := by
  obtain ⟨a, ha, hε⟩ := eps_pos
  have hs : 0 ≤ ∑ k, x k * x k := Finset.sum_nonneg fun k _ => sq_nonneg (x k)
  unfold msq
  rw [width_eq, hε, Ideal.div_coe (by norm_num)]
  generalize (∑ k, x k * x k) = s at hs
  induction s with
  | bot => simp at hs
  | top => left; rw [EReal.top_mul_coe_of_pos (by norm_num)]; rfl
  | coe s =>
    right
    have hs' : 0 ≤ s := EReal.coe_nonneg.1 hs
    exact ⟨s * (1 / 1024) + a, by positivity, by rw [← EReal.coe_mul, ← EReal.coe_add]⟩

/-- Twice minus half a positive multiple is minus the multiple. -/
theorem two_halves (y : EReal) (k : ℝ) (hk : 0 < k) :
    y * ((-(k / 2) : ℝ) : EReal) + y * ((-(k / 2) : ℝ) : EReal) = -(y * (k : EReal)) := by
  have h2 : -(k / 2) < 0 := by linarith
  induction y with
  | bot => rw [EReal.bot_mul_coe_of_neg h2, EReal.bot_mul_coe_of_pos hk]; simp
  | top => rw [EReal.top_mul_coe_of_neg h2, EReal.top_mul_coe_of_pos hk]; simp
  | coe y => rw [← EReal.coe_mul, ← EReal.coe_mul, ← EReal.coe_add, ← EReal.coe_neg]; congr 1; ring

theorem dxR_eq (x e : Fin 1024 → EReal) (l : Fin 1024) : dxR x e l = dxK x e l := by
  have hcomm : (∑ k, x k * e k) = ∑ k, e k * x k := Finset.sum_congr rfl fun k _ => mul_comm _ _
  unfold dxR dxK dms
  rw [hcomm, width_eq, half_eq, Ideal.div_coe (by norm_num), Ideal.div_coe (by norm_num)]
  generalize (∑ k, e k * x k) = S
  have hr : rstd x = Ideal.rsqrt (msq x) := rfl
  rcases msq_cases x with h | ⟨v, hv, h⟩
  · rw [hr, h, Ideal.rsqrt_top]
    have : Ideal.div 0 ⊤ = 0 := by simp [Ideal.div]
    rw [this]; simp
  · have hr' : rstd x = ((Real.sqrt v)⁻¹ : ℝ) := by
      rw [hr, h, Ideal.rsqrt_coe, if_neg (not_lt.2 hv.le), if_neg hv.ne']
    have hs : 0 < Real.sqrt v := Real.sqrt_pos.2 hv
    have hss : Real.sqrt v * Real.sqrt v = v := Real.mul_self_sqrt hv.le
    rw [hr', h, Ideal.div_coe hv.ne']
    generalize Real.sqrt v = q at *
    have e1 : S * (((-(1 / 2) : ℝ) : EReal) * (((q⁻¹ : ℝ) : EReal) * ((1 / v : ℝ) : EReal))) * ((1 / 1024 : ℝ) : EReal)
        = S * ((-((q⁻¹ * q⁻¹ * q⁻¹ * (1 / 1024)) / 2) : ℝ) : EReal) := by
      rw [mul_assoc, ← EReal.coe_mul, ← EReal.coe_mul, ← EReal.coe_mul]
      congr 2
      rw [← hss]; field_simp
    have e2 : ((q⁻¹ : ℝ) : EReal) * ((q⁻¹ : ℝ) : EReal) * ((q⁻¹ : ℝ) : EReal) * (S * ((1 / 1024 : ℝ) : EReal))
        = S * ((q⁻¹ * q⁻¹ * q⁻¹ * (1 / 1024) : ℝ) : EReal) := by
      rw [← EReal.coe_mul, ← EReal.coe_mul, mul_left_comm, ← EReal.coe_mul]
    rw [e1, e2, add_assoc, mul_comm (S * _) (x l), ← mul_assoc, ← mul_assoc, two_halves _ _ (by positivity), mul_comm (e l),
      sub_eq_add_neg]

/-- The kernel's test of a row against the 48 padding rows. -/
theorem mask (n : ℕ) (hn : n < 12) (r : Fin 688) :
    IntOp.cmpi CmpIPredicate.sge (IntOp.addi (Scalar.muli (BitVec.ofNat 32 n) 688#32) (BitVec.ofNat 32 ↑r)) 48#32
      = BitVec.ofBool (decide (48 ≤ n * 688 + r.val)) := by
  have hr := r.isLt
  have e : IntOp.addi (Scalar.muli (BitVec.ofNat 32 n) 688#32) (BitVec.ofNat 32 ↑r) = BitVec.ofNat 32 (n * 688 + r.val) := by
    apply BitVec.eq_of_toNat_eq
    simp [IntOp.addi, Scalar.muli, IntOp.muli]
  rw [e]
  word_cmp

/-- The kernel's test of a row against the 64 rows ahead of the sequence. -/
theorem mask64 (n : ℕ) (hn : n < 12) (r : Fin 688) :
    IntOp.cmpi CmpIPredicate.sge (IntOp.addi (Scalar.muli (BitVec.ofNat 32 n) 688#32) (BitVec.ofNat 32 ↑r)) 64#32
      = BitVec.ofBool (decide (64 ≤ n * 688 + r.val)) := by
  have hr := r.isLt
  have e : IntOp.addi (Scalar.muli (BitVec.ofNat 32 n) 688#32) (BitVec.ofNat 32 ↑r) = BitVec.ofNat 32 (n * 688 + r.val) := by
    apply BitVec.eq_of_toNat_eq
    simp [IntOp.addi, Scalar.muli, IntOp.muli]
  rw [e]
  word_cmp

/-- A factor taken out of a sum of terms none of which is negative. -/
theorem mul_sum_nonneg {ι : Type} [Fintype ι] (c : EReal) (f : ι → EReal) (h : ∀ i, 0 ≤ f i) : c * ∑ i, f i = ∑ i, c * f i := by
  classical
  have key : ∀ s : Finset ι, c * ∑ i ∈ s, f i = ∑ i ∈ s, c * f i := by
    intro s
    induction s using Finset.induction_on with
    | empty => simp
    | insert a s ha ih =>
      rw [Finset.sum_insert ha, Finset.sum_insert ha, EReal.left_distrib_of_nonneg (h a) (Finset.sum_nonneg fun i _ => h i), ih]
  exact key _

end Cert.Norm
end
-- ==== Proof.DownDxPure.lean ====
module

public import proofs.«01_k».proof.Proof.Norm
public import Idealize.ShloMosaic.Lib.WordCmp
public import proofs.«01_k».proof.Proof.Gen.DownDxIdeal.Skeleton
public import proofs.«01_k».proof.Proof.Gen.DownDxRIdeal.Read

/-! What the stored values of the down-projection's input gradient are at an index, and the reference's terms there. -/

@[expose] public section

set_option maxRecDepth 16384

noncomputable section
open Idealize.ShloMosaic Idealize.ShloMosaic.TcCoe Idealize.SL.Sem Cert.Norm
namespace Cert.DownDxPure
section K
open Cert.DownDxIdeal Cert.DownDxIdeal.Gen

theorem pay7 (i : grid0.Coords) (d x : FVec Ideal S688x1024 .f32) (w : FVec Ideal S1x1024 .f32) (r : Fin 688) (l : Fin 1024) :
    k0_pay7 (F := Ideal) i d x w (ix2 r l)
      = dxK (fun k => x (ix2 r k)) (err ((i 0).val * 688 + r.val) (fun k => d (ix2 r k)) fun k => w (ix2 0 k)) l := by
  pointwise [k0_pay7, k0_pay6, k0_pay5]
  have hi : (i 0).val < 12 := (i 0).isLt
  rw [mask _ hi r]
  simp only [hlo_ix]
  unfold dxK err rstd msq
  by_cases h : 48 ≤ (i 0).val * 688 + r.val
  · simp only [if_pos h]
  · simp only [if_neg h, zero_mul, mul_zero]

theorem pay8 (i : grid0.Coords) (d x : FVec Ideal S688x1024 .f32) (r : Fin 688) (l : Fin 1024) :
    k0_pay8 (F := Ideal) i d x (ix2 r l)
      = gainK ((i 0).val * 688 + r.val) (fun k => d (ix2 r k)) (fun k => x (ix2 r k)) l := by
  pointwise [k0_pay8, k0_pay6, k0_pay5]
  have hi : (i 0).val < 12 := (i 0).isLt
  rw [mask _ hi r]
  simp only [hlo_ix]
  rfl

theorem pay1 (v : FVec Ideal S688x1024 .f32) (r : Fin 688) (l : Fin 1024) : k0_pay1 (F := Ideal) v (ix2 r l) = v (ix2 r l) := by
  pointwise [k0_pay1]

theorem pay2 (y : FVec Ideal S688x1024 .f32) (a : FVec Ideal S1x1024 .f32) (l : Fin 1024) :
    k0_pay2 (F := Ideal) y a (ix2 0 l) = a (ix2 0 l) + ∑ r : Fin 688, y (ix2 r l) := by
  pointwise [k0_pay2]

theorem pay3 (v : FVec Ideal S688x1024 .f32) (w : FVec Ideal S2816x1024 .bf16) (r : Fin 688) (l : Fin 2816) :
    k0_pay3 (F := Ideal) v w (ix2 r l) = ∑ k : Fin 1024, v (ix2 r k) * w (ix2 l k) := by
  pointwise [k0_pay3, k0_pay1]

theorem pay4 (j : S8x1024.Idx) : k0_pay4 (F := Ideal) j = 0 := by
  pointwise [k0_pay4]
end K

section R
open Cert.DownDxRIdeal Cert.DownDxRIdeal.Read

theorem ref37 (x0 x1 : FVec Ideal S8256x1024 .f32) (x2 : FVec Ideal S1x1024 .f32) (r : Fin 8256) (l : Fin 1024) :
    val_main_v37 (F := Ideal) x0 x1 x2 (ix2 r l)
      = dxK (fun k => x1 (ix2 r k)) (err r.val (fun k => x0 (ix2 r k)) fun k => x2 (ix2 0 k)) l := by
  rw [← dxR_eq]
  pointwise [val_main_v37, val_main_v36, val_main_v35, val_main_v34, val_main_v33, val_main_v32, val_main_v31,
    val_main_v30, val_main_v29, val_main_v28, val_main_v27, val_main_v26, val_main_v25, val_main_v24, val_main_v23,
    val_main_v22, val_main_v18, val_main_v17, val_main_v12, val_main_v11, val_main_v10, val_main_v9, val_main_v8,
    val_main_v7, val_main_v6, val_main_v5, val_main_v4, val_main_v3, val_main_v2, val_main_v1, val_main_cst_0,
    val_main_cst_1, val_main_cst_2, val_main_cst_3, val_main_cst_4, val_main_cst_5, val_main_cst_6, val_main_cst_7,
    val_main_cst_8]
  have hr := r.isLt
  unfold dxR dms err rstd msq
  simp only [Fin.sum_univ_one]
  by_cases h : 48 ≤ r.val
  · have h' : 48 ≤ r.val ∧ r.val - 48 < 8208 := ⟨h, by omega⟩
    have e : (⟨48 + (r.val - 48), by omega⟩ : Fin 8256) = r := Fin.ext (by simp; omega)
    simp only [dif_pos h', if_pos h, e]
  · have h' : ¬(48 ≤ r.val ∧ r.val - 48 < 8208) := fun q => h q.1
    simp only [dif_neg h', if_neg h, zero_mul, mul_zero]

theorem ref42 (x0 x1 : FVec Ideal S8256x1024 .f32) (x2 : FVec Ideal S1x1024 .f32) (x3 : FVec Ideal S2816x1024 .bf16)
    (r : Fin 8256) (l : Fin 2816) :
    val_main_v42 (F := Ideal) x0 x1 x2 x3 (ix2 r l)
      = ∑ k : Fin 1024, dxK (fun k => x1 (ix2 r k)) (err r.val (fun k => x0 (ix2 r k)) fun k => x2 (ix2 0 k)) k * x3 (ix2 l k) := by
  pointwise [val_main_v42, val_main_v41, val_main_v39]
  exact Finset.sum_congr rfl fun k _ => by rw [ref37]

theorem ref43 (x0 x1 : FVec Ideal S8256x1024 .f32) (x2 : FVec Ideal S1x1024 .f32) (r : Fin 8256) (l : Fin 1024) :
    val_main_v43 (F := Ideal) x0 x1 x2 (ix2 r l)
      = dxK (fun k => x1 (ix2 r k)) (err r.val (fun k => x0 (ix2 r k)) fun k => x2 (ix2 0 k)) l := by
  rw [← ref37]
  pointwise [val_main_v43]

theorem ref45 (x0 x1 : FVec Ideal S8256x1024 .f32) (r : Fin 8) (l : Fin 1024) :
    val_main_v45 (F := Ideal) x0 x1 (ix2 r l)
      = if r.val < 1 then ∑ a : Fin 8256, gainK a.val (fun k => x0 (ix2 a k)) (fun k => x1 (ix2 a k)) l else 0 := by
  pointwise [val_main_v45, val_main_v44, val_main_v21, val_main_v20, val_main_v19, val_main_v18, val_main_v17,
    val_main_v13, val_main_v12, val_main_v9, val_main_v8, val_main_v7, val_main_v6, val_main_v5, val_main_v4, val_main_v3,
    val_main_v2, val_main_v1, val_main_cst_0, val_main_cst_1, val_main_cst_2, val_main_cst_9, val_main_cst_4,
    val_main_cst_5]
  by_cases h0 : r.val < 1
  · rw [dif_pos h0, if_pos h0]
    refine Finset.sum_congr rfl fun a _ => ?_
    have ha := a.isLt
    unfold gainK rstd msq
    by_cases h : 48 ≤ a.val
    · have h' : 48 ≤ a.val ∧ a.val - 48 < 8208 := ⟨h, by omega⟩
      have e : (⟨48 + (a.val - 48), by omega⟩ : Fin 8256) = a := Fin.ext (by simp; omega)
      simp only [dif_pos h', if_pos h, e]
      ac_rfl
    · have h' : ¬(48 ≤ a.val ∧ a.val - 48 < 8208) := fun q => h q.1
      simp only [dif_neg h', if_neg h, mul_zero]
  · rw [dif_neg h0, if_neg h0]
end R
end Cert.DownDxPure
end
-- ==== Proof.Row0.lean ====
module

public import Idealize.ShloMosaic.Lib.Pipeline.ValueKit
public import Idealize.ShloMosaic.Lib.Pipeline.ReadBack
public import Idealize.ShloMosaic.Lib.WritesUnit

/-! A block of eight rows into whose first row a sum is gathered: what it holds after one store to that row. -/

@[expose] public section

set_option maxRecDepth 16384

noncomputable section
open Idealize.ShloMosaic Idealize.ShloMosaic.TcCoe Idealize.SL.Sem
namespace Cert.Row0

abbrev Blk : Shape := ⟨2, ![8, 1024]⟩
abbrev Row : Shape := ⟨2, ![1, 1024]⟩

theorem row_emb (inb : ∀ a, (![0, 0] : Fin 2 → ℕ) a + (![1, 1024] : Fin 2 → ℕ) a ≤ Blk.size a) (l : Fin 1024) :
    (Rect.unit (s := Blk) ![0, 0] ![1, 1024] inb).emb (ix2 (0 : Fin 1) l) = ix2 (0 : Fin 8) l := by
  funext a
  refine Fin.ext ?_
  fin_cases a
  · rfl
  · show 0 + 1 * l.val = l.val
    omega

theorem row_not_mem (inb : ∀ a, (![0, 0] : Fin 2 → ℕ) a + (![1, 1024] : Fin 2 → ℕ) a ≤ Blk.size a) (r : Fin 8) (l : Fin 1024)
    (h : ¬r.val < 1) : (ix2 r l : Blk.Idx) ∉ (Rect.unit (s := Blk) ![0, 0] ![1, 1024] inb).set := by
  rw [Rect.mem_set_unit]
  intro hall
  have := (hall 0).2
  exact h this

/-- After a store to row 0, over earlier stores that leave `canon L`. -/
theorem canon_row0 (inb : ∀ a, (![0, 0] : Fin 2 → ℕ) a + (![1, 1024] : Fin 2 → ℕ) a ≤ Blk.size a)
    (w : Row.Idx → Elt Ideal .f32) (L : List (View.Piece (Elt Ideal) Blk .f32)) (r : Fin 8) (l : Fin 1024) :
    View.canon (Val := Elt Ideal) (s := Blk) (e := .f32) (⟨Rect.unit (s := Blk) ![0, 0] ![1, 1024] inb, w⟩ :: L) (ix2 r l)
      = if r.val < 1 then w (ix2 0 l) else View.canon (Val := Elt Ideal) (s := Blk) (e := .f32) L (ix2 r l) := by
  by_cases h : r.val < 1
  · rw [if_pos h]
    obtain rfl : r = 0 := Fin.ext (by omega)
    rw [← row_emb inb l]
    exact View.canon_cons_emb _ _ _ _
  · rw [if_neg h]
    exact View.canon_cons_of_not_mem _ _ (row_not_mem inb r l h)

/-- After a store to row 0 of a buffer that read `v.read f`. -/
theorem read_row0 {sig : RefSig} {κ : Kind} {sp : Space} (v : View sig κ sp Blk .f32) (f : v.ty.Contents (Elt Ideal))
    (inb : ∀ a, (![0, 0] : Fin 2 → ℕ) a + (![1, 1024] : Fin 2 → ℕ) a ≤ Blk.size a)
    (w : Row.Idx → Elt Ideal .f32) (r : Fin 8) (l : Fin 1024) :
    v.read (Elt Ideal) (v.writes (Elt Ideal) f [⟨Rect.unit (s := Blk) ![0, 0] ![1, 1024] inb, w⟩]) (ix2 r l)
      = if r.val < 1 then w (ix2 0 l) else v.read (Elt Ideal) f (ix2 r l) := by
  by_cases h : r.val < 1
  · rw [if_pos h]
    obtain rfl : r = 0 := Fin.ext (by omega)
    exact View.read_writes_cons_unit_of_mem v f inb w [] _ (ix2 (0 : Fin 1) l) rfl
      (Fin.forall_fin_two.mpr ⟨rfl, (Nat.zero_add _).symm⟩)
  · rw [if_neg h]
    exact View.read_writes_cons_unit_of_not_mem v f inb w [] _ rfl 0 (.inr (by show 0 + 1 ≤ r.val; omega))

/-- Twelve tiles of 688 rows are the 8256 rows. -/
theorem sum_tiles (F : Fin 12 → Fin 688 → EReal) (f : Fin 8256 → EReal)
    (h : ∀ (s : Fin 12) (k : Fin 688) (hl : s.val * 688 + k.val < 8256), F s k = f ⟨s.val * 688 + k.val, hl⟩) :
    ∑ s : Fin 12, ∑ k : Fin 688, F s k = ∑ l : Fin 8256, f l :=
  Fin.sum_mul_add_congr h (by decide)

/-- Three tiles of 2752 rows are the 8256 rows. -/
theorem sum_tiles3 (F : Fin 3 → Fin 2752 → EReal) (f : Fin 8256 → EReal)
    (h : ∀ (s : Fin 3) (k : Fin 2752) (hl : s.val * 2752 + k.val < 8256), F s k = f ⟨s.val * 2752 + k.val, hl⟩) :
    ∑ s : Fin 3, ∑ k : Fin 2752, F s k = ∑ l : Fin 8256, f l :=
  Fin.sum_mul_add_congr h (by decide)

/-- A sum of 5632 terms in two halves. -/
theorem sum_halves (f : Fin 5632 → EReal) (a b : Fin 2816 → EReal) (ha : ∀ (k : Fin 2816) (hl : k.val < 5632), a k = f ⟨k.val, hl⟩)
    (hb : ∀ (k : Fin 2816) (hl : 2816 + k.val < 5632), b k = f ⟨2816 + k.val, hl⟩) : ∑ k, a k + ∑ k, b k = ∑ k, f k := by
  rw [show (∑ k, f k) = ∑ k : Fin (2816 + 2816), f k from rfl, Fin.sum_univ_add]
  congr 1
  · exact Finset.sum_congr rfl fun k _ => ha k (by omega)
  · exact Finset.sum_congr rfl fun k _ => hb k (by omega)

/-- A sum of 24 terms whose even ones are zero. -/
theorem sum_odd (f : Fin 24 → EReal) (g : Fin 12 → EReal) (h0 : ∀ (i : Fin 12) (hl : 2 * i.val < 24), f ⟨2 * i.val, hl⟩ = 0)
    (h1 : ∀ (i : Fin 12) (hl : 2 * i.val + 1 < 24), f ⟨2 * i.val + 1, hl⟩ = g i) : ∑ s, f s = ∑ i, g i := by
  refine Eq.trans (Fin.sum_mul_add_congr (F := fun (i : Fin 12) (j : Fin 2) => f ⟨i.val * 2 + j.val, by omega⟩) (fun _ _ _ => rfl) (by decide)).symm ?_
  refine Finset.sum_congr rfl fun i _ => ?_
  rw [Fin.sum_univ_two]
  have e0 : f ⟨i.val * 2 + (0 : Fin 2).val, by omega⟩ = 0 := by
    rw [← h0 i (by omega)]; congr 1; exact Fin.ext (by show i.val * 2 + 0 = 2 * i.val; omega)
  have e1 : f ⟨i.val * 2 + (1 : Fin 2).val, by have : (1 : Fin 2).val = 1 := rfl; omega⟩ = g i := by
    rw [← h1 i (by omega)]; congr 1; exact Fin.ext (by show i.val * 2 + 1 = 2 * i.val + 1; omega)
  rw [e0, e1, zero_add]

end Cert.Row0
end
-- ==== Proof.DownDxFinal.lean ====
module

public import Idealize.ShloMosaic.Lib.Pipeline.ValueKit
public import proofs.«01_k».proof.Proof.DownDxPure
public import proofs.«01_k».proof.Proof.Row0
public import proofs.«01_k».proof.Proof.Gen.DownDxIdeal.Value

/-! The three arrays the down-projection's input gradient leaves are the reference's three results. -/

@[expose] public section

set_option maxRecDepth 16384

noncomputable section
open Idealize.ShloMosaic Idealize.ShloMosaic.TcCoe Idealize.SL.Sem Cert.Norm
open Idealize.ShloMosaic.Pipeline (Dat)
namespace Cert.DownDxFinal
open Cert.DownDxIdeal Cert.DownDxIdeal.Gen Cert.DownDxPure Cert.Row0

theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] ∧ win0_6.index t = ![0, 0]
    ∧ (grid0.coords t 0).val = t.val :=
  (by decide +kernel : ∀ t : Fin grid0.N, _)

variable (m : (ℓ : Loc nD τ sig) → Buf (Elt Ideal) ℓ) (c : Dev nD)

/-- Row `r` of the point's block is row `688 t + r` of the array. -/
def rowOf (t : Fin cfg0.N) (r : Fin 688) : Fin 8256 := ⟨t.val * 688 + r.val, by have : t.val < 12 := t.isLt; omega⟩

theorem blk0 (t : Fin cfg0.N) (r : Fin 688) (k : Fin 1024) :
    (iblk m c 0 t : FVec Ideal S688x1024 .f32) (ix2 r k) = (m ((c : Thread nD τ).loc main_arg0) : FVec Ideal S8256x1024 .f32) (ix2 (rowOf t r) k) := by
  blk_ext [iblk, V, rowOf, idx t]

theorem blk1 (t : Fin cfg0.N) (r : Fin 688) (k : Fin 1024) :
    (iblk m c 1 t : FVec Ideal S688x1024 .f32) (ix2 r k) = (m ((c : Thread nD τ).loc main_arg1) : FVec Ideal S8256x1024 .f32) (ix2 (rowOf t r) k) := by
  blk_ext [iblk, V, rowOf, idx t]

theorem blk2 (t : Fin cfg0.N) (k : Fin 1024) :
    (iblk m c 2 t : FVec Ideal S1x1024 .f32) (ix2 0 k) = (m ((c : Thread nD τ).loc main_arg2) : FVec Ideal S1x1024 .f32) (ix2 0 k) := by
  blk_ext [iblk, V, idx t]

theorem blk3 (t : Fin cfg0.N) (r : Fin 2816) (k : Fin 1024) :
    (iblk m c 3 t : FVec Ideal S2816x1024 .bf16) (ix2 r k) = (m ((c : Thread nD τ).loc main_arg3) : FVec Ideal S2816x1024 .bf16) (ix2 r k) := by
  blk_ext [iblk, V, idx t]

/-- The point's gradient of the normalisation's input. -/
theorem dx_at (t : Fin cfg0.N) (r : Fin 688) (k : Fin 1024) :
    k0_pay7 (F := Ideal) (grid0.coords t) (iblk m c 0 t) (iblk m c 1 t) (iblk m c 2 t) (ix2 r k)
      = dxK (fun k => (m ((c : Thread nD τ).loc main_arg1) : FVec Ideal S8256x1024 .f32) (ix2 (rowOf t r) k))
          (err (rowOf t r).val (fun k => (m ((c : Thread nD τ).loc main_arg0) : FVec Ideal S8256x1024 .f32) (ix2 (rowOf t r) k))
            fun k => (m ((c : Thread nD τ).loc main_arg2) : FVec Ideal S1x1024 .f32) (ix2 0 k)) k := by
  rw [pay7, (idx t).2.2.2.2.2.2.2]
  simp only [blk0, blk1, blk2]
  rfl

theorem final4 : (dats m 0 c).arrAt 4 cfg0.N
    = Cert.DownDxRIdeal.Read.val_main_v42 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t hf y => ?_
  blk_simp
  rw [after0_4]
  have key : ∀ y : S688x2816.Idx, k0_pay3 (F := Ideal) (k0_pay7 (grid0.coords t) (iblk m c 0 t) (iblk m c 1 t) (iblk m c 2 t)) (iblk m c 3 t) y
      = Cert.DownDxRIdeal.Read.val_main_v42 (F := Ideal) (m ((c : Thread nD τ).loc main_arg0)) (m ((c : Thread nD τ).loc main_arg1))
        (m ((c : Thread nD τ).loc main_arg2)) (m ((c : Thread nD τ).loc main_arg3)) (((View.whole main_v0_0).slice (win0_4.rect t)).emb y) := by
    intro y
    obtain ⟨r, l, rfl⟩ : ∃ (r : Fin 688) (l : Fin 2816), y = ix2 r l := ⟨y 0, y 1, eq_ix2 y⟩
    have e : ((View.whole main_v0_0).slice (win0_4.rect t)).emb (ix2 r l : S688x2816.Idx) = (ix2 (rowOf t r) l : S8256x2816.Idx) := by
      blk_ext [rowOf, idx t]
    rw [e, pay3]
    refine Eq.trans ?_ (ref42 _ _ _ _ _ _).symm
    refine Finset.sum_congr rfl fun k _ => ?_
    rw [dx_at, blk3]
  by_cases h : t.val % 12 = 0
  · rw [outsAt0_A m c t h]
    frame_out
    exact key y
  · rw [outsAt0_B m c t h]
    frame_out
    exact key y

theorem final5 : (dats m 0 c).arrAt 5 cfg0.N
    = Cert.DownDxRIdeal.Read.val_main_v43 (F := Ideal) (m ((c : Thread nD τ).loc main_arg0)) (m ((c : Thread nD τ).loc main_arg1))
        (m ((c : Thread nD τ).loc main_arg2)) := by
  refine (dats m 0 c).arrAt_eq_of_covers 5 _ (by decide +kernel) fun t hf y => ?_
  blk_simp
  rw [after0_5]
  have key : ∀ y : S688x1024.Idx, k0_pay1 (F := Ideal) (k0_pay7 (grid0.coords t) (iblk m c 0 t) (iblk m c 1 t) (iblk m c 2 t)) y
      = Cert.DownDxRIdeal.Read.val_main_v43 (F := Ideal) (m ((c : Thread nD τ).loc main_arg0)) (m ((c : Thread nD τ).loc main_arg1))
        (m ((c : Thread nD τ).loc main_arg2)) (((View.whole main_v0_1).slice (win0_5.rect t)).emb y) := by
    intro y
    obtain ⟨r, l, rfl⟩ : ∃ (r : Fin 688) (l : Fin 1024), y = ix2 r l := ⟨y 0, y 1, eq_ix2 y⟩
    have e : ((View.whole main_v0_1).slice (win0_5.rect t)).emb (ix2 r l : S688x1024.Idx) = (ix2 (rowOf t r) l : S8256x1024.Idx) := by
      blk_ext [rowOf, idx t]
    rw [e, pay1, dx_at]
    exact (ref43 _ _ _ _ _).symm
  by_cases h : t.val % 12 = 0
  · rw [outsAt0_A m c t h]
    frame_out
    exact key y
  · rw [outsAt0_B m c t h]
    frame_out
    exact key y

/-- The point's part of the gain's gradient, at a row and a column. -/
def partAt (t : Fin cfg0.N) (r : Fin 8) (l : Fin 1024) : EReal :=
  if r.val < 1 then ∑ r : Fin 688,
    gainK (rowOf t r).val (fun k => (m ((c : Thread nD τ).loc main_arg0) : FVec Ideal S8256x1024 .f32) (ix2 (rowOf t r) k))
      (fun k => (m ((c : Thread nD τ).loc main_arg1) : FVec Ideal S8256x1024 .f32) (ix2 (rowOf t r) k)) l else 0

/-- The same at an index. -/
def part (t : Fin cfg0.N) (y : S8x1024.Idx) : EReal := partAt m c t (y 0) (y 1)

theorem gain_at (t : Fin cfg0.N) (r : Fin 688) (l : Fin 1024) :
    k0_pay8 (F := Ideal) (grid0.coords t) (iblk m c 0 t) (iblk m c 1 t) (ix2 r l)
      = gainK (rowOf t r).val (fun k => (m ((c : Thread nD τ).loc main_arg0) : FVec Ideal S8256x1024 .f32) (ix2 (rowOf t r) k))
      (fun k => (m ((c : Thread nD τ).loc main_arg1) : FVec Ideal S8256x1024 .f32) (ix2 (rowOf t r) k)) l := by
  rw [pay8, (idx t).2.2.2.2.2.2.2]
  simp only [blk0, blk1]
  rfl

theorem step_A (t : Fin cfg0.N) (h : t.val % 12 = 0) (y : S8x1024.Idx) : (outsAt0 m c t.val t.isLt).2.2 y = 0 + part m c t y := by
  obtain ⟨r, l, rfl⟩ : ∃ (r : Fin 8) (l : Fin 1024), y = ix2 r l := ⟨y 0, y 1, eq_ix2 y⟩
  rw [outsAt0_A m c t h]
  frame_out
  refine (canon_row0 _ _ _ r l).trans ?_
  show _ = 0 + partAt m c t r l
  have hz : ∀ a : Fin 2, (![0, 0] : Fin 2 → ℕ) a = 0 := by decide
  unfold partAt
  by_cases h0 : r.val < 1
  · rw [if_pos h0, if_pos h0, pay2]
    simp only [gain_at]
    congr 1
    rw [View.readCov_fill _ _ _ _ _ hz]
    pointwise
    exact pay4 _
  · rw [if_neg h0, if_neg h0]
    rw [View.canon_cons_unit_lit _ _ _ hz]
    rw [pay4]; simp

theorem step_B (t : Fin cfg0.N) (h : ¬t.val % 12 = 0) (y : S8x1024.Idx) : (outsAt0 m c t.val t.isLt).2.2 y
    = (outsAt0 m c (t.val - 1) (lt_of_le_of_lt (Nat.sub_le _ _) t.isLt)).2.2 y + part m c t y := by
  obtain ⟨r, l, rfl⟩ : ∃ (r : Fin 8) (l : Fin 1024), y = ix2 r l := ⟨y 0, y 1, eq_ix2 y⟩
  rw [outsAt0_B m c t h]
  frame_out
  refine (read_row0 _ _ _ _ r l).trans ?_
  show _ = _ + partAt m c t r l
  unfold partAt
  by_cases h0 : r.val < 1
  · rw [if_pos h0, if_pos h0, pay2]
    simp only [gain_at]
    obtain rfl : r = 0 := Fin.ext (by omega)
    congr 1
    pointwise
  · rw [if_neg h0, if_neg h0, Memref.IsWhole.read_unread]
    exact (add_zero _).symm

theorem final6 : (dats m 0 c).arrAt 6 cfg0.N
    = Cert.DownDxRIdeal.Read.val_main_v45 (F := Ideal) (m ((c : Thread nD τ).loc main_arg0)) (m ((c : Thread nD τ).loc main_arg1)) := by
  refine (dats m 0 c).arrAt_eq_of_covers 6 _ (by decide +kernel) fun t hf y => ?_
  blk_simp
  rw [after0_6, Pipeline.eq_sum_fin_of_reset_step_apply_of_flush (fun n h => (outsAt0 m c n h).2.2) 12 (fun _ => 0) (part m c)
    (step_A m c) (step_B m c) t ((flush0_6 t).mp hf) _, zero_add]
  have key : ∀ y : S8x1024.Idx, (∑ s : Fin 12, part m c ⟨12 * (t.val / 12) + s.val, Pipeline.run_point_lt_of_flush t ((flush0_6 t).mp hf) s⟩ y)
      = Cert.DownDxRIdeal.Read.val_main_v45 (F := Ideal) (m ((c : Thread nD τ).loc main_arg0)) (m ((c : Thread nD τ).loc main_arg1))
          ((win0_6.blk t).view.emb y) := by
    intro y
    obtain ⟨r, l, rfl⟩ : ∃ (r : Fin 8) (l : Fin 1024), y = ix2 r l := ⟨y 0, y 1, eq_ix2 y⟩
    have e : (win0_6.blk t).view.emb (ix2 r l : S8x1024.Idx) = (ix2 r l : S8x1024.Idx) := by
      blk_ext [idx t]
    rw [e]
    refine Eq.trans ?_ (ref45 _ _ _ _).symm
    have ht : t.val / 12 = 0 := Nat.div_eq_of_lt t.isLt
    show (∑ s : Fin 12, partAt m c _ r l) = _
    unfold partAt
    by_cases h0 : r.val < 1
    · simp only [if_pos h0]
      refine sum_tiles _ _ fun s k hl => ?_
      have er : rowOf ⟨12 * (t.val / 12) + s.val, Pipeline.run_point_lt_of_flush t ((flush0_6 t).mp hf) s⟩ k = ⟨s.val * 688 + k.val, hl⟩ := by
        refine Fin.ext ?_
        show (12 * (t.val / 12) + s.val) * 688 + k.val = _
        rw [ht]; simp
      rw [er]
    · simp only [if_neg h0, Finset.sum_const_zero]
  exact key y
end Cert.DownDxFinal
end
-- ==== Proof.DownDxClaim.lean ====
module

public import Idealize.ShloMosaic.Lib.Quiescent
public import proofs.«01_k».proof.Defs
public import proofs.«01_k».proof.Proof.DownDxFinal
public import proofs.«01_k».proof.Proof.Gen.DownDx
public import proofs.«01_k».proof.Proof.Gen.DownDxRIdeal.Run

/-! The reference's frame and the value claim of this call. -/

@[expose] public section

set_option maxRecDepth 16384

noncomputable section
open Idealize.ShloMosaic Idealize.ShloMosaic.TcCoe Idealize.SL.Sem
namespace Cert.DownDxClaim

/-- The reference runs and keeps its arguments; it declares no semaphore. -/
theorem frameRef : Cert.quiescent_DownDxRIdeal (hDownDxRIdeal := Cert.DownDxRIdeal.Gen.facts) := fun m ρ _ =>
  (θ_run Cert.DownDxRIdeal.defs _ _).mono (fun r h => ⟨fun c => (h c).2.2.2, sem_eq_zero_of_no_sems (by decide) r.2⟩)
    (Cert.DownDxRIdeal.Value.run (F := Ideal) m ρ)

/-- The two programs end with equal results. -/
theorem algebraic : Cert.algebraic_DownDxIdeal_DownDxRIdeal (hDownDxIdeal := Cert.DownDxIdeal.Gen.facts) (hDownDxRIdeal := Cert.DownDxRIdeal.Gen.facts) := by
  intro m g m' g' _ hag
  refine ⟨fun c => (Cert.DownDxIdeal.Gen.dats m 0 c).arrAt 4 Cert.DownDxIdeal.cfg0.N, fun c => (Cert.DownDxIdeal.Gen.dats m 0 c).arrAt 5 Cert.DownDxIdeal.cfg0.N, fun c => (Cert.DownDxIdeal.Gen.dats m 0 c).arrAt 6 Cert.DownDxIdeal.cfg0.N, Cert.DownDxIdeal.Value.run_blocks (F := Ideal) m g, ?_⟩
  refine (θ_run Cert.DownDxRIdeal.defs _ _).mono (fun r h c => ?_) (Cert.DownDxRIdeal.Value.run (F := Ideal) m' g')
  obtain ⟨h0, h1, h2, hk⟩ := h c
  obtain ⟨a0, a1, a2, a3⟩ := hag c
  refine ⟨?_, ?_, ?_, hk⟩
  · exact (h0.trans (Cert.DownDxRIdeal.Read.val_main_v42_eq m' c)).trans (by rw [a0, a1, a2, a3]; exact (Cert.DownDxFinal.final4 m c).symm)
  · exact (h1.trans (Cert.DownDxRIdeal.Read.val_main_v43_eq m' c)).trans (by rw [a0, a1, a2]; exact (Cert.DownDxFinal.final5 m c).symm)
  · exact (h2.trans (Cert.DownDxRIdeal.Read.val_main_v45_eq _ _)).trans (by rw [a0, a1]; exact (Cert.DownDxFinal.final6 m c).symm)

end Cert.DownDxClaim
end
-- ==== Proof.OutDxPure.lean ====
module

public import proofs.«01_k».proof.Proof.Norm
public import Idealize.ShloMosaic.Lib.WordCmp
public import proofs.«01_k».proof.Proof.Gen.OutDxIdeal.Skeleton
public import proofs.«01_k».proof.Proof.Gen.OutDxRIdeal.Read

/-! What the stored values of the output projection's input gradient are at an index, and the reference's terms there. -/

@[expose] public section

set_option maxRecDepth 16384

noncomputable section
open Idealize.ShloMosaic Idealize.ShloMosaic.TcCoe Idealize.SL.Sem Cert.Norm
namespace Cert.OutDxPure
section K
open Cert.OutDxIdeal Cert.OutDxIdeal.Gen

theorem pay7 (i : grid0.Coords) (d x : FVec Ideal S688x1024 .f32) (w : FVec Ideal S1x1024 .f32) (r : Fin 688) (l : Fin 1024) :
    k0_pay7 (F := Ideal) i d x w (ix2 r l)
      = dxK (fun k => x (ix2 r k)) (err ((i 0).val * 688 + r.val) (fun k => d (ix2 r k)) fun k => w (ix2 0 k)) l := by
  pointwise [k0_pay7, k0_pay6, k0_pay5]
  have hi : (i 0).val < 12 := (i 0).isLt
  rw [mask _ hi r]
  simp only [hlo_ix]
  unfold dxK err rstd msq
  by_cases h : 48 ≤ (i 0).val * 688 + r.val
  · simp only [if_pos h]
  · simp only [if_neg h, zero_mul, mul_zero]

theorem pay8 (i : grid0.Coords) (d x : FVec Ideal S688x1024 .f32) (r : Fin 688) (l : Fin 1024) :
    k0_pay8 (F := Ideal) i d x (ix2 r l)
      = gainK ((i 0).val * 688 + r.val) (fun k => d (ix2 r k)) (fun k => x (ix2 r k)) l := by
  pointwise [k0_pay8, k0_pay6, k0_pay5]
  have hi : (i 0).val < 12 := (i 0).isLt
  rw [mask _ hi r]
  simp only [hlo_ix]
  rfl

theorem pay1 (v : FVec Ideal S688x1024 .f32) (r : Fin 688) (l : Fin 1024) : k0_pay1 (F := Ideal) v (ix2 r l) = v (ix2 r l) := by
  pointwise [k0_pay1]

theorem pay2 (y : FVec Ideal S688x1024 .f32) (a : FVec Ideal S1x1024 .f32) (l : Fin 1024) :
    k0_pay2 (F := Ideal) y a (ix2 0 l) = a (ix2 0 l) + ∑ r : Fin 688, y (ix2 r l) := by
  pointwise [k0_pay2]

theorem pay3 (v : FVec Ideal S688x1024 .f32) (w : FVec Ideal S1024x1024 .bf16) (r : Fin 688) (l : Fin 1024) :
    k0_pay3 (F := Ideal) v w (ix2 r l) = ∑ k : Fin 1024, v (ix2 r k) * w (ix2 l k) := by
  pointwise [k0_pay3, k0_pay1]

theorem pay4 (j : S8x1024.Idx) : k0_pay4 (F := Ideal) j = 0 := by
  pointwise [k0_pay4]
end K

section R
open Cert.OutDxRIdeal Cert.OutDxRIdeal.Read

theorem ref37 (x0 x1 : FVec Ideal S8256x1024 .f32) (x2 : FVec Ideal S1x1024 .f32) (r : Fin 8256) (l : Fin 1024) :
    val_main_v37 (F := Ideal) x0 x1 x2 (ix2 r l)
      = dxK (fun k => x1 (ix2 r k)) (err r.val (fun k => x0 (ix2 r k)) fun k => x2 (ix2 0 k)) l := by
  rw [← dxR_eq]
  pointwise [val_main_v37, val_main_v36, val_main_v35, val_main_v34, val_main_v33, val_main_v32, val_main_v31,
    val_main_v30, val_main_v29, val_main_v28, val_main_v27, val_main_v26, val_main_v25, val_main_v24, val_main_v23,
    val_main_v22, val_main_v18, val_main_v17, val_main_v12, val_main_v11, val_main_v10, val_main_v9, val_main_v8,
    val_main_v7, val_main_v6, val_main_v5, val_main_v4, val_main_v3, val_main_v2, val_main_v1, val_main_cst_0,
    val_main_cst_1, val_main_cst_2, val_main_cst_3, val_main_cst_4, val_main_cst_5, val_main_cst_6, val_main_cst_7,
    val_main_cst_8]
  have hr := r.isLt
  unfold dxR dms err rstd msq
  simp only [Fin.sum_univ_one]
  by_cases h : 48 ≤ r.val
  · have h' : 48 ≤ r.val ∧ r.val - 48 < 8208 := ⟨h, by omega⟩
    have e : (⟨48 + (r.val - 48), by omega⟩ : Fin 8256) = r := Fin.ext (by simp; omega)
    simp only [dif_pos h', if_pos h, e]
  · have h' : ¬(48 ≤ r.val ∧ r.val - 48 < 8208) := fun q => h q.1
    simp only [dif_neg h', if_neg h, zero_mul, mul_zero]

theorem ref42 (x0 x1 : FVec Ideal S8256x1024 .f32) (x2 : FVec Ideal S1x1024 .f32) (x3 : FVec Ideal S1024x1024 .bf16)
    (r : Fin 8256) (l : Fin 1024) :
    val_main_v40 (F := Ideal) x0 x1 x2 x3 (ix2 r l)
      = ∑ k : Fin 1024, dxK (fun k => x1 (ix2 r k)) (err r.val (fun k => x0 (ix2 r k)) fun k => x2 (ix2 0 k)) k * x3 (ix2 l k) := by
  pointwise [val_main_v40, val_main_v38]
  exact Finset.sum_congr rfl fun k _ => by rw [ref37]

theorem ref43 (x0 x1 : FVec Ideal S8256x1024 .f32) (x2 : FVec Ideal S1x1024 .f32) (r : Fin 8256) (l : Fin 1024) :
    val_main_v41 (F := Ideal) x0 x1 x2 (ix2 r l)
      = dxK (fun k => x1 (ix2 r k)) (err r.val (fun k => x0 (ix2 r k)) fun k => x2 (ix2 0 k)) l := by
  rw [← ref37]
  pointwise [val_main_v41]

theorem ref45 (x0 x1 : FVec Ideal S8256x1024 .f32) (r : Fin 8) (l : Fin 1024) :
    val_main_v43 (F := Ideal) x0 x1 (ix2 r l)
      = if r.val < 1 then ∑ a : Fin 8256, gainK a.val (fun k => x0 (ix2 a k)) (fun k => x1 (ix2 a k)) l else 0 := by
  pointwise [val_main_v43, val_main_v42, val_main_v21, val_main_v20, val_main_v19, val_main_v18, val_main_v17,
    val_main_v13, val_main_v12, val_main_v9, val_main_v8, val_main_v7, val_main_v6, val_main_v5, val_main_v4, val_main_v3,
    val_main_v2, val_main_v1, val_main_cst_0, val_main_cst_1, val_main_cst_2, val_main_cst_9, val_main_cst_4,
    val_main_cst_5]
  by_cases h0 : r.val < 1
  · rw [dif_pos h0, if_pos h0]
    refine Finset.sum_congr rfl fun a _ => ?_
    have ha := a.isLt
    unfold gainK rstd msq
    by_cases h : 48 ≤ a.val
    · have h' : 48 ≤ a.val ∧ a.val - 48 < 8208 := ⟨h, by omega⟩
      have e : (⟨48 + (a.val - 48), by omega⟩ : Fin 8256) = a := Fin.ext (by simp; omega)
      simp only [dif_pos h', if_pos h, e]
      ac_rfl
    · have h' : ¬(48 ≤ a.val ∧ a.val - 48 < 8208) := fun q => h q.1
      simp only [dif_neg h', if_neg h, mul_zero]
  · rw [dif_neg h0, if_neg h0]
end R
end Cert.OutDxPure
end
-- ==== Proof.OutDxFinal.lean ====
module

public import Idealize.ShloMosaic.Lib.Pipeline.ValueKit
public import proofs.«01_k».proof.Proof.OutDxPure
public import proofs.«01_k».proof.Proof.Row0
public import proofs.«01_k».proof.Proof.Gen.OutDxIdeal.Value

/-! The three arrays the output projection's input gradient leaves are the reference's three results. -/

@[expose] public section

set_option maxRecDepth 16384

noncomputable section
open Idealize.ShloMosaic Idealize.ShloMosaic.TcCoe Idealize.SL.Sem Cert.Norm
open Idealize.ShloMosaic.Pipeline (Dat)
namespace Cert.OutDxFinal
open Cert.OutDxIdeal Cert.OutDxIdeal.Gen Cert.OutDxPure Cert.Row0

theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] ∧ win0_6.index t = ![0, 0]
    ∧ (grid0.coords t 0).val = t.val :=
  (by decide +kernel : ∀ t : Fin grid0.N, _)

variable (m : (ℓ : Loc nD τ sig) → Buf (Elt Ideal) ℓ) (c : Dev nD)

/-- Row `r` of the point's block is row `688 t + r` of the array. -/
def rowOf (t : Fin cfg0.N) (r : Fin 688) : Fin 8256 := ⟨t.val * 688 + r.val, by have : t.val < 12 := t.isLt; omega⟩

theorem blk0 (t : Fin cfg0.N) (r : Fin 688) (k : Fin 1024) :
    (iblk m c 0 t : FVec Ideal S688x1024 .f32) (ix2 r k) = (m ((c : Thread nD τ).loc main_arg0) : FVec Ideal S8256x1024 .f32) (ix2 (rowOf t r) k) := by
  blk_ext [iblk, V, rowOf, idx t]

theorem blk1 (t : Fin cfg0.N) (r : Fin 688) (k : Fin 1024) :
    (iblk m c 1 t : FVec Ideal S688x1024 .f32) (ix2 r k) = (m ((c : Thread nD τ).loc main_arg1) : FVec Ideal S8256x1024 .f32) (ix2 (rowOf t r) k) := by
  blk_ext [iblk, V, rowOf, idx t]

theorem blk2 (t : Fin cfg0.N) (k : Fin 1024) :
    (iblk m c 2 t : FVec Ideal S1x1024 .f32) (ix2 0 k) = (m ((c : Thread nD τ).loc main_arg2) : FVec Ideal S1x1024 .f32) (ix2 0 k) := by
  blk_ext [iblk, V, idx t]

theorem blk3 (t : Fin cfg0.N) (r : Fin 1024) (k : Fin 1024) :
    (iblk m c 3 t : FVec Ideal S1024x1024 .bf16) (ix2 r k) = (m ((c : Thread nD τ).loc main_arg3) : FVec Ideal S1024x1024 .bf16) (ix2 r k) := by
  blk_ext [iblk, V, idx t]

/-- The point's gradient of the normalisation's input. -/
theorem dx_at (t : Fin cfg0.N) (r : Fin 688) (k : Fin 1024) :
    k0_pay7 (F := Ideal) (grid0.coords t) (iblk m c 0 t) (iblk m c 1 t) (iblk m c 2 t) (ix2 r k)
      = dxK (fun k => (m ((c : Thread nD τ).loc main_arg1) : FVec Ideal S8256x1024 .f32) (ix2 (rowOf t r) k))
          (err (rowOf t r).val (fun k => (m ((c : Thread nD τ).loc main_arg0) : FVec Ideal S8256x1024 .f32) (ix2 (rowOf t r) k))
            fun k => (m ((c : Thread nD τ).loc main_arg2) : FVec Ideal S1x1024 .f32) (ix2 0 k)) k := by
  rw [pay7, (idx t).2.2.2.2.2.2.2]
  simp only [blk0, blk1, blk2]
  rfl

theorem final4 : (dats m 0 c).arrAt 4 cfg0.N
    = Cert.OutDxRIdeal.Read.val_main_v40 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t hf y => ?_
  blk_simp
  rw [after0_4]
  have key : ∀ y : S688x1024.Idx, k0_pay3 (F := Ideal) (k0_pay7 (grid0.coords t) (iblk m c 0 t) (iblk m c 1 t) (iblk m c 2 t)) (iblk m c 3 t) y
      = Cert.OutDxRIdeal.Read.val_main_v40 (F := Ideal) (m ((c : Thread nD τ).loc main_arg0)) (m ((c : Thread nD τ).loc main_arg1))
        (m ((c : Thread nD τ).loc main_arg2)) (m ((c : Thread nD τ).loc main_arg3)) (((View.whole main_v0_0).slice (win0_4.rect t)).emb y) := by
    intro y
    obtain ⟨r, l, rfl⟩ : ∃ (r : Fin 688) (l : Fin 1024), y = ix2 r l := ⟨y 0, y 1, eq_ix2 y⟩
    have e : ((View.whole main_v0_0).slice (win0_4.rect t)).emb (ix2 r l : S688x1024.Idx) = (ix2 (rowOf t r) l : S8256x1024.Idx) := by
      blk_ext [rowOf, idx t]
    rw [e, pay3]
    refine Eq.trans ?_ (ref42 _ _ _ _ _ _).symm
    refine Finset.sum_congr rfl fun k _ => ?_
    rw [dx_at, blk3]
  by_cases h : t.val % 12 = 0
  · rw [outsAt0_A m c t h]
    frame_out
    exact key y
  · rw [outsAt0_B m c t h]
    frame_out
    exact key y

theorem final5 : (dats m 0 c).arrAt 5 cfg0.N
    = Cert.OutDxRIdeal.Read.val_main_v41 (F := Ideal) (m ((c : Thread nD τ).loc main_arg0)) (m ((c : Thread nD τ).loc main_arg1))
        (m ((c : Thread nD τ).loc main_arg2)) := by
  refine (dats m 0 c).arrAt_eq_of_covers 5 _ (by decide +kernel) fun t hf y => ?_
  blk_simp
  rw [after0_5]
  have key : ∀ y : S688x1024.Idx, k0_pay1 (F := Ideal) (k0_pay7 (grid0.coords t) (iblk m c 0 t) (iblk m c 1 t) (iblk m c 2 t)) y
      = Cert.OutDxRIdeal.Read.val_main_v41 (F := Ideal) (m ((c : Thread nD τ).loc main_arg0)) (m ((c : Thread nD τ).loc main_arg1))
        (m ((c : Thread nD τ).loc main_arg2)) (((View.whole main_v0_1).slice (win0_5.rect t)).emb y) := by
    intro y
    obtain ⟨r, l, rfl⟩ : ∃ (r : Fin 688) (l : Fin 1024), y = ix2 r l := ⟨y 0, y 1, eq_ix2 y⟩
    have e : ((View.whole main_v0_1).slice (win0_5.rect t)).emb (ix2 r l : S688x1024.Idx) = (ix2 (rowOf t r) l : S8256x1024.Idx) := by
      blk_ext [rowOf, idx t]
    rw [e, pay1, dx_at]
    exact (ref43 _ _ _ _ _).symm
  by_cases h : t.val % 12 = 0
  · rw [outsAt0_A m c t h]
    frame_out
    exact key y
  · rw [outsAt0_B m c t h]
    frame_out
    exact key y

/-- The point's part of the gain's gradient, at a row and a column. -/
def partAt (t : Fin cfg0.N) (r : Fin 8) (l : Fin 1024) : EReal :=
  if r.val < 1 then ∑ r : Fin 688,
    gainK (rowOf t r).val (fun k => (m ((c : Thread nD τ).loc main_arg0) : FVec Ideal S8256x1024 .f32) (ix2 (rowOf t r) k))
      (fun k => (m ((c : Thread nD τ).loc main_arg1) : FVec Ideal S8256x1024 .f32) (ix2 (rowOf t r) k)) l else 0

/-- The same at an index. -/
def part (t : Fin cfg0.N) (y : S8x1024.Idx) : EReal := partAt m c t (y 0) (y 1)

theorem gain_at (t : Fin cfg0.N) (r : Fin 688) (l : Fin 1024) :
    k0_pay8 (F := Ideal) (grid0.coords t) (iblk m c 0 t) (iblk m c 1 t) (ix2 r l)
      = gainK (rowOf t r).val (fun k => (m ((c : Thread nD τ).loc main_arg0) : FVec Ideal S8256x1024 .f32) (ix2 (rowOf t r) k))
      (fun k => (m ((c : Thread nD τ).loc main_arg1) : FVec Ideal S8256x1024 .f32) (ix2 (rowOf t r) k)) l := by
  rw [pay8, (idx t).2.2.2.2.2.2.2]
  simp only [blk0, blk1]
  rfl

theorem step_A (t : Fin cfg0.N) (h : t.val % 12 = 0) (y : S8x1024.Idx) : (outsAt0 m c t.val t.isLt).2.2 y = 0 + part m c t y := by
  obtain ⟨r, l, rfl⟩ : ∃ (r : Fin 8) (l : Fin 1024), y = ix2 r l := ⟨y 0, y 1, eq_ix2 y⟩
  rw [outsAt0_A m c t h]
  frame_out
  refine (canon_row0 _ _ _ r l).trans ?_
  show _ = 0 + partAt m c t r l
  have hz : ∀ a : Fin 2, (![0, 0] : Fin 2 → ℕ) a = 0 := by decide
  unfold partAt
  by_cases h0 : r.val < 1
  · rw [if_pos h0, if_pos h0, pay2]
    simp only [gain_at]
    congr 1
    rw [View.readCov_fill _ _ _ _ _ hz]
    pointwise
    exact pay4 _
  · rw [if_neg h0, if_neg h0]
    rw [View.canon_cons_unit_lit _ _ _ hz]
    rw [pay4]; simp

theorem step_B (t : Fin cfg0.N) (h : ¬t.val % 12 = 0) (y : S8x1024.Idx) : (outsAt0 m c t.val t.isLt).2.2 y
    = (outsAt0 m c (t.val - 1) (lt_of_le_of_lt (Nat.sub_le _ _) t.isLt)).2.2 y + part m c t y := by
  obtain ⟨r, l, rfl⟩ : ∃ (r : Fin 8) (l : Fin 1024), y = ix2 r l := ⟨y 0, y 1, eq_ix2 y⟩
  rw [outsAt0_B m c t h]
  frame_out
  refine (read_row0 _ _ _ _ r l).trans ?_
  show _ = _ + partAt m c t r l
  unfold partAt
  by_cases h0 : r.val < 1
  · rw [if_pos h0, if_pos h0, pay2]
    simp only [gain_at]
    obtain rfl : r = 0 := Fin.ext (by omega)
    congr 1
    pointwise
  · rw [if_neg h0, if_neg h0, Memref.IsWhole.read_unread]
    exact (add_zero _).symm

theorem final6 : (dats m 0 c).arrAt 6 cfg0.N
    = Cert.OutDxRIdeal.Read.val_main_v43 (F := Ideal) (m ((c : Thread nD τ).loc main_arg0)) (m ((c : Thread nD τ).loc main_arg1)) := by
  refine (dats m 0 c).arrAt_eq_of_covers 6 _ (by decide +kernel) fun t hf y => ?_
  blk_simp
  rw [after0_6, Pipeline.eq_sum_fin_of_reset_step_apply_of_flush (fun n h => (outsAt0 m c n h).2.2) 12 (fun _ => 0) (part m c)
    (step_A m c) (step_B m c) t ((flush0_6 t).mp hf) _, zero_add]
  have key : ∀ y : S8x1024.Idx, (∑ s : Fin 12, part m c ⟨12 * (t.val / 12) + s.val, Pipeline.run_point_lt_of_flush t ((flush0_6 t).mp hf) s⟩ y)
      = Cert.OutDxRIdeal.Read.val_main_v43 (F := Ideal) (m ((c : Thread nD τ).loc main_arg0)) (m ((c : Thread nD τ).loc main_arg1))
          ((win0_6.blk t).view.emb y) := by
    intro y
    obtain ⟨r, l, rfl⟩ : ∃ (r : Fin 8) (l : Fin 1024), y = ix2 r l := ⟨y 0, y 1, eq_ix2 y⟩
    have e : (win0_6.blk t).view.emb (ix2 r l : S8x1024.Idx) = (ix2 r l : S8x1024.Idx) := by
      blk_ext [idx t]
    rw [e]
    refine Eq.trans ?_ (ref45 _ _ _ _).symm
    have ht : t.val / 12 = 0 := Nat.div_eq_of_lt t.isLt
    show (∑ s : Fin 12, partAt m c _ r l) = _
    unfold partAt
    by_cases h0 : r.val < 1
    · simp only [if_pos h0]
      refine sum_tiles _ _ fun s k hl => ?_
      have er : rowOf ⟨12 * (t.val / 12) + s.val, Pipeline.run_point_lt_of_flush t ((flush0_6 t).mp hf) s⟩ k = ⟨s.val * 688 + k.val, hl⟩ := by
        refine Fin.ext ?_
        show (12 * (t.val / 12) + s.val) * 688 + k.val = _
        rw [ht]; simp
      rw [er]
    · simp only [if_neg h0, Finset.sum_const_zero]
  exact key y
end Cert.OutDxFinal
end
-- ==== Proof.OutDxClaim.lean ====
module

public import Idealize.ShloMosaic.Lib.Quiescent
public import proofs.«01_k».proof.Defs
public import proofs.«01_k».proof.Proof.OutDxFinal
public import proofs.«01_k».proof.Proof.Gen.OutDx
public import proofs.«01_k».proof.Proof.Gen.OutDxRIdeal.Run

/-! The reference's frame and the value claim of this call. -/

@[expose] public section

set_option maxRecDepth 16384

noncomputable section
open Idealize.ShloMosaic Idealize.ShloMosaic.TcCoe Idealize.SL.Sem
namespace Cert.OutDxClaim

/-- The reference runs and keeps its arguments; it declares no semaphore. -/
theorem frameRef : Cert.quiescent_OutDxRIdeal (hOutDxRIdeal := Cert.OutDxRIdeal.Gen.facts) := fun m ρ _ =>
  (θ_run Cert.OutDxRIdeal.defs _ _).mono (fun r h => ⟨fun c => (h c).2.2.2, sem_eq_zero_of_no_sems (by decide) r.2⟩)
    (Cert.OutDxRIdeal.Value.run (F := Ideal) m ρ)

/-- The two programs end with equal results. -/
theorem algebraic : Cert.algebraic_OutDxIdeal_OutDxRIdeal (hOutDxIdeal := Cert.OutDxIdeal.Gen.facts) (hOutDxRIdeal := Cert.OutDxRIdeal.Gen.facts) := by
  intro m g m' g' _ hag
  refine ⟨fun c => (Cert.OutDxIdeal.Gen.dats m 0 c).arrAt 4 Cert.OutDxIdeal.cfg0.N, fun c => (Cert.OutDxIdeal.Gen.dats m 0 c).arrAt 5 Cert.OutDxIdeal.cfg0.N, fun c => (Cert.OutDxIdeal.Gen.dats m 0 c).arrAt 6 Cert.OutDxIdeal.cfg0.N, Cert.OutDxIdeal.Value.run_blocks (F := Ideal) m g, ?_⟩
  refine (θ_run Cert.OutDxRIdeal.defs _ _).mono (fun r h c => ?_) (Cert.OutDxRIdeal.Value.run (F := Ideal) m' g')
  obtain ⟨h0, h1, h2, hk⟩ := h c
  obtain ⟨a0, a1, a2, a3⟩ := hag c
  refine ⟨?_, ?_, ?_, hk⟩
  · exact (h0.trans (Cert.OutDxRIdeal.Read.val_main_v40_eq m' c)).trans (by rw [a0, a1, a2, a3]; exact (Cert.OutDxFinal.final4 m c).symm)
  · exact (h1.trans (Cert.OutDxRIdeal.Read.val_main_v41_eq m' c)).trans (by rw [a0, a1, a2]; exact (Cert.OutDxFinal.final5 m c).symm)
  · exact (h2.trans (Cert.OutDxRIdeal.Read.val_main_v43_eq _ _)).trans (by rw [a0, a1]; exact (Cert.OutDxFinal.final6 m c).symm)

end Cert.OutDxClaim
end
-- ==== Proof.UpDxFinal.lean ====
module

public import Idealize.ShloMosaic.Lib.Pipeline.ValueKit
public import proofs.«01_k».proof.Proof.Norm
public import proofs.«01_k».proof.Proof.Row0
public import Idealize.ShloMosaic.Lib.WordCmp
public import proofs.«01_k».proof.Proof.Gen.UpDxIdeal.Value
public import proofs.«01_k».proof.Proof.Gen.UpDxRIdeal.Read

/-! The two arrays the up-projection's input gradient leaves are the reference's two results. -/

@[expose] public section

set_option maxRecDepth 16384

noncomputable section
open Idealize.ShloMosaic Idealize.ShloMosaic.TcCoe Idealize.SL.Sem Cert.Norm
open Idealize.ShloMosaic.Pipeline (Dat)
namespace Cert.UpDxFinal

section R
open Cert.UpDxRIdeal Cert.UpDxRIdeal.Read

theorem ref18 (x0 : FVec Ideal S8256x5632 .bf16) (x1 : FVec Ideal S1024x5632 .bf16) (r : Fin 8256) (l : Fin 1024) :
    val_main_v18 (F := Ideal) x0 x1 (ix2 r l) = ∑ k : Fin 5632, x0 (ix2 r k) * x1 (ix2 l k) := by
  pointwise [val_main_v18, val_main_v17, val_main_v15]

theorem ref38 (x0 : FVec Ideal S8256x5632 .bf16) (x1 : FVec Ideal S1024x5632 .bf16) (x2 : FVec Ideal S8256x1024 .f32)
    (x3 : FVec Ideal S1x1024 .f32) (x4 : FVec Ideal S8256x1024 .f32) (r : Fin 8256) (l : Fin 1024) :
    val_main_v38 (F := Ideal) x0 x1 x2 x3 x4 (ix2 r l)
      = dxK (fun k => x2 (ix2 r k)) (fun k => val_main_v18 (F := Ideal) x0 x1 (ix2 r k) * x3 (ix2 0 k)) l + x4 (ix2 r l) := by
  rw [← dxR_eq]
  pointwise [val_main_v38, val_main_v37, val_main_v36, val_main_v35, val_main_v34, val_main_v33, val_main_v32, val_main_v31,
    val_main_v30, val_main_v29, val_main_v28, val_main_v27, val_main_v26, val_main_v25, val_main_v24, val_main_v23,
    val_main_v22, val_main_v10, val_main_v9, val_main_v8,
    val_main_v7, val_main_v6, val_main_v5, val_main_v4, val_main_v3, val_main_v2, val_main_v1, val_main_v0, val_main_cst,
    val_main_cst_0, val_main_cst_1, val_main_cst_2, val_main_cst_4, val_main_cst_5, val_main_cst_6]
  unfold dxR dms rstd msq
  simp only [Fin.sum_univ_one]
  rw [add_comm (_ + _) (x4 (ix2 r l)), ← add_assoc, ← add_assoc]

theorem ref40 (x0 : FVec Ideal S8256x5632 .bf16) (x1 : FVec Ideal S1024x5632 .bf16) (x2 : FVec Ideal S8256x1024 .f32) (r : Fin 8) (l : Fin 1024) :
    val_main_v40 (F := Ideal) x0 x1 x2 (ix2 r l)
      = if r.val < 1 then ∑ a : Fin 8256, val_main_v18 (F := Ideal) x0 x1 (ix2 a l) * x2 (ix2 a l) * rstd (fun k => x2 (ix2 a k)) else 0 := by
  pointwise [val_main_v40, val_main_v39, val_main_v21, val_main_v20, val_main_v19, val_main_v12, val_main_v11,
    val_main_v7, val_main_v6, val_main_v5, val_main_v4, val_main_v3, val_main_v2, val_main_v1, val_main_v0, val_main_cst,
    val_main_cst_0, val_main_cst_1, val_main_cst_3, val_main_cst_7]
  by_cases h0 : r.val < 1
  · rw [dif_pos h0, if_pos h0]
    refine Finset.sum_congr rfl fun a _ => ?_
    unfold rstd msq
    ac_rfl
  · rw [dif_neg h0, if_neg h0]
end R

section K
open Cert.UpDxIdeal Cert.UpDxIdeal.Gen

theorem pay2 (v5 : FVec Ideal S688x2816 .bf16) (v6 : FVec Ideal S1024x2816 .bf16) (r : Fin 688) (l : Fin 1024) :
    k0_pay2 (F := Ideal) v5 v6 (ix2 r l) = ∑ k : Fin 2816, v5 (ix2 r k) * v6 (ix2 l k) := by
  pointwise [k0_pay2]

theorem pay3 (v5 : FVec Ideal S688x2816 .bf16) (v6 : FVec Ideal S1024x2816 .bf16) (r : Fin 688) (l : Fin 1024) :
    k0_pay3 (F := Ideal) v5 v6 (ix2 r l) = ∑ k : Fin 2816, v5 (ix2 r k) * v6 (ix2 l k) := by
  rw [← pay2]; pointwise [k0_pay3]

theorem pay7 (v s x : FVec Ideal S688x1024 .f32) (w : FVec Ideal S1x1024 .f32) (d : FVec Ideal S688x1024 .f32) (r : Fin 688) (l : Fin 1024) :
    k0_pay7 (F := Ideal) v s x w d (ix2 r l)
      = dxK (fun k => x (ix2 r k)) (fun k => (s (ix2 r k) + v (ix2 r k)) * w (ix2 0 k)) l + d (ix2 r l) := by
  pointwise [k0_pay7, k0_pay6, k0_pay5]
  rfl

theorem pay8 (v s x : FVec Ideal S688x1024 .f32) (a : FVec Ideal S1x1024 .f32) (l : Fin 1024) :
    k0_pay8 (F := Ideal) v s x a (ix2 0 l)
      = a (ix2 0 l) + ∑ r : Fin 688, (s (ix2 r l) + v (ix2 r l)) * x (ix2 r l) * rstd (fun k => x (ix2 r k)) := by
  pointwise [k0_pay8, k0_pay6, k0_pay5]
  rfl

theorem pay1 (j : S8x1024.Idx) : k0_pay1 (F := Ideal) j = 0 := by
  pointwise [k0_pay1]
end K

open Cert.UpDxIdeal Cert.UpDxIdeal.Gen Cert.Row0

theorem idx : ∀ t : Fin cfg0.N, win0_0.index t = ![t.val / 2, t.val % 2] ∧ win0_1.index t = ![0, t.val % 2] ∧ win0_2.index t = ![t.val / 2, 0]
    ∧ win0_3.index t = ![0, 0] ∧ win0_4.index t = ![t.val / 2, 0] ∧ win0_5.index t = ![t.val / 2, 0] ∧ win0_6.index t = ![0, 0] :=
  (by decide +kernel : ∀ t : Fin grid0.N, _)

variable (m : (ℓ : Loc nD τ sig) → Buf (Elt Ideal) ℓ) (c : Dev nD)

/-- Row `r` of the point's block is row `688 (t / 2) + r` of the array. -/
def rowOf (t : Fin cfg0.N) (r : Fin 688) : Fin 8256 := ⟨t.val / 2 * 688 + r.val, by have : t.val < 24 := t.isLt; omega⟩
/-- Column `k` of the point's block is column `2816 (t mod 2) + k` of the array. -/
def colOf (t : Fin cfg0.N) (k : Fin 2816) : Fin 5632 := ⟨t.val % 2 * 2816 + k.val, by omega⟩

theorem blk0 (t : Fin cfg0.N) (r : Fin 688) (k : Fin 2816) :
    (iblk m c 0 t : FVec Ideal S688x2816 .bf16) (ix2 r k) = (m ((c : Thread nD τ).loc main_arg0) : FVec Ideal S8256x5632 .bf16) (ix2 (rowOf t r) (colOf t k)) := by
  blk_ext [iblk, V, rowOf, colOf, idx t]

theorem blk1 (t : Fin cfg0.N) (r : Fin 1024) (k : Fin 2816) :
    (iblk m c 1 t : FVec Ideal S1024x2816 .bf16) (ix2 r k) = (m ((c : Thread nD τ).loc main_arg1) : FVec Ideal S1024x5632 .bf16) (ix2 r (colOf t k)) := by
  blk_ext [iblk, V, colOf, idx t]

theorem blk2 (t : Fin cfg0.N) (r : Fin 688) (k : Fin 1024) :
    (iblk m c 2 t : FVec Ideal S688x1024 .f32) (ix2 r k) = (m ((c : Thread nD τ).loc main_arg2) : FVec Ideal S8256x1024 .f32) (ix2 (rowOf t r) k) := by
  blk_ext [iblk, V, rowOf, idx t]

theorem blk3 (t : Fin cfg0.N) (k : Fin 1024) :
    (iblk m c 3 t : FVec Ideal S1x1024 .f32) (ix2 0 k) = (m ((c : Thread nD τ).loc main_arg3) : FVec Ideal S1x1024 .f32) (ix2 0 k) := by
  blk_ext [iblk, V, idx t]

theorem blk4 (t : Fin cfg0.N) (r : Fin 688) (k : Fin 1024) :
    (iblk m c 4 t : FVec Ideal S688x1024 .f32) (ix2 r k) = (m ((c : Thread nD τ).loc main_arg4) : FVec Ideal S8256x1024 .f32) (ix2 (rowOf t r) k) := by
  blk_ext [iblk, V, rowOf, idx t]

/-- The product's element, an array's row by the weight's row. -/
def G (r : Fin 8256) (l : Fin 1024) : EReal :=
  Cert.UpDxRIdeal.Read.val_main_v18 (F := Ideal) (m ((c : Thread nD τ).loc main_arg0)) (m ((c : Thread nD τ).loc main_arg1)) (ix2 r l)

/-- The first array's element. -/
def A0 (r : Fin 8256) (k : Fin 5632) : EReal := (m ((c : Thread nD τ).loc main_arg0) : FVec Ideal S8256x5632 .bf16) (ix2 r k)
/-- The weight's element. -/
def A1 (r : Fin 1024) (k : Fin 5632) : EReal := (m ((c : Thread nD τ).loc main_arg1) : FVec Ideal S1024x5632 .bf16) (ix2 r k)

/-- The half of the product the point computes. -/
def H (t : Fin cfg0.N) (r : Fin 688) (l : Fin 1024) : EReal := ∑ k : Fin 2816, A0 m c (rowOf t r) (colOf t k) * A1 m c l (colOf t k)

theorem half_at (t : Fin cfg0.N) (r : Fin 688) (l : Fin 1024) :
    k0_pay2 (F := Ideal) (iblk m c 0 t) (iblk m c 1 t) (ix2 r l) = H m c t r l := by
  refine (pay2 _ _ r l).trans ?_
  unfold H
  refine Finset.sum_congr rfl fun k _ => ?_
  rw [blk0, blk1]
  rfl

theorem scr (t : Fin cfg0.N) (h : t.val % 2 = 0) (r : Fin 688) (l : Fin 1024) : (outsAt0 m c t.val t.isLt).2.2 (ix2 r l) = H m c t r l := by
  have e : k0_pay3 (F := Ideal) (iblk m c 0 t) (iblk m c 1 t) (ix2 r l) = H m c t r l := by
    rw [← half_at]
    exact (pay3 _ _ r l).trans (pay2 _ _ r l).symm
  by_cases h0 : t.val % 24 = 0
  · rw [outsAt0_A m c t h0 h (by omega)]
    frame_out
    exact e
  · rw [outsAt0_C m c t h0 h (by omega)]
    frame_out
    exact e

/-- The point before. -/
def prev (t : Fin cfg0.N) : Fin cfg0.N := ⟨t.val - 1, lt_of_le_of_lt (Nat.sub_le _ _) t.isLt⟩

theorem halves (t : Fin cfg0.N) (h : t.val % 2 = 1) (r : Fin 688) (l : Fin 1024) :
    H m c (prev t) r l + H m c t r l = G m c (rowOf t r) l := by
  refine Eq.trans ?_ (ref18 _ _ _ _).symm
  have er : rowOf (prev t) r = rowOf t r := Fin.ext (by show (t.val - 1) / 2 * 688 + r.val = t.val / 2 * 688 + r.val; omega)
  unfold H
  rw [er]
  refine (sum_halves (fun k => A0 m c (rowOf t r) k * A1 m c l k) _ _ (fun k hl => ?_) (fun k hl => ?_)).trans rfl
  · have : colOf (prev t) k = ⟨k.val, hl⟩ := Fin.ext (by show (t.val - 1) % 2 * 2816 + k.val = k.val; omega)
    rw [this]
  · have : colOf t k = ⟨2816 + k.val, hl⟩ := Fin.ext (by show t.val % 2 * 2816 + k.val = 2816 + k.val; omega)
    rw [this]

theorem full_at (t : Fin cfg0.N) (h : t.val % 2 = 1) (r : Fin 688) (l : Fin 1024) :
    (outsAt0 m c (t.val - 1) (lt_of_le_of_lt (Nat.sub_le _ _) t.isLt)).2.2 (ix2 r l)
      + k0_pay2 (F := Ideal) (iblk m c 0 t) (iblk m c 1 t) (ix2 r l) = G m c (rowOf t r) l := by
  rw [half_at, ← halves m c t h]
  congr 1
  exact scr m c (prev t) (by show (t.val - 1) % 2 = 0; omega) r l

theorem final5 : (dats m 0 c).arrAt 5 cfg0.N
    = Cert.UpDxRIdeal.Read.val_main_v38 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  have h := (flush0_5 t).mp hf
  rw [after0_5]
  have key : ∀ y : S688x1024.Idx, k0_pay7 (F := Ideal) (k0_pay2 (iblk m c 0 t) (iblk m c 1 t))
        (outsAt0 m c (t.val - 1) (lt_of_le_of_lt (Nat.sub_le _ _) t.isLt)).2.2 (iblk m c 2 t) (iblk m c 3 t) (iblk m c 4 t) y
      = Cert.UpDxRIdeal.Read.val_main_v38 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (((View.whole main_v0_0).slice (win0_5.rect t)).emb y) := by
    intro y
    obtain ⟨r, l, rfl⟩ : ∃ (r : Fin 688) (l : Fin 1024), y = ix2 r l := ⟨y 0, y 1, eq_ix2 y⟩
    have e : ((View.whole main_v0_0).slice (win0_5.rect t)).emb (ix2 r l : S688x1024.Idx) = (ix2 (rowOf t r) l : S8256x1024.Idx) := by
      blk_ext [rowOf, idx t]
    rw [e, pay7]
    simp only [full_at m c t h, blk2, blk3, blk4]
    exact (ref38 _ _ _ _ _ _ _).symm
  rw [outsAt0_B m c t (by omega) (by omega) h]
  frame_out
  refine Eq.trans ?_ (key y)
  refine congrArg (fun s => k0_pay7 (F := Ideal) _ s _ _ _ y) ?_
  exact Memref.IsWhole.read_unread (Memref.isWhole_whole cc0_scratch0) _

/-- The row's element of the normalisation's input. -/
def X (r : Fin 8256) (k : Fin 1024) : EReal := (m ((c : Thread nD τ).loc main_arg2) : FVec Ideal S8256x1024 .f32) (ix2 r k)

/-- The row tile's part of the gain's gradient. -/
def tile (t : Fin cfg0.N) (l : Fin 1024) : EReal :=
  ∑ r : Fin 688, G m c (rowOf t r) l * X m c (rowOf t r) l * rstd (fun k => X m c (rowOf t r) k)

/-- The point's part of the gain's gradient, at a row and a column. -/
def partAt (t : Fin cfg0.N) (r : Fin 8) (l : Fin 1024) : EReal :=
  if r.val < 1 then (if t.val % 2 = 1 then tile m c t l else 0) else 0

/-- The same at an index. -/
def part (t : Fin cfg0.N) (y : S8x1024.Idx) : EReal := partAt m c t (y 0) (y 1)

theorem step_A (t : Fin cfg0.N) (h : t.val % 24 = 0) (y : S8x1024.Idx) : (outsAt0 m c t.val t.isLt).2.1 y = 0 + part m c t y := by
  obtain ⟨r, l, rfl⟩ : ∃ (r : Fin 8) (l : Fin 1024), y = ix2 r l := ⟨y 0, y 1, eq_ix2 y⟩
  rw [outsAt0_A m c t h (by omega) (by omega)]
  frame_out
  show _ = 0 + partAt m c t r l
  unfold partAt
  have h2 : ¬ t.val % 2 = 1 := by omega
  rw [if_neg h2, ite_self, add_zero]
  exact pay1 _

theorem step_B (t : Fin cfg0.N) (h : ¬t.val % 24 = 0) (y : S8x1024.Idx) : (outsAt0 m c t.val t.isLt).2.1 y
    = (outsAt0 m c (t.val - 1) (lt_of_le_of_lt (Nat.sub_le _ _) t.isLt)).2.1 y + part m c t y := by
  obtain ⟨r, l, rfl⟩ : ∃ (r : Fin 8) (l : Fin 1024), y = ix2 r l := ⟨y 0, y 1, eq_ix2 y⟩
  by_cases h2 : t.val % 2 = 1
  · rw [outsAt0_B m c t h (by omega) h2]
    frame_out
    refine (read_row0 _ _ _ _ r l).trans ?_
    show _ = _ + partAt m c t r l
    unfold partAt
    by_cases h0 : r.val < 1
    · rw [if_pos h0, if_pos h0, if_pos h2, pay8]
      obtain rfl : r = 0 := Fin.ext (by omega)
      congr 1
      · pointwise
      · unfold tile
        refine Finset.sum_congr rfl fun r _ => ?_
        have ef := full_at m c t h2 r l
        have es : ∀ y : S688x1024.Idx, View.read (Elt Ideal) (View.whole cc0_scratch0)
            ((Memref.isWhole_whole cc0_scratch0).unread (outsAt0 m c (t.val - 1) (lt_of_le_of_lt (Nat.sub_le _ _) t.isLt)).2.2) y
              = (outsAt0 m c (t.val - 1) (lt_of_le_of_lt (Nat.sub_le _ _) t.isLt)).2.2 y :=
          fun y => congrFun (Memref.IsWhole.read_unread (Memref.isWhole_whole cc0_scratch0) _) y
        refine (congrArg (fun s : EReal => (s + _) * _ * _) (es (ix2 r l))).trans ?_
        simp only [ef, blk2]
        rfl
    · rw [if_neg h0, if_neg h0, Memref.IsWhole.read_unread]
      exact (add_zero _).symm
  · rw [outsAt0_C m c t h (by omega) h2]
    show _ = _ + partAt m c t r l
    unfold partAt
    rw [if_neg h2, ite_self, add_zero]
    rfl

theorem final6 : (dats m 0 c).arrAt 6 cfg0.N
    = Cert.UpDxRIdeal.Read.val_main_v40 (F := Ideal) (m ((c : Thread nD τ).loc main_arg0)) (m ((c : Thread nD τ).loc main_arg1))
        (m ((c : Thread nD τ).loc main_arg2)) := by
  refine (dats m 0 c).arrAt_eq_of_covers 6 _ (by decide +kernel) fun t hf y => ?_
  blk_simp
  rw [after0_6, Pipeline.eq_sum_fin_of_reset_step_apply_of_flush (fun n h => (outsAt0 m c n h).2.1) 24 (fun _ => 0) (part m c)
    (step_A m c) (step_B m c) t ((flush0_6 t).mp hf) _, zero_add]
  have key : ∀ y : S8x1024.Idx, (∑ s : Fin 24, part m c ⟨24 * (t.val / 24) + s.val, Pipeline.run_point_lt_of_flush t ((flush0_6 t).mp hf) s⟩ y)
      = Cert.UpDxRIdeal.Read.val_main_v40 (F := Ideal) (m ((c : Thread nD τ).loc main_arg0)) (m ((c : Thread nD τ).loc main_arg1))
          (m ((c : Thread nD τ).loc main_arg2)) ((win0_6.blk t).view.emb y) := by
    intro y
    obtain ⟨r, l, rfl⟩ : ∃ (r : Fin 8) (l : Fin 1024), y = ix2 r l := ⟨y 0, y 1, eq_ix2 y⟩
    have e : (win0_6.blk t).view.emb (ix2 r l : S8x1024.Idx) = (ix2 r l : S8x1024.Idx) := by
      blk_ext [idx t]
    rw [e]
    refine Eq.trans ?_ (ref40 _ _ _ _ _).symm
    have ht : t.val / 24 = 0 := Nat.div_eq_of_lt t.isLt
    show (∑ s : Fin 24, partAt m c _ r l) = _
    unfold partAt
    by_cases h0 : r.val < 1
    · simp only [if_pos h0]
      refine (sum_odd _ (fun i : Fin 12 => tile m c ⟨2 * i.val + 1, by show _ < 24; omega⟩ l) (fun i hl => ?_) (fun i hl => ?_)).trans ?_
      · refine if_neg ?_
        show ¬(24 * (t.val / 24) + 2 * i.val) % 2 = 1
        omega
      · refine (if_pos ?_).trans ?_
        · show (24 * (t.val / 24) + (2 * i.val + 1)) % 2 = 1
          omega
        · refine congrArg (fun t => tile m c t l) (Fin.ext ?_)
          show 24 * (t.val / 24) + (2 * i.val + 1) = 2 * i.val + 1
          omega
      · unfold tile
        refine sum_tiles _ _ fun s k hl => ?_
        have er : rowOf ⟨2 * s.val + 1, by show _ < 24; omega⟩ k = ⟨s.val * 688 + k.val, hl⟩ := by
          refine Fin.ext ?_
          show (2 * s.val + 1) / 2 * 688 + k.val = s.val * 688 + k.val
          omega
        rw [er]
        rfl
    · simp only [if_neg h0, Finset.sum_const_zero]
  exact key y

end Cert.UpDxFinal
end
-- ==== Proof.UpDxClaim.lean ====
module

public import Idealize.ShloMosaic.Lib.Quiescent
public import proofs.«01_k».proof.Defs
public import proofs.«01_k».proof.Proof.UpDxFinal
public import proofs.«01_k».proof.Proof.Gen.UpDx
public import proofs.«01_k».proof.Proof.Gen.UpDxRIdeal.Run

/-! The reference's frame and the value claim of this call. -/

@[expose] public section

set_option maxRecDepth 16384

noncomputable section
open Idealize.ShloMosaic Idealize.ShloMosaic.TcCoe Idealize.SL.Sem
namespace Cert.UpDxClaim

/-- The reference runs and keeps its arguments; it declares no semaphore. -/
theorem frameRef : Cert.quiescent_UpDxRIdeal (hUpDxRIdeal := Cert.UpDxRIdeal.Gen.facts) := fun m ρ _ =>
  (θ_run Cert.UpDxRIdeal.defs _ _).mono (fun r h => ⟨fun c => (h c).2.2, sem_eq_zero_of_no_sems (by decide) r.2⟩)
    (Cert.UpDxRIdeal.Value.run (F := Ideal) m ρ)

/-- The two programs end with equal results. -/
theorem algebraic : Cert.algebraic_UpDxIdeal_UpDxRIdeal (hUpDxIdeal := Cert.UpDxIdeal.Gen.facts) (hUpDxRIdeal := Cert.UpDxRIdeal.Gen.facts) := by
  intro m g m' g' _ hag
  refine ⟨fun c => (Cert.UpDxIdeal.Gen.dats m 0 c).arrAt 5 Cert.UpDxIdeal.cfg0.N, fun c => (Cert.UpDxIdeal.Gen.dats m 0 c).arrAt 6 Cert.UpDxIdeal.cfg0.N, Cert.UpDxIdeal.Value.run_blocks (F := Ideal) m g, ?_⟩
  refine (θ_run Cert.UpDxRIdeal.defs _ _).mono (fun r h c => ?_) (Cert.UpDxRIdeal.Value.run (F := Ideal) m' g')
  obtain ⟨h0, h1, hk⟩ := h c
  obtain ⟨a0, a1, a2, a3, a4⟩ := hag c
  refine ⟨?_, ?_, hk⟩
  · exact (h0.trans (Cert.UpDxRIdeal.Read.val_main_v38_eq m' c)).trans (by rw [a0, a1, a2, a3, a4]; exact (Cert.UpDxFinal.final5 m c).symm)
  · exact (h1.trans (Cert.UpDxRIdeal.Read.val_main_v40_eq _ _ _)).trans (by rw [a0, a1, a2]; exact (Cert.UpDxFinal.final6 m c).symm)

end Cert.UpDxClaim
end
-- ==== Proof.InDxFinal.lean ====
module

public import Idealize.ShloMosaic.Lib.Pipeline.ValueKit
public import proofs.«01_k».proof.Proof.Norm
public import proofs.«01_k».proof.Proof.Row0
public import Idealize.ShloMosaic.Lib.WordCmp
public import proofs.«01_k».proof.Proof.Gen.InDxIdeal.Value
public import proofs.«01_k».proof.Proof.Gen.InDxRIdeal.Read

/-! The two arrays the input projection's input gradient leaves are the reference's two results. -/

@[expose] public section

set_option maxRecDepth 16384

noncomputable section
open Idealize.ShloMosaic Idealize.ShloMosaic.TcCoe Idealize.SL.Sem Cert.Norm
open Idealize.ShloMosaic.Pipeline (Dat)
namespace Cert.InDxFinal

section R
open Cert.InDxRIdeal Cert.InDxRIdeal.Read

theorem ref18 (x0 : FVec Ideal S8256x3840 .bf16) (x1 : FVec Ideal S1024x3840 .bf16) (r : Fin 8256) (l : Fin 1024) :
    val_main_v18 (F := Ideal) x0 x1 (ix2 r l) = ∑ k : Fin 3840, x0 (ix2 r k) * x1 (ix2 l k) := by
  pointwise [val_main_v18, val_main_v17, val_main_v15]

theorem ref38 (x0 : FVec Ideal S8256x3840 .bf16) (x1 : FVec Ideal S1024x3840 .bf16) (x2 : FVec Ideal S8256x1024 .f32)
    (x3 : FVec Ideal S1x1024 .f32) (x4 : FVec Ideal S8256x1024 .f32) (r : Fin 8256) (l : Fin 1024) :
    val_main_v38 (F := Ideal) x0 x1 x2 x3 x4 (ix2 r l)
      = dxK (fun k => x2 (ix2 r k)) (fun k => val_main_v18 (F := Ideal) x0 x1 (ix2 r k) * x3 (ix2 0 k)) l + x4 (ix2 r l) := by
  rw [← dxR_eq]
  pointwise [val_main_v38, val_main_v37, val_main_v36, val_main_v35, val_main_v34, val_main_v33, val_main_v32, val_main_v31,
    val_main_v30, val_main_v29, val_main_v28, val_main_v27, val_main_v26, val_main_v25, val_main_v24, val_main_v23,
    val_main_v22, val_main_v10, val_main_v9, val_main_v8,
    val_main_v7, val_main_v6, val_main_v5, val_main_v4, val_main_v3, val_main_v2, val_main_v1, val_main_v0, val_main_cst,
    val_main_cst_0, val_main_cst_1, val_main_cst_2, val_main_cst_4, val_main_cst_5, val_main_cst_6]
  unfold dxR dms rstd msq
  simp only [Fin.sum_univ_one]
  rw [add_comm (_ + _) (x4 (ix2 r l)), ← add_assoc, ← add_assoc]

theorem ref40 (x0 : FVec Ideal S8256x3840 .bf16) (x1 : FVec Ideal S1024x3840 .bf16) (x2 : FVec Ideal S8256x1024 .f32) (r : Fin 8) (l : Fin 1024) :
    val_main_v40 (F := Ideal) x0 x1 x2 (ix2 r l)
      = if r.val < 1 then ∑ a : Fin 8256, val_main_v18 (F := Ideal) x0 x1 (ix2 a l) * x2 (ix2 a l) * rstd (fun k => x2 (ix2 a k)) else 0 := by
  pointwise [val_main_v40, val_main_v39, val_main_v21, val_main_v20, val_main_v19, val_main_v12, val_main_v11,
    val_main_v7, val_main_v6, val_main_v5, val_main_v4, val_main_v3, val_main_v2, val_main_v1, val_main_v0, val_main_cst,
    val_main_cst_0, val_main_cst_1, val_main_cst_3, val_main_cst_7]
  by_cases h0 : r.val < 1
  · rw [dif_pos h0, if_pos h0]
    refine Finset.sum_congr rfl fun a _ => ?_
    unfold rstd msq
    ac_rfl
  · rw [dif_neg h0, if_neg h0]
end R

section K
open Cert.InDxIdeal Cert.InDxIdeal.Gen

theorem pay4 (v5 : FVec Ideal S688x3840 .bf16) (v6 : FVec Ideal S1024x3840 .bf16) (r : Fin 688) (l : Fin 1024) :
    k0_pay4 (F := Ideal) v5 v6 (ix2 r l) = ∑ k : Fin 3840, v5 (ix2 r k) * v6 (ix2 l k) := by
  pointwise [k0_pay4]

theorem pay6 (v5 : FVec Ideal S688x3840 .bf16) (v6 : FVec Ideal S1024x3840 .bf16) (x : FVec Ideal S688x1024 .f32)
    (w : FVec Ideal S1x1024 .f32) (r : Fin 688) (l : Fin 1024) :
    k0_pay6 (F := Ideal) v5 v6 x w (ix2 r l)
      = dxK (fun k => x (ix2 r k)) (fun k => k0_pay4 (F := Ideal) v5 v6 (ix2 r k) * w (ix2 0 k)) l := by
  pointwise [k0_pay6, k0_pay5]
  rfl

theorem pay7 (v5 : FVec Ideal S688x3840 .bf16) (v6 : FVec Ideal S1024x3840 .bf16) (x : FVec Ideal S688x1024 .f32) (l : Fin 1024) :
    k0_pay7 (F := Ideal) v5 v6 x (ix2 0 l)
      = ∑ r : Fin 688, k0_pay4 (F := Ideal) v5 v6 (ix2 r l) * x (ix2 r l) * rstd (fun k => x (ix2 r k)) := by
  pointwise [k0_pay7, k0_pay5]
  rfl

theorem pay1 (v x : FVec Ideal S688x1024 .f32) (r : Fin 688) (l : Fin 1024) : k0_pay1 (F := Ideal) v x (ix2 r l) = v (ix2 r l) + x (ix2 r l) := by
  pointwise [k0_pay1]

theorem pay2 (y a : FVec Ideal S1x1024 .f32) (l : Fin 1024) : k0_pay2 (F := Ideal) y a (ix2 0 l) = a (ix2 0 l) + y (ix2 0 l) := by
  pointwise [k0_pay2]

theorem pay3 (j : S8x1024.Idx) : k0_pay3 (F := Ideal) j = 0 := by
  pointwise [k0_pay3]
end K

open Cert.InDxIdeal Cert.InDxIdeal.Gen Cert.Row0

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![0, 0] :=
  (by decide +kernel : ∀ t : Fin grid0.N, _)

variable (m : (ℓ : Loc nD τ sig) → Buf (Elt Ideal) ℓ) (c : Dev nD)

/-- Row `r` of the point's block is row `688 t + r` of the array. -/
def rowOf (t : Fin cfg0.N) (r : Fin 688) : Fin 8256 := ⟨t.val * 688 + r.val, by have : t.val < 12 := t.isLt; omega⟩

theorem blk0 (t : Fin cfg0.N) (r : Fin 688) (k : Fin 3840) :
    (iblk m c 0 t : FVec Ideal S688x3840 .bf16) (ix2 r k) = (m ((c : Thread nD τ).loc main_arg0) : FVec Ideal S8256x3840 .bf16) (ix2 (rowOf t r) k) := by
  blk_ext [iblk, V, rowOf, idx t]

theorem blk1 (t : Fin cfg0.N) (r : Fin 1024) (k : Fin 3840) :
    (iblk m c 1 t : FVec Ideal S1024x3840 .bf16) (ix2 r k) = (m ((c : Thread nD τ).loc main_arg1) : FVec Ideal S1024x3840 .bf16) (ix2 r k) := by
  blk_ext [iblk, V, idx t]

theorem blk2 (t : Fin cfg0.N) (r : Fin 688) (k : Fin 1024) :
    (iblk m c 2 t : FVec Ideal S688x1024 .f32) (ix2 r k) = (m ((c : Thread nD τ).loc main_arg2) : FVec Ideal S8256x1024 .f32) (ix2 (rowOf t r) k) := by
  blk_ext [iblk, V, rowOf, idx t]

theorem blk3 (t : Fin cfg0.N) (k : Fin 1024) :
    (iblk m c 3 t : FVec Ideal S1x1024 .f32) (ix2 0 k) = (m ((c : Thread nD τ).loc main_arg3) : FVec Ideal S1x1024 .f32) (ix2 0 k) := by
  blk_ext [iblk, V, idx t]

theorem blk4 (t : Fin cfg0.N) (r : Fin 688) (k : Fin 1024) :
    (iblk m c 4 t : FVec Ideal S688x1024 .f32) (ix2 r k) = (m ((c : Thread nD τ).loc main_arg4) : FVec Ideal S8256x1024 .f32) (ix2 (rowOf t r) k) := by
  blk_ext [iblk, V, rowOf, idx t]

/-- The product's element, an array's row by the weight's row. -/
def G (r : Fin 8256) (l : Fin 1024) : EReal :=
  Cert.InDxRIdeal.Read.val_main_v18 (F := Ideal) (m ((c : Thread nD τ).loc main_arg0)) (m ((c : Thread nD τ).loc main_arg1)) (ix2 r l)

theorem prod_at (t : Fin cfg0.N) (r : Fin 688) (l : Fin 1024) :
    k0_pay4 (F := Ideal) (iblk m c 0 t) (iblk m c 1 t) (ix2 r l) = G m c (rowOf t r) l := by
  refine (pay4 _ _ r l).trans (Eq.trans ?_ (ref18 _ _ _ _).symm)
  refine Finset.sum_congr rfl fun k _ => ?_
  rw [blk0, blk1]

theorem final5 : (dats m 0 c).arrAt 5 cfg0.N
    = Cert.InDxRIdeal.Read.val_main_v38 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  have key : ∀ y : S688x1024.Idx, k0_pay1 (F := Ideal) (k0_pay6 (iblk m c 0 t) (iblk m c 1 t) (iblk m c 2 t) (iblk m c 3 t)) (iblk m c 4 t) y
      = Cert.InDxRIdeal.Read.val_main_v38 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (((View.whole main_v0_0).slice (win0_5.rect t)).emb y) := by
    intro y
    obtain ⟨r, l, rfl⟩ : ∃ (r : Fin 688) (l : Fin 1024), y = ix2 r l := ⟨y 0, y 1, eq_ix2 y⟩
    have e : ((View.whole main_v0_0).slice (win0_5.rect t)).emb (ix2 r l : S688x1024.Idx) = (ix2 (rowOf t r) l : S8256x1024.Idx) := by
      blk_ext [rowOf, idx t]
    rw [e, pay1, pay6]
    simp only [prod_at, blk2, blk3, blk4]
    exact (ref38 _ _ _ _ _ _ _).symm
  by_cases h : t.val % 12 = 0
  · rw [outsAt0_A m c t h]
    frame_out
    exact key y
  · rw [outsAt0_B m c t h]
    frame_out
    exact key y

/-- The row's element of the normalisation's input. -/
def X (r : Fin 8256) (k : Fin 1024) : EReal := (m ((c : Thread nD τ).loc main_arg2) : FVec Ideal S8256x1024 .f32) (ix2 r k)

/-- The point's part of the gain's gradient, at a row and a column. -/
def partAt (t : Fin cfg0.N) (r : Fin 8) (l : Fin 1024) : EReal :=
  if r.val < 1 then ∑ r : Fin 688, G m c (rowOf t r) l * X m c (rowOf t r) l * rstd (fun k => X m c (rowOf t r) k) else 0

/-- The same at an index. -/
def part (t : Fin cfg0.N) (y : S8x1024.Idx) : EReal := partAt m c t (y 0) (y 1)

theorem gain_at (t : Fin cfg0.N) (l : Fin 1024) :
    k0_pay7 (F := Ideal) (iblk m c 0 t) (iblk m c 1 t) (iblk m c 2 t) (ix2 0 l)
      = ∑ r : Fin 688, G m c (rowOf t r) l * X m c (rowOf t r) l * rstd (fun k => X m c (rowOf t r) k) := by
  rw [pay7]
  simp only [prod_at, blk2]
  rfl

theorem step_A (t : Fin cfg0.N) (h : t.val % 12 = 0) (y : S8x1024.Idx) : (outsAt0 m c t.val t.isLt).2 y = 0 + part m c t y := by
  obtain ⟨r, l, rfl⟩ : ∃ (r : Fin 8) (l : Fin 1024), y = ix2 r l := ⟨y 0, y 1, eq_ix2 y⟩
  rw [outsAt0_A m c t h]
  frame_out
  refine (canon_row0 _ _ _ r l).trans ?_
  show _ = 0 + partAt m c t r l
  have hz : ∀ a : Fin 2, (![0, 0] : Fin 2 → ℕ) a = 0 := by decide
  unfold partAt
  by_cases h0 : r.val < 1
  · rw [if_pos h0, if_pos h0, pay2]
    simp only [gain_at]
    congr 1
    rw [View.readCov_fill _ _ _ _ _ hz]
    pointwise
    exact pay3 _
  · rw [if_neg h0, if_neg h0]
    rw [View.canon_cons_unit_lit _ _ _ hz]
    rw [pay3]; simp

theorem step_B (t : Fin cfg0.N) (h : ¬t.val % 12 = 0) (y : S8x1024.Idx) : (outsAt0 m c t.val t.isLt).2 y
    = (outsAt0 m c (t.val - 1) (lt_of_le_of_lt (Nat.sub_le _ _) t.isLt)).2 y + part m c t y := by
  obtain ⟨r, l, rfl⟩ : ∃ (r : Fin 8) (l : Fin 1024), y = ix2 r l := ⟨y 0, y 1, eq_ix2 y⟩
  rw [outsAt0_B m c t h]
  frame_out
  refine (read_row0 _ _ _ _ r l).trans ?_
  show _ = _ + partAt m c t r l
  unfold partAt
  by_cases h0 : r.val < 1
  · rw [if_pos h0, if_pos h0, pay2]
    simp only [gain_at]
    obtain rfl : r = 0 := Fin.ext (by omega)
    congr 1
    pointwise
  · rw [if_neg h0, if_neg h0, Memref.IsWhole.read_unread]
    exact (add_zero _).symm

theorem final6 : (dats m 0 c).arrAt 6 cfg0.N
    = Cert.InDxRIdeal.Read.val_main_v40 (F := Ideal) (m ((c : Thread nD τ).loc main_arg0)) (m ((c : Thread nD τ).loc main_arg1))
        (m ((c : Thread nD τ).loc main_arg2)) := by
  refine (dats m 0 c).arrAt_eq_of_covers 6 _ (by decide +kernel) fun t hf y => ?_
  blk_simp
  rw [after0_6, Pipeline.eq_sum_fin_of_reset_step_apply_of_flush (fun n h => (outsAt0 m c n h).2) 12 (fun _ => 0) (part m c)
    (step_A m c) (step_B m c) t ((flush0_6 t).mp hf) _, zero_add]
  have key : ∀ y : S8x1024.Idx, (∑ s : Fin 12, part m c ⟨12 * (t.val / 12) + s.val, Pipeline.run_point_lt_of_flush t ((flush0_6 t).mp hf) s⟩ y)
      = Cert.InDxRIdeal.Read.val_main_v40 (F := Ideal) (m ((c : Thread nD τ).loc main_arg0)) (m ((c : Thread nD τ).loc main_arg1))
          (m ((c : Thread nD τ).loc main_arg2)) ((win0_6.blk t).view.emb y) := by
    intro y
    obtain ⟨r, l, rfl⟩ : ∃ (r : Fin 8) (l : Fin 1024), y = ix2 r l := ⟨y 0, y 1, eq_ix2 y⟩
    have e : (win0_6.blk t).view.emb (ix2 r l : S8x1024.Idx) = (ix2 r l : S8x1024.Idx) := by
      blk_ext [idx t]
    rw [e]
    refine Eq.trans ?_ (ref40 _ _ _ _ _).symm
    have ht : t.val / 12 = 0 := Nat.div_eq_of_lt t.isLt
    show (∑ s : Fin 12, partAt m c _ r l) = _
    unfold partAt
    by_cases h0 : r.val < 1
    · simp only [if_pos h0]
      refine sum_tiles _ _ fun s k hl => ?_
      have er : rowOf ⟨12 * (t.val / 12) + s.val, Pipeline.run_point_lt_of_flush t ((flush0_6 t).mp hf) s⟩ k = ⟨s.val * 688 + k.val, hl⟩ := by
        refine Fin.ext ?_
        show (12 * (t.val / 12) + s.val) * 688 + k.val = _
        rw [ht]; simp
      rw [er]
      rfl
    · simp only [if_neg h0, Finset.sum_const_zero]
  exact key y

end Cert.InDxFinal
end
-- ==== Proof.InDxClaim.lean ====
module

public import Idealize.ShloMosaic.Lib.Quiescent
public import proofs.«01_k».proof.Defs
public import proofs.«01_k».proof.Proof.InDxFinal
public import proofs.«01_k».proof.Proof.Gen.InDx
public import proofs.«01_k».proof.Proof.Gen.InDxRIdeal.Run

/-! The reference's frame and the value claim of this call. -/

@[expose] public section

set_option maxRecDepth 16384

noncomputable section
open Idealize.ShloMosaic Idealize.ShloMosaic.TcCoe Idealize.SL.Sem
namespace Cert.InDxClaim

/-- The reference runs and keeps its arguments; it declares no semaphore. -/
theorem frameRef : Cert.quiescent_InDxRIdeal (hInDxRIdeal := Cert.InDxRIdeal.Gen.facts) := fun m ρ _ =>
  (θ_run Cert.InDxRIdeal.defs _ _).mono (fun r h => ⟨fun c => (h c).2.2, sem_eq_zero_of_no_sems (by decide) r.2⟩)
    (Cert.InDxRIdeal.Value.run (F := Ideal) m ρ)

/-- The two programs end with equal results. -/
theorem algebraic : Cert.algebraic_InDxIdeal_InDxRIdeal (hInDxIdeal := Cert.InDxIdeal.Gen.facts) (hInDxRIdeal := Cert.InDxRIdeal.Gen.facts) := by
  intro m g m' g' _ hag
  refine ⟨fun c => (Cert.InDxIdeal.Gen.dats m 0 c).arrAt 5 Cert.InDxIdeal.cfg0.N, fun c => (Cert.InDxIdeal.Gen.dats m 0 c).arrAt 6 Cert.InDxIdeal.cfg0.N, Cert.InDxIdeal.Value.run_blocks (F := Ideal) m g, ?_⟩
  refine (θ_run Cert.InDxRIdeal.defs _ _).mono (fun r h c => ?_) (Cert.InDxRIdeal.Value.run (F := Ideal) m' g')
  obtain ⟨h0, h1, hk⟩ := h c
  obtain ⟨a0, a1, a2, a3, a4⟩ := hag c
  refine ⟨?_, ?_, hk⟩
  · exact (h0.trans (Cert.InDxRIdeal.Read.val_main_v38_eq m' c)).trans (by rw [a0, a1, a2, a3, a4]; exact (Cert.InDxFinal.final5 m c).symm)
  · exact (h1.trans (Cert.InDxRIdeal.Read.val_main_v40_eq _ _ _)).trans (by rw [a0, a1, a2]; exact (Cert.InDxFinal.final6 m c).symm)

end Cert.InDxClaim
end
-- ==== Proof.DownDwFinal.lean ====
module

public import Idealize.ShloMosaic.Lib.Pipeline.ValueKit
public import Idealize.ShloMosaic.Lib.Pointwise
public import proofs.«01_k».proof.Proof.Row0
public import proofs.«01_k».proof.Proof.Gen.DownDwIdeal.Value
public import proofs.«01_k».proof.Proof.Gen.DownDwRIdeal.Read

/-! The down-projection's weight gradient: the array the call leaves is the reference's. -/

@[expose] public section

set_option maxRecDepth 16384

noncomputable section
open Idealize.ShloMosaic Idealize.ShloMosaic.TcCoe Idealize.SL.Sem
open Idealize.ShloMosaic.Pipeline (Dat)
namespace Cert.DownDwFinal
open Cert.DownDwIdeal Cert.DownDwIdeal.Gen

theorem pay1 (v0 : FVec Ideal S2752x1408 .bf16) (v1 : FVec Ideal S2752x1024 .bf16) (r : Fin 1408) (l : Fin 1024) :
    k0_pay1 (F := Ideal) v0 v1 (ix2 r l) = ∑ k : Fin 2752, v0 (ix2 k r) * v1 (ix2 k l) := by
  pointwise [k0_pay1]

theorem pay2 (v0 : FVec Ideal S2752x1408 .bf16) (v1 : FVec Ideal S2752x1024 .bf16) (r : Fin 1408) (l : Fin 1024) :
    k0_pay2 (F := Ideal) v0 v1 (ix2 r l) = ∑ k : Fin 2752, v0 (ix2 k r) * v1 (ix2 k l) := by
  rw [← pay1]; pointwise [k0_pay2]

theorem pay3 (v0 : FVec Ideal S2752x1408 .bf16) (v1 : FVec Ideal S2752x1024 .bf16) (v2 : FVec Ideal S1408x1024 .f32) (r : Fin 1408) (l : Fin 1024) :
    k0_pay3 (F := Ideal) v0 v1 v2 (ix2 r l) = v2 (ix2 r l) + ∑ k : Fin 2752, v0 (ix2 k r) * v1 (ix2 k l) := by
  rw [← pay1]; pointwise [k0_pay3]

theorem pay4 (v2 : FVec Ideal S1408x1024 .f32) (r : Fin 1408) (l : Fin 1024) : k0_pay4 (F := Ideal) v2 (ix2 r l) = v2 (ix2 r l) := by
  pointwise [k0_pay4]

open Cert.DownDwRIdeal.Read in
theorem ref (x0 : FVec Ideal Cert.DownDwRIdeal.S8256x2816 .bf16) (x1 : FVec Ideal Cert.DownDwRIdeal.S8256x1024 .bf16) (r : Fin 2816) (l : Fin 1024) :
    val_main_v7 (F := Ideal) x0 x1 (ix2 r l) = ∑ k : Fin 8256, x0 (ix2 k r) * x1 (ix2 k l) := by
  pointwise [val_main_v7, val_main_v6, val_main_v5, val_main_v4]
  exact Finset.sum_congr rfl fun k _ => EReal.mul_comm _ _

theorem idx : ∀ t : Fin cfg0.N, win0_0.index t = ![t.val % 3, t.val / 3] ∧ win0_1.index t = ![t.val % 3, 0] ∧ win0_2.index t = ![t.val / 3, 0] :=
  (by decide +kernel : ∀ t : Fin grid0.N, _)

variable (m : (ℓ : Loc nD τ sig) → Buf (Elt Ideal) ℓ) (c : Dev nD)

/-- Row `k` of the point's blocks is row `2752 (t mod 3) + k` of the arrays. -/
def rowOf (t : Fin cfg0.N) (k : Fin 2752) : Fin 8256 := ⟨t.val % 3 * 2752 + k.val, by omega⟩
/-- The output row of the point's row `r`. -/
def colA (t : Fin cfg0.N) (r : Fin 1408) : Fin 2816 := ⟨t.val / 3 * 1408 + r.val, by have : t.val < 6 := t.isLt; omega⟩
/-- The output column of the point's column `l`. -/
def colB (t : Fin cfg0.N) (l : Fin 1024) : Fin 1024 := l

theorem blk0 (t : Fin cfg0.N) (k : Fin 2752) (r : Fin 1408) :
    (iblk m c 0 t : FVec Ideal S2752x1408 .bf16) (ix2 k r) = (m ((c : Thread nD τ).loc main_arg0) : FVec Ideal S8256x2816 .bf16) (ix2 (rowOf t k) (colA t r)) := by
  blk_ext [iblk, V, rowOf, colA, idx t]

theorem blk1 (t : Fin cfg0.N) (k : Fin 2752) (l : Fin 1024) :
    (iblk m c 1 t : FVec Ideal S2752x1024 .bf16) (ix2 k l) = (m ((c : Thread nD τ).loc main_arg1) : FVec Ideal S8256x1024 .bf16) (ix2 (rowOf t k) (colB t l)) := by
  blk_ext [iblk, V, rowOf, colB, idx t]

/-- The first array's element. -/
def matA (k : Fin 8256) (r : Fin 2816) : EReal := (m ((c : Thread nD τ).loc main_arg0) : FVec Ideal S8256x2816 .bf16) (ix2 k r)
/-- The second array's element. -/
def matB (k : Fin 8256) (l : Fin 1024) : EReal := (m ((c : Thread nD τ).loc main_arg1) : FVec Ideal S8256x1024 .bf16) (ix2 k l)

/-- The point's part of the product. -/
def partAt (t : Fin cfg0.N) (r : Fin 1408) (l : Fin 1024) : EReal :=
  ∑ k : Fin 2752, matA m c (rowOf t k) (colA t r) * matB m c (rowOf t k) (colB t l)

/-- The same at an index. -/
def part (t : Fin cfg0.N) (y : S1408x1024.Idx) : EReal := partAt m c t (y 0) (y 1)

theorem step_A (t : Fin cfg0.N) (h : t.val % 3 = 0) (y : S1408x1024.Idx) : (outsAt0 m c t.val t.isLt).2 y = 0 + part m c t y := by
  obtain ⟨r, l, rfl⟩ : ∃ (r : Fin 1408) (l : Fin 1024), y = ix2 r l := ⟨y 0, y 1, eq_ix2 y⟩
  rw [outsAt0_A m c t h (by omega) (by omega)]
  frame_out
  refine (pay2 _ _ r l).trans ?_
  rw [zero_add]
  show _ = partAt m c t r l
  unfold partAt
  refine Finset.sum_congr rfl fun k _ => ?_
  rw [blk0, blk1]
  rfl

theorem add_part (t : Fin cfg0.N) (r : Fin 1408) (l : Fin 1024) (v : FVec Ideal S1408x1024 .f32) :
    k0_pay3 (F := Ideal) (iblk m c 0 t) (iblk m c 1 t) v (ix2 r l) = v (ix2 r l) + part m c t (ix2 r l) := by
  refine (pay3 _ _ _ r l).trans ?_
  refine congrArg (v (ix2 r l) + ·) ?_
  show _ = partAt m c t r l
  unfold partAt
  refine Finset.sum_congr rfl fun k _ => ?_
  rw [blk0, blk1]
  rfl

theorem step_B (t : Fin cfg0.N) (h : ¬t.val % 3 = 0) (y : S1408x1024.Idx) : (outsAt0 m c t.val t.isLt).2 y
    = (outsAt0 m c (t.val - 1) (lt_of_le_of_lt (Nat.sub_le _ _) t.isLt)).2 y + part m c t y := by
  obtain ⟨r, l, rfl⟩ : ∃ (r : Fin 1408) (l : Fin 1024), y = ix2 r l := ⟨y 0, y 1, eq_ix2 y⟩
  by_cases h2 : t.val % 3 = 2
  · rw [outsAt0_C m c t h (by omega) h2]
    frame_out
    exact (add_part m c t r l _).trans (congrArg (· + part m c t (ix2 r l)) (congrFun (Memref.IsWhole.read_unread (Memref.isWhole_whole cc0_scratch0) _) _))
  · rw [outsAt0_B m c t h (by omega) h2]
    frame_out
    exact (add_part m c t r l _).trans (congrArg (· + part m c t (ix2 r l)) (congrFun (Memref.IsWhole.read_unread (Memref.isWhole_whole cc0_scratch0) _) _))

theorem step_C (t : Fin cfg0.N) (h2 : t.val % 3 = 2) (y : S1408x1024.Idx) : (outsAt0 m c t.val t.isLt).1 y = (outsAt0 m c t.val t.isLt).2 y := by
  obtain ⟨r, l, rfl⟩ : ∃ (r : Fin 1408) (l : Fin 1024), y = ix2 r l := ⟨y 0, y 1, eq_ix2 y⟩
  rw [outsAt0_C m c t (by omega) (by omega) h2]
  frame_out
  exact pay4 _ r l

theorem final2 : (dats m 0 c).arrAt 2 cfg0.N
    = Cert.DownDwRIdeal.Read.val_main_v7 (F := Ideal) (m ((c : Thread nD τ).loc main_arg0)) (m ((c : Thread nD τ).loc main_arg1)) := by
  refine (dats m 0 c).arrAt_eq_of_covers 2 _ (by decide +kernel) fun t hf y => ?_
  blk_simp
  have h2 := (flush0_2 t).mp hf
  rw [after0_2, step_C m c t h2, Pipeline.eq_sum_fin_of_reset_step_apply_of_flush (fun n h => (outsAt0 m c n h).2) 3 (fun _ => 0) (part m c)
    (step_A m c) (step_B m c) t h2 _, zero_add]
  have key : ∀ y : S1408x1024.Idx, (∑ s : Fin 3, part m c ⟨3 * (t.val / 3) + s.val, Pipeline.run_point_lt_of_flush t h2 s⟩ y)
      = Cert.DownDwRIdeal.Read.val_main_v7 (F := Ideal) (m ((c : Thread nD τ).loc main_arg0)) (m ((c : Thread nD τ).loc main_arg1))
          ((win0_2.blk t).view.emb y) := by
    intro y
    obtain ⟨r, l, rfl⟩ : ∃ (r : Fin 1408) (l : Fin 1024), y = ix2 r l := ⟨y 0, y 1, eq_ix2 y⟩
    have e : (win0_2.blk t).view.emb (ix2 r l : S1408x1024.Idx) = (ix2 (colA t r) (colB t l) : S2816x1024.Idx) := by
      blk_ext [colA, colB, idx t]
    rw [e]
    refine Eq.trans ?_ (ref _ _ _ _).symm
    show (∑ s : Fin 3, partAt m c _ r l) = _
    unfold partAt
    refine Cert.Row0.sum_tiles3 _ _ fun s k hl => ?_
    have er : rowOf ⟨3 * (t.val / 3) + s.val, Pipeline.run_point_lt_of_flush t h2 s⟩ k = ⟨s.val * 2752 + k.val, hl⟩ := by
      refine Fin.ext ?_
      show (3 * (t.val / 3) + s.val) % 3 * 2752 + k.val = _
      rw [Nat.mul_add_mod, Nat.mod_eq_of_lt s.isLt]
    have ea : colA ⟨3 * (t.val / 3) + s.val, Pipeline.run_point_lt_of_flush t h2 s⟩ r = colA t r := by
      refine Fin.ext ?_; show (3 * (t.val / 3) + s.val) / 3 * 1408 + r.val = t.val / 3 * 1408 + r.val; omega
    have eb : colB ⟨3 * (t.val / 3) + s.val, Pipeline.run_point_lt_of_flush t h2 s⟩ l = colB t l := by
      rfl
    rw [er, ea, eb]
    rfl
  exact key y

end Cert.DownDwFinal
end
-- ==== Proof.DownDwClaim.lean ====
module

public import Idealize.ShloMosaic.Lib.Quiescent
public import proofs.«01_k».proof.Defs
public import proofs.«01_k».proof.Proof.DownDwFinal
public import proofs.«01_k».proof.Proof.Gen.DownDw
public import proofs.«01_k».proof.Proof.Gen.DownDwRIdeal.Run

/-! The reference's frame and the value claim of this call. -/

@[expose] public section

set_option maxRecDepth 16384

noncomputable section
open Idealize.ShloMosaic Idealize.ShloMosaic.TcCoe Idealize.SL.Sem
namespace Cert.DownDwClaim

/-- The reference runs and keeps its arguments; it declares no semaphore. -/
theorem frameRef : Cert.quiescent_DownDwRIdeal (hDownDwRIdeal := Cert.DownDwRIdeal.Gen.facts) := fun m ρ _ =>
  (θ_run Cert.DownDwRIdeal.defs _ _).mono (fun r h => ⟨fun c => (h c).2, sem_eq_zero_of_no_sems (by decide) r.2⟩)
    (Cert.DownDwRIdeal.Value.run (F := Ideal) m ρ)

/-- The two programs end with equal results. -/
theorem algebraic : Cert.algebraic_DownDwIdeal_DownDwRIdeal (hDownDwIdeal := Cert.DownDwIdeal.Gen.facts) (hDownDwRIdeal := Cert.DownDwRIdeal.Gen.facts) := by
  intro m g m' g' _ hag
  refine ⟨fun c => (Cert.DownDwIdeal.Gen.dats m 0 c).arrAt 2 Cert.DownDwIdeal.cfg0.N, Cert.DownDwIdeal.Value.run_blocks (F := Ideal) m g, ?_⟩
  refine (θ_run Cert.DownDwRIdeal.defs _ _).mono (fun r h c => ?_) (Cert.DownDwRIdeal.Value.run (F := Ideal) m' g')
  obtain ⟨h0, hk⟩ := h c
  obtain ⟨a0, a1⟩ := hag c
  refine ⟨?_, hk⟩
  · exact (h0.trans (Cert.DownDwRIdeal.Read.val_main_v7_eq _ _)).trans (by rw [a0, a1]; exact (Cert.DownDwFinal.final2 m c).symm)

end Cert.DownDwClaim
end
-- ==== Proof.UpDwFinal.lean ====
module

public import Idealize.ShloMosaic.Lib.Pipeline.ValueKit
public import Idealize.ShloMosaic.Lib.Pointwise
public import proofs.«01_k».proof.Proof.Row0
public import proofs.«01_k».proof.Proof.Gen.UpDwIdeal.Value
public import proofs.«01_k».proof.Proof.Gen.UpDwRIdeal.Read

/-! The up-projection's weight gradient: the array the call leaves is the reference's. -/

@[expose] public section

set_option maxRecDepth 16384

noncomputable section
open Idealize.ShloMosaic Idealize.ShloMosaic.TcCoe Idealize.SL.Sem
open Idealize.ShloMosaic.Pipeline (Dat)
namespace Cert.UpDwFinal
open Cert.UpDwIdeal Cert.UpDwIdeal.Gen

theorem pay1 (v0 : FVec Ideal S2752x1024 .bf16) (v1 : FVec Ideal S2752x1408 .bf16) (r : Fin 1024) (l : Fin 1408) :
    k0_pay1 (F := Ideal) v0 v1 (ix2 r l) = ∑ k : Fin 2752, v0 (ix2 k r) * v1 (ix2 k l) := by
  pointwise [k0_pay1]

theorem pay2 (v0 : FVec Ideal S2752x1024 .bf16) (v1 : FVec Ideal S2752x1408 .bf16) (r : Fin 1024) (l : Fin 1408) :
    k0_pay2 (F := Ideal) v0 v1 (ix2 r l) = ∑ k : Fin 2752, v0 (ix2 k r) * v1 (ix2 k l) := by
  rw [← pay1]; pointwise [k0_pay2]

theorem pay3 (v0 : FVec Ideal S2752x1024 .bf16) (v1 : FVec Ideal S2752x1408 .bf16) (v2 : FVec Ideal S1024x1408 .f32) (r : Fin 1024) (l : Fin 1408) :
    k0_pay3 (F := Ideal) v0 v1 v2 (ix2 r l) = v2 (ix2 r l) + ∑ k : Fin 2752, v0 (ix2 k r) * v1 (ix2 k l) := by
  rw [← pay1]; pointwise [k0_pay3]

theorem pay4 (v2 : FVec Ideal S1024x1408 .f32) (r : Fin 1024) (l : Fin 1408) : k0_pay4 (F := Ideal) v2 (ix2 r l) = v2 (ix2 r l) := by
  pointwise [k0_pay4]

open Cert.UpDwRIdeal.Read in
theorem ref (x0 : FVec Ideal Cert.UpDwRIdeal.S8256x1024 .bf16) (x1 : FVec Ideal Cert.UpDwRIdeal.S8256x5632 .bf16) (r : Fin 1024) (l : Fin 5632) :
    val_main_v7 (F := Ideal) x0 x1 (ix2 r l) = ∑ k : Fin 8256, x0 (ix2 k r) * x1 (ix2 k l) := by
  pointwise [val_main_v7, val_main_v6, val_main_v5, val_main_v4]
  exact Finset.sum_congr rfl fun k _ => EReal.mul_comm _ _

theorem idx : ∀ t : Fin cfg0.N, win0_0.index t = ![t.val % 3, 0] ∧ win0_1.index t = ![t.val % 3, t.val / 3] ∧ win0_2.index t = ![0, t.val / 3] :=
  (by decide +kernel : ∀ t : Fin grid0.N, _)

variable (m : (ℓ : Loc nD τ sig) → Buf (Elt Ideal) ℓ) (c : Dev nD)

/-- Row `k` of the point's blocks is row `2752 (t mod 3) + k` of the arrays. -/
def rowOf (t : Fin cfg0.N) (k : Fin 2752) : Fin 8256 := ⟨t.val % 3 * 2752 + k.val, by omega⟩
/-- The output row of the point's row `r`. -/
def colA (t : Fin cfg0.N) (r : Fin 1024) : Fin 1024 := r
/-- The output column of the point's column `l`. -/
def colB (t : Fin cfg0.N) (l : Fin 1408) : Fin 5632 := ⟨t.val / 3 * 1408 + l.val, by have : t.val < 12 := t.isLt; omega⟩

theorem blk0 (t : Fin cfg0.N) (k : Fin 2752) (r : Fin 1024) :
    (iblk m c 0 t : FVec Ideal S2752x1024 .bf16) (ix2 k r) = (m ((c : Thread nD τ).loc main_arg0) : FVec Ideal S8256x1024 .bf16) (ix2 (rowOf t k) (colA t r)) := by
  blk_ext [iblk, V, rowOf, colA, idx t]

theorem blk1 (t : Fin cfg0.N) (k : Fin 2752) (l : Fin 1408) :
    (iblk m c 1 t : FVec Ideal S2752x1408 .bf16) (ix2 k l) = (m ((c : Thread nD τ).loc main_arg1) : FVec Ideal S8256x5632 .bf16) (ix2 (rowOf t k) (colB t l)) := by
  blk_ext [iblk, V, rowOf, colB, idx t]

/-- The first array's element. -/
def matA (k : Fin 8256) (r : Fin 1024) : EReal := (m ((c : Thread nD τ).loc main_arg0) : FVec Ideal S8256x1024 .bf16) (ix2 k r)
/-- The second array's element. -/
def matB (k : Fin 8256) (l : Fin 5632) : EReal := (m ((c : Thread nD τ).loc main_arg1) : FVec Ideal S8256x5632 .bf16) (ix2 k l)

/-- The point's part of the product. -/
def partAt (t : Fin cfg0.N) (r : Fin 1024) (l : Fin 1408) : EReal :=
  ∑ k : Fin 2752, matA m c (rowOf t k) (colA t r) * matB m c (rowOf t k) (colB t l)

/-- The same at an index. -/
def part (t : Fin cfg0.N) (y : S1024x1408.Idx) : EReal := partAt m c t (y 0) (y 1)

theorem step_A (t : Fin cfg0.N) (h : t.val % 3 = 0) (y : S1024x1408.Idx) : (outsAt0 m c t.val t.isLt).2 y = 0 + part m c t y := by
  obtain ⟨r, l, rfl⟩ : ∃ (r : Fin 1024) (l : Fin 1408), y = ix2 r l := ⟨y 0, y 1, eq_ix2 y⟩
  rw [outsAt0_A m c t h (by omega) (by omega)]
  frame_out
  refine (pay2 _ _ r l).trans ?_
  rw [zero_add]
  show _ = partAt m c t r l
  unfold partAt
  refine Finset.sum_congr rfl fun k _ => ?_
  rw [blk0, blk1]
  rfl

theorem add_part (t : Fin cfg0.N) (r : Fin 1024) (l : Fin 1408) (v : FVec Ideal S1024x1408 .f32) :
    k0_pay3 (F := Ideal) (iblk m c 0 t) (iblk m c 1 t) v (ix2 r l) = v (ix2 r l) + part m c t (ix2 r l) := by
  refine (pay3 _ _ _ r l).trans ?_
  refine congrArg (v (ix2 r l) + ·) ?_
  show _ = partAt m c t r l
  unfold partAt
  refine Finset.sum_congr rfl fun k _ => ?_
  rw [blk0, blk1]
  rfl

theorem step_B (t : Fin cfg0.N) (h : ¬t.val % 3 = 0) (y : S1024x1408.Idx) : (outsAt0 m c t.val t.isLt).2 y
    = (outsAt0 m c (t.val - 1) (lt_of_le_of_lt (Nat.sub_le _ _) t.isLt)).2 y + part m c t y := by
  obtain ⟨r, l, rfl⟩ : ∃ (r : Fin 1024) (l : Fin 1408), y = ix2 r l := ⟨y 0, y 1, eq_ix2 y⟩
  by_cases h2 : t.val % 3 = 2
  · rw [outsAt0_C m c t h (by omega) h2]
    frame_out
    exact (add_part m c t r l _).trans (congrArg (· + part m c t (ix2 r l)) (congrFun (Memref.IsWhole.read_unread (Memref.isWhole_whole cc0_scratch0) _) _))
  · rw [outsAt0_B m c t h (by omega) h2]
    frame_out
    exact (add_part m c t r l _).trans (congrArg (· + part m c t (ix2 r l)) (congrFun (Memref.IsWhole.read_unread (Memref.isWhole_whole cc0_scratch0) _) _))

theorem step_C (t : Fin cfg0.N) (h2 : t.val % 3 = 2) (y : S1024x1408.Idx) : (outsAt0 m c t.val t.isLt).1 y = (outsAt0 m c t.val t.isLt).2 y := by
  obtain ⟨r, l, rfl⟩ : ∃ (r : Fin 1024) (l : Fin 1408), y = ix2 r l := ⟨y 0, y 1, eq_ix2 y⟩
  rw [outsAt0_C m c t (by omega) (by omega) h2]
  frame_out
  exact pay4 _ r l

theorem final2 : (dats m 0 c).arrAt 2 cfg0.N
    = Cert.UpDwRIdeal.Read.val_main_v7 (F := Ideal) (m ((c : Thread nD τ).loc main_arg0)) (m ((c : Thread nD τ).loc main_arg1)) := by
  refine (dats m 0 c).arrAt_eq_of_covers 2 _ (by decide +kernel) fun t hf y => ?_
  blk_simp
  have h2 := (flush0_2 t).mp hf
  rw [after0_2, step_C m c t h2, Pipeline.eq_sum_fin_of_reset_step_apply_of_flush (fun n h => (outsAt0 m c n h).2) 3 (fun _ => 0) (part m c)
    (step_A m c) (step_B m c) t h2 _, zero_add]
  have key : ∀ y : S1024x1408.Idx, (∑ s : Fin 3, part m c ⟨3 * (t.val / 3) + s.val, Pipeline.run_point_lt_of_flush t h2 s⟩ y)
      = Cert.UpDwRIdeal.Read.val_main_v7 (F := Ideal) (m ((c : Thread nD τ).loc main_arg0)) (m ((c : Thread nD τ).loc main_arg1))
          ((win0_2.blk t).view.emb y) := by
    intro y
    obtain ⟨r, l, rfl⟩ : ∃ (r : Fin 1024) (l : Fin 1408), y = ix2 r l := ⟨y 0, y 1, eq_ix2 y⟩
    have e : (win0_2.blk t).view.emb (ix2 r l : S1024x1408.Idx) = (ix2 (colA t r) (colB t l) : S1024x5632.Idx) := by
      blk_ext [colA, colB, idx t]
    rw [e]
    refine Eq.trans ?_ (ref _ _ _ _).symm
    show (∑ s : Fin 3, partAt m c _ r l) = _
    unfold partAt
    refine Cert.Row0.sum_tiles3 _ _ fun s k hl => ?_
    have er : rowOf ⟨3 * (t.val / 3) + s.val, Pipeline.run_point_lt_of_flush t h2 s⟩ k = ⟨s.val * 2752 + k.val, hl⟩ := by
      refine Fin.ext ?_
      show (3 * (t.val / 3) + s.val) % 3 * 2752 + k.val = _
      rw [Nat.mul_add_mod, Nat.mod_eq_of_lt s.isLt]
    have ea : colA ⟨3 * (t.val / 3) + s.val, Pipeline.run_point_lt_of_flush t h2 s⟩ r = colA t r := by
      rfl
    have eb : colB ⟨3 * (t.val / 3) + s.val, Pipeline.run_point_lt_of_flush t h2 s⟩ l = colB t l := by
      refine Fin.ext ?_; show (3 * (t.val / 3) + s.val) / 3 * 1408 + l.val = t.val / 3 * 1408 + l.val; omega
    rw [er, ea, eb]
    rfl
  exact key y

end Cert.UpDwFinal
end
-- ==== Proof.UpDwClaim.lean ====
module

public import Idealize.ShloMosaic.Lib.Quiescent
public import proofs.«01_k».proof.Defs
public import proofs.«01_k».proof.Proof.UpDwFinal
public import proofs.«01_k».proof.Proof.Gen.UpDw
public import proofs.«01_k».proof.Proof.Gen.UpDwRIdeal.Run

/-! The reference's frame and the value claim of this call. -/

@[expose] public section

set_option maxRecDepth 16384

noncomputable section
open Idealize.ShloMosaic Idealize.ShloMosaic.TcCoe Idealize.SL.Sem
namespace Cert.UpDwClaim

/-- The reference runs and keeps its arguments; it declares no semaphore. -/
theorem frameRef : Cert.quiescent_UpDwRIdeal (hUpDwRIdeal := Cert.UpDwRIdeal.Gen.facts) := fun m ρ _ =>
  (θ_run Cert.UpDwRIdeal.defs _ _).mono (fun r h => ⟨fun c => (h c).2, sem_eq_zero_of_no_sems (by decide) r.2⟩)
    (Cert.UpDwRIdeal.Value.run (F := Ideal) m ρ)

/-- The two programs end with equal results. -/
theorem algebraic : Cert.algebraic_UpDwIdeal_UpDwRIdeal (hUpDwIdeal := Cert.UpDwIdeal.Gen.facts) (hUpDwRIdeal := Cert.UpDwRIdeal.Gen.facts) := by
  intro m g m' g' _ hag
  refine ⟨fun c => (Cert.UpDwIdeal.Gen.dats m 0 c).arrAt 2 Cert.UpDwIdeal.cfg0.N, Cert.UpDwIdeal.Value.run_blocks (F := Ideal) m g, ?_⟩
  refine (θ_run Cert.UpDwRIdeal.defs _ _).mono (fun r h c => ?_) (Cert.UpDwRIdeal.Value.run (F := Ideal) m' g')
  obtain ⟨h0, hk⟩ := h c
  obtain ⟨a0, a1⟩ := hag c
  refine ⟨?_, hk⟩
  · exact (h0.trans (Cert.UpDwRIdeal.Read.val_main_v7_eq _ _)).trans (by rw [a0, a1]; exact (Cert.UpDwFinal.final2 m c).symm)

end Cert.UpDwClaim
end
-- ==== Proof.OutDwFinal.lean ====
module

public import Idealize.ShloMosaic.Lib.Pipeline.ValueKit
public import Idealize.ShloMosaic.Lib.Pointwise
public import proofs.«01_k».proof.Proof.Row0
public import proofs.«01_k».proof.Proof.Gen.OutDwIdeal.Value
public import proofs.«01_k».proof.Proof.Gen.OutDwRIdeal.Read

/-! The output projection's weight gradient: the array the call leaves is the reference's. -/

@[expose] public section

set_option maxRecDepth 16384

noncomputable section
open Idealize.ShloMosaic Idealize.ShloMosaic.TcCoe Idealize.SL.Sem
open Idealize.ShloMosaic.Pipeline (Dat)
namespace Cert.OutDwFinal
open Cert.OutDwIdeal Cert.OutDwIdeal.Gen

theorem pay1 (v0 : FVec Ideal S2752x1024 .bf16) (v1 : FVec Ideal S2752x1024 .bf16) (r : Fin 1024) (l : Fin 1024) :
    k0_pay1 (F := Ideal) v0 v1 (ix2 r l) = ∑ k : Fin 2752, v0 (ix2 k r) * v1 (ix2 k l) := by
  pointwise [k0_pay1]

theorem pay2 (v0 : FVec Ideal S2752x1024 .bf16) (v1 : FVec Ideal S2752x1024 .bf16) (r : Fin 1024) (l : Fin 1024) :
    k0_pay2 (F := Ideal) v0 v1 (ix2 r l) = ∑ k : Fin 2752, v0 (ix2 k r) * v1 (ix2 k l) := by
  rw [← pay1]; pointwise [k0_pay2]

theorem pay3 (v0 : FVec Ideal S2752x1024 .bf16) (v1 : FVec Ideal S2752x1024 .bf16) (v2 : FVec Ideal S1024x1024 .f32) (r : Fin 1024) (l : Fin 1024) :
    k0_pay3 (F := Ideal) v0 v1 v2 (ix2 r l) = v2 (ix2 r l) + ∑ k : Fin 2752, v0 (ix2 k r) * v1 (ix2 k l) := by
  rw [← pay1]; pointwise [k0_pay3]

theorem pay4 (v2 : FVec Ideal S1024x1024 .f32) (r : Fin 1024) (l : Fin 1024) : k0_pay4 (F := Ideal) v2 (ix2 r l) = v2 (ix2 r l) := by
  pointwise [k0_pay4]

open Cert.OutDwRIdeal.Read in
theorem ref (x0 : FVec Ideal Cert.OutDwRIdeal.S8256x1024 .bf16) (x1 : FVec Ideal Cert.OutDwRIdeal.S8256x1024 .bf16) (r : Fin 1024) (l : Fin 1024) :
    val_main_v7 (F := Ideal) x0 x1 (ix2 r l) = ∑ k : Fin 8256, x0 (ix2 k r) * x1 (ix2 k l) := by
  pointwise [val_main_v7, val_main_v6, val_main_v5, val_main_v4]
  exact Finset.sum_congr rfl fun k _ => EReal.mul_comm _ _

theorem idx : ∀ t : Fin cfg0.N, win0_0.index t = ![t.val % 3, 0] ∧ win0_1.index t = ![t.val % 3, 0] ∧ win0_2.index t = ![0, 0] :=
  (by decide +kernel : ∀ t : Fin grid0.N, _)

variable (m : (ℓ : Loc nD τ sig) → Buf (Elt Ideal) ℓ) (c : Dev nD)

/-- Row `k` of the point's blocks is row `2752 (t mod 3) + k` of the arrays. -/
def rowOf (t : Fin cfg0.N) (k : Fin 2752) : Fin 8256 := ⟨t.val % 3 * 2752 + k.val, by omega⟩
/-- The output row of the point's row `r`. -/
def colA (t : Fin cfg0.N) (r : Fin 1024) : Fin 1024 := r
/-- The output column of the point's column `l`. -/
def colB (t : Fin cfg0.N) (l : Fin 1024) : Fin 1024 := l

theorem blk0 (t : Fin cfg0.N) (k : Fin 2752) (r : Fin 1024) :
    (iblk m c 0 t : FVec Ideal S2752x1024 .bf16) (ix2 k r) = (m ((c : Thread nD τ).loc main_arg0) : FVec Ideal S8256x1024 .bf16) (ix2 (rowOf t k) (colA t r)) := by
  blk_ext [iblk, V, rowOf, colA, idx t]

theorem blk1 (t : Fin cfg0.N) (k : Fin 2752) (l : Fin 1024) :
    (iblk m c 1 t : FVec Ideal S2752x1024 .bf16) (ix2 k l) = (m ((c : Thread nD τ).loc main_arg1) : FVec Ideal S8256x1024 .bf16) (ix2 (rowOf t k) (colB t l)) := by
  blk_ext [iblk, V, rowOf, colB, idx t]

/-- The first array's element. -/
def matA (k : Fin 8256) (r : Fin 1024) : EReal := (m ((c : Thread nD τ).loc main_arg0) : FVec Ideal S8256x1024 .bf16) (ix2 k r)
/-- The second array's element. -/
def matB (k : Fin 8256) (l : Fin 1024) : EReal := (m ((c : Thread nD τ).loc main_arg1) : FVec Ideal S8256x1024 .bf16) (ix2 k l)

/-- The point's part of the product. -/
def partAt (t : Fin cfg0.N) (r : Fin 1024) (l : Fin 1024) : EReal :=
  ∑ k : Fin 2752, matA m c (rowOf t k) (colA t r) * matB m c (rowOf t k) (colB t l)

/-- The same at an index. -/
def part (t : Fin cfg0.N) (y : S1024x1024.Idx) : EReal := partAt m c t (y 0) (y 1)

theorem step_A (t : Fin cfg0.N) (h : t.val % 3 = 0) (y : S1024x1024.Idx) : (outsAt0 m c t.val t.isLt).2 y = 0 + part m c t y := by
  obtain ⟨r, l, rfl⟩ : ∃ (r : Fin 1024) (l : Fin 1024), y = ix2 r l := ⟨y 0, y 1, eq_ix2 y⟩
  rw [outsAt0_A m c t h (by have : t.val < 3 := t.isLt; omega) (by omega)]
  frame_out
  refine (pay2 _ _ r l).trans ?_
  rw [zero_add]
  show _ = partAt m c t r l
  unfold partAt
  refine Finset.sum_congr rfl fun k _ => ?_
  rw [blk0, blk1]
  rfl

theorem add_part (t : Fin cfg0.N) (r : Fin 1024) (l : Fin 1024) (v : FVec Ideal S1024x1024 .f32) :
    k0_pay3 (F := Ideal) (iblk m c 0 t) (iblk m c 1 t) v (ix2 r l) = v (ix2 r l) + part m c t (ix2 r l) := by
  refine (pay3 _ _ _ r l).trans ?_
  refine congrArg (v (ix2 r l) + ·) ?_
  show _ = partAt m c t r l
  unfold partAt
  refine Finset.sum_congr rfl fun k _ => ?_
  rw [blk0, blk1]
  rfl

theorem step_B (t : Fin cfg0.N) (h : ¬t.val % 3 = 0) (y : S1024x1024.Idx) : (outsAt0 m c t.val t.isLt).2 y
    = (outsAt0 m c (t.val - 1) (lt_of_le_of_lt (Nat.sub_le _ _) t.isLt)).2 y + part m c t y := by
  obtain ⟨r, l, rfl⟩ : ∃ (r : Fin 1024) (l : Fin 1024), y = ix2 r l := ⟨y 0, y 1, eq_ix2 y⟩
  by_cases h2 : t.val % 3 = 2
  · rw [outsAt0_C m c t h (by omega) h2]
    frame_out
    exact (add_part m c t r l _).trans (congrArg (· + part m c t (ix2 r l)) (congrFun (Memref.IsWhole.read_unread (Memref.isWhole_whole cc0_scratch0) _) _))
  · rw [outsAt0_B m c t h (by omega) h2]
    frame_out
    exact (add_part m c t r l _).trans (congrArg (· + part m c t (ix2 r l)) (congrFun (Memref.IsWhole.read_unread (Memref.isWhole_whole cc0_scratch0) _) _))

theorem step_C (t : Fin cfg0.N) (h2 : t.val % 3 = 2) (y : S1024x1024.Idx) : (outsAt0 m c t.val t.isLt).1 y = (outsAt0 m c t.val t.isLt).2 y := by
  obtain ⟨r, l, rfl⟩ : ∃ (r : Fin 1024) (l : Fin 1024), y = ix2 r l := ⟨y 0, y 1, eq_ix2 y⟩
  rw [outsAt0_C m c t (by omega) (by omega) h2]
  frame_out
  exact pay4 _ r l

theorem final2 : (dats m 0 c).arrAt 2 cfg0.N
    = Cert.OutDwRIdeal.Read.val_main_v7 (F := Ideal) (m ((c : Thread nD τ).loc main_arg0)) (m ((c : Thread nD τ).loc main_arg1)) := by
  refine (dats m 0 c).arrAt_eq_of_covers 2 _ (by decide +kernel) fun t hf y => ?_
  blk_simp
  have h2 := (flush0_2 t).mp hf
  rw [after0_2, step_C m c t h2, Pipeline.eq_sum_fin_of_reset_step_apply_of_flush (fun n h => (outsAt0 m c n h).2) 3 (fun _ => 0) (part m c)
    (step_A m c) (step_B m c) t h2 _, zero_add]
  have key : ∀ y : S1024x1024.Idx, (∑ s : Fin 3, part m c ⟨3 * (t.val / 3) + s.val, Pipeline.run_point_lt_of_flush t h2 s⟩ y)
      = Cert.OutDwRIdeal.Read.val_main_v7 (F := Ideal) (m ((c : Thread nD τ).loc main_arg0)) (m ((c : Thread nD τ).loc main_arg1))
          ((win0_2.blk t).view.emb y) := by
    intro y
    obtain ⟨r, l, rfl⟩ : ∃ (r : Fin 1024) (l : Fin 1024), y = ix2 r l := ⟨y 0, y 1, eq_ix2 y⟩
    have e : (win0_2.blk t).view.emb (ix2 r l : S1024x1024.Idx) = (ix2 (colA t r) (colB t l) : S1024x1024.Idx) := by
      blk_ext [colA, colB, idx t]
    rw [e]
    refine Eq.trans ?_ (ref _ _ _ _).symm
    show (∑ s : Fin 3, partAt m c _ r l) = _
    unfold partAt
    refine Cert.Row0.sum_tiles3 _ _ fun s k hl => ?_
    have er : rowOf ⟨3 * (t.val / 3) + s.val, Pipeline.run_point_lt_of_flush t h2 s⟩ k = ⟨s.val * 2752 + k.val, hl⟩ := by
      refine Fin.ext ?_
      show (3 * (t.val / 3) + s.val) % 3 * 2752 + k.val = _
      rw [Nat.mul_add_mod, Nat.mod_eq_of_lt s.isLt]
    have ea : colA ⟨3 * (t.val / 3) + s.val, Pipeline.run_point_lt_of_flush t h2 s⟩ r = colA t r := by
      rfl
    have eb : colB ⟨3 * (t.val / 3) + s.val, Pipeline.run_point_lt_of_flush t h2 s⟩ l = colB t l := by
      rfl
    rw [er, ea, eb]
    rfl
  exact key y

end Cert.OutDwFinal
end
-- ==== Proof.OutDwClaim.lean ====
module

public import Idealize.ShloMosaic.Lib.Quiescent
public import proofs.«01_k».proof.Defs
public import proofs.«01_k».proof.Proof.OutDwFinal
public import proofs.«01_k».proof.Proof.Gen.OutDw
public import proofs.«01_k».proof.Proof.Gen.OutDwRIdeal.Run

/-! The reference's frame and the value claim of this call. -/

@[expose] public section

set_option maxRecDepth 16384

noncomputable section
open Idealize.ShloMosaic Idealize.ShloMosaic.TcCoe Idealize.SL.Sem
namespace Cert.OutDwClaim

/-- The reference runs and keeps its arguments; it declares no semaphore. -/
theorem frameRef : Cert.quiescent_OutDwRIdeal (hOutDwRIdeal := Cert.OutDwRIdeal.Gen.facts) := fun m ρ _ =>
  (θ_run Cert.OutDwRIdeal.defs _ _).mono (fun r h => ⟨fun c => (h c).2, sem_eq_zero_of_no_sems (by decide) r.2⟩)
    (Cert.OutDwRIdeal.Value.run (F := Ideal) m ρ)

/-- The two programs end with equal results. -/
theorem algebraic : Cert.algebraic_OutDwIdeal_OutDwRIdeal (hOutDwIdeal := Cert.OutDwIdeal.Gen.facts) (hOutDwRIdeal := Cert.OutDwRIdeal.Gen.facts) := by
  intro m g m' g' _ hag
  refine ⟨fun c => (Cert.OutDwIdeal.Gen.dats m 0 c).arrAt 2 Cert.OutDwIdeal.cfg0.N, Cert.OutDwIdeal.Value.run_blocks (F := Ideal) m g, ?_⟩
  refine (θ_run Cert.OutDwRIdeal.defs _ _).mono (fun r h c => ?_) (Cert.OutDwRIdeal.Value.run (F := Ideal) m' g')
  obtain ⟨h0, hk⟩ := h c
  obtain ⟨a0, a1⟩ := hag c
  refine ⟨?_, hk⟩
  · exact (h0.trans (Cert.OutDwRIdeal.Read.val_main_v7_eq _ _)).trans (by rw [a0, a1]; exact (Cert.OutDwFinal.final2 m c).symm)

end Cert.OutDwClaim
end
-- ==== Proof.InDwFinal.lean ====
module

public import Idealize.ShloMosaic.Lib.Pipeline.ValueKit
public import Idealize.ShloMosaic.Lib.Pointwise
public import proofs.«01_k».proof.Proof.Row0
public import proofs.«01_k».proof.Proof.Gen.InDwIdeal.Value
public import proofs.«01_k».proof.Proof.Gen.InDwRIdeal.Read

/-! The input projection's weight gradient: the array the call leaves is the reference's. -/

@[expose] public section

set_option maxRecDepth 16384

noncomputable section
open Idealize.ShloMosaic Idealize.ShloMosaic.TcCoe Idealize.SL.Sem
open Idealize.ShloMosaic.Pipeline (Dat)
namespace Cert.InDwFinal
open Cert.InDwIdeal Cert.InDwIdeal.Gen

theorem pay1 (v0 : FVec Ideal S2752x1024 .bf16) (v1 : FVec Ideal S2752x1280 .bf16) (r : Fin 1024) (l : Fin 1280) :
    k0_pay1 (F := Ideal) v0 v1 (ix2 r l) = ∑ k : Fin 2752, v0 (ix2 k r) * v1 (ix2 k l) := by
  pointwise [k0_pay1]

theorem pay2 (v0 : FVec Ideal S2752x1024 .bf16) (v1 : FVec Ideal S2752x1280 .bf16) (r : Fin 1024) (l : Fin 1280) :
    k0_pay2 (F := Ideal) v0 v1 (ix2 r l) = ∑ k : Fin 2752, v0 (ix2 k r) * v1 (ix2 k l) := by
  rw [← pay1]; pointwise [k0_pay2]

theorem pay3 (v0 : FVec Ideal S2752x1024 .bf16) (v1 : FVec Ideal S2752x1280 .bf16) (v2 : FVec Ideal S1024x1280 .f32) (r : Fin 1024) (l : Fin 1280) :
    k0_pay3 (F := Ideal) v0 v1 v2 (ix2 r l) = v2 (ix2 r l) + ∑ k : Fin 2752, v0 (ix2 k r) * v1 (ix2 k l) := by
  rw [← pay1]; pointwise [k0_pay3]

theorem pay4 (v2 : FVec Ideal S1024x1280 .f32) (r : Fin 1024) (l : Fin 1280) : k0_pay4 (F := Ideal) v2 (ix2 r l) = v2 (ix2 r l) := by
  pointwise [k0_pay4]

open Cert.InDwRIdeal.Read in
theorem ref (x0 : FVec Ideal Cert.InDwRIdeal.S8256x1024 .bf16) (x1 : FVec Ideal Cert.InDwRIdeal.S8256x3840 .bf16) (r : Fin 1024) (l : Fin 3840) :
    val_main_v7 (F := Ideal) x0 x1 (ix2 r l) = ∑ k : Fin 8256, x0 (ix2 k r) * x1 (ix2 k l) := by
  pointwise [val_main_v7, val_main_v6, val_main_v5, val_main_v4]
  exact Finset.sum_congr rfl fun k _ => EReal.mul_comm _ _

theorem idx : ∀ t : Fin cfg0.N, win0_0.index t = ![t.val % 3, 0] ∧ win0_1.index t = ![t.val % 3, t.val / 3] ∧ win0_2.index t = ![0, t.val / 3] :=
  (by decide +kernel : ∀ t : Fin grid0.N, _)

variable (m : (ℓ : Loc nD τ sig) → Buf (Elt Ideal) ℓ) (c : Dev nD)

/-- Row `k` of the point's blocks is row `2752 (t mod 3) + k` of the arrays. -/
def rowOf (t : Fin cfg0.N) (k : Fin 2752) : Fin 8256 := ⟨t.val % 3 * 2752 + k.val, by omega⟩
/-- The output row of the point's row `r`. -/
def colA (t : Fin cfg0.N) (r : Fin 1024) : Fin 1024 := r
/-- The output column of the point's column `l`. -/
def colB (t : Fin cfg0.N) (l : Fin 1280) : Fin 3840 := ⟨t.val / 3 * 1280 + l.val, by have : t.val < 9 := t.isLt; omega⟩

theorem blk0 (t : Fin cfg0.N) (k : Fin 2752) (r : Fin 1024) :
    (iblk m c 0 t : FVec Ideal S2752x1024 .bf16) (ix2 k r) = (m ((c : Thread nD τ).loc main_arg0) : FVec Ideal S8256x1024 .bf16) (ix2 (rowOf t k) (colA t r)) := by
  blk_ext [iblk, V, rowOf, colA, idx t]

theorem blk1 (t : Fin cfg0.N) (k : Fin 2752) (l : Fin 1280) :
    (iblk m c 1 t : FVec Ideal S2752x1280 .bf16) (ix2 k l) = (m ((c : Thread nD τ).loc main_arg1) : FVec Ideal S8256x3840 .bf16) (ix2 (rowOf t k) (colB t l)) := by
  blk_ext [iblk, V, rowOf, colB, idx t]

/-- The first array's element. -/
def matA (k : Fin 8256) (r : Fin 1024) : EReal := (m ((c : Thread nD τ).loc main_arg0) : FVec Ideal S8256x1024 .bf16) (ix2 k r)
/-- The second array's element. -/
def matB (k : Fin 8256) (l : Fin 3840) : EReal := (m ((c : Thread nD τ).loc main_arg1) : FVec Ideal S8256x3840 .bf16) (ix2 k l)

/-- The point's part of the product. -/
def partAt (t : Fin cfg0.N) (r : Fin 1024) (l : Fin 1280) : EReal :=
  ∑ k : Fin 2752, matA m c (rowOf t k) (colA t r) * matB m c (rowOf t k) (colB t l)

/-- The same at an index. -/
def part (t : Fin cfg0.N) (y : S1024x1280.Idx) : EReal := partAt m c t (y 0) (y 1)

theorem step_A (t : Fin cfg0.N) (h : t.val % 3 = 0) (y : S1024x1280.Idx) : (outsAt0 m c t.val t.isLt).2 y = 0 + part m c t y := by
  obtain ⟨r, l, rfl⟩ : ∃ (r : Fin 1024) (l : Fin 1280), y = ix2 r l := ⟨y 0, y 1, eq_ix2 y⟩
  rw [outsAt0_A m c t h (by omega) (by omega)]
  frame_out
  refine (pay2 _ _ r l).trans ?_
  rw [zero_add]
  show _ = partAt m c t r l
  unfold partAt
  refine Finset.sum_congr rfl fun k _ => ?_
  rw [blk0, blk1]
  rfl

theorem add_part (t : Fin cfg0.N) (r : Fin 1024) (l : Fin 1280) (v : FVec Ideal S1024x1280 .f32) :
    k0_pay3 (F := Ideal) (iblk m c 0 t) (iblk m c 1 t) v (ix2 r l) = v (ix2 r l) + part m c t (ix2 r l) := by
  refine (pay3 _ _ _ r l).trans ?_
  refine congrArg (v (ix2 r l) + ·) ?_
  show _ = partAt m c t r l
  unfold partAt
  refine Finset.sum_congr rfl fun k _ => ?_
  rw [blk0, blk1]
  rfl

theorem step_B (t : Fin cfg0.N) (h : ¬t.val % 3 = 0) (y : S1024x1280.Idx) : (outsAt0 m c t.val t.isLt).2 y
    = (outsAt0 m c (t.val - 1) (lt_of_le_of_lt (Nat.sub_le _ _) t.isLt)).2 y + part m c t y := by
  obtain ⟨r, l, rfl⟩ : ∃ (r : Fin 1024) (l : Fin 1280), y = ix2 r l := ⟨y 0, y 1, eq_ix2 y⟩
  by_cases h2 : t.val % 3 = 2
  · rw [outsAt0_C m c t h (by omega) h2]
    frame_out
    exact (add_part m c t r l _).trans (congrArg (· + part m c t (ix2 r l)) (congrFun (Memref.IsWhole.read_unread (Memref.isWhole_whole cc0_scratch0) _) _))
  · rw [outsAt0_B m c t h (by omega) h2]
    frame_out
    exact (add_part m c t r l _).trans (congrArg (· + part m c t (ix2 r l)) (congrFun (Memref.IsWhole.read_unread (Memref.isWhole_whole cc0_scratch0) _) _))

theorem step_C (t : Fin cfg0.N) (h2 : t.val % 3 = 2) (y : S1024x1280.Idx) : (outsAt0 m c t.val t.isLt).1 y = (outsAt0 m c t.val t.isLt).2 y := by
  obtain ⟨r, l, rfl⟩ : ∃ (r : Fin 1024) (l : Fin 1280), y = ix2 r l := ⟨y 0, y 1, eq_ix2 y⟩
  rw [outsAt0_C m c t (by omega) (by omega) h2]
  frame_out
  exact pay4 _ r l

theorem final2 : (dats m 0 c).arrAt 2 cfg0.N
    = Cert.InDwRIdeal.Read.val_main_v7 (F := Ideal) (m ((c : Thread nD τ).loc main_arg0)) (m ((c : Thread nD τ).loc main_arg1)) := by
  refine (dats m 0 c).arrAt_eq_of_covers 2 _ (by decide +kernel) fun t hf y => ?_
  blk_simp
  have h2 := (flush0_2 t).mp hf
  rw [after0_2, step_C m c t h2, Pipeline.eq_sum_fin_of_reset_step_apply_of_flush (fun n h => (outsAt0 m c n h).2) 3 (fun _ => 0) (part m c)
    (step_A m c) (step_B m c) t h2 _, zero_add]
  have key : ∀ y : S1024x1280.Idx, (∑ s : Fin 3, part m c ⟨3 * (t.val / 3) + s.val, Pipeline.run_point_lt_of_flush t h2 s⟩ y)
      = Cert.InDwRIdeal.Read.val_main_v7 (F := Ideal) (m ((c : Thread nD τ).loc main_arg0)) (m ((c : Thread nD τ).loc main_arg1))
          ((win0_2.blk t).view.emb y) := by
    intro y
    obtain ⟨r, l, rfl⟩ : ∃ (r : Fin 1024) (l : Fin 1280), y = ix2 r l := ⟨y 0, y 1, eq_ix2 y⟩
    have e : (win0_2.blk t).view.emb (ix2 r l : S1024x1280.Idx) = (ix2 (colA t r) (colB t l) : S1024x3840.Idx) := by
      blk_ext [colA, colB, idx t]
    rw [e]
    refine Eq.trans ?_ (ref _ _ _ _).symm
    show (∑ s : Fin 3, partAt m c _ r l) = _
    unfold partAt
    refine Cert.Row0.sum_tiles3 _ _ fun s k hl => ?_
    have er : rowOf ⟨3 * (t.val / 3) + s.val, Pipeline.run_point_lt_of_flush t h2 s⟩ k = ⟨s.val * 2752 + k.val, hl⟩ := by
      refine Fin.ext ?_
      show (3 * (t.val / 3) + s.val) % 3 * 2752 + k.val = _
      rw [Nat.mul_add_mod, Nat.mod_eq_of_lt s.isLt]
    have ea : colA ⟨3 * (t.val / 3) + s.val, Pipeline.run_point_lt_of_flush t h2 s⟩ r = colA t r := by
      rfl
    have eb : colB ⟨3 * (t.val / 3) + s.val, Pipeline.run_point_lt_of_flush t h2 s⟩ l = colB t l := by
      refine Fin.ext ?_; show (3 * (t.val / 3) + s.val) / 3 * 1280 + l.val = t.val / 3 * 1280 + l.val; omega
    rw [er, ea, eb]
    rfl
  exact key y

end Cert.InDwFinal
end
-- ==== Proof.InDwClaim.lean ====
module

public import Idealize.ShloMosaic.Lib.Quiescent
public import proofs.«01_k».proof.Defs
public import proofs.«01_k».proof.Proof.InDwFinal
public import proofs.«01_k».proof.Proof.Gen.InDw
public import proofs.«01_k».proof.Proof.Gen.InDwRIdeal.Run

/-! The reference's frame and the value claim of this call. -/

@[expose] public section

set_option maxRecDepth 16384

noncomputable section
open Idealize.ShloMosaic Idealize.ShloMosaic.TcCoe Idealize.SL.Sem
namespace Cert.InDwClaim

/-- The reference runs and keeps its arguments; it declares no semaphore. -/
theorem frameRef : Cert.quiescent_InDwRIdeal (hInDwRIdeal := Cert.InDwRIdeal.Gen.facts) := fun m ρ _ =>
  (θ_run Cert.InDwRIdeal.defs _ _).mono (fun r h => ⟨fun c => (h c).2, sem_eq_zero_of_no_sems (by decide) r.2⟩)
    (Cert.InDwRIdeal.Value.run (F := Ideal) m ρ)

/-- The two programs end with equal results. -/
theorem algebraic : Cert.algebraic_InDwIdeal_InDwRIdeal (hInDwIdeal := Cert.InDwIdeal.Gen.facts) (hInDwRIdeal := Cert.InDwRIdeal.Gen.facts) := by
  intro m g m' g' _ hag
  refine ⟨fun c => (Cert.InDwIdeal.Gen.dats m 0 c).arrAt 2 Cert.InDwIdeal.cfg0.N, Cert.InDwIdeal.Value.run_blocks (F := Ideal) m g, ?_⟩
  refine (θ_run Cert.InDwRIdeal.defs _ _).mono (fun r h c => ?_) (Cert.InDwRIdeal.Value.run (F := Ideal) m' g')
  obtain ⟨h0, hk⟩ := h c
  obtain ⟨a0, a1⟩ := hag c
  refine ⟨?_, hk⟩
  · exact (h0.trans (Cert.InDwRIdeal.Read.val_main_v7_eq _ _)).trans (by rw [a0, a1]; exact (Cert.InDwFinal.final2 m c).symm)

end Cert.InDwClaim
end
-- ==== Proof.OutProjFinal.lean ====
module

public import Idealize.ShloMosaic.Lib.Pipeline.ValueKit
public import Idealize.ShloMosaic.Lib.Pointwise
public import Idealize.ShloMosaic.Lib.WordCmp
public import proofs.«01_k».proof.Proof.Norm
public import proofs.«01_k».proof.Proof.Gen.OutProjIdeal.Value
public import proofs.«01_k».proof.Proof.Gen.OutProjRIdeal.Read

/-! The output projection: the product and the new residual rows the call leaves are the reference's two results. -/

@[expose] public section

set_option maxRecDepth 16384

noncomputable section
open Idealize.ShloMosaic Idealize.ShloMosaic.TcCoe Idealize.SL.Sem Cert.Norm
open Idealize.ShloMosaic.Pipeline (Dat)
namespace Cert.OutProjFinal

section R
open Cert.OutProjRIdeal Cert.OutProjRIdeal.Read

theorem ref2 (x0 : FVec Ideal S8256x1024 .bf16) (x1 : FVec Ideal S1024x1024 .bf16) (r : Fin 8256) (l : Fin 1024) :
    val_main_v2 (F := Ideal) x0 x1 (ix2 r l) = ∑ k : Fin 1024, x0 (ix2 r k) * x1 (ix2 k l) := by
  pointwise [val_main_v2, val_main_v1, val_main_v0]

theorem ref18 (x0 : FVec Ideal S8256x1024 .bf16) (x1 : FVec Ideal S1024x1024 .bf16) (x2 : FVec Ideal S8256x1024 .f32)
    (x3 : FVec Ideal S1x1024 .f32) (r : Fin 8208) (l : Fin 1024) (hr : 48 + r.val < 8256) :
    val_main_v18 (F := Ideal) x0 x1 x2 x3 (ix2 r l)
      = resid (48 + r.val) (x2 (ix2 ⟨48 + r.val, hr⟩ l)) (fun k => val_main_v2 (F := Ideal) x0 x1 (ix2 ⟨48 + r.val, hr⟩ k)) (x3 (ix2 0 l)) l := by
  pointwise [val_main_v18, val_main_v17, val_main_v16, val_main_v15, val_main_v14, val_main_v13, val_main_v12,
    val_main_v11, val_main_v10, val_main_v9, val_main_v8, val_main_v7, val_main_v6, val_main_v5, val_main_v4,
    val_main_cst, val_main_cst_0, val_main_cst_1]
  unfold resid rstd msq
  rw [if_pos (by omega)]

theorem ref3 (x2 : FVec Ideal S8256x1024 .f32) (r : Fin 48) (l : Fin 1024) (hr : r.val < 8256) :
    val_main_v3 (F := Ideal) x2 (ix2 r l) = x2 (ix2 ⟨r.val, hr⟩ l) := by
  pointwise [val_main_v3]

theorem ref19 (x0 : FVec Ideal S8256x1024 .bf16) (x1 : FVec Ideal S1024x1024 .bf16) (x2 : FVec Ideal S8256x1024 .f32)
    (x3 : FVec Ideal S1x1024 .f32) (r : Fin 8256) (l : Fin 1024) :
    val_main_v19 (F := Ideal) x0 x1 x2 x3 (ix2 r l)
      = resid r.val (x2 (ix2 r l)) (fun k => val_main_v2 (F := Ideal) x0 x1 (ix2 r k)) (x3 (ix2 0 l)) l := by
  pointwise [val_main_v19]
  by_cases h : r.val < 48
  · rw [dif_pos h, ref3 _ _ _ r.isLt]
    unfold resid
    rw [if_neg (by omega), add_zero]
  · rw [dif_neg h, ref18 _ _ _ _ _ _ (by show 48 + (r.val - 48) < 8256; omega)]
    have e : (⟨48 + (r.val - 48), by omega⟩ : Fin 8256) = r := Fin.ext (by show 48 + (r.val - 48) = r.val; omega)
    simp only [e]
    congr 1
    omega
end R

open Cert.OutProjIdeal Cert.OutProjIdeal.Gen

theorem pay1 (v0 : FVec Ideal S688x1024 .bf16) (v1 : FVec Ideal S1024x1024 .bf16) (r : Fin 688) (l : Fin 1024) :
    k0_pay1 (F := Ideal) v0 v1 (ix2 r l) = ∑ k : Fin 1024, v0 (ix2 r k) * v1 (ix2 k l) := by
  pointwise [k0_pay1]

theorem pay2 (i : grid0.Coords) (hi : (i 0).val < 12) (v0 : FVec Ideal S688x1024 .bf16) (v1 : FVec Ideal S1024x1024 .bf16) (h : FVec Ideal S688x1024 .f32)
    (w : FVec Ideal S1x1024 .f32) (r : Fin 688) (l : Fin 1024) :
    k0_pay2 (F := Ideal) i v0 v1 h w (ix2 r l)
      = resid ((i 0).val * 688 + r.val) (h (ix2 r l)) (fun k => k0_pay1 (F := Ideal) v0 v1 (ix2 r k)) (w (ix2 0 l)) l := by
  pointwise [k0_pay2]
  rw [mask _ hi r]
  unfold resid rstd msq
  by_cases h48 : 48 ≤ (i 0).val * 688 + r.val
  · simp [h48, Scalar.select]
  · simp [h48, Scalar.select]

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ ((grid0.coords t) 0).val = t.val :=
  (by decide +kernel : ∀ t : Fin grid0.N, _)

variable (m : (ℓ : Loc nD τ sig) → Buf (Elt Ideal) ℓ) (c : Dev nD)

/-- Row `r` of the point's block is row `688 t + r` of the array. -/
def rowOf (t : Fin cfg0.N) (r : Fin 688) : Fin 8256 := ⟨t.val * 688 + r.val, by have : t.val < 12 := t.isLt; omega⟩

theorem blk0 (t : Fin cfg0.N) (r : Fin 688) (k : Fin 1024) :
    (iblk m c 0 t : FVec Ideal S688x1024 .bf16) (ix2 r k) = (m ((c : Thread nD τ).loc main_arg0) : FVec Ideal S8256x1024 .bf16) (ix2 (rowOf t r) k) := by
  blk_ext [iblk, V, rowOf, idx t]

theorem blk1 (t : Fin cfg0.N) (r : Fin 1024) (k : Fin 1024) :
    (iblk m c 1 t : FVec Ideal S1024x1024 .bf16) (ix2 r k) = (m ((c : Thread nD τ).loc main_arg1) : FVec Ideal S1024x1024 .bf16) (ix2 r k) := by
  blk_ext [iblk, V, idx t]

theorem blk2 (t : Fin cfg0.N) (r : Fin 688) (k : Fin 1024) :
    (iblk m c 2 t : FVec Ideal S688x1024 .f32) (ix2 r k) = (m ((c : Thread nD τ).loc main_arg2) : FVec Ideal S8256x1024 .f32) (ix2 (rowOf t r) k) := by
  blk_ext [iblk, V, rowOf, idx t]

theorem blk3 (t : Fin cfg0.N) (k : Fin 1024) :
    (iblk m c 3 t : FVec Ideal S1x1024 .f32) (ix2 0 k) = (m ((c : Thread nD τ).loc main_arg3) : FVec Ideal S1x1024 .f32) (ix2 0 k) := by
  blk_ext [iblk, V, idx t]

theorem product_at (t : Fin cfg0.N) (r : Fin 688) (l : Fin 1024) :
    k0_pay1 (F := Ideal) (iblk m c 0 t) (iblk m c 1 t) (ix2 r l)
      = Cert.OutProjRIdeal.Read.val_main_v2 (F := Ideal) (m ((c : Thread nD τ).loc main_arg0)) (m ((c : Thread nD τ).loc main_arg1)) (ix2 (rowOf t r) l) := by
  refine (pay1 _ _ r l).trans ?_
  simp only [blk0, blk1]
  exact (ref2 _ _ _ _).symm

theorem final4 : (dats m 0 c).arrAt 4 cfg0.N
    = Cert.OutProjRIdeal.Read.val_main_v2 (F := Ideal) (m ((c : Thread nD τ).loc main_arg0)) (m ((c : Thread nD τ).loc main_arg1)) := by
  refine (dats m 0 c).arrAt_eq_of_covers 4 _ (by decide +kernel) fun t hf y => ?_
  blk_simp
  rw [after0_4]
  have key : ∀ y : S688x1024.Idx, k0_pay1 (F := Ideal) (iblk m c 0 t) (iblk m c 1 t) y
      = Cert.OutProjRIdeal.Read.val_main_v2 (F := Ideal) (m ((c : Thread nD τ).loc main_arg0)) (m ((c : Thread nD τ).loc main_arg1))
        (((View.whole main_v0_0).slice (win0_4.rect t)).emb y) := by
    intro y
    obtain ⟨r, l, rfl⟩ : ∃ (r : Fin 688) (l : Fin 1024), y = ix2 r l := ⟨y 0, y 1, eq_ix2 y⟩
    have e : ((View.whole main_v0_0).slice (win0_4.rect t)).emb (ix2 r l : S688x1024.Idx) = (ix2 (rowOf t r) l : S8256x1024.Idx) := by
      blk_ext [rowOf, idx t]
    rw [e]
    exact product_at m c t r l
  unfold out0_4
  frame_out
  exact key y

theorem final5 : (dats m 0 c).arrAt 5 cfg0.N
    = Cert.OutProjRIdeal.Read.val_main_v19 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 5 _ (by decide +kernel) fun t hf y => ?_
  blk_simp
  rw [after0_5]
  have key : ∀ y : S688x1024.Idx, k0_pay2 (F := Ideal) (grid0.coords t) (iblk m c 0 t) (iblk m c 1 t) (iblk m c 2 t) (iblk m c 3 t) y
      = Cert.OutProjRIdeal.Read.val_main_v19 (F := Ideal) (m ((c : Thread nD τ).loc main_arg0)) (m ((c : Thread nD τ).loc main_arg1))
        (m ((c : Thread nD τ).loc main_arg2)) (m ((c : Thread nD τ).loc main_arg3)) (((View.whole main_v0_1).slice (win0_5.rect t)).emb y) := by
    intro y
    obtain ⟨r, l, rfl⟩ : ∃ (r : Fin 688) (l : Fin 1024), y = ix2 r l := ⟨y 0, y 1, eq_ix2 y⟩
    have e : ((View.whole main_v0_1).slice (win0_5.rect t)).emb (ix2 r l : S688x1024.Idx) = (ix2 (rowOf t r) l : S8256x1024.Idx) := by
      blk_ext [rowOf, idx t]
    have hc := (idx t).2.2.2.2.2.2
    rw [e, pay2 _ (by rw [hc]; exact t.isLt), hc]
    simp only [product_at, blk2, blk3]
    exact (ref19 _ _ _ _ _ _).symm
  unfold out0_5
  frame_out
  exact key y

end Cert.OutProjFinal
end
-- ==== Proof.OutProjClaim.lean ====
module

public import Idealize.ShloMosaic.Lib.Quiescent
public import proofs.«01_k».proof.Defs
public import proofs.«01_k».proof.Proof.OutProjFinal
public import proofs.«01_k».proof.Proof.Gen.OutProj
public import proofs.«01_k».proof.Proof.Gen.OutProjRIdeal.Run

/-! The reference's frame and the value claim of this call. -/

@[expose] public section

set_option maxRecDepth 16384

noncomputable section
open Idealize.ShloMosaic Idealize.ShloMosaic.TcCoe Idealize.SL.Sem
namespace Cert.OutProjClaim

/-- The reference runs and keeps its arguments; it declares no semaphore. -/
theorem frameRef : Cert.quiescent_OutProjRIdeal (hOutProjRIdeal := Cert.OutProjRIdeal.Gen.facts) := fun m ρ _ =>
  (θ_run Cert.OutProjRIdeal.defs _ _).mono (fun r h => ⟨fun c => (h c).2.2, sem_eq_zero_of_no_sems (by decide) r.2⟩)
    (Cert.OutProjRIdeal.Value.run (F := Ideal) m ρ)

/-- The two programs end with equal results. -/
theorem algebraic : Cert.algebraic_OutProjIdeal_OutProjRIdeal (hOutProjIdeal := Cert.OutProjIdeal.Gen.facts) (hOutProjRIdeal := Cert.OutProjRIdeal.Gen.facts) := by
  intro m g m' g' _ hag
  refine ⟨fun c => (Cert.OutProjIdeal.Gen.dats m 0 c).arrAt 4 Cert.OutProjIdeal.cfg0.N, fun c => (Cert.OutProjIdeal.Gen.dats m 0 c).arrAt 5 Cert.OutProjIdeal.cfg0.N, Cert.OutProjIdeal.Value.run_blocks (F := Ideal) m g, ?_⟩
  refine (θ_run Cert.OutProjRIdeal.defs _ _).mono (fun r h c => ?_) (Cert.OutProjRIdeal.Value.run (F := Ideal) m' g')
  obtain ⟨h0, h1, hk⟩ := h c
  obtain ⟨a0, a1, a2, a3⟩ := hag c
  refine ⟨?_, ?_, hk⟩
  · exact (h0.trans (Cert.OutProjRIdeal.Read.val_main_v2_eq _ _)).trans (by rw [a0, a1]; exact (Cert.OutProjFinal.final4 m c).symm)
  · exact (h1.trans (Cert.OutProjRIdeal.Read.val_main_v19_eq _ _ _ _)).trans (by rw [a0, a1, a2, a3]; exact (Cert.OutProjFinal.final5 m c).symm)

end Cert.OutProjClaim
end
-- ==== Proof.DownProjFinal.lean ====
module

public import Idealize.ShloMosaic.Lib.Pipeline.ValueKit
public import Idealize.ShloMosaic.Lib.Pointwise
public import Idealize.ShloMosaic.Lib.WordCmp
public import proofs.«01_k».proof.Proof.Norm
public import proofs.«01_k».proof.Proof.Gen.DownProjIdeal.Value
public import proofs.«01_k».proof.Proof.Gen.DownProjRIdeal.Read

/-! The down-projection: the product and the new residual rows the call leaves are the reference's two results. -/

@[expose] public section

set_option maxRecDepth 16384

noncomputable section
open Idealize.ShloMosaic Idealize.ShloMosaic.TcCoe Idealize.SL.Sem Cert.Norm
open Idealize.ShloMosaic.Pipeline (Dat)
namespace Cert.DownProjFinal

section R
open Cert.DownProjRIdeal Cert.DownProjRIdeal.Read

theorem ref2 (x0 : FVec Ideal S8256x2816 .bf16) (x1 : FVec Ideal S2816x1024 .bf16) (r : Fin 8256) (l : Fin 1024) :
    val_main_v2 (F := Ideal) x0 x1 (ix2 r l) = ∑ k : Fin 2816, x0 (ix2 r k) * x1 (ix2 k l) := by
  pointwise [val_main_v2, val_main_v1, val_main_v0]

theorem ref18 (x0 : FVec Ideal S8256x2816 .bf16) (x1 : FVec Ideal S2816x1024 .bf16) (x2 : FVec Ideal S8256x1024 .f32)
    (x3 : FVec Ideal S1x1024 .f32) (r : Fin 8208) (l : Fin 1024) (hr : 48 + r.val < 8256) :
    val_main_v18 (F := Ideal) x0 x1 x2 x3 (ix2 r l)
      = resid (48 + r.val) (x2 (ix2 ⟨48 + r.val, hr⟩ l)) (fun k => val_main_v2 (F := Ideal) x0 x1 (ix2 ⟨48 + r.val, hr⟩ k)) (x3 (ix2 0 l)) l := by
  pointwise [val_main_v18, val_main_v17, val_main_v16, val_main_v15, val_main_v14, val_main_v13, val_main_v12,
    val_main_v11, val_main_v10, val_main_v9, val_main_v8, val_main_v7, val_main_v6, val_main_v5, val_main_v4,
    val_main_cst, val_main_cst_0, val_main_cst_1]
  unfold resid rstd msq
  rw [if_pos (by omega)]

theorem ref3 (x2 : FVec Ideal S8256x1024 .f32) (r : Fin 48) (l : Fin 1024) (hr : r.val < 8256) :
    val_main_v3 (F := Ideal) x2 (ix2 r l) = x2 (ix2 ⟨r.val, hr⟩ l) := by
  pointwise [val_main_v3]

theorem ref19 (x0 : FVec Ideal S8256x2816 .bf16) (x1 : FVec Ideal S2816x1024 .bf16) (x2 : FVec Ideal S8256x1024 .f32)
    (x3 : FVec Ideal S1x1024 .f32) (r : Fin 8256) (l : Fin 1024) :
    val_main_v19 (F := Ideal) x0 x1 x2 x3 (ix2 r l)
      = resid r.val (x2 (ix2 r l)) (fun k => val_main_v2 (F := Ideal) x0 x1 (ix2 r k)) (x3 (ix2 0 l)) l := by
  pointwise [val_main_v19]
  by_cases h : r.val < 48
  · rw [dif_pos h, ref3 _ _ _ r.isLt]
    unfold resid
    rw [if_neg (by omega), add_zero]
  · rw [dif_neg h, ref18 _ _ _ _ _ _ (by show 48 + (r.val - 48) < 8256; omega)]
    have e : (⟨48 + (r.val - 48), by omega⟩ : Fin 8256) = r := Fin.ext (by show 48 + (r.val - 48) = r.val; omega)
    simp only [e]
    congr 1
    omega
end R

open Cert.DownProjIdeal Cert.DownProjIdeal.Gen

theorem pay1 (v0 : FVec Ideal S688x2816 .bf16) (v1 : FVec Ideal S2816x1024 .bf16) (r : Fin 688) (l : Fin 1024) :
    k0_pay1 (F := Ideal) v0 v1 (ix2 r l) = ∑ k : Fin 2816, v0 (ix2 r k) * v1 (ix2 k l) := by
  pointwise [k0_pay1]

theorem pay2 (i : grid0.Coords) (hi : (i 0).val < 12) (v0 : FVec Ideal S688x2816 .bf16) (v1 : FVec Ideal S2816x1024 .bf16) (h : FVec Ideal S688x1024 .f32)
    (w : FVec Ideal S1x1024 .f32) (r : Fin 688) (l : Fin 1024) :
    k0_pay2 (F := Ideal) i v0 v1 h w (ix2 r l)
      = resid ((i 0).val * 688 + r.val) (h (ix2 r l)) (fun k => k0_pay1 (F := Ideal) v0 v1 (ix2 r k)) (w (ix2 0 l)) l := by
  pointwise [k0_pay2]
  rw [mask _ hi r]
  unfold resid rstd msq
  by_cases h48 : 48 ≤ (i 0).val * 688 + r.val
  · simp [h48, Scalar.select]
  · simp [h48, Scalar.select]

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ ((grid0.coords t) 0).val = t.val :=
  (by decide +kernel : ∀ t : Fin grid0.N, _)

variable (m : (ℓ : Loc nD τ sig) → Buf (Elt Ideal) ℓ) (c : Dev nD)

/-- Row `r` of the point's block is row `688 t + r` of the array. -/
def rowOf (t : Fin cfg0.N) (r : Fin 688) : Fin 8256 := ⟨t.val * 688 + r.val, by have : t.val < 12 := t.isLt; omega⟩

theorem blk0 (t : Fin cfg0.N) (r : Fin 688) (k : Fin 2816) :
    (iblk m c 0 t : FVec Ideal S688x2816 .bf16) (ix2 r k) = (m ((c : Thread nD τ).loc main_arg0) : FVec Ideal S8256x2816 .bf16) (ix2 (rowOf t r) k) := by
  blk_ext [iblk, V, rowOf, idx t]

theorem blk1 (t : Fin cfg0.N) (r : Fin 2816) (k : Fin 1024) :
    (iblk m c 1 t : FVec Ideal S2816x1024 .bf16) (ix2 r k) = (m ((c : Thread nD τ).loc main_arg1) : FVec Ideal S2816x1024 .bf16) (ix2 r k) := by
  blk_ext [iblk, V, idx t]

theorem blk2 (t : Fin cfg0.N) (r : Fin 688) (k : Fin 1024) :
    (iblk m c 2 t : FVec Ideal S688x1024 .f32) (ix2 r k) = (m ((c : Thread nD τ).loc main_arg2) : FVec Ideal S8256x1024 .f32) (ix2 (rowOf t r) k) := by
  blk_ext [iblk, V, rowOf, idx t]

theorem blk3 (t : Fin cfg0.N) (k : Fin 1024) :
    (iblk m c 3 t : FVec Ideal S1x1024 .f32) (ix2 0 k) = (m ((c : Thread nD τ).loc main_arg3) : FVec Ideal S1x1024 .f32) (ix2 0 k) := by
  blk_ext [iblk, V, idx t]

theorem product_at (t : Fin cfg0.N) (r : Fin 688) (l : Fin 1024) :
    k0_pay1 (F := Ideal) (iblk m c 0 t) (iblk m c 1 t) (ix2 r l)
      = Cert.DownProjRIdeal.Read.val_main_v2 (F := Ideal) (m ((c : Thread nD τ).loc main_arg0)) (m ((c : Thread nD τ).loc main_arg1)) (ix2 (rowOf t r) l) := by
  refine (pay1 _ _ r l).trans ?_
  simp only [blk0, blk1]
  exact (ref2 _ _ _ _).symm

theorem final4 : (dats m 0 c).arrAt 4 cfg0.N
    = Cert.DownProjRIdeal.Read.val_main_v2 (F := Ideal) (m ((c : Thread nD τ).loc main_arg0)) (m ((c : Thread nD τ).loc main_arg1)) := by
  refine (dats m 0 c).arrAt_eq_of_covers 4 _ (by decide +kernel) fun t hf y => ?_
  blk_simp
  rw [after0_4]
  have key : ∀ y : S688x1024.Idx, k0_pay1 (F := Ideal) (iblk m c 0 t) (iblk m c 1 t) y
      = Cert.DownProjRIdeal.Read.val_main_v2 (F := Ideal) (m ((c : Thread nD τ).loc main_arg0)) (m ((c : Thread nD τ).loc main_arg1))
        (((View.whole main_v0_0).slice (win0_4.rect t)).emb y) := by
    intro y
    obtain ⟨r, l, rfl⟩ : ∃ (r : Fin 688) (l : Fin 1024), y = ix2 r l := ⟨y 0, y 1, eq_ix2 y⟩
    have e : ((View.whole main_v0_0).slice (win0_4.rect t)).emb (ix2 r l : S688x1024.Idx) = (ix2 (rowOf t r) l : S8256x1024.Idx) := by
      blk_ext [rowOf, idx t]
    rw [e]
    exact product_at m c t r l
  unfold out0_4
  frame_out
  exact key y

theorem final5 : (dats m 0 c).arrAt 5 cfg0.N
    = Cert.DownProjRIdeal.Read.val_main_v19 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 5 _ (by decide +kernel) fun t hf y => ?_
  blk_simp
  rw [after0_5]
  have key : ∀ y : S688x1024.Idx, k0_pay2 (F := Ideal) (grid0.coords t) (iblk m c 0 t) (iblk m c 1 t) (iblk m c 2 t) (iblk m c 3 t) y
      = Cert.DownProjRIdeal.Read.val_main_v19 (F := Ideal) (m ((c : Thread nD τ).loc main_arg0)) (m ((c : Thread nD τ).loc main_arg1))
        (m ((c : Thread nD τ).loc main_arg2)) (m ((c : Thread nD τ).loc main_arg3)) (((View.whole main_v0_1).slice (win0_5.rect t)).emb y) := by
    intro y
    obtain ⟨r, l, rfl⟩ : ∃ (r : Fin 688) (l : Fin 1024), y = ix2 r l := ⟨y 0, y 1, eq_ix2 y⟩
    have e : ((View.whole main_v0_1).slice (win0_5.rect t)).emb (ix2 r l : S688x1024.Idx) = (ix2 (rowOf t r) l : S8256x1024.Idx) := by
      blk_ext [rowOf, idx t]
    have hc := (idx t).2.2.2.2.2.2
    rw [e, pay2 _ (by rw [hc]; exact t.isLt), hc]
    simp only [product_at, blk2, blk3]
    exact (ref19 _ _ _ _ _ _).symm
  unfold out0_5
  frame_out
  exact key y

end Cert.DownProjFinal
end
-- ==== Proof.DownProjClaim.lean ====
module

public import Idealize.ShloMosaic.Lib.Quiescent
public import proofs.«01_k».proof.Defs
public import proofs.«01_k».proof.Proof.DownProjFinal
public import proofs.«01_k».proof.Proof.Gen.DownProj
public import proofs.«01_k».proof.Proof.Gen.DownProjRIdeal.Run

/-! The reference's frame and the value claim of this call. -/

@[expose] public section

set_option maxRecDepth 16384

noncomputable section
open Idealize.ShloMosaic Idealize.ShloMosaic.TcCoe Idealize.SL.Sem
namespace Cert.DownProjClaim

/-- The reference runs and keeps its arguments; it declares no semaphore. -/
theorem frameRef : Cert.quiescent_DownProjRIdeal (hDownProjRIdeal := Cert.DownProjRIdeal.Gen.facts) := fun m ρ _ =>
  (θ_run Cert.DownProjRIdeal.defs _ _).mono (fun r h => ⟨fun c => (h c).2.2, sem_eq_zero_of_no_sems (by decide) r.2⟩)
    (Cert.DownProjRIdeal.Value.run (F := Ideal) m ρ)

/-- The two programs end with equal results. -/
theorem algebraic : Cert.algebraic_DownProjIdeal_DownProjRIdeal (hDownProjIdeal := Cert.DownProjIdeal.Gen.facts) (hDownProjRIdeal := Cert.DownProjRIdeal.Gen.facts) := by
  intro m g m' g' _ hag
  refine ⟨fun c => (Cert.DownProjIdeal.Gen.dats m 0 c).arrAt 4 Cert.DownProjIdeal.cfg0.N, fun c => (Cert.DownProjIdeal.Gen.dats m 0 c).arrAt 5 Cert.DownProjIdeal.cfg0.N, Cert.DownProjIdeal.Value.run_blocks (F := Ideal) m g, ?_⟩
  refine (θ_run Cert.DownProjRIdeal.defs _ _).mono (fun r h c => ?_) (Cert.DownProjRIdeal.Value.run (F := Ideal) m' g')
  obtain ⟨h0, h1, hk⟩ := h c
  obtain ⟨a0, a1, a2, a3⟩ := hag c
  refine ⟨?_, ?_, hk⟩
  · exact (h0.trans (Cert.DownProjRIdeal.Read.val_main_v2_eq _ _)).trans (by rw [a0, a1]; exact (Cert.DownProjFinal.final4 m c).symm)
  · exact (h1.trans (Cert.DownProjRIdeal.Read.val_main_v19_eq _ _ _ _)).trans (by rw [a0, a1, a2, a3]; exact (Cert.DownProjFinal.final5 m c).symm)

end Cert.DownProjClaim
end
-- ==== Proof.DownLossFinal.lean ====
module

public import Idealize.ShloMosaic.Lib.Pipeline.ValueKit
public import Idealize.ShloMosaic.Lib.Pointwise
public import Idealize.ShloMosaic.Lib.WordCmp
public import proofs.«01_k».proof.Proof.Norm
public import proofs.«01_k».proof.Proof.Row0
public import proofs.«01_k».proof.Proof.DownProjFinal
public import proofs.«01_k».proof.Proof.Gen.DownLossIdeal.Value
public import proofs.«01_k».proof.Proof.Gen.DownLossRIdeal.Read

/-! The last layer's down-projection with the loss: the product, the loss's gradient and the loss the call leaves are
    the reference's three results. -/

@[expose] public section

set_option maxRecDepth 16384

noncomputable section
open Idealize.ShloMosaic Idealize.ShloMosaic.TcCoe Idealize.SL.Sem Cert.Norm
open Idealize.ShloMosaic.Pipeline (Dat)
namespace Cert.DownLossFinal

/-- The error of a row, zero in the first 64. -/
def gap (row : ℕ) (y t : EReal) : EReal := if 64 ≤ row then y - t else 0

/-- Half of one 1024th, the weight of an error's square. -/
def unit : EReal := Ideal.ofBits FTy.f32 973078528#32

theorem unit_eq : unit = ((1 / 2048 : ℝ) : EReal) := by
  unfold unit
  simp [Ideal.ofBits, Ideal.ieee]; norm_num; rw [← EReal.coe_mul]; norm_num

theorem inv_eq : Ideal.ofBits FTy.f32 981467136#32 = ((1 / 1024 : ℝ) : EReal) := by
  simp [Ideal.ofBits, Ideal.ieee]; norm_num; rw [← EReal.coe_mul]; norm_num

theorem two_eq : Ideal.ofBits FTy.f32 1073741824#32 = ((2 : ℝ) : EReal) := by
  simp [Ideal.ofBits, Ideal.ieee]; norm_num; rw [← EReal.coe_mul]; norm_num

theorem half_pos_eq : Ideal.ofBits FTy.f32 1056964608#32 = ((1 / 2 : ℝ) : EReal) := by
  simp [Ideal.ofBits, Ideal.ieee]; norm_num; rw [← EReal.coe_mul]; norm_num

section R
open Cert.DownLossRIdeal Cert.DownLossRIdeal.Read

theorem ref2 (x0 : FVec Ideal S8256x2816 .bf16) (x1 : FVec Ideal S2816x1024 .bf16) :
    val_main_v2 (F := Ideal) x0 x1 = Cert.DownProjRIdeal.Read.val_main_v2 (F := Ideal) x0 x1 := rfl

theorem ref19 (x0 : FVec Ideal S8256x2816 .bf16) (x1 : FVec Ideal S2816x1024 .bf16) (x2 : FVec Ideal S8256x1024 .f32)
    (x3 : FVec Ideal S1x1024 .f32) :
    val_main_v19 (F := Ideal) x0 x1 x2 x3 = Cert.DownProjRIdeal.Read.val_main_v19 (F := Ideal) x0 x1 x2 x3 := rfl

theorem ref21 (x0 : FVec Ideal S8256x2816 .bf16) (x1 : FVec Ideal S2816x1024 .bf16) (x2 : FVec Ideal S8256x1024 .f32)
    (x3 : FVec Ideal S1x1024 .f32) (x4 : FVec Ideal S8192x1024 .f32) (r : Fin 8192) (l : Fin 1024) (hr : 64 + r.val < 8256) :
    val_main_v21 (F := Ideal) x0 x1 x2 x3 x4 (ix2 r l)
      = val_main_v19 (F := Ideal) x0 x1 x2 x3 (ix2 ⟨64 + r.val, hr⟩ l) - x4 (ix2 r l) := by
  pointwise [val_main_v21, val_main_v20]

theorem ref35 (x0 : FVec Ideal S8256x2816 .bf16) (x1 : FVec Ideal S2816x1024 .bf16) (x2 : FVec Ideal S8256x1024 .f32)
    (x3 : FVec Ideal S1x1024 .f32) (x4 : FVec Ideal S8192x1024 .f32) (r : Fin 8192) (l : Fin 1024) :
    val_main_v35 (F := Ideal) x0 x1 x2 x3 x4 (ix2 r l)
      = val_main_v21 (F := Ideal) x0 x1 x2 x3 x4 (ix2 r l) * Ideal.ofBits FTy.f32 981467136#32 := by
  pointwise [val_main_v35, val_main_v34, val_main_v33, val_main_v32, val_main_v31, val_main_v30, val_main_v24, val_main_v23,
    val_main_cst_2, val_main_cst_7, val_main_cst_8, val_main_cst_9]
  rw [inv_eq, two_eq, half_pos_eq, width_eq, Ideal.div_coe (by norm_num), ← EReal.coe_mul, ← mul_assoc,
    ← EReal.coe_mul, mul_comm]
  congr 2
  norm_num

theorem ref36 (x0 : FVec Ideal S8256x2816 .bf16) (x1 : FVec Ideal S2816x1024 .bf16) (x2 : FVec Ideal S8256x1024 .f32)
    (x3 : FVec Ideal S1x1024 .f32) (x4 : FVec Ideal S8192x1024 .f32) (r : Fin 8256) (l : Fin 1024) :
    val_main_v36 (F := Ideal) x0 x1 x2 x3 x4 (ix2 r l)
      = if h : 64 ≤ r.val then (val_main_v19 (F := Ideal) x0 x1 x2 x3 (ix2 r l) - x4 (ix2 ⟨r.val - 64, by omega⟩ l))
          * Ideal.ofBits FTy.f32 981467136#32 else 0 := by
  pointwise [val_main_v36, val_main_cst_10]
  by_cases h : 64 ≤ r.val
  · have e : (⟨64 + (r.val - 64), by omega⟩ : Fin 8256) = r := Fin.ext (by show 64 + (r.val - 64) = r.val; omega)
    have h8 : r.val - 64 < 8192 := by omega
    simp [h, h8, ref35, ref21 _ _ _ _ _ (⟨r.val - 64, by omega⟩ : Fin 8192) _ (by show 64 + (r.val - 64) < 8256; omega), e]
  · simp [h]

theorem ref37 (x0 : FVec Ideal S8256x2816 .bf16) (x1 : FVec Ideal S2816x1024 .bf16) (x2 : FVec Ideal S8256x1024 .f32)
    (x3 : FVec Ideal S1x1024 .f32) (x4 : FVec Ideal S8192x1024 .f32) (r : Fin 8) (l : Fin 128) :
    val_main_v37 (F := Ideal) x0 x1 x2 x3 x4 (ix2 r l)
      = ∑ a : Fin 8192, ∑ k : Fin 1024,
          unit * (val_main_v21 (F := Ideal) x0 x1 x2 x3 x4 (ix2 a k) * val_main_v21 (F := Ideal) x0 x1 x2 x3 x4 (ix2 a k)) := by
  pointwise [val_main_v37, val_main_v29, val_main_v28, val_main_v27, val_main_v26, val_main_v25, val_main_v22,
    val_main_cst_3, val_main_cst_4, val_main_cst_5, val_main_cst_6]
  rw [half_pos_eq, width_eq]
  have hd : ∀ s : EReal, Ideal.div s ((1024 : ℝ) : EReal) = ((1 / 1024 : ℝ) : EReal) * s := fun s => by
    rw [Ideal.div_coe (by norm_num), mul_comm]
  have hn : ∀ a : Fin 8192, 0 ≤ ∑ k : Fin 1024, val_main_v21 (F := Ideal) x0 x1 x2 x3 x4 (ix2 a k) * val_main_v21 (F := Ideal) x0 x1 x2 x3 x4 (ix2 a k) :=
    fun a => Finset.sum_nonneg fun k _ => sq_nonneg _
  simp only [hd]
  have h0 : (0 : EReal) ≤ ((1 / 1024 : ℝ) : EReal) := EReal.coe_nonneg.2 (by norm_num)
  rw [mul_sum_nonneg _ _ fun a => mul_nonneg h0 (hn a)]
  refine Finset.sum_congr rfl fun a _ => ?_
  rw [← mul_assoc, ← EReal.coe_mul, mul_sum_nonneg _ _ fun k => sq_nonneg _, unit_eq]
  norm_num
end R

open Cert.DownLossIdeal Cert.DownLossIdeal.Gen

theorem pay4 (v0 : FVec Ideal S688x2816 .bf16) (v1 : FVec Ideal S2816x1024 .bf16) :
    k0_pay4 (F := Ideal) v0 v1 = Cert.DownProjIdeal.Gen.k0_pay1 (F := Ideal) v0 v1 := rfl

theorem pay6 (i : grid0.Coords) (v0 : FVec Ideal S688x2816 .bf16) (v1 : FVec Ideal S2816x1024 .bf16) (h : FVec Ideal S688x1024 .f32)
    (w : FVec Ideal S1x1024 .f32) :
    k0_pay6 (F := Ideal) i v0 v1 h w = Cert.DownProjIdeal.Gen.k0_pay2 (F := Ideal) i v0 v1 h w := rfl

theorem pay1 (i : grid0.Coords) (hi : (i 0).val < 12) (y t : FVec Ideal S688x1024 .f32) (r : Fin 688) (l : Fin 1024) :
    k0_pay1 (F := Ideal) y (k0_pay8 i) t (ix2 r l) = gap ((i 0).val * 688 + r.val) (y (ix2 r l)) (t (ix2 r l)) := by
  pointwise [k0_pay1, k0_pay8, k0_pay5]
  rw [mask64 _ hi r]
  unfold gap
  by_cases h : 64 ≤ (i 0).val * 688 + r.val
  · simp [h, Scalar.select]
  · simp [h, Scalar.select]

theorem pay2 (y : FVec Ideal S688x1024 .f32) (b : IVec S688x1 1) (t : FVec Ideal S688x1024 .f32) (r : Fin 688) (l : Fin 1024) :
    k0_pay2 (F := Ideal) y b t (ix2 r l) = k0_pay1 (F := Ideal) y b t (ix2 r l) * Ideal.ofBits FTy.f32 981467136#32 := by
  pointwise [k0_pay2]

theorem pay3 (y : FVec Ideal S688x1024 .f32) (b : IVec S688x1 1) (t : FVec Ideal S688x1024 .f32) (a : FVec Ideal S8x128 .f32) (r : Fin 8) (l : Fin 128) :
    k0_pay3 (F := Ideal) y b t a (ix2 r l)
      = a (ix2 r l) + unit * ∑ r : Fin 688, ∑ k : Fin 1024, k0_pay1 (F := Ideal) y b t (ix2 r k) * k0_pay1 (F := Ideal) y b t (ix2 r k) := by
  pointwise [k0_pay3]
  rfl

theorem pay7 (j : S8x128.Idx) : k0_pay7 (F := Ideal) j = 0 := by
  pointwise [k0_pay7]

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![t.val, 0]
    ∧ win0_7.index t = ![0, 0] ∧ ((grid0.coords t) 0).val = t.val :=
  (by decide +kernel : ∀ t : Fin grid0.N, _)

variable (m : (ℓ : Loc nD τ sig) → Buf (Elt Ideal) ℓ) (c : Dev nD)

/-- Row `r` of the point's block is row `688 t + r` of the array. -/
def rowOf (t : Fin cfg0.N) (r : Fin 688) : Fin 8256 := ⟨t.val * 688 + r.val, by have : t.val < 12 := t.isLt; omega⟩

theorem blk0 (t : Fin cfg0.N) (r : Fin 688) (k : Fin 2816) :
    (iblk m c 0 t : FVec Ideal S688x2816 .bf16) (ix2 r k) = (m ((c : Thread nD τ).loc main_arg0) : FVec Ideal S8256x2816 .bf16) (ix2 (rowOf t r) k) := by
  rw [← V_main_arg0 m c]
  blk_ext [iblk, rowOf, idx t]

theorem blk1 (t : Fin cfg0.N) (r : Fin 2816) (k : Fin 1024) :
    (iblk m c 1 t : FVec Ideal S2816x1024 .bf16) (ix2 r k) = (m ((c : Thread nD τ).loc main_arg1) : FVec Ideal S2816x1024 .bf16) (ix2 r k) := by
  rw [← V_main_arg1 m c]
  blk_ext [iblk, idx t]

theorem blk2 (t : Fin cfg0.N) (r : Fin 688) (k : Fin 1024) :
    (iblk m c 2 t : FVec Ideal S688x1024 .f32) (ix2 r k) = (m ((c : Thread nD τ).loc main_arg2) : FVec Ideal S8256x1024 .f32) (ix2 (rowOf t r) k) := by
  rw [← V_main_arg2 m c]
  blk_ext [iblk, rowOf, idx t]

theorem blk3 (t : Fin cfg0.N) (k : Fin 1024) :
    (iblk m c 3 t : FVec Ideal S1x1024 .f32) (ix2 0 k) = (m ((c : Thread nD τ).loc main_arg3) : FVec Ideal S1x1024 .f32) (ix2 0 k) := by
  rw [← V_main_arg3 m c]
  blk_ext [iblk, idx t]

/-- The target with 64 zero rows ahead of it. -/
theorem target : V m c main_v1 = concatenate S8256x1024 0
    [⟨S64x1024, broadcastInDim S64x1024 ![] bcast_S_S64x1024 (constant (F := Ideal) S_ .f32 0x00000000#32)⟩,
     ⟨S8192x1024, m ((c : Thread nD τ).loc main_arg4)⟩] concatenates_S64x1024_S8192x1024_S8256x1024_d0 := rfl

theorem target_at (a : FVec Ideal S8192x1024 .f32) (r : Fin 8256) (l : Fin 1024) (h : 64 ≤ r.val) : concatenate S8256x1024 0
    [⟨S64x1024, broadcastInDim S64x1024 ![] bcast_S_S64x1024 (constant (F := Ideal) S_ .f32 0x00000000#32)⟩,
     ⟨S8192x1024, a⟩] concatenates_S64x1024_S8192x1024_S8256x1024_d0 (ix2 r l) = a (ix2 ⟨r.val - 64, by omega⟩ l) := by
  pointwise
  rw [dif_neg (by omega)]

theorem blk4 (t : Fin cfg0.N) (r : Fin 688) (k : Fin 1024) (h : 64 ≤ (rowOf t r).val) :
    (iblk m c 4 t : FVec Ideal S688x1024 .f32) (ix2 r k)
      = (m ((c : Thread nD τ).loc main_arg4) : FVec Ideal S8192x1024 .f32) (ix2 ⟨(rowOf t r).val - 64, by omega⟩ k) := by
  refine Eq.trans ?_ (target_at _ (rowOf t r) k h)
  rw [← target m c]
  blk_ext [iblk, rowOf, idx t]

/-- The new residual stream's element. -/
def Y (r : Fin 8256) (l : Fin 1024) : EReal :=
  Cert.DownLossRIdeal.Read.val_main_v19 (F := Ideal) (m ((c : Thread nD τ).loc main_arg0)) (m ((c : Thread nD τ).loc main_arg1))
    (m ((c : Thread nD τ).loc main_arg2)) (m ((c : Thread nD τ).loc main_arg3)) (ix2 r l)

/-- The error's element. -/
def E (r : Fin 8256) (l : Fin 1024) : EReal :=
  if h : 64 ≤ r.val then Y m c r l - (m ((c : Thread nD τ).loc main_arg4) : FVec Ideal S8192x1024 .f32) (ix2 ⟨r.val - 64, by omega⟩ l) else 0

theorem product_at (t : Fin cfg0.N) (r : Fin 688) (l : Fin 1024) :
    k0_pay4 (F := Ideal) (iblk m c 0 t) (iblk m c 1 t) (ix2 r l)
      = Cert.DownLossRIdeal.Read.val_main_v2 (F := Ideal) (m ((c : Thread nD τ).loc main_arg0)) (m ((c : Thread nD τ).loc main_arg1)) (ix2 (rowOf t r) l) := by
  rw [pay4, ref2]
  refine (Cert.DownProjFinal.pay1 _ _ r l).trans ?_
  simp only [blk0, blk1]
  exact (Cert.DownProjFinal.ref2 _ _ _ _).symm

theorem resid_at (t : Fin cfg0.N) (r : Fin 688) (l : Fin 1024) :
    k0_pay6 (F := Ideal) (grid0.coords t) (iblk m c 0 t) (iblk m c 1 t) (iblk m c 2 t) (iblk m c 3 t) (ix2 r l) = Y m c (rowOf t r) l := by
  have hc := (idx t).2.2.2.2.2.2.2.2
  unfold Y
  rw [ref19, pay6]
  refine (Cert.DownProjFinal.pay2 _ (by rw [hc]; exact t.isLt) _ _ _ _ r l).trans ?_
  rw [hc]
  refine Eq.trans ?_ (Cert.DownProjFinal.ref19 _ _ _ _ _ _).symm
  have hp : ∀ k, Cert.DownProjIdeal.Gen.k0_pay1 (F := Ideal) (iblk m c 0 t) (iblk m c 1 t) (ix2 r k)
      = Cert.DownProjRIdeal.Read.val_main_v2 (F := Ideal) (m ((c : Thread nD τ).loc main_arg0)) (m ((c : Thread nD τ).loc main_arg1)) (ix2 (rowOf t r) k) :=
    fun k => product_at m c t r k
  simp only [hp, blk2, blk3]
  rfl

theorem gap_at (t : Fin cfg0.N) (r : Fin 688) (l : Fin 1024) :
    k0_pay1 (F := Ideal) (k0_pay6 (grid0.coords t) (iblk m c 0 t) (iblk m c 1 t) (iblk m c 2 t) (iblk m c 3 t)) (k0_pay8 (grid0.coords t))
      (iblk m c 4 t) (ix2 r l) = E m c (rowOf t r) l := by
  have hc := (idx t).2.2.2.2.2.2.2.2
  rw [pay1 _ (by rw [hc]; exact t.isLt), hc, resid_at]
  unfold gap E
  by_cases h : 64 ≤ (rowOf t r).val
  · rw [dif_pos h, if_pos (by exact h), blk4 m c t r l h]
  · rw [dif_neg h, if_neg (by exact h)]

theorem final5 : (dats m 0 c).arrAt 5 cfg0.N
    = Cert.DownLossRIdeal.Read.val_main_v2 (F := Ideal) (m ((c : Thread nD τ).loc main_arg0)) (m ((c : Thread nD τ).loc main_arg1)) := by
  refine (dats m 0 c).arrAt_eq_of_covers 5 _ (by decide +kernel) fun t hf y => ?_
  blk_simp
  rw [after0_5]
  have key : ∀ y : S688x1024.Idx, k0_pay4 (F := Ideal) (iblk m c 0 t) (iblk m c 1 t) y
      = Cert.DownLossRIdeal.Read.val_main_v2 (F := Ideal) (m ((c : Thread nD τ).loc main_arg0)) (m ((c : Thread nD τ).loc main_arg1))
        (((View.whole main_v2_0).slice (win0_5.rect t)).emb y) := by
    intro y
    obtain ⟨r, l, rfl⟩ : ∃ (r : Fin 688) (l : Fin 1024), y = ix2 r l := ⟨y 0, y 1, eq_ix2 y⟩
    have e : ((View.whole main_v2_0).slice (win0_5.rect t)).emb (ix2 r l : S688x1024.Idx) = (ix2 (rowOf t r) l : S8256x1024.Idx) := by
      blk_ext [rowOf, idx t]
    rw [e]
    exact product_at m c t r l
  by_cases h0 : t.val % 12 = 0
  · rw [outsAt0_A m c t h0]
    frame_out
    exact key y
  · rw [outsAt0_B m c t h0]
    frame_out
    exact key y

theorem final6 : (dats m 0 c).arrAt 6 cfg0.N
    = Cert.DownLossRIdeal.Read.val_main_v36 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  have key : ∀ y : S688x1024.Idx, k0_pay2 (F := Ideal) (k0_pay6 (grid0.coords t) (iblk m c 0 t) (iblk m c 1 t) (iblk m c 2 t) (iblk m c 3 t))
        (k0_pay8 (grid0.coords t)) (iblk m c 4 t) y
      = Cert.DownLossRIdeal.Read.val_main_v36 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (((View.whole main_v2_1).slice (win0_6.rect t)).emb y) := by
    intro y
    obtain ⟨r, l, rfl⟩ : ∃ (r : Fin 688) (l : Fin 1024), y = ix2 r l := ⟨y 0, y 1, eq_ix2 y⟩
    have e : ((View.whole main_v2_1).slice (win0_6.rect t)).emb (ix2 r l : S688x1024.Idx) = (ix2 (rowOf t r) l : S8256x1024.Idx) := by
      blk_ext [rowOf, idx t]
    rw [e, pay2, gap_at]
    refine Eq.trans ?_ (ref36 _ _ _ _ _ _ _).symm
    unfold E
    by_cases h : 64 ≤ (rowOf t r).val
    · rw [dif_pos h, dif_pos h]
      rfl
    · rw [dif_neg h, dif_neg h, zero_mul]
  by_cases h0 : t.val % 12 = 0
  · rw [outsAt0_A m c t h0]
    frame_out
    exact key y
  · rw [outsAt0_B m c t h0]
    frame_out
    exact key y

/-- The point's part of the loss. -/
def part (t : Fin cfg0.N) (_ : S8x128.Idx) : EReal :=
  unit * ∑ r : Fin 688, ∑ k : Fin 1024, E m c (rowOf t r) k * E m c (rowOf t r) k

theorem step_at (t : Fin cfg0.N) (a : FVec Ideal S8x128 .f32) (y : S8x128.Idx) :
    k0_pay3 (F := Ideal) (k0_pay6 (grid0.coords t) (iblk m c 0 t) (iblk m c 1 t) (iblk m c 2 t) (iblk m c 3 t))
        (k0_pay8 (grid0.coords t)) (iblk m c 4 t) a y = a y + part m c t y := by
  obtain ⟨r, l, rfl⟩ : ∃ (r : Fin 8) (l : Fin 128), y = ix2 r l := ⟨y 0, y 1, eq_ix2 y⟩
  rw [pay3]
  simp only [gap_at]
  rfl

theorem step_A (t : Fin cfg0.N) (h : t.val % 12 = 0) (y : S8x128.Idx) : (outsAt0 m c t.val t.isLt).2.2 y = 0 + part m c t y := by
  rw [outsAt0_A m c t h]
  frame_out
  refine (step_at m c t _ y).trans ?_
  rw [pay7]

theorem step_B (t : Fin cfg0.N) (h : ¬t.val % 12 = 0) (y : S8x128.Idx) : (outsAt0 m c t.val t.isLt).2.2 y
    = (outsAt0 m c (t.val - 1) (lt_of_le_of_lt (Nat.sub_le _ _) t.isLt)).2.2 y + part m c t y := by
  rw [outsAt0_B m c t h]
  frame_out
  exact step_at m c t _ y

theorem final7 : (dats m 0 c).arrAt 7 cfg0.N
    = Cert.DownLossRIdeal.Read.val_main_v37 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 7 _ (by decide +kernel) fun t hf y => ?_
  blk_simp
  rw [after0_7, Pipeline.eq_sum_fin_of_reset_step_apply_of_flush (fun n h => (outsAt0 m c n h).2.2) 12 (fun _ => 0) (part m c)
    (step_A m c) (step_B m c) t ((flush0_7 t).mp hf) _, zero_add]
  have key : ∀ y : S8x128.Idx, (∑ s : Fin 12, part m c ⟨12 * (t.val / 12) + s.val, Pipeline.run_point_lt_of_flush t ((flush0_7 t).mp hf) s⟩ y)
      = Cert.DownLossRIdeal.Read.val_main_v37 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          ((win0_7.blk t).view.emb y) := by
    intro y
    obtain ⟨r, l, rfl⟩ : ∃ (r : Fin 8) (l : Fin 128), y = ix2 r l := ⟨y 0, y 1, eq_ix2 y⟩
    have e : (win0_7.blk t).view.emb (ix2 r l : S8x128.Idx) = (ix2 r l : S8x128.Idx) := by
      blk_ext [idx t]
    rw [e]
    refine Eq.trans ?_ (ref37 _ _ _ _ _ _ _).symm
    have ht : t.val / 12 = 0 := Nat.div_eq_of_lt t.isLt
    unfold part
    have hn : ∀ (a : Fin 8256) (k : Fin 1024), 0 ≤ E m c a k * E m c a k := fun a k => sq_nonneg _
    simp only [mul_sum_nonneg _ _ fun r : Fin 688 => Finset.sum_nonneg fun k _ => hn _ k, mul_sum_nonneg _ _ fun k => hn _ k]
    refine (Cert.Row0.sum_tiles _ (fun a => ∑ k, unit * (E m c a k * E m c a k)) fun s k hl => ?_).trans ?_
    · have er : rowOf ⟨12 * (t.val / 12) + s.val, Pipeline.run_point_lt_of_flush t ((flush0_7 t).mp hf) s⟩ k = ⟨s.val * 688 + k.val, hl⟩ := by
        refine Fin.ext ?_
        show (12 * (t.val / 12) + s.val) * 688 + k.val = s.val * 688 + k.val
        omega
      rw [er]
    · rw [show (∑ a : Fin 8256, ∑ k, unit * (E m c a k * E m c a k)) = ∑ a : Fin (64 + 8192), ∑ k, unit * (E m c a k * E m c a k) from rfl,
        Fin.sum_univ_add]
      have z : ∀ (a : Fin 64) (k : Fin 1024), E m c (Fin.castAdd 8192 a : Fin (64 + 8192)) k = 0 := fun a k => by
        unfold E
        exact dif_neg (by show ¬64 ≤ a.val; omega)
      have d : ∀ (a : Fin 8192) (k : Fin 1024), E m c (Fin.natAdd 64 a : Fin (64 + 8192)) k
          = Cert.DownLossRIdeal.Read.val_main_v21 (F := Ideal) (m ((c : Thread nD τ).loc main_arg0)) (m ((c : Thread nD τ).loc main_arg1))
              (m ((c : Thread nD τ).loc main_arg2)) (m ((c : Thread nD τ).loc main_arg3)) (m ((c : Thread nD τ).loc main_arg4)) (ix2 a k) := fun a k => by
        rw [ref21 _ _ _ _ _ a k (by omega)]
        unfold E
        have hv : (Fin.natAdd 64 a : Fin (64 + 8192)).val = 64 + a.val := rfl
        have ea : (⟨(Fin.natAdd 64 a : Fin (64 + 8192)).val - 64, by omega⟩ : Fin 8192) = a := Fin.ext (by show 64 + a.val - 64 = a.val; omega)
        rw [dif_pos (by omega), ea]
        rfl
      simp only [z, d, mul_zero, Finset.sum_const_zero, zero_add]
  exact key y

end Cert.DownLossFinal
end
-- ==== Proof.DownLossClaim.lean ====
module

public import Idealize.ShloMosaic.Lib.Quiescent
public import proofs.«01_k».proof.Defs
public import proofs.«01_k».proof.Proof.DownLossFinal
public import proofs.«01_k».proof.Proof.Gen.DownLoss
public import proofs.«01_k».proof.Proof.Gen.DownLossRIdeal.Run

/-! The reference's frame and the value claim of this call. -/

@[expose] public section

set_option maxRecDepth 16384

noncomputable section
open Idealize.ShloMosaic Idealize.ShloMosaic.TcCoe Idealize.SL.Sem
namespace Cert.DownLossClaim

/-- The reference runs and keeps its arguments; it declares no semaphore. -/
theorem frameRef : Cert.quiescent_DownLossRIdeal (hDownLossRIdeal := Cert.DownLossRIdeal.Gen.facts) := fun m ρ _ =>
  (θ_run Cert.DownLossRIdeal.defs _ _).mono (fun r h => ⟨fun c => (h c).2.2.2, sem_eq_zero_of_no_sems (by decide) r.2⟩)
    (Cert.DownLossRIdeal.Value.run (F := Ideal) m ρ)

/-- The two programs end with equal results. -/
theorem algebraic : Cert.algebraic_DownLossIdeal_DownLossRIdeal (hDownLossIdeal := Cert.DownLossIdeal.Gen.facts) (hDownLossRIdeal := Cert.DownLossRIdeal.Gen.facts) := by
  intro m g m' g' _ hag
  refine ⟨fun c => (Cert.DownLossIdeal.Gen.dats m 0 c).arrAt 5 Cert.DownLossIdeal.cfg0.N, fun c => (Cert.DownLossIdeal.Gen.dats m 0 c).arrAt 6 Cert.DownLossIdeal.cfg0.N, fun c => (Cert.DownLossIdeal.Gen.dats m 0 c).arrAt 7 Cert.DownLossIdeal.cfg0.N, Cert.DownLossIdeal.Value.run_blocks (F := Ideal) m g, ?_⟩
  refine (θ_run Cert.DownLossRIdeal.defs _ _).mono (fun r h c => ?_) (Cert.DownLossRIdeal.Value.run (F := Ideal) m' g')
  obtain ⟨h0, h1, h2, hk⟩ := h c
  obtain ⟨a0, a1, a2, a3, a4⟩ := hag c
  refine ⟨?_, ?_, ?_, hk⟩
  · exact (h0.trans (Cert.DownLossRIdeal.Read.val_main_v2_eq _ _)).trans (by rw [a0, a1]; exact (Cert.DownLossFinal.final5 m c).symm)
  · exact (h1.trans (Cert.DownLossRIdeal.Read.val_main_v36_eq _ _ _ _ _)).trans (by rw [a0, a1, a2, a3, a4]; exact (Cert.DownLossFinal.final6 m c).symm)
  · exact (h2.trans (Cert.DownLossRIdeal.Read.val_main_v37_eq m' c)).trans (by rw [a0, a1, a2, a3, a4]; exact (Cert.DownLossFinal.final7 m c).symm)

end Cert.DownLossClaim
end
-- ==== Proof.GateFinal.lean ====
module

public import Idealize.ShloMosaic.Lib.Pipeline.ValueKit
public import Idealize.ShloMosaic.Lib.Pointwise
public import Idealize.ShloMosaic.Lib.WordCmp
public import proofs.«01_k».proof.Proof.Gen.GateIdeal.Value
public import proofs.«01_k».proof.Proof.Gen.GateRIdeal.Read

/-! The convolution and the gate: the two arrays the call leaves are the reference's. A row tile's first rows read the
    rows before the tile, which the call keeps from one tile to the next; the reference reads them in the array. -/

@[expose] public section

set_option maxRecDepth 16384

noncomputable section
open Idealize.ShloMosaic Idealize.ShloMosaic.TcCoe Idealize.SL.Sem
open Idealize.ShloMosaic.Pipeline (Dat)
namespace Cert.GateFinal

theorem half_eq : Ideal.ofBits FTy.f32 1056964608#32 = ((1 / 2 : ℝ) : EReal) := by
  simp [Ideal.ofBits, Ideal.ieee]; norm_num; rw [← EReal.coe_mul]; norm_num

/-- `√(2/π)` as the kernel writes it. -/
theorem c_eq : Ideal.ofBits FTy.f32 1061962282#32 = ((6693141 / 8388608 : ℝ) : EReal) := by
  simp [Ideal.ofBits, Ideal.ieee]; norm_num; rw [← EReal.coe_mul]; norm_num

/-- `0.044715` as the reference writes it. -/
theorem k_eq : Ideal.ofBits FTy.f32 1027024659#32 = ((12003091 / 268435456 : ℝ) : EReal) := by
  simp [Ideal.ofBits, Ideal.ieee]; norm_num; rw [← EReal.coe_mul]; norm_num

/-- The argument of the activation's tanh, the kernel's way. -/
def arg (a : EReal) : EReal := a * (a * a * ((80338380498831 / 2251799813685248 : ℝ) : EReal) + ((6693141 / 8388608 : ℝ) : EReal))

/-- The activation, the kernel's way. -/
def gelu (a : EReal) : EReal := a * (((1 / 2 : ℝ) : EReal) * Ideal.tanh (arg a) + ((1 / 2 : ℝ) : EReal))

theorem arg_eq (a : EReal) :
    ((6693141 / 8388608 : ℝ) : EReal) * (a + ((12003091 / 268435456 : ℝ) : EReal) * (a * a * a)) = arg a := by
  unfold arg
  induction a with
  | coe x => norm_cast; ring
  | top =>
    rw [EReal.top_mul_top, EReal.top_mul_top, EReal.coe_mul_top_of_pos (by norm_num), EReal.top_add_top,
      EReal.coe_mul_top_of_pos (by norm_num), EReal.top_mul_coe_of_pos (by norm_num), EReal.top_add_coe, EReal.top_mul_top]
  | bot =>
    rw [EReal.bot_mul_bot, EReal.top_mul_bot, EReal.coe_mul_bot_of_pos (by norm_num), EReal.bot_add,
      EReal.coe_mul_bot_of_pos (by norm_num), EReal.top_mul_coe_of_pos (by norm_num), EReal.top_add_coe, EReal.bot_mul_top]

theorem gelu_eq (a : EReal) :
    a * (((1 / 2 : ℝ) : EReal) * (1 + Ideal.tanh (((6693141 / 8388608 : ℝ) : EReal) * (a + ((12003091 / 268435456 : ℝ) : EReal) * (a * a * a)))))
      = gelu a := by
  rw [arg_eq]
  unfold gelu
  rw [EReal.left_distrib_of_nonneg_of_ne_top (EReal.coe_nonneg.2 (by norm_num)) (EReal.coe_ne_top _), mul_one, add_comm]

section R
open Cert.GateRIdeal Cert.GateRIdeal.Read

/-- The row `k` rows before, zero before the first. -/
def past (u : FVec Ideal S8256x5632 .bf16) (k : ℕ) (r : Fin 8256) (l : Fin 5632) : EReal :=
  if k ≤ r.val then u (ix2 ⟨r.val - k, by omega⟩ l) else 0

/-- The convolution at a row and column. -/
def conv (u : FVec Ideal S8256x5632 .bf16) (w : FVec Ideal S3x5632 .f32) (b : FVec Ideal S5632 .f32) (r : Fin 8256) (l : Fin 5632) : EReal :=
  b (ix1 l) + (past u 2 r l * w (ix2 0 l) + past u 1 r l * w (ix2 1 l) + u (ix2 r l) * w (ix2 2 l))

theorem ref2 (u : FVec Ideal S8256x5632 .bf16) (r : Fin 8258) (l : Fin 5632) :
    val_main_v2 (F := Ideal) u (ix2 r l) = if h : 2 ≤ r.val then u (ix2 ⟨r.val - 2, by omega⟩ l) else 0 := by
  pointwise [val_main_v2, val_main_v0, val_main_v1, val_main_cst]
  by_cases h : 2 ≤ r.val
  · have h' : ¬ r.val < 2 := by omega
    simp [h, h']
  · have h' : r.val < 2 := by omega
    simp [h, h']

theorem pastAt (u : FVec Ideal S8256x5632 .bf16) (k : ℕ) (hk : k ≤ 2) (r : Fin 8256) (l : Fin 5632) (h : 2 - k + r.val < 8258) :
    val_main_v2 (F := Ideal) u (ix2 ⟨2 - k + r.val, h⟩ l) = past u k r l := by
  rw [ref2]
  unfold past
  by_cases hr : k ≤ r.val
  · have e : (⟨2 - k + r.val - 2, by omega⟩ : Fin 8256) = ⟨r.val - k, by omega⟩ := Fin.ext (by show 2 - k + r.val - 2 = r.val - k; omega)
    rw [dif_pos (by show 2 ≤ 2 - k + r.val; omega), if_pos hr]
    exact congrArg (fun a => u (ix2 a l)) e
  · rw [dif_neg (by show ¬ 2 ≤ 2 - k + r.val; omega), if_neg hr]

theorem past0 (u : FVec Ideal S8256x5632 .bf16) (r : Fin 8256) (l : Fin 5632) : past u 0 r l = u (ix2 r l) := by
  unfold past
  rw [if_pos (Nat.zero_le _)]
  rfl

theorem ref27 (u : FVec Ideal S8256x5632 .bf16) (w : FVec Ideal S3x5632 .f32) (b : FVec Ideal S5632 .f32) (r : Fin 8256) (l : Fin 5632) :
    val_main_v27 (F := Ideal) u w b (ix2 r l) = conv u w b r l := by
  pointwise [val_main_v27, val_main_v26, val_main_v25, val_main_v24, val_main_v23, val_main_v22, val_main_v21, val_main_v20,
    val_main_v19, val_main_v18, val_main_v17, val_main_v16, val_main_v15, val_main_v14, val_main_v13, val_main_v12, val_main_v11,
    val_main_v10, val_main_v9, val_main_v8, val_main_v7, val_main_v6, val_main_v5, val_main_v4, val_main_v3, val_main_cst_0]
  have h2 := pastAt u 2 (by omega) r l (by have := r.isLt; omega)
  have h1 := pastAt u 1 (by omega) r l (by have := r.isLt; omega)
  have h0 := pastAt u 0 (by omega) r l (by have := r.isLt; omega)
  simp only [Nat.sub_self, Nat.sub_zero, Nat.zero_add, Nat.reduceSub] at h2 h1 h0
  rw [h2, h1, h0, past0]
  rfl

theorem ref28 (u : FVec Ideal S8256x5632 .bf16) (w : FVec Ideal S3x5632 .f32) (b : FVec Ideal S5632 .f32) (r : Fin 8256) (l : Fin 5632) :
    val_main_v28 (F := Ideal) u w b (ix2 r l) = conv u w b r l := by
  pointwise [val_main_v28]
  exact ref27 u w b r l

theorem ref56 (u : FVec Ideal S8256x5632 .bf16) (w : FVec Ideal S3x5632 .f32) (b : FVec Ideal S5632 .f32) :
    val_main_v56 (F := Ideal) u w b = val_main_v27 (F := Ideal) u w b := rfl

/-- The first half of a block's columns. -/
theorem ref59 (u : FVec Ideal S8256x5632 .bf16) (w : FVec Ideal S3x5632 .f32) (b : FVec Ideal S5632 .f32) (r : Fin 8256) (j : Fin 11)
    (l : Fin 256) : val_main_v59 (F := Ideal) u w b (ix3 r j l) = conv u w b r ⟨j.val * 512 + l.val, by omega⟩ := by
  pointwise [val_main_v59, val_main_v58, val_main_v57]
  rw [ref56, ref27]

/-- The second half. -/
theorem ref61 (u : FVec Ideal S8256x5632 .bf16) (w : FVec Ideal S3x5632 .f32) (b : FVec Ideal S5632 .f32) (r : Fin 8256) (j : Fin 11)
    (l : Fin 256) : val_main_v61 (F := Ideal) u w b (ix3 r j l) = conv u w b r ⟨j.val * 512 + (256 + l.val), by omega⟩ := by
  pointwise [val_main_v61, val_main_v60, val_main_v57]
  rw [ref56, ref27]
  congr 2
  omega

theorem ref75 (u : FVec Ideal S8256x5632 .bf16) (w : FVec Ideal S3x5632 .f32) (b : FVec Ideal S5632 .f32) (i : S8256x11x256.Idx) :
    val_main_v75 (F := Ideal) u w b i = gelu (val_main_v59 (F := Ideal) u w b i) * val_main_v61 (F := Ideal) u w b i := by
  pointwise [val_main_v75, val_main_v74, val_main_v73, val_main_v72, val_main_v71, val_main_v70, val_main_v69, val_main_v68,
    val_main_v67, val_main_v66, val_main_v65, val_main_v64, val_main_v63, val_main_v62, val_main_cst_3, val_main_cst_4,
    val_main_cst_5, val_main_cst_6]
  rw [half_eq, c_eq, k_eq, gelu_eq]

theorem ref77 (u : FVec Ideal S8256x5632 .bf16) (w : FVec Ideal S3x5632 .f32) (b : FVec Ideal S5632 .f32) (r : Fin 8256) (l : Fin 2816) :
    val_main_v77 (F := Ideal) u w b (ix2 r l)
      = gelu (conv u w b r ⟨l.val / 256 * 512 + l.val % 256, by omega⟩) * conv u w b r ⟨l.val / 256 * 512 + (256 + l.val % 256), by omega⟩ := by
  pointwise [val_main_v77, val_main_v76]
  rw [ref75, ref59, ref61]
end R

open Cert.GateIdeal Cert.GateIdeal.Gen

/-- The row `k` rows before within a tile, from the kept rows where it lies before the tile. -/
def tap (k : ℕ) (x : FVec Ideal S688x512 .bf16) (s : FVec Ideal S8x512 .f32) (r : Fin 688) (l : Fin 512) : EReal :=
  if r.val < k then s (ix2 ⟨(r.val + 8 - k) % 8, by omega⟩ l) else x (ix2 ⟨r.val - k, by omega⟩ l)

theorem below2 : ∀ r : Fin 8, IntOp.cmpi .slt (BitVec.ofNat 32 r.val) 2#32 = if r.val < 2 then 1#1 else 0#1 := by decide

theorem below1 : ∀ r : Fin 8, IntOp.cmpi .slt (BitVec.ofNat 32 r.val) 1#32 = if r.val < 1 then 1#1 else 0#1 := by decide

/-- The two ways of reading a row before: the first eight rows choose, the others shift. -/
theorem tap_of (k : ℕ) (hk : k ≤ 2) (b : BitVec 1) (x : FVec Ideal S688x512 .bf16) (s : FVec Ideal S8x512 .f32) (r : Fin 688) (l : Fin 512)
    (hb : r.val < 8 → b = if r.val < k then 1#1 else 0#1) :
    (if h : r.val < 8 then Scalar.select b (s (ix2 ⟨(r.val + 8 - k) % 8, by omega⟩ l) : EReal) (x (ix2 ⟨(r.val + 688 - k) % 688, by omega⟩ l))
      else x (ix2 ⟨(8 + (r.val - 8) + 688 - k) % 688, by omega⟩ l)) = tap k x s r l := by
  unfold tap
  by_cases h : r.val < 8
  · rw [dif_pos h, hb h]
    by_cases h2 : r.val < k
    · simp [h2, Scalar.select]
    · have e : (r.val + 688 - k) % 688 = r.val - k := by omega
      simp [h2, Scalar.select, e]
  · have e : (8 + (r.val - 8) + 688 - k) % 688 = r.val - k := by omega
    have h2 : ¬ r.val < k := by omega
    rw [dif_neg h, if_neg h2]
    simp [e]

theorem pay7 (x : FVec Ideal S688x512 .bf16) (s : FVec Ideal S8x512 .f32) (w3 w0 : FVec Ideal S1x512 .f32) (r : Fin 688) (l : Fin 512) :
    k0_pay7 (F := Ideal) x s w3 w0 (ix2 r l) = w3 (ix2 0 l) + tap 2 x s r l * w0 (ix2 0 l) := by
  pointwise [k0_pay7, k0_pay6]
  rw [tap_of 2 (by omega) _ x s r l (fun h => below2 ⟨r.val, h⟩)]

theorem pay8 (x : FVec Ideal S688x512 .bf16) (s : FVec Ideal S8x512 .f32) (w1 : FVec Ideal S1x512 .f32) (r : Fin 688) (l : Fin 512) :
    k0_pay8 (F := Ideal) x s w1 (ix2 r l) = tap 1 x s r l * w1 (ix2 0 l) := by
  pointwise [k0_pay8, k0_pay6]
  rw [tap_of 1 (by omega) _ x s r l (fun h => below1 ⟨r.val, h⟩)]

theorem pay1 (a b d : FVec Ideal S688x512 .f32) (w : FVec Ideal S1x512 .f32) (r : Fin 688) (l : Fin 512) :
    k0_pay1 (F := Ideal) a b d w (ix2 r l) = b (ix2 r l) + d (ix2 r l) + a (ix2 r l) * w (ix2 0 l) := by
  pointwise [k0_pay1]

theorem pay6 (x : FVec Ideal S688x512 .bf16) (r : Fin 688) (l : Fin 512) : k0_pay6 (F := Ideal) x (ix2 r l) = x (ix2 r l) := by
  pointwise [k0_pay6]

theorem pay2 (a b d : FVec Ideal S688x512 .f32) (w : FVec Ideal S1x512 .f32) (r : Fin 688) (l : Fin 512) :
    k0_pay2 (F := Ideal) a b d w (ix2 r l) = k0_pay1 (F := Ideal) a b d w (ix2 r l) := by
  pointwise [k0_pay2]

theorem pay3 (a b d : FVec Ideal S688x512 .f32) (w : FVec Ideal S1x512 .f32) (r : Fin 688) (l : Fin 256) :
    k0_pay3 (F := Ideal) a b d w (ix2 r l)
      = gelu (k0_pay1 (F := Ideal) a b d w (ix2 r ⟨l.val, by omega⟩)) * k0_pay1 (F := Ideal) a b d w (ix2 r ⟨256 + l.val, by omega⟩) := by
  pointwise [k0_pay3]
  rw [half_eq, c_eq]
  rfl

theorem pay4 (a : FVec Ideal S688x512 .f32) (r : Fin 8) (l : Fin 512) : k0_pay4 (F := Ideal) a (ix2 r l) = a (ix2 ⟨680 + r.val, by omega⟩ l) := by
  pointwise [k0_pay4]

theorem pay5 (r : Fin 8) (l : Fin 512) : k0_pay5 (F := Ideal) (ix2 r l) = 0 := by
  pointwise [k0_pay5]

theorem idx : ∀ t : Fin cfg0.N, win0_0.index t = ![t.val % 12, t.val / 12] ∧ win0_1.index t = ![0, t.val / 12]
    ∧ win0_2.index t = ![t.val % 12, t.val / 12] ∧ win0_3.index t = ![t.val % 12, t.val / 12] :=
  (by decide +kernel : ∀ t : Fin grid0.N, _)

variable (m : (ℓ : Loc nD τ sig) → Buf (Elt Ideal) ℓ) (c : Dev nD)

/-- The point's row tile and column block: row `r` and column `l` of its block in the array. -/
def rowOf (t : Fin cfg0.N) (r : Fin 688) : Fin 8256 := ⟨t.val % 12 * 688 + r.val, by omega⟩

def colOf (t : Fin cfg0.N) (l : Fin 512) : Fin 5632 := ⟨t.val / 12 * 512 + l.val, by have : t.val < 132 := t.isLt; omega⟩

abbrev inU : FVec Ideal S8256x5632 .bf16 := m ((c : Thread nD τ).loc main_arg0)

abbrev inW : FVec Ideal S3x5632 .f32 := m ((c : Thread nD τ).loc main_arg1)

abbrev inB : FVec Ideal S5632 .f32 := m ((c : Thread nD τ).loc main_arg2)

/-- The eight rows the call reads: the three weights, the bias, zeros. -/
abbrev taps : FVec Ideal S8x5632 .f32 := V m c main_v2

theorem blk0 (t : Fin cfg0.N) (r : Fin 688) (l : Fin 512) :
    (iblk m c 0 t : FVec Ideal S688x512 .bf16) (ix2 r l) = inU m c (ix2 (rowOf t r) (colOf t l)) := by
  unfold inU
  rw [← V_main_arg0 m c]
  blk_ext [iblk, rowOf, colOf, idx t]

theorem blk1 (t : Fin cfg0.N) (r : Fin 8) (l : Fin 512) :
    (iblk m c 1 t : FVec Ideal S8x512 .f32) (ix2 r l) = taps m c (ix2 r (colOf t l)) := by
  unfold taps
  blk_ext [iblk, colOf, idx t]

theorem taps_eq : taps m c = concatenate S8x5632 0 [⟨S3x5632, inW m c⟩, ⟨S1x5632, (V m c main_v0 : FVec Ideal S1x5632 .f32)⟩,
    ⟨S4x5632, (V m c main_v1 : FVec Ideal S4x5632 .f32)⟩] concatenates_S3x5632_S1x5632_S4x5632_S8x5632_d0 := rfl

theorem v0_eq : (V m c main_v0 : FVec Ideal S1x5632 .f32) = broadcastInDim S1x5632 ![1] bcast_S5632_S1x5632_1 (inB m c) := rfl

theorem v0_at (l : Fin 5632) : (V m c main_v0 : FVec Ideal S1x5632 .f32) (ix2 0 l) = inB m c (ix1 l) := by
  rw [v0_eq]
  pointwise []

theorem taps_w (k : Fin 3) (l : Fin 5632) : taps m c (ix2 ⟨k.val, by omega⟩ l) = inW m c (ix2 k l) := by
  rw [taps_eq]
  pointwise []

theorem taps_b (l : Fin 5632) : taps m c (ix2 3 l) = inB m c (ix1 l) := by
  rw [taps_eq]
  pointwise []
  exact v0_at m c l

/-- The eight rows kept for a point: the last of the tile before, or zeros at a column block's first tile. -/
def kept (t : Fin cfg0.N) : FVec Ideal S8x512 .f32 :=
  if t.val % 12 = 0 then k0_pay5 else k0_pay4 (k0_pay6 (iblk m c 0 ⟨t.val - 1, by have := t.isLt; omega⟩ : FVec Ideal S688x512 .bf16))

theorem tap_past (k : ℕ) (hk : k ≤ 2) (t : Fin cfg0.N) (r : Fin 688) (l : Fin 512) :
    tap k (iblk m c 0 t) (kept m c t) r l = past (inU m c) k (rowOf t r) (colOf t l) := by
  unfold tap past kept
  by_cases hr : r.val < k
  · rw [if_pos hr]
    by_cases ht : t.val % 12 = 0
    · rw [if_pos ht, pay5, if_neg (by show ¬ k ≤ t.val % 12 * 688 + r.val; omega)]
    · rw [if_neg ht, pay4, pay6, blk0, if_pos (by show k ≤ t.val % 12 * 688 + r.val; omega)]
      congr 2
      · apply Fin.ext
        show (t.val - 1) % 12 * 688 + (680 + (r.val + 8 - k) % 8) = t.val % 12 * 688 + r.val - k
        omega
      · apply Fin.ext
        show (t.val - 1) / 12 * 512 + l.val = t.val / 12 * 512 + l.val
        omega
  · rw [if_neg hr, if_pos (by show k ≤ t.val % 12 * 688 + r.val; omega), blk0]
    congr 2
    apply Fin.ext
    show t.val % 12 * 688 + (r.val - k) = t.val % 12 * 688 + r.val - k
    omega

/-- A row of the point's eight. -/
theorem row_at (k : Fin 8) (h : ∀ a, (![k.val, 0] : Fin 2 → ℕ) a + S1x512.size a ≤ S8x512.size a) (t : Fin cfg0.N) (l : Fin 512) :
    (View.ld (iblk m c 1 t : FVec Ideal S8x512 .f32) (Rect.unit ![k.val, 0] ![1, 512] h) : FVec Ideal S1x512 .f32) (ix2 0 l)
      = taps m c (ix2 k (colOf t l)) := by
  rw [← blk1]
  unfold View.ld
  congr 1
  funext a
  fin_cases a
  · apply Fin.ext
    simp [Rect.unit]
  · apply Fin.ext
    simp [Rect.unit]

/-- The convolution of a point's tile, as the body computes it from the rows kept before. -/
def tile (t : Fin cfg0.N) (s : FVec Ideal S8x512 .f32) (F : FVec Ideal S688x512 .f32 → FVec Ideal S688x512 .f32 → FVec Ideal S688x512 .f32 → FVec Ideal S1x512 .f32 → α) : α :=
  F (k0_pay6 (iblk m c 0 t))
    (k0_pay7 (iblk m c 0 t) s (View.ld (iblk m c 1 t) (Rect.unit ![3, 0] ![1, 512] inb_S8x512_S1x512_3_0))
      (View.ld (iblk m c 1 t) (Rect.unit ![0, 0] ![1, 512] inb_S8x512_S1x512_0_0)))
    (k0_pay8 (iblk m c 0 t) s (View.ld (iblk m c 1 t) (Rect.unit ![1, 0] ![1, 512] inb_S8x512_S1x512_1_0)))
    (View.ld (iblk m c 1 t) (Rect.unit ![2, 0] ![1, 512] inb_S8x512_S1x512_2_0))

theorem tile_at (t : Fin cfg0.N) (r : Fin 688) (l : Fin 512) :
    tile m c t (kept m c t) (k0_pay1 (F := Ideal)) (ix2 r l) = conv (inU m c) (inW m c) (inB m c) (rowOf t r) (colOf t l) := by
  unfold tile conv
  rw [pay1, pay7, pay8, pay6, blk0, tap_past m c 2 (by omega), tap_past m c 1 (by omega)]
  have e3 := row_at m c 3 inb_S8x512_S1x512_3_0 t l
  have e0 := row_at m c 0 inb_S8x512_S1x512_0_0 t l
  have e1 := row_at m c 1 inb_S8x512_S1x512_1_0 t l
  have e2 := row_at m c 2 inb_S8x512_S1x512_2_0 t l
  refine (congrArg₂ (fun a b : EReal => a + b) (congrArg₂ (fun a b : EReal => a + b) (congrArg₂ (fun a b : EReal => a + b) e3
    (congrArg (fun a : EReal => past (inU m c) 2 (rowOf t r) (colOf t l) * a) e0))
    (congrArg (fun a : EReal => past (inU m c) 1 (rowOf t r) (colOf t l) * a) e1))
    (congrArg (fun a : EReal => inU m c (ix2 (rowOf t r) (colOf t l)) * a) e2)).trans ?_
  rw [taps_b]
  rw [show taps m c (ix2 0 (colOf t l)) = inW m c (ix2 0 (colOf t l)) from taps_w m c 0 _,
    show taps m c (ix2 1 (colOf t l)) = inW m c (ix2 1 (colOf t l)) from taps_w m c 1 _,
    show taps m c (ix2 2 (colOf t l)) = inW m c (ix2 2 (colOf t l)) from taps_w m c 2 _]
  rw [add_assoc, add_assoc, add_assoc]

/-- What a point leaves for the next: its last eight rows. -/
theorem left (t : Fin cfg0.N) : (outsAt0 m c t.val t.isLt).2.2 = k0_pay4 (k0_pay6 (iblk m c 0 t)) := by
  by_cases h : t.val % 12 = 0
  · rw [outsAt0_A m c t h]
    funext y
    frame_out
  · rw [outsAt0_B m c t h]
    funext y
    frame_out

theorem kept_B (t : Fin cfg0.N) (h : ¬ t.val % 12 = 0) (h' : t.val - 1 < cfg0.N) : (outsAt0 m c (t.val - 1) h').2.2 = kept m c t := by
  unfold kept
  rw [if_neg h]
  exact left m c ⟨t.val - 1, h'⟩

theorem out2 (t : Fin cfg0.N) : (outsAt0 m c t.val t.isLt).1 = tile m c t (kept m c t) (k0_pay2 (F := Ideal)) := by
  unfold tile
  by_cases h : t.val % 12 = 0
  · rw [outsAt0_A m c t h]
    funext y
    frame_out
    unfold kept
    rw [if_pos h]
    rfl
  · rw [outsAt0_B m c t h]
    funext y
    frame_out
    rw [Memref.IsWhole.read_unread (Memref.isWhole_whole cc0_scratch0), kept_B m c t h]
    rfl

theorem out3 (t : Fin cfg0.N) : (outsAt0 m c t.val t.isLt).2.1 = tile m c t (kept m c t) (k0_pay3 (F := Ideal)) := by
  unfold tile
  by_cases h : t.val % 12 = 0
  · rw [outsAt0_A m c t h]
    funext y
    frame_out
    unfold kept
    rw [if_pos h]
    rfl
  · rw [outsAt0_B m c t h]
    funext y
    frame_out
    rw [Memref.IsWhole.read_unread (Memref.isWhole_whole cc0_scratch0), kept_B m c t h]
    rfl

/-- The convolution is the reference's first result. -/
theorem final2 : (dats m 0 c).arrAt 2 cfg0.N = Cert.GateRIdeal.Read.val_main_v28 (F := Ideal) (inU m c) (inW m c) (inB m c) := by
  refine (dats m 0 c).arrAt_eq_of_covers 2 _ (by decide +kernel) fun t hf y => ?_
  blk_simp
  rw [after0_2, out2]
  have key : ∀ y : S688x512.Idx, tile m c t (kept m c t) (k0_pay2 (F := Ideal)) y
      = Cert.GateRIdeal.Read.val_main_v28 (F := Ideal) (inU m c) (inW m c) (inB m c) (((View.whole main_v3_0).slice (win0_2.rect t)).emb y) := by
    intro y
    obtain ⟨r, l, rfl⟩ : ∃ (r : Fin 688) (l : Fin 512), y = ix2 r l := ⟨y 0, y 1, eq_ix2 y⟩
    have e : ((View.whole main_v3_0).slice (win0_2.rect t)).emb (ix2 r l : S688x512.Idx) = (ix2 (rowOf t r) (colOf t l) : S8256x5632.Idx) := by
      blk_ext [rowOf, colOf, idx t]
    rw [e, ref28]
    exact (pay2 _ _ _ _ r l).trans (tile_at m c t r l)
  exact key y

/-- The gated activation is the second. -/
theorem final3 : (dats m 0 c).arrAt 3 cfg0.N = Cert.GateRIdeal.Read.val_main_v77 (F := Ideal) (inU m c) (inW m c) (inB m c) := by
  refine (dats m 0 c).arrAt_eq_of_covers 3 _ (by decide +kernel) fun t hf y => ?_
  blk_simp
  rw [after0_3, out3]
  have key : ∀ y : S688x256.Idx, tile m c t (kept m c t) (k0_pay3 (F := Ideal)) y
      = Cert.GateRIdeal.Read.val_main_v77 (F := Ideal) (inU m c) (inW m c) (inB m c) (((View.whole main_v3_1).slice (win0_3.rect t)).emb y) := by
    intro y
    obtain ⟨r, l, rfl⟩ : ∃ (r : Fin 688) (l : Fin 256), y = ix2 r l := ⟨y 0, y 1, eq_ix2 y⟩
    have ht : t.val < 132 := t.isLt
    have e : ((View.whole main_v3_1).slice (win0_3.rect t)).emb (ix2 r l : S688x256.Idx)
        = (ix2 (rowOf t r) (⟨t.val / 12 * 256 + l.val, by omega⟩ : Fin 2816) : S8256x2816.Idx) := by
      blk_ext [rowOf, idx t]
    rw [e, ref77]
    refine (pay3 _ _ _ _ r l).trans ?_
    refine (congrArg₂ (fun a b : EReal => gelu a * b) (tile_at m c t r ⟨l.val, by omega⟩) (tile_at m c t r ⟨256 + l.val, by omega⟩)).trans ?_
    have c0 : colOf t ⟨l.val, by omega⟩ = ⟨(t.val / 12 * 256 + l.val) / 256 * 512 + (t.val / 12 * 256 + l.val) % 256, by omega⟩ := by
      apply Fin.ext
      show t.val / 12 * 512 + l.val = (t.val / 12 * 256 + l.val) / 256 * 512 + (t.val / 12 * 256 + l.val) % 256
      omega
    have c1 : colOf t ⟨256 + l.val, by omega⟩ = ⟨(t.val / 12 * 256 + l.val) / 256 * 512 + (256 + (t.val / 12 * 256 + l.val) % 256), by omega⟩ := by
      apply Fin.ext
      show t.val / 12 * 512 + (256 + l.val) = (t.val / 12 * 256 + l.val) / 256 * 512 + (256 + (t.val / 12 * 256 + l.val) % 256)
      omega
    rw [c0, c1]
  exact key y

end Cert.GateFinal
end
-- ==== Proof.GateClaim.lean ====
module

public import Idealize.ShloMosaic.Lib.Quiescent
public import proofs.«01_k».proof.Defs
public import proofs.«01_k».proof.Proof.GateFinal
public import proofs.«01_k».proof.Proof.Gen.Gate
public import proofs.«01_k».proof.Proof.Gen.GateRIdeal.Run

/-! The reference's frame and the value claim of this call. -/

@[expose] public section

set_option maxRecDepth 16384

noncomputable section
open Idealize.ShloMosaic Idealize.ShloMosaic.TcCoe Idealize.SL.Sem
namespace Cert.GateClaim

/-- The reference runs and keeps its arguments; it declares no semaphore. -/
theorem frameRef : Cert.quiescent_GateRIdeal (hGateRIdeal := Cert.GateRIdeal.Gen.facts) := fun m ρ _ =>
  (θ_run Cert.GateRIdeal.defs _ _).mono (fun r h => ⟨fun c => (h c).2.2, sem_eq_zero_of_no_sems (by decide) r.2⟩)
    (Cert.GateRIdeal.Value.run (F := Ideal) m ρ)

/-- The two programs end with equal results. -/
theorem algebraic : Cert.algebraic_GateIdeal_GateRIdeal (hGateIdeal := Cert.GateIdeal.Gen.facts) (hGateRIdeal := Cert.GateRIdeal.Gen.facts) := by
  intro m g m' g' _ hag
  refine ⟨fun c => (Cert.GateIdeal.Gen.dats m 0 c).arrAt 2 Cert.GateIdeal.cfg0.N, fun c => (Cert.GateIdeal.Gen.dats m 0 c).arrAt 3 Cert.GateIdeal.cfg0.N, Cert.GateIdeal.Value.run_blocks (F := Ideal) m g, ?_⟩
  refine (θ_run Cert.GateRIdeal.defs _ _).mono (fun r h c => ?_) (Cert.GateRIdeal.Value.run (F := Ideal) m' g')
  obtain ⟨h0, h1, hk⟩ := h c
  obtain ⟨a0, a1, a2⟩ := hag c
  refine ⟨?_, ?_, hk⟩
  · exact (h0.trans (Cert.GateRIdeal.Read.val_main_v28_eq _ _ _)).trans (by rw [a0, a1, a2]; exact (Cert.GateFinal.final2 m c).symm)
  · exact (h1.trans (Cert.GateRIdeal.Read.val_main_v77_eq m' c)).trans (by rw [a0, a1, a2]; exact (Cert.GateFinal.final3 m c).symm)

/-- The named constant is the exact product. -/
theorem preserves : Cert.preserves_Gate_GateIdeal :=
  IdealRules.named_const.statement Cert.GateIdeal.κ "ck" .f32 0x3D122279#32 ((80338380498831 / 2251799813685248 : ℝ) : EReal) rfl

end Cert.GateClaim
end
-- ==== Proof.InProjRun.lean ====
module

public import proofs.«01_k».proof.Proof.Gen.InProjIdeal.Frame
public import proofs.«01_k».proof.Proof.Gen.InProjIdeal.Skeleton
public import Idealize.ShloMosaic.Lib.Pipeline.ValueKit
public import Idealize.ShloMosaic.Lib.Pipeline.TableIdle
public import Idealize.ShloMosaic.Lib.VecWindow
public import Idealize.ShloMosaic.Lib.WordCmp

/-! The norm and product call run point by point. A row tile's first point stores the normed rows in the first result and
    in the scratch; each point stores a block of columns of their product. At a tile's second point the first result's buffer is
    left as it was and written back. -/

@[expose] public section

set_option maxRecDepth 16384

noncomputable section

namespace Cert.InProjIdeal.Run

open Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point of a row tile. -/
theorem first_iff : ∀ t : Fin cfg0.N, k0_cond1 (grid0.coords t) = 1#1 ↔ t.val % 2 = 0 :=
  (by decide +kernel : ∀ t : Fin grid0.N, _)

section body
variable (c : Dev nD) (i : grid0.Coords) (a2 : Memref sig .tc .vmem S1376x1024 .f32) (h2 : a2.IsWhole)
  (a3 : Memref sig .tc .vmem S1x1024 .f32) (h3 : a3.IsWhole) (a4 : Memref sig .tc .vmem S1024x1920 .bf16) (h4 : a4.IsWhole)
  (a5 : Memref sig .tc .vmem S1376x1024 .bf16) (h5 : a5.IsWhole) (a6 : Memref sig .tc .vmem S1376x1920 .bf16) (h6 : a6.IsWhole)
  (a7 : Memref sig .tc .vmem S1376x1024 .bf16) (h7 : a7.IsWhole)
  (x : Vec F S1376x1024 .f32) (w : Vec F S1x1024 .f32) (b : Vec F S1024x1920 .bf16) (s : Vec F S1376x1024 .bf16)

/-- The body at a tile's first point. -/
theorem body_first (hc : k0_cond1 i = 1#1) (E : Set ℕ) (K : PUnit → sProp 𝕄) :
    iprop(owns (c : Thread nD τ) a2 fullShare x ∗ owns (c : Thread nD τ) a3 fullShare w ∗ owns (c : Thread nD τ) a4 fullShare b
        ∗ (∃ d, owns (c : Thread nD τ) a5 fullShare d) ∗ (∃ d, owns (c : Thread nD τ) a6 fullShare d) ∗ (∃ d, owns (c : Thread nD τ) a7 fullShare d)
        ∗ (iprop(owns (c : Thread nD τ) a2 fullShare x ∗ owns (c : Thread nD τ) a3 fullShare w ∗ owns (c : Thread nD τ) a4 fullShare b
            ∗ owns (c : Thread nD τ) a5 fullShare (k0_pay1 x w) ∗ owns (c : Thread nD τ) a6 fullShare (k0_pay3 (k0_pay2 x w) b)
            ∗ owns (c : Thread nD τ) a7 fullShare (k0_pay2 x w)) -∗ K ⟨⟩))
      ⊢ wp frame (wpE (defs₀ (F := F)) Variants.none c none) E (cc0_in_proj i a2 h2 a3 h3 a4 h4 a5 h5 a6 h6 a7 h7) K := by
  simp only [cc0_in_proj_eq_skeleton]; unfold cc0_in_proj_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  obtain rfl := h2.eq_unread hf0; obtain rfl := h3.eq_unread hf1; obtain rfl := h4.eq_unread hf2
  sl_exec (disch := sl_exact hc)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H3]
  · iexists _; isplitr
    swap; · iexact H3
    ipureintro; refine (View.read_writes_full _ _ _ _ _).trans ?_
    rw [View.readAt_full, View.readAt_full, h2.read_unread, h3.read_unread]
  isplitl [H4]
  · iexists _; isplitr
    swap; · iexact H4
    ipureintro; refine (View.read_writes_full _ _ _ _ _).trans ?_
    unfold body_first.sl.v3 body_first.sl.H5_1
    rw [View.readCov_full, View.readAt_full, View.readAt_full, View.readAt_full, h2.read_unread, h3.read_unread, h4.read_unread]
  iexists _; isplitr
  swap; · iexact H5
  ipureintro; unfold body_first.sl.H5_1; refine (View.read_writes_full _ _ _ _ _).trans ?_
  rw [View.readAt_full, View.readAt_full, h2.read_unread, h3.read_unread]

/-- The body at a tile's second point, over what the first left in the scratch. -/
theorem body_second (hc : ¬k0_cond1 i = 1#1) (o : Vec F S1376x1024 .bf16) (E : Set ℕ) (K : PUnit → sProp 𝕄) :
    iprop(owns (c : Thread nD τ) a2 fullShare x ∗ owns (c : Thread nD τ) a3 fullShare w ∗ owns (c : Thread nD τ) a4 fullShare b
        ∗ owns (c : Thread nD τ) a5 fullShare o ∗ (∃ d, owns (c : Thread nD τ) a6 fullShare d) ∗ owns (c : Thread nD τ) a7 fullShare s
        ∗ (iprop(owns (c : Thread nD τ) a2 fullShare x ∗ owns (c : Thread nD τ) a3 fullShare w ∗ owns (c : Thread nD τ) a4 fullShare b
            ∗ owns (c : Thread nD τ) a5 fullShare o ∗ owns (c : Thread nD τ) a6 fullShare (k0_pay3 s b)
            ∗ owns (c : Thread nD τ) a7 fullShare s) -∗ K ⟨⟩))
      ⊢ wp frame (wpE (defs₀ (F := F)) Variants.none c none) E (cc0_in_proj i a2 h2 a3 h3 a4 h4 a5 h5 a6 h6 a7 h7) K := by
  simp only [cc0_in_proj_eq_skeleton]; unfold cc0_in_proj_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  obtain rfl := h2.eq_unread hf0; obtain rfl := h3.eq_unread hf1; obtain rfl := h4.eq_unread hf2
  obtain rfl := h5.eq_unread hf3; obtain rfl := h7.eq_unread hf5
  sl_exec (disch := sl_exact hc)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H3]
  · iexists _; isplitr; · ipureintro; exact h5.read_unread _
    iexact H3
  isplitl [H4]
  · iexists _; isplitr
    swap; · iexact H4
    ipureintro; refine (View.read_writes_full _ _ _ _ _).trans ?_
    rw [View.readAt_full, View.readAt_full, h7.read_unread, h4.read_unread]
  iexists _; isplitr; · ipureintro; exact h7.read_unread _
  iexact H5
end body

/-! ## What the buffers hold after a point -/

variable (c : Dev nD) (t : Fin cfg0.N)

/-- The normed rows of the point's tile, -/
def act : Vec F S1376x1024 .bf16 := k0_pay1 (iblk m c 0 t) (iblk m c 1 t)

/-- the same in the scratch, -/
def kept : Vec F S1376x1024 .bf16 := k0_pay2 (iblk m c 0 t) (iblk m c 1 t)

/-- and the point's block of the product. -/
def prod : Vec F S1376x1920 .bf16 := k0_pay3 (kept m c t) (iblk m c 2 t)

theorem idx : ∀ t : Fin cfg0.N, win0_0.index t = ![t.val / 2, 0] ∧ win0_1.index t = ![0, 0] ∧ win0_2.index t = ![0, t.val % 2]
    ∧ win0_3.index t = ![t.val / 2, 0] ∧ win0_4.index t = ![t.val / 2, t.val % 2] :=
  (by decide +kernel : ∀ t : Fin grid0.N, _)

/-- The point before. -/
abbrev before : Fin cfg0.N := ⟨t.val - 1, Nat.lt_of_le_of_lt (Nat.sub_le _ _) t.isLt⟩

theorem same0 (h : t.val % 2 = 1) : (iblk m c 0 t : Vec F S1376x1024 .f32) = iblk m c 0 (before t) := by
  funext y
  have e : t.val / 2 = (t.val - 1) / 2 := by omega
  blk_ext [iblk, idx t, idx (before t)]

theorem same1 : (iblk m c 1 t : Vec F S1x1024 .f32) = iblk m c 1 (before t) := by
  funext y
  blk_ext [iblk, idx t, idx (before t)]

theorem act_before (h : t.val % 2 = 1) : act m c t = act m c (before t) := by
  unfold act
  rw [same0 m c t h, same1 m c t]

theorem kept_before (h : t.val % 2 = 1) : kept m c t = kept m c (before t) := by
  unfold kept
  rw [same0 m c t h, same1 m c t]

/-! ## The invariant and the proof data -/

/-- Before the first point the scratch holds anything, afterwards the normed rows of the point before. -/
def inv (c : Dev nD) : (n : ℕ) → n ≤ cfg0.N → sProp 𝕄
  | 0, _ => Pipeline.ΦA spec0 c
  | n + 1, hn => iprop(owns (c : Thread nD τ) (Memref.whole cc0_scratch0) fullShare (kept m c ⟨n, hn⟩) ∗ (∃ r, prngReg c r))

theorem inv_pos (n : ℕ) (h : n ≤ cfg0.N) (hz : n ≠ 0) :
    inv m c n h = iprop(owns (c : Thread nD τ) (Memref.whole cc0_scratch0) fullShare (kept m c ⟨n - 1, by omega⟩) ∗ (∃ r, prngReg c r)) := by
  cases n with
  | zero => exact absurd rfl hz
  | succ n => rfl

theorem start_eq : (Pipeline.ΦA spec0 c : sProp 𝕄)
    = iprop((∃ d, owns (c : Thread nD τ) (Memref.whole cc0_scratch0) fullShare d) ∗ (∃ r, prngReg c r)) := by
  unfold Pipeline.ΦA; rw [scopedRest0_eq]; simp only [owns_whole]; try rfl

/-- Before any point the scratch holds something. -/
theorem inv_any (n : ℕ) (h : n ≤ cfg0.N) : inv m c n h ⊢ (Pipeline.ΦA spec0 c : sProp 𝕄) := by
  cases n with
  | zero => exact Idealize.SL.BI.Entails.refl _
  | succ n =>
    rw [start_eq]
    unfold inv
    iintro ⟨H, Hg⟩
    isplitl [H]
    · iexists _; iexact H
    iexact Hg

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => act m c t
    | ⟨4, _⟩ => prod m c t
  Φ t := inv m c t.val (Nat.le_of_lt_succ t.isLt)
  q _ := fullShare
  owed _ := 0

theorem A_eq (w : Fin cfg0.W) : (dats m 0 c).A w = V m c (Pipeline.arrRef spec0 w) := by
  dsimp only [dats]

theorem inv_castSucc : (dats m 0 c).Φ t.castSucc = inv m c t.val (Nat.le_of_lt t.isLt) := by
  dsimp only [dats]; exact Pipeline.Dat.Φ_castSucc (inv m c) t

theorem after0 : (dats m 0 c).after 0 t = iblk m c 0 t := by dsimp only [dats]
theorem after1 : (dats m 0 c).after 1 t = iblk m c 1 t := by dsimp only [dats]
theorem after2 : (dats m 0 c).after 2 t = iblk m c 2 t := by dsimp only [dats]
theorem after3 : (dats m 0 c).after 3 t = act m c t := by dsimp only [dats]
theorem after4 : (dats m 0 c).after 4 t = prod m c t := by dsimp only [dats]

theorem before0 (d) : (dats m 0 c).before 0 t d = iblk m c 0 t := before0_0_of m (dats m 0 c) (A_eq m c 0) (after0 m c) t d
theorem before1 (d) : (dats m 0 c).before 1 t d = iblk m c 1 t := before0_1_of m (dats m 0 c) (A_eq m c 1) (after1 m c) t d
theorem before2 (d) : (dats m 0 c).before 2 t d = iblk m c 2 t := before0_2_of m (dats m 0 c) (A_eq m c 2) (after2 m c) t d

/-- The first result's buffer is stored at a tile's first point only. -/
theorem idle3 : ∀ t : Fin cfg0.N, cfg0.idle 3 (grid0.coords t) = decide (t.val % 2 = 1) :=
  (by decide +kernel : ∀ t : Fin grid0.N, _)

/-- Where a buffer of the first result is still as it came: before a tile's first point. -/
def freshAt : ℕ → Bool := fun n => decide (n % 2 = 0)

theorem fresh3 : cfg0.fresh 3 t.val = freshAt t.val :=
  Pipeline.Cfg.fresh_tab cfg0 3 freshAt rfl
    (by decide +kernel : ∀ t : Fin cfg0.N, freshAt (t.val + 1) = ((cfg0.win 3).flush t || (cfg0.idle 3 (cfg0.grid.coords t) && freshAt t.val)))
    t.val (Nat.le_of_lt t.isLt)

theorem carry3 : ∀ (t : Fin cfg0.N) (_ : t.val ≠ 0), cfg0.idle 3 (grid0.coords t) = true → cfg0.fresh 3 t.val = false →
    (dats m 0 c).after 3 t = (dats m 0 c).after 3 ⟨t.val - 1, by omega⟩ := by
  intro t _ hi _
  rw [idle3] at hi
  rw [after3, after3]
  exact act_before m c t (of_decide_eq_true hi)

/-- At a tile's second point it holds the normed rows already. -/
theorem before3 (h : t.val % 2 = 1) (d) : (dats m 0 c).before 3 t d = act m c t := by
  have hf : cfg0.fresh 3 t.val = false := by
    rw [fresh3]
    unfold freshAt
    exact decide_eq_false (by omega)
  rw [Dat.before_out_traj _ 3 rfl (fun _ _ => rfl) (carry3 m c) t.val t rfl d, if_neg (by rw [hf]; exact Bool.false_ne_true)]
  exact (act_before m c t h).symm

/-! ## The body at a point -/

def bodyPre : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

theorem leaves3 : (dats m 0 c).leavesExact 3 t = owns (c : Thread nD τ) (st0_3 t) fullShare (act m c t) := by
  unfold Dat.leavesExact
  rw [after3]
  by_cases h : t.val % 2 = 1
  · rw [idle3 t, decide_eq_true h, (flush0_3 t).mpr h]
  · rw [idle3 t, decide_eq_false h]

/-- What a point leaves, the buffers' contents written out. -/
theorem bodyPost_eq : bodyPost m c t
    = iprop((owns (c : Thread nD τ) (Memref.whole cc0_scratch0) fullShare (kept m c t) ∗ (∃ r, prngReg c r)) ∗ (dats m 0 c).owesAt () t.castSucc
      ∗ owns (c : Thread nD τ) (st0_0 t) fullShare (iblk m c 0 t) ∗ owns (c : Thread nD τ) (st0_1 t) fullShare (iblk m c 1 t)
      ∗ owns (c : Thread nD τ) (st0_2 t) fullShare (iblk m c 2 t) ∗ owns (c : Thread nD τ) (st0_3 t) fullShare (act m c t)
      ∗ owns (c : Thread nD τ) (st0_4 t) fullShare (prod m c t)) := by
  unfold bodyPost
  rw [leaves3]
  rfl

set_option maxHeartbeats 1600000 in
theorem sound_body :
    bodyPre m c t ⊢ wp frame (wpE (defs₀ (F := F)) Variants.none c none) Set.univ (bodyAt0 t) (fun _ => bodyPost m c t) := by
  rw [bodyPost_eq]
  unfold bodyPre bodyAt0
  simp only [before0, before1, before2]
  rw [inv_castSucc]
  by_cases h : t.val % 2 = 1
  · rw [inv_pos m c _ _ (by omega : t.val ≠ 0)]
    rw [show kept m c ⟨t.val - 1, by omega⟩ = kept m c t from (kept_before m c t h).symm]
    simp only [before3 m c t h]
    iintro ⟨⟨HS, Hg⟩, Ho, ⟨%d0, H0⟩, ⟨%d1, H1⟩, ⟨%d2, H2⟩, ⟨%d3, H3⟩, ⟨%d4, H4⟩⟩
    iapply (body_second c (grid0.coords t) _ _ _ _ _ _ _ _ _ _ _ _ (iblk m c 0 t) (iblk m c 1 t) (iblk m c 2 t) (kept m c t)
      (fun e => by have := (first_iff t).mp e; omega) (act m c t) Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    iexact H4
  · refine (sep_mono (inv_any m c _ _) .rfl).trans ?_
    rw [start_eq]
    iintro ⟨⟨⟨%ds, HS⟩, Hg⟩, Ho, ⟨%d0, H0⟩, ⟨%d1, H1⟩, ⟨%d2, H2⟩, ⟨%d3, H3⟩, ⟨%d4, H4⟩⟩
    iapply (body_first c (grid0.coords t) _ _ _ _ _ _ _ _ _ _ _ _ (iblk m c 0 t) (iblk m c 1 t) (iblk m c 2 t)
      ((first_iff t).mpr (by omega)) Set.univ _)
    isplitl [H0]; · iexact H0
    isplitl [H1]; · iexact H1
    isplitl [H2]; · iexact H2
    isplitl [H3]; · iexists _; iexact H3
    isplitl [H4]; · iexists _; iexact H4
    isplitl [HS]; · iexists _; iexact HS
    iintro ⟨H0, H1, H2, H3, H4, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    iexact H4

theorem row_eq : defs₀ (F := F) .tc cfg0.body (cfg0.bodyArgs t (cfg0.slots t)) = bodyAt0 t := by
  unfold defs₀; rw [Defs.onTc_tc]

theorem obligation : BodyObligation (dats (F := F) m 0 c) (defs₀ (F := F)) Variants.none () Set.univ := fun t => by
  rw [bigSep_W0, bigSep_W0, row_eq]
  exact triple_restated (sound_body m c t) rfl .rfl fun _ => .rfl

theorem hin : Pipeline.ΦA spec0 c ⊢ (dats m 0 c).Φ 0 := by
  rw [show (dats m 0 c).Φ 0 = inv m c 0 (Nat.zero_le _) from rfl]
  exact Idealize.SL.BI.Entails.refl _

theorem hout : (dats m 0 c).Φ (Fin.last cfg0.N) ⊢ Pipeline.ΦA spec0 c := inv_any m c cfg0.N (Nat.le_refl _)

/-! ## The run -/

set_option backward.isDefEq.respectTransparency.types false in
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiescent m ρ)

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_quiescent m ρ))

/-- The run leaves the two result arrays as the points wrote them back. -/
theorem run_blocks : θ_run defs (onTc (τ := τ) (main (F := F))) ⟨m, fun _ => 0, ρ⟩ fun r => ∀ c : Dev nD,
      r.2.mem ((c : Thread nD τ).loc main_v0_0) = (dats m 0 c).arrAt 3 cfg0.N
      ∧ r.2.mem ((c : Thread nD τ).loc main_v0_1) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h.1 c).1 3, (h.1 c).1 4, h.2 c⟩)
    (θ_run_and (run_main m ρ) (frame_of m ρ (dats m) (A_eq m) (run_main m ρ)))

end Cert.InProjIdeal.Run
-- ==== Proof.InProjFinal.lean ====
module

public import Idealize.ShloMosaic.Lib.Pipeline.ValueKit
public import proofs.«01_k».proof.Proof.Norm
public import proofs.«01_k».proof.Proof.InProjRun
public import proofs.«01_k».proof.Proof.Gen.InProjRIdeal.Read

/-! The two arrays the norm and product call leaves are the reference's two results. -/

@[expose] public section

set_option maxRecDepth 16384

noncomputable section
open Idealize.ShloMosaic Idealize.ShloMosaic.TcCoe Idealize.SL.Sem Cert.Norm
open Idealize.ShloMosaic.Pipeline (Dat)
namespace Cert.InProjFinal

section R
open Cert.InProjRIdeal Cert.InProjRIdeal.Read

theorem ref12 (x0 : FVec Ideal S8256x1024 .f32) (x1 : FVec Ideal S1x1024 .f32) (r : Fin 8256) (l : Fin 1024) :
    val_main_v12 (F := Ideal) x0 x1 (ix2 r l) = x0 (ix2 r l) * rstd (fun k => x0 (ix2 r k)) * x1 (ix2 0 l) := by
  pointwise [val_main_v12, val_main_v11, val_main_v10, val_main_v9, val_main_v8, val_main_v7, val_main_v6, val_main_v5, val_main_v4,
    val_main_v3, val_main_v2, val_main_v1, val_main_v0, val_main_cst, val_main_cst_0, val_main_cst_1]
  rfl

theorem ref16 (x0 : FVec Ideal S8256x1024 .f32) (x1 : FVec Ideal S1x1024 .f32) (x2 : FVec Ideal S1024x3840 .bf16) (r : Fin 8256) (l : Fin 3840) :
    val_main_v16 (F := Ideal) x0 x1 x2 (ix2 r l) = ∑ k : Fin 1024, val_main_v12 (F := Ideal) x0 x1 (ix2 r k) * x2 (ix2 k l) := by
  pointwise [val_main_v16, val_main_v15, val_main_v14, val_main_v13]
end R

open Cert.InProjIdeal Cert.InProjIdeal.Gen Cert.InProjIdeal.Run

theorem pay1 (x : FVec Ideal S1376x1024 .f32) (w : FVec Ideal S1x1024 .f32) (r : Fin 1376) (l : Fin 1024) :
    k0_pay1 (F := Ideal) x w (ix2 r l) = x (ix2 r l) * rstd (fun k => x (ix2 r k)) * w (ix2 0 l) := by
  pointwise [k0_pay1]
  rfl

theorem pay2 (x : FVec Ideal S1376x1024 .f32) (w : FVec Ideal S1x1024 .f32) (r : Fin 1376) (l : Fin 1024) :
    k0_pay2 (F := Ideal) x w (ix2 r l) = k0_pay1 (F := Ideal) x w (ix2 r l) := by
  pointwise [k0_pay2]

theorem pay3 (s : FVec Ideal S1376x1024 .bf16) (b : FVec Ideal S1024x1920 .bf16) (r : Fin 1376) (l : Fin 1920) :
    k0_pay3 (F := Ideal) s b (ix2 r l) = ∑ k : Fin 1024, s (ix2 r k) * b (ix2 k l) := by
  pointwise [k0_pay3]

variable (m : (ℓ : Loc nD τ sig) → Buf (Elt Ideal) ℓ) (c : Dev nD)

/-- Row `r` of the point's block is row `1376 (t / 2) + r` of the array. -/
def rowOf (t : Fin cfg0.N) (r : Fin 1376) : Fin 8256 := ⟨t.val / 2 * 1376 + r.val, by have : t.val < 12 := t.isLt; omega⟩
/-- Column `k` of the point's block is column `1920 (t mod 2) + k` of the array. -/
def colOf (t : Fin cfg0.N) (k : Fin 1920) : Fin 3840 := ⟨t.val % 2 * 1920 + k.val, by omega⟩

theorem blk0 (t : Fin cfg0.N) (r : Fin 1376) (k : Fin 1024) :
    (iblk m c 0 t : FVec Ideal S1376x1024 .f32) (ix2 r k) = (m ((c : Thread nD τ).loc main_arg0) : FVec Ideal S8256x1024 .f32) (ix2 (rowOf t r) k) := by
  blk_ext [iblk, V, rowOf, idx t]

theorem blk1 (t : Fin cfg0.N) (k : Fin 1024) :
    (iblk m c 1 t : FVec Ideal S1x1024 .f32) (ix2 0 k) = (m ((c : Thread nD τ).loc main_arg1) : FVec Ideal S1x1024 .f32) (ix2 0 k) := by
  blk_ext [iblk, V, idx t]

theorem blk2 (t : Fin cfg0.N) (r : Fin 1024) (k : Fin 1920) :
    (iblk m c 2 t : FVec Ideal S1024x1920 .bf16) (ix2 r k) = (m ((c : Thread nD τ).loc main_arg2) : FVec Ideal S1024x3840 .bf16) (ix2 r (colOf t k)) := by
  blk_ext [iblk, V, colOf, idx t]

/-- The normed rows' element. -/
theorem act_at (t : Fin cfg0.N) (r : Fin 1376) (l : Fin 1024) : k0_pay1 (F := Ideal) (iblk m c 0 t) (iblk m c 1 t) (ix2 r l)
    = Cert.InProjRIdeal.Read.val_main_v12 (F := Ideal) (m ((c : Thread nD τ).loc main_arg0)) (m ((c : Thread nD τ).loc main_arg1)) (ix2 (rowOf t r) l) := by
  refine (pay1 _ _ r l).trans ?_
  simp only [blk0, blk1]
  exact (ref12 _ _ _ _).symm

/-- The product's element. -/
theorem prod_at (t : Fin cfg0.N) (r : Fin 1376) (l : Fin 1920) : prod m c t (ix2 r l)
    = Cert.InProjRIdeal.Read.val_main_v16 (F := Ideal) (m ((c : Thread nD τ).loc main_arg0)) (m ((c : Thread nD τ).loc main_arg1))
        (m ((c : Thread nD τ).loc main_arg2)) (ix2 (rowOf t r) (colOf t l)) := by
  refine (pay3 _ _ r l).trans (Eq.trans ?_ (ref16 _ _ _ _ _).symm)
  refine Finset.sum_congr rfl fun k _ => ?_
  exact congrArg₂ (fun a b : EReal => a * b) ((pay2 _ _ r k).trans (act_at m c t r k)) (blk2 m c t k l)

theorem final3 : (dats m 0 c).arrAt 3 cfg0.N
    = Cert.InProjRIdeal.Read.val_main_v12 (F := Ideal) (m ((c : Thread nD τ).loc main_arg0)) (m ((c : Thread nD τ).loc main_arg1)) := by
  refine (dats m 0 c).arrAt_eq_of_covers 3 _ (by decide +kernel) fun t hf y => ?_
  blk_simp
  rw [after3]
  have key : ∀ y : S1376x1024.Idx, act m c t y
      = Cert.InProjRIdeal.Read.val_main_v12 (F := Ideal) (m ((c : Thread nD τ).loc main_arg0)) (m ((c : Thread nD τ).loc main_arg1))
        (((View.whole main_v0_0).slice (win0_3.rect t)).emb y) := by
    intro y
    obtain ⟨r, l, rfl⟩ : ∃ (r : Fin 1376) (l : Fin 1024), y = ix2 r l := ⟨y 0, y 1, eq_ix2 y⟩
    have e : ((View.whole main_v0_0).slice (win0_3.rect t)).emb (ix2 r l : S1376x1024.Idx) = (ix2 (rowOf t r) l : S8256x1024.Idx) := by
      blk_ext [rowOf, idx t]
    rw [e]
    exact act_at m c t r l
  exact key y

theorem final4 : (dats m 0 c).arrAt 4 cfg0.N
    = Cert.InProjRIdeal.Read.val_main_v16 (F := Ideal) (m ((c : Thread nD τ).loc main_arg0)) (m ((c : Thread nD τ).loc main_arg1))
        (m ((c : Thread nD τ).loc main_arg2)) := by
  refine (dats m 0 c).arrAt_eq_of_covers 4 _ (by decide +kernel) fun t hf y => ?_
  blk_simp
  rw [after4]
  have key : ∀ y : S1376x1920.Idx, prod m c t y
      = Cert.InProjRIdeal.Read.val_main_v16 (F := Ideal) (m ((c : Thread nD τ).loc main_arg0)) (m ((c : Thread nD τ).loc main_arg1))
        (m ((c : Thread nD τ).loc main_arg2)) (((View.whole main_v0_1).slice (win0_4.rect t)).emb y) := by
    intro y
    obtain ⟨r, l, rfl⟩ : ∃ (r : Fin 1376) (l : Fin 1920), y = ix2 r l := ⟨y 0, y 1, eq_ix2 y⟩
    have e : ((View.whole main_v0_1).slice (win0_4.rect t)).emb (ix2 r l : S1376x1920.Idx) = (ix2 (rowOf t r) (colOf t l) : S8256x3840.Idx) := by
      blk_ext [rowOf, colOf, idx t]
    rw [e]
    exact prod_at m c t r l
  exact key y

end Cert.InProjFinal
end
-- ==== Proof.InProjClaim.lean ====
module

public import Idealize.ShloMosaic.Lib.Quiescent
public import proofs.«01_k».proof.Defs
public import proofs.«01_k».proof.Proof.InProjFinal
public import proofs.«01_k».proof.Proof.Gen.InProj
public import proofs.«01_k».proof.Proof.Gen.InProjRIdeal.Run

/-! The reference's frame and the value claim of this call. -/

@[expose] public section

set_option maxRecDepth 16384

noncomputable section
open Idealize.ShloMosaic Idealize.ShloMosaic.TcCoe Idealize.SL.Sem
namespace Cert.InProjClaim

/-- The program's text is its idealized form's: the same body for the call, -/
theorem calls_eq : Cert.InProj.defs₀ (F := Bits) = Cert.InProjIdeal.defs₀ (F := Bits) := by
  refine congrArg Defs.onTc (funext fun l => funext fun a => ?_)
  match l, a with
  | ⟨0, _⟩, (t, s) => rfl

/-- and the same table of bodies. -/
theorem defs_eq : Cert.InProj.defs (F := Bits) = Cert.InProjIdeal.defs (F := Bits) := congrArg (Pipeline.defs Cert.InProjIdeal.pcfgs) calls_eq

/-- The program runs, keeps its arguments and leaves every counter at zero. -/
theorem frame : Cert.quiescent_InProj (hInProj := Cert.InProj.Gen.facts) := fun m ρ _ => by
  rw [defs_eq]
  exact Cert.InProjIdeal.Run.frame (F := Bits) m ρ

/-- So does the same text over the extended reals. -/
theorem frameIdeal : Cert.quiescent_InProjIdeal (hInProjIdeal := Cert.InProjIdeal.Gen.facts) := fun m ρ _ => Cert.InProjIdeal.Run.frame m ρ

/-- The reference runs and keeps its arguments; it declares no semaphore. -/
theorem frameRef : Cert.quiescent_InProjRIdeal (hInProjRIdeal := Cert.InProjRIdeal.Gen.facts) := fun m ρ _ =>
  (θ_run Cert.InProjRIdeal.defs _ _).mono (fun r h => ⟨fun c => (h c).2.2, sem_eq_zero_of_no_sems (by decide) r.2⟩)
    (Cert.InProjRIdeal.Value.run (F := Ideal) m ρ)

/-- The two programs end with equal results. -/
theorem algebraic : Cert.algebraic_InProjIdeal_InProjRIdeal (hInProjIdeal := Cert.InProjIdeal.Gen.facts) (hInProjRIdeal := Cert.InProjRIdeal.Gen.facts) := by
  intro m g m' g' _ hag
  refine ⟨fun c => (Cert.InProjIdeal.Run.dats m 0 c).arrAt 3 Cert.InProjIdeal.cfg0.N, fun c => (Cert.InProjIdeal.Run.dats m 0 c).arrAt 4 Cert.InProjIdeal.cfg0.N, Cert.InProjIdeal.Run.run_blocks (F := Ideal) m g, ?_⟩
  refine (θ_run Cert.InProjRIdeal.defs _ _).mono (fun r h c => ?_) (Cert.InProjRIdeal.Value.run (F := Ideal) m' g')
  obtain ⟨h0, h1, hk⟩ := h c
  obtain ⟨a0, a1, a2⟩ := hag c
  refine ⟨?_, ?_, hk⟩
  · exact (h0.trans (Cert.InProjRIdeal.Read.val_main_v12_eq _ _)).trans (by rw [a0, a1]; exact (Cert.InProjFinal.final3 m c).symm)
  · exact (h1.trans (Cert.InProjRIdeal.Read.val_main_v16_eq _ _ _)).trans (by rw [a0, a1, a2]; exact (Cert.InProjFinal.final4 m c).symm)

end Cert.InProjClaim
end
-- ==== Proof.UpProjRun.lean ====
module

public import proofs.«01_k».proof.Proof.Gen.UpProjIdeal.Frame
public import proofs.«01_k».proof.Proof.Gen.UpProjIdeal.Skeleton
public import Idealize.ShloMosaic.Lib.Pipeline.ValueKit
public import Idealize.ShloMosaic.Lib.Pipeline.TableIdle
public import Idealize.ShloMosaic.Lib.VecWindow
public import Idealize.ShloMosaic.Lib.WordCmp

/-! The norm and product call run point by point. A row tile's first point stores the normed rows in the first result and
    in the scratch; each point stores a block of columns of their product. At a tile's second point the first result's buffer is
    left as it was and written back. -/

@[expose] public section

set_option maxRecDepth 16384

noncomputable section

namespace Cert.UpProjIdeal.Run

open Cert.UpProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point of a row tile. -/
theorem first_iff : ∀ t : Fin cfg0.N, k0_cond1 (grid0.coords t) = 1#1 ↔ t.val % 2 = 0 :=
  (by decide +kernel : ∀ t : Fin grid0.N, _)

section body
variable (c : Dev nD) (i : grid0.Coords) (a2 : Memref sig .tc .vmem S1376x1024 .f32) (h2 : a2.IsWhole)
  (a3 : Memref sig .tc .vmem S1x1024 .f32) (h3 : a3.IsWhole) (a4 : Memref sig .tc .vmem S1024x2816 .bf16) (h4 : a4.IsWhole)
  (a5 : Memref sig .tc .vmem S1376x1024 .bf16) (h5 : a5.IsWhole) (a6 : Memref sig .tc .vmem S1376x2816 .bf16) (h6 : a6.IsWhole)
  (a7 : Memref sig .tc .vmem S1376x1024 .bf16) (h7 : a7.IsWhole)
  (x : Vec F S1376x1024 .f32) (w : Vec F S1x1024 .f32) (b : Vec F S1024x2816 .bf16) (s : Vec F S1376x1024 .bf16)

/-- The body at a tile's first point. -/
theorem body_first (hc : k0_cond1 i = 1#1) (E : Set ℕ) (K : PUnit → sProp 𝕄) :
    iprop(owns (c : Thread nD τ) a2 fullShare x ∗ owns (c : Thread nD τ) a3 fullShare w ∗ owns (c : Thread nD τ) a4 fullShare b
        ∗ (∃ d, owns (c : Thread nD τ) a5 fullShare d) ∗ (∃ d, owns (c : Thread nD τ) a6 fullShare d) ∗ (∃ d, owns (c : Thread nD τ) a7 fullShare d)
        ∗ (iprop(owns (c : Thread nD τ) a2 fullShare x ∗ owns (c : Thread nD τ) a3 fullShare w ∗ owns (c : Thread nD τ) a4 fullShare b
            ∗ owns (c : Thread nD τ) a5 fullShare (k0_pay1 x w) ∗ owns (c : Thread nD τ) a6 fullShare (k0_pay3 (k0_pay2 x w) b)
            ∗ owns (c : Thread nD τ) a7 fullShare (k0_pay2 x w)) -∗ K ⟨⟩))
      ⊢ wp frame (wpE (defs₀ (F := F)) Variants.none c none) E (cc0_ffn_up i a2 h2 a3 h3 a4 h4 a5 h5 a6 h6 a7 h7) K := by
  simp only [cc0_ffn_up_eq_skeleton]; unfold cc0_ffn_up_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  obtain rfl := h2.eq_unread hf0; obtain rfl := h3.eq_unread hf1; obtain rfl := h4.eq_unread hf2
  sl_exec (disch := sl_exact hc)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H3]
  · iexists _; isplitr
    swap; · iexact H3
    ipureintro; refine (View.read_writes_full _ _ _ _ _).trans ?_
    rw [View.readAt_full, View.readAt_full, h2.read_unread, h3.read_unread]
  isplitl [H4]
  · iexists _; isplitr
    swap; · iexact H4
    ipureintro; refine (View.read_writes_full _ _ _ _ _).trans ?_
    unfold body_first.sl.v3 body_first.sl.H5_1
    rw [View.readCov_full, View.readAt_full, View.readAt_full, View.readAt_full, h2.read_unread, h3.read_unread, h4.read_unread]
  iexists _; isplitr
  swap; · iexact H5
  ipureintro; unfold body_first.sl.H5_1; refine (View.read_writes_full _ _ _ _ _).trans ?_
  rw [View.readAt_full, View.readAt_full, h2.read_unread, h3.read_unread]

/-- The body at a tile's second point, over what the first left in the scratch. -/
theorem body_second (hc : ¬k0_cond1 i = 1#1) (o : Vec F S1376x1024 .bf16) (E : Set ℕ) (K : PUnit → sProp 𝕄) :
    iprop(owns (c : Thread nD τ) a2 fullShare x ∗ owns (c : Thread nD τ) a3 fullShare w ∗ owns (c : Thread nD τ) a4 fullShare b
        ∗ owns (c : Thread nD τ) a5 fullShare o ∗ (∃ d, owns (c : Thread nD τ) a6 fullShare d) ∗ owns (c : Thread nD τ) a7 fullShare s
        ∗ (iprop(owns (c : Thread nD τ) a2 fullShare x ∗ owns (c : Thread nD τ) a3 fullShare w ∗ owns (c : Thread nD τ) a4 fullShare b
            ∗ owns (c : Thread nD τ) a5 fullShare o ∗ owns (c : Thread nD τ) a6 fullShare (k0_pay3 s b)
            ∗ owns (c : Thread nD τ) a7 fullShare s) -∗ K ⟨⟩))
      ⊢ wp frame (wpE (defs₀ (F := F)) Variants.none c none) E (cc0_ffn_up i a2 h2 a3 h3 a4 h4 a5 h5 a6 h6 a7 h7) K := by
  simp only [cc0_ffn_up_eq_skeleton]; unfold cc0_ffn_up_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  obtain rfl := h2.eq_unread hf0; obtain rfl := h3.eq_unread hf1; obtain rfl := h4.eq_unread hf2
  obtain rfl := h5.eq_unread hf3; obtain rfl := h7.eq_unread hf5
  sl_exec (disch := sl_exact hc)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H3]
  · iexists _; isplitr; · ipureintro; exact h5.read_unread _
    iexact H3
  isplitl [H4]
  · iexists _; isplitr
    swap; · iexact H4
    ipureintro; refine (View.read_writes_full _ _ _ _ _).trans ?_
    rw [View.readAt_full, View.readAt_full, h7.read_unread, h4.read_unread]
  iexists _; isplitr; · ipureintro; exact h7.read_unread _
  iexact H5
end body

/-! ## What the buffers hold after a point -/

variable (c : Dev nD) (t : Fin cfg0.N)

/-- The normed rows of the point's tile, -/
def act : Vec F S1376x1024 .bf16 := k0_pay1 (iblk m c 0 t) (iblk m c 1 t)

/-- the same in the scratch, -/
def kept : Vec F S1376x1024 .bf16 := k0_pay2 (iblk m c 0 t) (iblk m c 1 t)

/-- and the point's block of the product. -/
def prod : Vec F S1376x2816 .bf16 := k0_pay3 (kept m c t) (iblk m c 2 t)

theorem idx : ∀ t : Fin cfg0.N, win0_0.index t = ![t.val / 2, 0] ∧ win0_1.index t = ![0, 0] ∧ win0_2.index t = ![0, t.val % 2]
    ∧ win0_3.index t = ![t.val / 2, 0] ∧ win0_4.index t = ![t.val / 2, t.val % 2] :=
  (by decide +kernel : ∀ t : Fin grid0.N, _)

/-- The point before. -/
abbrev before : Fin cfg0.N := ⟨t.val - 1, Nat.lt_of_le_of_lt (Nat.sub_le _ _) t.isLt⟩

theorem same0 (h : t.val % 2 = 1) : (iblk m c 0 t : Vec F S1376x1024 .f32) = iblk m c 0 (before t) := by
  funext y
  have e : t.val / 2 = (t.val - 1) / 2 := by omega
  blk_ext [iblk, idx t, idx (before t)]

theorem same1 : (iblk m c 1 t : Vec F S1x1024 .f32) = iblk m c 1 (before t) := by
  funext y
  blk_ext [iblk, idx t, idx (before t)]

theorem act_before (h : t.val % 2 = 1) : act m c t = act m c (before t) := by
  unfold act
  rw [same0 m c t h, same1 m c t]

theorem kept_before (h : t.val % 2 = 1) : kept m c t = kept m c (before t) := by
  unfold kept
  rw [same0 m c t h, same1 m c t]

/-! ## The invariant and the proof data -/

/-- Before the first point the scratch holds anything, afterwards the normed rows of the point before. -/
def inv (c : Dev nD) : (n : ℕ) → n ≤ cfg0.N → sProp 𝕄
  | 0, _ => Pipeline.ΦA spec0 c
  | n + 1, hn => iprop(owns (c : Thread nD τ) (Memref.whole cc0_scratch0) fullShare (kept m c ⟨n, hn⟩) ∗ (∃ r, prngReg c r))

theorem inv_pos (n : ℕ) (h : n ≤ cfg0.N) (hz : n ≠ 0) :
    inv m c n h = iprop(owns (c : Thread nD τ) (Memref.whole cc0_scratch0) fullShare (kept m c ⟨n - 1, by omega⟩) ∗ (∃ r, prngReg c r)) := by
  cases n with
  | zero => exact absurd rfl hz
  | succ n => rfl

theorem start_eq : (Pipeline.ΦA spec0 c : sProp 𝕄)
    = iprop((∃ d, owns (c : Thread nD τ) (Memref.whole cc0_scratch0) fullShare d) ∗ (∃ r, prngReg c r)) := by
  unfold Pipeline.ΦA; rw [scopedRest0_eq]; simp only [owns_whole]; try rfl

/-- Before any point the scratch holds something. -/
theorem inv_any (n : ℕ) (h : n ≤ cfg0.N) : inv m c n h ⊢ (Pipeline.ΦA spec0 c : sProp 𝕄) := by
  cases n with
  | zero => exact Idealize.SL.BI.Entails.refl _
  | succ n =>
    rw [start_eq]
    unfold inv
    iintro ⟨H, Hg⟩
    isplitl [H]
    · iexists _; iexact H
    iexact Hg

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => act m c t
    | ⟨4, _⟩ => prod m c t
  Φ t := inv m c t.val (Nat.le_of_lt_succ t.isLt)
  q _ := fullShare
  owed _ := 0

theorem A_eq (w : Fin cfg0.W) : (dats m 0 c).A w = V m c (Pipeline.arrRef spec0 w) := by
  dsimp only [dats]

theorem inv_castSucc : (dats m 0 c).Φ t.castSucc = inv m c t.val (Nat.le_of_lt t.isLt) := by
  dsimp only [dats]; exact Pipeline.Dat.Φ_castSucc (inv m c) t

theorem after0 : (dats m 0 c).after 0 t = iblk m c 0 t := by dsimp only [dats]
theorem after1 : (dats m 0 c).after 1 t = iblk m c 1 t := by dsimp only [dats]
theorem after2 : (dats m 0 c).after 2 t = iblk m c 2 t := by dsimp only [dats]
theorem after3 : (dats m 0 c).after 3 t = act m c t := by dsimp only [dats]
theorem after4 : (dats m 0 c).after 4 t = prod m c t := by dsimp only [dats]

theorem before0 (d) : (dats m 0 c).before 0 t d = iblk m c 0 t := before0_0_of m (dats m 0 c) (A_eq m c 0) (after0 m c) t d
theorem before1 (d) : (dats m 0 c).before 1 t d = iblk m c 1 t := before0_1_of m (dats m 0 c) (A_eq m c 1) (after1 m c) t d
theorem before2 (d) : (dats m 0 c).before 2 t d = iblk m c 2 t := before0_2_of m (dats m 0 c) (A_eq m c 2) (after2 m c) t d

/-- The first result's buffer is stored at a tile's first point only. -/
theorem idle3 : ∀ t : Fin cfg0.N, cfg0.idle 3 (grid0.coords t) = decide (t.val % 2 = 1) :=
  (by decide +kernel : ∀ t : Fin grid0.N, _)

/-- Where a buffer of the first result is still as it came: before a tile's first point. -/
def freshAt : ℕ → Bool := fun n => decide (n % 2 = 0)

theorem fresh3 : cfg0.fresh 3 t.val = freshAt t.val :=
  Pipeline.Cfg.fresh_tab cfg0 3 freshAt rfl
    (by decide +kernel : ∀ t : Fin cfg0.N, freshAt (t.val + 1) = ((cfg0.win 3).flush t || (cfg0.idle 3 (cfg0.grid.coords t) && freshAt t.val)))
    t.val (Nat.le_of_lt t.isLt)

theorem carry3 : ∀ (t : Fin cfg0.N) (_ : t.val ≠ 0), cfg0.idle 3 (grid0.coords t) = true → cfg0.fresh 3 t.val = false →
    (dats m 0 c).after 3 t = (dats m 0 c).after 3 ⟨t.val - 1, by omega⟩ := by
  intro t _ hi _
  rw [idle3] at hi
  rw [after3, after3]
  exact act_before m c t (of_decide_eq_true hi)

/-- At a tile's second point it holds the normed rows already. -/
theorem before3 (h : t.val % 2 = 1) (d) : (dats m 0 c).before 3 t d = act m c t := by
  have hf : cfg0.fresh 3 t.val = false := by
    rw [fresh3]
    unfold freshAt
    exact decide_eq_false (by omega)
  rw [Dat.before_out_traj _ 3 rfl (fun _ _ => rfl) (carry3 m c) t.val t rfl d, if_neg (by rw [hf]; exact Bool.false_ne_true)]
  exact (act_before m c t h).symm

/-! ## The body at a point -/

def bodyPre : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

theorem leaves3 : (dats m 0 c).leavesExact 3 t = owns (c : Thread nD τ) (st0_3 t) fullShare (act m c t) := by
  unfold Dat.leavesExact
  rw [after3]
  by_cases h : t.val % 2 = 1
  · rw [idle3 t, decide_eq_true h, (flush0_3 t).mpr h]
  · rw [idle3 t, decide_eq_false h]

/-- What a point leaves, the buffers' contents written out. -/
theorem bodyPost_eq : bodyPost m c t
    = iprop((owns (c : Thread nD τ) (Memref.whole cc0_scratch0) fullShare (kept m c t) ∗ (∃ r, prngReg c r)) ∗ (dats m 0 c).owesAt () t.castSucc
      ∗ owns (c : Thread nD τ) (st0_0 t) fullShare (iblk m c 0 t) ∗ owns (c : Thread nD τ) (st0_1 t) fullShare (iblk m c 1 t)
      ∗ owns (c : Thread nD τ) (st0_2 t) fullShare (iblk m c 2 t) ∗ owns (c : Thread nD τ) (st0_3 t) fullShare (act m c t)
      ∗ owns (c : Thread nD τ) (st0_4 t) fullShare (prod m c t)) := by
  unfold bodyPost
  rw [leaves3]
  rfl

set_option maxHeartbeats 1600000 in
theorem sound_body :
    bodyPre m c t ⊢ wp frame (wpE (defs₀ (F := F)) Variants.none c none) Set.univ (bodyAt0 t) (fun _ => bodyPost m c t) := by
  rw [bodyPost_eq]
  unfold bodyPre bodyAt0
  simp only [before0, before1, before2]
  rw [inv_castSucc]
  by_cases h : t.val % 2 = 1
  · rw [inv_pos m c _ _ (by omega : t.val ≠ 0)]
    rw [show kept m c ⟨t.val - 1, by omega⟩ = kept m c t from (kept_before m c t h).symm]
    simp only [before3 m c t h]
    iintro ⟨⟨HS, Hg⟩, Ho, ⟨%d0, H0⟩, ⟨%d1, H1⟩, ⟨%d2, H2⟩, ⟨%d3, H3⟩, ⟨%d4, H4⟩⟩
    iapply (body_second c (grid0.coords t) _ _ _ _ _ _ _ _ _ _ _ _ (iblk m c 0 t) (iblk m c 1 t) (iblk m c 2 t) (kept m c t)
      (fun e => by have := (first_iff t).mp e; omega) (act m c t) Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    iexact H4
  · refine (sep_mono (inv_any m c _ _) .rfl).trans ?_
    rw [start_eq]
    iintro ⟨⟨⟨%ds, HS⟩, Hg⟩, Ho, ⟨%d0, H0⟩, ⟨%d1, H1⟩, ⟨%d2, H2⟩, ⟨%d3, H3⟩, ⟨%d4, H4⟩⟩
    iapply (body_first c (grid0.coords t) _ _ _ _ _ _ _ _ _ _ _ _ (iblk m c 0 t) (iblk m c 1 t) (iblk m c 2 t)
      ((first_iff t).mpr (by omega)) Set.univ _)
    isplitl [H0]; · iexact H0
    isplitl [H1]; · iexact H1
    isplitl [H2]; · iexact H2
    isplitl [H3]; · iexists _; iexact H3
    isplitl [H4]; · iexists _; iexact H4
    isplitl [HS]; · iexists _; iexact HS
    iintro ⟨H0, H1, H2, H3, H4, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    iexact H4

theorem row_eq : defs₀ (F := F) .tc cfg0.body (cfg0.bodyArgs t (cfg0.slots t)) = bodyAt0 t := by
  unfold defs₀; rw [Defs.onTc_tc]

theorem obligation : BodyObligation (dats (F := F) m 0 c) (defs₀ (F := F)) Variants.none () Set.univ := fun t => by
  rw [bigSep_W0, bigSep_W0, row_eq]
  exact triple_restated (sound_body m c t) rfl .rfl fun _ => .rfl

theorem hin : Pipeline.ΦA spec0 c ⊢ (dats m 0 c).Φ 0 := by
  rw [show (dats m 0 c).Φ 0 = inv m c 0 (Nat.zero_le _) from rfl]
  exact Idealize.SL.BI.Entails.refl _

theorem hout : (dats m 0 c).Φ (Fin.last cfg0.N) ⊢ Pipeline.ΦA spec0 c := inv_any m c cfg0.N (Nat.le_refl _)

/-! ## The run -/

set_option backward.isDefEq.respectTransparency.types false in
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiescent m ρ)

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_quiescent m ρ))

/-- The run leaves the two result arrays as the points wrote them back. -/
theorem run_blocks : θ_run defs (onTc (τ := τ) (main (F := F))) ⟨m, fun _ => 0, ρ⟩ fun r => ∀ c : Dev nD,
      r.2.mem ((c : Thread nD τ).loc main_v0_0) = (dats m 0 c).arrAt 3 cfg0.N
      ∧ r.2.mem ((c : Thread nD τ).loc main_v0_1) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h.1 c).1 3, (h.1 c).1 4, h.2 c⟩)
    (θ_run_and (run_main m ρ) (frame_of m ρ (dats m) (A_eq m) (run_main m ρ)))

end Cert.UpProjIdeal.Run
-- ==== Proof.UpProjFinal.lean ====
module

public import Idealize.ShloMosaic.Lib.Pipeline.ValueKit
public import proofs.«01_k».proof.Proof.Norm
public import proofs.«01_k».proof.Proof.UpProjRun
public import proofs.«01_k».proof.Proof.Gen.UpProjRIdeal.Read

/-! The two arrays the norm and product call leaves are the reference's two results. -/

@[expose] public section

set_option maxRecDepth 16384

noncomputable section
open Idealize.ShloMosaic Idealize.ShloMosaic.TcCoe Idealize.SL.Sem Cert.Norm
open Idealize.ShloMosaic.Pipeline (Dat)
namespace Cert.UpProjFinal

section R
open Cert.UpProjRIdeal Cert.UpProjRIdeal.Read

theorem ref12 (x0 : FVec Ideal S8256x1024 .f32) (x1 : FVec Ideal S1x1024 .f32) (r : Fin 8256) (l : Fin 1024) :
    val_main_v12 (F := Ideal) x0 x1 (ix2 r l) = x0 (ix2 r l) * rstd (fun k => x0 (ix2 r k)) * x1 (ix2 0 l) := by
  pointwise [val_main_v12, val_main_v11, val_main_v10, val_main_v9, val_main_v8, val_main_v7, val_main_v6, val_main_v5, val_main_v4,
    val_main_v3, val_main_v2, val_main_v1, val_main_v0, val_main_cst, val_main_cst_0, val_main_cst_1]
  rfl

theorem ref16 (x0 : FVec Ideal S8256x1024 .f32) (x1 : FVec Ideal S1x1024 .f32) (x2 : FVec Ideal S1024x5632 .bf16) (r : Fin 8256) (l : Fin 5632) :
    val_main_v16 (F := Ideal) x0 x1 x2 (ix2 r l) = ∑ k : Fin 1024, val_main_v12 (F := Ideal) x0 x1 (ix2 r k) * x2 (ix2 k l) := by
  pointwise [val_main_v16, val_main_v15, val_main_v14, val_main_v13]
end R

open Cert.UpProjIdeal Cert.UpProjIdeal.Gen Cert.UpProjIdeal.Run

theorem pay1 (x : FVec Ideal S1376x1024 .f32) (w : FVec Ideal S1x1024 .f32) (r : Fin 1376) (l : Fin 1024) :
    k0_pay1 (F := Ideal) x w (ix2 r l) = x (ix2 r l) * rstd (fun k => x (ix2 r k)) * w (ix2 0 l) := by
  pointwise [k0_pay1]
  rfl

theorem pay2 (x : FVec Ideal S1376x1024 .f32) (w : FVec Ideal S1x1024 .f32) (r : Fin 1376) (l : Fin 1024) :
    k0_pay2 (F := Ideal) x w (ix2 r l) = k0_pay1 (F := Ideal) x w (ix2 r l) := by
  pointwise [k0_pay2]

theorem pay3 (s : FVec Ideal S1376x1024 .bf16) (b : FVec Ideal S1024x2816 .bf16) (r : Fin 1376) (l : Fin 2816) :
    k0_pay3 (F := Ideal) s b (ix2 r l) = ∑ k : Fin 1024, s (ix2 r k) * b (ix2 k l) := by
  pointwise [k0_pay3]

variable (m : (ℓ : Loc nD τ sig) → Buf (Elt Ideal) ℓ) (c : Dev nD)

/-- Row `r` of the point's block is row `1376 (t / 2) + r` of the array. -/
def rowOf (t : Fin cfg0.N) (r : Fin 1376) : Fin 8256 := ⟨t.val / 2 * 1376 + r.val, by have : t.val < 12 := t.isLt; omega⟩
/-- Column `k` of the point's block is column `2816 (t mod 2) + k` of the array. -/
def colOf (t : Fin cfg0.N) (k : Fin 2816) : Fin 5632 := ⟨t.val % 2 * 2816 + k.val, by omega⟩

theorem blk0 (t : Fin cfg0.N) (r : Fin 1376) (k : Fin 1024) :
    (iblk m c 0 t : FVec Ideal S1376x1024 .f32) (ix2 r k) = (m ((c : Thread nD τ).loc main_arg0) : FVec Ideal S8256x1024 .f32) (ix2 (rowOf t r) k) := by
  blk_ext [iblk, V, rowOf, idx t]

theorem blk1 (t : Fin cfg0.N) (k : Fin 1024) :
    (iblk m c 1 t : FVec Ideal S1x1024 .f32) (ix2 0 k) = (m ((c : Thread nD τ).loc main_arg1) : FVec Ideal S1x1024 .f32) (ix2 0 k) := by
  blk_ext [iblk, V, idx t]

theorem blk2 (t : Fin cfg0.N) (r : Fin 1024) (k : Fin 2816) :
    (iblk m c 2 t : FVec Ideal S1024x2816 .bf16) (ix2 r k) = (m ((c : Thread nD τ).loc main_arg2) : FVec Ideal S1024x5632 .bf16) (ix2 r (colOf t k)) := by
  blk_ext [iblk, V, colOf, idx t]

/-- The normed rows' element. -/
theorem act_at (t : Fin cfg0.N) (r : Fin 1376) (l : Fin 1024) : k0_pay1 (F := Ideal) (iblk m c 0 t) (iblk m c 1 t) (ix2 r l)
    = Cert.UpProjRIdeal.Read.val_main_v12 (F := Ideal) (m ((c : Thread nD τ).loc main_arg0)) (m ((c : Thread nD τ).loc main_arg1)) (ix2 (rowOf t r) l) := by
  refine (pay1 _ _ r l).trans ?_
  simp only [blk0, blk1]
  exact (ref12 _ _ _ _).symm

/-- The product's element. -/
theorem prod_at (t : Fin cfg0.N) (r : Fin 1376) (l : Fin 2816) : prod m c t (ix2 r l)
    = Cert.UpProjRIdeal.Read.val_main_v16 (F := Ideal) (m ((c : Thread nD τ).loc main_arg0)) (m ((c : Thread nD τ).loc main_arg1))
        (m ((c : Thread nD τ).loc main_arg2)) (ix2 (rowOf t r) (colOf t l)) := by
  refine (pay3 _ _ r l).trans (Eq.trans ?_ (ref16 _ _ _ _ _).symm)
  refine Finset.sum_congr rfl fun k _ => ?_
  exact congrArg₂ (fun a b : EReal => a * b) ((pay2 _ _ r k).trans (act_at m c t r k)) (blk2 m c t k l)

theorem final3 : (dats m 0 c).arrAt 3 cfg0.N
    = Cert.UpProjRIdeal.Read.val_main_v12 (F := Ideal) (m ((c : Thread nD τ).loc main_arg0)) (m ((c : Thread nD τ).loc main_arg1)) := by
  refine (dats m 0 c).arrAt_eq_of_covers 3 _ (by decide +kernel) fun t hf y => ?_
  blk_simp
  rw [after3]
  have key : ∀ y : S1376x1024.Idx, act m c t y
      = Cert.UpProjRIdeal.Read.val_main_v12 (F := Ideal) (m ((c : Thread nD τ).loc main_arg0)) (m ((c : Thread nD τ).loc main_arg1))
        (((View.whole main_v0_0).slice (win0_3.rect t)).emb y) := by
    intro y
    obtain ⟨r, l, rfl⟩ : ∃ (r : Fin 1376) (l : Fin 1024), y = ix2 r l := ⟨y 0, y 1, eq_ix2 y⟩
    have e : ((View.whole main_v0_0).slice (win0_3.rect t)).emb (ix2 r l : S1376x1024.Idx) = (ix2 (rowOf t r) l : S8256x1024.Idx) := by
      blk_ext [rowOf, idx t]
    rw [e]
    exact act_at m c t r l
  exact key y

theorem final4 : (dats m 0 c).arrAt 4 cfg0.N
    = Cert.UpProjRIdeal.Read.val_main_v16 (F := Ideal) (m ((c : Thread nD τ).loc main_arg0)) (m ((c : Thread nD τ).loc main_arg1))
        (m ((c : Thread nD τ).loc main_arg2)) := by
  refine (dats m 0 c).arrAt_eq_of_covers 4 _ (by decide +kernel) fun t hf y => ?_
  blk_simp
  rw [after4]
  have key : ∀ y : S1376x2816.Idx, prod m c t y
      = Cert.UpProjRIdeal.Read.val_main_v16 (F := Ideal) (m ((c : Thread nD τ).loc main_arg0)) (m ((c : Thread nD τ).loc main_arg1))
        (m ((c : Thread nD τ).loc main_arg2)) (((View.whole main_v0_1).slice (win0_4.rect t)).emb y) := by
    intro y
    obtain ⟨r, l, rfl⟩ : ∃ (r : Fin 1376) (l : Fin 2816), y = ix2 r l := ⟨y 0, y 1, eq_ix2 y⟩
    have e : ((View.whole main_v0_1).slice (win0_4.rect t)).emb (ix2 r l : S1376x2816.Idx) = (ix2 (rowOf t r) (colOf t l) : S8256x5632.Idx) := by
      blk_ext [rowOf, colOf, idx t]
    rw [e]
    exact prod_at m c t r l
  exact key y

end Cert.UpProjFinal
end
-- ==== Proof.UpProjClaim.lean ====
module

public import Idealize.ShloMosaic.Lib.Quiescent
public import proofs.«01_k».proof.Defs
public import proofs.«01_k».proof.Proof.UpProjFinal
public import proofs.«01_k».proof.Proof.Gen.UpProj
public import proofs.«01_k».proof.Proof.Gen.UpProjRIdeal.Run

/-! The reference's frame and the value claim of this call. -/

@[expose] public section

set_option maxRecDepth 16384

noncomputable section
open Idealize.ShloMosaic Idealize.ShloMosaic.TcCoe Idealize.SL.Sem
namespace Cert.UpProjClaim

/-- The program's text is its idealized form's: the same body for the call, -/
theorem calls_eq : Cert.UpProj.defs₀ (F := Bits) = Cert.UpProjIdeal.defs₀ (F := Bits) := by
  refine congrArg Defs.onTc (funext fun l => funext fun a => ?_)
  match l, a with
  | ⟨0, _⟩, (t, s) => rfl

/-- and the same table of bodies. -/
theorem defs_eq : Cert.UpProj.defs (F := Bits) = Cert.UpProjIdeal.defs (F := Bits) := congrArg (Pipeline.defs Cert.UpProjIdeal.pcfgs) calls_eq

/-- The program runs, keeps its arguments and leaves every counter at zero. -/
theorem frame : Cert.quiescent_UpProj (hUpProj := Cert.UpProj.Gen.facts) := fun m ρ _ => by
  rw [defs_eq]
  exact Cert.UpProjIdeal.Run.frame (F := Bits) m ρ

/-- So does the same text over the extended reals. -/
theorem frameIdeal : Cert.quiescent_UpProjIdeal (hUpProjIdeal := Cert.UpProjIdeal.Gen.facts) := fun m ρ _ => Cert.UpProjIdeal.Run.frame m ρ

/-- The reference runs and keeps its arguments; it declares no semaphore. -/
theorem frameRef : Cert.quiescent_UpProjRIdeal (hUpProjRIdeal := Cert.UpProjRIdeal.Gen.facts) := fun m ρ _ =>
  (θ_run Cert.UpProjRIdeal.defs _ _).mono (fun r h => ⟨fun c => (h c).2.2, sem_eq_zero_of_no_sems (by decide) r.2⟩)
    (Cert.UpProjRIdeal.Value.run (F := Ideal) m ρ)

/-- The two programs end with equal results. -/
theorem algebraic : Cert.algebraic_UpProjIdeal_UpProjRIdeal (hUpProjIdeal := Cert.UpProjIdeal.Gen.facts) (hUpProjRIdeal := Cert.UpProjRIdeal.Gen.facts) := by
  intro m g m' g' _ hag
  refine ⟨fun c => (Cert.UpProjIdeal.Run.dats m 0 c).arrAt 3 Cert.UpProjIdeal.cfg0.N, fun c => (Cert.UpProjIdeal.Run.dats m 0 c).arrAt 4 Cert.UpProjIdeal.cfg0.N, Cert.UpProjIdeal.Run.run_blocks (F := Ideal) m g, ?_⟩
  refine (θ_run Cert.UpProjRIdeal.defs _ _).mono (fun r h c => ?_) (Cert.UpProjRIdeal.Value.run (F := Ideal) m' g')
  obtain ⟨h0, h1, hk⟩ := h c
  obtain ⟨a0, a1, a2⟩ := hag c
  refine ⟨?_, ?_, hk⟩
  · exact (h0.trans (Cert.UpProjRIdeal.Read.val_main_v12_eq _ _)).trans (by rw [a0, a1]; exact (Cert.UpProjFinal.final3 m c).symm)
  · exact (h1.trans (Cert.UpProjRIdeal.Read.val_main_v16_eq _ _ _)).trans (by rw [a0, a1, a2]; exact (Cert.UpProjFinal.final4 m c).symm)

end Cert.UpProjClaim
end
-- ==== Proof.ConvBwdLoop.lean ====
module

public import proofs.«01_k».proof.Proof.Gen.ConvBwdIdeal.Frame
public import proofs.«01_k».proof.Proof.Gen.ConvBwdIdeal.Skeleton
public import proofs.«01_k».proof.Proof.Gen.ConvBwdIdeal.Loops
public import Idealize.ShloMosaic.Lib.Pipeline.ValueKit
public import Idealize.ShloMosaic.Lib.Pipeline.TableIdle
public import Idealize.ShloMosaic.Lib.VecWindow
public import Idealize.ShloMosaic.Lib.WritesUnit
public import Idealize.ShloMosaic.Lib.WordCmp

/-! The loop over the 43 strips of a row tile: what it carries after some strips, and the rows it has stored. -/

@[expose] public section

set_option maxRecDepth 16384

noncomputable section

namespace Cert.ConvBwdIdeal.Run

open Cert.ConvBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- What the loop carries: the two shifted gradients of the rows below, and four sums over rows. -/
abbrev Carried (F : FTy → Type) : Type := FVec F S8x512 .f32 × FVec F S8x512 .f32 × FVec F S8x512 .f32 × FVec F S8x512 .f32 × FVec F S8x512 .f32 × FVec F S8x512 .f32

section loop
variable (da : Vec F S688x256 .bf16) (cv x : Vec F S688x512 .bf16) (w0 w1 w2 : Vec F S1x512 .f32) (k : Fin k0_t1_loop.trips) (a : Carried F)

abbrev rows : IVec S8x1 32 := iota .tc S8x1 32 [0] iota_S8x1_d0_w32

/-- A strip of 16 rows of each of the three arrays. -/
def wide : Vec F S16x512 .bf16 := View.ld cv (Rect.unit (s := S688x512) (k0_off1 k) S16x512.size (k0_off1_inb k))

def half : Vec F S16x256 .bf16 := View.ld da (Rect.unit (s := S688x256) (k0_off2 k) S16x256.size (k0_off2_inb k))

/-- What a strip stores, -/
def stored : Vec F S16x512 .bf16 :=
  k0_pay39 w0 w1 w2 (k0_pay8 (wide cv k) (half da k)) (k0_pay9 (wide cv k) (half da k))
    (k0_pay12 (k0_pay24 w0) (k0_pay25 w1) (k0_pay26 w2) rows a.1 a.2.1 (k0_pay7 (wide cv k) (half da k)) (k0_pay8 (wide cv k) (half da k)) (k0_pay9 (wide cv k) (half da k)))
    (k0_pay17 (k0_pay4 (wide cv k))) (k0_pay18 (k0_pay5 (half da k))) (k0_pay19 (k0_pay4 (wide cv k))) (k0_pay20 (k0_pay4 (wide cv k)) (k0_pay5 (half da k)))
    (k0_pay21 (k0_pay4 (wide cv k))) (Scalar.ofBits .f32 0x3F800000#32)

/-- and what it carries on. -/
def next : Carried F :=
  let b := wide cv k; let d := half da k; let u := k0_pay6 (wide x k)
  let p := k0_pay17 (k0_pay4 b); let q := k0_pay18 (k0_pay5 d); let r := k0_pay19 (k0_pay4 b); let s := k0_pay20 (k0_pay4 b) (k0_pay5 d)
  let e := k0_pay21 (k0_pay4 b); let o : F .f32 := Scalar.ofBits .f32 0x3F800000#32
  (k0_pay31 p q r s e o, k0_pay32 p q r s e o,
   k0_pay35 u (k0_pay9 b d) (k0_pay13 rows a.2.1 a.2.2.1 u (k0_pay9 b d)) p q r s e o,
   k0_pay36 u (k0_pay8 b d) (k0_pay14 rows a.1 a.2.2.2.1 u (k0_pay8 b d)) p q r s e o,
   k0_pay37 u (k0_pay15 a.2.2.2.2.1 u (k0_pay7 b d)) p q r s e o,
   k0_pay38 (k0_pay16 a.2.2.2.2.2 (k0_pay7 b d)) p q r s e o)

/-- After `n` strips. -/
def carried : ℕ → Carried F
  | 0 => a
  | n + 1 => if h : n < k0_t1_loop.trips then next da cv x ⟨n, h⟩ (carried n) else carried n

theorem carried_succ : carried da cv x a (k.val + 1) = next da cv x k (carried da cv x a k.val) := by
  rw [carried, dif_pos k.isLt]

variable (c : Dev nD) (i : grid0.Coords) (a2 : Memref sig .tc .vmem S688x256 .bf16) (h2 : a2.IsWhole)
  (a3 : Memref sig .tc .vmem S688x512 .bf16) (h3 : a3.IsWhole) (a4 : Memref sig .tc .vmem S688x512 .bf16) (h4 : a4.IsWhole)
  (a5 : Memref sig .tc .vmem S8x512 .f32) (h5 : a5.IsWhole) (a6 : Memref sig .tc .vmem S688x512 .bf16) (h6 : a6.IsWhole)
  (a7 : Memref sig .tc .vmem S8x512 .f32) (h7 : a7.IsWhole) (a8 : Memref sig .tc .vmem S8x512 .f32) (h8 : a8.IsWhole)

theorem tripR_eq : tripR_k0_t1 Variants.none c none i a2 h2 a3 h3 a4 h4 a5 h5 a6 h6 a7 h7 a8 h8 w0 w1 w2 rows (h2.unread da) (h3.unread cv) (h4.unread x) k a
    = next da cv x k a := by
  unfold tripR_k0_t1 trip_k0_t1 next wide half
  simp only [trip_k0_t1.sl.r, trip_k0_t1.sl.r_1, trip_k0_t1.sl.r_2, trip_k0_t1.sl.r_3, trip_k0_t1.sl.r_4, trip_k0_t1.sl.r_5, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.cst_50, View.readAt_eq_ld, h2.read_unread, h3.read_unread, h4.read_unread]

theorem tripL_eq : tripL_k0_t1 Variants.none c none i a2 h2 a3 h3 a4 h4 a5 h5 a6 h6 a7 h7 a8 h8 w0 w1 w2 rows (h2.unread da) (h3.unread cv) (h4.unread x) k a
    = [⟨Rect.unit (s := S688x512) (k0_off1 k) S16x512.size (k0_off1_inb k), stored da cv w0 w1 w2 k a⟩] := by
  unfold tripL_k0_t1 trip_k0_t1 stored wide half
  simp only [trip_k0_t1.sl.r, trip_k0_t1.sl.r_1, trip_k0_t1.sl.r_3, trip_k0_t1.sl.r_4, trip_k0_t1.sl.r_5, trip_k0_t1.sl.r_6, trip_k0_t1.sl.r_11, trip_k0_t1.sl.r_12, trip_k0_t1.sl.r_13, trip_k0_t1.sl.r_14, trip_k0_t1.sl.r_15, trip_k0_t1.sl.cst_50, View.readAt_eq_ld, h2.read_unread, h3.read_unread, h4.read_unread]

theorem st_fst (n : ℕ) (hn : n ≤ k0_t1_loop.trips) :
    (st_k0_t1 Variants.none c none i a2 h2 a3 h3 a4 h4 a5 h5 a6 h6 a7 h7 a8 h8 w0 w1 w2 rows (h2.unread da) (h3.unread cv) (h4.unread x) a n).1
      = carried da cv x a n := by
  induction n with
  | zero => rfl
  | succ n ih =>
    rw [st_k0_t1_succ (k := ⟨n, hn⟩), ih (by omega)]
    rw [show carried da cv x a (n + 1) = _ from carried_succ da cv x ⟨n, hn⟩ a]
    exact tripR_eq da cv x w0 w1 w2 ⟨n, hn⟩ _ c i a2 h2 a3 h3 a4 h4 a5 h5 a6 h6 a7 h7 a8 h8

theorem off1_eq : ∀ k : Fin k0_t1_loop.trips, k0_off1 k = ![(42 - k.val) * 16, 0] := by decide +kernel

theorem off2_eq : ∀ k : Fin k0_t1_loop.trips, k0_off2 k = ![(42 - k.val) * 16, 0] := by decide +kernel

theorem trips_eq : k0_t1_loop.trips = 43 := by decide +kernel

/-- The strip that stores a row. -/
def at_ (r : Fin 688) : Fin k0_t1_loop.trips := ⟨42 - r.val / 16, by rw [trips_eq]; omega⟩

/-- The rows that the loop stores. -/
def out (y : S688x512.Idx) : Elt F .bf16 :=
  stored da cv w0 w1 w2 (at_ (y 0)) (carried da cv x a (at_ (y 0)).val) (ix2 (⟨(y 0).val % 16, Nat.mod_lt _ (by decide)⟩ : Fin 16) (y 1))

theorem st_snd (f : BufTy.Contents (Elt F) a6.view.ty) (n : ℕ) (hn : n ≤ k0_t1_loop.trips) (y : S688x512.Idx) (hy : 688 ≤ (y 0).val + 16 * n) :
    a6.view.read (Elt F) (a6.view.writes (Elt F) f
      (st_k0_t1 Variants.none c none i a2 h2 a3 h3 a4 h4 a5 h5 a6 h6 a7 h7 a8 h8 w0 w1 w2 rows (h2.unread da) (h3.unread cv) (h4.unread x) a n).2) y
      = out da cv x w0 w1 w2 a y := by
  have ht := trips_eq
  have hy' : (y 0).val < 688 := (y 0).isLt
  induction n with
  | zero => omega
  | succ n ih =>
    rw [st_k0_t1_succ (k := ⟨n, hn⟩), st_fst da cv x w0 w1 w2 a c i a2 h2 a3 h3 a4 h4 a5 h5 a6 h6 a7 h7 a8 h8 n (by omega), tripL_eq]
    dsimp only [List.cons_append, List.nil_append]
    by_cases h : 688 ≤ (y 0).val + 16 * n
    · refine Eq.trans ?_ (ih (by omega) h)
      exact View.read_writes_cons_rows_of_not_mem _ _ _ _ _ y (off1_eq ⟨n, hn⟩) (W := 16) rfl (.inr (by dsimp only; omega))
    · unfold out
      rw [show at_ (y 0) = ⟨n, hn⟩ from Fin.ext (by show 42 - (y 0).val / 16 = n; omega)]
      exact View.read_writes_cons_rows_of_mem _ _ _ _ _ y _ (off1_eq ⟨n, hn⟩) (by dsimp only [ix2]; show (y 0).val = (42 - n) * 16 + (y 0).val % 16; omega) rfl

end loop
end Cert.ConvBwdIdeal.Run
-- ==== Proof.ConvBwdRun.lean ====
module

public import proofs.«01_k».proof.Proof.ConvBwdLoop

/-! The gradient call of the convolution run point by point: the loop over a row tile, the rows of the weight gradient that gather the
    tiles' sums, and the first rows of the tile above handed on in the scratch. -/

@[expose] public section

set_option maxRecDepth 16384

noncomputable section

namespace Cert.ConvBwdIdeal.Run

open Cert.ConvBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- Whether a point is the first of its block of columns, as the body tests it. -/
abbrev test (i : grid0.Coords) : BitVec 1 :=
  let a : BitVec 32 := Scalar.extui (Scalar.cmpi .eq (BitVec.ofNat 32 (i 1).val) 0#32)
  Scalar.cmpi .ne a 0#32

section body
variable (c : Dev nD) (i : grid0.Coords) (a2 : Memref sig .tc .vmem S688x256 .bf16) (h2 : a2.IsWhole)
  (a3 : Memref sig .tc .vmem S688x512 .bf16) (h3 : a3.IsWhole) (a4 : Memref sig .tc .vmem S688x512 .bf16) (h4 : a4.IsWhole)
  (a5 : Memref sig .tc .vmem S8x512 .f32) (h5 : a5.IsWhole) (a6 : Memref sig .tc .vmem S688x512 .bf16) (h6 : a6.IsWhole)
  (a7 : Memref sig .tc .vmem S8x512 .f32) (h7 : a7.IsWhole) (a8 : Memref sig .tc .vmem S8x512 .f32) (h8 : a8.IsWhole)
  (da : Vec F S688x256 .bf16) (cv x : Vec F S688x512 .bf16) (w o s : Vec F S8x512 .f32)

/-- One row of a block of eight. -/
abbrev row0 (w : Vec F S8x512 .f32) : Vec F S1x512 .f32 := View.ld w (Rect.unit (s := S8x512) ![0, 0] S1x512.size inb_S8x512_S1x512_0_0)
abbrev row1 (w : Vec F S8x512 .f32) : Vec F S1x512 .f32 := View.ld w (Rect.unit (s := S8x512) ![1, 0] S1x512.size inb_S8x512_S1x512_1_0)
abbrev row2 (w : Vec F S8x512 .f32) : Vec F S1x512 .f32 := View.ld w (Rect.unit (s := S8x512) ![2, 0] S1x512.size inb_S8x512_S1x512_2_0)
abbrev row3 (w : Vec F S8x512 .f32) : Vec F S1x512 .f32 := View.ld w (Rect.unit (s := S8x512) ![3, 0] S1x512.size inb_S8x512_S1x512_3_0)

/-- What the loop starts from, over the scratch. -/
def start : Carried F := (k0_pay28 s, k0_pay29 s, k0_pay27, k0_pay27, k0_pay27, k0_pay27)

/-- What it ends with. -/
def final : Carried F := carried da cv x (start s) k0_t1_loop.trips

/-- The rows of the tile. -/
def tile : Vec F S688x512 .bf16 := out da cv x (row0 w) (row1 w) (row2 w) (start s)

/-- The four rows of sums, each added to what was there. -/
def sums (a : Carried F) : Vec F S8x512 .f32 :=
  VecWindow.put (VecWindow.put (VecWindow.put (VecWindow.put o
    ![0, 0] S1x512.size (k0_pay41 a.2.2.1 (row0 o))) ![1, 0] S1x512.size (k0_pay1 a.2.2.2.1 (k0_pay42 (row1 o))))
    ![2, 0] S1x512.size (k0_pay2 a.2.2.2.2.1 (row2 o))) ![3, 0] S1x512.size (k0_pay3 a.2.2.2.2.2 (row3 o))

/-- What is handed on. -/
def handed (a : Carried F) : Vec F S8x512 .f32 := k0_pay40 a.1

/-- What the sums and the scratch count as before a point: zero at a block's first point. -/
def sumsAt : Vec F S8x512 .f32 := if test i = 1#1 then k0_pay22 else o
def handedAt : Vec F S8x512 .f32 := if test i = 1#1 then k0_pay23 else s

set_option maxHeartbeats 1600000 in
/-- The body at a point. -/
theorem body_at (E : Set ℕ) (K : PUnit → sProp 𝕄) :
    iprop(owns (c : Thread nD τ) a2 fullShare da ∗ owns (c : Thread nD τ) a3 fullShare cv ∗ owns (c : Thread nD τ) a4 fullShare x
        ∗ owns (c : Thread nD τ) a5 fullShare w ∗ (∃ d, owns (c : Thread nD τ) a6 fullShare d) ∗ owns (c : Thread nD τ) a7 fullShare o
        ∗ owns (c : Thread nD τ) a8 fullShare s
        ∗ (iprop(owns (c : Thread nD τ) a2 fullShare da ∗ owns (c : Thread nD τ) a3 fullShare cv ∗ owns (c : Thread nD τ) a4 fullShare x
            ∗ owns (c : Thread nD τ) a5 fullShare w ∗ owns (c : Thread nD τ) a6 fullShare (tile da cv x w (handedAt i s))
            ∗ owns (c : Thread nD τ) a7 fullShare (sums (sumsAt i o) (final da cv x (handedAt i s)))
            ∗ owns (c : Thread nD τ) a8 fullShare (handed (final da cv x (handedAt i s)))) -∗ K ⟨⟩))
      ⊢ wp frame (wpE (defs₀ (F := F)) Variants.none c none) E (cc0_ffn_conv_act_bwd i a2 h2 a3 h3 a4 h4 a5 h5 a6 h6 a7 h7 a8 h8) K := by
  simp only [cc0_ffn_conv_act_bwd_eq_skeleton]; unfold cc0_ffn_conv_act_bwd_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
  obtain rfl := h2.eq_unread hf0; obtain rfl := h3.eq_unread hf1; obtain rfl := h4.eq_unread hf2
  obtain rfl := h5.eq_unread hf3; obtain rfl := h7.eq_unread hf5; obtain rfl := h8.eq_unread hf6
  sl_exec
  sl_step
  have e7 : View.read (Elt F) a7.view (if hc : body_at.sl.v2 i = 1#1 then
          a7.view.writes (Elt F) (h7.unread o) [⟨Rect.unit ![0, 0] S8x512.size inb_S8x512_S8x512_0_0, k0_pay22⟩]
        else h7.unread o) = sumsAt i o := by
    unfold sumsAt
    by_cases h : body_at.sl.v2 i = 1#1
    · rw [dif_pos h]
      exact (View.read_writes_full _ _ _ _ _).trans (if_pos h).symm
    · rw [dif_neg h]
      exact (h7.read_unread _).trans (if_neg h).symm
  have e8 : View.read (Elt F) a8.view (if hc : body_at.sl.v2 i = 1#1 then
          a8.view.writes (Elt F) (h8.unread s) [⟨Rect.unit ![0, 0] S8x512.size inb_S8x512_S8x512_0_0, k0_pay23⟩]
        else h8.unread s) = handedAt i s := by
    unfold handedAt
    by_cases h : body_at.sl.v2 i = 1#1
    · rw [dif_pos h]
      exact (View.read_writes_full _ _ _ _ _).trans (if_pos h).symm
    · rw [dif_neg h]
      exact (h8.read_unread _).trans (if_neg h).symm
  have ev : body_at.sl.v10 c i a8 h8 s = handedAt i s := by
    unfold body_at.sl.v10
    rw [View.readAt_full]
    exact e8
  have es : (st_k0_t1 Variants.none c none i a2 h2 a3 h3 a4 h4 a5 h5 a6 h6 a7 h7 a8 h8
      (View.readAt (Elt F) a5.view (Rect.unit (s := S8x512) ![0, 0] S1x512.size inb_S8x512_S1x512_0_0).toLoadRect (h5.unread w))
      (View.readAt (Elt F) a5.view (Rect.unit (s := S8x512) ![1, 0] S1x512.size inb_S8x512_S1x512_1_0).toLoadRect (h5.unread w))
      (View.readAt (Elt F) a5.view (Rect.unit (s := S8x512) ![2, 0] S1x512.size inb_S8x512_S1x512_2_0).toLoadRect (h5.unread w))
      body_at.sl.v9 (h2.unread da) (h3.unread cv) (h4.unread x)
      (k0_pay28 (body_at.sl.v10 c i a8 h8 s), k0_pay29 (body_at.sl.v10 c i a8 h8 s), k0_pay27, k0_pay27, k0_pay27, k0_pay27)
      (Scf.trips k0_t1_loop.lb k0_t1_loop.ub k0_t1_loop.st)).1 = final da cv x (handedAt i s) := by
    rw [ev]
    exact st_fst da cv x _ _ _ (start (handedAt i s)) c i a2 h2 a3 h3 a4 h4 a5 h5 a6 h6 a7 h7 a8 h8 k0_t1_loop.trips (Nat.le_refl _)
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H3]
  · iexists _; isplitr; · ipureintro; exact h5.read_unread _
    iexact H3
  isplitl [H4]
  · iexists _; isplitr
    swap; · iexact H4
    ipureintro
    rw [ev]
    funext y
    have hy : (y 0).val < 688 := (y 0).isLt
    refine (st_snd da cv x _ _ _ (start (handedAt i s)) c i a2 h2 a3 h3 a4 h4 a5 h5 a6 h6 a7 h7 a8 h8 _ k0_t1_loop.trips (Nat.le_refl _) y
      (by rw [trips_eq]; omega)).trans ?_
    unfold tile
    simp only [View.readAt_eq_ld, h5.read_unread]
  isplitl [H5]
  · iexists _; isplitr
    swap; · iexact H5
    ipureintro
    unfold body_at.sl.r body_at.sl.r_1 body_at.sl.r_2 body_at.sl.r_3 body_at.sl.v38 body_at.sl.v32 body_at.sl.v26 body_at.sl.v20
    simp only [es]
    revert e7
    generalize (if hc : body_at.sl.v2 i = 1#1 then
          a7.view.writes (Elt F) (h7.unread o) [⟨Rect.unit ![0, 0] S8x512.size inb_S8x512_S8x512_0_0, k0_pay22⟩]
        else h7.unread o) = f
    intro e7
    rw [View.read_writes_cons_put _ _ _ _ _ rfl, View.read_writes_cons_put _ _ _ _ _ rfl, View.read_writes_cons_put _ _ _ _ _ rfl,
      View.read_writes_cons_put _ _ _ _ _ rfl, View.writes_nil]
    simp only [View.readAt_eq_ld, e7]
    rfl
  iexists _; isplitr
  swap; · iexact H6
  ipureintro
  refine (View.read_writes_full _ _ _ _ _).trans ?_
  exact congrArg (fun a => k0_pay40 a.1) es
end body
end Cert.ConvBwdIdeal.Run
-- ==== Proof.ConvBwdPoints.lean ====
module

public import proofs.«01_k».proof.Proof.ConvBwdRun

/-! The points of the convolution's gradient call in order, and the run of the whole call. -/

@[expose] public section

set_option maxRecDepth 16384

noncomputable section

namespace Cert.ConvBwdIdeal.Run

open Cert.ConvBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The first point of a block of columns. -/
theorem first_iff : ∀ t : Fin cfg0.N, test (grid0.coords t) = 1#1 ↔ t.val % 12 = 0 :=
  (by decide +kernel : ∀ t : Fin grid0.N, _)

variable (c : Dev nD) (t : Fin cfg0.N)

/-- One point from what the sums and the scratch hold before it. -/
def step (p : Vec F S8x512 .f32 × Vec F S8x512 .f32) : Vec F S8x512 .f32 × Vec F S8x512 .f32 :=
  let a := final (iblk m c 0 t) (iblk m c 1 t) (iblk m c 2 t) (handedAt (grid0.coords t) p.2)
  (sums (sumsAt (grid0.coords t) p.1) a, handed a)

/-- The sums and the scratch after `n` points. -/
def pair : ℕ → Vec F S8x512 .f32 × Vec F S8x512 .f32
  | 0 => (k0_pay22, k0_pay23)
  | n + 1 => if h : n < cfg0.N then step m c ⟨n, h⟩ (pair n) else pair n

theorem pair_succ : pair m c (t.val + 1) = step m c t (pair m c t.val) := by
  rw [pair, dif_pos t.isLt]

theorem sumsAt_first (h : t.val % 12 = 0) (o o' : Vec F S8x512 .f32) : sumsAt (grid0.coords t) o = sumsAt (grid0.coords t) o' := by
  unfold sumsAt
  rw [if_pos ((first_iff t).mpr h), if_pos ((first_iff t).mpr h)]

theorem handedAt_first (h : t.val % 12 = 0) (o o' : Vec F S8x512 .f32) : handedAt (grid0.coords t) o = handedAt (grid0.coords t) o' := by
  unfold handedAt
  rw [if_pos ((first_iff t).mpr h), if_pos ((first_iff t).mpr h)]

/-- The rows a point leaves. -/
def du : Vec F S688x512 .bf16 :=
  tile (iblk m c 0 t) (iblk m c 1 t) (iblk m c 2 t) (iblk m c 3 t) (handedAt (grid0.coords t) (pair m c t.val).2)

/-! ## The invariant and the proof data -/

/-- Before the first point the scratch holds anything, afterwards what the point before handed on. -/
def inv (c : Dev nD) : (n : ℕ) → n ≤ cfg0.N → sProp 𝕄
  | 0, _ => Pipeline.ΦA spec0 c
  | n + 1, _ => iprop(owns (c : Thread nD τ) (Memref.whole cc0_scratch0) fullShare (pair m c (n + 1)).2 ∗ (∃ r, prngReg c r))

theorem inv_pos (n : ℕ) (h : n ≤ cfg0.N) (hz : n ≠ 0) :
    inv m c n h = iprop(owns (c : Thread nD τ) (Memref.whole cc0_scratch0) fullShare (pair m c n).2 ∗ (∃ r, prngReg c r)) := by
  cases n with
  | zero => exact absurd rfl hz
  | succ n => rfl

theorem start_eq : (Pipeline.ΦA spec0 c : sProp 𝕄)
    = iprop((∃ d, owns (c : Thread nD τ) (Memref.whole cc0_scratch0) fullShare d) ∗ (∃ r, prngReg c r)) := by
  unfold Pipeline.ΦA; rw [scopedRest0_eq]; simp only [owns_whole]; try rfl

/-- Before any point the scratch holds something. -/
theorem inv_any (n : ℕ) (h : n ≤ cfg0.N) : inv m c n h ⊢ (Pipeline.ΦA spec0 c : sProp 𝕄) := by
  cases n with
  | zero => exact Idealize.SL.BI.Entails.refl _
  | succ n =>
    rw [start_eq]
    unfold inv
    iintro ⟨H, Hg⟩
    isplitl [H]
    · iexists _; iexact H
    iexact Hg

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => du m c t
    | ⟨5, _⟩ => (pair m c (t.val + 1)).1
  Φ t := inv m c t.val (Nat.le_of_lt_succ t.isLt)
  q _ := fullShare
  owed _ := 0

theorem A_eq (w : Fin cfg0.W) : (dats m 0 c).A w = V m c (Pipeline.arrRef spec0 w) := by
  dsimp only [dats]

theorem inv_castSucc : (dats m 0 c).Φ t.castSucc = inv m c t.val (Nat.le_of_lt t.isLt) := by
  dsimp only [dats]; exact Pipeline.Dat.Φ_castSucc (inv m c) t

theorem after0 : (dats m 0 c).after 0 t = iblk m c 0 t := by dsimp only [dats]
theorem after1 : (dats m 0 c).after 1 t = iblk m c 1 t := by dsimp only [dats]
theorem after2 : (dats m 0 c).after 2 t = iblk m c 2 t := by dsimp only [dats]
theorem after3 : (dats m 0 c).after 3 t = iblk m c 3 t := by dsimp only [dats]
theorem after4 : (dats m 0 c).after 4 t = du m c t := by dsimp only [dats]
theorem after5 : (dats m 0 c).after 5 t = (pair m c (t.val + 1)).1 := by dsimp only [dats]

theorem before0 (d) : (dats m 0 c).before 0 t d = iblk m c 0 t := before0_0_of m (dats m 0 c) (A_eq m c 0) (after0 m c) t d
theorem before1 (d) : (dats m 0 c).before 1 t d = iblk m c 1 t := before0_1_of m (dats m 0 c) (A_eq m c 1) (after1 m c) t d
theorem before2 (d) : (dats m 0 c).before 2 t d = iblk m c 2 t := before0_2_of m (dats m 0 c) (A_eq m c 2) (after2 m c) t d
theorem before3 (d) : (dats m 0 c).before 3 t d = iblk m c 3 t := before0_3_of m (dats m 0 c) (A_eq m c 3) (after3 m c) t d

/-- Past a block's first point the sums' buffer holds those of the point before. -/
theorem before5 (h : ¬t.val % 12 = 0) (d) : (dats m 0 c).before 5 t d = (pair m c t.val).1 := by
  have hz : t.val ≠ 0 := fun e => h (by rw [e])
  refine (Pipeline.Dat.before_out_acc (dats m 0 c) 5 rfl t hz ?_ (fun _ => rfl) d).trans ?_
  · rw [Bool.eq_false_iff]
    intro e
    have e' : (t.val - 1) % 12 = 11 := (flush0_5 ⟨t.val - 1, by omega⟩).mp e
    omega
  · refine (after5 m c ⟨t.val - 1, by omega⟩).trans ?_
    congr 2
    show t.val - 1 + 1 = t.val
    omega

/-! ## The body at a point -/

def bodyPre : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

/-- What a point leaves, the buffers' contents written out. -/
theorem bodyPost_eq : bodyPost m c t
    = iprop((owns (c : Thread nD τ) (Memref.whole cc0_scratch0) fullShare (pair m c (t.val + 1)).2 ∗ (∃ r, prngReg c r)) ∗ (dats m 0 c).owesAt () t.castSucc
      ∗ owns (c : Thread nD τ) (st0_0 t) fullShare (iblk m c 0 t) ∗ owns (c : Thread nD τ) (st0_1 t) fullShare (iblk m c 1 t)
      ∗ owns (c : Thread nD τ) (st0_2 t) fullShare (iblk m c 2 t) ∗ owns (c : Thread nD τ) (st0_3 t) fullShare (iblk m c 3 t)
      ∗ owns (c : Thread nD τ) (st0_4 t) fullShare (du m c t) ∗ owns (c : Thread nD τ) (st0_5 t) fullShare (pair m c (t.val + 1)).1) := by
  unfold bodyPost
  rfl

set_option maxHeartbeats 1600000 in
/-- A point over any contents of the sums' buffer and the scratch that count as the point's before. -/
theorem sound_at (o s : Vec F S8x512 .f32) (ho : sumsAt (grid0.coords t) o = sumsAt (grid0.coords t) (pair m c t.val).1)
    (hs : handedAt (grid0.coords t) s = handedAt (grid0.coords t) (pair m c t.val).2) :
    iprop((owns (c : Thread nD τ) (Memref.whole cc0_scratch0) fullShare s ∗ (∃ r, prngReg c r)) ∗ (dats m 0 c).owesAt () t.castSucc
      ∗ owns (c : Thread nD τ) (st0_0 t) fullShare (iblk m c 0 t) ∗ owns (c : Thread nD τ) (st0_1 t) fullShare (iblk m c 1 t)
      ∗ owns (c : Thread nD τ) (st0_2 t) fullShare (iblk m c 2 t) ∗ owns (c : Thread nD τ) (st0_3 t) fullShare (iblk m c 3 t)
      ∗ (∃ d, owns (c : Thread nD τ) (st0_4 t) fullShare d) ∗ owns (c : Thread nD τ) (st0_5 t) fullShare o)
    ⊢ wp frame (wpE (defs₀ (F := F)) Variants.none c none) Set.univ (bodyAt0 t) (fun _ => bodyPost m c t) := by
  rw [bodyPost_eq, pair_succ]
  unfold bodyAt0 step du
  rw [← ho, ← hs]
  iintro ⟨⟨HS, Hg⟩, Ho, H0, H1, H2, H3, ⟨%d4, H4⟩, H5⟩
  iapply (body_at c (grid0.coords t) _ _ _ _ _ _ _ _ _ _ _ _ _ _ (iblk m c 0 t) (iblk m c 1 t) (iblk m c 2 t) (iblk m c 3 t) o s Set.univ _)
  isplitl [H0]; · iexact H0
  isplitl [H1]; · iexact H1
  isplitl [H2]; · iexact H2
  isplitl [H3]; · iexact H3
  isplitl [H4]; · iexists _; iexact H4
  isplitl [H5]; · iexact H5
  isplitl [HS]; · iexact HS
  iintro ⟨H0, H1, H2, H3, H4, H5, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  iexact H5

theorem sound_body :
    bodyPre m c t ⊢ wp frame (wpE (defs₀ (F := F)) Variants.none c none) Set.univ (bodyAt0 t) (fun _ => bodyPost m c t) := by
  unfold bodyPre
  simp only [before0, before1, before2, before3]
  rw [inv_castSucc]
  by_cases h : t.val % 12 = 0
  · refine (sep_mono (inv_any m c _ _) .rfl).trans ?_
    rw [start_eq]
    iintro ⟨⟨⟨%ds, HS⟩, Hg⟩, Ho, ⟨%d0, H0⟩, ⟨%d1, H1⟩, ⟨%d2, H2⟩, ⟨%d3, H3⟩, ⟨%d4, H4⟩, ⟨%d5, H5⟩⟩
    iapply (sound_at m c t _ _ (sumsAt_first t h _ _) (handedAt_first t h _ _))
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexists _; iexact H4
    iexact H5
  · rw [inv_pos m c _ _ (fun e => h (by rw [e]))]
    simp only [before5 m c t h]
    iintro ⟨⟨HS, Hg⟩, Ho, ⟨%d0, H0⟩, ⟨%d1, H1⟩, ⟨%d2, H2⟩, ⟨%d3, H3⟩, ⟨%d4, H4⟩, ⟨%d5, H5⟩⟩
    iapply (sound_at m c t _ _ rfl rfl)
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexists _; iexact H4
    iexact H5

theorem row_eq : defs₀ (F := F) .tc cfg0.body (cfg0.bodyArgs t (cfg0.slots t)) = bodyAt0 t := by
  unfold defs₀; rw [Defs.onTc_tc]

theorem obligation : BodyObligation (dats (F := F) m 0 c) (defs₀ (F := F)) Variants.none () Set.univ := fun t => by
  rw [bigSep_W0, bigSep_W0, row_eq]
  exact triple_restated (sound_body m c t) rfl .rfl fun _ => .rfl

theorem hin : Pipeline.ΦA spec0 c ⊢ (dats m 0 c).Φ 0 := by
  rw [show (dats m 0 c).Φ 0 = inv m c 0 (Nat.zero_le _) from rfl]
  exact Idealize.SL.BI.Entails.refl _

theorem hout : (dats m 0 c).Φ (Fin.last cfg0.N) ⊢ Pipeline.ΦA spec0 c := inv_any m c cfg0.N (Nat.le_refl _)

/-! ## The run -/

set_option backward.isDefEq.respectTransparency.types false in
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiescent m ρ)

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_quiescent m ρ))

/-- The run leaves the two result arrays as the points wrote them back. -/
theorem run_blocks : θ_run defs (onTc (τ := τ) (main (F := F))) ⟨m, fun _ => 0, ρ⟩ fun r => ∀ c : Dev nD,
      r.2.mem ((c : Thread nD τ).loc main_v32_0) = (dats m 0 c).arrAt 4 cfg0.N
      ∧ r.2.mem ((c : Thread nD τ).loc main_v32_1) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h.1 c).1 4, (h.1 c).1 5, h.2 c⟩)
    (θ_run_and (run_main m ρ) (frame_of m ρ (dats m) (A_eq m) (run_main m ρ)))

end Cert.ConvBwdIdeal.Run
-- ==== Proof.ConvBwdStrip.lean ====
module

public import proofs.«01_k».proof.Proof.ConvBwdPoints
public import proofs.«01_k».proof.Proof.GateFinal

/-! The loop's values over exact numbers: a strip's gradient before the convolution, the two rows below it, and the sums. -/

@[expose] public section

set_option maxRecDepth 16384

noncomputable section
open Idealize.ShloMosaic Idealize.ShloMosaic.TcCoe Idealize.SL.Sem
namespace Cert.ConvBwdFinal
open Cert.GateFinal (arg half_eq c_eq k_eq)
open Cert.ConvBwdIdeal Cert.ConvBwdIdeal.Gen Cert.ConvBwdIdeal.Run

/-- Twice `√(2/π)` as the kernel writes it. -/
theorem c2_eq : Ideal.ofBits FTy.f32 1070350890#32 = ((6693141 / 4194304 : ℝ) : EReal) := by
  simp [Ideal.ofBits, Ideal.ieee]; norm_num; rw [← EReal.coe_mul]; norm_num

/-- The factor of the activation. -/
def th (a : EReal) : EReal := ((1 / 2 : ℝ) : EReal) * Ideal.tanh (arg a) + ((1 / 2 : ℝ) : EReal)

/-- The activation's slope, the kernel's way. -/
def slope (a : EReal) : EReal :=
  th a * (1 + (a - a * th a) * (a * a * ((241015141496493 / 1125899906842624 : ℝ) : EReal) + ((6693141 / 4194304 : ℝ) : EReal)))

/-- The gradient before the gate at a column of a block, over the block's row of the convolution and of the gradient after the gate. -/
def gradAt (b : Fin 512 → EReal) (d : Fin 256 → EReal) (l : Fin 512) : EReal :=
  if h : l.val < 256 then d ⟨l.val, h⟩ * b ⟨256 + l.val, by omega⟩ * slope (b l)
  else d ⟨l.val - 256, by omega⟩ * (b ⟨l.val - 256, by omega⟩ * th (b ⟨l.val - 256, by omega⟩))

section pay
variable (b : FVec Ideal S16x512 .bf16) (d : FVec Ideal S16x256 .bf16) (r : Fin 8) (l : Fin 512)

theorem pay7_at : k0_pay7 (F := Ideal) b d (ix2 r l)
    = gradAt (fun l => b (ix2 ⟨8 + r.val, by omega⟩ l)) (fun l => d (ix2 ⟨8 + r.val, by omega⟩ l)) l := by
  unfold gradAt
  pointwise [k0_pay7, k0_pay4, k0_pay5]
  rw [half_eq, c_eq, c2_eq]
  rfl

/-- The gradient of a strip's first eight rows. -/
def low : FVec Ideal S8x512 .f32 :=
  k0_pay30 (k0_pay17 (k0_pay4 b)) (k0_pay18 (k0_pay5 d)) (k0_pay19 (k0_pay4 b)) (k0_pay20 (k0_pay4 b) (k0_pay5 d)) (k0_pay21 (k0_pay4 b)) (Scalar.ofBits .f32 0x3F800000#32)

theorem low_at : low b d (ix2 r l) = gradAt (fun l => b (ix2 ⟨r.val, by omega⟩ l)) (fun l => d (ix2 ⟨r.val, by omega⟩ l)) l := by
  unfold gradAt
  pointwise [low, k0_pay30, k0_pay17, k0_pay18, k0_pay19, k0_pay20, k0_pay21, k0_pay4, k0_pay5]
  rw [half_eq, c_eq, c2_eq]
  rfl

theorem below7 : ∀ r : Fin 8, IntOp.cmpi .sge (BitVec.ofNat 32 r.val) 7#32 = if r.val = 7 then 1#1 else 0#1 := by decide

theorem below6 : ∀ r : Fin 8, IntOp.cmpi .sge (BitVec.ofNat 32 r.val) 6#32 = if 6 ≤ r.val then 1#1 else 0#1 := by decide

theorem roll7 (x : FVec Ideal S8x512 .f32) (r : Fin 8) (l : Fin 512) :
    dynamicRotate 0 7#32 none x rotates_S8x512_d0 (ix2 r l) = x (ix2 ⟨(r.val + 1) % 8, by omega⟩ l) := by
  pointwise []
  exact congrArg (fun a => x (ix2 a l)) (Fin.ext (by dsimp only; omega))

theorem roll6 (x : FVec Ideal S8x512 .f32) (r : Fin 8) (l : Fin 512) :
    dynamicRotate 0 6#32 none x rotates_S8x512_d0 (ix2 r l) = x (ix2 ⟨(r.val + 2) % 8, by omega⟩ l) := by
  pointwise []
  exact congrArg (fun a => x (ix2 a l)) (Fin.ext (by dsimp only; omega))

theorem roll1 (x : FVec Ideal S8x512 .f32) (r : Fin 8) (l : Fin 512) :
    dynamicRotate 0 1#32 none x rotates_S8x512_d0 (ix2 r l) = x (ix2 ⟨(r.val + 7) % 8, by omega⟩ l) := by
  pointwise []
  exact congrArg (fun a => x (ix2 a l)) (Fin.ext (by dsimp only; omega))

variable (n1 n2 u1 u2 : FVec Ideal S8x512 .f32)

/-- The row below: the next eight rows' first one below the last row, else the same eight rows' next. -/
theorem pay10_at : k0_pay10 (F := Ideal) rows n1 u1 (ix2 r l) = if r.val = 7 then n1 (ix2 r l) else u1 (ix2 r l) := by
  pointwise [k0_pay10, rows]
  rw [below7 r]
  by_cases h : r.val = 7 <;> simp [h, Scalar.select]

theorem pay11_at : k0_pay11 (F := Ideal) rows n2 u2 (ix2 r l) = if 6 ≤ r.val then n2 (ix2 r l) else u2 (ix2 r l) := by
  pointwise [k0_pay11, rows]
  rw [below6 r]
  by_cases h : 6 ≤ r.val <;> simp [h, Scalar.select]

/-- The sums' terms. -/
theorem add2 (u : FVec Ideal S16x512 .f32) (a n v : FVec Ideal S8x512 .f32) (p q r' s' : FVec Ideal S8x256 .f32) (e : FVec Ideal S8x256 .f32) (o : EReal) :
    k0_pay35 (F := Ideal) u v (k0_pay13 rows n a u v) p q r' s' e o (ix2 r l)
      = a (ix2 r l) + k0_pay11 rows n v (ix2 r l) * u (ix2 ⟨8 + r.val, by omega⟩ l)
        + k0_pay11 rows v (dynamicRotate 0 6#32 none (k0_pay30 p q r' s' e o) rotates_S8x512_d0) (ix2 r l) * u (ix2 ⟨r.val, by omega⟩ l) := by
  have h : k0_pay34 (F := Ideal) v p q r' s' e o = k0_pay11 rows v (dynamicRotate 0 6#32 none (k0_pay30 p q r' s' e o) rotates_S8x512_d0) := rfl
  rw [← h]
  pointwise [k0_pay35, k0_pay13]

theorem add1 (u : FVec Ideal S16x512 .f32) (a n v : FVec Ideal S8x512 .f32) (p q r' s' : FVec Ideal S8x256 .f32) (e : FVec Ideal S8x256 .f32) (o : EReal) :
    k0_pay36 (F := Ideal) u v (k0_pay14 rows n a u v) p q r' s' e o (ix2 r l)
      = a (ix2 r l) + k0_pay10 rows n v (ix2 r l) * u (ix2 ⟨8 + r.val, by omega⟩ l)
        + k0_pay10 rows v (dynamicRotate 0 7#32 none (k0_pay30 p q r' s' e o) rotates_S8x512_d0) (ix2 r l) * u (ix2 ⟨r.val, by omega⟩ l) := by
  have h : k0_pay33 (F := Ideal) v p q r' s' e o = k0_pay10 rows v (dynamicRotate 0 7#32 none (k0_pay30 p q r' s' e o) rotates_S8x512_d0) := rfl
  rw [← h]
  pointwise [k0_pay36, k0_pay14]

theorem add0 (u : FVec Ideal S16x512 .f32) (a v : FVec Ideal S8x512 .f32) (p q r' s' : FVec Ideal S8x256 .f32) (e : FVec Ideal S8x256 .f32) (o : EReal) :
    k0_pay37 (F := Ideal) u (k0_pay15 a u v) p q r' s' e o (ix2 r l)
      = a (ix2 r l) + v (ix2 r l) * u (ix2 ⟨8 + r.val, by omega⟩ l) + k0_pay30 p q r' s' e o (ix2 r l) * u (ix2 ⟨r.val, by omega⟩ l) := by
  pointwise [k0_pay37, k0_pay15]

theorem addb (a v : FVec Ideal S8x512 .f32) (p q r' s' : FVec Ideal S8x256 .f32) (e : FVec Ideal S8x256 .f32) (o : EReal) :
    k0_pay38 (F := Ideal) (k0_pay16 a v) p q r' s' e o (ix2 r l) = a (ix2 r l) + v (ix2 r l) + k0_pay30 p q r' s' e o (ix2 r l) := by
  pointwise [k0_pay38, k0_pay16]

theorem pay6_at (u : FVec Ideal S16x512 .bf16) (i : Fin 16) : k0_pay6 (F := Ideal) u (ix2 i l) = u (ix2 i l) := by
  pointwise [k0_pay6]

end pay

section strip
variable (da : FVec Ideal S688x256 .bf16) (cv x : FVec Ideal S688x512 .bf16) (s : FVec Ideal S8x512 .f32)

/-- The gradient before the gate at a row of the tile, then the eight rows handed on from the tile below. -/
def grad (n : ℕ) (l : Fin 512) : EReal :=
  if h : n < 688 then gradAt (fun l => cv (ix2 ⟨n, h⟩ l)) (fun l => da (ix2 ⟨n, h⟩ l)) l
  else if h : n < 696 then s (ix2 ⟨n - 688, by omega⟩ l) else 0

def xAt (n : ℕ) (l : Fin 512) : EReal := if h : n < 688 then x (ix2 ⟨n, h⟩ l) else 0

variable (k : Fin k0_t1_loop.trips) (r : Fin 8) (l : Fin 512)

abbrev strip (cv : FVec Ideal S688x512 .bf16) : FVec Ideal S16x512 .bf16 := wide (F := Ideal) cv k

abbrev gate (da : FVec Ideal S688x256 .bf16) : FVec Ideal S16x256 .bf16 := half (F := Ideal) da k

/-- A strip's first row. -/
def base : ℕ := (42 - k.val) * 16

theorem base_le : base k + 16 ≤ 688 := by unfold base; omega

theorem wide_at (i : Fin 16) (l : Fin 512) :
    strip k cv (ix2 i l) = cv (ix2 ⟨base k + i.val, by have := base_le k; omega⟩ l) := by
  unfold strip wide View.ld
  refine congrArg cv ?_
  funext a
  fin_cases a
  · apply Fin.ext
    simp [Rect.unit, off1_eq, base]
  · apply Fin.ext
    simp [Rect.unit, off1_eq]

theorem half_at (i : Fin 16) (l : Fin 256) :
    gate k da (ix2 i l) = da (ix2 ⟨base k + i.val, by have := base_le k; omega⟩ l) := by
  unfold gate half View.ld
  refine congrArg da ?_
  funext a
  fin_cases a
  · apply Fin.ext
    simp [Rect.unit, off2_eq, base]
  · apply Fin.ext
    simp [Rect.unit, off2_eq]

theorem hi_grad : k0_pay7 (F := Ideal) (strip k cv) (gate k da) (ix2 r l) = grad da cv s (base k + 8 + r.val) l := by
  have := base_le k
  rw [pay7_at, grad, dif_pos (by omega)]
  simp only [wide_at, half_at, Nat.add_assoc]

theorem lo_grad : low (strip k cv) (gate k da) (ix2 r l) = grad da cv s (base k + r.val) l := by
  have := base_le k
  rw [low_at, grad, dif_pos (by omega)]
  simp only [wide_at, half_at]

/-- The rows below a strip's, as the loop carries them. -/
def Below (n : ℕ) (a : Carried Ideal) : Prop :=
  ∀ (r : Fin 8) (l : Fin 512), a.1 (ix2 r l) = grad da cv s (n + (r.val + 1) % 8) l ∧ a.2.1 (ix2 r l) = grad da cv s (n + (r.val + 2) % 8) l

variable (a : Carried Ideal) (ha : Below da cv s (base k + 16) a)
include ha

theorem hi1 : k0_pay10 (F := Ideal) rows a.1 (k0_pay8 (strip k cv) (gate k da)) (ix2 r l) = grad da cv s (base k + 8 + r.val + 1) l := by
  rw [pay10_at]
  by_cases h : r.val = 7
  · rw [if_pos h, (ha r l).1]; congr 1; omega
  · rw [if_neg h, k0_pay8, roll7, hi_grad da cv s]; congr 1; dsimp only; omega

theorem hi2 : k0_pay11 (F := Ideal) rows a.2.1 (k0_pay9 (strip k cv) (gate k da)) (ix2 r l) = grad da cv s (base k + 8 + r.val + 2) l := by
  rw [pay11_at]
  by_cases h : 6 ≤ r.val
  · rw [if_pos h, (ha r l).2]; congr 1; omega
  · rw [if_neg h, k0_pay9, roll6, hi_grad da cv s]; congr 1; dsimp only; omega

omit ha

theorem lo1 : k0_pay10 (F := Ideal) rows (k0_pay8 (strip k cv) (gate k da)) (dynamicRotate 0 7#32 none (low (strip k cv) (gate k da)) rotates_S8x512_d0) (ix2 r l)
    = grad da cv s (base k + r.val + 1) l := by
  rw [pay10_at]
  by_cases h : r.val = 7
  · rw [if_pos h, k0_pay8, roll7, hi_grad da cv s]; congr 1; dsimp only; omega
  · rw [if_neg h, roll7, lo_grad da cv s]; congr 1; dsimp only; omega

theorem lo2 : k0_pay11 (F := Ideal) rows (k0_pay9 (strip k cv) (gate k da)) (dynamicRotate 0 6#32 none (low (strip k cv) (gate k da)) rotates_S8x512_d0) (ix2 r l)
    = grad da cv s (base k + r.val + 2) l := by
  rw [pay11_at]
  by_cases h : 6 ≤ r.val
  · rw [if_pos h, k0_pay9, roll6, hi_grad da cv s]; congr 1; dsimp only; omega
  · rw [if_neg h, roll6, lo_grad da cv s]; congr 1; dsimp only; omega

theorem wide_x (i : Fin 16) (n : ℕ) (e : n = base k + i.val) : strip k x (ix2 i l) = xAt x n l := by
  have := base_le k
  rw [wide_at, xAt, dif_pos (by omega)]
  subst e
  rfl

/-- What a strip carries on, -/
theorem next_below : Below da cv s (base k) (next da cv x k a) := by
  intro r l
  constructor
  · refine Eq.trans (roll7 (low (strip k cv) (gate k da)) r l) ?_
    rw [lo_grad da cv s]
  · refine Eq.trans (roll6 (low (strip k cv) (gate k da)) r l) ?_
    rw [lo_grad da cv s]

include ha

/-- and what it adds to the sums. -/
theorem next_sums : (next da cv x k a).2.2.1 (ix2 r l) = a.2.2.1 (ix2 r l) + grad da cv s (base k + 8 + r.val + 2) l * xAt x (base k + 8 + r.val) l
        + grad da cv s (base k + r.val + 2) l * xAt x (base k + r.val) l
    ∧ (next da cv x k a).2.2.2.1 (ix2 r l) = a.2.2.2.1 (ix2 r l) + grad da cv s (base k + 8 + r.val + 1) l * xAt x (base k + 8 + r.val) l
        + grad da cv s (base k + r.val + 1) l * xAt x (base k + r.val) l
    ∧ (next da cv x k a).2.2.2.2.1 (ix2 r l) = a.2.2.2.2.1 (ix2 r l) + grad da cv s (base k + 8 + r.val) l * xAt x (base k + 8 + r.val) l
        + grad da cv s (base k + r.val) l * xAt x (base k + r.val) l
    ∧ (next da cv x k a).2.2.2.2.2 (ix2 r l) = a.2.2.2.2.2 (ix2 r l) + grad da cv s (base k + 8 + r.val) l + grad da cv s (base k + r.val) l := by
  have eh := (pay6_at l (strip k x) ⟨8 + r.val, by omega⟩).trans (wide_x x k l (⟨8 + r.val, by omega⟩ : Fin 16) (base k + 8 + r.val) (by dsimp only; omega))
  have el := (pay6_at l (strip k x) ⟨r.val, by omega⟩).trans (wide_x x k l (⟨r.val, by omega⟩ : Fin 16) (base k + r.val) rfl)
  refine ⟨?_, ?_, ?_, ?_⟩
  · rw [← hi2 da cv s k r l a ha, ← lo2 da cv s k r l, ← eh, ← el]
    exact add2 r l _ _ _ _ _ _ _ _ _ _
  · rw [← hi1 da cv s k r l a ha, ← lo1 da cv s k r l, ← eh, ← el]
    exact add1 r l _ _ _ _ _ _ _ _ _ _
  · rw [← hi_grad da cv s k r l, ← lo_grad da cv s k r l, ← eh, ← el]
    exact add0 r l _ _ _ _ _ _ _ _ _
  · rw [← hi_grad da cv s k r l, ← lo_grad da cv s k r l]
    exact addb r l _ _ _ _ _ _ _ _

end strip

end Cert.ConvBwdFinal
end
-- ==== Proof.ConvBwdTile.lean ====
module

public import proofs.«01_k».proof.Proof.ConvBwdStrip

/-! The loop's values over a whole row tile: the rows it stores, the sums it ends with, and the rows it hands on. -/

@[expose] public section

set_option maxRecDepth 16384

noncomputable section
open Idealize.ShloMosaic Idealize.ShloMosaic.TcCoe Idealize.SL.Sem
namespace Cert.ConvBwdFinal
open Cert.ConvBwdIdeal Cert.ConvBwdIdeal.Gen Cert.ConvBwdIdeal.Run

section pay
variable (l : Fin 512) (w0 w1 w2 : FVec Ideal S1x512 .f32)

theorem pay12_at (r : Fin 8) (n1 n2 v u1 u2 : FVec Ideal S8x512 .f32) :
    k0_pay12 (F := Ideal) (k0_pay24 w0) (k0_pay25 w1) (k0_pay26 w2) rows n1 n2 v u1 u2 (ix2 r l)
      = v (ix2 r l) * w2 (ix2 0 l) + k0_pay10 rows n1 u1 (ix2 r l) * w1 (ix2 0 l) + k0_pay11 rows n2 u2 (ix2 r l) * w0 (ix2 0 l) := by
  pointwise [k0_pay12, k0_pay24, k0_pay25, k0_pay26]

theorem pay39_at (i : Fin 16) (v u1 u2 : FVec Ideal S8x512 .f32) (p q r' s' : FVec Ideal S8x256 .f32) (e : FVec Ideal S8x256 .f32) (o : EReal) :
    k0_pay39 (F := Ideal) w0 w1 w2 u1 u2 v p q r' s' e o (ix2 i l)
      = if h : i.val < 8 then k0_pay30 p q r' s' e o (ix2 ⟨i.val, h⟩ l) * w2 (ix2 0 l)
          + k0_pay10 rows u1 (dynamicRotate 0 7#32 none (k0_pay30 p q r' s' e o) rotates_S8x512_d0) (ix2 ⟨i.val, h⟩ l) * w1 (ix2 0 l)
          + k0_pay11 rows u2 (dynamicRotate 0 6#32 none (k0_pay30 p q r' s' e o) rotates_S8x512_d0) (ix2 ⟨i.val, h⟩ l) * w0 (ix2 0 l)
        else v (ix2 ⟨i.val - 8, by omega⟩ l) := by
  have h1 : k0_pay33 (F := Ideal) u1 p q r' s' e o = k0_pay10 rows u1 (dynamicRotate 0 7#32 none (k0_pay30 p q r' s' e o) rotates_S8x512_d0) := rfl
  have h2 : k0_pay34 (F := Ideal) u2 p q r' s' e o = k0_pay11 rows u2 (dynamicRotate 0 6#32 none (k0_pay30 p q r' s' e o) rotates_S8x512_d0) := rfl
  rw [← h1, ← h2]
  pointwise [k0_pay39, k0_pay24, k0_pay25, k0_pay26]

end pay

variable (da : FVec Ideal S688x256 .bf16) (cv x : FVec Ideal S688x512 .bf16) (s : FVec Ideal S8x512 .f32)

/-- The gradient of the convolution's input at a row: its own gradient and the two rows' below, through the three taps. -/
def tapped (w0 w1 w2 : FVec Ideal S1x512 .f32) (n : ℕ) (l : Fin 512) : EReal :=
  grad da cv s n l * w2 (ix2 0 l) + grad da cv s (n + 1) l * w1 (ix2 0 l) + grad da cv s (n + 2) l * w0 (ix2 0 l)

theorem stored_at (w0 w1 w2 : FVec Ideal S1x512 .f32) (k : Fin k0_t1_loop.trips) (a : Carried Ideal) (ha : Below da cv s (base k + 16) a)
    (i : Fin 16) (l : Fin 512) : stored (F := Ideal) da cv w0 w1 w2 k a (ix2 i l) = tapped da cv s w0 w1 w2 (base k + i.val) l := by
  refine (pay39_at l w0 w1 w2 i _ _ _ _ _ _ _ _ _).trans ?_
  unfold tapped
  by_cases h : i.val < 8
  · rw [dif_pos h]
    exact congrArg₂ (fun a b : EReal => a + b) (congrArg₂ (fun a b : EReal => a + b)
      (congrArg (fun a : EReal => a * w2 (ix2 0 l)) (lo_grad da cv s k ⟨i.val, h⟩ l))
      (congrArg (fun a : EReal => a * w1 (ix2 0 l)) (lo1 da cv s k ⟨i.val, h⟩ l)))
      (congrArg (fun a : EReal => a * w0 (ix2 0 l)) (lo2 da cv s k ⟨i.val, h⟩ l))
  · rw [dif_neg h, pay12_at, hi1 da cv s k _ l a ha, hi2 da cv s k _ l a ha, hi_grad da cv s k]
    have e : base k + 8 + (i.val - 8) = base k + i.val := by omega
    dsimp only
    rw [e]

theorem start_below : Below da cv s 688 (start (F := Ideal) s) := by
  intro r l
  constructor
  · refine (roll7 s r l).trans ?_
    rw [grad, dif_neg (by omega), dif_pos (by omega)]
    congr 2
    exact Fin.ext (by dsimp only; omega)
  · refine (roll6 s r l).trans ?_
    rw [grad, dif_neg (by omega), dif_pos (by omega)]
    congr 2
    exact Fin.ext (by dsimp only; omega)

/-- What the loop carries after some strips: the rows below. -/
theorem carried_below (n : ℕ) (hn : n ≤ 43) : Below da cv s (688 - 16 * n) (carried (F := Ideal) da cv x (start s) n) := by
  induction n with
  | zero => exact start_below da cv s
  | succ n ih =>
    have ht := trips_eq
    have e := carried_succ (F := Ideal) da cv x ⟨n, by omega⟩ (start s)
    dsimp only at e
    rw [e]
    have hb : base ⟨n, by omega⟩ = 688 - 16 * (n + 1) := by unfold base; dsimp only; omega
    rw [← hb]
    exact next_below da cv x s _ _

theorem below_at (k : Fin k0_t1_loop.trips) : Below da cv s (base k + 16) (carried (F := Ideal) da cv x (start s) k.val) := by
  have ht := trips_eq
  have := k.isLt
  have hb : base k + 16 = 688 - 16 * k.val := by unfold base; omega
  rw [hb]
  exact carried_below da cv x s k.val (by omega)

/-- The rows the loop stores. -/
theorem tile_at (w : FVec Ideal S8x512 .f32) (r : Fin 688) (l : Fin 512) :
    tile (F := Ideal) da cv x w s (ix2 r l) = tapped da cv s (row0 (F := Ideal) w) (row1 (F := Ideal) w) (row2 (F := Ideal) w) r.val l := by
  unfold tile out
  refine (stored_at da cv s _ _ _ (at_ r) _ (below_at da cv x s (at_ r)) _ _).trans ?_
  congr 1
  show (42 - (42 - r.val / 16)) * 16 + r.val % 16 = r.val
  omega

/-- Eight more terms at the front of a run of terms. -/
theorem sum_eight (f : ℕ → EReal) (n m : ℕ) (h : n + 8 ≤ m) : ∑ r : Fin 8, f (n + r.val) + ∑ j ∈ Finset.Ico (n + 8) m, f j = ∑ j ∈ Finset.Ico n m, f j := by
  rw [← Finset.sum_Ico_consecutive f (Nat.le_add_right n 8) h]
  congr 1
  rw [Finset.sum_Ico_eq_sum_range, Nat.add_sub_cancel_left, Finset.sum_range]

/-- One step of a sum over the rows below a strip. -/
theorem sum_step (f : ℕ → EReal) (a b : Fin 8 → EReal) (n : ℕ) (hn : n + 16 ≤ 688) (ha : ∑ r, a r = ∑ j ∈ Finset.Ico (n + 16) 688, f j)
    (hb : ∀ r, b r = a r + f (n + 8 + r.val) + f (n + r.val)) : ∑ r, b r = ∑ j ∈ Finset.Ico n 688, f j := by
  simp only [hb]
  rw [Finset.sum_add_distrib, Finset.sum_add_distrib, ha, add_comm, ← sum_eight f n 688 (by omega), ← sum_eight f (n + 8) 688 (by omega),
    add_comm (∑ j ∈ Finset.Ico (n + 16) 688, f j)]

theorem sum_zero (a : Fin 8 → EReal) (f : ℕ → EReal) (h : ∀ r, a r = 0) : ∑ r, a r = ∑ j ∈ Finset.Ico 688 688, f j := by
  simp [h]

/-- The four sums' column totals over the rows from `n` on. -/
structure Sums (l : Fin 512) (n : ℕ) (a : Carried Ideal) : Prop where
  two : ∑ r : Fin 8, (a.2.2.1 (ix2 r l) : EReal) = ∑ j ∈ Finset.Ico n 688, grad da cv s (j + 2) l * xAt x j l
  one : ∑ r : Fin 8, (a.2.2.2.1 (ix2 r l) : EReal) = ∑ j ∈ Finset.Ico n 688, grad da cv s (j + 1) l * xAt x j l
  nil : ∑ r : Fin 8, (a.2.2.2.2.1 (ix2 r l) : EReal) = ∑ j ∈ Finset.Ico n 688, grad da cv s j l * xAt x j l
  all : ∑ r : Fin 8, (a.2.2.2.2.2 (ix2 r l) : EReal) = ∑ j ∈ Finset.Ico n 688, grad da cv s j l

theorem pay27_at (r : Fin 8) (l : Fin 512) : k0_pay27 (F := Ideal) (ix2 r l) = 0 := by
  pointwise [k0_pay27]

theorem carried_sums (l : Fin 512) (n : ℕ) (hn : n ≤ 43) : Sums da cv x s l (688 - 16 * n) (carried (F := Ideal) da cv x (start s) n) := by
  induction n with
  | zero =>
    exact ⟨sum_zero _ _ fun r => pay27_at r l, sum_zero _ _ fun r => pay27_at r l, sum_zero _ _ fun r => pay27_at r l, sum_zero _ _ fun r => pay27_at r l⟩
  | succ n ih =>
    have ht := trips_eq
    have ih := ih (by omega)
    have e := carried_succ (F := Ideal) da cv x ⟨n, by omega⟩ (start s)
    dsimp only at e
    have hb : base ⟨n, by omega⟩ = 688 - 16 * (n + 1) := by unfold base; dsimp only; omega
    have hb' : 688 - 16 * n = base ⟨n, by omega⟩ + 16 := by rw [hb]; omega
    have hs := fun r => next_sums da cv x s ⟨n, by omega⟩ r l _ (below_at da cv x s ⟨n, by omega⟩)
    rw [e, ← hb]
    rw [hb'] at ih
    have h16 := base_le ⟨n, by omega⟩
    exact ⟨sum_step _ _ _ _ h16 ih.two fun r => (hs r).1, sum_step _ _ _ _ h16 ih.one fun r => (hs r).2.1,
      sum_step _ _ _ _ h16 ih.nil fun r => (hs r).2.2.1, sum_step _ _ _ _ h16 ih.all fun r => (hs r).2.2.2⟩

theorem final_sums (l : Fin 512) : Sums da cv x s l 0 (final (F := Ideal) da cv x s) := by
  have h := carried_sums da cv x s l 43 (Nat.le_refl _)
  rwa [← trips_eq] at h

/-- The rows handed on are the tile's first. -/
theorem handed_at (r : Fin 8) (l : Fin 512) : handed (final (F := Ideal) da cv x s) (ix2 r l) = grad da cv s r.val l := by
  have h := carried_below da cv x s 43 (Nat.le_refl _)
  have e : handed (final (F := Ideal) da cv x s) (ix2 r l) = (final (F := Ideal) da cv x s).1 (ix2 ⟨(r.val + 7) % 8, by omega⟩ l) := by
    unfold handed
    pointwise [k0_pay40]
    exact congrArg (fun a => (final (F := Ideal) da cv x s).1 (ix2 a l)) (Fin.ext (by dsimp only; omega))
  rw [e]
  unfold final
  rw [trips_eq, (h _ l).1]
  congr 1
  dsimp only
  omega

end Cert.ConvBwdFinal
end
-- ==== Proof.ConvBwdArrays.lean ====
module

public import proofs.«01_k».proof.Proof.ConvBwdTile

/-! The arrays the gradient call leaves, by rows of the whole sequence: a row's gradient before the gate, its way back through the taps,
    and the four sums over all rows. -/

@[expose] public section

set_option maxRecDepth 16384

noncomputable section
open Idealize.ShloMosaic Idealize.ShloMosaic.TcCoe Idealize.SL.Sem
open Idealize.ShloMosaic.Pipeline (Dat)
namespace Cert.ConvBwdFinal
open Cert.ConvBwdIdeal Cert.ConvBwdIdeal.Gen Cert.ConvBwdIdeal.Run

/-- The four sums in the first four of eight rows, zero in the others. -/
def four (a b d e : EReal) (r : Fin 8) : EReal := if r.val = 0 then a else if r.val = 1 then b else if r.val = 2 then d else if r.val = 3 then e else 0

theorem put_row (x : FVec Ideal S8x512 .f32) (w : FVec Ideal S1x512 .f32) (k : ℕ) (r : Fin 8) (l : Fin 512) :
    VecWindow.put x ![k, 0] S1x512.size w (ix2 r l) = if r.val = k then w (ix2 0 l) else x (ix2 r l) := by
  unfold VecWindow.put
  by_cases h : r.val = k
  · rw [if_pos h, dif_pos (by
      intro a
      fin_cases a
      · exact ⟨by show k ≤ r.val; omega, by show r.val < k + 1; omega⟩
      · exact ⟨Nat.zero_le _, by show l.val < 0 + 512; omega⟩)]
    refine congrArg w ?_
    funext a
    fin_cases a
    · exact Fin.ext (by show r.val - k = 0; omega)
    · exact Fin.ext (by show l.val - 0 = l.val; omega)
  · rw [if_neg h, dif_neg]
    intro h'
    have h0 : k ≤ r.val ∧ r.val < k + 1 := h' 0
    omega

section pay
variable (a : FVec Ideal S8x512 .f32) (w : FVec Ideal S1x512 .f32) (l : Fin 512)

theorem pay41_at : k0_pay41 (F := Ideal) a w (ix2 0 l) = w (ix2 0 l) + ∑ r : Fin 8, (a (ix2 r l) : EReal) := by
  pointwise [k0_pay41]

theorem pay1_at : k0_pay1 (F := Ideal) a (k0_pay42 w) (ix2 0 l) = w (ix2 0 l) + ∑ r : Fin 8, (a (ix2 r l) : EReal) := by
  pointwise [k0_pay1, k0_pay42]

theorem pay2_at : k0_pay2 (F := Ideal) a w (ix2 0 l) = w (ix2 0 l) + ∑ r : Fin 8, (a (ix2 r l) : EReal) := by
  pointwise [k0_pay2]

theorem pay3_at : k0_pay3 (F := Ideal) a w (ix2 0 l) = w (ix2 0 l) + ∑ r : Fin 8, (a (ix2 r l) : EReal) := by
  pointwise [k0_pay3]

end pay

theorem row_at (w : FVec Ideal S8x512 .f32) (k : Fin 8) (h : ∀ a, (![k.val, 0] : Fin 2 → ℕ) a + S1x512.size a ≤ S8x512.size a) (l : Fin 512) :
    w ((Rect.unit (s := S8x512) ![k.val, 0] ![1, 512] h).emb (ix2 (0 : Fin 1) l : S1x512.Idx)) = w (ix2 k l) := by
  refine congrArg w ?_
  funext a
  fin_cases a
  · apply Fin.ext
    show k.val + 1 * 0 = k.val; omega
  · apply Fin.ext
    show 0 + 1 * l.val = l.val; omega

theorem sums_at (o : FVec Ideal S8x512 .f32) (a : Carried Ideal) (r : Fin 8) (l : Fin 512) :
    sums (F := Ideal) o a (ix2 r l) = o (ix2 r l) + four (∑ r : Fin 8, (a.2.2.1 (ix2 r l) : EReal)) (∑ r : Fin 8, (a.2.2.2.1 (ix2 r l) : EReal))
      (∑ r : Fin 8, (a.2.2.2.2.1 (ix2 r l) : EReal)) (∑ r : Fin 8, (a.2.2.2.2.2 (ix2 r l) : EReal)) r := by
  unfold sums four
  refine (put_row _ _ 3 r l).trans ?_
  by_cases h3 : r.val = 3
  · obtain rfl : r = 3 := Fin.ext h3
    exact (pay3_at _ _ l).trans (congrArg₂ (fun a b : EReal => a + b) (row_at o 3 inb_S8x512_S1x512_3_0 l) rfl)
  rw [if_neg h3]
  refine (put_row _ _ 2 r l).trans ?_
  by_cases h2 : r.val = 2
  · obtain rfl : r = 2 := Fin.ext h2
    exact (pay2_at _ _ l).trans (congrArg₂ (fun a b : EReal => a + b) (row_at o 2 inb_S8x512_S1x512_2_0 l) rfl)
  rw [if_neg h2]
  refine (put_row _ _ 1 r l).trans ?_
  by_cases h1 : r.val = 1
  · obtain rfl : r = 1 := Fin.ext h1
    exact (pay1_at _ _ l).trans (congrArg₂ (fun a b : EReal => a + b) (row_at o 1 inb_S8x512_S1x512_1_0 l) rfl)
  rw [if_neg h1]
  refine (put_row _ _ 0 r l).trans ?_
  by_cases h0 : r.val = 0
  · obtain rfl : r = 0 := Fin.ext h0
    exact (pay41_at _ _ l).trans (congrArg₂ (fun a b : EReal => a + b) (row_at o 0 inb_S8x512_S1x512_0_0 l) rfl)
  rw [if_neg h0, if_neg h0, if_neg h1, if_neg h2, if_neg h3, add_zero]

theorem four_add (a b d e a' b' d' e' : EReal) (r : Fin 8) : four a b d e r + four a' b' d' e' r = four (a + a') (b + b') (d + d') (e + e') r := by
  unfold four
  split_ifs <;> simp

/-! ## The blocks -/

theorem idx : ∀ t : Fin cfg0.N, win0_0.index t = ![11 - t.val % 12, t.val / 12] ∧ win0_1.index t = ![11 - t.val % 12, t.val / 12]
    ∧ win0_2.index t = ![11 - t.val % 12, t.val / 12] ∧ win0_3.index t = ![0, t.val / 12]
    ∧ win0_4.index t = ![11 - t.val % 12, t.val / 12] ∧ win0_5.index t = ![0, t.val / 12] :=
  (by decide +kernel : ∀ t : Fin grid0.N, _)

variable (m : (ℓ : Loc nD τ sig) → Buf (Elt Ideal) ℓ) (c : Dev nD) (t : Fin cfg0.N)

/-- The tile's first row, and the block of columns. -/
def top : ℕ := (11 - t.val % 12) * 688

theorem top_le : top t + 688 ≤ 8256 := by unfold top; omega

def block : Fin 11 := ⟨t.val / 12, by have : t.val < 132 := t.isLt; omega⟩

abbrev inA : FVec Ideal S8256x2816 .bf16 := m ((c : Thread nD τ).loc main_arg0)

abbrev inU : FVec Ideal S8256x5632 .bf16 := m ((c : Thread nD τ).loc main_arg1)

abbrev inW : FVec Ideal S3x5632 .f32 := m ((c : Thread nD τ).loc main_arg2)

abbrev inB : FVec Ideal S5632 .f32 := m ((c : Thread nD τ).loc main_arg3)

/-- The convolution's lines. -/
abbrev lines : FVec Ideal S8256x5632 .bf16 := V m c main_v31

/-- The eight rows the call reads: the three weights, the bias, zeros. -/
abbrev taps : FVec Ideal S8x5632 .f32 := V m c main_v2

/-- A block's column in the arrays of the convolution, and in that of the gradient after the gate. -/
def col (j : Fin 11) (l : Fin 512) : Fin 5632 := ⟨j.val * 512 + l.val, by omega⟩

def colA (j : Fin 11) (l : Fin 256) : Fin 2816 := ⟨j.val * 256 + l.val, by omega⟩

theorem blk0 (r : Fin 688) (l : Fin 256) : (iblk m c 0 t : FVec Ideal S688x256 .bf16) (ix2 r l)
    = inA m c (ix2 ⟨top t + r.val, by have := top_le t; omega⟩ (colA (block t) l)) := by
  unfold inA
  rw [← V_main_arg0 m c]
  blk_ext [iblk, colA, top, block, idx t]

theorem blk1 (r : Fin 688) (l : Fin 512) : (iblk m c 1 t : FVec Ideal S688x512 .bf16) (ix2 r l)
    = lines m c (ix2 ⟨top t + r.val, by have := top_le t; omega⟩ (col (block t) l)) := by
  unfold lines
  blk_ext [iblk, col, top, block, idx t]

theorem blk2 (r : Fin 688) (l : Fin 512) : (iblk m c 2 t : FVec Ideal S688x512 .bf16) (ix2 r l)
    = inU m c (ix2 ⟨top t + r.val, by have := top_le t; omega⟩ (col (block t) l)) := by
  unfold inU
  rw [← V_main_arg1 m c]
  blk_ext [iblk, col, top, block, idx t]

theorem blk3 (r : Fin 8) (l : Fin 512) : (iblk m c 3 t : FVec Ideal S8x512 .f32) (ix2 r l) = taps m c (ix2 r (col (block t) l)) := by
  unfold taps
  blk_ext [iblk, col, block, idx t]

/-- The gradient before the gate at a row of the sequence, zero past its end. -/
def gradient (n : ℕ) (j : Fin 11) (l : Fin 512) : EReal :=
  if h : n < 8256 then gradAt (fun l => lines m c (ix2 ⟨n, h⟩ (col j l))) (fun l => inA m c (ix2 ⟨n, h⟩ (colA j l))) l else 0

def input (n : ℕ) (j : Fin 11) (l : Fin 512) : EReal := if h : n < 8256 then inU m c (ix2 ⟨n, h⟩ (col j l)) else 0

theorem grad_eq (s : FVec Ideal S8x512 .f32) (hs : ∀ (r : Fin 8) (l : Fin 512), s (ix2 r l) = gradient m c (top t + 688 + r.val) (block t) l)
    (n : ℕ) (hn : n < 696) (l : Fin 512) : grad (iblk m c 0 t) (iblk m c 1 t) s n l = gradient m c (top t + n) (block t) l := by
  have := top_le t
  unfold grad
  by_cases h : n < 688
  · rw [dif_pos h, gradient, dif_pos (by omega)]
    congr 1
    · funext l
      exact blk1 m c t ⟨n, h⟩ l
    · funext l
      exact blk0 m c t ⟨n, h⟩ l
  · rw [dif_neg h, dif_pos hn, hs]
    congr 1
    dsimp only
    omega

theorem xAt_eq (n : ℕ) (hn : n < 688) (l : Fin 512) : xAt (iblk m c 2 t) n l = input m c (top t + n) (block t) l := by
  have := top_le t
  rw [xAt, dif_pos hn, input, dif_pos (by omega)]
  exact blk2 m c t ⟨n, hn⟩ l

/-! ## The points in order -/

/-- The four sums over the rows from `n` on. -/
def totals (n : ℕ) (j : Fin 11) (l : Fin 512) : Fin 8 → EReal :=
  four (∑ i ∈ Finset.Ico n 8256, gradient m c (i + 2) j l * input m c i j l) (∑ i ∈ Finset.Ico n 8256, gradient m c (i + 1) j l * input m c i j l)
    (∑ i ∈ Finset.Ico n 8256, gradient m c i j l * input m c i j l) (∑ i ∈ Finset.Ico n 8256, gradient m c i j l)

/-- What the sums and the scratch hold once the rows from `n` on are done. -/
def Done (j : Fin 11) (n : ℕ) (o s : FVec Ideal S8x512 .f32) : Prop :=
  ∀ (r : Fin 8) (l : Fin 512), o (ix2 r l) = totals m c n j l r ∧ s (ix2 r l) = gradient m c (n + r.val) j l

theorem done_start (j : Fin 11) : Done m c j 8256 k0_pay22 k0_pay23 := by
  intro r l
  constructor
  · unfold totals four
    pointwise [k0_pay22]
    simp
  · rw [gradient, dif_neg (by omega)]
    pointwise [k0_pay23]

theorem shift (f g : ℕ → EReal) (n : ℕ) (hn : n + 688 ≤ 8256) (h : ∀ i, i < 688 → f i = g (n + i)) :
    ∑ i ∈ Finset.Ico (n + 688) 8256, g i + ∑ i ∈ Finset.Ico 0 688, f i = ∑ i ∈ Finset.Ico n 8256, g i := by
  rw [← Finset.sum_Ico_consecutive g (Nat.le_add_right n 688) hn, add_comm]
  congr 1
  rw [Finset.sum_Ico_eq_sum_range, Finset.sum_Ico_eq_sum_range, Nat.add_sub_cancel_left]
  refine Finset.sum_congr rfl fun i hi => ?_
  rw [Nat.zero_add, h i (by simpa using hi)]

theorem done_step (o s : FVec Ideal S8x512 .f32) (h : Done m c (block t) (top t + 688) o s) :
    Done m c (block t) (top t) (sums o (final (iblk m c 0 t) (iblk m c 1 t) (iblk m c 2 t) s)) (handed (final (iblk m c 0 t) (iblk m c 1 t) (iblk m c 2 t) s)) := by
  have hg := grad_eq m c t s fun r l => (h r l).2
  have hx := xAt_eq m c t
  intro r l
  constructor
  · have hs := final_sums (iblk m c 0 t) (iblk m c 1 t) (iblk m c 2 t) s l
    refine (sums_at o _ r l).trans ?_
    rw [(h r l).1, hs.two, hs.one, hs.nil, hs.all]
    unfold totals
    rw [four_add, shift _ _ _ (top_le t) fun i hi => ?_, shift _ _ _ (top_le t) fun i hi => ?_, shift _ _ _ (top_le t) fun i hi => ?_,
      shift _ _ _ (top_le t) fun i hi => ?_]
    · rw [hg _ (by omega)]
    · rw [hg _ (by omega), hx _ hi]
    · rw [hg _ (by omega), hx _ hi, ← Nat.add_assoc]
    · rw [hg _ (by omega), hx _ hi, ← Nat.add_assoc]
  · exact (handed_at _ _ _ s r l).trans (hg _ (by omega) l)

theorem done_before (h : t.val % 12 ≠ 0 → Done m c (block t) (top t + 688) (pair m c t.val).1 (pair m c t.val).2) :
    Done m c (block t) (top t + 688) (sumsAt (grid0.coords t) (pair m c t.val).1) (handedAt (grid0.coords t) (pair m c t.val).2) := by
  unfold sumsAt handedAt
  by_cases ht : t.val % 12 = 0
  · rw [if_pos ((first_iff t).mpr ht), if_pos ((first_iff t).mpr ht)]
    have e : top t + 688 = 8256 := by unfold top; omega
    rw [e]
    exact done_start m c (block t)
  · rw [if_neg fun e => ht ((first_iff t).mp e), if_neg fun e => ht ((first_iff t).mp e)]
    exact h ht

theorem done_after (n : ℕ) : ∀ t : Fin cfg0.N, t.val = n → Done m c (block t) (top t) (pair m c (t.val + 1)).1 (pair m c (t.val + 1)).2 := by
  induction n with
  | zero =>
    intro t ht
    rw [pair_succ]
    exact done_step m c t _ _ (done_before m c t fun h => absurd (by rw [ht]) h)
  | succ n ih =>
    intro t ht
    rw [pair_succ]
    refine done_step m c t _ _ (done_before m c t fun h => ?_)
    have hN := t.isLt
    have := ih ⟨n, by omega⟩ rfl
    have e1 : block ⟨n, by omega⟩ = block t := Fin.ext (by show n / 12 = t.val / 12; omega)
    have e2 : top ⟨n, by omega⟩ = top t + 688 := by unfold top; dsimp only; omega
    rw [e1, e2] at this
    rw [ht]
    exact this

theorem before (t : Fin cfg0.N) : Done m c (block t) (top t + 688) (sumsAt (grid0.coords t) (pair m c t.val).1) (handedAt (grid0.coords t) (pair m c t.val).2) := by
  refine done_before m c t fun h => ?_
  have hN := t.isLt
  have := done_after m c (t.val - 1) ⟨t.val - 1, by omega⟩ rfl
  have e0 : t.val - 1 + 1 = t.val := by omega
  have e1 : block ⟨t.val - 1, by omega⟩ = block t := Fin.ext (by show (t.val - 1) / 12 = t.val / 12; omega)
  have e2 : top ⟨t.val - 1, by omega⟩ = top t + 688 := by unfold top; dsimp only; omega
  dsimp only at this
  rwa [e0, e1, e2] at this

/-- A row of the gradient of the convolution's input. -/
def back (n : ℕ) (j : Fin 11) (l : Fin 512) : EReal :=
  gradient m c n j l * taps m c (ix2 2 (col j l)) + gradient m c (n + 1) j l * taps m c (ix2 1 (col j l)) + gradient m c (n + 2) j l * taps m c (ix2 0 (col j l))

theorem du_at (r : Fin 688) (l : Fin 512) : du (F := Ideal) m c t (ix2 r l) = back m c (top t + r.val) (block t) l := by
  have hg := grad_eq m c t _ fun r l => (before m c t r l).2
  refine (tile_at _ _ _ _ (iblk m c 3 t) r l).trans ?_
  unfold tapped back
  rw [hg _ (by omega), hg _ (by omega), hg _ (by omega)]
  rw [← blk3, ← blk3, ← blk3]
  exact congrArg₂ (fun a b : EReal => a + b) (congrArg₂ (fun a b : EReal => a + b)
    (congrArg (fun a : EReal => _ * a) (row_at _ 2 inb_S8x512_S1x512_2_0 l))
    (congrArg (fun a : EReal => _ * a) (row_at _ 1 inb_S8x512_S1x512_1_0 l)))
    (congrArg (fun a : EReal => _ * a) (row_at _ 0 inb_S8x512_S1x512_0_0 l))

end Cert.ConvBwdFinal
end
-- ==== Proof.ConvBwdReads.lean ====
module

public import Idealize.ShloMosaic.Lib.ReduceAll
public import proofs.«01_k».proof.Proof.ConvBwdArrays
public import proofs.«01_k».proof.Proof.Gen.ConvBwdRIdeal.Read

/-! The reference's gradient of the convolution and gate, read by rows: the slope of the activation over finite values, the way back
    through the taps, the sums over all rows. -/

@[expose] public section

set_option maxRecDepth 16384

noncomputable section
open Idealize.ShloMosaic Idealize.ShloMosaic.TcCoe Idealize.SL.Sem
namespace Cert.ConvBwdFinal
open Cert.GateFinal (arg arg_eq half_eq c_eq k_eq past past0 conv)
open Cert.ConvBwdRIdeal Cert.ConvBwdRIdeal.Read

theorem three_eq : Ideal.ofBits FTy.f32 1077936128#32 = ((3 : ℝ) : EReal) := by
  simp [Ideal.ofBits, Ideal.ieee]; norm_num; rw [← EReal.coe_mul]; norm_num

theorem th_eq (a : EReal) : ((1 / 2 : ℝ) : EReal) * (1 + Ideal.tanh (arg a)) = th a := by
  unfold th
  rw [EReal.left_distrib_of_nonneg_of_ne_top (EReal.coe_nonneg.2 (by norm_num)) (EReal.coe_ne_top _), mul_one, add_comm]

/-- The slope of the activation as the derivative of its formula, over finite values. -/
theorem slope_eq (a p t : ℝ) (ht : Ideal.tanh (arg a) = (t : EReal)) :
    (p : EReal) * th a + ((6693141 / 8388608 : ℝ) : EReal) * (((1 / 2 : ℝ) : EReal) * (a * p) * ((1 + (t : EReal)) * (1 - t)))
      + ((12003091 / 268435456 : ℝ) : EReal) * (((6693141 / 8388608 : ℝ) : EReal) * (((1 / 2 : ℝ) : EReal) * (a * p) * ((1 + (t : EReal)) * (1 - t))))
        * (((3 : ℝ) : EReal) * (a * a))
      = p * slope a := by
  unfold slope th
  rw [ht]
  norm_cast
  ring

variable (x0 : FVec Ideal S8256x2816 .bf16) (x1 : FVec Ideal S8256x5632 .bf16) (x2 : FVec Ideal S3x5632 .f32) (x3 : FVec Ideal S5632 .f32)

theorem conv_ref (r : Fin 8256) (l : Fin 5632) : val_main_v28 (F := Ideal) x1 x2 x3 (ix2 r l) = conv x1 x2 x3 r l :=
  Cert.GateFinal.ref27 x1 x2 x3 r l

variable (n : Fin 8256) (j : Fin 11) (l : Fin 256)

theorem ref31 : val_main_v31 (F := Ideal) x1 x2 x3 (ix3 n j l) = conv x1 x2 x3 n (col j ⟨l.val, by omega⟩) := by
  pointwise [val_main_v31, val_main_v30, val_main_v29]
  exact conv_ref x1 x2 x3 n _

theorem ref33 : val_main_v33 (F := Ideal) x1 x2 x3 (ix3 n j l) = conv x1 x2 x3 n (col j ⟨256 + l.val, by omega⟩) := by
  pointwise [val_main_v33, val_main_v32, val_main_v29]
  rw [conv_ref]
  unfold col
  congr 2
  dsimp only
  omega

theorem ref59 : val_main_v59 (F := Ideal) x0 (ix3 n j l) = x0 (ix2 n (colA j l)) := by
  pointwise [val_main_v59, val_main_v58]
  rfl

theorem ref44 (i : S8256x11x256.Idx) : val_main_v44 (F := Ideal) x1 x2 x3 i = Ideal.tanh (arg (val_main_v31 (F := Ideal) x1 x2 x3 i)) := by
  pointwise [val_main_v44, val_main_v43, val_main_v42, val_main_v41, val_main_v40, val_main_v39, val_main_v35, val_main_v34, val_main_cst_4, val_main_cst_3]
  rw [c_eq, k_eq, arg_eq]

theorem ref53 (i : S8256x11x256.Idx) : val_main_v53 (F := Ideal) x1 x2 x3 i = th (val_main_v31 (F := Ideal) x1 x2 x3 i) := by
  rw [← th_eq, ← ref44]
  pointwise [val_main_v53, val_main_v52, val_main_v51, val_main_v50, val_main_cst_7, val_main_cst_8]
  rw [half_eq]

theorem ref60 (i : S8256x11x256.Idx) : val_main_v60 (F := Ideal) x0 x1 x2 x3 i
    = val_main_v59 (F := Ideal) x0 i * (val_main_v31 (F := Ideal) x1 x2 x3 i * th (val_main_v31 (F := Ideal) x1 x2 x3 i)) := by
  rw [← ref53, mul_comm]
  pointwise [val_main_v60, val_main_v54]

theorem ref73 (i : S8256x11x256.Idx) (a g d : ℝ) (ha : val_main_v31 (F := Ideal) x1 x2 x3 i = (a : EReal))
    (hg : val_main_v33 (F := Ideal) x1 x2 x3 i = (g : EReal)) (hd : val_main_v59 (F := Ideal) x0 i = (d : EReal)) (t : ℝ)
    (ht : Ideal.tanh (arg a) = (t : EReal)) : val_main_v73 (F := Ideal) x0 x1 x2 x3 i = (d : EReal) * g * slope a := by
  rw [← EReal.coe_mul, ← slope_eq a (d * g) t ht, ← ht, ← ha, EReal.coe_mul, ← hg, ← hd, ← ref53, ← ref44]
  pointwise [val_main_v73, val_main_v72, val_main_v71, val_main_v70, val_main_v69, val_main_v68, val_main_v67, val_main_v66, val_main_v65, val_main_v64,
    val_main_v63, val_main_v62, val_main_v61, val_main_v49, val_main_v48, val_main_v47, val_main_v46, val_main_v45, val_main_v38, val_main_v37, val_main_v36,
    val_main_cst_2, val_main_cst_5, val_main_cst_6, val_main_cst_9, val_main_cst_10, val_main_cst_11]
  rw [half_eq, c_eq, k_eq, three_eq]

/-- A value that is a number. -/
def Fin' (a : EReal) : Prop := ∃ r : ℝ, a = (r : EReal)

theorem Fin'.add {a b : EReal} : Fin' a → Fin' b → Fin' (a + b) := by
  rintro ⟨x, rfl⟩ ⟨y, rfl⟩
  exact ⟨x + y, (EReal.coe_add x y).symm⟩

theorem Fin'.mul {a b : EReal} : Fin' a → Fin' b → Fin' (a * b) := by
  rintro ⟨x, rfl⟩ ⟨y, rfl⟩
  exact ⟨x * y, (EReal.coe_mul x y).symm⟩

theorem fin_past (h1 : ∀ i, Fin' (x1 i)) (k : ℕ) (l : Fin 5632) : Fin' (past x1 k n l) := by
  unfold past
  split_ifs
  · exact h1 _
  · exact ⟨0, rfl⟩

theorem fin_conv (h1 : ∀ i, Fin' (x1 i)) (h2 : ∀ i, Fin' (x2 i)) (h3 : ∀ i, Fin' (x3 i)) (l : Fin 5632) : Fin' (conv x1 x2 x3 n l) := by
  unfold conv
  exact (h3 _).add ((((fin_past x1 n h1 2 l).mul (h2 _)).add ((fin_past x1 n h1 1 l).mul (h2 _))).add ((h1 _).mul (h2 _)))

theorem fin_tanh (a : ℝ) : Fin' (Ideal.tanh (arg a)) := by
  unfold arg
  rw [← EReal.coe_mul, ← EReal.coe_mul, ← EReal.coe_add, ← EReal.coe_mul]
  exact ⟨_, rfl⟩

/-- The gradient before the gate at a row, zero past the end. -/
def wanted (n : ℕ) (j : Fin 11) (l : Fin 512) : EReal :=
  if h : n < 8256 then gradAt (fun l => conv x1 x2 x3 ⟨n, h⟩ (col j l)) (fun l => x0 (ix2 ⟨n, h⟩ (colA j l))) l else 0

theorem laid_low (c : Fin 5632) (hj : c.val / 512 = j.val) (hl : c.val % 256 = l.val) (hh : c.val / 256 % 2 = 0) :
    val_main_v79 (F := Ideal) x0 x1 x2 x3 (ix2 n c) = val_main_v73 (F := Ideal) x0 x1 x2 x3 (ix3 n j l) := by
  have ei (h h') : (ix3 n ⟨c.val / 512, h⟩ ⟨c.val % 256, h'⟩ : S8256x11x256.Idx) = ix3 n j l := by
    simp only [hj, hl]
  pointwise [val_main_v79, val_main_v78, val_main_v77, val_main_v76, val_main_v75, val_main_v74, val_main_cst_12, val_main_cst_13]
  simp only [ei, hh]
  have := c.isLt
  have hc : c.val / 512 < 11 := by omega
  have hd : c.val % 256 < 256 := by omega
  simp [hc, hd]

theorem laid_high (c : Fin 5632) (hj : c.val / 512 = j.val) (hl : c.val % 256 = l.val) (hh : c.val / 256 % 2 = 1) :
    val_main_v79 (F := Ideal) x0 x1 x2 x3 (ix2 n c) = val_main_v60 (F := Ideal) x0 x1 x2 x3 (ix3 n j l) := by
  have ei (h h') : (ix3 n ⟨c.val / 512, h⟩ ⟨c.val % 256, h'⟩ : S8256x11x256.Idx) = ix3 n j l := by
    simp only [hj, hl]
  pointwise [val_main_v79, val_main_v78, val_main_v77, val_main_v76, val_main_v75, val_main_v74, val_main_cst_12, val_main_cst_13]
  simp only [ei, hh]
  have := c.isLt
  have hc : c.val / 512 < 11 := by omega
  have hd : c.val % 256 < 256 := by omega
  simp [hc, hd]

theorem ref79 (h0 : ∀ i, Fin' (x0 i)) (h1 : ∀ i, Fin' (x1 i)) (h2 : ∀ i, Fin' (x2 i)) (h3 : ∀ i, Fin' (x3 i)) (l : Fin 512) :
    val_main_v79 (F := Ideal) x0 x1 x2 x3 (ix2 n (col j l)) = wanted x0 x1 x2 x3 n.val j l := by
  have hl := l.isLt
  have hj : (col j l).val / 512 = j.val := by show (j.val * 512 + l.val) / 512 = j.val; omega
  unfold wanted gradAt
  rw [dif_pos n.isLt]
  by_cases h : l.val < 256
  · have e : (col j l).val % 256 = l.val := by show (j.val * 512 + l.val) % 256 = l.val; omega
    have e2 : (col j l).val / 256 % 2 = 0 := by show (j.val * 512 + l.val) / 256 % 2 = 0; omega
    rw [laid_low x0 x1 x2 x3 n j ⟨l.val, h⟩ _ hj e e2, dif_pos h]
    obtain ⟨a, ha⟩ := fin_conv x1 x2 x3 n h1 h2 h3 (col j l)
    obtain ⟨g, hg⟩ := fin_conv x1 x2 x3 n h1 h2 h3 (col j ⟨256 + l.val, by omega⟩)
    obtain ⟨d, hd⟩ := h0 (ix2 n (colA j ⟨l.val, h⟩))
    obtain ⟨t, ht⟩ := fin_tanh a
    have := ref73 x0 x1 x2 x3 (ix3 n j ⟨l.val, h⟩) a g d ((ref31 ..).trans ha) ((ref33 ..).trans hg) ((ref59 ..).trans hd) t ht
    rw [this, ← ha, ← hg, ← hd]
  · have e : (col j l).val % 256 = l.val - 256 := by show (j.val * 512 + l.val) % 256 = l.val - 256; omega
    have e2 : (col j l).val / 256 % 2 = 1 := by show (j.val * 512 + l.val) / 256 % 2 = 1; omega
    rw [laid_high x0 x1 x2 x3 n j ⟨l.val - 256, by omega⟩ _ hj e e2, dif_neg h, ref60, ref59, ref31]

end Cert.ConvBwdFinal
end
-- ==== Proof.ConvBwdSums.lean ====
module

public import proofs.«01_k».proof.Proof.ConvBwdReads

/-! The reference's results, read by rows: the way back through the taps, and the sums over all rows. -/

@[expose] public section

set_option maxRecDepth 16384

noncomputable section
open Idealize.ShloMosaic Idealize.ShloMosaic.TcCoe Idealize.SL.Sem
namespace Cert.ConvBwdFinal
open Cert.GateFinal (past past0 conv)
open Cert.ConvBwdRIdeal Cert.ConvBwdRIdeal.Read

variable (x0 : FVec Ideal S8256x2816 .bf16) (x1 : FVec Ideal S8256x5632 .bf16) (x2 : FVec Ideal S3x5632 .f32) (x3 : FVec Ideal S5632 .f32)
variable (n : Fin 8256) (c : Fin 5632)

/-- The gradient before the gate at a row of a column, zero past the end. -/
def rowAt (n : ℕ) : EReal := if h : n < 8256 then val_main_v79 (F := Ideal) x0 x1 x2 x3 (ix2 ⟨n, h⟩ c) else 0

theorem ref116 : val_main_v116 (F := Ideal) x0 x1 x2 x3 (ix2 n c)
    = rowAt x0 x1 x2 x3 c n.val * x2 (ix2 2 c) + rowAt x0 x1 x2 x3 c (n.val + 1) * x2 (ix2 1 c)
      + rowAt x0 x1 x2 x3 c (n.val + 2) * x2 (ix2 0 c) := by
  unfold rowAt
  pointwise [val_main_v116, val_main_v115, val_main_v113, val_main_v112, val_main_v107, val_main_v106, val_main_v102, val_main_v101,
    val_main_v96, val_main_v95, val_main_v91, val_main_v87, val_main_v86, val_main_v22, val_main_v21, val_main_v20, val_main_v15,
    val_main_v14, val_main_v13, val_main_v7, val_main_v6, val_main_v5, val_main_cst_19, val_main_cst_23, val_main_cst_27]
  refine congrArg₂ (fun a b : EReal => a + b) (congrArg₂ (fun a b : EReal => a + b) rfl ?_) ?_
  · by_cases h : n.val + 1 < 8256
    · rw [dif_pos (by omega), dif_pos h]
      exact congrArg (fun k => val_main_v79 (F := Ideal) x0 x1 x2 x3 (ix2 k c) * x2 (ix2 1 c)) (Fin.ext (by dsimp only; omega))
    · rw [dif_neg (by omega), dif_neg h, zero_mul]
  · by_cases h : n.val + 2 < 8256
    · rw [dif_pos (by omega), dif_pos h]
      exact congrArg (fun k => val_main_v79 (F := Ideal) x0 x1 x2 x3 (ix2 k c) * x2 (ix2 0 c)) (Fin.ext (by dsimp only; omega))
    · rw [dif_neg (by omega), dif_neg h, zero_mul]

theorem ref82 : val_main_v82 (F := Ideal) x0 x1 x2 x3 (ix1 c) = ∑ n : Fin 8256, val_main_v79 (F := Ideal) x0 x1 x2 x3 (ix2 n c) := by
  pointwise [val_main_v82, val_main_v81, val_main_v80, val_main_cst_14, val_main_cst_15]
  exact Fin.sum_univ_one _

theorem past_two : val_main_v4 (F := Ideal) x1 (ix2 n c) = past x1 2 n c := by
  have h := Cert.GateFinal.pastAt x1 2 (by omega) n c (by omega)
  rw [← h]
  pointwise [val_main_v4]
  exact congrArg (fun k => val_main_v2 (F := Ideal) x1 (ix2 k c)) (Fin.ext (by dsimp only))

theorem past_one : val_main_v12 (F := Ideal) x1 (ix2 n c) = past x1 1 n c := by
  have h := Cert.GateFinal.pastAt x1 1 (by omega) n c (by omega)
  rw [← h]
  pointwise [val_main_v12]
  exact congrArg (fun k => val_main_v2 (F := Ideal) x1 (ix2 k c)) (Fin.ext (by dsimp only))

theorem past_none : val_main_v19 (F := Ideal) x1 (ix2 n c) = past x1 0 n c := by
  have h := Cert.GateFinal.pastAt x1 0 (by omega) n c (by omega)
  rw [← h]
  pointwise [val_main_v19]
  exact congrArg (fun k => val_main_v2 (F := Ideal) x1 (ix2 k c)) (Fin.ext (by dsimp only))

/-- The sum of one row of the taps' gradient. -/
def tapSum (k : ℕ) : EReal := ∑ n : Fin 8256, past x1 k n c * val_main_v79 (F := Ideal) x0 x1 x2 x3 (ix2 n c)

theorem ref88 : val_main_v88 (F := Ideal) x0 x1 x2 x3 (ix1 c) = tapSum x0 x1 x2 x3 c 0 := by
  pointwise [val_main_v88, val_main_v85, val_main_v84, val_main_v83, val_main_cst_16, val_main_cst_17]
  refine (Fin.sum_univ_one _).trans (Finset.sum_congr rfl fun n _ => ?_)
  rw [past_none]

theorem ref97 : val_main_v97 (F := Ideal) x0 x1 x2 x3 (ix1 c) = tapSum x0 x1 x2 x3 c 1 := by
  pointwise [val_main_v97, val_main_v94, val_main_v93, val_main_v92, val_main_cst_20, val_main_cst_21]
  refine (Fin.sum_univ_one _).trans (Finset.sum_congr rfl fun n _ => ?_)
  rw [past_one]

theorem ref108 : val_main_v108 (F := Ideal) x0 x1 x2 x3 (ix1 c) = tapSum x0 x1 x2 x3 c 2 := by
  pointwise [val_main_v108, val_main_v105, val_main_v104, val_main_v103, val_main_cst_24, val_main_cst_25]
  refine (Fin.sum_univ_one _).trans (Finset.sum_congr rfl fun n _ => ?_)
  rw [past_two]

theorem ref111 (k : Fin 3) : val_main_v111 (F := Ideal) x0 x1 x2 x3 (ix2 k c) = tapSum x0 x1 x2 x3 c (2 - k.val) := by
  pointwise [val_main_v111, val_main_v110, val_main_v109, val_main_v100, val_main_v99, val_main_v98, val_main_v90, val_main_v89,
    val_main_cst_18, val_main_cst_22, val_main_cst_26]
  rw [ref88, ref97, ref108]
  match k with
  | 0 => simp
  | 1 => simp
  | 2 => simp

theorem ref119 (r : Fin 8) : val_main_v119 (F := Ideal) x0 x1 x2 x3 (ix2 r c)
    = if r.val < 3 then tapSum x0 x1 x2 x3 c (2 - r.val)
      else if r.val < 4 then ∑ n : Fin 8256, val_main_v79 (F := Ideal) x0 x1 x2 x3 (ix2 n c) else 0 := by
  pointwise [val_main_v119, val_main_v118, val_main_v117, val_main_cst_28]
  by_cases h : r.val < 3
  · rw [dif_pos h, if_pos h, ref111]
  · rw [dif_neg h, if_neg h]
    by_cases h' : r.val < 4
    · rw [dif_pos (by omega), if_pos h', ref82]
    · rw [dif_neg (by omega), if_neg h']

/-- Shifting the first factor forwards is shifting the second back, where the second is zero past the end. -/
theorem shift_sum (N k : ℕ) (X D : ℕ → EReal) (hD : ∀ i, N ≤ i → D i = 0) :
    ∑ i ∈ Finset.range N, (if k ≤ i then X (i - k) else 0) * D i = ∑ i ∈ Finset.range N, D (i + k) * X i := by
  have h1 := Finset.sum_range_add (fun i => (if k ≤ i then X (i - k) else 0) * D i) N k
  have h2 := Finset.sum_range_add (fun i => (if k ≤ i then X (i - k) else 0) * D i) k N
  rw [Finset.sum_eq_zero (s := Finset.range k) (fun i _ => by rw [hD _ (by omega), mul_zero]), add_zero] at h1
  rw [Finset.sum_eq_zero (s := Finset.range k) (fun i hi => by
    rw [if_neg (by have := Finset.mem_range.1 hi; omega), zero_mul]), zero_add, add_comm k N, h1] at h2
  rw [h2]
  refine Finset.sum_congr rfl fun i _ => ?_
  rw [if_pos (by omega), mul_comm, add_comm k i, Nat.add_sub_cancel]

/-- A row of the taps' gradient over the rows of the input itself. -/
theorem tapSum_eq (k : ℕ) : tapSum x0 x1 x2 x3 c k
    = ∑ i ∈ Finset.range 8256, rowAt x0 x1 x2 x3 c (i + k) * (if h : i < 8256 then x1 (ix2 ⟨i, h⟩ c) else 0) := by
  rw [← shift_sum 8256 k (fun i => if h : i < 8256 then x1 (ix2 ⟨i, h⟩ c) else 0) (rowAt x0 x1 x2 x3 c) fun i hi => dif_neg (by omega)]
  rw [Finset.sum_range]
  refine Finset.sum_congr rfl fun n _ => ?_
  rw [rowAt, dif_pos n.isLt, past, dif_pos (by omega)]

theorem sum_rows : ∑ n : Fin 8256, val_main_v79 (F := Ideal) x0 x1 x2 x3 (ix2 n c) = ∑ i ∈ Finset.range 8256, rowAt x0 x1 x2 x3 c i := by
  rw [Finset.sum_range]
  refine Finset.sum_congr rfl fun n _ => ?_
  rw [rowAt, dif_pos n.isLt]

end Cert.ConvBwdFinal
end
-- ==== Proof.ConvBwdFinal.lean ====
module

public import proofs.«01_k».proof.Proof.ConvBwdSums

/-! The two arrays the call leaves are the reference's, over finite arguments. -/

@[expose] public section

set_option maxRecDepth 16384

noncomputable section
open Idealize.ShloMosaic Idealize.ShloMosaic.TcCoe Idealize.SL.Sem
open Idealize.ShloMosaic.Pipeline (Dat)
namespace Cert.ConvBwdFinal
open Cert.GateFinal (past conv)
open Cert.ConvBwdIdeal Cert.ConvBwdIdeal.Gen Cert.ConvBwdIdeal.Run
open Cert.ConvBwdRIdeal.Read (val_main_v79 val_main_v116 val_main_v119)

variable (m : (ℓ : Loc nD τ sig) → Buf (Elt Ideal) ℓ) (c : Dev nD) (t : Fin cfg0.N)

theorem lines_eq : lines m c = Cert.GateRIdeal.Read.val_main_v28 (F := Ideal) (inU m c) (inW m c) (inB m c) := rfl

theorem lines_at (n : Fin 8256) (l : Fin 5632) : lines m c (ix2 n l) = conv (inU m c) (inW m c) (inB m c) n l :=
  (congrFun (lines_eq m c) _).trans (Cert.GateFinal.ref28 _ _ _ n l)

theorem taps_eq : taps m c = concatenate S8x5632 0 [⟨S3x5632, inW m c⟩, ⟨S1x5632, (V m c main_v0 : FVec Ideal S1x5632 .f32)⟩,
    ⟨S4x5632, (V m c main_v1 : FVec Ideal S4x5632 .f32)⟩] concatenates_S3x5632_S1x5632_S4x5632_S8x5632_d0 := rfl

theorem taps_w (k : Fin 3) (l : Fin 5632) : taps m c (ix2 ⟨k.val, by omega⟩ l) = inW m c (ix2 k l) := by
  rw [taps_eq]
  pointwise []

/-- Every argument is a number at every index. -/
structure Numbers : Prop where
  a : ∀ i, Fin' (inA m c i)
  u : ∀ i, Fin' (inU m c i)
  w : ∀ i, Fin' (inW m c i)
  b : ∀ i, Fin' (inB m c i)

theorem gradient_eq (h : Numbers m c) (n : ℕ) (j : Fin 11) (l : Fin 512) :
    gradient m c n j l = rowAt (inA m c) (inU m c) (inW m c) (inB m c) (col j l) n := by
  unfold gradient rowAt
  by_cases hn : n < 8256
  · rw [dif_pos hn, dif_pos hn, ref79 _ _ _ _ ⟨n, hn⟩ j h.a h.u h.w h.b, wanted, dif_pos hn]
    congr 1
    exact funext fun l => lines_at m c ⟨n, hn⟩ (col j l)
  · rw [dif_neg hn, dif_neg hn]

theorem back_eq (h : Numbers m c) (n : Fin 8256) (j : Fin 11) (l : Fin 512) :
    back m c n.val j l = val_main_v116 (F := Ideal) (inA m c) (inU m c) (inW m c) (inB m c) (ix2 n (col j l)) := by
  rw [ref116, back, gradient_eq m c h, gradient_eq m c h, gradient_eq m c h,
    show taps m c (ix2 0 (col j l)) = inW m c (ix2 0 (col j l)) from taps_w m c 0 _,
    show taps m c (ix2 1 (col j l)) = inW m c (ix2 1 (col j l)) from taps_w m c 1 _,
    show taps m c (ix2 2 (col j l)) = inW m c (ix2 2 (col j l)) from taps_w m c 2 _]

theorem four_eq (f : ℕ → EReal) (e : EReal) (r : Fin 8) :
    four (f 2) (f 1) (f 0) e r = if r.val < 3 then f (2 - r.val) else if r.val < 4 then e else 0 := by
  unfold four
  match r with
  | 0 | 1 | 2 | 3 | 4 | 5 | 6 | 7 => rfl

theorem totals_eq (h : Numbers m c) (r : Fin 8) (j : Fin 11) (l : Fin 512) :
    totals m c 0 j l r = val_main_v119 (F := Ideal) (inA m c) (inU m c) (inW m c) (inB m c) (ix2 r (col j l)) := by
  rw [ref119, ← four_eq, sum_rows, tapSum_eq, tapSum_eq, tapSum_eq]
  unfold totals
  rw [Nat.Ico_zero_eq_range]
  have g (k : ℕ) : ∑ i ∈ Finset.range 8256, gradient m c (i + k) j l * input m c i j l
      = ∑ i ∈ Finset.range 8256, rowAt (inA m c) (inU m c) (inW m c) (inB m c) (col j l) (i + k)
        * (if h : i < 8256 then inU m c (ix2 ⟨i, h⟩ (col j l)) else 0) :=
    Finset.sum_congr rfl fun i _ => by rw [gradient_eq m c h, input]
  have s : ∑ i ∈ Finset.range 8256, gradient m c i j l = ∑ i ∈ Finset.range 8256, rowAt (inA m c) (inU m c) (inW m c) (inB m c) (col j l) i :=
    Finset.sum_congr rfl fun i _ => gradient_eq m c h i j l
  rw [g 2, g 1, s]
  refine congrArg (fun a => four _ _ a _ r) (g 0)

/-- The input's gradient. -/
theorem final4 (h : Numbers m c) : (dats m 0 c).arrAt 4 cfg0.N = val_main_v116 (F := Ideal) (inA m c) (inU m c) (inW m c) (inB m c) := by
  refine (dats m 0 c).arrAt_eq_of_covers 4 _ (by decide +kernel) fun t hf y => ?_
  blk_simp
  rw [after4]
  have key : ∀ y : S688x512.Idx, du (F := Ideal) m c t y
      = val_main_v116 (F := Ideal) (inA m c) (inU m c) (inW m c) (inB m c) (((View.whole main_v32_0).slice (win0_4.rect t)).emb y) := by
    intro y
    obtain ⟨r, l, rfl⟩ : ∃ (r : Fin 688) (l : Fin 512), y = ix2 r l := ⟨y 0, y 1, eq_ix2 y⟩
    have e : ((View.whole main_v32_0).slice (win0_4.rect t)).emb (ix2 r l : S688x512.Idx)
        = (ix2 ⟨top t + r.val, by have := top_le t; omega⟩ (col (block t) l) : S8256x5632.Idx) := by
      blk_ext [col, top, block, idx t]
    rw [e, ← back_eq m c h]
    exact du_at m c t r l
  exact key y

/-- The sums of the taps' and the bias's gradients. -/
theorem final5 (h : Numbers m c) : (dats m 0 c).arrAt 5 cfg0.N = val_main_v119 (F := Ideal) (inA m c) (inU m c) (inW m c) (inB m c) := by
  refine (dats m 0 c).arrAt_eq_of_covers 5 _ (by decide +kernel) fun t hf y => ?_
  blk_simp
  rw [after5]
  have key : ∀ y : S8x512.Idx, (pair m c (t.val + 1)).1 y
      = val_main_v119 (F := Ideal) (inA m c) (inU m c) (inW m c) (inB m c) (((View.whole main_v32_1).slice (win0_5.rect t)).emb y) := by
    intro y
    obtain ⟨r, l, rfl⟩ : ∃ (r : Fin 8) (l : Fin 512), y = ix2 r l := ⟨y 0, y 1, eq_ix2 y⟩
    have e : ((View.whole main_v32_1).slice (win0_5.rect t)).emb (ix2 r l : S8x512.Idx) = (ix2 r (col (block t) l) : S8x5632.Idx) := by
      blk_ext [col, block, idx t]
    rw [e, ← totals_eq m c h]
    have hz : top t = 0 := by
      have := (flush0_5 t).mp hf
      unfold top
      omega
    have := (done_after m c t.val t rfl r l).1
    rwa [hz] at this
  exact key y

end Cert.ConvBwdFinal
end
-- ==== Proof.ConvBwdNumbers.lean ====
module

public import Idealize.ShloMosaic.Lib.ReduceAll
public import proofs.«01_k».proof.Defs
public import proofs.«01_k».proof.Proof.ConvBwdFinal
public import proofs.«01_k».proof.Proof.Gen.Pre_finite

/-! What the precondition says: every element of every argument is a number. -/

@[expose] public section

set_option maxRecDepth 16384

noncomputable section
open Idealize.ShloMosaic Idealize.ShloMosaic.TcCoe Idealize.SL.Sem
namespace Cert.ConvBwdFinal
open Cert.ConvBwdIdeal

theorem inf_eq : Ideal.ofBits FTy.f32 0x7F800000#32 = ⊤ := by
  simp [Ideal.ofBits, Ideal.ieee]

/-- A size below infinity is a number's. -/
theorem number_of_lt (x : EReal) (h : Ideal.cmp .olt (max x (-x)) (Ideal.ofBits FTy.f32 0x7F800000#32) = 1#1) : Fin' x := by
  rw [inf_eq] at h
  induction x using EReal.rec with
  | bot => simp [Ideal.cmp] at h
  | top => simp [Ideal.cmp] at h
  | coe r => exact ⟨r, rfl⟩

theorem numbers (m : (ℓ : Loc nD τ sig) → Buf (Elt Ideal) ℓ) (h : Cert.Pre_ConvBwdIdeal_finite (hPre_finite := Cert.Pre_finite.Gen.facts) m) (c : Dev nD) :
    Numbers m c := by
  have e := congrFun (h c) (fun a => a.elim0)
  unfold Cert.Pre_finite.fn Cert.Pre_finite.fn_part1 at e
  obtain ⟨e, hb⟩ := IntOp.andi_eq_one.mp e
  obtain ⟨e, hw⟩ := IntOp.andi_eq_one.mp e
  obtain ⟨ha, hu⟩ := IntOp.andi_eq_one.mp e
  haveI : Subsingleton Cert.Pre_finite.S_.Idx := ⟨fun a b => funext fun i => i.elim0⟩
  exact ⟨fun i => number_of_lt _ (Host.reduce_andi_all _ _ _ _ _ ha i), fun i => number_of_lt _ (Host.reduce_andi_all _ _ _ _ _ hu i),
    fun i => number_of_lt _ (Host.reduce_andi_all _ _ _ _ _ hw i), fun i => number_of_lt _ (Host.reduce_andi_all _ _ _ _ _ hb i)⟩

end Cert.ConvBwdFinal
end
-- ==== Proof.ConvBwdClaim.lean ====
module

public import Idealize.ShloMosaic.Lib.Quiescent
public import proofs.«01_k».proof.Defs
public import proofs.«01_k».proof.Proof.ConvBwdNumbers
public import proofs.«01_k».proof.Proof.Gen.ConvBwd
public import proofs.«01_k».proof.Proof.Gen.ConvBwdRIdeal.Run

/-! The frames and the value claim of this call. -/

@[expose] public section

set_option maxRecDepth 16384

noncomputable section
open Idealize.ShloMosaic Idealize.ShloMosaic.TcCoe Idealize.SL.Sem
namespace Cert.ConvBwdClaim

/-- Over the words a named constant is the word it was printed for. -/
@[reducible] def word : Named Bits := ⟨fun _ _ {_} bits => bits⟩

/-- The program's text is its idealized form's with the names read as their words: the same body for the call, -/
theorem calls_eq : Cert.ConvBwd.defs₀ (F := Bits) = @Cert.ConvBwdIdeal.defs₀ Bits _ word _ := by
  refine congrArg Defs.onTc (funext fun l => funext fun a => ?_)
  match l, a with
  | ⟨0, _⟩, (t, s) => rfl

/-- and the same table of bodies. -/
theorem defs_eq : Cert.ConvBwd.defs (F := Bits) = @Cert.ConvBwdIdeal.defs Bits _ word _ := congrArg (Pipeline.defs Cert.ConvBwdIdeal.pcfgs) calls_eq

/-- The program runs, keeps its arguments and leaves every counter at zero. -/
theorem frame : Cert.quiescent_ConvBwd (hConvBwd := Cert.ConvBwd.Gen.facts) := fun m ρ _ => by
  rw [defs_eq]
  exact @Cert.ConvBwdIdeal.Run.frame Bits _ word m ρ

/-- So does the idealized form over the extended reals. -/
theorem frameIdeal : Cert.quiescent_ConvBwdIdeal (hConvBwdIdeal := Cert.ConvBwdIdeal.Gen.facts) := fun m ρ _ => Cert.ConvBwdIdeal.Run.frame m ρ

/-- The reference runs and keeps its arguments; it declares no semaphore. -/
theorem frameRef : Cert.quiescent_ConvBwdRIdeal (hConvBwdRIdeal := Cert.ConvBwdRIdeal.Gen.facts) := fun m ρ _ =>
  (θ_run Cert.ConvBwdRIdeal.defs _ _).mono (fun r h => ⟨fun c => (h c).2.2, sem_eq_zero_of_no_sems (by decide) r.2⟩)
    (Cert.ConvBwdRIdeal.Value.run (F := Ideal) m ρ)

/-- Both named constants are their exact products. -/
theorem preserves : Cert.preserves_ConvBwd_ConvBwdIdeal :=
  ⟨IdealRules.named_const.statement Cert.ConvBwdIdeal.κ "ck" .f32 0x3D122279#32 ((80338380498831 / 2251799813685248 : ℝ) : EReal) rfl,
    IdealRules.named_const.statement Cert.ConvBwdIdeal.κ "ck6" .f32 0x3E5B33B6#32 ((241015141496493 / 1125899906842624 : ℝ) : EReal) rfl⟩

/-- What the reference leaves is its reading of the arguments. -/
theorem run_ref (m' : (ℓ : Loc Cert.ConvBwdRIdeal.nD Cert.ConvBwdRIdeal.τ Cert.ConvBwdRIdeal.sig) → Buf (Elt Ideal) ℓ)
    (g' : Dev Cert.ConvBwdRIdeal.nD → PrngReg) :
    θ_run (Cert.ConvBwdRIdeal.defs (F := Ideal)) (onTc (τ := Cert.ConvBwdRIdeal.τ) (Cert.ConvBwdRIdeal.main (F := Ideal))) ⟨m', fun _ => 0, g'⟩
      fun r => ∀ c : Dev Cert.ConvBwdRIdeal.nD,
        let x (a) := m' ((c.tc : Thread Cert.ConvBwdRIdeal.nD Cert.ConvBwdRIdeal.τ).loc a)
        let y (a) := r.2.mem ((c.tc : Thread Cert.ConvBwdRIdeal.nD Cert.ConvBwdRIdeal.τ).loc a)
        y Cert.ConvBwdRIdeal.main_v116 = Cert.ConvBwdRIdeal.Read.val_main_v116 (F := Ideal) (x Cert.ConvBwdRIdeal.main_arg0)
          (x Cert.ConvBwdRIdeal.main_arg1) (x Cert.ConvBwdRIdeal.main_arg2) (x Cert.ConvBwdRIdeal.main_arg3)
        ∧ y Cert.ConvBwdRIdeal.main_v119 = Cert.ConvBwdRIdeal.Read.val_main_v119 (F := Ideal) (x Cert.ConvBwdRIdeal.main_arg0)
          (x Cert.ConvBwdRIdeal.main_arg1) (x Cert.ConvBwdRIdeal.main_arg2) (x Cert.ConvBwdRIdeal.main_arg3)
        ∧ y Cert.ConvBwdRIdeal.main_arg0 = x Cert.ConvBwdRIdeal.main_arg0 ∧ y Cert.ConvBwdRIdeal.main_arg1 = x Cert.ConvBwdRIdeal.main_arg1
        ∧ y Cert.ConvBwdRIdeal.main_arg2 = x Cert.ConvBwdRIdeal.main_arg2 ∧ y Cert.ConvBwdRIdeal.main_arg3 = x Cert.ConvBwdRIdeal.main_arg3 :=
  (θ_run Cert.ConvBwdRIdeal.defs _ _).mono (fun _ h c => ⟨(h c).1.trans (Cert.ConvBwdRIdeal.Read.val_main_v116_eq _),
    (h c).2.1.trans (Cert.ConvBwdRIdeal.Read.val_main_v119_eq _), (h c).2.2⟩) (Cert.ConvBwdRIdeal.Value.run (F := Ideal) m' g')

/-- The two programs end with equal results, from finite arguments. -/
theorem algebraic : Cert.algebraic_ConvBwdIdeal_ConvBwdRIdeal_pre_finite (hConvBwdIdeal := Cert.ConvBwdIdeal.Gen.facts)
    (hConvBwdRIdeal := Cert.ConvBwdRIdeal.Gen.facts) (hPre_finite := Cert.Pre_finite.Gen.facts) := by
  intro m g m' g' hf hag
  refine ⟨fun c => (Cert.ConvBwdIdeal.Run.dats m 0 c).arrAt 4 Cert.ConvBwdIdeal.cfg0.N, fun c => (Cert.ConvBwdIdeal.Run.dats m 0 c).arrAt 5 Cert.ConvBwdIdeal.cfg0.N,
    Cert.ConvBwdIdeal.Run.run_blocks (F := Ideal) m g, ?_⟩
  refine (θ_run Cert.ConvBwdRIdeal.defs _ _).mono (fun r h c => ?_) (run_ref m' g')
  obtain ⟨h0, h1, hk⟩ := h c
  obtain ⟨a0, a1, a2, a3⟩ := hag c
  have hn := Cert.ConvBwdFinal.numbers m hf c
  refine ⟨h0.trans ?_, h1.trans ?_, hk⟩
  · refine Eq.trans ?_ (Cert.ConvBwdFinal.final4 m c hn).symm
    exact congr (congr (congr (congrArg (Cert.ConvBwdRIdeal.Read.val_main_v116 (F := Ideal)) a0) a1) a2) a3
  · refine Eq.trans ?_ (Cert.ConvBwdFinal.final5 m c hn).symm
    exact congr (congr (congr (congrArg (Cert.ConvBwdRIdeal.Read.val_main_v119 (F := Ideal)) a0) a1) a2) a3

end Cert.ConvBwdClaim
end
-- ==== Proof.AdamwRule.lean ====
module

public import Idealize.ShloMosaic.Lib.Pipeline.ValueKit
public import Idealize.ShloMosaic.Lib.Pointwise

/-! The optimiser's rule for one entry of a weight. -/

@[expose] public section

noncomputable section
open Idealize.ShloMosaic
namespace Cert.AdamwRule

/-- The new first moment from the gradient and the old one. -/
def mean (g m : EReal) : EReal := Ideal.ofBits FTy.f32 1063675494#32 * m + Ideal.ofBits FTy.f32 1036831949#32 * g

/-- The new second moment. -/
def square (g v : EReal) : EReal := Ideal.ofBits FTy.f32 1065336439#32 * v + Ideal.ofBits FTy.f32 981668463#32 * (g * g)

/-- What the step adds to the weight. -/
def delta (g w m v : EReal) : EReal :=
  Ideal.ofBits FTy.f32 3129152111#32
    * (Ideal.div (Ideal.div (mean g m) (Ideal.ofBits FTy.f32 1059503362#32))
        (Ideal.sqrt (Ideal.div (square g v) (Ideal.ofBits FTy.f32 1008933580#32)) + Ideal.ofBits FTy.f32 841731191#32)
      + Ideal.ofBits FTy.f32 1008981770#32 * w)

/-- The gradient of one entry: the sum of the devices' parts. -/
def total {R C : ℕ} {t : FTy} (p : FVec Ideal ⟨3, ![8, R, C]⟩ t) (r : Fin R) (l : Fin C) : EReal := ∑ k : Fin 8, (p (ix3 k r l) : EReal)

end Cert.AdamwRule
end
-- ==== Proof.AdamwInFinal.lean ====
module

public import proofs.«01_k».proof.Proof.AdamwRule
public import proofs.«01_k».proof.Proof.Gen.AdamwInIdeal.Value
public import proofs.«01_k».proof.Proof.Gen.AdamwInRIdeal.Read

/-! The optimiser's step of the mixers' input weight: the four arrays the call leaves are the reference's. -/

@[expose] public section

set_option maxRecDepth 16384

noncomputable section
open Idealize.ShloMosaic Idealize.ShloMosaic.TcCoe Idealize.SL.Sem
open Idealize.ShloMosaic.Pipeline (Dat)
namespace Cert.AdamwInFinal
open Cert.AdamwInIdeal Cert.AdamwInIdeal.Gen Cert.AdamwRule

section R
open Cert.AdamwInRIdeal.Read
variable (p : FVec Ideal S8x1024x512 .bf16) (w a v : FVec Ideal S1024x450 .f32) (r : Fin 1024) (l : Fin 512)

theorem refG : val_main_v5 (F := Ideal) p (ix2 r l) = total p r l := by
  pointwise [val_main_v5, val_main_v4, val_main_cst_0]
  rfl

theorem refM : val_main_v10 (F := Ideal) p a (ix2 r l) = mean (total p r l) (val_main_v2 (F := Ideal) a (ix2 r l)) := by
  rw [← refG]
  pointwise [val_main_v10, val_main_v9, val_main_v8, val_main_v7, val_main_v6, val_main_cst_1, val_main_cst_2]
  rfl

theorem refV : val_main_v16 (F := Ideal) p v (ix2 r l) = square (total p r l) (val_main_v3 (F := Ideal) v (ix2 r l)) := by
  rw [← refG]
  pointwise [val_main_v16, val_main_v15, val_main_v14, val_main_v13, val_main_v12, val_main_v11, val_main_cst_3, val_main_cst_4]
  rfl

theorem refD : val_main_v29 (F := Ideal) p w a v (ix2 r l) = delta (total p r l) (val_main_v1 (F := Ideal) w (ix2 r l)) (val_main_v2 (F := Ideal) a (ix2 r l)) (val_main_v3 (F := Ideal) v (ix2 r l)) := by
  unfold delta
  rw [← refM, ← refV]
  pointwise [val_main_v29, val_main_v28, val_main_v27, val_main_v26, val_main_v25, val_main_v24, val_main_v23, val_main_v22, val_main_v21, val_main_v20, val_main_v19, val_main_v18, val_main_v17,
    val_main_cst_5, val_main_cst_6, val_main_cst_7, val_main_cst_8, val_main_cst_9]
end R

section K
variable (p : FVec Ideal S8x256x512 .bf16) (w a v : FVec Ideal S256x512 .f32) (r : Fin 256) (l : Fin 512)

theorem sumAt : k0_pay6 (F := Ideal) p w a v (ix2 r l) = total p r l := by
  unfold k0_pay6
  pointwise [k0_pay4]
  exact (Fin.sum_univ_eight fun k => (p (ix3 k r l) : EReal)).symm

theorem outG : out0_4 (F := Ideal) p w a v (ix2 r l) = total p r l := by
  unfold out0_4
  frame_out
  exact sumAt p w a v r l

theorem outM : out0_6 (F := Ideal) p w a v (ix2 r l) = mean (total p r l) (a (ix2 r l)) := by
  rw [← sumAt p w a v]
  unfold out0_6
  frame_out
  pointwise [k0_pay1, k0_pay7, k0_pay5]
  rfl

theorem outV : out0_7 (F := Ideal) p w a v (ix2 r l) = square (total p r l) (v (ix2 r l)) := by
  rw [← sumAt p w a v]
  unfold out0_7
  frame_out
  pointwise [k0_pay2]
  rfl

theorem outD : out0_5 (F := Ideal) p w a v (ix2 r l) = delta (total p r l) (w (ix2 r l)) (a (ix2 r l)) (v (ix2 r l)) := by
  rw [← sumAt p w a v]
  unfold delta mean square
  unfold out0_5
  frame_out
  pointwise [k0_pay3, k0_pay1, k0_pay2, k0_pay7, k0_pay5]
end K

theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

variable (m : (ℓ : Loc nD τ sig) → Buf (Elt Ideal) ℓ) (c : Dev nD)

/-- Row `r` of the point's blocks in the arrays. -/
def rowOf (t : Fin cfg0.N) (r : Fin 256) : Fin 1024 := ⟨t.val * 256 + r.val, by have : t.val < 4 := t.isLt; omega⟩

abbrev inP : FVec Ideal S8x1024x512 .bf16 := m ((c : Thread nD τ).loc main_arg0)
abbrev inW : FVec Ideal S1024x450 .f32 := m ((c : Thread nD τ).loc main_arg1)
abbrev inM : FVec Ideal S1024x450 .f32 := m ((c : Thread nD τ).loc main_arg2)
abbrev inV : FVec Ideal S1024x450 .f32 := m ((c : Thread nD τ).loc main_arg3)

theorem blk0 (t : Fin cfg0.N) (r : Fin 256) (l : Fin 512) :
    total (t := .bf16) (iblk m c 0 t : FVec Ideal S8x256x512 .bf16) r l = total (inP m c) (rowOf t r) l := by
  refine Finset.sum_congr rfl fun k _ => ?_
  unfold inP
  rw [← V_main_arg0 m c]
  blk_ext [iblk, rowOf, idx t]

theorem blk1 (t : Fin cfg0.N) (r : Fin 256) (l : Fin 512) :
    (iblk m c 1 t : FVec Ideal S256x512 .f32) (ix2 r l) = (Cert.AdamwInRIdeal.Read.val_main_v1 (F := Ideal) (inW m c)) (ix2 (rowOf t r) l) := by
  rw [show Cert.AdamwInRIdeal.Read.val_main_v1 (F := Ideal) (inW m c) = (V m c main_v1 : FVec Ideal S1024x512 .f32) from rfl]
  blk_ext [iblk, rowOf, idx t]

theorem blk2 (t : Fin cfg0.N) (r : Fin 256) (l : Fin 512) :
    (iblk m c 2 t : FVec Ideal S256x512 .f32) (ix2 r l) = (Cert.AdamwInRIdeal.Read.val_main_v2 (F := Ideal) (inM m c)) (ix2 (rowOf t r) l) := by
  rw [show Cert.AdamwInRIdeal.Read.val_main_v2 (F := Ideal) (inM m c) = (V m c main_v3 : FVec Ideal S1024x512 .f32) from rfl]
  blk_ext [iblk, rowOf, idx t]

theorem blk3 (t : Fin cfg0.N) (r : Fin 256) (l : Fin 512) :
    (iblk m c 3 t : FVec Ideal S256x512 .f32) (ix2 r l) = (Cert.AdamwInRIdeal.Read.val_main_v3 (F := Ideal) (inV m c)) (ix2 (rowOf t r) l) := by
  rw [show Cert.AdamwInRIdeal.Read.val_main_v3 (F := Ideal) (inV m c) = (V m c main_v5 : FVec Ideal S1024x512 .f32) from rfl]
  blk_ext [iblk, rowOf, idx t]

/-- The gradient. -/
theorem final4 : (dats m 0 c).arrAt 4 cfg0.N = Cert.AdamwInRIdeal.Read.val_main_v5 (F := Ideal) (inP m c) := by
  refine (dats m 0 c).arrAt_eq_of_covers 4 _ (by decide +kernel) fun t hf y => ?_
  blk_simp
  rw [after0_4]
  have key : ∀ y : S256x512.Idx, out0_4 (F := Ideal) (iblk m c 0 t) (iblk m c 1 t) (iblk m c 2 t) (iblk m c 3 t) y
      = Cert.AdamwInRIdeal.Read.val_main_v5 (F := Ideal) (inP m c) (((View.whole main_v6_0).slice (win0_4.rect t)).emb y) := by
    intro y
    obtain ⟨r, l, rfl⟩ : ∃ (r : Fin 256) (l : Fin 512), y = ix2 r l := ⟨y 0, y 1, eq_ix2 y⟩
    have e : ((View.whole main_v6_0).slice (win0_4.rect t)).emb (ix2 r l : S256x512.Idx) = (ix2 (rowOf t r) l : S1024x512.Idx) := by
      blk_ext [rowOf, idx t]
    rw [e, refG, outG, blk0]
  exact key y

/-- The step. -/
theorem final5 : (dats m 0 c).arrAt 5 cfg0.N = Cert.AdamwInRIdeal.Read.val_main_v29 (F := Ideal) (inP m c) (inW m c) (inM m c) (inV m c) := by
  refine (dats m 0 c).arrAt_eq_of_covers 5 _ (by decide +kernel) fun t hf y => ?_
  blk_simp
  rw [after0_5]
  have key : ∀ y : S256x512.Idx, out0_5 (F := Ideal) (iblk m c 0 t) (iblk m c 1 t) (iblk m c 2 t) (iblk m c 3 t) y
      = Cert.AdamwInRIdeal.Read.val_main_v29 (F := Ideal) (inP m c) (inW m c) (inM m c) (inV m c) (((View.whole main_v6_1).slice (win0_5.rect t)).emb y) := by
    intro y
    obtain ⟨r, l, rfl⟩ : ∃ (r : Fin 256) (l : Fin 512), y = ix2 r l := ⟨y 0, y 1, eq_ix2 y⟩
    have e : ((View.whole main_v6_1).slice (win0_5.rect t)).emb (ix2 r l : S256x512.Idx) = (ix2 (rowOf t r) l : S1024x512.Idx) := by
      blk_ext [rowOf, idx t]
    rw [e, refD, outD, blk0, blk1, blk2, blk3]
  exact key y

/-- The first moment. -/
theorem final6 : (dats m 0 c).arrAt 6 cfg0.N = Cert.AdamwInRIdeal.Read.val_main_v10 (F := Ideal) (inP m c) (inM m c) := by
  refine (dats m 0 c).arrAt_eq_of_covers 6 _ (by decide +kernel) fun t hf y => ?_
  blk_simp
  rw [after0_6]
  have key : ∀ y : S256x512.Idx, out0_6 (F := Ideal) (iblk m c 0 t) (iblk m c 1 t) (iblk m c 2 t) (iblk m c 3 t) y
      = Cert.AdamwInRIdeal.Read.val_main_v10 (F := Ideal) (inP m c) (inM m c) (((View.whole main_v6_2).slice (win0_6.rect t)).emb y) := by
    intro y
    obtain ⟨r, l, rfl⟩ : ∃ (r : Fin 256) (l : Fin 512), y = ix2 r l := ⟨y 0, y 1, eq_ix2 y⟩
    have e : ((View.whole main_v6_2).slice (win0_6.rect t)).emb (ix2 r l : S256x512.Idx) = (ix2 (rowOf t r) l : S1024x512.Idx) := by
      blk_ext [rowOf, idx t]
    rw [e, refM, outM, blk0, blk2]
  exact key y

/-- The second moment. -/
theorem final7 : (dats m 0 c).arrAt 7 cfg0.N = Cert.AdamwInRIdeal.Read.val_main_v16 (F := Ideal) (inP m c) (inV m c) := by
  refine (dats m 0 c).arrAt_eq_of_covers 7 _ (by decide +kernel) fun t hf y => ?_
  blk_simp
  rw [after0_7]
  have key : ∀ y : S256x512.Idx, out0_7 (F := Ideal) (iblk m c 0 t) (iblk m c 1 t) (iblk m c 2 t) (iblk m c 3 t) y
      = Cert.AdamwInRIdeal.Read.val_main_v16 (F := Ideal) (inP m c) (inV m c) (((View.whole main_v6_3).slice (win0_7.rect t)).emb y) := by
    intro y
    obtain ⟨r, l, rfl⟩ : ∃ (r : Fin 256) (l : Fin 512), y = ix2 r l := ⟨y 0, y 1, eq_ix2 y⟩
    have e : ((View.whole main_v6_3).slice (win0_7.rect t)).emb (ix2 r l : S256x512.Idx) = (ix2 (rowOf t r) l : S1024x512.Idx) := by
      blk_ext [rowOf, idx t]
    rw [e, refV, outV, blk0, blk3]
  exact key y

end Cert.AdamwInFinal
end
-- ==== Proof.AdamwInClaim.lean ====
module

public import Idealize.ShloMosaic.Lib.Quiescent
public import proofs.«01_k».proof.Defs
public import proofs.«01_k».proof.Proof.AdamwInFinal
public import proofs.«01_k».proof.Proof.Gen.AdamwIn
public import proofs.«01_k».proof.Proof.Gen.AdamwInRIdeal.Run

/-! The reference's frame and the value claim of this call. -/

@[expose] public section

set_option maxRecDepth 16384

noncomputable section
open Idealize.ShloMosaic Idealize.ShloMosaic.TcCoe Idealize.SL.Sem
namespace Cert.AdamwInClaim

/-- The reference runs and keeps its arguments; it declares no semaphore. -/
theorem frameRef : Cert.quiescent_AdamwInRIdeal (hAdamwInRIdeal := Cert.AdamwInRIdeal.Gen.facts) := fun m ρ _ =>
  (θ_run Cert.AdamwInRIdeal.defs _ _).mono (fun r h => ⟨fun c => (h c).2.2.2.2, sem_eq_zero_of_no_sems (by decide) r.2⟩)
    (Cert.AdamwInRIdeal.Value.run (F := Ideal) m ρ)

/-- The two programs end with equal results. -/
theorem algebraic : Cert.algebraic_AdamwInIdeal_AdamwInRIdeal (hAdamwInIdeal := Cert.AdamwInIdeal.Gen.facts) (hAdamwInRIdeal := Cert.AdamwInRIdeal.Gen.facts) := by
  intro m g m' g' _ hag
  refine ⟨fun c => (Cert.AdamwInIdeal.Gen.dats m 0 c).arrAt 4 Cert.AdamwInIdeal.cfg0.N, fun c => (Cert.AdamwInIdeal.Gen.dats m 0 c).arrAt 5 Cert.AdamwInIdeal.cfg0.N, fun c => (Cert.AdamwInIdeal.Gen.dats m 0 c).arrAt 6 Cert.AdamwInIdeal.cfg0.N, fun c => (Cert.AdamwInIdeal.Gen.dats m 0 c).arrAt 7 Cert.AdamwInIdeal.cfg0.N, Cert.AdamwInIdeal.Value.run_blocks (F := Ideal) m g, ?_⟩
  refine (θ_run Cert.AdamwInRIdeal.defs _ _).mono (fun r h c => ?_) (Cert.AdamwInRIdeal.Value.run (F := Ideal) m' g')
  obtain ⟨h0, h1, h2, h3, hk⟩ := h c
  obtain ⟨a0, a1, a2, a3⟩ := hag c
  refine ⟨?_, ?_, ?_, ?_, hk⟩
  · exact (h0.trans (Cert.AdamwInRIdeal.Read.val_main_v5_eq _)).trans (by rw [a0]; exact (Cert.AdamwInFinal.final4 m c).symm)
  · exact (h1.trans (Cert.AdamwInRIdeal.Read.val_main_v29_eq _ _ _ _)).trans (by rw [a0, a1, a2, a3]; exact (Cert.AdamwInFinal.final5 m c).symm)
  · exact (h2.trans (Cert.AdamwInRIdeal.Read.val_main_v10_eq _ _)).trans (by rw [a0, a2]; exact (Cert.AdamwInFinal.final6 m c).symm)
  · exact (h3.trans (Cert.AdamwInRIdeal.Read.val_main_v16_eq _ _)).trans (by rw [a0, a3]; exact (Cert.AdamwInFinal.final7 m c).symm)

end Cert.AdamwInClaim
end
-- ==== Proof.AdamwUpFinal.lean ====
module

public import proofs.«01_k».proof.Proof.AdamwRule
public import proofs.«01_k».proof.Proof.Gen.AdamwUpIdeal.Value
public import proofs.«01_k».proof.Proof.Gen.AdamwUpRIdeal.Read

/-! The optimiser's step of the up-projection's weight: the four arrays the call leaves are the reference's. -/

@[expose] public section

set_option maxRecDepth 16384

noncomputable section
open Idealize.ShloMosaic Idealize.ShloMosaic.TcCoe Idealize.SL.Sem
open Idealize.ShloMosaic.Pipeline (Dat)
namespace Cert.AdamwUpFinal
open Cert.AdamwUpIdeal Cert.AdamwUpIdeal.Gen Cert.AdamwRule

section R
open Cert.AdamwUpRIdeal.Read
variable (p : FVec Ideal S8x1024x768 .bf16) (w a v : FVec Ideal S1024x704 .f32) (r : Fin 1024) (l : Fin 768)

theorem refG : val_main_v5 (F := Ideal) p (ix2 r l) = total p r l := by
  pointwise [val_main_v5, val_main_v4, val_main_cst_0]
  rfl

theorem refM : val_main_v10 (F := Ideal) p a (ix2 r l) = mean (total p r l) (val_main_v2 (F := Ideal) a (ix2 r l)) := by
  rw [← refG]
  pointwise [val_main_v10, val_main_v9, val_main_v8, val_main_v7, val_main_v6, val_main_cst_1, val_main_cst_2]
  rfl

theorem refV : val_main_v16 (F := Ideal) p v (ix2 r l) = square (total p r l) (val_main_v3 (F := Ideal) v (ix2 r l)) := by
  rw [← refG]
  pointwise [val_main_v16, val_main_v15, val_main_v14, val_main_v13, val_main_v12, val_main_v11, val_main_cst_3, val_main_cst_4]
  rfl

theorem refD : val_main_v29 (F := Ideal) p w a v (ix2 r l) = delta (total p r l) (val_main_v1 (F := Ideal) w (ix2 r l)) (val_main_v2 (F := Ideal) a (ix2 r l)) (val_main_v3 (F := Ideal) v (ix2 r l)) := by
  unfold delta
  rw [← refM, ← refV]
  pointwise [val_main_v29, val_main_v28, val_main_v27, val_main_v26, val_main_v25, val_main_v24, val_main_v23, val_main_v22, val_main_v21, val_main_v20, val_main_v19, val_main_v18, val_main_v17,
    val_main_cst_5, val_main_cst_6, val_main_cst_7, val_main_cst_8, val_main_cst_9]
end R

section K
variable (p : FVec Ideal S8x256x768 .bf16) (w a v : FVec Ideal S256x768 .f32) (r : Fin 256) (l : Fin 768)

theorem sumAt : k0_pay6 (F := Ideal) p w a v (ix2 r l) = total p r l := by
  unfold k0_pay6
  pointwise [k0_pay4]
  exact (Fin.sum_univ_eight fun k => (p (ix3 k r l) : EReal)).symm

theorem outG : out0_4 (F := Ideal) p w a v (ix2 r l) = total p r l := by
  unfold out0_4
  frame_out
  exact sumAt p w a v r l

theorem outM : out0_6 (F := Ideal) p w a v (ix2 r l) = mean (total p r l) (a (ix2 r l)) := by
  rw [← sumAt p w a v]
  unfold out0_6
  frame_out
  pointwise [k0_pay1, k0_pay7, k0_pay5]
  rfl

theorem outV : out0_7 (F := Ideal) p w a v (ix2 r l) = square (total p r l) (v (ix2 r l)) := by
  rw [← sumAt p w a v]
  unfold out0_7
  frame_out
  pointwise [k0_pay2]
  rfl

theorem outD : out0_5 (F := Ideal) p w a v (ix2 r l) = delta (total p r l) (w (ix2 r l)) (a (ix2 r l)) (v (ix2 r l)) := by
  rw [← sumAt p w a v]
  unfold delta mean square
  unfold out0_5
  frame_out
  pointwise [k0_pay3, k0_pay1, k0_pay2, k0_pay7, k0_pay5]
end K

theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

variable (m : (ℓ : Loc nD τ sig) → Buf (Elt Ideal) ℓ) (c : Dev nD)

/-- Row `r` of the point's blocks in the arrays. -/
def rowOf (t : Fin cfg0.N) (r : Fin 256) : Fin 1024 := ⟨t.val * 256 + r.val, by have : t.val < 4 := t.isLt; omega⟩

abbrev inP : FVec Ideal S8x1024x768 .bf16 := m ((c : Thread nD τ).loc main_arg0)
abbrev inW : FVec Ideal S1024x704 .f32 := m ((c : Thread nD τ).loc main_arg1)
abbrev inM : FVec Ideal S1024x704 .f32 := m ((c : Thread nD τ).loc main_arg2)
abbrev inV : FVec Ideal S1024x704 .f32 := m ((c : Thread nD τ).loc main_arg3)

theorem blk0 (t : Fin cfg0.N) (r : Fin 256) (l : Fin 768) :
    total (t := .bf16) (iblk m c 0 t : FVec Ideal S8x256x768 .bf16) r l = total (inP m c) (rowOf t r) l := by
  refine Finset.sum_congr rfl fun k _ => ?_
  unfold inP
  rw [← V_main_arg0 m c]
  blk_ext [iblk, rowOf, idx t]

theorem blk1 (t : Fin cfg0.N) (r : Fin 256) (l : Fin 768) :
    (iblk m c 1 t : FVec Ideal S256x768 .f32) (ix2 r l) = (Cert.AdamwUpRIdeal.Read.val_main_v1 (F := Ideal) (inW m c)) (ix2 (rowOf t r) l) := by
  rw [show Cert.AdamwUpRIdeal.Read.val_main_v1 (F := Ideal) (inW m c) = (V m c main_v1 : FVec Ideal S1024x768 .f32) from rfl]
  blk_ext [iblk, rowOf, idx t]

theorem blk2 (t : Fin cfg0.N) (r : Fin 256) (l : Fin 768) :
    (iblk m c 2 t : FVec Ideal S256x768 .f32) (ix2 r l) = (Cert.AdamwUpRIdeal.Read.val_main_v2 (F := Ideal) (inM m c)) (ix2 (rowOf t r) l) := by
  rw [show Cert.AdamwUpRIdeal.Read.val_main_v2 (F := Ideal) (inM m c) = (V m c main_v3 : FVec Ideal S1024x768 .f32) from rfl]
  blk_ext [iblk, rowOf, idx t]

theorem blk3 (t : Fin cfg0.N) (r : Fin 256) (l : Fin 768) :
    (iblk m c 3 t : FVec Ideal S256x768 .f32) (ix2 r l) = (Cert.AdamwUpRIdeal.Read.val_main_v3 (F := Ideal) (inV m c)) (ix2 (rowOf t r) l) := by
  rw [show Cert.AdamwUpRIdeal.Read.val_main_v3 (F := Ideal) (inV m c) = (V m c main_v5 : FVec Ideal S1024x768 .f32) from rfl]
  blk_ext [iblk, rowOf, idx t]

/-- The gradient. -/
theorem final4 : (dats m 0 c).arrAt 4 cfg0.N = Cert.AdamwUpRIdeal.Read.val_main_v5 (F := Ideal) (inP m c) := by
  refine (dats m 0 c).arrAt_eq_of_covers 4 _ (by decide +kernel) fun t hf y => ?_
  blk_simp
  rw [after0_4]
  have key : ∀ y : S256x768.Idx, out0_4 (F := Ideal) (iblk m c 0 t) (iblk m c 1 t) (iblk m c 2 t) (iblk m c 3 t) y
      = Cert.AdamwUpRIdeal.Read.val_main_v5 (F := Ideal) (inP m c) (((View.whole main_v6_0).slice (win0_4.rect t)).emb y) := by
    intro y
    obtain ⟨r, l, rfl⟩ : ∃ (r : Fin 256) (l : Fin 768), y = ix2 r l := ⟨y 0, y 1, eq_ix2 y⟩
    have e : ((View.whole main_v6_0).slice (win0_4.rect t)).emb (ix2 r l : S256x768.Idx) = (ix2 (rowOf t r) l : S1024x768.Idx) := by
      blk_ext [rowOf, idx t]
    rw [e, refG, outG, blk0]
  exact key y

/-- The step. -/
theorem final5 : (dats m 0 c).arrAt 5 cfg0.N = Cert.AdamwUpRIdeal.Read.val_main_v29 (F := Ideal) (inP m c) (inW m c) (inM m c) (inV m c) := by
  refine (dats m 0 c).arrAt_eq_of_covers 5 _ (by decide +kernel) fun t hf y => ?_
  blk_simp
  rw [after0_5]
  have key : ∀ y : S256x768.Idx, out0_5 (F := Ideal) (iblk m c 0 t) (iblk m c 1 t) (iblk m c 2 t) (iblk m c 3 t) y
      = Cert.AdamwUpRIdeal.Read.val_main_v29 (F := Ideal) (inP m c) (inW m c) (inM m c) (inV m c) (((View.whole main_v6_1).slice (win0_5.rect t)).emb y) := by
    intro y
    obtain ⟨r, l, rfl⟩ : ∃ (r : Fin 256) (l : Fin 768), y = ix2 r l := ⟨y 0, y 1, eq_ix2 y⟩
    have e : ((View.whole main_v6_1).slice (win0_5.rect t)).emb (ix2 r l : S256x768.Idx) = (ix2 (rowOf t r) l : S1024x768.Idx) := by
      blk_ext [rowOf, idx t]
    rw [e, refD, outD, blk0, blk1, blk2, blk3]
  exact key y

/-- The first moment. -/
theorem final6 : (dats m 0 c).arrAt 6 cfg0.N = Cert.AdamwUpRIdeal.Read.val_main_v10 (F := Ideal) (inP m c) (inM m c) := by
  refine (dats m 0 c).arrAt_eq_of_covers 6 _ (by decide +kernel) fun t hf y => ?_
  blk_simp
  rw [after0_6]
  have key : ∀ y : S256x768.Idx, out0_6 (F := Ideal) (iblk m c 0 t) (iblk m c 1 t) (iblk m c 2 t) (iblk m c 3 t) y
      = Cert.AdamwUpRIdeal.Read.val_main_v10 (F := Ideal) (inP m c) (inM m c) (((View.whole main_v6_2).slice (win0_6.rect t)).emb y) := by
    intro y
    obtain ⟨r, l, rfl⟩ : ∃ (r : Fin 256) (l : Fin 768), y = ix2 r l := ⟨y 0, y 1, eq_ix2 y⟩
    have e : ((View.whole main_v6_2).slice (win0_6.rect t)).emb (ix2 r l : S256x768.Idx) = (ix2 (rowOf t r) l : S1024x768.Idx) := by
      blk_ext [rowOf, idx t]
    rw [e, refM, outM, blk0, blk2]
  exact key y

/-- The second moment. -/
theorem final7 : (dats m 0 c).arrAt 7 cfg0.N = Cert.AdamwUpRIdeal.Read.val_main_v16 (F := Ideal) (inP m c) (inV m c) := by
  refine (dats m 0 c).arrAt_eq_of_covers 7 _ (by decide +kernel) fun t hf y => ?_
  blk_simp
  rw [after0_7]
  have key : ∀ y : S256x768.Idx, out0_7 (F := Ideal) (iblk m c 0 t) (iblk m c 1 t) (iblk m c 2 t) (iblk m c 3 t) y
      = Cert.AdamwUpRIdeal.Read.val_main_v16 (F := Ideal) (inP m c) (inV m c) (((View.whole main_v6_3).slice (win0_7.rect t)).emb y) := by
    intro y
    obtain ⟨r, l, rfl⟩ : ∃ (r : Fin 256) (l : Fin 768), y = ix2 r l := ⟨y 0, y 1, eq_ix2 y⟩
    have e : ((View.whole main_v6_3).slice (win0_7.rect t)).emb (ix2 r l : S256x768.Idx) = (ix2 (rowOf t r) l : S1024x768.Idx) := by
      blk_ext [rowOf, idx t]
    rw [e, refV, outV, blk0, blk3]
  exact key y

end Cert.AdamwUpFinal
end
-- ==== Proof.AdamwUpClaim.lean ====
module

public import Idealize.ShloMosaic.Lib.Quiescent
public import proofs.«01_k».proof.Defs
public import proofs.«01_k».proof.Proof.AdamwUpFinal
public import proofs.«01_k».proof.Proof.Gen.AdamwUp
public import proofs.«01_k».proof.Proof.Gen.AdamwUpRIdeal.Run

/-! The reference's frame and the value claim of this call. -/

@[expose] public section

set_option maxRecDepth 16384

noncomputable section
open Idealize.ShloMosaic Idealize.ShloMosaic.TcCoe Idealize.SL.Sem
namespace Cert.AdamwUpClaim

/-- The reference runs and keeps its arguments; it declares no semaphore. -/
theorem frameRef : Cert.quiescent_AdamwUpRIdeal (hAdamwUpRIdeal := Cert.AdamwUpRIdeal.Gen.facts) := fun m ρ _ =>
  (θ_run Cert.AdamwUpRIdeal.defs _ _).mono (fun r h => ⟨fun c => (h c).2.2.2.2, sem_eq_zero_of_no_sems (by decide) r.2⟩)
    (Cert.AdamwUpRIdeal.Value.run (F := Ideal) m ρ)

/-- The two programs end with equal results. -/
theorem algebraic : Cert.algebraic_AdamwUpIdeal_AdamwUpRIdeal (hAdamwUpIdeal := Cert.AdamwUpIdeal.Gen.facts) (hAdamwUpRIdeal := Cert.AdamwUpRIdeal.Gen.facts) := by
  intro m g m' g' _ hag
  refine ⟨fun c => (Cert.AdamwUpIdeal.Gen.dats m 0 c).arrAt 4 Cert.AdamwUpIdeal.cfg0.N, fun c => (Cert.AdamwUpIdeal.Gen.dats m 0 c).arrAt 5 Cert.AdamwUpIdeal.cfg0.N, fun c => (Cert.AdamwUpIdeal.Gen.dats m 0 c).arrAt 6 Cert.AdamwUpIdeal.cfg0.N, fun c => (Cert.AdamwUpIdeal.Gen.dats m 0 c).arrAt 7 Cert.AdamwUpIdeal.cfg0.N, Cert.AdamwUpIdeal.Value.run_blocks (F := Ideal) m g, ?_⟩
  refine (θ_run Cert.AdamwUpRIdeal.defs _ _).mono (fun r h c => ?_) (Cert.AdamwUpRIdeal.Value.run (F := Ideal) m' g')
  obtain ⟨h0, h1, h2, h3, hk⟩ := h c
  obtain ⟨a0, a1, a2, a3⟩ := hag c
  refine ⟨?_, ?_, ?_, ?_, hk⟩
  · exact (h0.trans (Cert.AdamwUpRIdeal.Read.val_main_v5_eq _)).trans (by rw [a0]; exact (Cert.AdamwUpFinal.final4 m c).symm)
  · exact (h1.trans (Cert.AdamwUpRIdeal.Read.val_main_v29_eq _ _ _ _)).trans (by rw [a0, a1, a2, a3]; exact (Cert.AdamwUpFinal.final5 m c).symm)
  · exact (h2.trans (Cert.AdamwUpRIdeal.Read.val_main_v10_eq _ _)).trans (by rw [a0, a2]; exact (Cert.AdamwUpFinal.final6 m c).symm)
  · exact (h3.trans (Cert.AdamwUpRIdeal.Read.val_main_v16_eq _ _)).trans (by rw [a0, a3]; exact (Cert.AdamwUpFinal.final7 m c).symm)

end Cert.AdamwUpClaim
end
-- ==== Proof.AdamwOutFinal.lean ====
module

public import proofs.«01_k».proof.Proof.AdamwRule
public import proofs.«01_k».proof.Proof.Gen.AdamwOutIdeal.Value
public import proofs.«01_k».proof.Proof.Gen.AdamwOutRIdeal.Read

/-! The optimiser's step of the mixers' output weight: the four arrays the call leaves are the reference's. -/

@[expose] public section

set_option maxRecDepth 16384

noncomputable section
open Idealize.ShloMosaic Idealize.ShloMosaic.TcCoe Idealize.SL.Sem
open Idealize.ShloMosaic.Pipeline (Dat)
namespace Cert.AdamwOutFinal
open Cert.AdamwOutIdeal Cert.AdamwOutIdeal.Gen Cert.AdamwRule

section R
open Cert.AdamwOutRIdeal.Read
variable (p : FVec Ideal S8x128x1024 .bf16) (w a v : FVec Ideal S128x1024 .f32) (r : Fin 128) (l : Fin 1024)

theorem refG : val_main_v1 (F := Ideal) p (ix2 r l) = total p r l := by
  pointwise [val_main_v1, val_main_v0, val_main_cst]
  rfl

theorem refM : val_main_v6 (F := Ideal) p a (ix2 r l) = mean (total p r l) (a (ix2 r l)) := by
  rw [← refG]
  pointwise [val_main_v6, val_main_v5, val_main_v4, val_main_v3, val_main_v2, val_main_cst_0, val_main_cst_1]
  rfl

theorem refV : val_main_v12 (F := Ideal) p v (ix2 r l) = square (total p r l) (v (ix2 r l)) := by
  rw [← refG]
  pointwise [val_main_v12, val_main_v11, val_main_v10, val_main_v9, val_main_v8, val_main_v7, val_main_cst_2, val_main_cst_3]
  rfl

theorem refD : val_main_v25 (F := Ideal) p w a v (ix2 r l) = delta (total p r l) (w (ix2 r l)) (a (ix2 r l)) (v (ix2 r l)) := by
  unfold delta
  rw [← refM, ← refV]
  pointwise [val_main_v25, val_main_v24, val_main_v23, val_main_v22, val_main_v21, val_main_v20, val_main_v19, val_main_v18, val_main_v17, val_main_v16, val_main_v15, val_main_v14, val_main_v13,
    val_main_cst_4, val_main_cst_5, val_main_cst_6, val_main_cst_7, val_main_cst_8]
end R

section K
variable (p : FVec Ideal S8x128x1024 .bf16) (w a v : FVec Ideal S128x1024 .f32) (r : Fin 128) (l : Fin 1024)

theorem sumAt : k0_pay5 (F := Ideal) p w a v (ix2 r l) = total p r l := by
  unfold k0_pay5
  pointwise [k0_pay4]
  exact (Fin.sum_univ_eight fun k => (p (ix3 k r l) : EReal)).symm

theorem outG : out0_4 (F := Ideal) p w a v (ix2 r l) = total p r l := by
  unfold out0_4
  frame_out
  exact sumAt p w a v r l

theorem outM : out0_6 (F := Ideal) p w a v (ix2 r l) = mean (total p r l) (a (ix2 r l)) := by
  rw [← sumAt p w a v]
  unfold out0_6
  frame_out
  pointwise [k0_pay1]
  rfl

theorem outV : out0_7 (F := Ideal) p w a v (ix2 r l) = square (total p r l) (v (ix2 r l)) := by
  rw [← sumAt p w a v]
  unfold out0_7
  frame_out
  pointwise [k0_pay2]
  rfl

theorem outD : out0_5 (F := Ideal) p w a v (ix2 r l) = delta (total p r l) (w (ix2 r l)) (a (ix2 r l)) (v (ix2 r l)) := by
  rw [← sumAt p w a v]
  unfold delta mean square
  unfold out0_5
  frame_out
  pointwise [k0_pay3, k0_pay1, k0_pay2]
end K

theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

variable (m : (ℓ : Loc nD τ sig) → Buf (Elt Ideal) ℓ) (c : Dev nD)

/-- Row `r` of the point's blocks in the arrays. -/
def rowOf (t : Fin cfg0.N) (r : Fin 128) : Fin 128 := ⟨t.val * 128 + r.val, by have : t.val < 1 := t.isLt; omega⟩

abbrev inP : FVec Ideal S8x128x1024 .bf16 := m ((c : Thread nD τ).loc main_arg0)
abbrev inW : FVec Ideal S128x1024 .f32 := m ((c : Thread nD τ).loc main_arg1)
abbrev inM : FVec Ideal S128x1024 .f32 := m ((c : Thread nD τ).loc main_arg2)
abbrev inV : FVec Ideal S128x1024 .f32 := m ((c : Thread nD τ).loc main_arg3)

theorem blk0 (t : Fin cfg0.N) (r : Fin 128) (l : Fin 1024) :
    total (t := .bf16) (iblk m c 0 t : FVec Ideal S8x128x1024 .bf16) r l = total (inP m c) (rowOf t r) l := by
  refine Finset.sum_congr rfl fun k _ => ?_
  unfold inP
  rw [← V_main_arg0 m c]
  blk_ext [iblk, rowOf, idx t]

theorem blk1 (t : Fin cfg0.N) (r : Fin 128) (l : Fin 1024) :
    (iblk m c 1 t : FVec Ideal S128x1024 .f32) (ix2 r l) = inW m c (ix2 (rowOf t r) l) := by
  unfold inW
  rw [← V_main_arg1 m c]
  blk_ext [iblk, rowOf, idx t]

theorem blk2 (t : Fin cfg0.N) (r : Fin 128) (l : Fin 1024) :
    (iblk m c 2 t : FVec Ideal S128x1024 .f32) (ix2 r l) = inM m c (ix2 (rowOf t r) l) := by
  unfold inM
  rw [← V_main_arg2 m c]
  blk_ext [iblk, rowOf, idx t]

theorem blk3 (t : Fin cfg0.N) (r : Fin 128) (l : Fin 1024) :
    (iblk m c 3 t : FVec Ideal S128x1024 .f32) (ix2 r l) = inV m c (ix2 (rowOf t r) l) := by
  unfold inV
  rw [← V_main_arg3 m c]
  blk_ext [iblk, rowOf, idx t]

/-- The gradient. -/
theorem final4 : (dats m 0 c).arrAt 4 cfg0.N = Cert.AdamwOutRIdeal.Read.val_main_v1 (F := Ideal) (inP m c) := by
  refine (dats m 0 c).arrAt_eq_of_covers 4 _ (by decide +kernel) fun t hf y => ?_
  blk_simp
  rw [after0_4]
  have key : ∀ y : S128x1024.Idx, out0_4 (F := Ideal) (iblk m c 0 t) (iblk m c 1 t) (iblk m c 2 t) (iblk m c 3 t) y
      = Cert.AdamwOutRIdeal.Read.val_main_v1 (F := Ideal) (inP m c) (((View.whole main_v0_0).slice (win0_4.rect t)).emb y) := by
    intro y
    obtain ⟨r, l, rfl⟩ : ∃ (r : Fin 128) (l : Fin 1024), y = ix2 r l := ⟨y 0, y 1, eq_ix2 y⟩
    have e : ((View.whole main_v0_0).slice (win0_4.rect t)).emb (ix2 r l : S128x1024.Idx) = (ix2 (rowOf t r) l : S128x1024.Idx) := by
      blk_ext [rowOf, idx t]
    rw [e, refG, outG, blk0]
  exact key y

/-- The step. -/
theorem final5 : (dats m 0 c).arrAt 5 cfg0.N = Cert.AdamwOutRIdeal.Read.val_main_v25 (F := Ideal) (inP m c) (inW m c) (inM m c) (inV m c) := by
  refine (dats m 0 c).arrAt_eq_of_covers 5 _ (by decide +kernel) fun t hf y => ?_
  blk_simp
  rw [after0_5]
  have key : ∀ y : S128x1024.Idx, out0_5 (F := Ideal) (iblk m c 0 t) (iblk m c 1 t) (iblk m c 2 t) (iblk m c 3 t) y
      = Cert.AdamwOutRIdeal.Read.val_main_v25 (F := Ideal) (inP m c) (inW m c) (inM m c) (inV m c) (((View.whole main_v0_1).slice (win0_5.rect t)).emb y) := by
    intro y
    obtain ⟨r, l, rfl⟩ : ∃ (r : Fin 128) (l : Fin 1024), y = ix2 r l := ⟨y 0, y 1, eq_ix2 y⟩
    have e : ((View.whole main_v0_1).slice (win0_5.rect t)).emb (ix2 r l : S128x1024.Idx) = (ix2 (rowOf t r) l : S128x1024.Idx) := by
      blk_ext [rowOf, idx t]
    rw [e, refD, outD, blk0, blk1, blk2, blk3]
  exact key y

/-- The first moment. -/
theorem final6 : (dats m 0 c).arrAt 6 cfg0.N = Cert.AdamwOutRIdeal.Read.val_main_v6 (F := Ideal) (inP m c) (inM m c) := by
  refine (dats m 0 c).arrAt_eq_of_covers 6 _ (by decide +kernel) fun t hf y => ?_
  blk_simp
  rw [after0_6]
  have key : ∀ y : S128x1024.Idx, out0_6 (F := Ideal) (iblk m c 0 t) (iblk m c 1 t) (iblk m c 2 t) (iblk m c 3 t) y
      = Cert.AdamwOutRIdeal.Read.val_main_v6 (F := Ideal) (inP m c) (inM m c) (((View.whole main_v0_2).slice (win0_6.rect t)).emb y) := by
    intro y
    obtain ⟨r, l, rfl⟩ : ∃ (r : Fin 128) (l : Fin 1024), y = ix2 r l := ⟨y 0, y 1, eq_ix2 y⟩
    have e : ((View.whole main_v0_2).slice (win0_6.rect t)).emb (ix2 r l : S128x1024.Idx) = (ix2 (rowOf t r) l : S128x1024.Idx) := by
      blk_ext [rowOf, idx t]
    rw [e, refM, outM, blk0, blk2]
  exact key y

/-- The second moment. -/
theorem final7 : (dats m 0 c).arrAt 7 cfg0.N = Cert.AdamwOutRIdeal.Read.val_main_v12 (F := Ideal) (inP m c) (inV m c) := by
  refine (dats m 0 c).arrAt_eq_of_covers 7 _ (by decide +kernel) fun t hf y => ?_
  blk_simp
  rw [after0_7]
  have key : ∀ y : S128x1024.Idx, out0_7 (F := Ideal) (iblk m c 0 t) (iblk m c 1 t) (iblk m c 2 t) (iblk m c 3 t) y
      = Cert.AdamwOutRIdeal.Read.val_main_v12 (F := Ideal) (inP m c) (inV m c) (((View.whole main_v0_3).slice (win0_7.rect t)).emb y) := by
    intro y
    obtain ⟨r, l, rfl⟩ : ∃ (r : Fin 128) (l : Fin 1024), y = ix2 r l := ⟨y 0, y 1, eq_ix2 y⟩
    have e : ((View.whole main_v0_3).slice (win0_7.rect t)).emb (ix2 r l : S128x1024.Idx) = (ix2 (rowOf t r) l : S128x1024.Idx) := by
      blk_ext [rowOf, idx t]
    rw [e, refV, outV, blk0, blk3]
  exact key y

end Cert.AdamwOutFinal
end
-- ==== Proof.AdamwOutClaim.lean ====
module

public import Idealize.ShloMosaic.Lib.Quiescent
public import proofs.«01_k».proof.Defs
public import proofs.«01_k».proof.Proof.AdamwOutFinal
public import proofs.«01_k».proof.Proof.Gen.AdamwOut
public import proofs.«01_k».proof.Proof.Gen.AdamwOutRIdeal.Run

/-! The reference's frame and the value claim of this call. -/

@[expose] public section

set_option maxRecDepth 16384

noncomputable section
open Idealize.ShloMosaic Idealize.ShloMosaic.TcCoe Idealize.SL.Sem
namespace Cert.AdamwOutClaim

/-- The reference runs and keeps its arguments; it declares no semaphore. -/
theorem frameRef : Cert.quiescent_AdamwOutRIdeal (hAdamwOutRIdeal := Cert.AdamwOutRIdeal.Gen.facts) := fun m ρ _ =>
  (θ_run Cert.AdamwOutRIdeal.defs _ _).mono (fun r h => ⟨fun c => (h c).2.2.2.2, sem_eq_zero_of_no_sems (by decide) r.2⟩)
    (Cert.AdamwOutRIdeal.Value.run (F := Ideal) m ρ)

/-- The two programs end with equal results. -/
theorem algebraic : Cert.algebraic_AdamwOutIdeal_AdamwOutRIdeal (hAdamwOutIdeal := Cert.AdamwOutIdeal.Gen.facts) (hAdamwOutRIdeal := Cert.AdamwOutRIdeal.Gen.facts) := by
  intro m g m' g' _ hag
  refine ⟨fun c => (Cert.AdamwOutIdeal.Gen.dats m 0 c).arrAt 4 Cert.AdamwOutIdeal.cfg0.N, fun c => (Cert.AdamwOutIdeal.Gen.dats m 0 c).arrAt 5 Cert.AdamwOutIdeal.cfg0.N, fun c => (Cert.AdamwOutIdeal.Gen.dats m 0 c).arrAt 6 Cert.AdamwOutIdeal.cfg0.N, fun c => (Cert.AdamwOutIdeal.Gen.dats m 0 c).arrAt 7 Cert.AdamwOutIdeal.cfg0.N, Cert.AdamwOutIdeal.Value.run_blocks (F := Ideal) m g, ?_⟩
  refine (θ_run Cert.AdamwOutRIdeal.defs _ _).mono (fun r h c => ?_) (Cert.AdamwOutRIdeal.Value.run (F := Ideal) m' g')
  obtain ⟨h0, h1, h2, h3, hk⟩ := h c
  obtain ⟨a0, a1, a2, a3⟩ := hag c
  refine ⟨?_, ?_, ?_, ?_, hk⟩
  · exact (h0.trans (Cert.AdamwOutRIdeal.Read.val_main_v1_eq _)).trans (by rw [a0]; exact (Cert.AdamwOutFinal.final4 m c).symm)
  · exact (h1.trans (Cert.AdamwOutRIdeal.Read.val_main_v25_eq _ _ _ _)).trans (by rw [a0, a1, a2, a3]; exact (Cert.AdamwOutFinal.final5 m c).symm)
  · exact (h2.trans (Cert.AdamwOutRIdeal.Read.val_main_v6_eq _ _)).trans (by rw [a0, a2]; exact (Cert.AdamwOutFinal.final6 m c).symm)
  · exact (h3.trans (Cert.AdamwOutRIdeal.Read.val_main_v12_eq _ _)).trans (by rw [a0, a3]; exact (Cert.AdamwOutFinal.final7 m c).symm)

end Cert.AdamwOutClaim
end
-- ==== Proof.AdamwDownFinal.lean ====
module

public import proofs.«01_k».proof.Proof.AdamwRule
public import proofs.«01_k».proof.Proof.Gen.AdamwDownIdeal.Value
public import proofs.«01_k».proof.Proof.Gen.AdamwDownRIdeal.Read

/-! The optimiser's step of the down-projection's weight: the four arrays the call leaves are the reference's. -/

@[expose] public section

set_option maxRecDepth 16384

noncomputable section
open Idealize.ShloMosaic Idealize.ShloMosaic.TcCoe Idealize.SL.Sem
open Idealize.ShloMosaic.Pipeline (Dat)
namespace Cert.AdamwDownFinal
open Cert.AdamwDownIdeal Cert.AdamwDownIdeal.Gen Cert.AdamwRule

section R
open Cert.AdamwDownRIdeal.Read
variable (p : FVec Ideal S8x352x1024 .bf16) (w a v : FVec Ideal S352x1024 .f32) (r : Fin 352) (l : Fin 1024)

theorem refG : val_main_v1 (F := Ideal) p (ix2 r l) = total p r l := by
  pointwise [val_main_v1, val_main_v0, val_main_cst]
  rfl

theorem refM : val_main_v6 (F := Ideal) p a (ix2 r l) = mean (total p r l) (a (ix2 r l)) := by
  rw [← refG]
  pointwise [val_main_v6, val_main_v5, val_main_v4, val_main_v3, val_main_v2, val_main_cst_0, val_main_cst_1]
  rfl

theorem refV : val_main_v12 (F := Ideal) p v (ix2 r l) = square (total p r l) (v (ix2 r l)) := by
  rw [← refG]
  pointwise [val_main_v12, val_main_v11, val_main_v10, val_main_v9, val_main_v8, val_main_v7, val_main_cst_2, val_main_cst_3]
  rfl

theorem refD : val_main_v25 (F := Ideal) p w a v (ix2 r l) = delta (total p r l) (w (ix2 r l)) (a (ix2 r l)) (v (ix2 r l)) := by
  unfold delta
  rw [← refM, ← refV]
  pointwise [val_main_v25, val_main_v24, val_main_v23, val_main_v22, val_main_v21, val_main_v20, val_main_v19, val_main_v18, val_main_v17, val_main_v16, val_main_v15, val_main_v14, val_main_v13,
    val_main_cst_4, val_main_cst_5, val_main_cst_6, val_main_cst_7, val_main_cst_8]
end R

section K
variable (p : FVec Ideal S8x176x1024 .bf16) (w a v : FVec Ideal S176x1024 .f32) (r : Fin 176) (l : Fin 1024)

theorem sumAt : k0_pay5 (F := Ideal) p w a v (ix2 r l) = total p r l := by
  unfold k0_pay5
  pointwise [k0_pay4]
  exact (Fin.sum_univ_eight fun k => (p (ix3 k r l) : EReal)).symm

theorem outG : out0_4 (F := Ideal) p w a v (ix2 r l) = total p r l := by
  unfold out0_4
  frame_out
  exact sumAt p w a v r l

theorem outM : out0_6 (F := Ideal) p w a v (ix2 r l) = mean (total p r l) (a (ix2 r l)) := by
  rw [← sumAt p w a v]
  unfold out0_6
  frame_out
  pointwise [k0_pay1]
  rfl

theorem outV : out0_7 (F := Ideal) p w a v (ix2 r l) = square (total p r l) (v (ix2 r l)) := by
  rw [← sumAt p w a v]
  unfold out0_7
  frame_out
  pointwise [k0_pay2]
  rfl

theorem outD : out0_5 (F := Ideal) p w a v (ix2 r l) = delta (total p r l) (w (ix2 r l)) (a (ix2 r l)) (v (ix2 r l)) := by
  rw [← sumAt p w a v]
  unfold delta mean square
  unfold out0_5
  frame_out
  pointwise [k0_pay3, k0_pay1, k0_pay2]
end K

theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

variable (m : (ℓ : Loc nD τ sig) → Buf (Elt Ideal) ℓ) (c : Dev nD)

/-- Row `r` of the point's blocks in the arrays. -/
def rowOf (t : Fin cfg0.N) (r : Fin 176) : Fin 352 := ⟨t.val * 176 + r.val, by have : t.val < 2 := t.isLt; omega⟩

abbrev inP : FVec Ideal S8x352x1024 .bf16 := m ((c : Thread nD τ).loc main_arg0)
abbrev inW : FVec Ideal S352x1024 .f32 := m ((c : Thread nD τ).loc main_arg1)
abbrev inM : FVec Ideal S352x1024 .f32 := m ((c : Thread nD τ).loc main_arg2)
abbrev inV : FVec Ideal S352x1024 .f32 := m ((c : Thread nD τ).loc main_arg3)

theorem blk0 (t : Fin cfg0.N) (r : Fin 176) (l : Fin 1024) :
    total (t := .bf16) (iblk m c 0 t : FVec Ideal S8x176x1024 .bf16) r l = total (inP m c) (rowOf t r) l := by
  refine Finset.sum_congr rfl fun k _ => ?_
  unfold inP
  rw [← V_main_arg0 m c]
  blk_ext [iblk, rowOf, idx t]

theorem blk1 (t : Fin cfg0.N) (r : Fin 176) (l : Fin 1024) :
    (iblk m c 1 t : FVec Ideal S176x1024 .f32) (ix2 r l) = inW m c (ix2 (rowOf t r) l) := by
  unfold inW
  rw [← V_main_arg1 m c]
  blk_ext [iblk, rowOf, idx t]

theorem blk2 (t : Fin cfg0.N) (r : Fin 176) (l : Fin 1024) :
    (iblk m c 2 t : FVec Ideal S176x1024 .f32) (ix2 r l) = inM m c (ix2 (rowOf t r) l) := by
  unfold inM
  rw [← V_main_arg2 m c]
  blk_ext [iblk, rowOf, idx t]

theorem blk3 (t : Fin cfg0.N) (r : Fin 176) (l : Fin 1024) :
    (iblk m c 3 t : FVec Ideal S176x1024 .f32) (ix2 r l) = inV m c (ix2 (rowOf t r) l) := by
  unfold inV
  rw [← V_main_arg3 m c]
  blk_ext [iblk, rowOf, idx t]

/-- The gradient. -/
theorem final4 : (dats m 0 c).arrAt 4 cfg0.N = Cert.AdamwDownRIdeal.Read.val_main_v1 (F := Ideal) (inP m c) := by
  refine (dats m 0 c).arrAt_eq_of_covers 4 _ (by decide +kernel) fun t hf y => ?_
  blk_simp
  rw [after0_4]
  have key : ∀ y : S176x1024.Idx, out0_4 (F := Ideal) (iblk m c 0 t) (iblk m c 1 t) (iblk m c 2 t) (iblk m c 3 t) y
      = Cert.AdamwDownRIdeal.Read.val_main_v1 (F := Ideal) (inP m c) (((View.whole main_v0_0).slice (win0_4.rect t)).emb y) := by
    intro y
    obtain ⟨r, l, rfl⟩ : ∃ (r : Fin 176) (l : Fin 1024), y = ix2 r l := ⟨y 0, y 1, eq_ix2 y⟩
    have e : ((View.whole main_v0_0).slice (win0_4.rect t)).emb (ix2 r l : S176x1024.Idx) = (ix2 (rowOf t r) l : S352x1024.Idx) := by
      blk_ext [rowOf, idx t]
    rw [e, refG, outG, blk0]
  exact key y

/-- The step. -/
theorem final5 : (dats m 0 c).arrAt 5 cfg0.N = Cert.AdamwDownRIdeal.Read.val_main_v25 (F := Ideal) (inP m c) (inW m c) (inM m c) (inV m c) := by
  refine (dats m 0 c).arrAt_eq_of_covers 5 _ (by decide +kernel) fun t hf y => ?_
  blk_simp
  rw [after0_5]
  have key : ∀ y : S176x1024.Idx, out0_5 (F := Ideal) (iblk m c 0 t) (iblk m c 1 t) (iblk m c 2 t) (iblk m c 3 t) y
      = Cert.AdamwDownRIdeal.Read.val_main_v25 (F := Ideal) (inP m c) (inW m c) (inM m c) (inV m c) (((View.whole main_v0_1).slice (win0_5.rect t)).emb y) := by
    intro y
    obtain ⟨r, l, rfl⟩ : ∃ (r : Fin 176) (l : Fin 1024), y = ix2 r l := ⟨y 0, y 1, eq_ix2 y⟩
    have e : ((View.whole main_v0_1).slice (win0_5.rect t)).emb (ix2 r l : S176x1024.Idx) = (ix2 (rowOf t r) l : S352x1024.Idx) := by
      blk_ext [rowOf, idx t]
    rw [e, refD, outD, blk0, blk1, blk2, blk3]
  exact key y

/-- The first moment. -/
theorem final6 : (dats m 0 c).arrAt 6 cfg0.N = Cert.AdamwDownRIdeal.Read.val_main_v6 (F := Ideal) (inP m c) (inM m c) := by
  refine (dats m 0 c).arrAt_eq_of_covers 6 _ (by decide +kernel) fun t hf y => ?_
  blk_simp
  rw [after0_6]
  have key : ∀ y : S176x1024.Idx, out0_6 (F := Ideal) (iblk m c 0 t) (iblk m c 1 t) (iblk m c 2 t) (iblk m c 3 t) y
      = Cert.AdamwDownRIdeal.Read.val_main_v6 (F := Ideal) (inP m c) (inM m c) (((View.whole main_v0_2).slice (win0_6.rect t)).emb y) := by
    intro y
    obtain ⟨r, l, rfl⟩ : ∃ (r : Fin 176) (l : Fin 1024), y = ix2 r l := ⟨y 0, y 1, eq_ix2 y⟩
    have e : ((View.whole main_v0_2).slice (win0_6.rect t)).emb (ix2 r l : S176x1024.Idx) = (ix2 (rowOf t r) l : S352x1024.Idx) := by
      blk_ext [rowOf, idx t]
    rw [e, refM, outM, blk0, blk2]
  exact key y

/-- The second moment. -/
theorem final7 : (dats m 0 c).arrAt 7 cfg0.N = Cert.AdamwDownRIdeal.Read.val_main_v12 (F := Ideal) (inP m c) (inV m c) := by
  refine (dats m 0 c).arrAt_eq_of_covers 7 _ (by decide +kernel) fun t hf y => ?_
  blk_simp
  rw [after0_7]
  have key : ∀ y : S176x1024.Idx, out0_7 (F := Ideal) (iblk m c 0 t) (iblk m c 1 t) (iblk m c 2 t) (iblk m c 3 t) y
      = Cert.AdamwDownRIdeal.Read.val_main_v12 (F := Ideal) (inP m c) (inV m c) (((View.whole main_v0_3).slice (win0_7.rect t)).emb y) := by
    intro y
    obtain ⟨r, l, rfl⟩ : ∃ (r : Fin 176) (l : Fin 1024), y = ix2 r l := ⟨y 0, y 1, eq_ix2 y⟩
    have e : ((View.whole main_v0_3).slice (win0_7.rect t)).emb (ix2 r l : S176x1024.Idx) = (ix2 (rowOf t r) l : S352x1024.Idx) := by
      blk_ext [rowOf, idx t]
    rw [e, refV, outV, blk0, blk3]
  exact key y

end Cert.AdamwDownFinal
end
-- ==== Proof.AdamwDownClaim.lean ====
module

public import Idealize.ShloMosaic.Lib.Quiescent
public import proofs.«01_k».proof.Defs
public import proofs.«01_k».proof.Proof.AdamwDownFinal
public import proofs.«01_k».proof.Proof.Gen.AdamwDown
public import proofs.«01_k».proof.Proof.Gen.AdamwDownRIdeal.Run

/-! The reference's frame and the value claim of this call. -/

@[expose] public section

set_option maxRecDepth 16384

noncomputable section
open Idealize.ShloMosaic Idealize.ShloMosaic.TcCoe Idealize.SL.Sem
namespace Cert.AdamwDownClaim

/-- The reference runs and keeps its arguments; it declares no semaphore. -/
theorem frameRef : Cert.quiescent_AdamwDownRIdeal (hAdamwDownRIdeal := Cert.AdamwDownRIdeal.Gen.facts) := fun m ρ _ =>
  (θ_run Cert.AdamwDownRIdeal.defs _ _).mono (fun r h => ⟨fun c => (h c).2.2.2.2, sem_eq_zero_of_no_sems (by decide) r.2⟩)
    (Cert.AdamwDownRIdeal.Value.run (F := Ideal) m ρ)

/-- The two programs end with equal results. -/
theorem algebraic : Cert.algebraic_AdamwDownIdeal_AdamwDownRIdeal (hAdamwDownIdeal := Cert.AdamwDownIdeal.Gen.facts) (hAdamwDownRIdeal := Cert.AdamwDownRIdeal.Gen.facts) := by
  intro m g m' g' _ hag
  refine ⟨fun c => (Cert.AdamwDownIdeal.Gen.dats m 0 c).arrAt 4 Cert.AdamwDownIdeal.cfg0.N, fun c => (Cert.AdamwDownIdeal.Gen.dats m 0 c).arrAt 5 Cert.AdamwDownIdeal.cfg0.N, fun c => (Cert.AdamwDownIdeal.Gen.dats m 0 c).arrAt 6 Cert.AdamwDownIdeal.cfg0.N, fun c => (Cert.AdamwDownIdeal.Gen.dats m 0 c).arrAt 7 Cert.AdamwDownIdeal.cfg0.N, Cert.AdamwDownIdeal.Value.run_blocks (F := Ideal) m g, ?_⟩
  refine (θ_run Cert.AdamwDownRIdeal.defs _ _).mono (fun r h c => ?_) (Cert.AdamwDownRIdeal.Value.run (F := Ideal) m' g')
  obtain ⟨h0, h1, h2, h3, hk⟩ := h c
  obtain ⟨a0, a1, a2, a3⟩ := hag c
  refine ⟨?_, ?_, ?_, ?_, hk⟩
  · exact (h0.trans (Cert.AdamwDownRIdeal.Read.val_main_v1_eq _)).trans (by rw [a0]; exact (Cert.AdamwDownFinal.final4 m c).symm)
  · exact (h1.trans (Cert.AdamwDownRIdeal.Read.val_main_v25_eq _ _ _ _)).trans (by rw [a0, a1, a2, a3]; exact (Cert.AdamwDownFinal.final5 m c).symm)
  · exact (h2.trans (Cert.AdamwDownRIdeal.Read.val_main_v6_eq _ _)).trans (by rw [a0, a2]; exact (Cert.AdamwDownFinal.final6 m c).symm)
  · exact (h3.trans (Cert.AdamwDownRIdeal.Read.val_main_v12_eq _ _)).trans (by rw [a0, a3]; exact (Cert.AdamwDownFinal.final7 m c).symm)

end Cert.AdamwDownClaim
end
-- ==== Proof.AdamwSmallFinal.lean ====
module

public import proofs.«01_k».proof.Proof.AdamwRule
public import proofs.«01_k».proof.Proof.Gen.AdamwSmallIdeal.Value
public import proofs.«01_k».proof.Proof.Gen.AdamwSmallRIdeal.Read

/-! The optimiser's step of the packed small sharded weights: the four arrays the call leaves are the reference's. -/

@[expose] public section

set_option maxRecDepth 16384

noncomputable section
open Idealize.ShloMosaic Idealize.ShloMosaic.TcCoe Idealize.SL.Sem
open Idealize.ShloMosaic.Pipeline (Dat)
namespace Cert.AdamwSmallFinal
open Cert.AdamwSmallIdeal Cert.AdamwSmallIdeal.Gen Cert.AdamwRule

section R
open Cert.AdamwSmallRIdeal.Read
variable (p : FVec Ideal S8x8x1024 .f32) (w a v : FVec Ideal S8x1024 .f32) (r : Fin 8) (l : Fin 1024)

theorem refG : val_main_v0 (F := Ideal) p (ix2 r l) = total p r l := by
  pointwise [val_main_v0, val_main_cst]
  rfl

theorem refM : val_main_v5 (F := Ideal) p a (ix2 r l) = mean (total p r l) (a (ix2 r l)) := by
  rw [← refG]
  pointwise [val_main_v5, val_main_v4, val_main_v3, val_main_v2, val_main_v1, val_main_cst_0, val_main_cst_1]
  rfl

theorem refV : val_main_v11 (F := Ideal) p v (ix2 r l) = square (total p r l) (v (ix2 r l)) := by
  rw [← refG]
  pointwise [val_main_v11, val_main_v10, val_main_v9, val_main_v8, val_main_v7, val_main_v6, val_main_cst_2, val_main_cst_3]
  rfl

theorem refD : val_main_v24 (F := Ideal) p w a v (ix2 r l) = delta (total p r l) (w (ix2 r l)) (a (ix2 r l)) (v (ix2 r l)) := by
  unfold delta
  rw [← refM, ← refV]
  pointwise [val_main_v24, val_main_v23, val_main_v22, val_main_v21, val_main_v20, val_main_v19, val_main_v18, val_main_v17, val_main_v16, val_main_v15, val_main_v14, val_main_v13, val_main_v12,
    val_main_cst_4, val_main_cst_5, val_main_cst_6, val_main_cst_7, val_main_cst_8]
end R

section K
variable (p : FVec Ideal S8x8x1024 .f32) (w a v : FVec Ideal S8x1024 .f32) (r : Fin 8) (l : Fin 1024)

theorem sumAt : k0_pay5 (F := Ideal) p w a v (ix2 r l) = total p r l := by
  unfold k0_pay5
  pointwise [k0_pay3]
  exact (Fin.sum_univ_eight fun k => (p (ix3 k r l) : EReal)).symm

theorem outG : out0_4 (F := Ideal) p w a v (ix2 r l) = total p r l := by
  unfold out0_4
  frame_out
  exact sumAt p w a v r l

theorem meanAt : k0_pay6 (F := Ideal) p w a v (ix2 r l) = mean (total p r l) (a (ix2 r l)) := by
  rw [← sumAt p w a v]
  unfold k0_pay6 k0_pay5
  pointwise [k0_pay4]
  rfl

theorem outM : out0_6 (F := Ideal) p w a v (ix2 r l) = mean (total p r l) (a (ix2 r l)) := by
  unfold out0_6
  frame_out
  exact meanAt p w a v r l

theorem outV : out0_7 (F := Ideal) p w a v (ix2 r l) = square (total p r l) (v (ix2 r l)) := by
  rw [← sumAt p w a v]
  unfold out0_7
  frame_out
  pointwise [k0_pay1]
  rfl

theorem outD : out0_5 (F := Ideal) p w a v (ix2 r l) = delta (total p r l) (w (ix2 r l)) (a (ix2 r l)) (v (ix2 r l)) := by
  unfold delta
  rw [← meanAt p w a v, ← sumAt p w a v]
  unfold out0_5
  frame_out
  pointwise [k0_pay2, k0_pay1]
  rfl
end K

theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

variable (m : (ℓ : Loc nD τ sig) → Buf (Elt Ideal) ℓ) (c : Dev nD)

/-- Row `r` of the point's blocks in the arrays. -/
def rowOf (t : Fin cfg0.N) (r : Fin 8) : Fin 8 := ⟨t.val * 8 + r.val, by have : t.val < 1 := t.isLt; omega⟩

abbrev inP : FVec Ideal S8x8x1024 .f32 := m ((c : Thread nD τ).loc main_arg0)
abbrev inW : FVec Ideal S8x1024 .f32 := m ((c : Thread nD τ).loc main_arg1)
abbrev inM : FVec Ideal S8x1024 .f32 := m ((c : Thread nD τ).loc main_arg2)
abbrev inV : FVec Ideal S8x1024 .f32 := m ((c : Thread nD τ).loc main_arg3)

theorem blk0 (t : Fin cfg0.N) (r : Fin 8) (l : Fin 1024) :
    total (t := .f32) (iblk m c 0 t : FVec Ideal S8x8x1024 .f32) r l = total (inP m c) (rowOf t r) l := by
  refine Finset.sum_congr rfl fun k _ => ?_
  unfold inP
  rw [← V_main_arg0 m c]
  blk_ext [iblk, rowOf, idx t]

theorem blk1 (t : Fin cfg0.N) (r : Fin 8) (l : Fin 1024) :
    (iblk m c 1 t : FVec Ideal S8x1024 .f32) (ix2 r l) = inW m c (ix2 (rowOf t r) l) := by
  unfold inW
  rw [← V_main_arg1 m c]
  blk_ext [iblk, rowOf, idx t]

theorem blk2 (t : Fin cfg0.N) (r : Fin 8) (l : Fin 1024) :
    (iblk m c 2 t : FVec Ideal S8x1024 .f32) (ix2 r l) = inM m c (ix2 (rowOf t r) l) := by
  unfold inM
  rw [← V_main_arg2 m c]
  blk_ext [iblk, rowOf, idx t]

theorem blk3 (t : Fin cfg0.N) (r : Fin 8) (l : Fin 1024) :
    (iblk m c 3 t : FVec Ideal S8x1024 .f32) (ix2 r l) = inV m c (ix2 (rowOf t r) l) := by
  unfold inV
  rw [← V_main_arg3 m c]
  blk_ext [iblk, rowOf, idx t]

/-- The gradient. -/
theorem final4 : (dats m 0 c).arrAt 4 cfg0.N = Cert.AdamwSmallRIdeal.Read.val_main_v0 (F := Ideal) (inP m c) := by
  refine (dats m 0 c).arrAt_eq_of_covers 4 _ (by decide +kernel) fun t hf y => ?_
  blk_simp
  rw [after0_4]
  have key : ∀ y : S8x1024.Idx, out0_4 (F := Ideal) (iblk m c 0 t) (iblk m c 1 t) (iblk m c 2 t) (iblk m c 3 t) y
      = Cert.AdamwSmallRIdeal.Read.val_main_v0 (F := Ideal) (inP m c) (((View.whole main_v0_0).slice (win0_4.rect t)).emb y) := by
    intro y
    obtain ⟨r, l, rfl⟩ : ∃ (r : Fin 8) (l : Fin 1024), y = ix2 r l := ⟨y 0, y 1, eq_ix2 y⟩
    have e : ((View.whole main_v0_0).slice (win0_4.rect t)).emb (ix2 r l : S8x1024.Idx) = (ix2 (rowOf t r) l : S8x1024.Idx) := by
      blk_ext [rowOf, idx t]
    rw [e, refG, outG, blk0]
  exact key y

/-- The step. -/
theorem final5 : (dats m 0 c).arrAt 5 cfg0.N = Cert.AdamwSmallRIdeal.Read.val_main_v24 (F := Ideal) (inP m c) (inW m c) (inM m c) (inV m c) := by
  refine (dats m 0 c).arrAt_eq_of_covers 5 _ (by decide +kernel) fun t hf y => ?_
  blk_simp
  rw [after0_5]
  have key : ∀ y : S8x1024.Idx, out0_5 (F := Ideal) (iblk m c 0 t) (iblk m c 1 t) (iblk m c 2 t) (iblk m c 3 t) y
      = Cert.AdamwSmallRIdeal.Read.val_main_v24 (F := Ideal) (inP m c) (inW m c) (inM m c) (inV m c) (((View.whole main_v0_1).slice (win0_5.rect t)).emb y) := by
    intro y
    obtain ⟨r, l, rfl⟩ : ∃ (r : Fin 8) (l : Fin 1024), y = ix2 r l := ⟨y 0, y 1, eq_ix2 y⟩
    have e : ((View.whole main_v0_1).slice (win0_5.rect t)).emb (ix2 r l : S8x1024.Idx) = (ix2 (rowOf t r) l : S8x1024.Idx) := by
      blk_ext [rowOf, idx t]
    rw [e, refD, outD, blk0, blk1, blk2, blk3]
  exact key y

/-- The first moment. -/
theorem final6 : (dats m 0 c).arrAt 6 cfg0.N = Cert.AdamwSmallRIdeal.Read.val_main_v5 (F := Ideal) (inP m c) (inM m c) := by
  refine (dats m 0 c).arrAt_eq_of_covers 6 _ (by decide +kernel) fun t hf y => ?_
  blk_simp
  rw [after0_6]
  have key : ∀ y : S8x1024.Idx, out0_6 (F := Ideal) (iblk m c 0 t) (iblk m c 1 t) (iblk m c 2 t) (iblk m c 3 t) y
      = Cert.AdamwSmallRIdeal.Read.val_main_v5 (F := Ideal) (inP m c) (inM m c) (((View.whole main_v0_2).slice (win0_6.rect t)).emb y) := by
    intro y
    obtain ⟨r, l, rfl⟩ : ∃ (r : Fin 8) (l : Fin 1024), y = ix2 r l := ⟨y 0, y 1, eq_ix2 y⟩
    have e : ((View.whole main_v0_2).slice (win0_6.rect t)).emb (ix2 r l : S8x1024.Idx) = (ix2 (rowOf t r) l : S8x1024.Idx) := by
      blk_ext [rowOf, idx t]
    rw [e, refM, outM, blk0, blk2]
  exact key y

/-- The second moment. -/
theorem final7 : (dats m 0 c).arrAt 7 cfg0.N = Cert.AdamwSmallRIdeal.Read.val_main_v11 (F := Ideal) (inP m c) (inV m c) := by
  refine (dats m 0 c).arrAt_eq_of_covers 7 _ (by decide +kernel) fun t hf y => ?_
  blk_simp
  rw [after0_7]
  have key : ∀ y : S8x1024.Idx, out0_7 (F := Ideal) (iblk m c 0 t) (iblk m c 1 t) (iblk m c 2 t) (iblk m c 3 t) y
      = Cert.AdamwSmallRIdeal.Read.val_main_v11 (F := Ideal) (inP m c) (inV m c) (((View.whole main_v0_3).slice (win0_7.rect t)).emb y) := by
    intro y
    obtain ⟨r, l, rfl⟩ : ∃ (r : Fin 8) (l : Fin 1024), y = ix2 r l := ⟨y 0, y 1, eq_ix2 y⟩
    have e : ((View.whole main_v0_3).slice (win0_7.rect t)).emb (ix2 r l : S8x1024.Idx) = (ix2 (rowOf t r) l : S8x1024.Idx) := by
      blk_ext [rowOf, idx t]
    rw [e, refV, outV, blk0, blk3]
  exact key y

end Cert.AdamwSmallFinal
end
-- ==== Proof.AdamwSmallClaim.lean ====
module

public import Idealize.ShloMosaic.Lib.Quiescent
public import proofs.«01_k».proof.Defs
public import proofs.«01_k».proof.Proof.AdamwSmallFinal
public import proofs.«01_k».proof.Proof.Gen.AdamwSmall
public import proofs.«01_k».proof.Proof.Gen.AdamwSmallRIdeal.Run

/-! The reference's frame and the value claim of this call. -/

@[expose] public section

set_option maxRecDepth 16384

noncomputable section
open Idealize.ShloMosaic Idealize.ShloMosaic.TcCoe Idealize.SL.Sem
namespace Cert.AdamwSmallClaim

/-- The reference runs and keeps its arguments; it declares no semaphore. -/
theorem frameRef : Cert.quiescent_AdamwSmallRIdeal (hAdamwSmallRIdeal := Cert.AdamwSmallRIdeal.Gen.facts) := fun m ρ _ =>
  (θ_run Cert.AdamwSmallRIdeal.defs _ _).mono (fun r h => ⟨fun c => (h c).2.2.2.2, sem_eq_zero_of_no_sems (by decide) r.2⟩)
    (Cert.AdamwSmallRIdeal.Value.run (F := Ideal) m ρ)

/-- The two programs end with equal results. -/
theorem algebraic : Cert.algebraic_AdamwSmallIdeal_AdamwSmallRIdeal (hAdamwSmallIdeal := Cert.AdamwSmallIdeal.Gen.facts) (hAdamwSmallRIdeal := Cert.AdamwSmallRIdeal.Gen.facts) := by
  intro m g m' g' _ hag
  refine ⟨fun c => (Cert.AdamwSmallIdeal.Gen.dats m 0 c).arrAt 4 Cert.AdamwSmallIdeal.cfg0.N, fun c => (Cert.AdamwSmallIdeal.Gen.dats m 0 c).arrAt 5 Cert.AdamwSmallIdeal.cfg0.N, fun c => (Cert.AdamwSmallIdeal.Gen.dats m 0 c).arrAt 6 Cert.AdamwSmallIdeal.cfg0.N, fun c => (Cert.AdamwSmallIdeal.Gen.dats m 0 c).arrAt 7 Cert.AdamwSmallIdeal.cfg0.N, Cert.AdamwSmallIdeal.Value.run_blocks (F := Ideal) m g, ?_⟩
  refine (θ_run Cert.AdamwSmallRIdeal.defs _ _).mono (fun r h c => ?_) (Cert.AdamwSmallRIdeal.Value.run (F := Ideal) m' g')
  obtain ⟨h0, h1, h2, h3, hk⟩ := h c
  obtain ⟨a0, a1, a2, a3⟩ := hag c
  refine ⟨?_, ?_, ?_, ?_, hk⟩
  · exact (h0.trans (Cert.AdamwSmallRIdeal.Read.val_main_v0_eq _)).trans (by rw [a0]; exact (Cert.AdamwSmallFinal.final4 m c).symm)
  · exact (h1.trans (Cert.AdamwSmallRIdeal.Read.val_main_v24_eq _ _ _ _)).trans (by rw [a0, a1, a2, a3]; exact (Cert.AdamwSmallFinal.final5 m c).symm)
  · exact (h2.trans (Cert.AdamwSmallRIdeal.Read.val_main_v5_eq _ _)).trans (by rw [a0, a2]; exact (Cert.AdamwSmallFinal.final6 m c).symm)
  · exact (h3.trans (Cert.AdamwSmallRIdeal.Read.val_main_v11_eq _ _)).trans (by rw [a0, a3]; exact (Cert.AdamwSmallFinal.final7 m c).symm)

end Cert.AdamwSmallClaim
end
-- ==== Proof.AdamwReplFinal.lean ====
module

public import proofs.«01_k».proof.Proof.AdamwRule
public import proofs.«01_k».proof.Proof.Gen.AdamwReplIdeal.Value
public import proofs.«01_k».proof.Proof.Gen.AdamwReplRIdeal.Read

/-! The optimiser's step of the packed replicated weights: the four arrays the call leaves are the reference's. -/

@[expose] public section

set_option maxRecDepth 16384

noncomputable section
open Idealize.ShloMosaic Idealize.ShloMosaic.TcCoe Idealize.SL.Sem
open Idealize.ShloMosaic.Pipeline (Dat)
namespace Cert.AdamwReplFinal
open Cert.AdamwReplIdeal Cert.AdamwReplIdeal.Gen Cert.AdamwRule

section R
open Cert.AdamwReplRIdeal.Read
variable (p : FVec Ideal S8x24x1024 .f32) (w a v : FVec Ideal S24x1024 .f32) (r : Fin 24) (l : Fin 1024)

theorem refG : val_main_v0 (F := Ideal) p (ix2 r l) = total p r l := by
  pointwise [val_main_v0, val_main_cst]
  rfl

theorem refM : val_main_v5 (F := Ideal) p a (ix2 r l) = mean (total p r l) (a (ix2 r l)) := by
  rw [← refG]
  pointwise [val_main_v5, val_main_v4, val_main_v3, val_main_v2, val_main_v1, val_main_cst_0, val_main_cst_1]
  rfl

theorem refV : val_main_v11 (F := Ideal) p v (ix2 r l) = square (total p r l) (v (ix2 r l)) := by
  rw [← refG]
  pointwise [val_main_v11, val_main_v10, val_main_v9, val_main_v8, val_main_v7, val_main_v6, val_main_cst_2, val_main_cst_3]
  rfl

theorem refD : val_main_v24 (F := Ideal) p w a v (ix2 r l) = delta (total p r l) (w (ix2 r l)) (a (ix2 r l)) (v (ix2 r l)) := by
  unfold delta
  rw [← refM, ← refV]
  pointwise [val_main_v24, val_main_v23, val_main_v22, val_main_v21, val_main_v20, val_main_v19, val_main_v18, val_main_v17, val_main_v16, val_main_v15, val_main_v14, val_main_v13, val_main_v12,
    val_main_cst_4, val_main_cst_5, val_main_cst_6, val_main_cst_7, val_main_cst_8]
end R

section K
variable (p : FVec Ideal S8x24x1024 .f32) (w a v : FVec Ideal S24x1024 .f32) (r : Fin 24) (l : Fin 1024)

theorem sumAt : k0_pay5 (F := Ideal) p w a v (ix2 r l) = total p r l := by
  unfold k0_pay5
  pointwise [k0_pay3]
  exact (Fin.sum_univ_eight fun k => (p (ix3 k r l) : EReal)).symm

theorem outG : out0_4 (F := Ideal) p w a v (ix2 r l) = total p r l := by
  unfold out0_4
  frame_out
  exact sumAt p w a v r l

theorem meanAt : k0_pay6 (F := Ideal) p w a v (ix2 r l) = mean (total p r l) (a (ix2 r l)) := by
  rw [← sumAt p w a v]
  unfold k0_pay6 k0_pay5
  pointwise [k0_pay4]
  rfl

theorem outM : out0_6 (F := Ideal) p w a v (ix2 r l) = mean (total p r l) (a (ix2 r l)) := by
  unfold out0_6
  frame_out
  exact meanAt p w a v r l

theorem outV : out0_7 (F := Ideal) p w a v (ix2 r l) = square (total p r l) (v (ix2 r l)) := by
  rw [← sumAt p w a v]
  unfold out0_7
  frame_out
  pointwise [k0_pay1]
  rfl

theorem outD : out0_5 (F := Ideal) p w a v (ix2 r l) = delta (total p r l) (w (ix2 r l)) (a (ix2 r l)) (v (ix2 r l)) := by
  unfold delta
  rw [← meanAt p w a v, ← sumAt p w a v]
  unfold out0_5
  frame_out
  pointwise [k0_pay2, k0_pay1]
  rfl
end K

theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

variable (m : (ℓ : Loc nD τ sig) → Buf (Elt Ideal) ℓ) (c : Dev nD)

/-- Row `r` of the point's blocks in the arrays. -/
def rowOf (t : Fin cfg0.N) (r : Fin 24) : Fin 24 := ⟨t.val * 24 + r.val, by have : t.val < 1 := t.isLt; omega⟩

abbrev inP : FVec Ideal S8x24x1024 .f32 := m ((c : Thread nD τ).loc main_arg0)
abbrev inW : FVec Ideal S24x1024 .f32 := m ((c : Thread nD τ).loc main_arg1)
abbrev inM : FVec Ideal S24x1024 .f32 := m ((c : Thread nD τ).loc main_arg2)
abbrev inV : FVec Ideal S24x1024 .f32 := m ((c : Thread nD τ).loc main_arg3)

theorem blk0 (t : Fin cfg0.N) (r : Fin 24) (l : Fin 1024) :
    total (t := .f32) (iblk m c 0 t : FVec Ideal S8x24x1024 .f32) r l = total (inP m c) (rowOf t r) l := by
  refine Finset.sum_congr rfl fun k _ => ?_
  unfold inP
  rw [← V_main_arg0 m c]
  blk_ext [iblk, rowOf, idx t]

theorem blk1 (t : Fin cfg0.N) (r : Fin 24) (l : Fin 1024) :
    (iblk m c 1 t : FVec Ideal S24x1024 .f32) (ix2 r l) = inW m c (ix2 (rowOf t r) l) := by
  unfold inW
  rw [← V_main_arg1 m c]
  blk_ext [iblk, rowOf, idx t]

theorem blk2 (t : Fin cfg0.N) (r : Fin 24) (l : Fin 1024) :
    (iblk m c 2 t : FVec Ideal S24x1024 .f32) (ix2 r l) = inM m c (ix2 (rowOf t r) l) := by
  unfold inM
  rw [← V_main_arg2 m c]
  blk_ext [iblk, rowOf, idx t]

theorem blk3 (t : Fin cfg0.N) (r : Fin 24) (l : Fin 1024) :
    (iblk m c 3 t : FVec Ideal S24x1024 .f32) (ix2 r l) = inV m c (ix2 (rowOf t r) l) := by
  unfold inV
  rw [← V_main_arg3 m c]
  blk_ext [iblk, rowOf, idx t]

/-- The gradient. -/
theorem final4 : (dats m 0 c).arrAt 4 cfg0.N = Cert.AdamwReplRIdeal.Read.val_main_v0 (F := Ideal) (inP m c) := by
  refine (dats m 0 c).arrAt_eq_of_covers 4 _ (by decide +kernel) fun t hf y => ?_
  blk_simp
  rw [after0_4]
  have key : ∀ y : S24x1024.Idx, out0_4 (F := Ideal) (iblk m c 0 t) (iblk m c 1 t) (iblk m c 2 t) (iblk m c 3 t) y
      = Cert.AdamwReplRIdeal.Read.val_main_v0 (F := Ideal) (inP m c) (((View.whole main_v0_0).slice (win0_4.rect t)).emb y) := by
    intro y
    obtain ⟨r, l, rfl⟩ : ∃ (r : Fin 24) (l : Fin 1024), y = ix2 r l := ⟨y 0, y 1, eq_ix2 y⟩
    have e : ((View.whole main_v0_0).slice (win0_4.rect t)).emb (ix2 r l : S24x1024.Idx) = (ix2 (rowOf t r) l : S24x1024.Idx) := by
      blk_ext [rowOf, idx t]
    rw [e, refG, outG, blk0]
  exact key y

/-- The step. -/
theorem final5 : (dats m 0 c).arrAt 5 cfg0.N = Cert.AdamwReplRIdeal.Read.val_main_v24 (F := Ideal) (inP m c) (inW m c) (inM m c) (inV m c) := by
  refine (dats m 0 c).arrAt_eq_of_covers 5 _ (by decide +kernel) fun t hf y => ?_
  blk_simp
  rw [after0_5]
  have key : ∀ y : S24x1024.Idx, out0_5 (F := Ideal) (iblk m c 0 t) (iblk m c 1 t) (iblk m c 2 t) (iblk m c 3 t) y
      = Cert.AdamwReplRIdeal.Read.val_main_v24 (F := Ideal) (inP m c) (inW m c) (inM m c) (inV m c) (((View.whole main_v0_1).slice (win0_5.rect t)).emb y) := by
    intro y
    obtain ⟨r, l, rfl⟩ : ∃ (r : Fin 24) (l : Fin 1024), y = ix2 r l := ⟨y 0, y 1, eq_ix2 y⟩
    have e : ((View.whole main_v0_1).slice (win0_5.rect t)).emb (ix2 r l : S24x1024.Idx) = (ix2 (rowOf t r) l : S24x1024.Idx) := by
      blk_ext [rowOf, idx t]
    rw [e, refD, outD, blk0, blk1, blk2, blk3]
  exact key y

/-- The first moment. -/
theorem final6 : (dats m 0 c).arrAt 6 cfg0.N = Cert.AdamwReplRIdeal.Read.val_main_v5 (F := Ideal) (inP m c) (inM m c) := by
  refine (dats m 0 c).arrAt_eq_of_covers 6 _ (by decide +kernel) fun t hf y => ?_
  blk_simp
  rw [after0_6]
  have key : ∀ y : S24x1024.Idx, out0_6 (F := Ideal) (iblk m c 0 t) (iblk m c 1 t) (iblk m c 2 t) (iblk m c 3 t) y
      = Cert.AdamwReplRIdeal.Read.val_main_v5 (F := Ideal) (inP m c) (inM m c) (((View.whole main_v0_2).slice (win0_6.rect t)).emb y) := by
    intro y
    obtain ⟨r, l, rfl⟩ : ∃ (r : Fin 24) (l : Fin 1024), y = ix2 r l := ⟨y 0, y 1, eq_ix2 y⟩
    have e : ((View.whole main_v0_2).slice (win0_6.rect t)).emb (ix2 r l : S24x1024.Idx) = (ix2 (rowOf t r) l : S24x1024.Idx) := by
      blk_ext [rowOf, idx t]
    rw [e, refM, outM, blk0, blk2]
  exact key y

/-- The second moment. -/
theorem final7 : (dats m 0 c).arrAt 7 cfg0.N = Cert.AdamwReplRIdeal.Read.val_main_v11 (F := Ideal) (inP m c) (inV m c) := by
  refine (dats m 0 c).arrAt_eq_of_covers 7 _ (by decide +kernel) fun t hf y => ?_
  blk_simp
  rw [after0_7]
  have key : ∀ y : S24x1024.Idx, out0_7 (F := Ideal) (iblk m c 0 t) (iblk m c 1 t) (iblk m c 2 t) (iblk m c 3 t) y
      = Cert.AdamwReplRIdeal.Read.val_main_v11 (F := Ideal) (inP m c) (inV m c) (((View.whole main_v0_3).slice (win0_7.rect t)).emb y) := by
    intro y
    obtain ⟨r, l, rfl⟩ : ∃ (r : Fin 24) (l : Fin 1024), y = ix2 r l := ⟨y 0, y 1, eq_ix2 y⟩
    have e : ((View.whole main_v0_3).slice (win0_7.rect t)).emb (ix2 r l : S24x1024.Idx) = (ix2 (rowOf t r) l : S24x1024.Idx) := by
      blk_ext [rowOf, idx t]
    rw [e, refV, outV, blk0, blk3]
  exact key y

end Cert.AdamwReplFinal
end
-- ==== Proof.AdamwReplClaim.lean ====
module

public import Idealize.ShloMosaic.Lib.Quiescent
public import proofs.«01_k».proof.Defs
public import proofs.«01_k».proof.Proof.AdamwReplFinal
public import proofs.«01_k».proof.Proof.Gen.AdamwRepl
public import proofs.«01_k».proof.Proof.Gen.AdamwReplRIdeal.Run

/-! The reference's frame and the value claim of this call. -/

@[expose] public section

set_option maxRecDepth 16384

noncomputable section
open Idealize.ShloMosaic Idealize.ShloMosaic.TcCoe Idealize.SL.Sem
namespace Cert.AdamwReplClaim

/-- The reference runs and keeps its arguments; it declares no semaphore. -/
theorem frameRef : Cert.quiescent_AdamwReplRIdeal (hAdamwReplRIdeal := Cert.AdamwReplRIdeal.Gen.facts) := fun m ρ _ =>
  (θ_run Cert.AdamwReplRIdeal.defs _ _).mono (fun r h => ⟨fun c => (h c).2.2.2.2, sem_eq_zero_of_no_sems (by decide) r.2⟩)
    (Cert.AdamwReplRIdeal.Value.run (F := Ideal) m ρ)

/-- The two programs end with equal results. -/
theorem algebraic : Cert.algebraic_AdamwReplIdeal_AdamwReplRIdeal (hAdamwReplIdeal := Cert.AdamwReplIdeal.Gen.facts) (hAdamwReplRIdeal := Cert.AdamwReplRIdeal.Gen.facts) := by
  intro m g m' g' _ hag
  refine ⟨fun c => (Cert.AdamwReplIdeal.Gen.dats m 0 c).arrAt 4 Cert.AdamwReplIdeal.cfg0.N, fun c => (Cert.AdamwReplIdeal.Gen.dats m 0 c).arrAt 5 Cert.AdamwReplIdeal.cfg0.N, fun c => (Cert.AdamwReplIdeal.Gen.dats m 0 c).arrAt 6 Cert.AdamwReplIdeal.cfg0.N, fun c => (Cert.AdamwReplIdeal.Gen.dats m 0 c).arrAt 7 Cert.AdamwReplIdeal.cfg0.N, Cert.AdamwReplIdeal.Value.run_blocks (F := Ideal) m g, ?_⟩
  refine (θ_run Cert.AdamwReplRIdeal.defs _ _).mono (fun r h c => ?_) (Cert.AdamwReplRIdeal.Value.run (F := Ideal) m' g')
  obtain ⟨h0, h1, h2, h3, hk⟩ := h c
  obtain ⟨a0, a1, a2, a3⟩ := hag c
  refine ⟨?_, ?_, ?_, ?_, hk⟩
  · exact (h0.trans (Cert.AdamwReplRIdeal.Read.val_main_v0_eq _)).trans (by rw [a0]; exact (Cert.AdamwReplFinal.final4 m c).symm)
  · exact (h1.trans (Cert.AdamwReplRIdeal.Read.val_main_v24_eq _ _ _ _)).trans (by rw [a0, a1, a2, a3]; exact (Cert.AdamwReplFinal.final5 m c).symm)
  · exact (h2.trans (Cert.AdamwReplRIdeal.Read.val_main_v5_eq _ _)).trans (by rw [a0, a2]; exact (Cert.AdamwReplFinal.final6 m c).symm)
  · exact (h3.trans (Cert.AdamwReplRIdeal.Read.val_main_v11_eq _ _)).trans (by rw [a0, a3]; exact (Cert.AdamwReplFinal.final7 m c).symm)

end Cert.AdamwReplClaim
end
-- ==== Proof.AdamwZero.lean ====
module

public import proofs.«01_k».proof.Proof.AdamwRule
public import Idealize.ShloMosaic.Lib.IdealHost

/-! The optimiser's rule leaves zeros zero: an entry with no gradient, no weight and no moments gets none. And a rule applied to
entries that one condition chooses is the condition's choice between two applied rules. -/

@[expose] public section

noncomputable section
open Idealize.ShloMosaic
namespace Cert.AdamwRule

theorem mean_zero : mean 0 0 = 0 := by simp [mean]

theorem square_zero : square 0 0 = 0 := by simp [square]

theorem ofBits_1059503362 : Ideal.ofBits FTy.f32 1059503362#32 ≠ 0 := by
  simp [Ideal.ofBits, Ideal.ieee, -EReal.coe_mul]

theorem ofBits_1008933580 : Ideal.ofBits FTy.f32 1008933580#32 ≠ 0 := by
  simp [Ideal.ofBits, Ideal.ieee, -EReal.coe_mul]

theorem ofBits_841731191 : Ideal.ofBits FTy.f32 841731191#32 ≠ 0 := by
  simp [Ideal.ofBits, Ideal.ieee, -EReal.coe_mul]

theorem sqrt_zero : Ideal.sqrt 0 = 0 := by
  show (if (0 : ℝ) < 0 then (⊥ : EReal) else ((Real.sqrt 0 : ℝ) : EReal)) = 0
  simp

theorem delta_zero : delta 0 0 0 0 = 0 := by
  unfold delta
  rw [mean_zero, square_zero, Ideal.zero_div ofBits_1059503362, Ideal.zero_div ofBits_1008933580, sqrt_zero, zero_add,
    Ideal.zero_div ofBits_841731191, mul_zero, zero_add, mul_zero]

theorem rule_dite (f : EReal → EReal → EReal → EReal → EReal) {p : Prop} [Decidable p] (a b c d : p → EReal) (a' b' c' d' : ¬p → EReal) :
    f (if h : p then a h else a' h) (if h : p then b h else b' h) (if h : p then c h else c' h) (if h : p then d h else d' h)
      = if h : p then f (a h) (b h) (c h) (d h) else f (a' h) (b' h) (c' h) (d' h) := by
  by_cases h : p <;> simp [h]

theorem sum_dite {p : Prop} [Decidable p] (a : p → Fin 8 → EReal) (b : ¬p → Fin 8 → EReal) :
    (∑ k, if h : p then a h k else b h k) = if h : p then ∑ k, a h k else ∑ k, b h k := by
  by_cases h : p <;> simp [h]

end Cert.AdamwRule
end
-- ==== Proof.StepSmallPack.lean ====
module

public import proofs.«01_k».proof.Proof.AdamwZero
public import proofs.«01_k».proof.Proof.Gen.StepSmallRIdeal.Read
public import proofs.«01_k».proof.Proof.Gen.StepSmallIdeal.Value

/-! How the small sharded weights lie in the packed array, and the reference's results read there. -/

@[expose] public section

set_option maxRecDepth 16384

noncomputable section
open Idealize.ShloMosaic Idealize.ShloMosaic.TcCoe Idealize.SL.Sem
namespace Cert.StepSmallPack
open Cert.StepSmallRIdeal Cert.StepSmallRIdeal.Gen Cert.StepSmallRIdeal.Read Cert.AdamwRule
open Cert.StepSmallIdeal (S8x2048 S8x4224 S8x8192 S8x896 S8x8x1024)
open Cert.StepSmallIdeal.Gen (shapeCasts_S8x16x128_S8x2048 shapeCasts_S8x2x16x32_S8x1024 shapeCasts_S8x2x3x704_S8x4224 bcast_S_S8x896 concatenates_S8x2048_S8x1024_S8x4224_S8x896_S8x8192_d1 shapeCasts_S8x8192_S8x8x1024)

/-- The weights' entries one after another, then zeros. -/
def packed (a0 : FVec Ideal S16x128 .f32) (a1 : FVec Ideal S2x16x32 .f32) (a2 : FVec Ideal S2x3x704 .f32) : FVec Ideal S8x1024 .f32 :=
  shapeCast _ (concatenate S8192 0 [⟨S2048, (shapeCast _ a0 shapeCasts_S16x128_S2048 : FVec Ideal S2048 .f32)⟩,
    ⟨S1024, (shapeCast _ a1 shapeCasts_S2x16x32_S1024 : FVec Ideal S1024 .f32)⟩,
    ⟨S4224, (shapeCast _ a2 shapeCasts_S2x3x704_S4224 : FVec Ideal S4224 .f32)⟩,
    ⟨S896, (val_main_v78 (F := Ideal) : FVec Ideal S896 .f32)⟩] concatenates_S2048_S1024_S4224_S896_S8192_d0 : FVec Ideal S8192 .f32) shapeCasts_S8192_S8x1024

/-- The devices' gradients, packed one device after another. -/
def parts (a0 : FVec Ideal S8x16x128 .f32) (a1 : FVec Ideal S8x2x16x32 .f32) (a2 : FVec Ideal S8x2x3x704 .f32) : FVec Ideal S8x8x1024 .f32 :=
  shapeCast _ (concatenate S8x8192 1 [⟨S8x2048, (shapeCast _ a0 shapeCasts_S8x16x128_S8x2048 : FVec Ideal S8x2048 .f32)⟩,
    ⟨S8x1024, (shapeCast _ a1 shapeCasts_S8x2x16x32_S8x1024 : FVec Ideal S8x1024 .f32)⟩,
    ⟨S8x4224, (shapeCast _ a2 shapeCasts_S8x2x3x704_S8x4224 : FVec Ideal S8x4224 .f32)⟩,
    ⟨S8x896, (broadcastInDim S8x896 ![] bcast_S_S8x896 (constant S_ .f32 0x00000000#32) : FVec Ideal S8x896 .f32)⟩]
    concatenates_S8x2048_S8x1024_S8x4224_S8x896_S8x8192_d1 : FVec Ideal S8x8192 .f32) shapeCasts_S8x8192_S8x8x1024

/-- The sums of the packed parts are the packed sums. -/
theorem totalAt (x0 x1 x2) (r : Fin 8) (l : Fin 1024) :
    total (parts x0 x1 x2) r l = packed (val_main_v0 (F := Ideal) x0) (val_main_v25 (F := Ideal) x1) (val_main_v50 (F := Ideal) x2) (ix2 r l) := by
  unfold total
  pointwise [parts, packed, val_main_v78, val_main_cst_29, val_main_v0, val_main_cst, val_main_v25, val_main_cst_9, val_main_v50, val_main_cst_19]
  simp only [sum_dite, Finset.sum_const_zero]

/-- A rule applied to each entry of the weights, then packed, is the rule applied to each entry of the packed arrays. -/
theorem packedAt (f : EReal → EReal → EReal → EReal → EReal) (hf : f 0 0 0 0 = 0) (g0 : FVec Ideal S16x128 .f32) (g1 : FVec Ideal S2x16x32 .f32) (g2 : FVec Ideal S2x3x704 .f32)
    (w0 : FVec Ideal S16x128 .f32) (w1 : FVec Ideal S2x16x32 .f32) (w2 : FVec Ideal S2x3x704 .f32)
    (m0 : FVec Ideal S16x128 .f32) (m1 : FVec Ideal S2x16x32 .f32) (m2 : FVec Ideal S2x3x704 .f32)
    (v0 : FVec Ideal S16x128 .f32) (v1 : FVec Ideal S2x16x32 .f32) (v2 : FVec Ideal S2x3x704 .f32) (r : Fin 8) (l : Fin 1024) :
    packed (fun i => f (g0 i) (w0 i) (m0 i) (v0 i)) (fun i => f (g1 i) (w1 i) (m1 i) (v1 i)) (fun i => f (g2 i) (w2 i) (m2 i) (v2 i)) (ix2 r l)
      = f (packed g0 g1 g2 (ix2 r l)) (packed w0 w1 w2 (ix2 r l)) (packed m0 m1 m2 (ix2 r l)) (packed v0 v1 v2 (ix2 r l)) := by
  pointwise [packed, val_main_v78, val_main_cst_29]
  simp only [rule_dite f, hf]

theorem refG (x0 x1 x2) (r : Fin 8) (l : Fin 1024) : val_main_v80 (F := Ideal) x0 x1 x2 (ix2 r l) = total (parts x0 x1 x2) r l := by
  rw [totalAt]
  rfl

theorem refM (x0 x1 x2 x6 x7 x8) (r : Fin 8) (l : Fin 1024) : val_main_v92 (F := Ideal) x0 x1 x2 x6 x7 x8 (ix2 r l)
    = mean (total (parts x0 x1 x2) r l) (packed x6 x7 x8 (ix2 r l)) := by
  rw [totalAt]
  exact packedAt (fun g _ m _ => mean g m) mean_zero (val_main_v0 (F := Ideal) x0) (val_main_v25 (F := Ideal) x1) (val_main_v50 (F := Ideal) x2) x6 x7 x8 x6 x7 x8 x6 x7 x8 r l

theorem refV (x0 x1 x2 x9 x10 x11) (r : Fin 8) (l : Fin 1024) : val_main_v98 (F := Ideal) x0 x1 x2 x9 x10 x11 (ix2 r l)
    = square (total (parts x0 x1 x2) r l) (packed x9 x10 x11 (ix2 r l)) := by
  rw [totalAt]
  exact packedAt (fun g _ _ v => square g v) square_zero (val_main_v0 (F := Ideal) x0) (val_main_v25 (F := Ideal) x1) (val_main_v50 (F := Ideal) x2) x9 x10 x11 x9 x10 x11 x9 x10 x11 r l

theorem refD (x0 x1 x2 x3 x4 x5 x6 x7 x8 x9 x10 x11) (r : Fin 8) (l : Fin 1024) : val_main_v86 (F := Ideal) x0 x1 x2 x3 x4 x5 x6 x7 x8 x9 x10 x11 (ix2 r l)
    = delta (total (parts x0 x1 x2) r l) (packed x3 x4 x5 (ix2 r l)) (packed x6 x7 x8 (ix2 r l)) (packed x9 x10 x11 (ix2 r l)) := by
  rw [totalAt]
  exact packedAt delta delta_zero (val_main_v0 (F := Ideal) x0) (val_main_v25 (F := Ideal) x1) (val_main_v50 (F := Ideal) x2) x3 x4 x5 x6 x7 x8 x9 x10 x11 r l

end Cert.StepSmallPack
end
-- ==== Proof.StepSmallFinal.lean ====
module

public import proofs.«01_k».proof.Proof.StepSmallPack

/-! The optimiser's step of the small sharded weights, packed by the host: the four arrays the call leaves are the reference's. -/

@[expose] public section

set_option maxRecDepth 16384

noncomputable section
open Idealize.ShloMosaic Idealize.ShloMosaic.TcCoe Idealize.SL.Sem
open Idealize.ShloMosaic.Pipeline (Dat)
namespace Cert.StepSmallFinal
open Cert.StepSmallIdeal Cert.StepSmallIdeal.Gen Cert.AdamwRule Cert.StepSmallPack

section K
variable (p : FVec Ideal S8x8x1024 .f32) (w a v : FVec Ideal S8x1024 .f32) (r : Fin 8) (l : Fin 1024)

theorem sumAt : k0_pay5 (F := Ideal) p w a v (ix2 r l) = total p r l := by
  unfold k0_pay5
  pointwise [k0_pay3]
  exact (Fin.sum_univ_eight fun k => (p (ix3 k r l) : EReal)).symm

theorem outG : out0_4 (F := Ideal) p w a v (ix2 r l) = total p r l := by
  unfold out0_4
  frame_out
  exact sumAt p w a v r l

theorem meanAt : k0_pay6 (F := Ideal) p w a v (ix2 r l) = mean (total p r l) (a (ix2 r l)) := by
  rw [← sumAt p w a v]
  unfold k0_pay6 k0_pay5
  pointwise [k0_pay4]
  rfl

theorem outM : out0_6 (F := Ideal) p w a v (ix2 r l) = mean (total p r l) (a (ix2 r l)) := by
  unfold out0_6
  frame_out
  exact meanAt p w a v r l

theorem outV : out0_7 (F := Ideal) p w a v (ix2 r l) = square (total p r l) (v (ix2 r l)) := by
  rw [← sumAt p w a v]
  unfold out0_7
  frame_out
  pointwise [k0_pay1]
  rfl

theorem outD : out0_5 (F := Ideal) p w a v (ix2 r l) = delta (total p r l) (w (ix2 r l)) (a (ix2 r l)) (v (ix2 r l)) := by
  unfold delta
  rw [← meanAt p w a v, ← sumAt p w a v]
  unfold out0_5
  frame_out
  pointwise [k0_pay2, k0_pay1]
  rfl
end K

theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

variable (m : (ℓ : Loc nD τ sig) → Buf (Elt Ideal) ℓ) (c : Dev nD)

/-- Row `r` of the point's blocks in the arrays. -/
def rowOf (t : Fin cfg0.N) (r : Fin 8) : Fin 8 := ⟨t.val * 8 + r.val, by have : t.val < 1 := t.isLt; omega⟩

/-- What the run starts with in a buffer. -/
abbrev arg (b : Ref sig .tc) : Buf (Elt Ideal) ((c : Thread nD τ).loc b) := m ((c : Thread nD τ).loc b)

abbrev inP : FVec Ideal S8x8x1024 .f32 := parts (arg m c main_arg0) (arg m c main_arg1) (arg m c main_arg2)
abbrev inW : FVec Ideal S8x1024 .f32 := packed (arg m c main_arg3) (arg m c main_arg4) (arg m c main_arg5)
abbrev inM : FVec Ideal S8x1024 .f32 := packed (arg m c main_arg6) (arg m c main_arg7) (arg m c main_arg8)
abbrev inV : FVec Ideal S8x1024 .f32 := packed (arg m c main_arg9) (arg m c main_arg10) (arg m c main_arg11)

theorem blk0 (t : Fin cfg0.N) (r : Fin 8) (l : Fin 1024) :
    total (t := .f32) (iblk m c 0 t : FVec Ideal S8x8x1024 .f32) r l = total (inP m c) (rowOf t r) l := by
  refine Finset.sum_congr rfl fun k _ => ?_
  rw [show inP m c = (V m c main_v23 : FVec Ideal S8x8x1024 .f32) from rfl]
  blk_ext [iblk, rowOf, idx t]

theorem blk1 (t : Fin cfg0.N) (r : Fin 8) (l : Fin 1024) :
    (iblk m c 1 t : FVec Ideal S8x1024 .f32) (ix2 r l) = inW m c (ix2 (rowOf t r) l) := by
  rw [show inW m c = (V m c main_v5 : FVec Ideal S8x1024 .f32) from rfl]
  blk_ext [iblk, rowOf, idx t]

theorem blk2 (t : Fin cfg0.N) (r : Fin 8) (l : Fin 1024) :
    (iblk m c 2 t : FVec Ideal S8x1024 .f32) (ix2 r l) = inM m c (ix2 (rowOf t r) l) := by
  rw [show inM m c = (V m c main_v11 : FVec Ideal S8x1024 .f32) from rfl]
  blk_ext [iblk, rowOf, idx t]

theorem blk3 (t : Fin cfg0.N) (r : Fin 8) (l : Fin 1024) :
    (iblk m c 3 t : FVec Ideal S8x1024 .f32) (ix2 r l) = inV m c (ix2 (rowOf t r) l) := by
  rw [show inV m c = (V m c main_v17 : FVec Ideal S8x1024 .f32) from rfl]
  blk_ext [iblk, rowOf, idx t]

/-- The gradients. -/
theorem final4 : (dats m 0 c).arrAt 4 cfg0.N = Cert.StepSmallRIdeal.Read.val_main_v80 (F := Ideal) (arg m c main_arg0) (arg m c main_arg1) (arg m c main_arg2) := by
  refine (dats m 0 c).arrAt_eq_of_covers 4 _ (by decide +kernel) fun t hf y => ?_
  blk_simp
  rw [after0_4]
  have key : ∀ y : S8x1024.Idx, out0_4 (F := Ideal) (iblk m c 0 t) (iblk m c 1 t) (iblk m c 2 t) (iblk m c 3 t) y
      = Cert.StepSmallRIdeal.Read.val_main_v80 (F := Ideal) (arg m c main_arg0) (arg m c main_arg1) (arg m c main_arg2) (((View.whole main_v24_0).slice (win0_4.rect t)).emb y) := by
    intro y
    obtain ⟨r, l, rfl⟩ : ∃ (r : Fin 8) (l : Fin 1024), y = ix2 r l := ⟨y 0, y 1, eq_ix2 y⟩
    have e : ((View.whole main_v24_0).slice (win0_4.rect t)).emb (ix2 r l : S8x1024.Idx) = (ix2 (rowOf t r) l : S8x1024.Idx) := by
      blk_ext [rowOf, idx t]
    rw [e, refG, outG, blk0]
  exact key y

/-- The steps. -/
theorem final5 : (dats m 0 c).arrAt 5 cfg0.N = Cert.StepSmallRIdeal.Read.val_main_v86 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) := by
  refine (dats m 0 c).arrAt_eq_of_covers 5 _ (by decide +kernel) fun t hf y => ?_
  blk_simp
  rw [after0_5]
  have key : ∀ y : S8x1024.Idx, out0_5 (F := Ideal) (iblk m c 0 t) (iblk m c 1 t) (iblk m c 2 t) (iblk m c 3 t) y
      = Cert.StepSmallRIdeal.Read.val_main_v86 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (((View.whole main_v24_1).slice (win0_5.rect t)).emb y) := by
    intro y
    obtain ⟨r, l, rfl⟩ : ∃ (r : Fin 8) (l : Fin 1024), y = ix2 r l := ⟨y 0, y 1, eq_ix2 y⟩
    have e : ((View.whole main_v24_1).slice (win0_5.rect t)).emb (ix2 r l : S8x1024.Idx) = (ix2 (rowOf t r) l : S8x1024.Idx) := by
      blk_ext [rowOf, idx t]
    rw [e, refD, outD, blk0, blk1, blk2, blk3]
  exact key y

/-- The first moments. -/
theorem final6 : (dats m 0 c).arrAt 6 cfg0.N = Cert.StepSmallRIdeal.Read.val_main_v92 (F := Ideal) (arg m c main_arg0) (arg m c main_arg1) (arg m c main_arg2) (arg m c main_arg6) (arg m c main_arg7) (arg m c main_arg8) := by
  refine (dats m 0 c).arrAt_eq_of_covers 6 _ (by decide +kernel) fun t hf y => ?_
  blk_simp
  rw [after0_6]
  have key : ∀ y : S8x1024.Idx, out0_6 (F := Ideal) (iblk m c 0 t) (iblk m c 1 t) (iblk m c 2 t) (iblk m c 3 t) y
      = Cert.StepSmallRIdeal.Read.val_main_v92 (F := Ideal) (arg m c main_arg0) (arg m c main_arg1) (arg m c main_arg2) (arg m c main_arg6) (arg m c main_arg7) (arg m c main_arg8) (((View.whole main_v24_2).slice (win0_6.rect t)).emb y) := by
    intro y
    obtain ⟨r, l, rfl⟩ : ∃ (r : Fin 8) (l : Fin 1024), y = ix2 r l := ⟨y 0, y 1, eq_ix2 y⟩
    have e : ((View.whole main_v24_2).slice (win0_6.rect t)).emb (ix2 r l : S8x1024.Idx) = (ix2 (rowOf t r) l : S8x1024.Idx) := by
      blk_ext [rowOf, idx t]
    rw [e, refM, outM, blk0, blk2]
  exact key y

/-- The second moments. -/
theorem final7 : (dats m 0 c).arrAt 7 cfg0.N = Cert.StepSmallRIdeal.Read.val_main_v98 (F := Ideal) (arg m c main_arg0) (arg m c main_arg1) (arg m c main_arg2) (arg m c main_arg9) (arg m c main_arg10) (arg m c main_arg11) := by
  refine (dats m 0 c).arrAt_eq_of_covers 7 _ (by decide +kernel) fun t hf y => ?_
  blk_simp
  rw [after0_7]
  have key : ∀ y : S8x1024.Idx, out0_7 (F := Ideal) (iblk m c 0 t) (iblk m c 1 t) (iblk m c 2 t) (iblk m c 3 t) y
      = Cert.StepSmallRIdeal.Read.val_main_v98 (F := Ideal) (arg m c main_arg0) (arg m c main_arg1) (arg m c main_arg2) (arg m c main_arg9) (arg m c main_arg10) (arg m c main_arg11) (((View.whole main_v24_3).slice (win0_7.rect t)).emb y) := by
    intro y
    obtain ⟨r, l, rfl⟩ : ∃ (r : Fin 8) (l : Fin 1024), y = ix2 r l := ⟨y 0, y 1, eq_ix2 y⟩
    have e : ((View.whole main_v24_3).slice (win0_7.rect t)).emb (ix2 r l : S8x1024.Idx) = (ix2 (rowOf t r) l : S8x1024.Idx) := by
      blk_ext [rowOf, idx t]
    rw [e, refV, outV, blk0, blk3]
  exact key y

end Cert.StepSmallFinal
end
-- ==== Proof.StepSmallClaim.lean ====
module

public import Idealize.ShloMosaic.Lib.Quiescent
public import proofs.«01_k».proof.Defs
public import proofs.«01_k».proof.Proof.StepSmallFinal
public import proofs.«01_k».proof.Proof.Gen.StepSmall
public import proofs.«01_k».proof.Proof.Gen.StepSmallRIdeal.Run

/-! The reference's frame and the value claim of this call. -/

@[expose] public section

set_option maxRecDepth 16384

noncomputable section
open Idealize.ShloMosaic Idealize.ShloMosaic.TcCoe Idealize.SL.Sem
namespace Cert.StepSmallClaim

/-- The reference runs and keeps its arguments; it declares no semaphore. -/
theorem frameRef : Cert.quiescent_StepSmallRIdeal (hStepSmallRIdeal := Cert.StepSmallRIdeal.Gen.facts) := fun m ρ _ =>
  (θ_run Cert.StepSmallRIdeal.defs _ _).mono (fun r h => ⟨fun c => (h c).2.2.2.2, sem_eq_zero_of_no_sems (by decide) r.2⟩)
    (Cert.StepSmallRIdeal.Value.run (F := Ideal) m ρ)

/-- The two programs end with equal results. -/
theorem algebraic : Cert.algebraic_StepSmallIdeal_StepSmallRIdeal (hStepSmallIdeal := Cert.StepSmallIdeal.Gen.facts) (hStepSmallRIdeal := Cert.StepSmallRIdeal.Gen.facts) := by
  intro m g m' g' _ hag
  refine ⟨fun c => (Cert.StepSmallIdeal.Gen.dats m 0 c).arrAt 4 Cert.StepSmallIdeal.cfg0.N, fun c => (Cert.StepSmallIdeal.Gen.dats m 0 c).arrAt 5 Cert.StepSmallIdeal.cfg0.N, fun c => (Cert.StepSmallIdeal.Gen.dats m 0 c).arrAt 6 Cert.StepSmallIdeal.cfg0.N, fun c => (Cert.StepSmallIdeal.Gen.dats m 0 c).arrAt 7 Cert.StepSmallIdeal.cfg0.N, Cert.StepSmallIdeal.Value.run_blocks (F := Ideal) m g, ?_⟩
  refine (θ_run Cert.StepSmallRIdeal.defs _ _).mono (fun r h c => ?_) (Cert.StepSmallRIdeal.Value.run (F := Ideal) m' g')
  obtain ⟨h0, h1, h2, h3, hk⟩ := h c
  obtain ⟨a0, a1, a2, a3, a4, a5, a6, a7, a8, a9, a10, a11⟩ := hag c
  refine ⟨?_, ?_, ?_, ?_, hk⟩
  · exact (h0.trans (Cert.StepSmallRIdeal.Read.val_main_v80_eq _ _ _)).trans (by rw [a0, a1, a2]; exact (Cert.StepSmallFinal.final4 m c).symm)
  · exact (h1.trans (Cert.StepSmallRIdeal.Read.val_main_v86_eq m' c)).trans (by rw [a0, a1, a2, a3, a4, a5, a6, a7, a8, a9, a10, a11]; exact (Cert.StepSmallFinal.final5 m c).symm)
  · exact (h2.trans (Cert.StepSmallRIdeal.Read.val_main_v92_eq _ _ _ _ _ _)).trans (by rw [a0, a1, a2, a6, a7, a8]; exact (Cert.StepSmallFinal.final6 m c).symm)
  · exact (h3.trans (Cert.StepSmallRIdeal.Read.val_main_v98_eq _ _ _ _ _ _)).trans (by rw [a0, a1, a2, a9, a10, a11]; exact (Cert.StepSmallFinal.final7 m c).symm)

end Cert.StepSmallClaim
end
-- ==== Proof.StepReplPack.lean ====
module

public import proofs.«01_k».proof.Proof.AdamwZero
public import proofs.«01_k».proof.Proof.Gen.StepReplRIdeal.Read
public import proofs.«01_k».proof.Proof.Gen.StepReplIdeal.Value

/-! How the replicated weights lie in the packed array, and the reference's results read there. -/

@[expose] public section

set_option maxRecDepth 131072

noncomputable section
open Idealize.ShloMosaic Idealize.ShloMosaic.TcCoe Idealize.SL.Sem
namespace Cert.StepReplPack
open Cert.StepReplRIdeal Cert.StepReplRIdeal.Gen Cert.StepReplRIdeal.Read Cert.AdamwRule
open Cert.StepReplIdeal (S8x1024 S8x11264 S8x2048 S8x24576 S8x24x1024 S8x2560 S8x512)
open Cert.StepReplIdeal.Gen (shapeCasts_S8x2x1024_S8x2048 shapeCasts_S8x2x256_S8x512 shapeCasts_S8x2x512_S8x1024 shapeCasts_S8x2x5632_S8x11264 bcast_S_S8x2560 concatenates_S8x2048_S8x512_S8x1024_S8x1024_S8x2048_S8x2048_S8x11264_S8x2048_S8x2560_S8x24576_d1 shapeCasts_S8x24576_S8x24x1024)

/-- The weights' entries one after another, then zeros. -/
def packed (a0 : FVec Ideal S2x1024 .f32) (a1 : FVec Ideal S2x256 .f32) (a2 : FVec Ideal S2x512 .f32) (a3 : FVec Ideal S2x512 .f32) (a4 : FVec Ideal S2x1024 .f32) (a5 : FVec Ideal S2x1024 .f32) (a6 : FVec Ideal S2x5632 .f32) (a7 : FVec Ideal S2x1024 .f32) : FVec Ideal S24x1024 .f32 :=
  shapeCast _ (concatenate S24576 0 [⟨S2048, (shapeCast _ a0 shapeCasts_S2x1024_S2048 : FVec Ideal S2048 .f32)⟩,
    ⟨S512, (shapeCast _ a1 shapeCasts_S2x256_S512 : FVec Ideal S512 .f32)⟩,
    ⟨S1024, (shapeCast _ a2 shapeCasts_S2x512_S1024 : FVec Ideal S1024 .f32)⟩,
    ⟨S1024, (shapeCast _ a3 shapeCasts_S2x512_S1024 : FVec Ideal S1024 .f32)⟩,
    ⟨S2048, (shapeCast _ a4 shapeCasts_S2x1024_S2048 : FVec Ideal S2048 .f32)⟩,
    ⟨S2048, (shapeCast _ a5 shapeCasts_S2x1024_S2048 : FVec Ideal S2048 .f32)⟩,
    ⟨S11264, (shapeCast _ a6 shapeCasts_S2x5632_S11264 : FVec Ideal S11264 .f32)⟩,
    ⟨S2048, (shapeCast _ a7 shapeCasts_S2x1024_S2048 : FVec Ideal S2048 .f32)⟩,
    ⟨S2560, (val_main_v208 (F := Ideal) : FVec Ideal S2560 .f32)⟩] concatenates_S2048_S512_S1024_S1024_S2048_S2048_S11264_S2048_S2560_S24576_d0 : FVec Ideal S24576 .f32) shapeCasts_S24576_S24x1024

/-- The devices' gradients, packed one device after another. -/
def parts (a0 : FVec Ideal S8x2x1024 .f32) (a1 : FVec Ideal S8x2x256 .f32) (a2 : FVec Ideal S8x2x512 .f32) (a3 : FVec Ideal S8x2x512 .f32) (a4 : FVec Ideal S8x2x1024 .f32) (a5 : FVec Ideal S8x2x1024 .f32) (a6 : FVec Ideal S8x2x5632 .f32) (a7 : FVec Ideal S8x2x1024 .f32) : FVec Ideal S8x24x1024 .f32 :=
  shapeCast _ (concatenate S8x24576 1 [⟨S8x2048, (shapeCast _ a0 shapeCasts_S8x2x1024_S8x2048 : FVec Ideal S8x2048 .f32)⟩,
    ⟨S8x512, (shapeCast _ a1 shapeCasts_S8x2x256_S8x512 : FVec Ideal S8x512 .f32)⟩,
    ⟨S8x1024, (shapeCast _ a2 shapeCasts_S8x2x512_S8x1024 : FVec Ideal S8x1024 .f32)⟩,
    ⟨S8x1024, (shapeCast _ a3 shapeCasts_S8x2x512_S8x1024 : FVec Ideal S8x1024 .f32)⟩,
    ⟨S8x2048, (shapeCast _ a4 shapeCasts_S8x2x1024_S8x2048 : FVec Ideal S8x2048 .f32)⟩,
    ⟨S8x2048, (shapeCast _ a5 shapeCasts_S8x2x1024_S8x2048 : FVec Ideal S8x2048 .f32)⟩,
    ⟨S8x11264, (shapeCast _ a6 shapeCasts_S8x2x5632_S8x11264 : FVec Ideal S8x11264 .f32)⟩,
    ⟨S8x2048, (shapeCast _ a7 shapeCasts_S8x2x1024_S8x2048 : FVec Ideal S8x2048 .f32)⟩,
    ⟨S8x2560, (broadcastInDim S8x2560 ![] bcast_S_S8x2560 (constant S_ .f32 0x00000000#32) : FVec Ideal S8x2560 .f32)⟩]
    concatenates_S8x2048_S8x512_S8x1024_S8x1024_S8x2048_S8x2048_S8x11264_S8x2048_S8x2560_S8x24576_d1 : FVec Ideal S8x24576 .f32) shapeCasts_S8x24576_S8x24x1024

/-- The sums of the packed parts are the packed sums. -/
theorem totalAt (x0 x1 x2 x3 x4 x5 x6 x7) (r : Fin 24) (l : Fin 1024) :
    total (parts x0 x1 x2 x3 x4 x5 x6 x7) r l = packed (val_main_v0 (F := Ideal) x0) (val_main_v25 (F := Ideal) x1) (val_main_v50 (F := Ideal) x2) (val_main_v75 (F := Ideal) x3) (val_main_v100 (F := Ideal) x4) (val_main_v125 (F := Ideal) x5) (val_main_v150 (F := Ideal) x6) (val_main_v175 (F := Ideal) x7) (ix2 r l) := by
  unfold total
  pointwise [parts, packed, val_main_v208, val_main_cst_79, val_main_v0, val_main_cst, val_main_v25, val_main_cst_9, val_main_v50, val_main_cst_19, val_main_v75, val_main_cst_29, val_main_v100, val_main_cst_39, val_main_v125, val_main_cst_49, val_main_v150, val_main_cst_59, val_main_v175, val_main_cst_69]
  simp only [sum_dite, Finset.sum_const_zero]

/-- A rule applied to each entry of the weights, then packed, is the rule applied to each entry of the packed arrays. -/
theorem packedAt (f : EReal → EReal → EReal → EReal → EReal) (hf : f 0 0 0 0 = 0) (g0 : FVec Ideal S2x1024 .f32) (g1 : FVec Ideal S2x256 .f32) (g2 : FVec Ideal S2x512 .f32) (g3 : FVec Ideal S2x512 .f32) (g4 : FVec Ideal S2x1024 .f32) (g5 : FVec Ideal S2x1024 .f32) (g6 : FVec Ideal S2x5632 .f32) (g7 : FVec Ideal S2x1024 .f32)
    (w0 : FVec Ideal S2x1024 .f32) (w1 : FVec Ideal S2x256 .f32) (w2 : FVec Ideal S2x512 .f32) (w3 : FVec Ideal S2x512 .f32) (w4 : FVec Ideal S2x1024 .f32) (w5 : FVec Ideal S2x1024 .f32) (w6 : FVec Ideal S2x5632 .f32) (w7 : FVec Ideal S2x1024 .f32)
    (m0 : FVec Ideal S2x1024 .f32) (m1 : FVec Ideal S2x256 .f32) (m2 : FVec Ideal S2x512 .f32) (m3 : FVec Ideal S2x512 .f32) (m4 : FVec Ideal S2x1024 .f32) (m5 : FVec Ideal S2x1024 .f32) (m6 : FVec Ideal S2x5632 .f32) (m7 : FVec Ideal S2x1024 .f32)
    (v0 : FVec Ideal S2x1024 .f32) (v1 : FVec Ideal S2x256 .f32) (v2 : FVec Ideal S2x512 .f32) (v3 : FVec Ideal S2x512 .f32) (v4 : FVec Ideal S2x1024 .f32) (v5 : FVec Ideal S2x1024 .f32) (v6 : FVec Ideal S2x5632 .f32) (v7 : FVec Ideal S2x1024 .f32) (r : Fin 24) (l : Fin 1024) :
    packed (fun i => f (g0 i) (w0 i) (m0 i) (v0 i)) (fun i => f (g1 i) (w1 i) (m1 i) (v1 i)) (fun i => f (g2 i) (w2 i) (m2 i) (v2 i)) (fun i => f (g3 i) (w3 i) (m3 i) (v3 i)) (fun i => f (g4 i) (w4 i) (m4 i) (v4 i)) (fun i => f (g5 i) (w5 i) (m5 i) (v5 i)) (fun i => f (g6 i) (w6 i) (m6 i) (v6 i)) (fun i => f (g7 i) (w7 i) (m7 i) (v7 i)) (ix2 r l)
      = f (packed g0 g1 g2 g3 g4 g5 g6 g7 (ix2 r l)) (packed w0 w1 w2 w3 w4 w5 w6 w7 (ix2 r l)) (packed m0 m1 m2 m3 m4 m5 m6 m7 (ix2 r l)) (packed v0 v1 v2 v3 v4 v5 v6 v7 (ix2 r l)) := by
  pointwise [packed, val_main_v208, val_main_cst_79]
  simp only [rule_dite f, hf]

theorem refG (x0 x1 x2 x3 x4 x5 x6 x7) (r : Fin 24) (l : Fin 1024) : val_main_v210 (F := Ideal) x0 x1 x2 x3 x4 x5 x6 x7 (ix2 r l) = total (parts x0 x1 x2 x3 x4 x5 x6 x7) r l := by
  rw [totalAt]
  rfl

theorem refM (x0 x1 x2 x3 x4 x5 x6 x7 x16 x17 x18 x19 x20 x21 x22 x23) (r : Fin 24) (l : Fin 1024) : val_main_v232 (F := Ideal) x0 x1 x2 x3 x4 x5 x6 x7 x16 x17 x18 x19 x20 x21 x22 x23 (ix2 r l)
    = mean (total (parts x0 x1 x2 x3 x4 x5 x6 x7) r l) (packed x16 x17 x18 x19 x20 x21 x22 x23 (ix2 r l)) := by
  rw [totalAt]
  exact packedAt (fun g _ m _ => mean g m) mean_zero (val_main_v0 (F := Ideal) x0) (val_main_v25 (F := Ideal) x1) (val_main_v50 (F := Ideal) x2) (val_main_v75 (F := Ideal) x3) (val_main_v100 (F := Ideal) x4) (val_main_v125 (F := Ideal) x5) (val_main_v150 (F := Ideal) x6) (val_main_v175 (F := Ideal) x7) x16 x17 x18 x19 x20 x21 x22 x23 x16 x17 x18 x19 x20 x21 x22 x23 x16 x17 x18 x19 x20 x21 x22 x23 r l

theorem refV (x0 x1 x2 x3 x4 x5 x6 x7 x24 x25 x26 x27 x28 x29 x30 x31) (r : Fin 24) (l : Fin 1024) : val_main_v243 (F := Ideal) x0 x1 x2 x3 x4 x5 x6 x7 x24 x25 x26 x27 x28 x29 x30 x31 (ix2 r l)
    = square (total (parts x0 x1 x2 x3 x4 x5 x6 x7) r l) (packed x24 x25 x26 x27 x28 x29 x30 x31 (ix2 r l)) := by
  rw [totalAt]
  exact packedAt (fun g _ _ v => square g v) square_zero (val_main_v0 (F := Ideal) x0) (val_main_v25 (F := Ideal) x1) (val_main_v50 (F := Ideal) x2) (val_main_v75 (F := Ideal) x3) (val_main_v100 (F := Ideal) x4) (val_main_v125 (F := Ideal) x5) (val_main_v150 (F := Ideal) x6) (val_main_v175 (F := Ideal) x7) x24 x25 x26 x27 x28 x29 x30 x31 x24 x25 x26 x27 x28 x29 x30 x31 x24 x25 x26 x27 x28 x29 x30 x31 r l

theorem refD (x0 x1 x2 x3 x4 x5 x6 x7 x8 x9 x10 x11 x12 x13 x14 x15 x16 x17 x18 x19 x20 x21 x22 x23 x24 x25 x26 x27 x28 x29 x30 x31) (r : Fin 24) (l : Fin 1024) : val_main_v221 (F := Ideal) x0 x1 x2 x3 x4 x5 x6 x7 x8 x9 x10 x11 x12 x13 x14 x15 x16 x17 x18 x19 x20 x21 x22 x23 x24 x25 x26 x27 x28 x29 x30 x31 (ix2 r l)
    = delta (total (parts x0 x1 x2 x3 x4 x5 x6 x7) r l) (packed x8 x9 x10 x11 x12 x13 x14 x15 (ix2 r l)) (packed x16 x17 x18 x19 x20 x21 x22 x23 (ix2 r l)) (packed x24 x25 x26 x27 x28 x29 x30 x31 (ix2 r l)) := by
  rw [totalAt]
  exact packedAt delta delta_zero (val_main_v0 (F := Ideal) x0) (val_main_v25 (F := Ideal) x1) (val_main_v50 (F := Ideal) x2) (val_main_v75 (F := Ideal) x3) (val_main_v100 (F := Ideal) x4) (val_main_v125 (F := Ideal) x5) (val_main_v150 (F := Ideal) x6) (val_main_v175 (F := Ideal) x7) x8 x9 x10 x11 x12 x13 x14 x15 x16 x17 x18 x19 x20 x21 x22 x23 x24 x25 x26 x27 x28 x29 x30 x31 r l

end Cert.StepReplPack
end
-- ==== Proof.StepReplFinal.lean ====
module

public import proofs.«01_k».proof.Proof.StepReplPack

/-! The optimiser's step of the replicated weights, packed by the host: the four arrays the call leaves are the reference's. -/

@[expose] public section

set_option maxRecDepth 16384

noncomputable section
open Idealize.ShloMosaic Idealize.ShloMosaic.TcCoe Idealize.SL.Sem
open Idealize.ShloMosaic.Pipeline (Dat)
namespace Cert.StepReplFinal
open Cert.StepReplIdeal Cert.StepReplIdeal.Gen Cert.AdamwRule Cert.StepReplPack

section K
variable (p : FVec Ideal S8x24x1024 .f32) (w a v : FVec Ideal S24x1024 .f32) (r : Fin 24) (l : Fin 1024)

theorem sumAt : k0_pay5 (F := Ideal) p w a v (ix2 r l) = total p r l := by
  unfold k0_pay5
  pointwise [k0_pay3]
  exact (Fin.sum_univ_eight fun k => (p (ix3 k r l) : EReal)).symm

theorem outG : out0_4 (F := Ideal) p w a v (ix2 r l) = total p r l := by
  unfold out0_4
  frame_out
  exact sumAt p w a v r l

theorem meanAt : k0_pay6 (F := Ideal) p w a v (ix2 r l) = mean (total p r l) (a (ix2 r l)) := by
  rw [← sumAt p w a v]
  unfold k0_pay6 k0_pay5
  pointwise [k0_pay4]
  rfl

theorem outM : out0_6 (F := Ideal) p w a v (ix2 r l) = mean (total p r l) (a (ix2 r l)) := by
  unfold out0_6
  frame_out
  exact meanAt p w a v r l

theorem outV : out0_7 (F := Ideal) p w a v (ix2 r l) = square (total p r l) (v (ix2 r l)) := by
  rw [← sumAt p w a v]
  unfold out0_7
  frame_out
  pointwise [k0_pay1]
  rfl

theorem outD : out0_5 (F := Ideal) p w a v (ix2 r l) = delta (total p r l) (w (ix2 r l)) (a (ix2 r l)) (v (ix2 r l)) := by
  unfold delta
  rw [← meanAt p w a v, ← sumAt p w a v]
  unfold out0_5
  frame_out
  pointwise [k0_pay2, k0_pay1]
  rfl
end K

theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

variable (m : (ℓ : Loc nD τ sig) → Buf (Elt Ideal) ℓ) (c : Dev nD)

/-- Row `r` of the point's blocks in the arrays. -/
def rowOf (t : Fin cfg0.N) (r : Fin 24) : Fin 24 := ⟨t.val * 24 + r.val, by have : t.val < 1 := t.isLt; omega⟩

/-- What the run starts with in a buffer. -/
abbrev arg (b : Ref sig .tc) : Buf (Elt Ideal) ((c : Thread nD τ).loc b) := m ((c : Thread nD τ).loc b)

abbrev inP : FVec Ideal S8x24x1024 .f32 := parts (arg m c main_arg0) (arg m c main_arg1) (arg m c main_arg2) (arg m c main_arg3) (arg m c main_arg4) (arg m c main_arg5) (arg m c main_arg6) (arg m c main_arg7)
abbrev inW : FVec Ideal S24x1024 .f32 := packed (arg m c main_arg8) (arg m c main_arg9) (arg m c main_arg10) (arg m c main_arg11) (arg m c main_arg12) (arg m c main_arg13) (arg m c main_arg14) (arg m c main_arg15)
abbrev inM : FVec Ideal S24x1024 .f32 := packed (arg m c main_arg16) (arg m c main_arg17) (arg m c main_arg18) (arg m c main_arg19) (arg m c main_arg20) (arg m c main_arg21) (arg m c main_arg22) (arg m c main_arg23)
abbrev inV : FVec Ideal S24x1024 .f32 := packed (arg m c main_arg24) (arg m c main_arg25) (arg m c main_arg26) (arg m c main_arg27) (arg m c main_arg28) (arg m c main_arg29) (arg m c main_arg30) (arg m c main_arg31)

theorem blk0 (t : Fin cfg0.N) (r : Fin 24) (l : Fin 1024) :
    total (t := .f32) (iblk m c 0 t : FVec Ideal S8x24x1024 .f32) r l = total (inP m c) (rowOf t r) l := by
  refine Finset.sum_congr rfl fun k _ => ?_
  rw [show inP m c = (V m c main_v43 : FVec Ideal S8x24x1024 .f32) from rfl]
  blk_ext [iblk, rowOf, idx t]

theorem blk1 (t : Fin cfg0.N) (r : Fin 24) (l : Fin 1024) :
    (iblk m c 1 t : FVec Ideal S24x1024 .f32) (ix2 r l) = inW m c (ix2 (rowOf t r) l) := by
  rw [show inW m c = (V m c main_v10 : FVec Ideal S24x1024 .f32) from rfl]
  blk_ext [iblk, rowOf, idx t]

theorem blk2 (t : Fin cfg0.N) (r : Fin 24) (l : Fin 1024) :
    (iblk m c 2 t : FVec Ideal S24x1024 .f32) (ix2 r l) = inM m c (ix2 (rowOf t r) l) := by
  rw [show inM m c = (V m c main_v21 : FVec Ideal S24x1024 .f32) from rfl]
  blk_ext [iblk, rowOf, idx t]

theorem blk3 (t : Fin cfg0.N) (r : Fin 24) (l : Fin 1024) :
    (iblk m c 3 t : FVec Ideal S24x1024 .f32) (ix2 r l) = inV m c (ix2 (rowOf t r) l) := by
  rw [show inV m c = (V m c main_v32 : FVec Ideal S24x1024 .f32) from rfl]
  blk_ext [iblk, rowOf, idx t]

/-- The gradients. -/
theorem final4 : (dats m 0 c).arrAt 4 cfg0.N = Cert.StepReplRIdeal.Read.val_main_v210 (F := Ideal) (arg m c main_arg0) (arg m c main_arg1) (arg m c main_arg2) (arg m c main_arg3) (arg m c main_arg4) (arg m c main_arg5) (arg m c main_arg6) (arg m c main_arg7) := by
  refine (dats m 0 c).arrAt_eq_of_covers 4 _ (by decide +kernel) fun t hf y => ?_
  blk_simp
  rw [after0_4]
  have key : ∀ y : S24x1024.Idx, out0_4 (F := Ideal) (iblk m c 0 t) (iblk m c 1 t) (iblk m c 2 t) (iblk m c 3 t) y
      = Cert.StepReplRIdeal.Read.val_main_v210 (F := Ideal) (arg m c main_arg0) (arg m c main_arg1) (arg m c main_arg2) (arg m c main_arg3) (arg m c main_arg4) (arg m c main_arg5) (arg m c main_arg6) (arg m c main_arg7) (((View.whole main_v44_0).slice (win0_4.rect t)).emb y) := by
    intro y
    obtain ⟨r, l, rfl⟩ : ∃ (r : Fin 24) (l : Fin 1024), y = ix2 r l := ⟨y 0, y 1, eq_ix2 y⟩
    have e : ((View.whole main_v44_0).slice (win0_4.rect t)).emb (ix2 r l : S24x1024.Idx) = (ix2 (rowOf t r) l : S24x1024.Idx) := by
      blk_ext [rowOf, idx t]
    rw [e, refG, outG, blk0]
  exact key y

/-- The steps. -/
theorem final5 : (dats m 0 c).arrAt 5 cfg0.N = Cert.StepReplRIdeal.Read.val_main_v221 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17) (arg m c main_arg18) (arg m c main_arg19) (arg m c main_arg20) (arg m c main_arg21) (arg m c main_arg22) (arg m c main_arg23) (arg m c main_arg24) (arg m c main_arg25) (arg m c main_arg26) (arg m c main_arg27) (arg m c main_arg28) (arg m c main_arg29) (arg m c main_arg30) (arg m c main_arg31) := by
  refine (dats m 0 c).arrAt_eq_of_covers 5 _ (by decide +kernel) fun t hf y => ?_
  blk_simp
  rw [after0_5]
  have key : ∀ y : S24x1024.Idx, out0_5 (F := Ideal) (iblk m c 0 t) (iblk m c 1 t) (iblk m c 2 t) (iblk m c 3 t) y
      = Cert.StepReplRIdeal.Read.val_main_v221 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17) (arg m c main_arg18) (arg m c main_arg19) (arg m c main_arg20) (arg m c main_arg21) (arg m c main_arg22) (arg m c main_arg23) (arg m c main_arg24) (arg m c main_arg25) (arg m c main_arg26) (arg m c main_arg27) (arg m c main_arg28) (arg m c main_arg29) (arg m c main_arg30) (arg m c main_arg31) (((View.whole main_v44_1).slice (win0_5.rect t)).emb y) := by
    intro y
    obtain ⟨r, l, rfl⟩ : ∃ (r : Fin 24) (l : Fin 1024), y = ix2 r l := ⟨y 0, y 1, eq_ix2 y⟩
    have e : ((View.whole main_v44_1).slice (win0_5.rect t)).emb (ix2 r l : S24x1024.Idx) = (ix2 (rowOf t r) l : S24x1024.Idx) := by
      blk_ext [rowOf, idx t]
    rw [e, refD, outD, blk0, blk1, blk2, blk3]
  exact key y

/-- The first moments. -/
theorem final6 : (dats m 0 c).arrAt 6 cfg0.N = Cert.StepReplRIdeal.Read.val_main_v232 (F := Ideal) (arg m c main_arg0) (arg m c main_arg1) (arg m c main_arg2) (arg m c main_arg3) (arg m c main_arg4) (arg m c main_arg5) (arg m c main_arg6) (arg m c main_arg7) (arg m c main_arg16) (arg m c main_arg17) (arg m c main_arg18) (arg m c main_arg19) (arg m c main_arg20) (arg m c main_arg21) (arg m c main_arg22) (arg m c main_arg23) := by
  refine (dats m 0 c).arrAt_eq_of_covers 6 _ (by decide +kernel) fun t hf y => ?_
  blk_simp
  rw [after0_6]
  have key : ∀ y : S24x1024.Idx, out0_6 (F := Ideal) (iblk m c 0 t) (iblk m c 1 t) (iblk m c 2 t) (iblk m c 3 t) y
      = Cert.StepReplRIdeal.Read.val_main_v232 (F := Ideal) (arg m c main_arg0) (arg m c main_arg1) (arg m c main_arg2) (arg m c main_arg3) (arg m c main_arg4) (arg m c main_arg5) (arg m c main_arg6) (arg m c main_arg7) (arg m c main_arg16) (arg m c main_arg17) (arg m c main_arg18) (arg m c main_arg19) (arg m c main_arg20) (arg m c main_arg21) (arg m c main_arg22) (arg m c main_arg23) (((View.whole main_v44_2).slice (win0_6.rect t)).emb y) := by
    intro y
    obtain ⟨r, l, rfl⟩ : ∃ (r : Fin 24) (l : Fin 1024), y = ix2 r l := ⟨y 0, y 1, eq_ix2 y⟩
    have e : ((View.whole main_v44_2).slice (win0_6.rect t)).emb (ix2 r l : S24x1024.Idx) = (ix2 (rowOf t r) l : S24x1024.Idx) := by
      blk_ext [rowOf, idx t]
    rw [e, refM, outM, blk0, blk2]
  exact key y

/-- The second moments. -/
theorem final7 : (dats m 0 c).arrAt 7 cfg0.N = Cert.StepReplRIdeal.Read.val_main_v243 (F := Ideal) (arg m c main_arg0) (arg m c main_arg1) (arg m c main_arg2) (arg m c main_arg3) (arg m c main_arg4) (arg m c main_arg5) (arg m c main_arg6) (arg m c main_arg7) (arg m c main_arg24) (arg m c main_arg25) (arg m c main_arg26) (arg m c main_arg27) (arg m c main_arg28) (arg m c main_arg29) (arg m c main_arg30) (arg m c main_arg31) := by
  refine (dats m 0 c).arrAt_eq_of_covers 7 _ (by decide +kernel) fun t hf y => ?_
  blk_simp
  rw [after0_7]
  have key : ∀ y : S24x1024.Idx, out0_7 (F := Ideal) (iblk m c 0 t) (iblk m c 1 t) (iblk m c 2 t) (iblk m c 3 t) y
      = Cert.StepReplRIdeal.Read.val_main_v243 (F := Ideal) (arg m c main_arg0) (arg m c main_arg1) (arg m c main_arg2) (arg m c main_arg3) (arg m c main_arg4) (arg m c main_arg5) (arg m c main_arg6) (arg m c main_arg7) (arg m c main_arg24) (arg m c main_arg25) (arg m c main_arg26) (arg m c main_arg27) (arg m c main_arg28) (arg m c main_arg29) (arg m c main_arg30) (arg m c main_arg31) (((View.whole main_v44_3).slice (win0_7.rect t)).emb y) := by
    intro y
    obtain ⟨r, l, rfl⟩ : ∃ (r : Fin 24) (l : Fin 1024), y = ix2 r l := ⟨y 0, y 1, eq_ix2 y⟩
    have e : ((View.whole main_v44_3).slice (win0_7.rect t)).emb (ix2 r l : S24x1024.Idx) = (ix2 (rowOf t r) l : S24x1024.Idx) := by
      blk_ext [rowOf, idx t]
    rw [e, refV, outV, blk0, blk3]
  exact key y

end Cert.StepReplFinal
end
-- ==== Proof.StepReplClaim.lean ====
module

public import Idealize.ShloMosaic.Lib.Quiescent
public import proofs.«01_k».proof.Defs
public import proofs.«01_k».proof.Proof.StepReplFinal
public import proofs.«01_k».proof.Proof.Gen.StepRepl
public import proofs.«01_k».proof.Proof.Gen.StepReplRIdeal.Run

/-! The reference's frame and the value claim of this call. -/

@[expose] public section

set_option maxRecDepth 16384
set_option maxHeartbeats 4000000

noncomputable section
open Idealize.ShloMosaic Idealize.ShloMosaic.TcCoe Idealize.SL.Sem
namespace Cert.StepReplClaim

/-- The reference runs and keeps its arguments; it declares no semaphore. -/
theorem frameRef : Cert.quiescent_StepReplRIdeal (hStepReplRIdeal := Cert.StepReplRIdeal.Gen.facts) := fun m ρ _ =>
  (θ_run Cert.StepReplRIdeal.defs _ _).mono (fun r h => ⟨fun c => (h c).2.2.2.2, sem_eq_zero_of_no_sems (by decide) r.2⟩)
    (Cert.StepReplRIdeal.Value.run (F := Ideal) m ρ)

/-- What the reference starts with in a buffer. -/
abbrev arg (m' : (ℓ : Loc Cert.StepReplRIdeal.nD Cert.StepReplRIdeal.τ Cert.StepReplRIdeal.sig) → Buf (Elt Ideal) ℓ) (c : Dev Cert.StepReplRIdeal.nD)
    (b : Ref Cert.StepReplRIdeal.sig .tc) : Buf (Elt Ideal) ((c.tc : Thread Cert.StepReplRIdeal.nD Cert.StepReplRIdeal.τ).loc b) :=
  m' ((c.tc : Thread Cert.StepReplRIdeal.nD Cert.StepReplRIdeal.τ).loc b)

/-- The two programs end with equal results. -/
theorem algebraic : Cert.algebraic_StepReplIdeal_StepReplRIdeal (hStepReplIdeal := Cert.StepReplIdeal.Gen.facts) (hStepReplRIdeal := Cert.StepReplRIdeal.Gen.facts) := by
  intro m g m' g' _ hag
  refine ⟨fun c => (Cert.StepReplIdeal.Gen.dats m 0 c).arrAt 4 Cert.StepReplIdeal.cfg0.N, fun c => (Cert.StepReplIdeal.Gen.dats m 0 c).arrAt 5 Cert.StepReplIdeal.cfg0.N, fun c => (Cert.StepReplIdeal.Gen.dats m 0 c).arrAt 6 Cert.StepReplIdeal.cfg0.N, fun c => (Cert.StepReplIdeal.Gen.dats m 0 c).arrAt 7 Cert.StepReplIdeal.cfg0.N, Cert.StepReplIdeal.Value.run_blocks (F := Ideal) m g, ?_⟩
  refine (θ_run Cert.StepReplRIdeal.defs _ _).mono (fun r h c => ?_) (Cert.StepReplRIdeal.Value.run (F := Ideal) m' g')
  obtain ⟨h0, h1, h2, h3, hk⟩ := h c
  obtain ⟨a0, a1, a2, a3, a4, a5, a6, a7, a8, a9, a10, a11, a12, a13, a14, a15, a16, a17, a18, a19, a20, a21, a22, a23, a24, a25, a26, a27, a28, a29, a30, a31⟩ := hag c
  refine ⟨?_, ?_, ?_, ?_, hk⟩
  · refine (h0.trans (Cert.StepReplRIdeal.Read.val_main_v210_eq (StableHlo.launchContents m' c))).trans ?_
    show Cert.StepReplRIdeal.Read.val_main_v210 (F := Ideal) (arg m' c Cert.StepReplRIdeal.main_arg0) (arg m' c Cert.StepReplRIdeal.main_arg1) (arg m' c Cert.StepReplRIdeal.main_arg2) (arg m' c Cert.StepReplRIdeal.main_arg3) (arg m' c Cert.StepReplRIdeal.main_arg4) (arg m' c Cert.StepReplRIdeal.main_arg5) (arg m' c Cert.StepReplRIdeal.main_arg6) (arg m' c Cert.StepReplRIdeal.main_arg7) = _
    unfold arg
    rw [a0, a1, a2, a3, a4, a5, a6, a7]
    exact (Cert.StepReplFinal.final4 m c).symm
  · refine (h1.trans (Cert.StepReplRIdeal.Read.val_main_v221_eq (StableHlo.launchContents m' c))).trans ?_
    show Cert.StepReplRIdeal.Read.val_main_v221 (F := Ideal) (arg m' c Cert.StepReplRIdeal.main_arg0) (arg m' c Cert.StepReplRIdeal.main_arg1) (arg m' c Cert.StepReplRIdeal.main_arg2) (arg m' c Cert.StepReplRIdeal.main_arg3) (arg m' c Cert.StepReplRIdeal.main_arg4) (arg m' c Cert.StepReplRIdeal.main_arg5) (arg m' c Cert.StepReplRIdeal.main_arg6) (arg m' c Cert.StepReplRIdeal.main_arg7) (arg m' c Cert.StepReplRIdeal.main_arg8) (arg m' c Cert.StepReplRIdeal.main_arg9) (arg m' c Cert.StepReplRIdeal.main_arg10) (arg m' c Cert.StepReplRIdeal.main_arg11) (arg m' c Cert.StepReplRIdeal.main_arg12) (arg m' c Cert.StepReplRIdeal.main_arg13) (arg m' c Cert.StepReplRIdeal.main_arg14) (arg m' c Cert.StepReplRIdeal.main_arg15) (arg m' c Cert.StepReplRIdeal.main_arg16) (arg m' c Cert.StepReplRIdeal.main_arg17) (arg m' c Cert.StepReplRIdeal.main_arg18) (arg m' c Cert.StepReplRIdeal.main_arg19) (arg m' c Cert.StepReplRIdeal.main_arg20) (arg m' c Cert.StepReplRIdeal.main_arg21) (arg m' c Cert.StepReplRIdeal.main_arg22) (arg m' c Cert.StepReplRIdeal.main_arg23) (arg m' c Cert.StepReplRIdeal.main_arg24) (arg m' c Cert.StepReplRIdeal.main_arg25) (arg m' c Cert.StepReplRIdeal.main_arg26) (arg m' c Cert.StepReplRIdeal.main_arg27) (arg m' c Cert.StepReplRIdeal.main_arg28) (arg m' c Cert.StepReplRIdeal.main_arg29) (arg m' c Cert.StepReplRIdeal.main_arg30) (arg m' c Cert.StepReplRIdeal.main_arg31) = _
    unfold arg
    rw [a0, a1, a2, a3, a4, a5, a6, a7, a8, a9, a10, a11, a12, a13, a14, a15, a16, a17, a18, a19, a20, a21, a22, a23, a24, a25, a26, a27, a28, a29, a30, a31]
    exact (Cert.StepReplFinal.final5 m c).symm
  · refine (h2.trans (Cert.StepReplRIdeal.Read.val_main_v232_eq (StableHlo.launchContents m' c))).trans ?_
    show Cert.StepReplRIdeal.Read.val_main_v232 (F := Ideal) (arg m' c Cert.StepReplRIdeal.main_arg0) (arg m' c Cert.StepReplRIdeal.main_arg1) (arg m' c Cert.StepReplRIdeal.main_arg2) (arg m' c Cert.StepReplRIdeal.main_arg3) (arg m' c Cert.StepReplRIdeal.main_arg4) (arg m' c Cert.StepReplRIdeal.main_arg5) (arg m' c Cert.StepReplRIdeal.main_arg6) (arg m' c Cert.StepReplRIdeal.main_arg7) (arg m' c Cert.StepReplRIdeal.main_arg16) (arg m' c Cert.StepReplRIdeal.main_arg17) (arg m' c Cert.StepReplRIdeal.main_arg18) (arg m' c Cert.StepReplRIdeal.main_arg19) (arg m' c Cert.StepReplRIdeal.main_arg20) (arg m' c Cert.StepReplRIdeal.main_arg21) (arg m' c Cert.StepReplRIdeal.main_arg22) (arg m' c Cert.StepReplRIdeal.main_arg23) = _
    unfold arg
    rw [a0, a1, a2, a3, a4, a5, a6, a7, a16, a17, a18, a19, a20, a21, a22, a23]
    exact (Cert.StepReplFinal.final6 m c).symm
  · refine (h3.trans (Cert.StepReplRIdeal.Read.val_main_v243_eq (StableHlo.launchContents m' c))).trans ?_
    show Cert.StepReplRIdeal.Read.val_main_v243 (F := Ideal) (arg m' c Cert.StepReplRIdeal.main_arg0) (arg m' c Cert.StepReplRIdeal.main_arg1) (arg m' c Cert.StepReplRIdeal.main_arg2) (arg m' c Cert.StepReplRIdeal.main_arg3) (arg m' c Cert.StepReplRIdeal.main_arg4) (arg m' c Cert.StepReplRIdeal.main_arg5) (arg m' c Cert.StepReplRIdeal.main_arg6) (arg m' c Cert.StepReplRIdeal.main_arg7) (arg m' c Cert.StepReplRIdeal.main_arg24) (arg m' c Cert.StepReplRIdeal.main_arg25) (arg m' c Cert.StepReplRIdeal.main_arg26) (arg m' c Cert.StepReplRIdeal.main_arg27) (arg m' c Cert.StepReplRIdeal.main_arg28) (arg m' c Cert.StepReplRIdeal.main_arg29) (arg m' c Cert.StepReplRIdeal.main_arg30) (arg m' c Cert.StepReplRIdeal.main_arg31) = _
    unfold arg
    rw [a0, a1, a2, a3, a4, a5, a6, a7, a24, a25, a26, a27, a28, a29, a30, a31]
    exact (Cert.StepReplFinal.final7 m c).symm

end Cert.StepReplClaim
end
-- ==== Proof.lean ====
module

public import proofs.«01_k».proof.Defs
public import proofs.«01_k».proof.Proof.Gen.DownDx.Frame
public import proofs.«01_k».proof.Proof.Gen.DownDxIdeal.Frame
public import proofs.«01_k».proof.Proof.Gen.DownDxIdeal.Value
public import proofs.«01_k».proof.Proof.Gen.DownDxRIdeal.Run
public import proofs.«01_k».proof.Proof.Gen.DownDxRIdeal.Read
public import proofs.«01_k».proof.Proof.DownDxClaim
public import proofs.«01_k».proof.Proof.Gen.OutDx.Frame
public import proofs.«01_k».proof.Proof.Gen.OutDxIdeal.Frame
public import proofs.«01_k».proof.Proof.Gen.OutDxIdeal.Value
public import proofs.«01_k».proof.Proof.Gen.OutDxRIdeal.Run
public import proofs.«01_k».proof.Proof.Gen.OutDxRIdeal.Read
public import proofs.«01_k».proof.Proof.OutDxClaim
public import proofs.«01_k».proof.Proof.Gen.UpDx.Frame
public import proofs.«01_k».proof.Proof.Gen.UpDxIdeal.Frame
public import proofs.«01_k».proof.Proof.Gen.UpDxIdeal.Value
public import proofs.«01_k».proof.Proof.Gen.UpDxRIdeal.Run
public import proofs.«01_k».proof.Proof.Gen.UpDxRIdeal.Read
public import proofs.«01_k».proof.Proof.UpDxClaim
public import proofs.«01_k».proof.Proof.Gen.InDx.Frame
public import proofs.«01_k».proof.Proof.Gen.InDxIdeal.Frame
public import proofs.«01_k».proof.Proof.Gen.InDxIdeal.Value
public import proofs.«01_k».proof.Proof.Gen.InDxRIdeal.Run
public import proofs.«01_k».proof.Proof.Gen.InDxRIdeal.Read
public import proofs.«01_k».proof.Proof.InDxClaim
public import proofs.«01_k».proof.Proof.Gen.DownDw.Frame
public import proofs.«01_k».proof.Proof.Gen.DownDwIdeal.Frame
public import proofs.«01_k».proof.Proof.Gen.DownDwIdeal.Value
public import proofs.«01_k».proof.Proof.Gen.DownDwRIdeal.Run
public import proofs.«01_k».proof.Proof.Gen.DownDwRIdeal.Read
public import proofs.«01_k».proof.Proof.DownDwClaim
public import proofs.«01_k».proof.Proof.Gen.UpDw.Frame
public import proofs.«01_k».proof.Proof.Gen.UpDwIdeal.Frame
public import proofs.«01_k».proof.Proof.Gen.UpDwIdeal.Value
public import proofs.«01_k».proof.Proof.Gen.UpDwRIdeal.Run
public import proofs.«01_k».proof.Proof.Gen.UpDwRIdeal.Read
public import proofs.«01_k».proof.Proof.UpDwClaim
public import proofs.«01_k».proof.Proof.Gen.OutDw.Frame
public import proofs.«01_k».proof.Proof.Gen.OutDwIdeal.Frame
public import proofs.«01_k».proof.Proof.Gen.OutDwIdeal.Value
public import proofs.«01_k».proof.Proof.Gen.OutDwRIdeal.Run
public import proofs.«01_k».proof.Proof.Gen.OutDwRIdeal.Read
public import proofs.«01_k».proof.Proof.OutDwClaim
public import proofs.«01_k».proof.Proof.Gen.InDw.Frame
public import proofs.«01_k».proof.Proof.Gen.InDwIdeal.Frame
public import proofs.«01_k».proof.Proof.Gen.InDwIdeal.Value
public import proofs.«01_k».proof.Proof.Gen.InDwRIdeal.Run
public import proofs.«01_k».proof.Proof.Gen.InDwRIdeal.Read
public import proofs.«01_k».proof.Proof.InDwClaim
public import proofs.«01_k».proof.Proof.Gen.OutProj.Frame
public import proofs.«01_k».proof.Proof.Gen.OutProjIdeal.Frame
public import proofs.«01_k».proof.Proof.Gen.OutProjIdeal.Value
public import proofs.«01_k».proof.Proof.Gen.OutProjRIdeal.Run
public import proofs.«01_k».proof.Proof.Gen.OutProjRIdeal.Read
public import proofs.«01_k».proof.Proof.OutProjClaim
public import proofs.«01_k».proof.Proof.Gen.DownProj.Frame
public import proofs.«01_k».proof.Proof.Gen.DownProjIdeal.Frame
public import proofs.«01_k».proof.Proof.Gen.DownProjIdeal.Value
public import proofs.«01_k».proof.Proof.Gen.DownProjRIdeal.Run
public import proofs.«01_k».proof.Proof.Gen.DownProjRIdeal.Read
public import proofs.«01_k».proof.Proof.DownProjClaim
public import proofs.«01_k».proof.Proof.Gen.DownLoss.Frame
public import proofs.«01_k».proof.Proof.Gen.DownLossIdeal.Frame
public import proofs.«01_k».proof.Proof.Gen.DownLossIdeal.Value
public import proofs.«01_k».proof.Proof.Gen.DownLossRIdeal.Run
public import proofs.«01_k».proof.Proof.Gen.DownLossRIdeal.Read
public import proofs.«01_k».proof.Proof.DownLossClaim
public import proofs.«01_k».proof.Proof.Gen.Gate.Frame
public import proofs.«01_k».proof.Proof.Gen.GateIdeal.Frame
public import proofs.«01_k».proof.Proof.Gen.GateIdeal.Value
public import proofs.«01_k».proof.Proof.Gen.GateRIdeal.Run
public import proofs.«01_k».proof.Proof.Gen.GateRIdeal.Read
public import proofs.«01_k».proof.Proof.GateClaim
public import proofs.«01_k».proof.Proof.Gen.InProjRIdeal.Run
public import proofs.«01_k».proof.Proof.InProjClaim
public import proofs.«01_k».proof.Proof.Gen.UpProjRIdeal.Run
public import proofs.«01_k».proof.Proof.UpProjClaim
public import proofs.«01_k».proof.Proof.Gen.Pre_finite
public import proofs.«01_k».proof.Proof.Gen.ConvBwd
public import proofs.«01_k».proof.Proof.Gen.ConvBwdIdeal.Frame
public import proofs.«01_k».proof.Proof.Gen.ConvBwdIdeal.Skeleton
public import proofs.«01_k».proof.Proof.Gen.ConvBwdIdeal.Loops
public import proofs.«01_k».proof.Proof.Gen.ConvBwdRIdeal.Run
public import proofs.«01_k».proof.Proof.Gen.ConvBwdRIdeal.Read
public import proofs.«01_k».proof.Proof.ConvBwdClaim
public import proofs.«01_k».proof.Proof.Gen.AdamwIn.Frame
public import proofs.«01_k».proof.Proof.Gen.AdamwInIdeal.Frame
public import proofs.«01_k».proof.Proof.Gen.AdamwInIdeal.Value
public import proofs.«01_k».proof.Proof.Gen.AdamwInRIdeal.Run
public import proofs.«01_k».proof.Proof.Gen.AdamwInRIdeal.Read
public import proofs.«01_k».proof.Proof.AdamwInClaim
public import proofs.«01_k».proof.Proof.Gen.AdamwUp.Frame
public import proofs.«01_k».proof.Proof.Gen.AdamwUpIdeal.Frame
public import proofs.«01_k».proof.Proof.Gen.AdamwUpIdeal.Value
public import proofs.«01_k».proof.Proof.Gen.AdamwUpRIdeal.Run
public import proofs.«01_k».proof.Proof.Gen.AdamwUpRIdeal.Read
public import proofs.«01_k».proof.Proof.AdamwUpClaim
public import proofs.«01_k».proof.Proof.Gen.AdamwOut.Frame
public import proofs.«01_k».proof.Proof.Gen.AdamwOutIdeal.Frame
public import proofs.«01_k».proof.Proof.Gen.AdamwOutIdeal.Value
public import proofs.«01_k».proof.Proof.Gen.AdamwOutRIdeal.Run
public import proofs.«01_k».proof.Proof.Gen.AdamwOutRIdeal.Read
public import proofs.«01_k».proof.Proof.AdamwOutClaim
public import proofs.«01_k».proof.Proof.Gen.AdamwDown.Frame
public import proofs.«01_k».proof.Proof.Gen.AdamwDownIdeal.Frame
public import proofs.«01_k».proof.Proof.Gen.AdamwDownIdeal.Value
public import proofs.«01_k».proof.Proof.Gen.AdamwDownRIdeal.Run
public import proofs.«01_k».proof.Proof.Gen.AdamwDownRIdeal.Read
public import proofs.«01_k».proof.Proof.AdamwDownClaim
public import proofs.«01_k».proof.Proof.Gen.AdamwSmall.Frame
public import proofs.«01_k».proof.Proof.Gen.AdamwSmallIdeal.Frame
public import proofs.«01_k».proof.Proof.Gen.AdamwSmallIdeal.Value
public import proofs.«01_k».proof.Proof.Gen.AdamwSmallRIdeal.Run
public import proofs.«01_k».proof.Proof.Gen.AdamwSmallRIdeal.Read
public import proofs.«01_k».proof.Proof.AdamwSmallClaim
public import proofs.«01_k».proof.Proof.Gen.AdamwRepl.Frame
public import proofs.«01_k».proof.Proof.Gen.AdamwReplIdeal.Frame
public import proofs.«01_k».proof.Proof.Gen.AdamwReplIdeal.Value
public import proofs.«01_k».proof.Proof.Gen.AdamwReplRIdeal.Run
public import proofs.«01_k».proof.Proof.Gen.AdamwReplRIdeal.Read
public import proofs.«01_k».proof.Proof.AdamwReplClaim
public import proofs.«01_k».proof.Proof.Gen.StepSmall.Frame
public import proofs.«01_k».proof.Proof.Gen.StepSmallIdeal.Frame
public import proofs.«01_k».proof.Proof.Gen.StepSmallIdeal.Value
public import proofs.«01_k».proof.Proof.Gen.StepSmallRIdeal.Run
public import proofs.«01_k».proof.Proof.Gen.StepSmallRIdeal.Read
public import proofs.«01_k».proof.Proof.StepSmallClaim
public import proofs.«01_k».proof.Proof.Gen.StepRepl.Frame
public import proofs.«01_k».proof.Proof.Gen.StepReplIdeal.Frame
public import proofs.«01_k».proof.Proof.Gen.StepReplIdeal.Value
public import proofs.«01_k».proof.Proof.Gen.StepReplRIdeal.Run
public import proofs.«01_k».proof.Proof.Gen.StepReplRIdeal.Read
public import proofs.«01_k».proof.Proof.StepReplClaim
public import Idealize.ShloMosaic.Adequacy
public import Idealize.ShloMosaic.Init

@[expose] public section

noncomputable section

namespace Cert.Proof

open Idealize.ShloMosaic Idealize.SL.Sem

theorem claim : Cert.Claim := ⟨Cert.DownDx.Gen.facts, Cert.DownDxIdeal.Gen.facts, Cert.DownDxRIdeal.Gen.facts, Cert.OutDx.Gen.facts, Cert.OutDxIdeal.Gen.facts, Cert.OutDxRIdeal.Gen.facts, Cert.UpDx.Gen.facts, Cert.UpDxIdeal.Gen.facts, Cert.UpDxRIdeal.Gen.facts, Cert.InDx.Gen.facts, Cert.InDxIdeal.Gen.facts, Cert.InDxRIdeal.Gen.facts, Cert.DownDw.Gen.facts, Cert.DownDwIdeal.Gen.facts, Cert.DownDwRIdeal.Gen.facts, Cert.UpDw.Gen.facts, Cert.UpDwIdeal.Gen.facts, Cert.UpDwRIdeal.Gen.facts, Cert.OutDw.Gen.facts, Cert.OutDwIdeal.Gen.facts, Cert.OutDwRIdeal.Gen.facts, Cert.InDw.Gen.facts, Cert.InDwIdeal.Gen.facts, Cert.InDwRIdeal.Gen.facts, Cert.OutProj.Gen.facts, Cert.OutProjIdeal.Gen.facts, Cert.OutProjRIdeal.Gen.facts, Cert.DownProj.Gen.facts, Cert.DownProjIdeal.Gen.facts, Cert.DownProjRIdeal.Gen.facts, Cert.DownLoss.Gen.facts, Cert.DownLossIdeal.Gen.facts, Cert.DownLossRIdeal.Gen.facts, Cert.Gate.Gen.facts, Cert.GateIdeal.Gen.facts, Cert.GateRIdeal.Gen.facts, Cert.InProj.Gen.facts, Cert.InProjIdeal.Gen.facts, Cert.InProjRIdeal.Gen.facts, Cert.UpProj.Gen.facts, Cert.UpProjIdeal.Gen.facts, Cert.UpProjRIdeal.Gen.facts, Cert.ConvBwd.Gen.facts, Cert.ConvBwdIdeal.Gen.facts, Cert.ConvBwdRIdeal.Gen.facts,
  Cert.AdamwIn.Gen.facts, Cert.AdamwInIdeal.Gen.facts, Cert.AdamwInRIdeal.Gen.facts,
  Cert.AdamwUp.Gen.facts, Cert.AdamwUpIdeal.Gen.facts, Cert.AdamwUpRIdeal.Gen.facts,
  Cert.AdamwOut.Gen.facts, Cert.AdamwOutIdeal.Gen.facts, Cert.AdamwOutRIdeal.Gen.facts,
  Cert.AdamwDown.Gen.facts, Cert.AdamwDownIdeal.Gen.facts, Cert.AdamwDownRIdeal.Gen.facts,
  Cert.AdamwSmall.Gen.facts, Cert.AdamwSmallIdeal.Gen.facts, Cert.AdamwSmallRIdeal.Gen.facts,
  Cert.AdamwRepl.Gen.facts, Cert.AdamwReplIdeal.Gen.facts, Cert.AdamwReplRIdeal.Gen.facts,
  Cert.StepSmall.Gen.facts, Cert.StepSmallIdeal.Gen.facts, Cert.StepSmallRIdeal.Gen.facts,
  Cert.StepRepl.Gen.facts, Cert.StepReplIdeal.Gen.facts, Cert.StepReplRIdeal.Gen.facts,
  Cert.Pre_finite.Gen.facts,
  fun m ρ _ => Cert.DownDx.Gen.frame m ρ, fun m ρ _ => Cert.DownDxIdeal.Gen.frame m ρ, Cert.DownDxClaim.frameRef,
  fun m ρ _ => Cert.OutDx.Gen.frame m ρ, fun m ρ _ => Cert.OutDxIdeal.Gen.frame m ρ, Cert.OutDxClaim.frameRef,
  fun m ρ _ => Cert.UpDx.Gen.frame m ρ, fun m ρ _ => Cert.UpDxIdeal.Gen.frame m ρ, Cert.UpDxClaim.frameRef,
  fun m ρ _ => Cert.InDx.Gen.frame m ρ, fun m ρ _ => Cert.InDxIdeal.Gen.frame m ρ, Cert.InDxClaim.frameRef,
  fun m ρ _ => Cert.DownDw.Gen.frame m ρ, fun m ρ _ => Cert.DownDwIdeal.Gen.frame m ρ, Cert.DownDwClaim.frameRef,
  fun m ρ _ => Cert.UpDw.Gen.frame m ρ, fun m ρ _ => Cert.UpDwIdeal.Gen.frame m ρ, Cert.UpDwClaim.frameRef,
  fun m ρ _ => Cert.OutDw.Gen.frame m ρ, fun m ρ _ => Cert.OutDwIdeal.Gen.frame m ρ, Cert.OutDwClaim.frameRef,
  fun m ρ _ => Cert.InDw.Gen.frame m ρ, fun m ρ _ => Cert.InDwIdeal.Gen.frame m ρ, Cert.InDwClaim.frameRef,
  fun m ρ _ => Cert.OutProj.Gen.frame m ρ, fun m ρ _ => Cert.OutProjIdeal.Gen.frame m ρ, Cert.OutProjClaim.frameRef,
  fun m ρ _ => Cert.DownProj.Gen.frame m ρ, fun m ρ _ => Cert.DownProjIdeal.Gen.frame m ρ, Cert.DownProjClaim.frameRef,
  fun m ρ _ => Cert.DownLoss.Gen.frame m ρ, fun m ρ _ => Cert.DownLossIdeal.Gen.frame m ρ, Cert.DownLossClaim.frameRef,
  fun m ρ _ => Cert.Gate.Gen.frame m ρ, fun m ρ _ => Cert.GateIdeal.Gen.frame m ρ, Cert.GateClaim.frameRef,
  Cert.InProjClaim.frame, Cert.InProjClaim.frameIdeal, Cert.InProjClaim.frameRef,
  Cert.UpProjClaim.frame, Cert.UpProjClaim.frameIdeal, Cert.UpProjClaim.frameRef,
  Cert.ConvBwdClaim.frame, Cert.ConvBwdClaim.frameIdeal, fun m ρ _ => Cert.ConvBwdClaim.frameIdeal m ρ trivial,
  Cert.ConvBwdClaim.frameRef, fun m ρ _ => Cert.ConvBwdClaim.frameRef m ρ trivial,
  fun m ρ _ => Cert.AdamwIn.Gen.frame m ρ, fun m ρ _ => Cert.AdamwInIdeal.Gen.frame m ρ, Cert.AdamwInClaim.frameRef,
  fun m ρ _ => Cert.AdamwUp.Gen.frame m ρ, fun m ρ _ => Cert.AdamwUpIdeal.Gen.frame m ρ, Cert.AdamwUpClaim.frameRef,
  fun m ρ _ => Cert.AdamwOut.Gen.frame m ρ, fun m ρ _ => Cert.AdamwOutIdeal.Gen.frame m ρ, Cert.AdamwOutClaim.frameRef,
  fun m ρ _ => Cert.AdamwDown.Gen.frame m ρ, fun m ρ _ => Cert.AdamwDownIdeal.Gen.frame m ρ, Cert.AdamwDownClaim.frameRef,
  fun m ρ _ => Cert.AdamwSmall.Gen.frame m ρ, fun m ρ _ => Cert.AdamwSmallIdeal.Gen.frame m ρ, Cert.AdamwSmallClaim.frameRef,
  fun m ρ _ => Cert.AdamwRepl.Gen.frame m ρ, fun m ρ _ => Cert.AdamwReplIdeal.Gen.frame m ρ, Cert.AdamwReplClaim.frameRef,
  fun m ρ _ => Cert.StepSmall.Gen.frame m ρ, fun m ρ _ => Cert.StepSmallIdeal.Gen.frame m ρ, Cert.StepSmallClaim.frameRef,
  fun m ρ _ => Cert.StepRepl.Gen.frame m ρ, fun m ρ _ => Cert.StepReplIdeal.Gen.frame m ρ, Cert.StepReplClaim.frameRef,
  trivial, Cert.DownDxClaim.algebraic,
  trivial, Cert.OutDxClaim.algebraic,
  trivial, Cert.UpDxClaim.algebraic,
  trivial, Cert.InDxClaim.algebraic,
  trivial, Cert.DownDwClaim.algebraic,
  trivial, Cert.UpDwClaim.algebraic,
  trivial, Cert.OutDwClaim.algebraic,
  trivial, Cert.InDwClaim.algebraic,
  trivial, Cert.OutProjClaim.algebraic,
  trivial, Cert.DownProjClaim.algebraic,
  trivial, Cert.DownLossClaim.algebraic,
  Cert.GateClaim.preserves, Cert.GateClaim.algebraic,
  trivial, Cert.InProjClaim.algebraic,
  trivial, Cert.UpProjClaim.algebraic,
  Cert.ConvBwdClaim.preserves, Cert.ConvBwdClaim.algebraic,
  trivial, Cert.AdamwInClaim.algebraic,
  trivial, Cert.AdamwUpClaim.algebraic,
  trivial, Cert.AdamwOutClaim.algebraic,
  trivial, Cert.AdamwDownClaim.algebraic,
  trivial, Cert.AdamwSmallClaim.algebraic,
  trivial, Cert.AdamwReplClaim.algebraic,
  trivial, Cert.StepSmallClaim.algebraic,
  trivial, Cert.StepReplClaim.algebraic⟩

end Cert.Proof

end
